-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13)
      ∧ r.2.mem ((c.tc : Thread Cert.Kernel6.nD Cert.Kernel6.τ).loc Cert.Kernel6.main_arg14) = m ((c.tc : Thread Cert.Kernel6.nD Cert.Kernel6.τ).loc Cert.Kernel6.main_arg14)
      ∧ r.2.mem ((c.tc : Thread Cert.Kernel6.nD Cert.Kernel6.τ).loc Cert.Kernel6.main_arg15) = m ((c.tc : Thread Cert.Kernel6.nD Cert.Kernel6.τ).loc Cert.Kernel6.main_arg15)
      ∧ r.2.mem ((c.tc : Thread Cert.Kernel6.nD Cert.Kernel6.τ).loc Cert.Kernel6.main_arg16) = m ((c.tc : Thread Cert.Kernel6.nD Cert.Kernel6.τ).loc Cert.Kernel6.main_arg16)
      ∧ r.2.mem ((c.tc : Thread Cert.Kernel6.nD Cert.Kernel6.τ).loc Cert.Kernel6.main_arg17) = m ((c.tc : Thread Cert.Kernel6.nD Cert.Kernel6.τ).loc Cert.Kernel6.main_arg17)
      ∧ r.2.mem ((c.tc : Thread Cert.Kernel6.nD Cert.Kernel6.τ).loc Cert.Kernel6.main_arg18) = m ((c.tc : Thread Cert.Kernel6.nD Cert.Kernel6.τ).loc Cert.Kernel6.main_arg18)
      ∧ r.2.mem ((c.tc : Thread Cert.Kernel6.nD Cert.Kernel6.τ).loc Cert.Kernel6.main_arg19) = m ((c.tc : Thread Cert.Kernel6.nD Cert.Kernel6.τ).loc Cert.Kernel6.main_arg19)
      ∧ r.2.mem ((c.tc : Thread Cert.Kernel6.nD Cert.Kernel6.τ).loc Cert.Kernel6.main_arg20) = m ((c.tc : Thread Cert.Kernel6.nD Cert.Kernel6.τ).loc Cert.Kernel6.main_arg20)
      ∧ r.2.mem ((c.tc : Thread Cert.Kernel6.nD Cert.Kernel6.τ).loc Cert.Kernel6.main_arg21) = m ((c.tc : Thread Cert.Kernel6.nD Cert.Kernel6.τ).loc Cert.Kernel6.main_arg21)
      ∧ r.2.mem ((c.tc : Thread Cert.Kernel6.nD Cert.Kernel6.τ).loc Cert.Kernel6.main_arg22) = m ((c.tc : Thread Cert.Kernel6.nD Cert.Kernel6.τ).loc Cert.Kernel6.main_arg22)
      ∧ r.2.mem ((c.tc : Thread Cert.Kernel6.nD Cert.Kernel6.τ).loc Cert.Kernel6.main_arg23) = m ((c.tc : Thread Cert.Kernel6.nD Cert.Kernel6.τ).loc Cert.Kernel6.main_arg23))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
      ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
      ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
      ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
      ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
      ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
      ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
      ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
      ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
      ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
      ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13)
      ∧ r.2.mem ((c.tc : Thread Cert.Reference6Ideal.nD Cert.Reference6Ideal.τ).loc Cert.Reference6Ideal.main_arg14) = m ((c.tc : Thread Cert.Reference6Ideal.nD Cert.Reference6Ideal.τ).loc Cert.Reference6Ideal.main_arg14)
      ∧ r.2.mem ((c.tc : Thread Cert.Reference6Ideal.nD Cert.Reference6Ideal.τ).loc Cert.Reference6Ideal.main_arg15) = m ((c.tc : Thread Cert.Reference6Ideal.nD Cert.Reference6Ideal.τ).loc Cert.Reference6Ideal.main_arg15)
      ∧ r.2.mem ((c.tc : Thread Cert.Reference6Ideal.nD Cert.Reference6Ideal.τ).loc Cert.Reference6Ideal.main_arg16) = m ((c.tc : Thread Cert.Reference6Ideal.nD Cert.Reference6Ideal.τ).loc Cert.Reference6Ideal.main_arg16)
      ∧ r.2.mem ((c.tc : Thread Cert.Reference6Ideal.nD Cert.Reference6Ideal.τ).loc Cert.Reference6Ideal.main_arg17) = m ((c.tc : Thread Cert.Reference6Ideal.nD Cert.Reference6Ideal.τ).loc Cert.Reference6Ideal.main_arg17)
      ∧ r.2.mem ((c.tc : Thread Cert.Reference6Ideal.nD Cert.Reference6Ideal.τ).loc Cert.Reference6Ideal.main_arg18) = m ((c.tc : Thread Cert.Reference6Ideal.nD Cert.Reference6Ideal.τ).loc Cert.Reference6Ideal.main_arg18)
      ∧ r.2.mem ((c.tc : Thread Cert.Reference6Ideal.nD Cert.Reference6Ideal.τ).loc Cert.Reference6Ideal.main_arg19) = m ((c.tc : Thread Cert.Reference6Ideal.nD Cert.Reference6Ideal.τ).loc Cert.Reference6Ideal.main_arg19)
      ∧ r.2.mem ((c.tc : Thread Cert.Reference6Ideal.nD Cert.Reference6Ideal.τ).loc Cert.Reference6Ideal.main_arg20) = m ((c.tc : Thread Cert.Reference6Ideal.nD Cert.Reference6Ideal.τ).loc Cert.Reference6Ideal.main_arg20)
      ∧ r.2.mem ((c.tc : Thread Cert.Reference6Ideal.nD Cert.Reference6Ideal.τ).loc Cert.Reference6Ideal.main_arg21) = m ((c.tc : Thread Cert.Reference6Ideal.nD Cert.Reference6Ideal.τ).loc Cert.Reference6Ideal.main_arg21)
      ∧ r.2.mem ((c.tc : Thread Cert.Reference6Ideal.nD Cert.Reference6Ideal.τ).loc Cert.Reference6Ideal.main_arg22) = m ((c.tc : Thread Cert.Reference6Ideal.nD Cert.Reference6Ideal.τ).loc Cert.Reference6Ideal.main_arg22)
      ∧ r.2.mem ((c.tc : Thread Cert.Reference6Ideal.nD Cert.Reference6Ideal.τ).loc Cert.Reference6Ideal.main_arg23) = m ((c.tc : Thread Cert.Reference6Ideal.nD Cert.Reference6Ideal.τ).loc Cert.Reference6Ideal.main_arg23))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17)
      ∧ r.2.mem ((c.tc : Thread Cert.Kernel8.nD Cert.Kernel8.τ).loc Cert.Kernel8.main_arg18) = m ((c.tc : Thread Cert.Kernel8.nD Cert.Kernel8.τ).loc Cert.Kernel8.main_arg18)
      ∧ r.2.mem ((c.tc : Thread Cert.Kernel8.nD Cert.Kernel8.τ).loc Cert.Kernel8.main_arg19) = m ((c.tc : Thread Cert.Kernel8.nD Cert.Kernel8.τ).loc Cert.Kernel8.main_arg19)
      ∧ r.2.mem ((c.tc : Thread Cert.Kernel8.nD Cert.Kernel8.τ).loc Cert.Kernel8.main_arg20) = m ((c.tc : Thread Cert.Kernel8.nD Cert.Kernel8.τ).loc Cert.Kernel8.main_arg20)
      ∧ r.2.mem ((c.tc : Thread Cert.Kernel8.nD Cert.Kernel8.τ).loc Cert.Kernel8.main_arg21) = m ((c.tc : Thread Cert.Kernel8.nD Cert.Kernel8.τ).loc Cert.Kernel8.main_arg21)
      ∧ r.2.mem ((c.tc : Thread Cert.Kernel8.nD Cert.Kernel8.τ).loc Cert.Kernel8.main_arg22) = m ((c.tc : Thread Cert.Kernel8.nD Cert.Kernel8.τ).loc Cert.Kernel8.main_arg22)
      ∧ r.2.mem ((c.tc : Thread Cert.Kernel8.nD Cert.Kernel8.τ).loc Cert.Kernel8.main_arg23) = m ((c.tc : Thread Cert.Kernel8.nD Cert.Kernel8.τ).loc Cert.Kernel8.main_arg23))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
      ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
      ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
      ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
      ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19)
      ∧ r.2.mem ((c.tc : Thread Cert.Reference8Ideal.nD Cert.Reference8Ideal.τ).loc Cert.Reference8Ideal.main_arg20) = m ((c.tc : Thread Cert.Reference8Ideal.nD Cert.Reference8Ideal.τ).loc Cert.Reference8Ideal.main_arg20)
      ∧ r.2.mem ((c.tc : Thread Cert.Reference8Ideal.nD Cert.Reference8Ideal.τ).loc Cert.Reference8Ideal.main_arg21) = m ((c.tc : Thread Cert.Reference8Ideal.nD Cert.Reference8Ideal.τ).loc Cert.Reference8Ideal.main_arg21)
      ∧ r.2.mem ((c.tc : Thread Cert.Reference8Ideal.nD Cert.Reference8Ideal.τ).loc Cert.Reference8Ideal.main_arg22) = m ((c.tc : Thread Cert.Reference8Ideal.nD Cert.Reference8Ideal.τ).loc Cert.Reference8Ideal.main_arg22)
      ∧ r.2.mem ((c.tc : Thread Cert.Reference8Ideal.nD Cert.Reference8Ideal.τ).loc Cert.Reference8Ideal.main_arg23) = m ((c.tc : Thread Cert.Reference8Ideal.nD Cert.Reference8Ideal.τ).loc Cert.Reference8Ideal.main_arg23))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v58)) (v3 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v58) = v2 c
          ∧ r.2.mem ((c.tc : Thread Cert.KernelIdeal.nD Cert.KernelIdeal.τ).loc Cert.KernelIdeal.main_v61) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v57) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v16_0)) (v2 : (c : Dev Cert.Kernel2Ideal.nD) → Buf (Elt Ideal) ((c.tc : Thread Cert.Kernel2Ideal.nD Cert.Kernel2Ideal.τ).loc Cert.Kernel2Ideal.main_v21)) (v3 : (c : Dev Cert.Kernel2Ideal.nD) → Buf (Elt Ideal) ((c.tc : Thread Cert.Kernel2Ideal.nD Cert.Kernel2Ideal.τ).loc Cert.Kernel2Ideal.main_v23)) (v4 : (c : Dev Cert.Kernel2Ideal.nD) → Buf (Elt Ideal) ((c.tc : Thread Cert.Kernel2Ideal.nD Cert.Kernel2Ideal.τ).loc Cert.Kernel2Ideal.main_v25)) (v5 : (c : Dev Cert.Kernel2Ideal.nD) → Buf (Elt Ideal) ((c.tc : Thread Cert.Kernel2Ideal.nD Cert.Kernel2Ideal.τ).loc Cert.Kernel2Ideal.main_v27)) (v6 : (c : Dev Cert.Kernel2Ideal.nD) → Buf (Elt Ideal) ((c.tc : Thread Cert.Kernel2Ideal.nD Cert.Kernel2Ideal.τ).loc Cert.Kernel2Ideal.main_v29)) (v7 : (c : Dev Cert.Kernel2Ideal.nD) → Buf (Elt Ideal) ((c.tc : Thread Cert.Kernel2Ideal.nD Cert.Kernel2Ideal.τ).loc Cert.Kernel2Ideal.main_v31)) (v8 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v16_0) = v1 c
          ∧ r.2.mem ((c.tc : Thread Cert.Kernel2Ideal.nD Cert.Kernel2Ideal.τ).loc Cert.Kernel2Ideal.main_v21) = v2 c
          ∧ r.2.mem ((c.tc : Thread Cert.Kernel2Ideal.nD Cert.Kernel2Ideal.τ).loc Cert.Kernel2Ideal.main_v23) = v3 c
          ∧ r.2.mem ((c.tc : Thread Cert.Kernel2Ideal.nD Cert.Kernel2Ideal.τ).loc Cert.Kernel2Ideal.main_v25) = v4 c
          ∧ r.2.mem ((c.tc : Thread Cert.Kernel2Ideal.nD Cert.Kernel2Ideal.τ).loc Cert.Kernel2Ideal.main_v27) = v5 c
          ∧ r.2.mem ((c.tc : Thread Cert.Kernel2Ideal.nD Cert.Kernel2Ideal.τ).loc Cert.Kernel2Ideal.main_v29) = v6 c
          ∧ r.2.mem ((c.tc : Thread Cert.Kernel2Ideal.nD Cert.Kernel2Ideal.τ).loc Cert.Kernel2Ideal.main_v31) = v7 c
          ∧ r.2.mem ((c.tc : Thread Cert.Kernel2Ideal.nD Cert.Kernel2Ideal.τ).loc Cert.Kernel2Ideal.main_v19) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_v122) = v1 c
          ∧ r.2.mem ((c.tc : Thread Cert.Reference2Ideal.nD Cert.Reference2Ideal.τ).loc Cert.Reference2Ideal.main_v95) = v2 c
          ∧ r.2.mem ((c.tc : Thread Cert.Reference2Ideal.nD Cert.Reference2Ideal.τ).loc Cert.Reference2Ideal.main_v101) = v3 c
          ∧ r.2.mem ((c.tc : Thread Cert.Reference2Ideal.nD Cert.Reference2Ideal.τ).loc Cert.Reference2Ideal.main_v82) = v4 c
          ∧ r.2.mem ((c.tc : Thread Cert.Reference2Ideal.nD Cert.Reference2Ideal.τ).loc Cert.Reference2Ideal.main_v107) = v5 c
          ∧ r.2.mem ((c.tc : Thread Cert.Reference2Ideal.nD Cert.Reference2Ideal.τ).loc Cert.Reference2Ideal.main_v66) = v6 c
          ∧ r.2.mem ((c.tc : Thread Cert.Reference2Ideal.nD Cert.Reference2Ideal.τ).loc Cert.Reference2Ideal.main_v91) = v7 c
          ∧ r.2.mem ((c.tc : Thread Cert.Reference2Ideal.nD Cert.Reference2Ideal.τ).loc Cert.Reference2Ideal.main_v84) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v28)) (v1 : (c : Dev Cert.Kernel3Ideal.nD) → Buf (Elt Ideal) ((c.tc : Thread Cert.Kernel3Ideal.nD Cert.Kernel3Ideal.τ).loc Cert.Kernel3Ideal.main_v29)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v28) = v0 c
          ∧ r.2.mem ((c.tc : Thread Cert.Kernel3Ideal.nD Cert.Kernel3Ideal.τ).loc Cert.Kernel3Ideal.main_v29) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v24) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v15)) (v1 : (c : Dev Cert.Kernel4Ideal.nD) → Buf (Elt Ideal) ((c.tc : Thread Cert.Kernel4Ideal.nD Cert.Kernel4Ideal.τ).loc Cert.Kernel4Ideal.main_v14_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_v14_0) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v56) = v0 c
          ∧ r.2.mem ((c.tc : Thread Cert.Reference4Ideal.nD Cert.Reference4Ideal.τ).loc Cert.Reference4Ideal.main_v62) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)
      ∧ m' ((c.tc : Thread Cert.Reference6Ideal.nD Cert.Reference6Ideal.τ).loc Cert.Reference6Ideal.main_arg14) = m ((c.tc : Thread Cert.Kernel6Ideal.nD Cert.Kernel6Ideal.τ).loc Cert.Kernel6Ideal.main_arg14)
      ∧ m' ((c.tc : Thread Cert.Reference6Ideal.nD Cert.Reference6Ideal.τ).loc Cert.Reference6Ideal.main_arg15) = m ((c.tc : Thread Cert.Kernel6Ideal.nD Cert.Kernel6Ideal.τ).loc Cert.Kernel6Ideal.main_arg15)
      ∧ m' ((c.tc : Thread Cert.Reference6Ideal.nD Cert.Reference6Ideal.τ).loc Cert.Reference6Ideal.main_arg16) = m ((c.tc : Thread Cert.Kernel6Ideal.nD Cert.Kernel6Ideal.τ).loc Cert.Kernel6Ideal.main_arg16)
      ∧ m' ((c.tc : Thread Cert.Reference6Ideal.nD Cert.Reference6Ideal.τ).loc Cert.Reference6Ideal.main_arg17) = m ((c.tc : Thread Cert.Kernel6Ideal.nD Cert.Kernel6Ideal.τ).loc Cert.Kernel6Ideal.main_arg17)
      ∧ m' ((c.tc : Thread Cert.Reference6Ideal.nD Cert.Reference6Ideal.τ).loc Cert.Reference6Ideal.main_arg18) = m ((c.tc : Thread Cert.Kernel6Ideal.nD Cert.Kernel6Ideal.τ).loc Cert.Kernel6Ideal.main_arg18)
      ∧ m' ((c.tc : Thread Cert.Reference6Ideal.nD Cert.Reference6Ideal.τ).loc Cert.Reference6Ideal.main_arg19) = m ((c.tc : Thread Cert.Kernel6Ideal.nD Cert.Kernel6Ideal.τ).loc Cert.Kernel6Ideal.main_arg19)
      ∧ m' ((c.tc : Thread Cert.Reference6Ideal.nD Cert.Reference6Ideal.τ).loc Cert.Reference6Ideal.main_arg20) = m ((c.tc : Thread Cert.Kernel6Ideal.nD Cert.Kernel6Ideal.τ).loc Cert.Kernel6Ideal.main_arg20)
      ∧ m' ((c.tc : Thread Cert.Reference6Ideal.nD Cert.Reference6Ideal.τ).loc Cert.Reference6Ideal.main_arg21) = m ((c.tc : Thread Cert.Kernel6Ideal.nD Cert.Kernel6Ideal.τ).loc Cert.Kernel6Ideal.main_arg21)
      ∧ m' ((c.tc : Thread Cert.Reference6Ideal.nD Cert.Reference6Ideal.τ).loc Cert.Reference6Ideal.main_arg22) = m ((c.tc : Thread Cert.Kernel6Ideal.nD Cert.Kernel6Ideal.τ).loc Cert.Kernel6Ideal.main_arg22)
      ∧ m' ((c.tc : Thread Cert.Reference6Ideal.nD Cert.Reference6Ideal.τ).loc Cert.Reference6Ideal.main_arg23) = m ((c.tc : Thread Cert.Kernel6Ideal.nD Cert.Kernel6Ideal.τ).loc Cert.Kernel6Ideal.main_arg23)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v1_0)) (v10 : (c : Dev Cert.Kernel6Ideal.nD) → Buf (Elt Ideal) ((c.tc : Thread Cert.Kernel6Ideal.nD Cert.Kernel6Ideal.τ).loc Cert.Kernel6Ideal.main_v1_1)) (v11 : (c : Dev Cert.Kernel6Ideal.nD) → Buf (Elt Ideal) ((c.tc : Thread Cert.Kernel6Ideal.nD Cert.Kernel6Ideal.τ).loc Cert.Kernel6Ideal.main_v1_2)) (v12 : (c : Dev Cert.Kernel6Ideal.nD) → Buf (Elt Ideal) ((c.tc : Thread Cert.Kernel6Ideal.nD Cert.Kernel6Ideal.τ).loc Cert.Kernel6Ideal.main_v1_3)) (v13 : (c : Dev Cert.Kernel6Ideal.nD) → Buf (Elt Ideal) ((c.tc : Thread Cert.Kernel6Ideal.nD Cert.Kernel6Ideal.τ).loc Cert.Kernel6Ideal.main_v1_4)) (v14 : (c : Dev Cert.Kernel6Ideal.nD) → Buf (Elt Ideal) ((c.tc : Thread Cert.Kernel6Ideal.nD Cert.Kernel6Ideal.τ).loc Cert.Kernel6Ideal.main_v1_5)) (v15 : (c : Dev Cert.Kernel6Ideal.nD) → Buf (Elt Ideal) ((c.tc : Thread Cert.Kernel6Ideal.nD Cert.Kernel6Ideal.τ).loc Cert.Kernel6Ideal.main_v2_0)) (v16 : (c : Dev Cert.Kernel6Ideal.nD) → Buf (Elt Ideal) ((c.tc : Thread Cert.Kernel6Ideal.nD Cert.Kernel6Ideal.τ).loc Cert.Kernel6Ideal.main_v2_1)) (v17 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v1_0) = v9 c
          ∧ r.2.mem ((c.tc : Thread Cert.Kernel6Ideal.nD Cert.Kernel6Ideal.τ).loc Cert.Kernel6Ideal.main_v1_1) = v10 c
          ∧ r.2.mem ((c.tc : Thread Cert.Kernel6Ideal.nD Cert.Kernel6Ideal.τ).loc Cert.Kernel6Ideal.main_v1_2) = v11 c
          ∧ r.2.mem ((c.tc : Thread Cert.Kernel6Ideal.nD Cert.Kernel6Ideal.τ).loc Cert.Kernel6Ideal.main_v1_3) = v12 c
          ∧ r.2.mem ((c.tc : Thread Cert.Kernel6Ideal.nD Cert.Kernel6Ideal.τ).loc Cert.Kernel6Ideal.main_v1_4) = v13 c
          ∧ r.2.mem ((c.tc : Thread Cert.Kernel6Ideal.nD Cert.Kernel6Ideal.τ).loc Cert.Kernel6Ideal.main_v1_5) = v14 c
          ∧ r.2.mem ((c.tc : Thread Cert.Kernel6Ideal.nD Cert.Kernel6Ideal.τ).loc Cert.Kernel6Ideal.main_v2_0) = v15 c
          ∧ r.2.mem ((c.tc : Thread Cert.Kernel6Ideal.nD Cert.Kernel6Ideal.τ).loc Cert.Kernel6Ideal.main_v2_1) = v16 c
          ∧ r.2.mem ((c.tc : Thread Cert.Kernel6Ideal.nD Cert.Kernel6Ideal.τ).loc Cert.Kernel6Ideal.main_v2_2) = v17 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13)
          ∧ r.2.mem ((c.tc : Thread Cert.Kernel6Ideal.nD Cert.Kernel6Ideal.τ).loc Cert.Kernel6Ideal.main_arg14) = m ((c.tc : Thread Cert.Kernel6Ideal.nD Cert.Kernel6Ideal.τ).loc Cert.Kernel6Ideal.main_arg14)
          ∧ r.2.mem ((c.tc : Thread Cert.Kernel6Ideal.nD Cert.Kernel6Ideal.τ).loc Cert.Kernel6Ideal.main_arg15) = m ((c.tc : Thread Cert.Kernel6Ideal.nD Cert.Kernel6Ideal.τ).loc Cert.Kernel6Ideal.main_arg15)
          ∧ r.2.mem ((c.tc : Thread Cert.Kernel6Ideal.nD Cert.Kernel6Ideal.τ).loc Cert.Kernel6Ideal.main_arg16) = m ((c.tc : Thread Cert.Kernel6Ideal.nD Cert.Kernel6Ideal.τ).loc Cert.Kernel6Ideal.main_arg16)
          ∧ r.2.mem ((c.tc : Thread Cert.Kernel6Ideal.nD Cert.Kernel6Ideal.τ).loc Cert.Kernel6Ideal.main_arg17) = m ((c.tc : Thread Cert.Kernel6Ideal.nD Cert.Kernel6Ideal.τ).loc Cert.Kernel6Ideal.main_arg17)
          ∧ r.2.mem ((c.tc : Thread Cert.Kernel6Ideal.nD Cert.Kernel6Ideal.τ).loc Cert.Kernel6Ideal.main_arg18) = m ((c.tc : Thread Cert.Kernel6Ideal.nD Cert.Kernel6Ideal.τ).loc Cert.Kernel6Ideal.main_arg18)
          ∧ r.2.mem ((c.tc : Thread Cert.Kernel6Ideal.nD Cert.Kernel6Ideal.τ).loc Cert.Kernel6Ideal.main_arg19) = m ((c.tc : Thread Cert.Kernel6Ideal.nD Cert.Kernel6Ideal.τ).loc Cert.Kernel6Ideal.main_arg19)
          ∧ r.2.mem ((c.tc : Thread Cert.Kernel6Ideal.nD Cert.Kernel6Ideal.τ).loc Cert.Kernel6Ideal.main_arg20) = m ((c.tc : Thread Cert.Kernel6Ideal.nD Cert.Kernel6Ideal.τ).loc Cert.Kernel6Ideal.main_arg20)
          ∧ r.2.mem ((c.tc : Thread Cert.Kernel6Ideal.nD Cert.Kernel6Ideal.τ).loc Cert.Kernel6Ideal.main_arg21) = m ((c.tc : Thread Cert.Kernel6Ideal.nD Cert.Kernel6Ideal.τ).loc Cert.Kernel6Ideal.main_arg21)
          ∧ r.2.mem ((c.tc : Thread Cert.Kernel6Ideal.nD Cert.Kernel6Ideal.τ).loc Cert.Kernel6Ideal.main_arg22) = m ((c.tc : Thread Cert.Kernel6Ideal.nD Cert.Kernel6Ideal.τ).loc Cert.Kernel6Ideal.main_arg22)
          ∧ r.2.mem ((c.tc : Thread Cert.Kernel6Ideal.nD Cert.Kernel6Ideal.τ).loc Cert.Kernel6Ideal.main_arg23) = m ((c.tc : Thread Cert.Kernel6Ideal.nD Cert.Kernel6Ideal.τ).loc Cert.Kernel6Ideal.main_arg23))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v28) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_v71) = v6 c
          ∧ r.2.mem ((c.tc : Thread Cert.Reference6Ideal.nD Cert.Reference6Ideal.τ).loc Cert.Reference6Ideal.main_v52) = v7 c
          ∧ r.2.mem ((c.tc : Thread Cert.Reference6Ideal.nD Cert.Reference6Ideal.τ).loc Cert.Reference6Ideal.main_v58) = v8 c
          ∧ r.2.mem ((c.tc : Thread Cert.Reference6Ideal.nD Cert.Reference6Ideal.τ).loc Cert.Reference6Ideal.main_v95) = v9 c
          ∧ r.2.mem ((c.tc : Thread Cert.Reference6Ideal.nD Cert.Reference6Ideal.τ).loc Cert.Reference6Ideal.main_v76) = v10 c
          ∧ r.2.mem ((c.tc : Thread Cert.Reference6Ideal.nD Cert.Reference6Ideal.τ).loc Cert.Reference6Ideal.main_v82) = v11 c
          ∧ r.2.mem ((c.tc : Thread Cert.Reference6Ideal.nD Cert.Reference6Ideal.τ).loc Cert.Reference6Ideal.main_v119) = v12 c
          ∧ r.2.mem ((c.tc : Thread Cert.Reference6Ideal.nD Cert.Reference6Ideal.τ).loc Cert.Reference6Ideal.main_v100) = v13 c
          ∧ r.2.mem ((c.tc : Thread Cert.Reference6Ideal.nD Cert.Reference6Ideal.τ).loc Cert.Reference6Ideal.main_v106) = v14 c
          ∧ r.2.mem ((c.tc : Thread Cert.Reference6Ideal.nD Cert.Reference6Ideal.τ).loc Cert.Reference6Ideal.main_v143) = v15 c
          ∧ r.2.mem ((c.tc : Thread Cert.Reference6Ideal.nD Cert.Reference6Ideal.τ).loc Cert.Reference6Ideal.main_v124) = v16 c
          ∧ r.2.mem ((c.tc : Thread Cert.Reference6Ideal.nD Cert.Reference6Ideal.τ).loc Cert.Reference6Ideal.main_v130) = v17 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13)
          ∧ r.2.mem ((c.tc : Thread Cert.Reference6Ideal.nD Cert.Reference6Ideal.τ).loc Cert.Reference6Ideal.main_arg14) = m' ((c.tc : Thread Cert.Reference6Ideal.nD Cert.Reference6Ideal.τ).loc Cert.Reference6Ideal.main_arg14)
          ∧ r.2.mem ((c.tc : Thread Cert.Reference6Ideal.nD Cert.Reference6Ideal.τ).loc Cert.Reference6Ideal.main_arg15) = m' ((c.tc : Thread Cert.Reference6Ideal.nD Cert.Reference6Ideal.τ).loc Cert.Reference6Ideal.main_arg15)
          ∧ r.2.mem ((c.tc : Thread Cert.Reference6Ideal.nD Cert.Reference6Ideal.τ).loc Cert.Reference6Ideal.main_arg16) = m' ((c.tc : Thread Cert.Reference6Ideal.nD Cert.Reference6Ideal.τ).loc Cert.Reference6Ideal.main_arg16)
          ∧ r.2.mem ((c.tc : Thread Cert.Reference6Ideal.nD Cert.Reference6Ideal.τ).loc Cert.Reference6Ideal.main_arg17) = m' ((c.tc : Thread Cert.Reference6Ideal.nD Cert.Reference6Ideal.τ).loc Cert.Reference6Ideal.main_arg17)
          ∧ r.2.mem ((c.tc : Thread Cert.Reference6Ideal.nD Cert.Reference6Ideal.τ).loc Cert.Reference6Ideal.main_arg18) = m' ((c.tc : Thread Cert.Reference6Ideal.nD Cert.Reference6Ideal.τ).loc Cert.Reference6Ideal.main_arg18)
          ∧ r.2.mem ((c.tc : Thread Cert.Reference6Ideal.nD Cert.Reference6Ideal.τ).loc Cert.Reference6Ideal.main_arg19) = m' ((c.tc : Thread Cert.Reference6Ideal.nD Cert.Reference6Ideal.τ).loc Cert.Reference6Ideal.main_arg19)
          ∧ r.2.mem ((c.tc : Thread Cert.Reference6Ideal.nD Cert.Reference6Ideal.τ).loc Cert.Reference6Ideal.main_arg20) = m' ((c.tc : Thread Cert.Reference6Ideal.nD Cert.Reference6Ideal.τ).loc Cert.Reference6Ideal.main_arg20)
          ∧ r.2.mem ((c.tc : Thread Cert.Reference6Ideal.nD Cert.Reference6Ideal.τ).loc Cert.Reference6Ideal.main_arg21) = m' ((c.tc : Thread Cert.Reference6Ideal.nD Cert.Reference6Ideal.τ).loc Cert.Reference6Ideal.main_arg21)
          ∧ r.2.mem ((c.tc : Thread Cert.Reference6Ideal.nD Cert.Reference6Ideal.τ).loc Cert.Reference6Ideal.main_arg22) = m' ((c.tc : Thread Cert.Reference6Ideal.nD Cert.Reference6Ideal.τ).loc Cert.Reference6Ideal.main_arg22)
          ∧ r.2.mem ((c.tc : Thread Cert.Reference6Ideal.nD Cert.Reference6Ideal.τ).loc Cert.Reference6Ideal.main_arg23) = m' ((c.tc : Thread Cert.Reference6Ideal.nD Cert.Reference6Ideal.τ).loc Cert.Reference6Ideal.main_arg23))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v27_0)) (v1 : (c : Dev Cert.Kernel7Ideal.nD) → Buf (Elt Ideal) ((c.tc : Thread Cert.Kernel7Ideal.nD Cert.Kernel7Ideal.τ).loc Cert.Kernel7Ideal.main_v27_1)) (v2 : (c : Dev Cert.Kernel7Ideal.nD) → Buf (Elt Ideal) ((c.tc : Thread Cert.Kernel7Ideal.nD Cert.Kernel7Ideal.τ).loc Cert.Kernel7Ideal.main_v28)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v27_0) = v0 c
          ∧ r.2.mem ((c.tc : Thread Cert.Kernel7Ideal.nD Cert.Kernel7Ideal.τ).loc Cert.Kernel7Ideal.main_v27_1) = v1 c
          ∧ r.2.mem ((c.tc : Thread Cert.Kernel7Ideal.nD Cert.Kernel7Ideal.τ).loc Cert.Kernel7Ideal.main_v28) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v22) = v0 c
          ∧ r.2.mem ((c.tc : Thread Cert.Reference7Ideal.nD Cert.Reference7Ideal.τ).loc Cert.Reference7Ideal.main_v3) = v1 c
          ∧ r.2.mem ((c.tc : Thread Cert.Reference7Ideal.nD Cert.Reference7Ideal.τ).loc Cert.Reference7Ideal.main_v2) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)
      ∧ m' ((c.tc : Thread Cert.Reference8Ideal.nD Cert.Reference8Ideal.τ).loc Cert.Reference8Ideal.main_arg18) = m ((c.tc : Thread Cert.Kernel8Ideal.nD Cert.Kernel8Ideal.τ).loc Cert.Kernel8Ideal.main_arg18)
      ∧ m' ((c.tc : Thread Cert.Reference8Ideal.nD Cert.Reference8Ideal.τ).loc Cert.Reference8Ideal.main_arg19) = m ((c.tc : Thread Cert.Kernel8Ideal.nD Cert.Kernel8Ideal.τ).loc Cert.Kernel8Ideal.main_arg19)
      ∧ m' ((c.tc : Thread Cert.Reference8Ideal.nD Cert.Reference8Ideal.τ).loc Cert.Reference8Ideal.main_arg20) = m ((c.tc : Thread Cert.Kernel8Ideal.nD Cert.Kernel8Ideal.τ).loc Cert.Kernel8Ideal.main_arg20)
      ∧ m' ((c.tc : Thread Cert.Reference8Ideal.nD Cert.Reference8Ideal.τ).loc Cert.Reference8Ideal.main_arg21) = m ((c.tc : Thread Cert.Kernel8Ideal.nD Cert.Kernel8Ideal.τ).loc Cert.Kernel8Ideal.main_arg21)
      ∧ m' ((c.tc : Thread Cert.Reference8Ideal.nD Cert.Reference8Ideal.τ).loc Cert.Reference8Ideal.main_arg22) = m ((c.tc : Thread Cert.Kernel8Ideal.nD Cert.Kernel8Ideal.τ).loc Cert.Kernel8Ideal.main_arg22)
      ∧ m' ((c.tc : Thread Cert.Reference8Ideal.nD Cert.Reference8Ideal.τ).loc Cert.Reference8Ideal.main_arg23) = m ((c.tc : Thread Cert.Kernel8Ideal.nD Cert.Kernel8Ideal.τ).loc Cert.Kernel8Ideal.main_arg23)) →
    ∃ (v0 : (c : Dev Cert.Kernel8Ideal.nD) → Buf (Elt Ideal) ((c.tc : Thread Cert.Kernel8Ideal.nD Cert.Kernel8Ideal.τ).loc Cert.Kernel8Ideal.main_v43)) (v1 : (c : Dev Cert.Kernel8Ideal.nD) → Buf (Elt Ideal) ((c.tc : Thread Cert.Kernel8Ideal.nD Cert.Kernel8Ideal.τ).loc Cert.Kernel8Ideal.main_v46)) (v2 : (c : Dev Cert.Kernel8Ideal.nD) → Buf (Elt Ideal) ((c.tc : Thread Cert.Kernel8Ideal.nD Cert.Kernel8Ideal.τ).loc Cert.Kernel8Ideal.main_v49)) (v3 : (c : Dev Cert.Kernel8Ideal.nD) → Buf (Elt Ideal) ((c.tc : Thread Cert.Kernel8Ideal.nD Cert.Kernel8Ideal.τ).loc Cert.Kernel8Ideal.main_v52)) (v4 : (c : Dev Cert.Kernel8Ideal.nD) → Buf (Elt Ideal) ((c.tc : Thread Cert.Kernel8Ideal.nD Cert.Kernel8Ideal.τ).loc Cert.Kernel8Ideal.main_v55)) (v5 : (c : Dev Cert.Kernel8Ideal.nD) → Buf (Elt Ideal) ((c.tc : Thread Cert.Kernel8Ideal.nD Cert.Kernel8Ideal.τ).loc Cert.Kernel8Ideal.main_v58)) (v6 : (c : Dev Cert.Kernel8Ideal.nD) → Buf (Elt Ideal) ((c.tc : Thread Cert.Kernel8Ideal.nD Cert.Kernel8Ideal.τ).loc Cert.Kernel8Ideal.main_v61)) (v7 : (c : Dev Cert.Kernel8Ideal.nD) → Buf (Elt Ideal) ((c.tc : Thread Cert.Kernel8Ideal.nD Cert.Kernel8Ideal.τ).loc Cert.Kernel8Ideal.main_v64)) (v8 : (c : Dev Cert.Kernel8Ideal.nD) → Buf (Elt Ideal) ((c.tc : Thread Cert.Kernel8Ideal.nD Cert.Kernel8Ideal.τ).loc Cert.Kernel8Ideal.main_v67)) (v9 : (c : Dev Cert.Kernel8Ideal.nD) → Buf (Elt Ideal) ((c.tc : Thread Cert.Kernel8Ideal.nD Cert.Kernel8Ideal.τ).loc Cert.Kernel8Ideal.main_v70)) (v10 : (c : Dev Cert.Kernel8Ideal.nD) → Buf (Elt Ideal) ((c.tc : Thread Cert.Kernel8Ideal.nD Cert.Kernel8Ideal.τ).loc Cert.Kernel8Ideal.main_v73)) (v11 : (c : Dev Cert.Kernel8Ideal.nD) → Buf (Elt Ideal) ((c.tc : Thread Cert.Kernel8Ideal.nD Cert.Kernel8Ideal.τ).loc Cert.Kernel8Ideal.main_v76)) (v12 : (c : Dev Cert.Kernel8Ideal.nD) → Buf (Elt Ideal) ((c.tc : Thread Cert.Kernel8Ideal.nD Cert.Kernel8Ideal.τ).loc Cert.Kernel8Ideal.main_v79)) (v13 : (c : Dev Cert.Kernel8Ideal.nD) → Buf (Elt Ideal) ((c.tc : Thread Cert.Kernel8Ideal.nD Cert.Kernel8Ideal.τ).loc Cert.Kernel8Ideal.main_v82)) (v14 : (c : Dev Cert.Kernel8Ideal.nD) → Buf (Elt Ideal) ((c.tc : Thread Cert.Kernel8Ideal.nD Cert.Kernel8Ideal.τ).loc Cert.Kernel8Ideal.main_v85)) (v15 : (c : Dev Cert.Kernel8Ideal.nD) → Buf (Elt Ideal) ((c.tc : Thread Cert.Kernel8Ideal.nD Cert.Kernel8Ideal.τ).loc Cert.Kernel8Ideal.main_v88)) (v16 : (c : Dev Cert.Kernel8Ideal.nD) → Buf (Elt Ideal) ((c.tc : Thread Cert.Kernel8Ideal.nD Cert.Kernel8Ideal.τ).loc Cert.Kernel8Ideal.main_v91)) (v17 : (c : Dev Cert.Kernel8Ideal.nD) → Buf (Elt Ideal) ((c.tc : Thread Cert.Kernel8Ideal.nD Cert.Kernel8Ideal.τ).loc Cert.Kernel8Ideal.main_v94)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v43) = v0 c
          ∧ r.2.mem ((c.tc : Thread Cert.Kernel8Ideal.nD Cert.Kernel8Ideal.τ).loc Cert.Kernel8Ideal.main_v46) = v1 c
          ∧ r.2.mem ((c.tc : Thread Cert.Kernel8Ideal.nD Cert.Kernel8Ideal.τ).loc Cert.Kernel8Ideal.main_v49) = v2 c
          ∧ r.2.mem ((c.tc : Thread Cert.Kernel8Ideal.nD Cert.Kernel8Ideal.τ).loc Cert.Kernel8Ideal.main_v52) = v3 c
          ∧ r.2.mem ((c.tc : Thread Cert.Kernel8Ideal.nD Cert.Kernel8Ideal.τ).loc Cert.Kernel8Ideal.main_v55) = v4 c
          ∧ r.2.mem ((c.tc : Thread Cert.Kernel8Ideal.nD Cert.Kernel8Ideal.τ).loc Cert.Kernel8Ideal.main_v58) = v5 c
          ∧ r.2.mem ((c.tc : Thread Cert.Kernel8Ideal.nD Cert.Kernel8Ideal.τ).loc Cert.Kernel8Ideal.main_v61) = v6 c
          ∧ r.2.mem ((c.tc : Thread Cert.Kernel8Ideal.nD Cert.Kernel8Ideal.τ).loc Cert.Kernel8Ideal.main_v64) = v7 c
          ∧ r.2.mem ((c.tc : Thread Cert.Kernel8Ideal.nD Cert.Kernel8Ideal.τ).loc Cert.Kernel8Ideal.main_v67) = v8 c
          ∧ r.2.mem ((c.tc : Thread Cert.Kernel8Ideal.nD Cert.Kernel8Ideal.τ).loc Cert.Kernel8Ideal.main_v70) = v9 c
          ∧ r.2.mem ((c.tc : Thread Cert.Kernel8Ideal.nD Cert.Kernel8Ideal.τ).loc Cert.Kernel8Ideal.main_v73) = v10 c
          ∧ r.2.mem ((c.tc : Thread Cert.Kernel8Ideal.nD Cert.Kernel8Ideal.τ).loc Cert.Kernel8Ideal.main_v76) = v11 c
          ∧ r.2.mem ((c.tc : Thread Cert.Kernel8Ideal.nD Cert.Kernel8Ideal.τ).loc Cert.Kernel8Ideal.main_v79) = v12 c
          ∧ r.2.mem ((c.tc : Thread Cert.Kernel8Ideal.nD Cert.Kernel8Ideal.τ).loc Cert.Kernel8Ideal.main_v82) = v13 c
          ∧ r.2.mem ((c.tc : Thread Cert.Kernel8Ideal.nD Cert.Kernel8Ideal.τ).loc Cert.Kernel8Ideal.main_v85) = v14 c
          ∧ r.2.mem ((c.tc : Thread Cert.Kernel8Ideal.nD Cert.Kernel8Ideal.τ).loc Cert.Kernel8Ideal.main_v88) = v15 c
          ∧ r.2.mem ((c.tc : Thread Cert.Kernel8Ideal.nD Cert.Kernel8Ideal.τ).loc Cert.Kernel8Ideal.main_v91) = v16 c
          ∧ r.2.mem ((c.tc : Thread Cert.Kernel8Ideal.nD Cert.Kernel8Ideal.τ).loc Cert.Kernel8Ideal.main_v94) = v17 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
          ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
          ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
          ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
          ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
          ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
          ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_v47) = v3 c
          ∧ r.2.mem ((c.tc : Thread Cert.Reference8Ideal.nD Cert.Reference8Ideal.τ).loc Cert.Reference8Ideal.main_v28) = v4 c
          ∧ r.2.mem ((c.tc : Thread Cert.Reference8Ideal.nD Cert.Reference8Ideal.τ).loc Cert.Reference8Ideal.main_v34) = v5 c
          ∧ r.2.mem ((c.tc : Thread Cert.Reference8Ideal.nD Cert.Reference8Ideal.τ).loc Cert.Reference8Ideal.main_v71) = v6 c
          ∧ r.2.mem ((c.tc : Thread Cert.Reference8Ideal.nD Cert.Reference8Ideal.τ).loc Cert.Reference8Ideal.main_v52) = v7 c
          ∧ r.2.mem ((c.tc : Thread Cert.Reference8Ideal.nD Cert.Reference8Ideal.τ).loc Cert.Reference8Ideal.main_v58) = v8 c
          ∧ r.2.mem ((c.tc : Thread Cert.Reference8Ideal.nD Cert.Reference8Ideal.τ).loc Cert.Reference8Ideal.main_v95) = v9 c
          ∧ r.2.mem ((c.tc : Thread Cert.Reference8Ideal.nD Cert.Reference8Ideal.τ).loc Cert.Reference8Ideal.main_v76) = v10 c
          ∧ r.2.mem ((c.tc : Thread Cert.Reference8Ideal.nD Cert.Reference8Ideal.τ).loc Cert.Reference8Ideal.main_v82) = v11 c
          ∧ r.2.mem ((c.tc : Thread Cert.Reference8Ideal.nD Cert.Reference8Ideal.τ).loc Cert.Reference8Ideal.main_v119) = v12 c
          ∧ r.2.mem ((c.tc : Thread Cert.Reference8Ideal.nD Cert.Reference8Ideal.τ).loc Cert.Reference8Ideal.main_v100) = v13 c
          ∧ r.2.mem ((c.tc : Thread Cert.Reference8Ideal.nD Cert.Reference8Ideal.τ).loc Cert.Reference8Ideal.main_v106) = v14 c
          ∧ r.2.mem ((c.tc : Thread Cert.Reference8Ideal.nD Cert.Reference8Ideal.τ).loc Cert.Reference8Ideal.main_v143) = v15 c
          ∧ r.2.mem ((c.tc : Thread Cert.Reference8Ideal.nD Cert.Reference8Ideal.τ).loc Cert.Reference8Ideal.main_v124) = v16 c
          ∧ r.2.mem ((c.tc : Thread Cert.Reference8Ideal.nD Cert.Reference8Ideal.τ).loc Cert.Reference8Ideal.main_v130) = v17 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17)
          ∧ r.2.mem ((c.tc : Thread Cert.Reference8Ideal.nD Cert.Reference8Ideal.τ).loc Cert.Reference8Ideal.main_arg18) = m' ((c.tc : Thread Cert.Reference8Ideal.nD Cert.Reference8Ideal.τ).loc Cert.Reference8Ideal.main_arg18)
          ∧ r.2.mem ((c.tc : Thread Cert.Reference8Ideal.nD Cert.Reference8Ideal.τ).loc Cert.Reference8Ideal.main_arg19) = m' ((c.tc : Thread Cert.Reference8Ideal.nD Cert.Reference8Ideal.τ).loc Cert.Reference8Ideal.main_arg19)
          ∧ r.2.mem ((c.tc : Thread Cert.Reference8Ideal.nD Cert.Reference8Ideal.τ).loc Cert.Reference8Ideal.main_arg20) = m' ((c.tc : Thread Cert.Reference8Ideal.nD Cert.Reference8Ideal.τ).loc Cert.Reference8Ideal.main_arg20)
          ∧ r.2.mem ((c.tc : Thread Cert.Reference8Ideal.nD Cert.Reference8Ideal.τ).loc Cert.Reference8Ideal.main_arg21) = m' ((c.tc : Thread Cert.Reference8Ideal.nD Cert.Reference8Ideal.τ).loc Cert.Reference8Ideal.main_arg21)
          ∧ r.2.mem ((c.tc : Thread Cert.Reference8Ideal.nD Cert.Reference8Ideal.τ).loc Cert.Reference8Ideal.main_arg22) = m' ((c.tc : Thread Cert.Reference8Ideal.nD Cert.Reference8Ideal.τ).loc Cert.Reference8Ideal.main_arg22)
          ∧ r.2.mem ((c.tc : Thread Cert.Reference8Ideal.nD Cert.Reference8Ideal.τ).loc Cert.Reference8Ideal.main_arg23) = m' ((c.tc : Thread Cert.Reference8Ideal.nD Cert.Reference8Ideal.τ).loc Cert.Reference8Ideal.main_arg23))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_arg4 : FVec F S4096x16x128 .f32) (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  let main_v19 : FVec F S4096x16x128 .f32 := Host.absf main_arg4
  let main_cst_6 : FVec F S_ .f32 := constant S_ .f32 0x7F800000#32
  let main_v20 : FVec F S4096x16x128 .f32 := broadcastInDim S4096x16x128 ![] bcast_S_S4096x16x128 main_cst_6
  let main_v21 : IVec S4096x16x128 1 := cmpf .olt main_v19 main_v20
  let main_c_7 : IVec S_ 1 := constantI S_ 1 1#1
  let main_v22 : IVec S_ 1 := (fun x v => Host.reduce IntOp.andi x v reducesTo_S4096x16x128_S_d0_1_2 h_S_) main_v21 main_c_7
  let main_v23 : IVec S_ 1 := andi main_v18 main_v22
  main_v23

def fn {F : FTy → Type} [FloatOps F] (main_arg0 : FVec F S4096x16x128 .f32) (main_arg1 : FVec F S4096x16x32 .f32) (main_arg2 : FVec F S4096x128 .f32) (main_arg3 : FVec F S4096x32 .f32) (main_arg4 : FVec F S4096x16x128 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x16x32 .f32 := Host.absf main_arg1
  let main_cst_0 : FVec F S_ .f32 := constant S_ .f32 0x7F800000#32
  let main_v5 : FVec F S4096x16x32 .f32 := broadcastInDim S4096x16x32 ![] bcast_S_S4096x16x32 main_cst_0
  let main_v6 : IVec S4096x16x32 1 := cmpf .olt main_v4 main_v5
  let main_c_1 : IVec S_ 1 := constantI S_ 1 1#1
  let main_v7 : IVec S_ 1 := (fun x v => Host.reduce IntOp.andi x v reducesTo_S4096x16x32_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_arg4 main_v13 main_v16
-- ==== Pre_finite2.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2816x1024 .f32) (main_arg8 : FVec F S4096x1024 .f32) (main_v33 : IVec S_ 1) : IVec S_ 1 :=
  let main_v34 : FVec F S2816x1024 .f32 := Host.absf main_arg7
  let main_cst_12 : FVec F S_ .f32 := constant S_ .f32 0x7F800000#32
  let main_v35 : FVec F S2816x1024 .f32 := broadcastInDim S2816x1024 ![] bcast_S_S2816x1024 main_cst_12
  let main_v36 : IVec S2816x1024 1 := cmpf .olt main_v34 main_v35
  let main_c_13 : IVec S_ 1 := constantI S_ 1 1#1
  let main_v37 : IVec S_ 1 := (fun x v => Host.reduce IntOp.andi x v reducesTo_S2816x1024_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  main_v43

def fn_part1 {F : FTy → Type} [FloatOps F] (main_arg4 : FVec F S1024 .f32) (main_arg5 : FVec F S1024 .f32) (main_arg6 : FVec F S1024x5632 .f32) (main_arg7 : FVec F S2816x1024 .f32) (main_arg8 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x5632 .f32 := Host.absf main_arg6
  let main_cst_10 : FVec F S_ .f32 := constant S_ .f32 0x7F800000#32
  let main_v30 : FVec F S1024x5632 .f32 := broadcastInDim S1024x5632 ![] bcast_S_S1024x5632 main_cst_10
  let main_v31 : IVec S1024x5632 1 := cmpf .olt main_v29 main_v30
  let main_c_11 : IVec S_ 1 := constantI S_ 1 1#1
  let main_v32 : IVec S_ 1 := (fun x v => Host.reduce IntOp.andi x v reducesTo_S1024x5632_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S1024 .f32) (main_arg2 : FVec F S1024 .f32) (main_arg3 : FVec F S1024 .f32) (main_arg4 : FVec F S1024 .f32) (main_arg5 : FVec F S1024 .f32) (main_arg6 : FVec F S1024x5632 .f32) (main_arg7 : FVec F S2816x1024 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Pre_finite3.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩

class Facts : Prop where
  bcast_S_S4096x16x128 : S_.BroadcastsInDim S4096x16x128 (![] : Fin 0 → Fin S4096x16x128.rank)
  reducesTo_S4096x16x128_S_d0_1_2 : S4096x16x128.ReducesTo [0, 1, 2] S_
  h_S_ : 0 < S_.numel
  bcast_S_S4096x16x32 : S_.BroadcastsInDim S4096x16x32 (![] : Fin 0 → Fin S4096x16x32.rank)
  reducesTo_S4096x16x32_S_d0_1_2 : S4096x16x32.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  main_v18

def fn {F : FTy → Type} [FloatOps F] (main_arg0 : FVec F S4096x16x128 .f32) (main_arg1 : FVec F S4096x16x32 .f32) (main_arg2 : FVec F S4096x128 .f32) (main_arg3 : FVec F S4096x32 .f32) : IVec S_ 1 :=
  let main_v0 : FVec F S4096x16x128 .f32 := Host.absf main_arg0
  let main_cst : FVec F S_ .f32 := constant S_ .f32 0x7F800000#32
  let main_v1 : FVec F S4096x16x128 .f32 := broadcastInDim S4096x16x128 ![] bcast_S_S4096x16x128 main_cst
  let main_v2 : IVec S4096x16x128 1 := cmpf .olt main_v0 main_v1
  let main_c : IVec S_ 1 := constantI S_ 1 1#1
  let main_v3 : IVec S_ 1 := (fun x v => Host.reduce IntOp.andi x v reducesTo_S4096x16x128_S_d0_1_2 h_S_) main_v2 main_c
  let main_v4 : FVec F S4096x16x32 .f32 := Host.absf main_arg1
  let main_cst_0 : FVec F S_ .f32 := constant S_ .f32 0x7F800000#32
  let main_v5 : FVec F S4096x16x32 .f32 := broadcastInDim S4096x16x32 ![] bcast_S_S4096x16x32 main_cst_0
  let main_v6 : IVec S4096x16x32 1 := cmpf .olt main_v4 main_v5
  let main_c_1 : IVec S_ 1 := constantI S_ 1 1#1
  let main_v7 : IVec S_ 1 := (fun x v => Host.reduce IntOp.andi x v reducesTo_S4096x16x32_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x32 .f32 := Host.absf main_arg3
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_v13 main_v16
-- ==== Kernel.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩
abbrev S4096x4096x16 : Shape := ⟨3, ![4096, 4096, 16]⟩
abbrev S16x4096x4096 : Shape := ⟨3, ![16, 4096, 4096]⟩
abbrev S16x4096 : Shape := ⟨2, ![16, 4096]⟩
abbrev S16x4096x1 : Shape := ⟨3, ![16, 4096, 1]⟩
abbrev S16x4096x128 : Shape := ⟨3, ![16, 4096, 128]⟩
abbrev S1x4x1x4x1 : Shape := ⟨5, ![1, 4, 1, 4, 1]⟩
abbrev S16x4096x32 : Shape := ⟨3, ![16, 4096, 32]⟩
abbrev S4x4x4096x1x32 : Shape := ⟨5, ![4, 4, 4096, 1, 32]⟩
abbrev S4x4x4096x4x32 : Shape := ⟨5, ![4, 4, 4096, 4, 32]⟩
abbrev S16x4096x256 : Shape := ⟨3, ![16, 4096, 256]⟩
abbrev S4096x1x32 : Shape := ⟨3, ![4096, 1, 32]⟩
abbrev S4096x4x32 : Shape := ⟨3, ![4096, 4, 32]⟩
abbrev S4096x256 : Shape := ⟨2, ![4096, 256]⟩
abbrev S256x4096 : Shape := ⟨2, ![256, 4096]⟩
abbrev S4096x2048 : Shape := ⟨2, ![4096, 2048]⟩
abbrev S16x1x4096 : Shape := ⟨3, ![16, 1, 4096]⟩
abbrev S1x2048x256 : Shape := ⟨3, ![1, 2048, 256]⟩
abbrev S2048x128 : Shape := ⟨2, ![2048, 128]⟩
abbrev S1x1x2048 : Shape := ⟨3, ![1, 1, 2048]⟩
abbrev S2048x256 : Shape := ⟨2, ![2048, 256]⟩
abbrev S1x2048 : Shape := ⟨2, ![1, 2048]⟩
abbrev S256x2048 : Shape := ⟨2, ![256, 2048]⟩
abbrev S1024x256 : Shape := ⟨2, ![1024, 256]⟩
abbrev S1024x2048 : Shape := ⟨2, ![1024, 2048]⟩
abbrev S1024x128 : Shape := ⟨2, ![1024, 128]⟩
abbrev S256x1024 : Shape := ⟨2, ![256, 1024]⟩
abbrev S4x4x4096x32 : Shape := ⟨4, ![4, 4, 4096, 32]⟩

abbrev nBuf : Space → Nat
  | .hbm => 85
  | .vmem => 14
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S4096x16x128, .f32⟩
  | .hbm, ⟨5, _⟩ => ⟨S_, .f32⟩
  | .hbm, ⟨6, _⟩ => ⟨S4096x16x128, .f32⟩
  | .hbm, ⟨7, _⟩ => ⟨S4096x16x128, .f32⟩
  | .hbm, ⟨8, _⟩ => ⟨S_, .f32⟩
  | .hbm, ⟨9, _⟩ => ⟨S4096x16x32, .f32⟩
  | .hbm, ⟨10, _⟩ => ⟨S4096x16x32, .f32⟩
  | .hbm, ⟨11, _⟩ => ⟨S4096x4096x16, .f32⟩
  | .hbm, ⟨12, _⟩ => ⟨S16x4096x4096, .f32⟩
  | .hbm, ⟨13, _⟩ => ⟨S4096x4096x16, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S16x4096x1, .f32⟩
  | .hbm, ⟨25, _⟩ => ⟨S16x4096x1, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S16x4096x128, .f32⟩
  | .hbm, ⟨30, _⟩ => ⟨S16x4096x128, .f32⟩
  | .hbm, ⟨31, _⟩ => ⟨S16x4096x128, .f32⟩
  | .hbm, ⟨32, _⟩ => ⟨S_, .f32⟩
  | .hbm, ⟨33, _⟩ => ⟨S16x4096, .f32⟩
  | .hbm, ⟨34, _⟩ => ⟨S1x4x1x4x1, .i32⟩
  | .hbm, ⟨35, _⟩ => ⟨S1x4x1x4x1, .i32⟩
  | .hbm, ⟨36, _⟩ => ⟨S1x4x1x4x1, .i1⟩
  | .hbm, ⟨37, _⟩ => ⟨S16x4096x32, .f32⟩
  | .hbm, ⟨38, _⟩ => ⟨S4x4x4096x1x32, .f32⟩
  | .hbm, ⟨39, _⟩ => ⟨S_, .f32⟩
  | .hbm, ⟨40, _⟩ => ⟨S_, .f32⟩
  | .hbm, ⟨41, _⟩ => ⟨S4x4x4096x4x32, .i1⟩
  | .hbm, ⟨42, _⟩ => ⟨S4x4x4096x4x32, .f32⟩
  | .hbm, ⟨43, _⟩ => ⟨S4x4x4096x4x32, .f32⟩
  | .hbm, ⟨44, _⟩ => ⟨S4x4x4096x4x32, .f32⟩
  | .hbm, ⟨45, _⟩ => ⟨S16x4096x128, .f32⟩
  | .hbm, ⟨46, _⟩ => ⟨S16x4096x128, .f32⟩
  | .hbm, ⟨47, _⟩ => ⟨S16x4096x256, .f32⟩
  | .hbm, ⟨48, _⟩ => ⟨S16x4096x256, .bf16⟩
  | .hbm, ⟨49, _⟩ => ⟨S4096x1x32, .f32⟩
  | .hbm, ⟨50, _⟩ => ⟨S4096x4x32, .f32⟩
  | .hbm, ⟨51, _⟩ => ⟨S4096x128, .f32⟩
  | .hbm, ⟨52, _⟩ => ⟨S4096x256, .f32⟩
  | .hbm, ⟨53, _⟩ => ⟨S4096x256, .bf16⟩
  | .hbm, ⟨54, _⟩ => ⟨S256x4096, .bf16⟩
  | .hbm, ⟨55, _⟩ => ⟨S4096x2048, .f32⟩
  | .hbm, ⟨56, _⟩ => ⟨S4096x2048, .bf16⟩
  | .hbm, ⟨57, _⟩ => ⟨S16x1x4096, .f32⟩
  | .hbm, ⟨58, _⟩ => ⟨S16x1x4096, .f32⟩
  | .hbm, ⟨59, _⟩ => ⟨S16x4096x256, .bf16⟩
  | .hbm, ⟨60, _⟩ => ⟨S4096x256, .f32⟩
  | .hbm, ⟨61, _⟩ => ⟨S4096x128, .f32⟩
  | .hbm, ⟨62, _⟩ => ⟨S16x4096x256, .f32⟩
  | .hbm, ⟨63, _⟩ => ⟨S16x4096x128, .f32⟩
  | .hbm, ⟨64, _⟩ => ⟨S4096x16x128, .f32⟩
  | .hbm, ⟨65, _⟩ => ⟨S1x4x1x4x1, .i32⟩
  | .hbm, ⟨66, _⟩ => ⟨S1x4x1x4x1, .i32⟩
  | .hbm, ⟨67, _⟩ => ⟨S1x4x1x4x1, .i1⟩
  | .hbm, ⟨68, _⟩ => ⟨S16x4096x128, .f32⟩
  | .hbm, ⟨69, _⟩ => ⟨S4x4x4096x4x32, .f32⟩
  | .hbm, ⟨70, _⟩ => ⟨S_, .f32⟩
  | .hbm, ⟨71, _⟩ => ⟨S_, .f32⟩
  | .hbm, ⟨72, _⟩ => ⟨S4x4x4096x4x32, .i1⟩
  | .hbm, ⟨73, _⟩ => ⟨S4x4x4096x4x32, .f32⟩
  | .hbm, ⟨74, _⟩ => ⟨S4x4x4096x4x32, .f32⟩
  | .hbm, ⟨75, _⟩ => ⟨S_, .f32⟩
  | .hbm, ⟨76, _⟩ => ⟨S4x4x4096x32, .f32⟩
  | .hbm, ⟨77, _⟩ => ⟨S16x4096x32, .f32⟩
  | .hbm, ⟨78, _⟩ => ⟨S4096x16x32, .f32⟩
  | .hbm, ⟨79, _⟩ => ⟨S4096x128, .f32⟩
  | .hbm, ⟨80, _⟩ => ⟨S4096x128, .f32⟩
  | .hbm, ⟨81, _⟩ => ⟨S4096x128, .f32⟩
  | .hbm, ⟨82, _⟩ => ⟨S4096x4x32, .f32⟩
  | .hbm, ⟨83, _⟩ => ⟨S_, .f32⟩
  | .hbm, ⟨84, _⟩ => ⟨S4096x32, .f32⟩
  | .local _ .vmem, ⟨0, _⟩ => ⟨S1x2048x256, .bf16⟩
  | .local _ .vmem, ⟨1, _⟩ => ⟨S1x2048x256, .bf16⟩
  | .local _ .vmem, ⟨2, _⟩ => ⟨S4096x256, .bf16⟩
  | .local _ .vmem, ⟨3, _⟩ => ⟨S256x4096, .bf16⟩
  | .local _ .vmem, ⟨4, _⟩ => ⟨S2048x128, .bf16⟩
  | .local _ .vmem, ⟨5, _⟩ => ⟨S2048x128, .bf16⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x2048x256, .bf16⟩
  | .local _ .vmem, ⟨11, _⟩ => ⟨S1x2048x256, .bf16⟩
  | .local _ .vmem, ⟨12, _⟩ => ⟨S4096x256, .f32⟩
  | .local _ .vmem, ⟨13, _⟩ => ⟨S4096x128, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44_0 : Ref sig .tc := ⟨.hbm, 59, rfl⟩
abbrev main_v44_1 : Ref sig .tc := ⟨.hbm, 60, rfl⟩
abbrev main_v44_2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S4096x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩
abbrev S4096x4096x16 : Shape := ⟨3, ![4096, 4096, 16]⟩
abbrev S16x4096x4096 : Shape := ⟨3, ![16, 4096, 4096]⟩
abbrev S16x4096 : Shape := ⟨2, ![16, 4096]⟩
abbrev S16x4096x1 : Shape := ⟨3, ![16, 4096, 1]⟩
abbrev S128x16x4096 : Shape := ⟨3, ![128, 16, 4096]⟩
abbrev S128x4096 : Shape := ⟨2, ![128, 4096]⟩

abbrev nBuf : Space → Nat
  | .hbm => 87
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S4096x16x128, .f32⟩
  | .hbm, ⟨5, _⟩ => ⟨S_, .f32⟩
  | .hbm, ⟨6, _⟩ => ⟨S4096x16x128, .f32⟩
  | .hbm, ⟨7, _⟩ => ⟨S4096x16x128, .f32⟩
  | .hbm, ⟨8, _⟩ => ⟨S_, .f32⟩
  | .hbm, ⟨9, _⟩ => ⟨S4096x16x32, .f32⟩
  | .hbm, ⟨10, _⟩ => ⟨S4096x16x32, .f32⟩
  | .hbm, ⟨11, _⟩ => ⟨S4096x4096x16, .f32⟩
  | .hbm, ⟨12, _⟩ => ⟨S16x4096x4096, .f32⟩
  | .hbm, ⟨13, _⟩ => ⟨S4096x4096x16, .f32⟩
  | .hbm, ⟨14, _⟩ => ⟨S16x4096x4096, .f32⟩
  | .hbm, ⟨15, _⟩ => ⟨S16x4096x4096, .f32⟩
  | .hbm, ⟨16, _⟩ => ⟨S_, .f32⟩
  | .hbm, ⟨17, _⟩ => ⟨S16x4096, .f32⟩
  | .hbm, ⟨18, _⟩ => ⟨S16x4096x1, .f32⟩
  | .hbm, ⟨19, _⟩ => ⟨S16x4096x4096, .f32⟩
  | .hbm, ⟨20, _⟩ => ⟨S16x4096x4096, .i1⟩
  | .hbm, ⟨21, _⟩ => ⟨S16x4096x4096, .f32⟩
  | .hbm, ⟨22, _⟩ => ⟨S_, .f32⟩
  | .hbm, ⟨23, _⟩ => ⟨S16x4096, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S_, .f32⟩
  | .hbm, ⟨28, _⟩ => ⟨S16x4096, .f32⟩
  | .hbm, ⟨29, _⟩ => ⟨S16x4096, .i1⟩
  | .hbm, ⟨30, _⟩ => ⟨S_, .f32⟩
  | .hbm, ⟨31, _⟩ => ⟨S16x4096, .f32⟩
  | .hbm, ⟨32, _⟩ => ⟨S16x4096, .i1⟩
  | .hbm, ⟨33, _⟩ => ⟨S_, .f32⟩
  | .hbm, ⟨34, _⟩ => ⟨S16x4096, .f32⟩
  | .hbm, ⟨35, _⟩ => ⟨S_, .f32⟩
  | .hbm, ⟨36, _⟩ => ⟨S16x4096, .f32⟩
  | .hbm, ⟨37, _⟩ => ⟨S_, .f32⟩
  | .hbm, ⟨38, _⟩ => ⟨S16x4096, .f32⟩
  | .hbm, ⟨39, _⟩ => ⟨S16x4096, .f32⟩
  | .hbm, ⟨40, _⟩ => ⟨S16x4096, .f32⟩
  | .hbm, ⟨41, _⟩ => ⟨S16x4096x1, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S16x4096x4096, .f32⟩
  | .hbm, ⟨49, _⟩ => ⟨S16x4096x4096, .f32⟩
  | .hbm, ⟨50, _⟩ => ⟨S16x4096x1, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S128x16x4096, .f32⟩
  | .hbm, ⟨55, _⟩ => ⟨S4096x16x128, .f32⟩
  | .hbm, ⟨56, _⟩ => ⟨S128x16x4096, .f32⟩
  | .hbm, ⟨57, _⟩ => ⟨S16x4096x4096, .f32⟩
  | .hbm, ⟨58, _⟩ => ⟨S128x4096, .f32⟩
  | .hbm, ⟨59, _⟩ => ⟨S4096x128, .f32⟩
  | .hbm, ⟨60, _⟩ => ⟨S16x4096x4096, .f32⟩
  | .hbm, ⟨61, _⟩ => ⟨S16x4096x4096, .f32⟩
  | .hbm, ⟨62, _⟩ => ⟨S16x4096x4096, .f32⟩
  | .hbm, ⟨63, _⟩ => ⟨S_, .f32⟩
  | .hbm, ⟨64, _⟩ => ⟨S16x4096, .f32⟩
  | .hbm, ⟨65, _⟩ => ⟨S16x4096x1, .f32⟩
  | .hbm, ⟨66, _⟩ => ⟨S16x4096x1, .f32⟩
  | .hbm, ⟨67, _⟩ => ⟨S16x4096x4096, .f32⟩
  | .hbm, ⟨68, _⟩ => ⟨S16x4096x4096, .f32⟩
  | .hbm, ⟨69, _⟩ => ⟨S_, .f32⟩
  | .hbm, ⟨70, _⟩ => ⟨S16x4096, .f32⟩
  | .hbm, ⟨71, _⟩ => ⟨S16x4096x4096, .f32⟩
  | .hbm, ⟨72, _⟩ => ⟨S16x4096x4096, .f32⟩
  | .hbm, ⟨73, _⟩ => ⟨S16x4096x4096, .f32⟩
  | .hbm, ⟨74, _⟩ => ⟨S4096x4096x16, .f32⟩
  | .hbm, ⟨75, _⟩ => ⟨S4096x16x32, .f32⟩
  | .hbm, ⟨76, _⟩ => ⟨S4096x32, .f32⟩
  | .hbm, ⟨77, _⟩ => ⟨S4096x4096x16, .f32⟩
  | .hbm, ⟨78, _⟩ => ⟨S4096x16x128, .f32⟩
  | .hbm, ⟨79, _⟩ => ⟨S4096x128, .f32⟩
  | .hbm, ⟨80, _⟩ => ⟨S4096x128, .f32⟩
  | .hbm, ⟨81, _⟩ => ⟨S_, .f32⟩
  | .hbm, ⟨82, _⟩ => ⟨S4096x16x32, .f32⟩
  | .hbm, ⟨83, _⟩ => ⟨S4096x16x32, .f32⟩
  | .hbm, ⟨84, _⟩ => ⟨S_, .f32⟩
  | .hbm, ⟨85, _⟩ => ⟨S4096x16x128, .f32⟩
  | .hbm, ⟨86, _⟩ => ⟨S4096x16x128, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_12 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_13 : Ref sig .tc := ⟨.hbm, 81, rfl⟩
abbrev main_v62 : Ref sig .tc := ⟨.hbm, 82, rfl⟩
abbrev main_v63 : Ref sig .tc := ⟨.hbm, 83, rfl⟩
abbrev main_cst_14 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5x1024 : Shape := ⟨2, ![5, 1024]⟩
abbrev S_ : Shape := ⟨0, ![]⟩
abbrev S3x1024 : Shape := ⟨2, ![3, 1024]⟩
abbrev S8x1024 : Shape := ⟨2, ![8, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S2x4096x2816 : Shape := ⟨3, ![2, 4096, 2816]⟩
abbrev S512x1024 : Shape := ⟨2, ![512, 1024]⟩
abbrev S1x1024x1408 : Shape := ⟨3, ![1, 1024, 1408]⟩
abbrev S1x1408x1024 : Shape := ⟨3, ![1, 1408, 1024]⟩
abbrev S2x512x1408 : Shape := ⟨3, ![2, 512, 1408]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x512x1408 : Shape := ⟨3, ![1, 512, 1408]⟩
abbrev S1408x1024 : Shape := ⟨2, ![1408, 1024]⟩
abbrev S4096x2816 : Shape := ⟨2, ![4096, 2816]⟩
abbrev S2048x1024 : Shape := ⟨2, ![2048, 1024]⟩
abbrev S1x2048x1408 : Shape := ⟨3, ![1, 2048, 1408]⟩
abbrev S2048x1408 : Shape := ⟨2, ![2048, 1408]⟩

abbrev nBuf : Space → Nat
  | .hbm => 53
  | .vmem => 80
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S5x1024, .f32⟩
  | .hbm, ⟨15, _⟩ => ⟨S_, .f32⟩
  | .hbm, ⟨16, _⟩ => ⟨S3x1024, .f32⟩
  | .hbm, ⟨17, _⟩ => ⟨S8x1024, .f32⟩
  | .hbm, ⟨18, _⟩ => ⟨S1024x4x1408, .f32⟩
  | .hbm, ⟨19, _⟩ => ⟨S4x1024x1408, .f32⟩
  | .hbm, ⟨20, _⟩ => ⟨S4x1024x1408, .bf16⟩
  | .hbm, ⟨21, _⟩ => ⟨S2x1408x1024, .f32⟩
  | .hbm, ⟨22, _⟩ => ⟨S2x1408x1024, .bf16⟩
  | .hbm, ⟨23, _⟩ => ⟨S4096x1024, .bf16⟩
  | .hbm, ⟨24, _⟩ => ⟨S2x4096x2816, .bf16⟩
  | .hbm, ⟨25, _⟩ => ⟨S4096x1024, .f32⟩
  | .hbm, ⟨26, _⟩ => ⟨S4096x1024, .f32⟩
  | .hbm, ⟨27, _⟩ => ⟨S2x4096x2816, .bf16⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x2816, .bf16⟩
  | .hbm, ⟨32, _⟩ => ⟨S2x4096x2816, .bf16⟩
  | .hbm, ⟨33, _⟩ => ⟨S8x1024, .f32⟩
  | .hbm, ⟨34, _⟩ => ⟨S4096x1024, .f32⟩
  | .hbm, ⟨35, _⟩ => ⟨S4096x2816, .bf16⟩
  | .hbm, ⟨36, _⟩ => ⟨S2x4096x2816, .bf16⟩
  | .hbm, ⟨37, _⟩ => ⟨S8x1024, .f32⟩
  | .hbm, ⟨38, _⟩ => ⟨S8x1024, .f32⟩
  | .hbm, ⟨39, _⟩ => ⟨S4x1024x1408, .f32⟩
  | .hbm, ⟨40, _⟩ => ⟨S2816x1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S1024, .f32⟩
  | .hbm, ⟨51, _⟩ => ⟨S1024x4x1408, .f32⟩
  | .hbm, ⟨52, _⟩ => ⟨S1024x5632, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1408x1024, .bf16⟩
  | .local _ .vmem, ⟨6, _⟩ => ⟨S512x1024, .bf16⟩
  | .local _ .vmem, ⟨7, _⟩ => ⟨S512x1024, .bf16⟩
  | .local _ .vmem, ⟨8, _⟩ => ⟨S2x512x1408, .bf16⟩
  | .local _ .vmem, ⟨9, _⟩ => ⟨S2x512x1408, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S1x1024x1408, .bf16⟩
  | .local _ .vmem, ⟨20, _⟩ => ⟨S1x1024x1408, .bf16⟩
  | .local _ .vmem, ⟨21, _⟩ => ⟨S1x1408x1024, .bf16⟩
  | .local _ .vmem, ⟨22, _⟩ => ⟨S512x1024, .f32⟩
  | .local _ .vmem, ⟨23, _⟩ => ⟨S512x1024, .f32⟩
  | .local _ .vmem, ⟨24, _⟩ => ⟨S2x512x1408, .bf16⟩
  | .local _ .vmem, ⟨25, _⟩ => ⟨S2x512x1408, .bf16⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | .local _ .vmem, ⟨32, _⟩ => ⟨S2x512x1408, .bf16⟩
  | .local _ .vmem, ⟨33, _⟩ => ⟨S2x512x1408, .bf16⟩
  | .local _ .vmem, ⟨34, _⟩ => ⟨S8x1024, .f32⟩
  | .local _ .vmem, ⟨35, _⟩ => ⟨S1x1024x1408, .bf16⟩
  | .local _ .vmem, ⟨36, _⟩ => ⟨S1x1024x1408, .bf16⟩
  | .local _ .vmem, ⟨37, _⟩ => ⟨S1x1408x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .f32⟩
  | .local _ .vmem, ⟨41, _⟩ => ⟨S512x1024, .f32⟩
  | .local _ .vmem, ⟨42, _⟩ => ⟨S512x1408, .bf16⟩
  | .local _ .vmem, ⟨43, _⟩ => ⟨S512x1408, .bf16⟩
  | .local _ .vmem, ⟨44, _⟩ => ⟨S2x512x1408, .bf16⟩
  | .local _ .vmem, ⟨45, _⟩ => ⟨S2x512x1408, .bf16⟩
  | .local _ .vmem, ⟨46, _⟩ => ⟨S8x1024, .f32⟩
  | .local _ .vmem, ⟨47, _⟩ => ⟨S512x1024, .f32⟩
  | .local _ .vmem, ⟨48, _⟩ => ⟨S512x1024, .f32⟩
  | .local _ .vmem, ⟨49, _⟩ => ⟨S512x1024, .f32⟩
  | .local _ .vmem, ⟨50, _⟩ => ⟨S512x1024, .f32⟩
  | .local _ .vmem, ⟨51, _⟩ => ⟨S512x1024, .bf16⟩
  | .local _ .vmem, ⟨52, _⟩ => ⟨S512x1024, .bf16⟩
  | .local _ .vmem, ⟨53, _⟩ => ⟨S512x1024, .f32⟩
  | .local _ .vmem, ⟨54, _⟩ => ⟨S512x1024, .f32⟩
  | .local _ .vmem, ⟨55, _⟩ => ⟨S2x512x1408, .bf16⟩
  | .local _ .vmem, ⟨56, _⟩ => ⟨S2x512x1408, .bf16⟩
  | .local _ .vmem, ⟨57, _⟩ => ⟨S8x1024, .f32⟩
  | .local _ .vmem, ⟨58, _⟩ => ⟨S1x1024x1408, .bf16⟩
  | .local _ .vmem, ⟨59, _⟩ => ⟨S1x1024x1408, .bf16⟩
  | .local _ .vmem, ⟨60, _⟩ => ⟨S1x1408x1024, .bf16⟩
  | .local _ .vmem, ⟨61, _⟩ => ⟨S512x1024, .f32⟩
  | .local _ .vmem, ⟨62, _⟩ => ⟨S512x1024, .f32⟩
  | .local _ .vmem, ⟨63, _⟩ => ⟨S512x1408, .bf16⟩
  | .local _ .vmem, ⟨64, _⟩ => ⟨S512x1408, .bf16⟩
  | .local _ .vmem, ⟨65, _⟩ => ⟨S2x512x1408, .bf16⟩
  | .local _ .vmem, ⟨66, _⟩ => ⟨S2x512x1408, .bf16⟩
  | .local _ .vmem, ⟨67, _⟩ => ⟨S8x1024, .f32⟩
  | .local _ .vmem, ⟨68, _⟩ => ⟨S2048x1024, .bf16⟩
  | .local _ .vmem, ⟨69, _⟩ => ⟨S2048x1024, .bf16⟩
  | .local _ .vmem, ⟨70, _⟩ => ⟨S1x2048x1408, .bf16⟩
  | .local _ .vmem, ⟨71, _⟩ => ⟨S1x2048x1408, .bf16⟩
  | .local _ .vmem, ⟨72, _⟩ => ⟨S1x1024x1408, .f32⟩
  | .local _ .vmem, ⟨73, _⟩ => ⟨S1x1024x1408, .f32⟩
  | .local _ .vmem, ⟨74, _⟩ => ⟨S2048x1408, .bf16⟩
  | .local _ .vmem, ⟨75, _⟩ => ⟨S2048x1408, .bf16⟩
  | .local _ .vmem, ⟨76, _⟩ => ⟨S2048x1024, .bf16⟩
  | .local _ .vmem, ⟨77, _⟩ => ⟨S2048x1024, .bf16⟩
  | .local _ .vmem, ⟨78, _⟩ => ⟨S1408x1024, .f32⟩
  | .local _ .vmem, ⟨79, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev main_v16_0 : Ref sig .tc := ⟨.hbm, 34, rfl⟩
abbrev main_v16_1 : Ref sig .tc := ⟨.hbm, 35, rfl⟩
abbrev main_v16_2 : Ref sig .tc := ⟨.hbm, 36, rfl⟩
abbrev main_v16_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc2_stg9_0 : Ref sig .tc := ⟨.vmem, 42, rfl⟩
abbrev cc2_stg9_1 : Ref sig .tc := ⟨.vmem, 43, rfl⟩
abbrev cc2_stg10_0 : Ref sig .tc := ⟨.vmem, 44, rfl⟩
abbrev cc2_stg10_1 : Ref sig .tc := ⟨.vmem, 45, rfl⟩
abbrev cc2_stg11_0 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg1_1 : Ref sig .tc := ⟨.vmem, 50, rfl⟩
abbrev cc3_stg2_0 : Ref sig .tc := ⟨.vmem, 51, rfl⟩
abbrev cc3_stg2_1 : Ref sig .tc := ⟨.vmem, 52, rfl⟩
abbrev cc3_stg3_0 : Ref sig .tc := ⟨.vmem, 53, rfl⟩
abbrev cc3_stg3_1 : Ref sig .tc := ⟨.vmem, 54, rfl⟩
abbrev cc3_stg4_0 : Ref sig .tc := ⟨.vmem, 55, rfl⟩
abbrev cc3_stg4_1 : Ref sig .tc := ⟨.vmem, 56, rfl⟩
abbrev cc3_stg5_0 : Ref sig .tc := ⟨.vmem, 57, rfl⟩
abbrev cc3_stg6_0 : Ref sig .tc := ⟨.vmem, 58, rfl⟩
abbrev cc3_stg7_0 : Ref sig .tc := ⟨.vmem, 59, rfl⟩
abbrev cc3_stg8_0 : Ref sig .tc := ⟨.vmem, 60, rfl⟩
abbrev cc3_stg9_0 : Ref sig .tc := ⟨.vmem, 61, rfl⟩
abbrev cc3_stg9_1 : Ref sig .tc := ⟨.vmem, 62, rfl⟩
abbrev cc3_stg10_0 : Ref sig .tc := ⟨.vmem, 63, rfl⟩
abbrev cc3_stg10_1 : Ref sig .tc := ⟨.vmem, 64, rfl⟩
abbrev cc3_stg11_0 : Ref sig .tc := ⟨.vmem, 65, rfl⟩
abbrev cc3_stg11_1 : Ref sig .tc := ⟨.vmem, 66, rfl⟩
abbrev cc3_stg12_0 : Ref sig .tc := ⟨.vmem, 67, rfl⟩
abbrev cc4_stg0_0 : Ref sig .tc := ⟨.vmem, 68, rfl⟩
abbrev cc4_stg0_1 : Ref sig .tc := ⟨.vmem, 69, rfl⟩
abbrev cc4_stg1_0 : Ref sig .tc := ⟨.vmem, 70, rfl⟩
abbrev cc4_stg1_1 : Ref sig .tc := ⟨.vmem, 71, rfl⟩
abbrev cc4_stg2_0 : Ref sig .tc := ⟨.vmem, 72, rfl⟩
abbrev cc4_stg2_1 : Ref sig .tc := ⟨.vmem, 73, rfl⟩
abbrev cc5_stg0_0 : Ref sig .tc := ⟨.vmem, 74, rfl⟩
abbrev cc5_stg0_1 : Ref sig .tc := ⟨.vmem, 75, rfl⟩
abbrev cc5_stg1_0 : Ref sig .tc := ⟨.vmem, 76, rfl⟩
abbrev cc5_stg1_1 : Ref sig .tc := ⟨.vmem, 77, rfl⟩
abbrev cc5_stg2_0 : Ref sig .tc := ⟨.vmem, 78, rfl⟩
abbrev cc5_stg2_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39
abbrev cc2_sem8_0 : DmaSem sig := 40
abbrev cc2_sem8_1 : DmaSem sig := 41
abbrev cc2_sem9_0 : DmaSem sig := 42
abbrev cc2_sem9_1 : DmaSem sig := 43
abbrev cc2_sem10_0 : DmaSem sig := 44
abbrev cc2_sem10_1 : DmaSem sig := 45
abbrev cc2_sem11_0 : DmaSem sig := 46
abbrev cc3_sem0_0 : DmaSem sig := 47
abbrev cc3_sem0_1 : DmaSem sig := 48
abbrev cc3_sem1_0 : DmaSem sig := 49
abbrev cc3_sem1_1 : DmaSem sig := 50
abbrev cc3_sem2_0 : DmaSem sig := 51
abbrev cc3_sem2_1 : DmaSem sig := 52
abbrev cc3_sem3_0 : DmaSem sig := 53
abbrev cc3_sem3_1 : DmaSem sig := 54
abbrev cc3_sem4_0 : DmaSem sig := 55
abbrev cc3_sem4_1 : DmaSem sig := 56
abbrev cc3_sem5_0 : DmaSem sig := 57
abbrev cc3_sem6_0 : DmaSem sig := 58
abbrev cc3_sem7_0 : DmaSem sig := 59
abbrev cc3_sem8_0 : DmaSem sig := 60
abbrev cc3_sem9_0 : DmaSem sig := 61
abbrev cc3_sem9_1 : DmaSem sig := 62
abbrev cc3_sem10_0 : DmaSem sig := 63
abbrev cc3_sem10_1 : DmaSem sig := 64
abbrev cc3_sem11_0 : DmaSem sig := 65
abbrev cc3_sem11_1 : DmaSem sig := 66
abbrev cc3_sem12_0 : DmaSem sig := 67
abbrev cc4_sem0_0 : DmaSem sig := 68
abbrev cc4_sem0_1 : DmaSem sig := 69
abbrev cc4_sem1_0 : DmaSem sig := 70
abbrev cc4_sem1_1 : DmaSem sig := 71
abbrev cc4_sem2_0 : DmaSem sig := 72
abbrev cc4_sem2_1 : DmaSem sig := 73
abbrev cc5_sem0_0 : DmaSem sig := 74
abbrev cc5_sem0_1 : DmaSem sig := 75
abbrev cc5_sem1_0 : DmaSem sig := 76
abbrev cc5_sem1_1 : DmaSem sig := 77
abbrev cc5_sem2_0 : DmaSem sig := 78
abbrev cc5_sem2_1 : DmaSem sig := 79

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024x1408 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024x1408 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1408x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2x512x1408 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2x512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S8x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024x1408 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024x1408 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1408x1024 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S512x1408 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2x512x1408 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 1 → Memref sig .tc .vmem S8x1024 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_7 (i : grid3.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc3_transform_8 (i : grid3.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c1_i32 : BitVec 32 := 1#32
  let c0_i32 : BitVec 32 := 0#32
  ![arg0.toNat, c1_i32.toNat]

def cc3_transform_13 (i : grid3.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2x512x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S8x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1024x1408 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1024x1408 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x1408x1024 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S512x1024 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x1408 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S2x512x1408 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 1 → Memref sig .tc .vmem S8x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev grid4 : Pipeline.Grid := ⟨2, ![4, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1x2048x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1024x1408 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![2, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1408x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1024x2816 : Shape := ⟨2, ![1024, 2816]⟩
abbrev S5632x1024 : Shape := ⟨2, ![5632, 1024]⟩

abbrev nBuf : Space → Nat
  | .hbm => 175
  | .vmem => 0
  | .smem => 0
  | _ => 0

abbrev hbmTy0_0 (i : Nat) : BufTy := match i % 128 with
  | 0 => ⟨S4096x1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024x5632, .f32⟩
  | 7 => ⟨S2816x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S_, .f32⟩
  | 30 => ⟨S1024, .f32⟩
  | 31 => ⟨S1024, .f32⟩
  | 32 => ⟨S1x1024, .f32⟩
  | 33 => ⟨S4096x1024, .f32⟩
  | 34 => ⟨S4096x1024, .f32⟩
  | 35 => ⟨S1x1024, .f32⟩
  | 36 => ⟨S4096x1024, .f32⟩
  | 37 => ⟨S4096x1024, .f32⟩
  | 38 => ⟨S4096x5632, .f32⟩
  | 39 => ⟨S4096x2816, .f32⟩
  | 40 => ⟨S4096x2816, .f32⟩
  | 41 => ⟨S4096x2816, .f32⟩
  | 42 => ⟨S4096x2816, .f32⟩
  | 43 => ⟨S_, .f32⟩
  | 44 => ⟨S4096x2816, .f32⟩
  | 45 => ⟨S4096x2816, .f32⟩
  | 46 => ⟨S_, .f32⟩
  | 47 => ⟨S4096x2816, .f32⟩
  | 48 => ⟨S4096x2816, .f32⟩
  | 49 => ⟨S_, .f32⟩
  | 50 => ⟨S4096x2816, .f32⟩
  | 51 => ⟨S4096x2816, .f32⟩
  | 52 => ⟨S4096x2816, .f32⟩
  | 53 => ⟨S4096x2816, .f32⟩
  | 54 => ⟨S4096x2816, .f32⟩
  | 55 => ⟨S4096x1024, .f32⟩
  | 56 => ⟨S_, .f32⟩
  | 57 => ⟨S1024, .f32⟩
  | 58 => ⟨S1024, .f32⟩
  | 59 => ⟨S_, .f32⟩
  | 60 => ⟨S1024, .f32⟩
  | 61 => ⟨S1024, .f32⟩
  | 62 => ⟨S4096x1024, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x1024, .f32⟩
  | 78 => ⟨S4096x1024, .f32⟩
  | 79 => ⟨S1x1024, .f32⟩
  | 80 => ⟨S4096x1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S_, .f32⟩
  | 102 => ⟨S1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S_, .f32⟩
  | 121 => ⟨S1024, .f32⟩
  | 122 => ⟨S1024, .f32⟩
  | 123 => ⟨S1024x2816, .f32⟩
  | 124 => ⟨S2816x1024, .f32⟩
  | 125 => ⟨S4096x2816, .f32⟩
  | 126 => ⟨S4096x2816, .f32⟩
  | 127 => ⟨S4096x2816, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S4096x2816, .f32⟩
  | 4 => ⟨S4096x5632, .f32⟩
  | 5 => ⟨S5632x1024, .f32⟩
  | 6 => ⟨S1024x5632, .f32⟩
  | 7 => ⟨S4096x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S4096x1024, .f32⟩
  | 14 => ⟨S_, .f32⟩
  | 15 => ⟨S1024, .f32⟩
  | 16 => ⟨S1x1024, .f32⟩
  | 17 => ⟨S4096x1024, .f32⟩
  | 18 => ⟨S4096x1024, .f32⟩
  | 19 => ⟨S_, .f32⟩
  | 20 => ⟨S1024, .f32⟩
  | 21 => ⟨S4096x1024, .f32⟩
  | 22 => ⟨S_, .f32⟩
  | 23 => ⟨S1024, .f32⟩
  | 24 => ⟨S1x1024, .f32⟩
  | 25 => ⟨S4096x1024, .f32⟩
  | 26 => ⟨S4096x1024, .f32⟩
  | 27 => ⟨S_, .f32⟩
  | 28 => ⟨S1024, .f32⟩
  | 29 => ⟨S4096x1024, .f32⟩
  | 30 => ⟨S_, .f32⟩
  | 31 => ⟨S4096, .f32⟩
  | 32 => ⟨S4096x1, .f32⟩
  | 33 => ⟨S4096x1024, .f32⟩
  | 34 => ⟨S4096x1024, .f32⟩
  | 35 => ⟨S4096x1024, .f32⟩
  | 36 => ⟨S4096x1, .f32⟩
  | 37 => ⟨S_, .f32⟩
  | 38 => ⟨S4096x1, .f32⟩
  | 39 => ⟨S4096x1, .f32⟩
  | 40 => ⟨S_, .f32⟩
  | 41 => ⟨S4096, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v27_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v27_1 : Ref sig .tc := ⟨.hbm, 52, rfl⟩
abbrev main_v27_0 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev main_cst_7 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_15 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_18 : Ref sig .tc := ⟨.hbm, 136, rfl⟩
abbrev main_v93 : Ref sig .tc := ⟨.hbm, 137, rfl⟩
abbrev main_v94 : Ref sig .tc := ⟨.hbm, 138, rfl⟩
abbrev main_cst_19 : Ref sig .tc := ⟨.hbm, 139, rfl⟩
abbrev main_v95 : Ref sig .tc := ⟨.hbm, 140, rfl⟩
abbrev main_v96 : Ref sig .tc := ⟨.hbm, 141, rfl⟩
abbrev main_cst_20 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_21 : Ref sig .tc := ⟨.hbm, 147, rfl⟩
abbrev main_v101 : Ref sig .tc := ⟨.hbm, 148, rfl⟩
abbrev main_v102 : Ref sig .tc := ⟨.hbm, 149, rfl⟩
abbrev main_cst_22 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_23 : Ref sig .tc := ⟨.hbm, 155, rfl⟩
abbrev main_v107 : Ref sig .tc := ⟨.hbm, 156, rfl⟩
abbrev main_v108 : Ref sig .tc := ⟨.hbm, 157, rfl⟩
abbrev main_cst_24 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_cst_25 : Ref sig .tc := ⟨.hbm, 165, rfl⟩
abbrev main_v115 : Ref sig .tc := ⟨.hbm, 166, rfl⟩
abbrev main_v116 : Ref sig .tc := ⟨.hbm, 167, rfl⟩
abbrev main_cst_26 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩

abbrev nD : Nat := 1
abbrev τ : Topo := Topo.v7x

variable {F : FTy → Type} [FloatOps F]
-- ==== Kernel3.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩
abbrev S1x4x1x4x1 : Shape := ⟨5, ![1, 4, 1, 4, 1]⟩
abbrev S16x4096x32 : Shape := ⟨3, ![16, 4096, 32]⟩
abbrev S4x4x4096x1x32 : Shape := ⟨5, ![4, 4, 4096, 1, 32]⟩
abbrev S4x4x4096x4x32 : Shape := ⟨5, ![4, 4, 4096, 4, 32]⟩
abbrev S16x4096x128 : Shape := ⟨3, ![16, 4096, 128]⟩
abbrev S16x4096x256 : Shape := ⟨3, ![16, 4096, 256]⟩
abbrev S4096x1x32 : Shape := ⟨3, ![4096, 1, 32]⟩
abbrev S4096x4x32 : Shape := ⟨3, ![4096, 4, 32]⟩
abbrev S4096x256 : Shape := ⟨2, ![4096, 256]⟩
abbrev S4096x2048 : Shape := ⟨2, ![4096, 2048]⟩
abbrev S16x1x4096 : Shape := ⟨3, ![16, 1, 4096]⟩
abbrev S1x1024x256 : Shape := ⟨3, ![1, 1024, 256]⟩
abbrev S1024x128 : Shape := ⟨2, ![1024, 128]⟩
abbrev S1x1x1024 : Shape := ⟨3, ![1, 1, 1024]⟩
abbrev S1024x256 : Shape := ⟨2, ![1024, 256]⟩
abbrev S1024x1 : Shape := ⟨2, ![1024, 1]⟩
abbrev S512x256 : Shape := ⟨2, ![512, 256]⟩
abbrev S1024x512 : Shape := ⟨2, ![1024, 512]⟩
abbrev S1024 : Shape := ⟨1, ![1024]⟩
abbrev S128x1024 : Shape := ⟨2, ![128, 1024]⟩
abbrev S1x1024 : Shape := ⟨2, ![1, 1024]⟩
abbrev S16x4096 : Shape := ⟨2, ![16, 4096]⟩

abbrev nBuf : Space → Nat
  | .hbm => 47
  | .vmem => 8
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S_, .f32⟩
  | .hbm, ⟨5, _⟩ => ⟨S4096x16x128, .f32⟩
  | .hbm, ⟨6, _⟩ => ⟨S4096x16x128, .f32⟩
  | .hbm, ⟨7, _⟩ => ⟨S_, .f32⟩
  | .hbm, ⟨8, _⟩ => ⟨S4096x16x32, .f32⟩
  | .hbm, ⟨9, _⟩ => ⟨S4096x16x32, .f32⟩
  | .hbm, ⟨10, _⟩ => ⟨S1x4x1x4x1, .i32⟩
  | .hbm, ⟨11, _⟩ => ⟨S1x4x1x4x1, .i32⟩
  | .hbm, ⟨12, _⟩ => ⟨S1x4x1x4x1, .i1⟩
  | .hbm, ⟨13, _⟩ => ⟨S16x4096x32, .f32⟩
  | .hbm, ⟨14, _⟩ => ⟨S4x4x4096x1x32, .f32⟩
  | .hbm, ⟨15, _⟩ => ⟨S_, .f32⟩
  | .hbm, ⟨16, _⟩ => ⟨S_, .f32⟩
  | .hbm, ⟨17, _⟩ => ⟨S4x4x4096x4x32, .i1⟩
  | .hbm, ⟨18, _⟩ => ⟨S4x4x4096x4x32, .f32⟩
  | .hbm, ⟨19, _⟩ => ⟨S4x4x4096x4x32, .f32⟩
  | .hbm, ⟨20, _⟩ => ⟨S4x4x4096x4x32, .f32⟩
  | .hbm, ⟨21, _⟩ => ⟨S16x4096x128, .f32⟩
  | .hbm, ⟨22, _⟩ => ⟨S16x4096x128, .f32⟩
  | .hbm, ⟨23, _⟩ => ⟨S16x4096x256, .f32⟩
  | .hbm, ⟨24, _⟩ => ⟨S16x4096x256, .bf16⟩
  | .hbm, ⟨25, _⟩ => ⟨S4096x1x32, .f32⟩
  | .hbm, ⟨26, _⟩ => ⟨S4096x4x32, .f32⟩
  | .hbm, ⟨27, _⟩ => ⟨S4096x128, .f32⟩
  | .hbm, ⟨28, _⟩ => ⟨S4096x256, .f32⟩
  | .hbm, ⟨29, _⟩ => ⟨S4096x256, .bf16⟩
  | .hbm, ⟨30, _⟩ => ⟨S4096x128, .i32⟩
  | .hbm, ⟨31, _⟩ => ⟨S_, .i32⟩
  | .hbm, ⟨32, _⟩ => ⟨S4096x128, .i32⟩
  | .hbm, ⟨33, _⟩ => ⟨S4096x128, .i1⟩
  | .hbm, ⟨34, _⟩ => ⟨S_, .f32⟩
  | .hbm, ⟨35, _⟩ => ⟨S_, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S4096x128, .f32⟩
  | .hbm, ⟨40, _⟩ => ⟨S4096x256, .f32⟩
  | .hbm, ⟨41, _⟩ => ⟨S4096x256, .bf16⟩
  | .hbm, ⟨42, _⟩ => ⟨S4096x2048, .bf16⟩
  | .hbm, ⟨43, _⟩ => ⟨S16x1x4096, .f32⟩
  | .hbm, ⟨44, _⟩ => ⟨S4096x2048, .f32⟩
  | .hbm, ⟨45, _⟩ => ⟨S4096x16x128, .f32⟩
  | .hbm, ⟨46, _⟩ => ⟨S16x4096, .f32⟩
  | .local _ .vmem, ⟨0, _⟩ => ⟨S1x1024x256, .bf16⟩
  | .local _ .vmem, ⟨1, _⟩ => ⟨S1x1024x256, .bf16⟩
  | .local _ .vmem, ⟨2, _⟩ => ⟨S4096x256, .bf16⟩
  | .local _ .vmem, ⟨3, _⟩ => ⟨S4096x256, .bf16⟩
  | .local _ .vmem, ⟨4, _⟩ => ⟨S1024x128, .bf16⟩
  | .local _ .vmem, ⟨5, _⟩ => ⟨S1024x128, .bf16⟩
  | .local _ .vmem, ⟨6, _⟩ => ⟨S1x1x1024, .f32⟩
  | .local _ .vmem, ⟨7, _⟩ => ⟨S1x1x1024, .f32⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26_0 : Ref sig .tc := ⟨.hbm, 42, rfl⟩
abbrev main_v26_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S4096x16x128 : Shape := ⟨3, ![4096, 16, 128]⟩
abbrev S4096x16x32 : Shape := ⟨3, ![4096, 16, 32]⟩
abbrev S4096x128 : Shape := ⟨2, ![4096, 128]⟩
abbrev S4096x32 : Shape := ⟨2, ![4096, 32]⟩
abbrev S_ : Shape := ⟨0, ![]⟩
abbrev S4096x4096x16 : Shape := ⟨3, ![4096, 4096, 16]⟩
abbrev S16x4096x4096 : Shape := ⟨3, ![16, 4096, 4096]⟩
abbrev S16x4096 : Shape := ⟨2, ![16, 4096]⟩
abbrev S16x4096x1 : Shape := ⟨3, ![16, 4096, 1]⟩
abbrev S128x16x4096 : Shape := ⟨3, ![128, 16, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x32, .f32⟩
  | .hbm, ⟨2, _⟩ => ⟨S4096x128, .f32⟩
  | .hbm, ⟨3, _⟩ => ⟨S4096x32, .f32⟩
  | .hbm, ⟨4, _⟩ => ⟨S_, .f32⟩
  | .hbm, ⟨5, _⟩ => ⟨S4096x16x128, .f32⟩
  | .hbm, ⟨6, _⟩ => ⟨S4096x16x128, .f32⟩
  | .hbm, ⟨7, _⟩ => ⟨S_, .f32⟩
  | .hbm, ⟨8, _⟩ => ⟨S4096x16x32, .f32⟩
  | .hbm, ⟨9, _⟩ => ⟨S4096x16x32, .f32⟩
  | .hbm, ⟨10, _⟩ => ⟨S4096x4096x16, .f32⟩
  | .hbm, ⟨11, _⟩ => ⟨S16x4096x4096, .f32⟩
  | .hbm, ⟨12, _⟩ => ⟨S4096x4096x16, .f32⟩
  | .hbm, ⟨13, _⟩ => ⟨S16x4096x4096, .f32⟩
  | .hbm, ⟨14, _⟩ => ⟨S16x4096x4096, .f32⟩
  | .hbm, ⟨15, _⟩ => ⟨S_, .f32⟩
  | .hbm, ⟨16, _⟩ => ⟨S16x4096, .f32⟩
  | .hbm, ⟨17, _⟩ => ⟨S_, .f32⟩
  | .hbm, ⟨18, _⟩ => ⟨S16x4096, .f32⟩
  | .hbm, ⟨19, _⟩ => ⟨S16x4096, .f32⟩
  | .hbm, ⟨20, _⟩ => ⟨S16x4096x1, .f32⟩
  | .hbm, ⟨21, _⟩ => ⟨S16x4096x4096, .f32⟩
  | .hbm, ⟨22, _⟩ => ⟨S16x4096x4096, .f32⟩
  | .hbm, ⟨23, _⟩ => ⟨S16x4096x4096, .f32⟩
  | .hbm, ⟨24, _⟩ => ⟨S_, .f32⟩
  | .hbm, ⟨25, _⟩ => ⟨S16x4096, .f32⟩
  | .hbm, ⟨26, _⟩ => ⟨S16x4096x1, .f32⟩
  | .hbm, ⟨27, _⟩ => ⟨S16x4096x4096, .f32⟩
  | .hbm, ⟨28, _⟩ => ⟨S16x4096x4096, .f32⟩
  | .hbm, ⟨29, _⟩ => ⟨S128x16x4096, .f32⟩
  | .hbm, ⟨30, _⟩ => ⟨S4096x16x128, .f32⟩
  | .hbm, ⟨31, _⟩ => ⟨S16x4096x4096, .f32⟩
  | .hbm, ⟨32, _⟩ => ⟨S_, .f32⟩
  | .hbm, ⟨33, _⟩ => ⟨S16x4096, .f32⟩
  | .hbm, ⟨34, _⟩ => ⟨S16x4096, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel4.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5x1024 : Shape := ⟨2, ![5, 1024]⟩
abbrev S_ : Shape := ⟨0, ![]⟩
abbrev S3x1024 : Shape := ⟨2, ![3, 1024]⟩
abbrev S8x1024 : Shape := ⟨2, ![8, 1024]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S2x4096x2816 : Shape := ⟨3, ![2, 4096, 2816]⟩
abbrev S512x1024 : Shape := ⟨2, ![512, 1024]⟩
abbrev S1x1024x1408 : Shape := ⟨3, ![1, 1024, 1408]⟩
abbrev S1x1408x1024 : Shape := ⟨3, ![1, 1408, 1024]⟩
abbrev S2x512x1408 : Shape := ⟨3, ![2, 512, 1408]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1x512x1408 : Shape := ⟨3, ![1, 512, 1408]⟩
abbrev S1408x1024 : Shape := ⟨2, ![1408, 1024]⟩
abbrev S1x1 : Shape := ⟨2, ![1, 1]⟩
abbrev S1 : Shape := ⟨1, ![1]⟩

abbrev nBuf : Space → Nat
  | .hbm => 31
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S5x1024, .f32⟩
  | .hbm, ⟨15, _⟩ => ⟨S_, .f32⟩
  | .hbm, ⟨16, _⟩ => ⟨S3x1024, .f32⟩
  | .hbm, ⟨17, _⟩ => ⟨S8x1024, .f32⟩
  | .hbm, ⟨18, _⟩ => ⟨S1024x4x1408, .f32⟩
  | .hbm, ⟨19, _⟩ => ⟨S4x1024x1408, .f32⟩
  | .hbm, ⟨20, _⟩ => ⟨S4x1024x1408, .bf16⟩
  | .hbm, ⟨21, _⟩ => ⟨S2x1408x1024, .f32⟩
  | .hbm, ⟨22, _⟩ => ⟨S2x1408x1024, .bf16⟩
  | .hbm, ⟨23, _⟩ => ⟨S4096x1024, .bf16⟩
  | .hbm, ⟨24, _⟩ => ⟨S2x4096x2816, .bf16⟩
  | .hbm, ⟨25, _⟩ => ⟨S4096x1024, .f32⟩
  | .hbm, ⟨26, _⟩ => ⟨S4096x1024, .f32⟩
  | .hbm, ⟨27, _⟩ => ⟨S2x4096x2816, .bf16⟩
  | .hbm, ⟨28, _⟩ => ⟨S4096x1024, .f32⟩
  | .hbm, ⟨29, _⟩ => ⟨S1x1, .f32⟩
  | .hbm, ⟨30, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1408x1024, .bf16⟩
  | .local _ .vmem, ⟨6, _⟩ => ⟨S512x1024, .bf16⟩
  | .local _ .vmem, ⟨7, _⟩ => ⟨S512x1024, .bf16⟩
  | .local _ .vmem, ⟨8, _⟩ => ⟨S2x512x1408, .bf16⟩
  | .local _ .vmem, ⟨9, _⟩ => ⟨S2x512x1408, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S1x1024x1408, .bf16⟩
  | .local _ .vmem, ⟨20, _⟩ => ⟨S1x1024x1408, .bf16⟩
  | .local _ .vmem, ⟨21, _⟩ => ⟨S1x1408x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S2x512x1408, .bf16⟩
  | .local _ .vmem, ⟨27, _⟩ => ⟨S2x512x1408, .bf16⟩
  | .local _ .vmem, ⟨28, _⟩ => ⟨S512x1024, .f32⟩
  | .local _ .vmem, ⟨29, _⟩ => ⟨S512x1024, .f32⟩
  | .local _ .vmem, ⟨30, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v14_0 : Ref sig .tc := ⟨.hbm, 26, rfl⟩
abbrev main_v14_1 : Ref sig .tc := ⟨.hbm, 27, rfl⟩
abbrev main_v14_2 : Ref sig .tc := ⟨.hbm, 28, rfl⟩
abbrev main_v14_3 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_5 (i : grid1.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc1_transform_6 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024x1408 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024x1408 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1408x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x512x1408 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== Reference4Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x5632, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S_, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S4096, .f32⟩
  | .hbm, ⟨92, _⟩ => ⟨S_, .f32⟩
  | .hbm, ⟨93, _⟩ => ⟨S4096, .f32⟩
  | .hbm, ⟨94, _⟩ => ⟨S4096, .f32⟩
  | .hbm, ⟨95, _⟩ => ⟨S4096x1024, .f32⟩
  | .hbm, ⟨96, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_3 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_cst_13 : Ref sig .tc := ⟨.hbm, 88, rfl⟩
abbrev main_cst_14 : Ref sig .tc := ⟨.hbm, 89, rfl⟩
abbrev main_v57 : Ref sig .tc := ⟨.hbm, 90, rfl⟩
abbrev main_v58 : Ref sig .tc := ⟨.hbm, 91, rfl⟩
abbrev main_cst_15 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩

abbrev nD : Nat := 1
abbrev τ : Topo := Topo.v7x

variable {F : FTy → Type} [FloatOps F]
-- ==== Kernel5.lean ====
abbrev S8x1024 : Shape := ⟨2, ![8, 1024]⟩
abbrev S2x1024x2304 : Shape := ⟨3, ![2, 1024, 2304]⟩
abbrev S2x8x2304 : Shape := ⟨3, ![2, 8, 2304]⟩
abbrev S_ : Shape := ⟨0, ![]⟩
abbrev S16x1024 : Shape := ⟨2, ![16, 1024]⟩
abbrev S2x16x2304 : Shape := ⟨3, ![2, 16, 2304]⟩
abbrev S16x256 : Shape := ⟨2, ![16, 256]⟩
abbrev S1x16x2304 : Shape := ⟨3, ![1, 16, 2304]⟩
abbrev S1x256x2304 : Shape := ⟨3, ![1, 256, 2304]⟩
abbrev S16x2304 : Shape := ⟨2, ![16, 2304]⟩
abbrev S256x2304 : Shape := ⟨2, ![256, 2304]⟩

abbrev nBuf : Space → Nat
  | .hbm => 15
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S2x8x2304, .f32⟩
  | .hbm, ⟨5, _⟩ => ⟨S_, .f32⟩
  | .hbm, ⟨6, _⟩ => ⟨S8x1024, .f32⟩
  | .hbm, ⟨7, _⟩ => ⟨S16x1024, .f32⟩
  | .hbm, ⟨8, _⟩ => ⟨S_, .f32⟩
  | .hbm, ⟨9, _⟩ => ⟨S2x8x2304, .f32⟩
  | .hbm, ⟨10, _⟩ => ⟨S2x16x2304, .f32⟩
  | .hbm, ⟨11, _⟩ => ⟨S2x1024x2304, .f32⟩
  | .hbm, ⟨12, _⟩ => ⟨S2x1024x2304, .f32⟩
  | .hbm, ⟨13, _⟩ => ⟨S2x1024x2304, .f32⟩
  | .hbm, ⟨14, _⟩ => ⟨S2x1024x2304, .f32⟩
  | .local _ .vmem, ⟨0, _⟩ => ⟨S16x256, .f32⟩
  | .local _ .vmem, ⟨1, _⟩ => ⟨S16x256, .f32⟩
  | .local _ .vmem, ⟨2, _⟩ => ⟨S1x16x2304, .f32⟩
  | .local _ .vmem, ⟨3, _⟩ => ⟨S1x16x2304, .f32⟩
  | .local _ .vmem, ⟨4, _⟩ => ⟨S1x256x2304, .f32⟩
  | .local _ .vmem, ⟨5, _⟩ => ⟨S1x256x2304, .f32⟩
  | .local _ .vmem, ⟨6, _⟩ => ⟨S1x256x2304, .f32⟩
  | .local _ .vmem, ⟨7, _⟩ => ⟨S1x256x2304, .f32⟩
  | .local _ .vmem, ⟨8, _⟩ => ⟨S1x256x2304, .f32⟩
  | .local _ .vmem, ⟨9, _⟩ => ⟨S1x256x2304, .f32⟩
  | .local _ .vmem, ⟨10, _⟩ => ⟨S1x256x2304, .f32⟩
  | .local _ .vmem, ⟨11, _⟩ => ⟨S1x256x2304, .f32⟩
  | .local _ .vmem, ⟨12, _⟩ => ⟨S1x256x2304, .f32⟩
  | .local _ .vmem, ⟨13, _⟩ => ⟨S1x256x2304, .f32⟩
  | .local _ .vmem, ⟨14, _⟩ => ⟨S1x256x2304, .f32⟩
  | .local _ .vmem, ⟨15, _⟩ => ⟨S1x256x2304, .f32⟩
  | .local _ .vmem, ⟨16, _⟩ => ⟨S1x256x2304, .f32⟩
  | .local _ .vmem, ⟨17, _⟩ => ⟨S1x256x2304, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8x1024 : Shape := ⟨2, ![8, 1024]⟩
abbrev S2x1024x2304 : Shape := ⟨3, ![2, 1024, 2304]⟩
abbrev S2x8x2304 : Shape := ⟨3, ![2, 8, 2304]⟩
abbrev S_ : Shape := ⟨0, ![]⟩
abbrev S2x2304x8 : Shape := ⟨3, ![2, 2304, 8]⟩
abbrev S2x2304x1024 : Shape := ⟨3, ![2, 2304, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x2304, .f32⟩
  | .hbm, ⟨2, _⟩ => ⟨S2x1024x2304, .f32⟩
  | .hbm, ⟨3, _⟩ => ⟨S2x1024x2304, .f32⟩
  | .hbm, ⟨4, _⟩ => ⟨S2x8x2304, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S2x2304x8, .f32⟩
  | .hbm, ⟨15, _⟩ => ⟨S2x8x2304, .f32⟩
  | .hbm, ⟨16, _⟩ => ⟨S2x2304x8, .f32⟩
  | .hbm, ⟨17, _⟩ => ⟨S2x2304x1024, .f32⟩
  | .hbm, ⟨18, _⟩ => ⟨S2x1024x2304, .f32⟩
  | .hbm, ⟨19, _⟩ => ⟨S_, .f32⟩
  | .hbm, ⟨20, _⟩ => ⟨S2x1024x2304, .f32⟩
  | .hbm, ⟨21, _⟩ => ⟨S2x1024x2304, .f32⟩
  | .hbm, ⟨22, _⟩ => ⟨S_, .f32⟩
  | .hbm, ⟨23, _⟩ => ⟨S2x1024x2304, .f32⟩
  | .hbm, ⟨24, _⟩ => ⟨S2x1024x2304, .f32⟩
  | .hbm, ⟨25, _⟩ => ⟨S2x1024x2304, .f32⟩
  | .hbm, ⟨26, _⟩ => ⟨S_, .f32⟩
  | .hbm, ⟨27, _⟩ => ⟨S2x1024x2304, .f32⟩
  | .hbm, ⟨28, _⟩ => ⟨S2x1024x2304, .f32⟩
  | .hbm, ⟨29, _⟩ => ⟨S2x1024x2304, .f32⟩
  | .hbm, ⟨30, _⟩ => ⟨S_, .f32⟩
  | .hbm, ⟨31, _⟩ => ⟨S2x1024x2304, .f32⟩
  | .hbm, ⟨32, _⟩ => ⟨S2x1024x2304, .f32⟩
  | .hbm, ⟨33, _⟩ => ⟨S2x1024x2304, .f32⟩
  | .hbm, ⟨34, _⟩ => ⟨S_, .f32⟩
  | .hbm, ⟨35, _⟩ => ⟨S2x1024x2304, .f32⟩
  | .hbm, ⟨36, _⟩ => ⟨S2x1024x2304, .f32⟩
  | .hbm, ⟨37, _⟩ => ⟨S_, .f32⟩
  | .hbm, ⟨38, _⟩ => ⟨S2x1024x2304, .f32⟩
  | .hbm, ⟨39, _⟩ => ⟨S2x1024x2304, .f32⟩
  | .hbm, ⟨40, _⟩ => ⟨S2x1024x2304, .f32⟩
  | .hbm, ⟨41, _⟩ => ⟨S_, .f32⟩
  | .hbm, ⟨42, _⟩ => ⟨S2x1024x2304, .f32⟩
  | .hbm, ⟨43, _⟩ => ⟨S2x1024x2304, .f32⟩
  | .hbm, ⟨44, _⟩ => ⟨S2x1024x2304, .f32⟩
  | .hbm, ⟨45, _⟩ => ⟨S_, .f32⟩
  | .hbm, ⟨46, _⟩ => ⟨S2x1024x2304, .f32⟩
  | .hbm, ⟨47, _⟩ => ⟨S2x1024x2304, .f32⟩
  | .hbm, ⟨48, _⟩ => ⟨S2x1024x2304, .f32⟩
  | .hbm, ⟨49, _⟩ => ⟨S_, .f32⟩
  | .hbm, ⟨50, _⟩ => ⟨S2x1024x2304, .f32⟩
  | .hbm, ⟨51, _⟩ => ⟨S2x1024x2304, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel6.lean ====
abbrev S1x256x416 : Shape := ⟨3, ![1, 256, 416]⟩
abbrev S1x64x16x96 : Shape := ⟨4, ![1, 64, 16, 96]⟩
abbrev S1x256x1024 : Shape := ⟨3, ![1, 256, 1024]⟩
abbrev S1x128x16x64 : Shape := ⟨4, ![1, 128, 16, 64]⟩
abbrev S1x4x64x256 : Shape := ⟨4, ![1, 4, 64, 256]⟩

abbrev nBuf : Space → Nat
  | .hbm => 42
  | .vmem => 42
  | .smem => 0
  | _ => 0

abbrev bufTy : (tb : Table) → Fin (tcTables nBuf tb) → BufTy
  | .hbm, ⟨0, _⟩ => ⟨S1x256x416, .f32⟩
  | .hbm, ⟨1, _⟩ => ⟨S1x256x416, .f32⟩
  | .hbm, ⟨2, _⟩ => ⟨S1x256x416, .f32⟩
  | .hbm, ⟨3, _⟩ => ⟨S1x256x416, .f32⟩
  | .hbm, ⟨4, _⟩ => ⟨S1x64x16x96, .f32⟩
  | .hbm, ⟨5, _⟩ => ⟨S1x64x16x96, .f32⟩
  | .hbm, ⟨6, _⟩ => ⟨S1x64x16x96, .f32⟩
  | .hbm, ⟨7, _⟩ => ⟨S1x64x16x96, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S1x128x16x64, .f32⟩
  | .hbm, ⟨13, _⟩ => ⟨S1x128x16x64, .f32⟩
  | .hbm, ⟨14, _⟩ => ⟨S1x128x16x64, .f32⟩
  | .hbm, ⟨15, _⟩ => ⟨S1x128x16x64, .f32⟩
  | .hbm, ⟨16, _⟩ => ⟨S1x128x16x64, .f32⟩
  | .hbm, ⟨17, _⟩ => ⟨S1x128x16x64, .f32⟩
  | .hbm, ⟨18, _⟩ => ⟨S1x128x16x64, .f32⟩
  | .hbm, ⟨19, _⟩ => ⟨S1x128x16x64, .f32⟩
  | .hbm, ⟨20, _⟩ => ⟨S1x4x64x256, .f32⟩
  | .hbm, ⟨21, _⟩ => ⟨S1x4x64x256, .f32⟩
  | .hbm, ⟨22, _⟩ => ⟨S1x4x64x256, .f32⟩
  | .hbm, ⟨23, _⟩ => ⟨S1x4x64x256, .f32⟩
  | .hbm, ⟨24, _⟩ => ⟨S1x256x416, .f32⟩
  | .hbm, ⟨25, _⟩ => ⟨S1x256x416, .f32⟩
  | .hbm, ⟨26, _⟩ => ⟨S1x256x416, .f32⟩
  | .hbm, ⟨27, _⟩ => ⟨S1x64x16x96, .f32⟩
  | .hbm, ⟨28, _⟩ => ⟨S1x64x16x96, .f32⟩
  | .hbm, ⟨29, _⟩ => ⟨S1x64x16x96, .f32⟩
  | .hbm, ⟨30, _⟩ => ⟨S1x256x1024, .f32⟩
  | .hbm, ⟨31, _⟩ => ⟨S1x256x1024, .f32⟩
  | .hbm, ⟨32, _⟩ => ⟨S1x256x1024, .f32⟩
  | .hbm, ⟨33, _⟩ => ⟨S1x128x16x64, .f32⟩
  | .hbm, ⟨34, _⟩ => ⟨S1x128x16x64, .f32⟩
  | .hbm, ⟨35, _⟩ => ⟨S1x128x16x64, .f32⟩
  | .hbm, ⟨36, _⟩ => ⟨S1x128x16x64, .f32⟩
  | .hbm, ⟨37, _⟩ => ⟨S1x128x16x64, .f32⟩
  | .hbm, ⟨38, _⟩ => ⟨S1x128x16x64, .f32⟩
  | .hbm, ⟨39, _⟩ => ⟨S1x4x64x256, .f32⟩
  | .hbm, ⟨40, _⟩ => ⟨S1x4x64x256, .f32⟩
  | .hbm, ⟨41, _⟩ => ⟨S1x4x64x256, .f32⟩
  | .local _ .vmem, ⟨0, _⟩ => ⟨S1x256x416, .f32⟩
  | .local _ .vmem, ⟨1, _⟩ => ⟨S1x256x416, .f32⟩
  | .local _ .vmem, ⟨2, _⟩ => ⟨S1x256x416, .f32⟩
  | .local _ .vmem, ⟨3, _⟩ => ⟨S1x256x416, .f32⟩
  | .local _ .vmem, ⟨4, _⟩ => ⟨S1x64x16x96, .f32⟩
  | .local _ .vmem, ⟨5, _⟩ => ⟨S1x64x16x96, .f32⟩
  | .local _ .vmem, ⟨6, _⟩ => ⟨S1x64x16x96, .f32⟩
  | .local _ .vmem, ⟨7, _⟩ => ⟨S1x64x16x96, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x416, .f32⟩
  | .local _ .vmem, ⟨13, _⟩ => ⟨S1x256x416, .f32⟩
  | .local _ .vmem, ⟨14, _⟩ => ⟨S1x256x416, .f32⟩
  | .local _ .vmem, ⟨15, _⟩ => ⟨S1x64x16x96, .f32⟩
  | .local _ .vmem, ⟨16, _⟩ => ⟨S1x64x16x96, .f32⟩
  | .local _ .vmem, ⟨17, _⟩ => ⟨S1x64x16x96, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x128x16x64, .f32⟩
  | .local _ .vmem, ⟨22, _⟩ => ⟨S1x128x16x64, .f32⟩
  | .local _ .vmem, ⟨23, _⟩ => ⟨S1x128x16x64, .f32⟩
  | .local _ .vmem, ⟨24, _⟩ => ⟨S1x128x16x64, .f32⟩
  | .local _ .vmem, ⟨25, _⟩ => ⟨S1x128x16x64, .f32⟩
  | .local _ .vmem, ⟨26, _⟩ => ⟨S1x128x16x64, .f32⟩
  | .local _ .vmem, ⟨27, _⟩ => ⟨S1x128x16x64, .f32⟩
  | .local _ .vmem, ⟨28, _⟩ => ⟨S1x128x16x64, .f32⟩
  | .local _ .vmem, ⟨29, _⟩ => ⟨S1x128x16x64, .f32⟩
  | .local _ .vmem, ⟨30, _⟩ => ⟨S1x128x16x64, .f32⟩
  | .local _ .vmem, ⟨31, _⟩ => ⟨S1x128x16x64, .f32⟩
  | .local _ .vmem, ⟨32, _⟩ => ⟨S1x128x16x64, .f32⟩
  | .local _ .vmem, ⟨33, _⟩ => ⟨S1x128x16x64, .f32⟩
  | .local _ .vmem, ⟨34, _⟩ => ⟨S1x128x16x64, .f32⟩
  | .local _ .vmem, ⟨35, _⟩ => ⟨S1x4x64x256, .f32⟩
  | .local _ .vmem, ⟨36, _⟩ => ⟨S1x4x64x256, .f32⟩
  | .local _ .vmem, ⟨37, _⟩ => ⟨S1x4x64x256, .f32⟩
  | .local _ .vmem, ⟨38, _⟩ => ⟨S1x4x64x256, .f32⟩
  | .local _ .vmem, ⟨39, _⟩ => ⟨S1x4x64x256, .f32⟩
  | .local _ .vmem, ⟨40, _⟩ => ⟨S1x4x64x256, .f32⟩
  | .local _ .vmem, ⟨41, _⟩ => ⟨S1x4x64x256, .f32⟩
  | _, _ => ⟨S1x256x416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v0_4 : Ref sig .tc := ⟨.hbm, 28, rfl⟩
abbrev main_v0_5 : Ref sig .tc := ⟨.hbm, 29, rfl⟩
abbrev main_v0_6 : Ref sig .tc := ⟨.hbm, 30, rfl⟩
abbrev main_v0_7 : Ref sig .tc := ⟨.hbm, 31, rfl⟩
abbrev main_v0_8 : Ref sig .tc := ⟨.hbm, 32, rfl⟩
abbrev main_v1_0 : Ref sig .tc := ⟨.hbm, 33, rfl⟩
abbrev main_v1_1 : Ref sig .tc := ⟨.hbm, 34, rfl⟩
abbrev main_v1_2 : Ref sig .tc := ⟨.hbm, 35, rfl⟩
abbrev main_v1_3 : Ref sig .tc := ⟨.hbm, 36, rfl⟩
abbrev main_v1_4 : Ref sig .tc := ⟨.hbm, 37, rfl⟩
abbrev main_v1_5 : Ref sig .tc := ⟨.hbm, 38, rfl⟩
abbrev main_v2_0 : Ref sig .tc := ⟨.hbm, 39, rfl⟩
abbrev main_v2_1 : Ref sig .tc := ⟨.hbm, 40, rfl⟩
abbrev main_v2_2 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc1_stg0_0 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg13_0 : Ref sig .tc := ⟨.vmem, 34, rfl⟩
abbrev cc2_stg0_0 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem13_0 : DmaSem sig := 34
abbrev cc2_sem0_0 : DmaSem sig := 35
abbrev cc2_sem1_0 : DmaSem sig := 36
abbrev cc2_sem2_0 : DmaSem sig := 37
abbrev cc2_sem3_0 : DmaSem sig := 38
abbrev cc2_sem4_0 : DmaSem sig := 39
abbrev cc2_sem5_0 : DmaSem sig := 40
abbrev cc2_sem6_0 : DmaSem sig := 41

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x256x416 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256x416 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x416 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256x416 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64x16x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x16x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64x16x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64x16x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x416 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256x416 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256x416 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64x16x96 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64x16x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64x16x96 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev grid1 : Pipeline.Grid := ⟨1, ![1], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_9 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_11 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_12 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_13 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage1_0 : Fin 1 → Memref sig .tc .vmem S1x128x16x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x128x16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128x16x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128x16x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128x16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128x16x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128x16x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128x16x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128x16x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128x16x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128x16x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128x16x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128x16x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128x16x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![1], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage2_0 : Fin 1 → Memref sig .tc .vmem S1x4x64x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x4x64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4x64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4x64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4x64x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x4x64x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x4x64x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]
-- ==== Reference6Ideal.lean ====
abbrev S1x256x416 : Shape := ⟨3, ![1, 256, 416]⟩
abbrev S1x64x16x96 : Shape := ⟨4, ![1, 64, 16, 96]⟩
abbrev S1x256x1024 : Shape := ⟨3, ![1, 256, 1024]⟩
abbrev S1x128x16x64 : Shape := ⟨4, ![1, 128, 16, 64]⟩
abbrev S1x4x64x256 : Shape := ⟨4, ![1, 4, 64, 256]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1x256x416, .f32⟩
  | 1 => ⟨S1x256x416, .f32⟩
  | 2 => ⟨S1x256x416, .f32⟩
  | 3 => ⟨S1x256x416, .f32⟩
  | 4 => ⟨S1x64x16x96, .f32⟩
  | 5 => ⟨S1x64x16x96, .f32⟩
  | 6 => ⟨S1x64x16x96, .f32⟩
  | 7 => ⟨S1x64x16x96, .f32⟩
  | 8 => ⟨S1x256x1024, .f32⟩
  | 9 => ⟨S1x256x1024, .f32⟩
  | 10 => ⟨S1x256x1024, .f32⟩
  | 11 => ⟨S1x256x1024, .f32⟩
  | 12 => ⟨S1x128x16x64, .f32⟩
  | 13 => ⟨S1x128x16x64, .f32⟩
  | 14 => ⟨S1x128x16x64, .f32⟩
  | 15 => ⟨S1x128x16x64, .f32⟩
  | 16 => ⟨S1x128x16x64, .f32⟩
  | 17 => ⟨S1x128x16x64, .f32⟩
  | 18 => ⟨S1x128x16x64, .f32⟩
  | 19 => ⟨S1x128x16x64, .f32⟩
  | 20 => ⟨S1x4x64x256, .f32⟩
  | 21 => ⟨S1x4x64x256, .f32⟩
  | 22 => ⟨S1x4x64x256, .f32⟩
  | 23 => ⟨S1x4x64x256, .f32⟩
  | 24 => ⟨S_, .f32⟩
  | 25 => ⟨S1x256x416, .f32⟩
  | 26 => ⟨S1x256x416, .f32⟩
  | 27 => ⟨S_, .f32⟩
  | 28 => ⟨S1x256x416, .f32⟩
  | 29 => ⟨S1x256x416, .f32⟩
  | 30 => ⟨S1x256x416, .f32⟩
  | 31 => ⟨S_, .f32⟩
  | 32 => ⟨S1x256x416, .f32⟩
  | 33 => ⟨S1x256x416, .f32⟩
  | 34 => ⟨S1x256x416, .f32⟩
  | 35 => ⟨S_, .f32⟩
  | 36 => ⟨S1x256x416, .f32⟩
  | 37 => ⟨S1x256x416, .f32⟩
  | 38 => ⟨S1x256x416, .f32⟩
  | 39 => ⟨S_, .f32⟩
  | 40 => ⟨S1x256x416, .f32⟩
  | 41 => ⟨S1x256x416, .f32⟩
  | 42 => ⟨S_, .f32⟩
  | 43 => ⟨S1x256x416, .f32⟩
  | 44 => ⟨S1x256x416, .f32⟩
  | 45 => ⟨S1x256x416, .f32⟩
  | 46 => ⟨S_, .f32⟩
  | 47 => ⟨S1x256x416, .f32⟩
  | 48 => ⟨S1x256x416, .f32⟩
  | 49 => ⟨S1x256x416, .f32⟩
  | 50 => ⟨S_, .f32⟩
  | 51 => ⟨S1x256x416, .f32⟩
  | 52 => ⟨S1x256x416, .f32⟩
  | 53 => ⟨S1x256x416, .f32⟩
  | 54 => ⟨S_, .f32⟩
  | 55 => ⟨S1x256x416, .f32⟩
  | 56 => ⟨S1x256x416, .f32⟩
  | 57 => ⟨S_, .f32⟩
  | 58 => ⟨S1x64x16x96, .f32⟩
  | 59 => ⟨S1x64x16x96, .f32⟩
  | 60 => ⟨S_, .f32⟩
  | 61 => ⟨S1x64x16x96, .f32⟩
  | 62 => ⟨S1x64x16x96, .f32⟩
  | 63 => ⟨S1x64x16x96, .f32⟩
  | 64 => ⟨S_, .f32⟩
  | 65 => ⟨S1x64x16x96, .f32⟩
  | 66 => ⟨S1x64x16x96, .f32⟩
  | 67 => ⟨S1x64x16x96, .f32⟩
  | 68 => ⟨S_, .f32⟩
  | 69 => ⟨S1x64x16x96, .f32⟩
  | 70 => ⟨S1x64x16x96, .f32⟩
  | 71 => ⟨S1x64x16x96, .f32⟩
  | 72 => ⟨S_, .f32⟩
  | 73 => ⟨S1x64x16x96, .f32⟩
  | 74 => ⟨S1x64x16x96, .f32⟩
  | 75 => ⟨S_, .f32⟩
  | 76 => ⟨S1x64x16x96, .f32⟩
  | 77 => ⟨S1x64x16x96, .f32⟩
  | 78 => ⟨S1x64x16x96, .f32⟩
  | 79 => ⟨S_, .f32⟩
  | 80 => ⟨S1x64x16x96, .f32⟩
  | 81 => ⟨S1x64x16x96, .f32⟩
  | 82 => ⟨S1x64x16x96, .f32⟩
  | 83 => ⟨S_, .f32⟩
  | 84 => ⟨S1x64x16x96, .f32⟩
  | 85 => ⟨S1x64x16x96, .f32⟩
  | 86 => ⟨S1x64x16x96, .f32⟩
  | 87 => ⟨S_, .f32⟩
  | 88 => ⟨S1x64x16x96, .f32⟩
  | 89 => ⟨S1x64x16x96, .f32⟩
  | 90 => ⟨S_, .f32⟩
  | 91 => ⟨S1x256x1024, .f32⟩
  | 92 => ⟨S1x256x1024, .f32⟩
  | 93 => ⟨S_, .f32⟩
  | 94 => ⟨S1x256x1024, .f32⟩
  | 95 => ⟨S1x256x1024, .f32⟩
  | 96 => ⟨S1x256x1024, .f32⟩
  | 97 => ⟨S_, .f32⟩
  | 98 => ⟨S1x256x1024, .f32⟩
  | 99 => ⟨S1x256x1024, .f32⟩
  | 100 => ⟨S1x256x1024, .f32⟩
  | 101 => ⟨S_, .f32⟩
  | 102 => ⟨S1x256x1024, .f32⟩
  | 103 => ⟨S1x256x1024, .f32⟩
  | 104 => ⟨S1x256x1024, .f32⟩
  | 105 => ⟨S_, .f32⟩
  | 106 => ⟨S1x256x1024, .f32⟩
  | 107 => ⟨S1x256x1024, .f32⟩
  | 108 => ⟨S_, .f32⟩
  | 109 => ⟨S1x256x1024, .f32⟩
  | 110 => ⟨S1x256x1024, .f32⟩
  | 111 => ⟨S1x256x1024, .f32⟩
  | 112 => ⟨S_, .f32⟩
  | 113 => ⟨S1x256x1024, .f32⟩
  | 114 => ⟨S1x256x1024, .f32⟩
  | 115 => ⟨S1x256x1024, .f32⟩
  | 116 => ⟨S_, .f32⟩
  | 117 => ⟨S1x256x1024, .f32⟩
  | 118 => ⟨S1x256x1024, .f32⟩
  | 119 => ⟨S1x256x1024, .f32⟩
  | 120 => ⟨S_, .f32⟩
  | 121 => ⟨S1x256x1024, .f32⟩
  | 122 => ⟨S1x256x1024, .f32⟩
  | 123 => ⟨S_, .f32⟩
  | 124 => ⟨S1x128x16x64, .f32⟩
  | 125 => ⟨S1x128x16x64, .f32⟩
  | 126 => ⟨S_, .f32⟩
  | 127 => ⟨S1x128x16x64, .f32⟩
  | _ => ⟨S1x256x416, .f32⟩

abbrev hbmTy0_1 (i : Nat) : BufTy := match i % 128 with
  | 0 => ⟨S1x128x16x64, .f32⟩
  | 1 => ⟨S1x128x16x64, .f32⟩
  | 2 => ⟨S_, .f32⟩
  | 3 => ⟨S1x128x16x64, .f32⟩
  | 4 => ⟨S1x128x16x64, .f32⟩
  | 5 => ⟨S1x128x16x64, .f32⟩
  | 6 => ⟨S_, .f32⟩
  | 7 => ⟨S1x128x16x64, .f32⟩
  | 8 => ⟨S1x128x16x64, .f32⟩
  | 9 => ⟨S1x128x16x64, .f32⟩
  | 10 => ⟨S_, .f32⟩
  | 11 => ⟨S1x128x16x64, .f32⟩
  | 12 => ⟨S1x128x16x64, .f32⟩
  | 13 => ⟨S_, .f32⟩
  | 14 => ⟨S1x128x16x64, .f32⟩
  | 15 => ⟨S1x128x16x64, .f32⟩
  | 16 => ⟨S1x128x16x64, .f32⟩
  | 17 => ⟨S_, .f32⟩
  | 18 => ⟨S1x128x16x64, .f32⟩
  | 19 => ⟨S1x128x16x64, .f32⟩
  | 20 => ⟨S1x128x16x64, .f32⟩
  | 21 => ⟨S_, .f32⟩
  | 22 => ⟨S1x128x16x64, .f32⟩
  | 23 => ⟨S1x128x16x64, .f32⟩
  | 24 => ⟨S1x128x16x64, .f32⟩
  | 25 => ⟨S_, .f32⟩
  | 26 => ⟨S1x128x16x64, .f32⟩
  | 27 => ⟨S1x128x16x64, .f32⟩
  | 28 => ⟨S_, .f32⟩
  | 29 => ⟨S1x128x16x64, .f32⟩
  | 30 => ⟨S1x128x16x64, .f32⟩
  | 31 => ⟨S_, .f32⟩
  | 32 => ⟨S1x128x16x64, .f32⟩
  | 33 => ⟨S1x128x16x64, .f32⟩
  | 34 => ⟨S1x128x16x64, .f32⟩
  | 35 => ⟨S_, .f32⟩
  | 36 => ⟨S1x128x16x64, .f32⟩
  | 37 => ⟨S1x128x16x64, .f32⟩
  | 38 => ⟨S1x128x16x64, .f32⟩
  | 39 => ⟨S_, .f32⟩
  | 40 => ⟨S1x128x16x64, .f32⟩
  | 41 => ⟨S1x128x16x64, .f32⟩
  | 42 => ⟨S1x128x16x64, .f32⟩
  | 43 => ⟨S_, .f32⟩
  | 44 => ⟨S1x128x16x64, .f32⟩
  | 45 => ⟨S1x128x16x64, .f32⟩
  | 46 => ⟨S_, .f32⟩
  | 47 => ⟨S1x128x16x64, .f32⟩
  | 48 => ⟨S1x128x16x64, .f32⟩
  | 49 => ⟨S1x128x16x64, .f32⟩
  | 50 => ⟨S_, .f32⟩
  | 51 => ⟨S1x128x16x64, .f32⟩
  | 52 => ⟨S1x128x16x64, .f32⟩
  | 53 => ⟨S1x128x16x64, .f32⟩
  | 54 => ⟨S_, .f32⟩
  | 55 => ⟨S1x128x16x64, .f32⟩
  | 56 => ⟨S1x128x16x64, .f32⟩
  | 57 => ⟨S1x128x16x64, .f32⟩
  | 58 => ⟨S_, .f32⟩
  | 59 => ⟨S1x128x16x64, .f32⟩
  | 60 => ⟨S1x128x16x64, .f32⟩
  | 61 => ⟨S_, .f32⟩
  | 62 => ⟨S1x4x64x256, .f32⟩
  | 63 => ⟨S1x4x64x256, .f32⟩
  | 64 => ⟨S_, .f32⟩
  | 65 => ⟨S1x4x64x256, .f32⟩
  | 66 => ⟨S1x4x64x256, .f32⟩
  | 67 => ⟨S1x4x64x256, .f32⟩
  | 68 => ⟨S_, .f32⟩
  | 69 => ⟨S1x4x64x256, .f32⟩
  | 70 => ⟨S1x4x64x256, .f32⟩
  | 71 => ⟨S1x4x64x256, .f32⟩
  | 72 => ⟨S_, .f32⟩
  | 73 => ⟨S1x4x64x256, .f32⟩
  | 74 => ⟨S1x4x64x256, .f32⟩
  | 75 => ⟨S1x4x64x256, .f32⟩
  | 76 => ⟨S_, .f32⟩
  | 77 => ⟨S1x4x64x256, .f32⟩
  | 78 => ⟨S1x4x64x256, .f32⟩
  | 79 => ⟨S_, .f32⟩
  | 80 => ⟨S1x4x64x256, .f32⟩
  | 81 => ⟨S1x4x64x256, .f32⟩
  | 82 => ⟨S1x4x64x256, .f32⟩
  | 83 => ⟨S_, .f32⟩
  | 84 => ⟨S1x4x64x256, .f32⟩
  | 85 => ⟨S1x4x64x256, .f32⟩
  | 86 => ⟨S1x4x64x256, .f32⟩
  | 87 => ⟨S_, .f32⟩
  | 88 => ⟨S1x4x64x256, .f32⟩
  | 89 => ⟨S1x4x64x256, .f32⟩
  | 90 => ⟨S1x4x64x256, .f32⟩
  | 91 => ⟨S_, .f32⟩
  | 92 => ⟨S1x4x64x256, .f32⟩
  | 93 => ⟨S1x4x64x256, .f32⟩
  | _ => ⟨S1x256x416, .f32⟩

abbrev hbmTy (i : Nat) : BufTy := match i / 128 with
  | 0 => hbmTy0_0 i
  | 1 => hbmTy0_1 i
  | _ => ⟨S1x256x416, .f32⟩

abbrev bufTy : (tb : Table) → Fin (tcTables nBuf tb) → BufTy
  | .hbm, ⟨i, _⟩ => hbmTy i
  | _, _ => ⟨S1x256x416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel7.lean ====
abbrev S4096x16x128 : Shape := ⟨3, ![4096, 16, 128]⟩
abbrev S4096x1024 : Shape := ⟨2, ![4096, 1024]⟩
abbrev S1024 : Shape := ⟨1, ![1024]⟩
abbrev S128x16x64 : Shape := ⟨3, ![128, 16, 64]⟩
abbrev S1024x1024 : Shape := ⟨2, ![1024, 1024]⟩
abbrev S4096x2048 : Shape := ⟨2, ![4096, 2048]⟩
abbrev S_ : Shape := ⟨0, ![]⟩
abbrev S1x1024 : Shape := ⟨2, ![1, 1024]⟩
abbrev S5x1024 : Shape := ⟨2, ![5, 1024]⟩
abbrev S3x1024 : Shape := ⟨2, ![3, 1024]⟩
abbrev S8x1024 : Shape := ⟨2, ![8, 1024]⟩
abbrev S2x2 : Shape := ⟨2, ![2, 2]⟩
abbrev S16x128x64 : Shape := ⟨3, ![16, 128, 64]⟩
abbrev S8x2x128x64 : Shape := ⟨4, ![8, 2, 128, 64]⟩
abbrev S8x2x128x1x64 : Shape := ⟨5, ![8, 2, 128, 1, 64]⟩
abbrev S1x2x1x2x1 : Shape := ⟨5, ![1, 2, 1, 2, 1]⟩
abbrev S8x2x128x2x64 : Shape := ⟨5, ![8, 2, 128, 2, 64]⟩
abbrev S8x256x128 : Shape := ⟨3, ![8, 256, 128]⟩
abbrev S512x2048 : Shape := ⟨2, ![512, 2048]⟩
abbrev S512x1024 : Shape := ⟨2, ![512, 1024]⟩
abbrev S512x256 : Shape := ⟨2, ![512, 256]⟩
abbrev S1x256x128 : Shape := ⟨3, ![1, 256, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩

abbrev nBuf : Space → Nat
  | .hbm => 40
  | .vmem => 13
  | .smem => 0
  | _ => 0

abbrev bufTy : (tb : Table) → Fin (tcTables nBuf tb) → BufTy
  | .hbm, ⟨0, _⟩ => ⟨S4096x16x128, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S128x16x64, .f32⟩
  | .hbm, ⟨5, _⟩ => ⟨S1024x1024, .f32⟩
  | .hbm, ⟨6, _⟩ => ⟨S4096x2048, .f32⟩
  | .hbm, ⟨7, _⟩ => ⟨S4096x2048, .bf16⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S5x1024, .f32⟩
  | .hbm, ⟨16, _⟩ => ⟨S_, .f32⟩
  | .hbm, ⟨17, _⟩ => ⟨S3x1024, .f32⟩
  | .hbm, ⟨18, _⟩ => ⟨S8x1024, .f32⟩
  | .hbm, ⟨19, _⟩ => ⟨S2x2, .i32⟩
  | .hbm, ⟨20, _⟩ => ⟨S2x2, .i32⟩
  | .hbm, ⟨21, _⟩ => ⟨S_, .i32⟩
  | .hbm, ⟨22, _⟩ => ⟨S2x2, .i32⟩
  | .hbm, ⟨23, _⟩ => ⟨S2x2, .i32⟩
  | .hbm, ⟨24, _⟩ => ⟨S2x2, .i1⟩
  | .hbm, ⟨25, _⟩ => ⟨S2x2, .bf16⟩
  | .hbm, ⟨26, _⟩ => ⟨S128x16x64, .bf16⟩
  | .hbm, ⟨27, _⟩ => ⟨S16x128x64, .bf16⟩
  | .hbm, ⟨28, _⟩ => ⟨S8x2x128x64, .bf16⟩
  | .hbm, ⟨29, _⟩ => ⟨S8x2x128x1x64, .bf16⟩
  | .hbm, ⟨30, _⟩ => ⟨S1x2x1x2x1, .bf16⟩
  | .hbm, ⟨31, _⟩ => ⟨S8x2x128x2x64, .bf16⟩
  | .hbm, ⟨32, _⟩ => ⟨S8x2x128x2x64, .bf16⟩
  | .hbm, ⟨33, _⟩ => ⟨S8x2x128x2x64, .bf16⟩
  | .hbm, ⟨34, _⟩ => ⟨S8x256x128, .bf16⟩
  | .hbm, ⟨35, _⟩ => ⟨S1024x1024, .bf16⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x256x128, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4096x16x128 : Shape := ⟨3, ![4096, 16, 128]⟩
abbrev S4096x1024 : Shape := ⟨2, ![4096, 1024]⟩
abbrev S1024 : Shape := ⟨1, ![1024]⟩
abbrev S128x16x64 : Shape := ⟨3, ![128, 16, 64]⟩
abbrev S1024x1024 : Shape := ⟨2, ![1024, 1024]⟩
abbrev S16x64x4096 : Shape := ⟨3, ![16, 64, 4096]⟩
abbrev S4096x16x64 : Shape := ⟨3, ![4096, 16, 64]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S128x16x64, .f32⟩
  | .hbm, ⟨5, _⟩ => ⟨S1024x1024, .f32⟩
  | .hbm, ⟨6, _⟩ => ⟨S16x64x4096, .f32⟩
  | .hbm, ⟨7, _⟩ => ⟨S4096x16x64, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel8.lean ====
abbrev S2x9216 : Shape := ⟨2, ![2, 9216]⟩
abbrev S2x6x256 : Shape := ⟨3, ![2, 6, 256]⟩
abbrev S1x4x64 : Shape := ⟨3, ![1, 4, 64]⟩
abbrev S1x1024 : Shape := ⟨2, ![1, 1024]⟩
abbrev S1x64 : Shape := ⟨2, ![1, 64]⟩
abbrev S1x128 : Shape := ⟨2, ![1, 128]⟩
abbrev S18432 : Shape := ⟨1, ![18432]⟩
abbrev S3072 : Shape := ⟨1, ![3072]⟩
abbrev S256 : Shape := ⟨1, ![256]⟩
abbrev S1024 : Shape := ⟨1, ![1024]⟩
abbrev S64 : Shape := ⟨1, ![64]⟩
abbrev S128 : Shape := ⟨1, ![128]⟩
abbrev S22976 : Shape := ⟨1, ![22976]⟩
abbrev S_ : Shape := ⟨0, ![]⟩
abbrev S576 : Shape := ⟨1, ![576]⟩
abbrev S23552 : Shape := ⟨1, ![23552]⟩
abbrev S8x2944 : Shape := ⟨2, ![8, 2944]⟩

abbrev nBuf : Space → Nat
  | .hbm => 125
  | .vmem => 7
  | .smem => 0
  | _ => 0

abbrev bufTy : (tb : Table) → Fin (tcTables nBuf tb) → BufTy
  | .hbm, ⟨0, _⟩ => ⟨S2x9216, .f32⟩
  | .hbm, ⟨1, _⟩ => ⟨S2x9216, .f32⟩
  | .hbm, ⟨2, _⟩ => ⟨S2x9216, .f32⟩
  | .hbm, ⟨3, _⟩ => ⟨S2x9216, .f32⟩
  | .hbm, ⟨4, _⟩ => ⟨S2x6x256, .f32⟩
  | .hbm, ⟨5, _⟩ => ⟨S2x6x256, .f32⟩
  | .hbm, ⟨6, _⟩ => ⟨S2x6x256, .f32⟩
  | .hbm, ⟨7, _⟩ => ⟨S2x6x256, .f32⟩
  | .hbm, ⟨8, _⟩ => ⟨S1x4x64, .f32⟩
  | .hbm, ⟨9, _⟩ => ⟨S1x4x64, .f32⟩
  | .hbm, ⟨10, _⟩ => ⟨S1x4x64, .f32⟩
  | .hbm, ⟨11, _⟩ => ⟨S1x4x64, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S18432, .f32⟩
  | .hbm, ⟨25, _⟩ => ⟨S3072, .f32⟩
  | .hbm, ⟨26, _⟩ => ⟨S256, .f32⟩
  | .hbm, ⟨27, _⟩ => ⟨S1024, .f32⟩
  | .hbm, ⟨28, _⟩ => ⟨S64, .f32⟩
  | .hbm, ⟨29, _⟩ => ⟨S128, .f32⟩
  | .hbm, ⟨30, _⟩ => ⟨S22976, .f32⟩
  | .hbm, ⟨31, _⟩ => ⟨S_, .f32⟩
  | .hbm, ⟨32, _⟩ => ⟨S576, .f32⟩
  | .hbm, ⟨33, _⟩ => ⟨S23552, .f32⟩
  | .hbm, ⟨34, _⟩ => ⟨S8x2944, .f32⟩
  | .hbm, ⟨35, _⟩ => ⟨S18432, .f32⟩
  | .hbm, ⟨36, _⟩ => ⟨S3072, .f32⟩
  | .hbm, ⟨37, _⟩ => ⟨S256, .f32⟩
  | .hbm, ⟨38, _⟩ => ⟨S1024, .f32⟩
  | .hbm, ⟨39, _⟩ => ⟨S64, .f32⟩
  | .hbm, ⟨40, _⟩ => ⟨S128, .f32⟩
  | .hbm, ⟨41, _⟩ => ⟨S22976, .f32⟩
  | .hbm, ⟨42, _⟩ => ⟨S_, .f32⟩
  | .hbm, ⟨43, _⟩ => ⟨S576, .f32⟩
  | .hbm, ⟨44, _⟩ => ⟨S23552, .f32⟩
  | .hbm, ⟨45, _⟩ => ⟨S8x2944, .f32⟩
  | .hbm, ⟨46, _⟩ => ⟨S18432, .f32⟩
  | .hbm, ⟨47, _⟩ => ⟨S3072, .f32⟩
  | .hbm, ⟨48, _⟩ => ⟨S256, .f32⟩
  | .hbm, ⟨49, _⟩ => ⟨S1024, .f32⟩
  | .hbm, ⟨50, _⟩ => ⟨S64, .f32⟩
  | .hbm, ⟨51, _⟩ => ⟨S128, .f32⟩
  | .hbm, ⟨52, _⟩ => ⟨S22976, .f32⟩
  | .hbm, ⟨53, _⟩ => ⟨S_, .f32⟩
  | .hbm, ⟨54, _⟩ => ⟨S576, .f32⟩
  | .hbm, ⟨55, _⟩ => ⟨S23552, .f32⟩
  | .hbm, ⟨56, _⟩ => ⟨S8x2944, .f32⟩
  | .hbm, ⟨57, _⟩ => ⟨S18432, .f32⟩
  | .hbm, ⟨58, _⟩ => ⟨S3072, .f32⟩
  | .hbm, ⟨59, _⟩ => ⟨S256, .f32⟩
  | .hbm, ⟨60, _⟩ => ⟨S1024, .f32⟩
  | .hbm, ⟨61, _⟩ => ⟨S64, .f32⟩
  | .hbm, ⟨62, _⟩ => ⟨S128, .f32⟩
  | .hbm, ⟨63, _⟩ => ⟨S22976, .f32⟩
  | .hbm, ⟨64, _⟩ => ⟨S_, .f32⟩
  | .hbm, ⟨65, _⟩ => ⟨S576, .f32⟩
  | .hbm, ⟨66, _⟩ => ⟨S23552, .f32⟩
  | .hbm, ⟨67, _⟩ => ⟨S8x2944, .f32⟩
  | .hbm, ⟨68, _⟩ => ⟨S8x2944, .f32⟩
  | .hbm, ⟨69, _⟩ => ⟨S8x2944, .f32⟩
  | .hbm, ⟨70, _⟩ => ⟨S8x2944, .f32⟩
  | .hbm, ⟨71, _⟩ => ⟨S23552, .f32⟩
  | .hbm, ⟨72, _⟩ => ⟨S18432, .f32⟩
  | .hbm, ⟨73, _⟩ => ⟨S2x9216, .f32⟩
  | .hbm, ⟨74, _⟩ => ⟨S23552, .f32⟩
  | .hbm, ⟨75, _⟩ => ⟨S18432, .f32⟩
  | .hbm, ⟨76, _⟩ => ⟨S2x9216, .f32⟩
  | .hbm, ⟨77, _⟩ => ⟨S23552, .f32⟩
  | .hbm, ⟨78, _⟩ => ⟨S18432, .f32⟩
  | .hbm, ⟨79, _⟩ => ⟨S2x9216, .f32⟩
  | .hbm, ⟨80, _⟩ => ⟨S23552, .f32⟩
  | .hbm, ⟨81, _⟩ => ⟨S3072, .f32⟩
  | .hbm, ⟨82, _⟩ => ⟨S2x6x256, .f32⟩
  | .hbm, ⟨83, _⟩ => ⟨S23552, .f32⟩
  | .hbm, ⟨84, _⟩ => ⟨S3072, .f32⟩
  | .hbm, ⟨85, _⟩ => ⟨S2x6x256, .f32⟩
  | .hbm, ⟨86, _⟩ => ⟨S23552, .f32⟩
  | .hbm, ⟨87, _⟩ => ⟨S3072, .f32⟩
  | .hbm, ⟨88, _⟩ => ⟨S2x6x256, .f32⟩
  | .hbm, ⟨89, _⟩ => ⟨S23552, .f32⟩
  | .hbm, ⟨90, _⟩ => ⟨S256, .f32⟩
  | .hbm, ⟨91, _⟩ => ⟨S1x4x64, .f32⟩
  | .hbm, ⟨92, _⟩ => ⟨S23552, .f32⟩
  | .hbm, ⟨93, _⟩ => ⟨S256, .f32⟩
  | .hbm, ⟨94, _⟩ => ⟨S1x4x64, .f32⟩
  | .hbm, ⟨95, _⟩ => ⟨S23552, .f32⟩
  | .hbm, ⟨96, _⟩ => ⟨S256, .f32⟩
  | .hbm, ⟨97, _⟩ => ⟨S1x4x64, .f32⟩
  | .hbm, ⟨98, _⟩ => ⟨S23552, .f32⟩
  | .hbm, ⟨99, _⟩ => ⟨S1024, .f32⟩
  | .hbm, ⟨100, _⟩ => ⟨S1x1024, .f32⟩
  | .hbm, ⟨101, _⟩ => ⟨S23552, .f32⟩
  | .hbm, ⟨102, _⟩ => ⟨S1024, .f32⟩
  | .hbm, ⟨103, _⟩ => ⟨S1x1024, .f32⟩
  | .hbm, ⟨104, _⟩ => ⟨S23552, .f32⟩
  | .hbm, ⟨105, _⟩ => ⟨S1024, .f32⟩
  | .hbm, ⟨106, _⟩ => ⟨S1x1024, .f32⟩
  | .hbm, ⟨107, _⟩ => ⟨S23552, .f32⟩
  | .hbm, ⟨108, _⟩ => ⟨S64, .f32⟩
  | .hbm, ⟨109, _⟩ => ⟨S1x64, .f32⟩
  | .hbm, ⟨110, _⟩ => ⟨S23552, .f32⟩
  | .hbm, ⟨111, _⟩ => ⟨S64, .f32⟩
  | .hbm, ⟨112, _⟩ => ⟨S1x64, .f32⟩
  | .hbm, ⟨113, _⟩ => ⟨S23552, .f32⟩
  | .hbm, ⟨114, _⟩ => ⟨S64, .f32⟩
  | .hbm, ⟨115, _⟩ => ⟨S1x64, .f32⟩
  | .hbm, ⟨116, _⟩ => ⟨S23552, .f32⟩
  | .hbm, ⟨117, _⟩ => ⟨S128, .f32⟩
  | .hbm, ⟨118, _⟩ => ⟨S1x128, .f32⟩
  | .hbm, ⟨119, _⟩ => ⟨S23552, .f32⟩
  | .hbm, ⟨120, _⟩ => ⟨S128, .f32⟩
  | .hbm, ⟨121, _⟩ => ⟨S1x128, .f32⟩
  | .hbm, ⟨122, _⟩ => ⟨S23552, .f32⟩
  | .hbm, ⟨123, _⟩ => ⟨S128, .f32⟩
  | .hbm, ⟨124, _⟩ => ⟨S1x128, .f32⟩
  | .local _ .vmem, ⟨0, _⟩ => ⟨S8x2944, .f32⟩
  | .local _ .vmem, ⟨1, _⟩ => ⟨S8x2944, .f32⟩
  | .local _ .vmem, ⟨2, _⟩ => ⟨S8x2944, .f32⟩
  | .local _ .vmem, ⟨3, _⟩ => ⟨S8x2944, .f32⟩
  | .local _ .vmem, ⟨4, _⟩ => ⟨S8x2944, .f32⟩
  | .local _ .vmem, ⟨5, _⟩ => ⟨S8x2944, .f32⟩
  | .local _ .vmem, ⟨6, _⟩ => ⟨S8x2944, .f32⟩
  | _, _ => ⟨S2x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_2 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40_0 : Ref sig .tc := ⟨.hbm, 68, rfl⟩
abbrev main_v40_1 : Ref sig .tc := ⟨.hbm, 69, rfl⟩
abbrev main_v40_2 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x2944 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x2944 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x2944 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x2944 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x2944 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x2944 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S2x9216 : Shape := ⟨2, ![2, 9216]⟩
abbrev S2x6x256 : Shape := ⟨3, ![2, 6, 256]⟩
abbrev S1x4x64 : Shape := ⟨3, ![1, 4, 64]⟩
abbrev S1x1024 : Shape := ⟨2, ![1, 1024]⟩
abbrev S1x64 : Shape := ⟨2, ![1, 64]⟩
abbrev S1x128 : Shape := ⟨2, ![1, 128]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S2x9216, .f32⟩
  | 1 => ⟨S2x9216, .f32⟩
  | 2 => ⟨S2x9216, .f32⟩
  | 3 => ⟨S2x9216, .f32⟩
  | 4 => ⟨S2x6x256, .f32⟩
  | 5 => ⟨S2x6x256, .f32⟩
  | 6 => ⟨S2x6x256, .f32⟩
  | 7 => ⟨S2x6x256, .f32⟩
  | 8 => ⟨S1x4x64, .f32⟩
  | 9 => ⟨S1x4x64, .f32⟩
  | 10 => ⟨S1x4x64, .f32⟩
  | 11 => ⟨S1x4x64, .f32⟩
  | 12 => ⟨S1x1024, .f32⟩
  | 13 => ⟨S1x1024, .f32⟩
  | 14 => ⟨S1x1024, .f32⟩
  | 15 => ⟨S1x1024, .f32⟩
  | 16 => ⟨S1x64, .f32⟩
  | 17 => ⟨S1x64, .f32⟩
  | 18 => ⟨S1x64, .f32⟩
  | 19 => ⟨S1x64, .f32⟩
  | 20 => ⟨S1x128, .f32⟩
  | 21 => ⟨S1x128, .f32⟩
  | 22 => ⟨S1x128, .f32⟩
  | 23 => ⟨S1x128, .f32⟩
  | 24 => ⟨S_, .f32⟩
  | 25 => ⟨S2x9216, .f32⟩
  | 26 => ⟨S2x9216, .f32⟩
  | 27 => ⟨S_, .f32⟩
  | 28 => ⟨S2x9216, .f32⟩
  | 29 => ⟨S2x9216, .f32⟩
  | 30 => ⟨S2x9216, .f32⟩
  | 31 => ⟨S_, .f32⟩
  | 32 => ⟨S2x9216, .f32⟩
  | 33 => ⟨S2x9216, .f32⟩
  | 34 => ⟨S2x9216, .f32⟩
  | 35 => ⟨S_, .f32⟩
  | 36 => ⟨S2x9216, .f32⟩
  | 37 => ⟨S2x9216, .f32⟩
  | 38 => ⟨S2x9216, .f32⟩
  | 39 => ⟨S_, .f32⟩
  | 40 => ⟨S2x9216, .f32⟩
  | 41 => ⟨S2x9216, .f32⟩
  | 42 => ⟨S_, .f32⟩
  | 43 => ⟨S2x9216, .f32⟩
  | 44 => ⟨S2x9216, .f32⟩
  | 45 => ⟨S2x9216, .f32⟩
  | 46 => ⟨S_, .f32⟩
  | 47 => ⟨S2x9216, .f32⟩
  | 48 => ⟨S2x9216, .f32⟩
  | 49 => ⟨S2x9216, .f32⟩
  | 50 => ⟨S_, .f32⟩
  | 51 => ⟨S2x9216, .f32⟩
  | 52 => ⟨S2x9216, .f32⟩
  | 53 => ⟨S2x9216, .f32⟩
  | 54 => ⟨S_, .f32⟩
  | 55 => ⟨S2x9216, .f32⟩
  | 56 => ⟨S2x9216, .f32⟩
  | 57 => ⟨S_, .f32⟩
  | 58 => ⟨S2x6x256, .f32⟩
  | 59 => ⟨S2x6x256, .f32⟩
  | 60 => ⟨S_, .f32⟩
  | 61 => ⟨S2x6x256, .f32⟩
  | 62 => ⟨S2x6x256, .f32⟩
  | 63 => ⟨S2x6x256, .f32⟩
  | 64 => ⟨S_, .f32⟩
  | 65 => ⟨S2x6x256, .f32⟩
  | 66 => ⟨S2x6x256, .f32⟩
  | 67 => ⟨S2x6x256, .f32⟩
  | 68 => ⟨S_, .f32⟩
  | 69 => ⟨S2x6x256, .f32⟩
  | 70 => ⟨S2x6x256, .f32⟩
  | 71 => ⟨S2x6x256, .f32⟩
  | 72 => ⟨S_, .f32⟩
  | 73 => ⟨S2x6x256, .f32⟩
  | 74 => ⟨S2x6x256, .f32⟩
  | 75 => ⟨S_, .f32⟩
  | 76 => ⟨S2x6x256, .f32⟩
  | 77 => ⟨S2x6x256, .f32⟩
  | 78 => ⟨S2x6x256, .f32⟩
  | 79 => ⟨S_, .f32⟩
  | 80 => ⟨S2x6x256, .f32⟩
  | 81 => ⟨S2x6x256, .f32⟩
  | 82 => ⟨S2x6x256, .f32⟩
  | 83 => ⟨S_, .f32⟩
  | 84 => ⟨S2x6x256, .f32⟩
  | 85 => ⟨S2x6x256, .f32⟩
  | 86 => ⟨S2x6x256, .f32⟩
  | 87 => ⟨S_, .f32⟩
  | 88 => ⟨S2x6x256, .f32⟩
  | 89 => ⟨S2x6x256, .f32⟩
  | 90 => ⟨S_, .f32⟩
  | 91 => ⟨S1x4x64, .f32⟩
  | 92 => ⟨S1x4x64, .f32⟩
  | 93 => ⟨S_, .f32⟩
  | 94 => ⟨S1x4x64, .f32⟩
  | 95 => ⟨S1x4x64, .f32⟩
  | 96 => ⟨S1x4x64, .f32⟩
  | 97 => ⟨S_, .f32⟩
  | 98 => ⟨S1x4x64, .f32⟩
  | 99 => ⟨S1x4x64, .f32⟩
  | 100 => ⟨S1x4x64, .f32⟩
  | 101 => ⟨S_, .f32⟩
  | 102 => ⟨S1x4x64, .f32⟩
  | 103 => ⟨S1x4x64, .f32⟩
  | 104 => ⟨S1x4x64, .f32⟩
  | 105 => ⟨S_, .f32⟩
  | 106 => ⟨S1x4x64, .f32⟩
  | 107 => ⟨S1x4x64, .f32⟩
  | 108 => ⟨S_, .f32⟩
  | 109 => ⟨S1x4x64, .f32⟩
  | 110 => ⟨S1x4x64, .f32⟩
  | 111 => ⟨S1x4x64, .f32⟩
  | 112 => ⟨S_, .f32⟩
  | 113 => ⟨S1x4x64, .f32⟩
  | 114 => ⟨S1x4x64, .f32⟩
  | 115 => ⟨S1x4x64, .f32⟩
  | 116 => ⟨S_, .f32⟩
  | 117 => ⟨S1x4x64, .f32⟩
  | 118 => ⟨S1x4x64, .f32⟩
  | 119 => ⟨S1x4x64, .f32⟩
  | 120 => ⟨S_, .f32⟩
  | 121 => ⟨S1x4x64, .f32⟩
  | 122 => ⟨S1x4x64, .f32⟩
  | 123 => ⟨S_, .f32⟩
  | 124 => ⟨S1x1024, .f32⟩
  | 125 => ⟨S1x1024, .f32⟩
  | 126 => ⟨S_, .f32⟩
  | 127 => ⟨S1x1024, .f32⟩
  | _ => ⟨S2x9216, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x64, .f32⟩
  | 30 => ⟨S1x64, .f32⟩
  | 31 => ⟨S_, .f32⟩
  | 32 => ⟨S1x64, .f32⟩
  | 33 => ⟨S1x64, .f32⟩
  | 34 => ⟨S1x64, .f32⟩
  | 35 => ⟨S_, .f32⟩
  | 36 => ⟨S1x64, .f32⟩
  | 37 => ⟨S1x64, .f32⟩
  | 38 => ⟨S1x64, .f32⟩
  | 39 => ⟨S_, .f32⟩
  | 40 => ⟨S1x64, .f32⟩
  | 41 => ⟨S1x64, .f32⟩
  | 42 => ⟨S1x64, .f32⟩
  | 43 => ⟨S_, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S1x64, .f32⟩
  | 50 => ⟨S_, .f32⟩
  | 51 => ⟨S1x64, .f32⟩
  | 52 => ⟨S1x64, .f32⟩
  | 53 => ⟨S1x64, .f32⟩
  | 54 => ⟨S_, .f32⟩
  | 55 => ⟨S1x64, .f32⟩
  | 56 => ⟨S1x64, .f32⟩
  | 57 => ⟨S1x64, .f32⟩
  | 58 => ⟨S_, .f32⟩
  | 59 => ⟨S1x64, .f32⟩
  | 60 => ⟨S1x64, .f32⟩
  | 61 => ⟨S_, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S1x128, .f32⟩
  | 68 => ⟨S_, .f32⟩
  | 69 => ⟨S1x128, .f32⟩
  | 70 => ⟨S1x128, .f32⟩
  | 71 => ⟨S1x128, .f32⟩
  | 72 => ⟨S_, .f32⟩
  | 73 => ⟨S1x128, .f32⟩
  | 74 => ⟨S1x128, .f32⟩
  | 75 => ⟨S1x128, .f32⟩
  | 76 => ⟨S_, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S_, .f32⟩
  | 88 => ⟨S1x128, .f32⟩
  | 89 => ⟨S1x128, .f32⟩
  | 90 => ⟨S1x128, .f32⟩
  | 91 => ⟨S_, .f32⟩
  | 92 => ⟨S1x128, .f32⟩
  | 93 => ⟨S1x128, .f32⟩
  | _ => ⟨S2x9216, .f32⟩

abbrev hbmTy (i : Nat) : BufTy := match i / 128 with
  | 0 => hbmTy0_0 i
  | 1 => hbmTy0_1 i
  | _ => ⟨S2x9216, .f32⟩

abbrev bufTy : (tb : Table) → Fin (tcTables nBuf tb) → BufTy
  | .hbm, ⟨i, _⟩ => hbmTy i
  | _, _ => ⟨S2x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Proof.Real.lean ====
module
public import Idealize.ShloMosaic.PureOps.Ideal.Laws
public import Idealize.ShloMosaic.PureOps.Ideal
public import Mathlib.Analysis.SpecialFunctions.Log.Basic
public import Mathlib.Data.EReal.Operations
public import Mathlib.Algebra.BigOperators.Field

/-! # Softmax attention and its gradient over the real numbers

Queries have a latent part `A0` and a rotary part `A1`, keys a latent part `A2` and a rotary part `A3`, and the
values are the latent keys. `A4` is the cotangent of the output. Everything here is a real number: the two programs
are read against these formulas. -/

@[expose] public section

namespace Cert.Hand
open Idealize.ShloMosaic

/-! ## Real numbers inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of a row of reals, folded from `-∞`, is the real maximum. -/
theorem fold_max_coe (n : ℕ) [NeZero n] (f : Fin n → ℝ) :
    Finset.univ.fold max (⊥ : EReal) (fun k => (f k : EReal))
      = ((Finset.univ.sup' ⟨(0 : Fin n), Finset.mem_univ _⟩ f : ℝ) : EReal) := by
  have h1 : Finset.univ.fold max (⊥ : EReal) (fun k => (f k : EReal)) = Finset.univ.sup (fun k => (f k : EReal)) := rfl
  rw [h1, ← Finset.sup'_eq_sup ⟨(0 : Fin n), Finset.mem_univ _⟩]
  exact (Finset.comp_sup'_eq_sup'_comp ⟨(0 : Fin n), Finset.mem_univ _⟩ (fun x : ℝ => (x : EReal))
    (fun x y => EReal.coe_strictMono.monotone.map_max)).symm

/-- An extended real whose absolute value is less than infinity is a real. -/
theorem eq_coe_of_abs_lt {x : EReal} (h : max x (-x) < ⊤) : x = ((x.toReal : ℝ) : EReal) := by
  refine (EReal.coe_toReal ?_ ?_).symm
  · rintro rfl; simp at h
  · rintro rfl; simp at h

/-! ## The forward pass -/

variable (κ : ℝ) (A0 : Fin 4096 → Fin 16 → Fin 128 → ℝ) (A1 : Fin 4096 → Fin 16 → Fin 32 → ℝ)
  (A2 : Fin 4096 → Fin 128 → ℝ) (A3 : Fin 4096 → Fin 32 → ℝ) (A4 : Fin 4096 → Fin 16 → Fin 128 → ℝ)

/-- The score head `h` gives key `k` at query `q`. -/
noncomputable def score (h : Fin 16) (q k : Fin 4096) : ℝ :=
  ∑ c, A2 k c * (A0 q h c * κ) + ∑ r, A3 k r * (A1 q h r * κ)

/-- The greatest score of a row. -/
noncomputable def top (h : Fin 16) (q : Fin 4096) : ℝ :=
  Finset.univ.sup' ⟨(0 : Fin 4096), Finset.mem_univ _⟩ fun k => score κ A0 A1 A2 A3 h q k

/-- The weight of a key before it is normalised. -/
noncomputable def weight (h : Fin 16) (q k : Fin 4096) : ℝ :=
  Real.exp (score κ A0 A1 A2 A3 h q k - top κ A0 A1 A2 A3 h q)

/-- The sum of a row's weights. -/
noncomputable def mass (h : Fin 16) (q : Fin 4096) : ℝ := ∑ k, weight κ A0 A1 A2 A3 h q k

theorem mass_pos (h : Fin 16) (q : Fin 4096) : 0 < mass κ A0 A1 A2 A3 h q :=
  Finset.sum_pos (fun _ _ => Real.exp_pos _) ⟨(0 : Fin 4096), Finset.mem_univ _⟩

/-- The probability of a key. -/
noncomputable def prb (h : Fin 16) (q k : Fin 4096) : ℝ := weight κ A0 A1 A2 A3 h q k / mass κ A0 A1 A2 A3 h q

/-- The logarithm of the sum of the exponentials of a row. -/
noncomputable def lse (h : Fin 16) (q : Fin 4096) : ℝ := top κ A0 A1 A2 A3 h q + Real.log (mass κ A0 A1 A2 A3 h q)

/-- The probability, from the saved logarithm. -/
theorem exp_sub_lse (h : Fin 16) (q k : Fin 4096) :
    Real.exp (score κ A0 A1 A2 A3 h q k - lse κ A0 A1 A2 A3 h q) = prb κ A0 A1 A2 A3 h q k := by
  unfold lse prb weight
  rw [← sub_sub, Real.exp_sub, Real.exp_log (mass_pos κ A0 A1 A2 A3 h q)]

/-- The output of attention. -/
noncomputable def outp (h : Fin 16) (q : Fin 4096) (v : Fin 128) : ℝ := ∑ k, prb κ A0 A1 A2 A3 h q k * A2 k v

/-! ## The backward pass -/

/-- The cotangent of a probability. -/
noncomputable def dprb (h : Fin 16) (q k : Fin 4096) : ℝ := ∑ v, A2 k v * A4 q h v

/-- The inner product of a row's output and its cotangent. -/
noncomputable def delta (h : Fin 16) (q : Fin 4096) : ℝ := ∑ v, A4 q h v * outp κ A0 A1 A2 A3 h q v

/-- The same inner product, taken over the probabilities. -/
theorem delta_eq (h : Fin 16) (q : Fin 4096) :
    delta κ A0 A1 A2 A3 A4 h q = ∑ k, dprb A2 A4 h q k * prb κ A0 A1 A2 A3 h q k := by
  unfold delta outp dprb
  simp only [Finset.mul_sum, Finset.sum_mul]
  rw [Finset.sum_comm]
  exact Finset.sum_congr rfl fun k _ => Finset.sum_congr rfl fun v _ => by ring

/-- The cotangent of a score. -/
noncomputable def dsc (h : Fin 16) (q k : Fin 4096) : ℝ :=
  prb κ A0 A1 A2 A3 h q k * (dprb A2 A4 h q k - delta κ A0 A1 A2 A3 A4 h q)

/-- The cotangent of a score as differentiating a quotient gives it. -/
theorem quotient_rule (h : Fin 16) (q k : Fin 4096) :
    (dprb A2 A4 h q k * (1 / mass κ A0 A1 A2 A3 h q) + -(∑ j, dprb A2 A4 h q j *
        (1 / (mass κ A0 A1 A2 A3 h q * mass κ A0 A1 A2 A3 h q)) * weight κ A0 A1 A2 A3 h q j)) *
      weight κ A0 A1 A2 A3 h q k = dsc κ A0 A1 A2 A3 A4 h q k := by
  have hl := (mass_pos κ A0 A1 A2 A3 h q).ne'
  have e : (∑ j, dprb A2 A4 h q j * (1 / (mass κ A0 A1 A2 A3 h q * mass κ A0 A1 A2 A3 h q)) * weight κ A0 A1 A2 A3 h q j)
      = delta κ A0 A1 A2 A3 A4 h q * (1 / mass κ A0 A1 A2 A3 h q) := by
    rw [delta_eq, Finset.sum_mul]
    refine Finset.sum_congr rfl fun j _ => ?_
    unfold prb
    field_simp
  rw [e]
  unfold dsc prb
  field_simp
  ring

/-- The gradient of the latent queries. -/
noncomputable def gA0 (q : Fin 4096) (h : Fin 16) (c : Fin 128) : ℝ := (∑ k, dsc κ A0 A1 A2 A3 A4 h q k * A2 k c) * κ
/-- The gradient of the rotary queries. -/
noncomputable def gA1 (q : Fin 4096) (h : Fin 16) (r : Fin 32) : ℝ := (∑ k, dsc κ A0 A1 A2 A3 A4 h q k * A3 k r) * κ
/-- The gradient of the latent keys: through the values and through the scores. -/
noncomputable def gA2 (k : Fin 4096) (c : Fin 128) : ℝ :=
  ∑ h, ∑ q, prb κ A0 A1 A2 A3 h q k * A4 q h c + ∑ h, ∑ q, dsc κ A0 A1 A2 A3 A4 h q k * (A0 q h c * κ)
/-- The gradient of the rotary keys. -/
noncomputable def gA3 (k : Fin 4096) (r : Fin 32) : ℝ := ∑ h, ∑ q, dsc κ A0 A1 A2 A3 A4 h q k * (A1 q h r * κ)

end Cert.Hand
-- ==== Proof.Reference.lean ====
module
public import proofs.«01_k».proof.Proof.Gen.ReferenceIdeal.Read
public import proofs.«01_k».proof.Proof.Real
public import Idealize.ShloMosaic.Lib.Pointwise

/-! # The reference's stages at an index, over real arguments

Each stage that carries a value of its own is read at an index as the extended real of a formula of `Real`. -/

@[expose] public section
set_option maxRecDepth 16384

namespace Cert.Hand
open Idealize.ShloMosaic
open Cert.ReferenceIdeal Cert.ReferenceIdeal.Read

/-- The scale of the scores. -/
noncomputable def kap : ℝ := (Ideal.ofBits .f32 0x3DD105EC#32).toReal

theorem kap_eq : Ideal.ofBits .f32 0x3DD105EC#32 = ((kap : ℝ) : EReal) := by
  have h : ∃ r : ℝ, Ideal.ofBits .f32 0x3DD105EC#32 = (r : EReal) := by
    refine ⟨(13698540 : ℝ) * (2 ^ 27 : ℝ)⁻¹, ?_⟩
    simp [Ideal.ofBits, Ideal.ieee]
  obtain ⟨r, h⟩ := h
  unfold kap
  rw [h, EReal.toReal_coe]

theorem neg_inf : Ideal.ofBits .f32 0xFF800000#32 = (⊥ : EReal) := by
  simp [Ideal.ofBits, Ideal.ieee]

/-- A row's greatest score, for any scores. -/
theorem row_max (y : Vec Ideal S16x4096x4096 .f32) (z : Vec Ideal S_ .f32) (h : Fin 16) (q : Fin 4096) :
    Host.reduce (FloatOps.maximumf (F := Ideal) (φ := .f32)) y z Gen.reducesTo_S16x4096x4096_S16x4096_d2 Gen.h_S_ (ix2 h q)
      = Finset.univ.fold max (z (Shape.Idx.first Gen.h_S_)) fun k : Fin 4096 => y (ix3 h q k) := by
  pointwise

/-- The real arrays behind the arguments. -/
structure Args where
  A0 : Fin 4096 → Fin 16 → Fin 128 → ℝ
  A1 : Fin 4096 → Fin 16 → Fin 32 → ℝ
  A2 : Fin 4096 → Fin 128 → ℝ
  A3 : Fin 4096 → Fin 32 → ℝ
  A4 : Fin 4096 → Fin 16 → Fin 128 → ℝ

/-- The arguments are those real arrays. -/
structure Holds (a0 : (⟨S4096x16x128, .f32⟩ : BufTy).Contents (Elt Ideal)) (a1 : (⟨S4096x16x32, .f32⟩ : BufTy).Contents (Elt Ideal))
    (a2 : (⟨S4096x128, .f32⟩ : BufTy).Contents (Elt Ideal)) (a3 : (⟨S4096x32, .f32⟩ : BufTy).Contents (Elt Ideal))
    (a4 : (⟨S4096x16x128, .f32⟩ : BufTy).Contents (Elt Ideal)) (A : Args) : Prop where
  h0 : ∀ q h c, a0 (ix3 q h c) = ((A.A0 q h c : ℝ) : EReal)
  h1 : ∀ q h r, a1 (ix3 q h r) = ((A.A1 q h r : ℝ) : EReal)
  h2 : ∀ k c, a2 (ix2 k c) = ((A.A2 k c : ℝ) : EReal)
  h3 : ∀ k r, a3 (ix2 k r) = ((A.A3 k r : ℝ) : EReal)
  h4 : ∀ q h c, a4 (ix3 q h c) = ((A.A4 q h c : ℝ) : EReal)

variable {a0 : (⟨S4096x16x128, .f32⟩ : BufTy).Contents (Elt Ideal)} {a1 : (⟨S4096x16x32, .f32⟩ : BufTy).Contents (Elt Ideal)}
  {a2 : (⟨S4096x128, .f32⟩ : BufTy).Contents (Elt Ideal)} {a3 : (⟨S4096x32, .f32⟩ : BufTy).Contents (Elt Ideal)}
  {a4 : (⟨S4096x16x128, .f32⟩ : BufTy).Contents (Elt Ideal)} {A : Args}

/-- The scaled latent queries. -/
theorem v1_at (H : Holds a0 a1 a2 a3 a4 A) (q : Fin 4096) (h : Fin 16) (c : Fin 128) :
    val_main_v1 (F := Ideal) a0 (ix3 q h c) = ((A.A0 q h c * kap : ℝ) : EReal) := by
  pointwise [val_main_v1, val_main_v0, val_main_cst]
  rw [H.h0, EReal.coe_mul, ← kap_eq]

/-- The scaled rotary queries. -/
theorem v3_at (H : Holds a0 a1 a2 a3 a4 A) (q : Fin 4096) (h : Fin 16) (r : Fin 32) :
    val_main_v3 (F := Ideal) a1 (ix3 q h r) = ((A.A1 q h r * kap : ℝ) : EReal) := by
  pointwise [val_main_v3, val_main_v2, val_main_cst_0]
  rw [H.h1, EReal.coe_mul, ← kap_eq]

/-- The scores. -/
theorem v8_at (H : Holds a0 a1 a2 a3 a4 A) (h : Fin 16) (q k : Fin 4096) :
    val_main_v8 (F := Ideal) a0 a1 a2 a3 (ix3 h q k) = ((score kap A.A0 A.A1 A.A2 A.A3 h q k : ℝ) : EReal) := by
  pointwise [val_main_v8, val_main_v5, val_main_v4, val_main_v7, val_main_v6]
  simp only [v1_at H, v3_at H, H.h2, H.h3, score, EReal.coe_add, coe_sum, EReal.coe_mul]

/-- The greatest score of a row. -/
theorem v9_at (H : Holds a0 a1 a2 a3 a4 A) (h : Fin 16) (q : Fin 4096) :
    val_main_v9 (F := Ideal) a0 a1 a2 a3 (ix2 h q) = ((top kap A.A0 A.A1 A.A2 A.A3 h q : ℝ) : EReal) := by
  unfold val_main_v9
  rw [row_max]
  have e : (val_main_cst_1 (F := Ideal)) (Shape.Idx.first Gen.h_S_) = (⊥ : EReal) := neg_inf
  rw [e]
  simp only [v8_at H]
  exact fold_max_coe 4096 _

/-- The same, beside `-∞`. -/
theorem v16_at (H : Holds a0 a1 a2 a3 a4 A) (h : Fin 16) (q : Fin 4096) :
    val_main_v16 (F := Ideal) a0 a1 a2 a3 (ix2 h q) = ((top kap A.A0 A.A1 A.A2 A.A3 h q : ℝ) : EReal) := by
  rw [val_main_v16_apply, v9_at H]
  have e : val_main_v15 (F := Ideal) (ix2 h q) = (⊥ : EReal) := by
    rw [val_main_v15_apply, val_main_cst_3_apply]; exact neg_inf
  rw [e]
  exact max_eq_right bot_le

/-- The weights. -/
theorem v29_at (H : Holds a0 a1 a2 a3 a4 A) (h : Fin 16) (q k : Fin 4096) :
    val_main_v29 (F := Ideal) a0 a1 a2 a3 (ix3 h q k) = ((weight kap A.A0 A.A1 A.A2 A.A3 h q k : ℝ) : EReal) := by
  pointwise [val_main_v29, val_main_v28, val_main_v27, val_main_v26]
  rw [v8_at H, v16_at H, ← EReal.coe_sub, Ideal.exp_coe]
  rfl

/-- The sum of a row's weights. -/
theorem v31_at (H : Holds a0 a1 a2 a3 a4 A) (h : Fin 16) (q : Fin 4096) (z : Fin 1) :
    val_main_v31 (F := Ideal) a0 a1 a2 a3 (ix3 h q z) = ((mass kap A.A0 A.A1 A.A2 A.A3 h q : ℝ) : EReal) := by
  pointwise [val_main_v31, val_main_v30]
  have e : (val_main_cst_9 (F := Ideal)) (Shape.Idx.first Gen.h_S_) = (0 : EReal) := Ideal.ofBits_zero_f32
  rw [e, zero_add]
  simp only [v29_at H, mass, coe_sum]

/-- The probabilities. -/
theorem v33_at (H : Holds a0 a1 a2 a3 a4 A) (h : Fin 16) (q k : Fin 4096) :
    val_main_v33 (F := Ideal) a0 a1 a2 a3 (ix3 h q k) = ((prb kap A.A0 A.A1 A.A2 A.A3 h q k : ℝ) : EReal) := by
  pointwise [val_main_v33, val_main_v32]
  rw [v29_at H, v31_at H, Ideal.div_coe (mass_pos kap A.A0 A.A1 A.A2 A.A3 h q).ne', ← EReal.coe_mul, prb, mul_one_div]

/-- The cotangent of the probabilities. -/
theorem v40_at (H : Holds a0 a1 a2 a3 a4 A) (h : Fin 16) (q k : Fin 4096) :
    val_main_v40 (F := Ideal) a2 a4 (ix3 h q k) = ((dprb A.A2 A.A4 h q k : ℝ) : EReal) := by
  pointwise [val_main_v40, val_main_v39]
  simp only [H.h2, H.h4, dprb, coe_sum, ← EReal.coe_mul, mul_comm]

/-- One over a row's sum squared. -/
theorem v36_at (H : Holds a0 a1 a2 a3 a4 A) (h : Fin 16) (q : Fin 4096) (z : Fin 1) :
    val_main_v36 (F := Ideal) a0 a1 a2 a3 (ix3 h q z)
      = ((1 / (mass kap A.A0 A.A1 A.A2 A.A3 h q * mass kap A.A0 A.A1 A.A2 A.A3 h q) : ℝ) : EReal) := by
  have hl := (mass_pos kap A.A0 A.A1 A.A2 A.A3 h q).ne'
  rw [val_main_v36_apply, val_main_v34_apply, val_main_v35_apply, val_main_cst_10_apply, v31_at H]
  show Ideal.div (Ideal.ofBits .f32 0x3F800000#32) _ = _
  rw [Ideal.ofBits_one_f32]
  show Ideal.div 1 (((mass kap A.A0 A.A1 A.A2 A.A3 h q : ℝ) : EReal) * ((mass kap A.A0 A.A1 A.A2 A.A3 h q : ℝ) : EReal)) = _
  rw [← EReal.coe_mul, Ideal.div_coe (mul_ne_zero hl hl), one_mul]

/-- The sum the quotient rule takes from a row. -/
theorem v46_at (H : Holds a0 a1 a2 a3 a4 A) (h : Fin 16) (q : Fin 4096) :
    val_main_v46 (F := Ideal) a0 a1 a2 a3 a4 (ix2 h q)
      = ((∑ j, dprb A.A2 A.A4 h q j * (1 / (mass kap A.A0 A.A1 A.A2 A.A3 h q * mass kap A.A0 A.A1 A.A2 A.A3 h q))
            * weight kap A.A0 A.A1 A.A2 A.A3 h q j : ℝ) : EReal) := by
  pointwise [val_main_v46, val_main_v45, val_main_v44, val_main_v43]
  have e : (val_main_cst_11 (F := Ideal)) (Shape.Idx.first Gen.h_S_) = (0 : EReal) := Ideal.ofBits_zero_f32
  rw [e, zero_add]
  simp only [v40_at H, v36_at H, v29_at H, coe_sum, EReal.coe_mul]

/-- The cotangent of the scores. -/
theorem v54_at (H : Holds a0 a1 a2 a3 a4 A) (h : Fin 16) (q k : Fin 4096) :
    val_main_v54 (F := Ideal) a0 a1 a2 a3 a4 (ix3 h q k) = ((dsc kap A.A0 A.A1 A.A2 A.A3 A.A4 h q k : ℝ) : EReal) := by
  have hl := (mass_pos kap A.A0 A.A1 A.A2 A.A3 h q).ne'
  pointwise [val_main_v54, val_main_v53, val_main_v52, val_main_v51, val_main_v50, val_main_v49, val_main_v48, val_main_v47]
  have e : (val_main_cst_12 (F := Ideal)) (Shape.Idx.first Gen.h_S_) = (0 : EReal) := Ideal.ofBits_zero_f32
  rw [e, Fin.sum_univ_one]
  simp only [v40_at H, v31_at H, v29_at H, v46_at H, Ideal.div_coe hl, ← EReal.coe_mul, ← EReal.coe_neg, ← EReal.coe_add, zero_add,
    quotient_rule]

/-- The gradient of the latent queries. -/
theorem v65_at (H : Holds a0 a1 a2 a3 a4 A) (q : Fin 4096) (h : Fin 16) (c : Fin 128) :
    val_main_v65 (F := Ideal) a0 a1 a2 a3 a4 (ix3 q h c) = ((gA0 kap A.A0 A.A1 A.A2 A.A3 A.A4 q h c : ℝ) : EReal) := by
  pointwise [val_main_v65, val_main_v64, val_main_cst_14, val_main_v59, val_main_v58]
  simp only [v54_at H, H.h2, kap_eq, gA0, coe_sum, EReal.coe_mul]

/-- The gradient of the rotary queries. -/
theorem v63_at (H : Holds a0 a1 a2 a3 a4 A) (q : Fin 4096) (h : Fin 16) (r : Fin 32) :
    val_main_v63 (F := Ideal) a0 a1 a2 a3 a4 (ix3 q h r) = ((gA1 kap A.A0 A.A1 A.A2 A.A3 A.A4 q h r : ℝ) : EReal) := by
  pointwise [val_main_v63, val_main_v62, val_main_cst_13, val_main_v56, val_main_v55]
  simp only [v54_at H, H.h3, kap_eq, gA1, coe_sum, EReal.coe_mul]

/-- The gradient of the latent keys. -/
theorem v61_at (H : Holds a0 a1 a2 a3 a4 A) (k : Fin 4096) (c : Fin 128) :
    val_main_v61 (F := Ideal) a0 a1 a2 a3 a4 (ix2 k c) = ((gA2 kap A.A0 A.A1 A.A2 A.A3 A.A4 k c : ℝ) : EReal) := by
  pointwise [val_main_v61, val_main_v42, val_main_v41, val_main_v39, val_main_v60, val_main_v58]
  simp only [v54_at H, v33_at H, v1_at H, H.h4, gA2, EReal.coe_add, coe_sum, EReal.coe_mul, mul_comm]
  exact congrArg _ Finset.sum_comm

/-- The gradient of the rotary keys. -/
theorem v57_at (H : Holds a0 a1 a2 a3 a4 A) (k : Fin 4096) (r : Fin 32) :
    val_main_v57 (F := Ideal) a0 a1 a2 a3 a4 (ix2 k r) = ((gA3 kap A.A0 A.A1 A.A2 A.A3 A.A4 k r : ℝ) : EReal) := by
  pointwise [val_main_v57, val_main_v55]
  simp only [v54_at H, v3_at H, gA3, coe_sum, EReal.coe_mul]
  exact Finset.sum_comm

end Cert.Hand
-- ==== Proof.Stages.lean ====
module
public import proofs.«01_k».proof.Proof.Gen.KernelIdeal
public import proofs.«01_k».proof.Proof.Reference

/-! # What the kernel's program computes before the call

The stages of the program around the call, as functions of its arguments, and each of them at an index over real
arguments. -/

@[expose] public section
set_option maxRecDepth 16384

namespace Cert.KernelIdeal.Hand
open Idealize.ShloMosaic
open Cert.KernelIdeal Cert.KernelIdeal.Gen
open Cert.Hand (Args Holds kap kap_eq neg_inf row_max coe_sum fold_max_coe score top weight mass mass_pos prb lse outp delta)

variable (a0 : FVec Ideal S4096x16x128 .f32) (a1 : FVec Ideal S4096x16x32 .f32) (a2 : FVec Ideal S4096x128 .f32)
  (a3 : FVec Ideal S4096x32 .f32) (a4 : FVec Ideal S4096x16x128 .f32)

/-- The scaled latent queries. -/
noncomputable def kQ0 : FVec Ideal S4096x16x128 .f32 :=
  mulf a0 (broadcastInDim S4096x16x128 ![] bcast_S_S4096x16x128 (constant (F := Ideal) S_ .f32 0x3DD105EC#32))

/-- The scaled rotary queries. -/
noncomputable def kQ1 : FVec Ideal S4096x16x32 .f32 :=
  mulf a1 (broadcastInDim S4096x16x32 ![] bcast_S_S4096x16x32 (constant (F := Ideal) S_ .f32 0x3DD105EC#32))

/-- The scores. -/
noncomputable def kS : FVec Ideal S16x4096x4096 .f32 :=
  addf (transpose S16x4096x4096 [2, 1, 0]
      (Host.dotGeneral dot_S4096x128_S4096x16x128_S4096x4096x16_1_2_0_01_n_n none a2 (kQ0 a0) : FVec Ideal S4096x4096x16 .f32)
      transposes_S4096x4096x16_S16x4096x4096_2_1_0)
    (transpose S16x4096x4096 [2, 1, 0]
      (Host.dotGeneral dot_S4096x32_S4096x16x32_S4096x4096x16_1_2_0_01_n_n none a3 (kQ1 a1) : FVec Ideal S4096x4096x16 .f32)
      transposes_S4096x4096x16_S16x4096x4096_2_1_0)

/-- The greatest score of each row. -/
noncomputable def kTop : FVec Ideal S16x4096x1 .f32 :=
  broadcastInDim S16x4096x1 ![0, 1] bcast_S16x4096_S16x4096x1_0_1
    (Host.reduce (FloatOps.maximumf (F := Ideal) (φ := .f32)) (kS a0 a1 a2 a3) (constant (F := Ideal) S_ .f32 0xFF800000#32)
      reducesTo_S16x4096x4096_S16x4096_d2 h_S_)

/-- The weights. -/
noncomputable def kW : FVec Ideal S16x4096x4096 .f32 :=
  Host.exp (subf (kS a0 a1 a2 a3)
    (broadcastInDim S16x4096x4096 ![0, 1, 2] bcast_S16x4096x1_S16x4096x4096_0_1_2 (kTop a0 a1 a2 a3)))

/-- The sum of each row's weights. -/
noncomputable def kMass : FVec Ideal S16x4096x1 .f32 :=
  broadcastInDim S16x4096x1 ![0, 1] bcast_S16x4096_S16x4096x1_0_1
    (Host.reduceAdd (kW a0 a1 a2 a3) (constant (F := Ideal) S_ .f32 0x00000000#32) reducesTo_S16x4096x4096_S16x4096_d2 h_S_)

/-- The saved logarithms. -/
noncomputable def kLse : FVec Ideal S16x4096x1 .f32 := addf (kTop a0 a1 a2 a3) (Host.log (kMass a0 a1 a2 a3))

/-- The outputs of attention. -/
noncomputable def kO : FVec Ideal S16x4096x128 .f32 :=
  Host.dotGeneral dot_S16x4096x4096_S4096x128_S16x4096x128_2_0_01_1_n_n none
    (Host.divf (kW a0 a1 a2 a3)
      (broadcastInDim S16x4096x4096 ![0, 1, 2] bcast_S16x4096x1_S16x4096x4096_0_1_2 (kMass a0 a1 a2 a3))) a2

/-- The inner product of each row's output and its cotangent. -/
noncomputable def kDelta : FVec Ideal S16x4096 .f32 :=
  Host.reduceAdd (mulf (transpose S16x4096x128 [1, 0, 2] a4 transposes_S4096x16x128_S16x4096x128_1_0_2) (kO a0 a1 a2 a3))
    (constant (F := Ideal) S_ .f32 0x00000000#32) reducesTo_S16x4096x128_S16x4096_d2 h_S_

/-- Where a head's own slot is: the head within its group of four against the slot. -/
def kOwn : IVec S4x4x4096x4x32 1 :=
  broadcastInDim S4x4x4096x4x32 ![0, 1, 2, 3, 4] bcast_S1x4x1x4x1_S4x4x4096x4x32_0_1_2_3_4
    (cmpi .eq (iotaInDim S1x4x1x4x1 32 1) (iotaInDim S1x4x1x4x1 32 3))

/-- Zeros in the shape of the slots. -/
noncomputable def kZero : FVec Ideal S4x4x4096x4x32 .f32 :=
  broadcastInDim S4x4x4096x4x32 ![] bcast_S_S4x4x4096x4x32 (constant (F := Ideal) S_ .f32 0x00000000#32)

/-- The rotary queries, each head's in its own slot. -/
noncomputable def kQ4 : FVec Ideal S16x4096x128 .f32 :=
  shapeCast S16x4096x128 (select kOwn
    (broadcastInDim S4x4x4096x4x32 ![0, 1, 2, 3, 4] bcast_S4x4x4096x1x32_S4x4x4096x4x32_0_1_2_3_4
      (shapeCast S4x4x4096x1x32 (transpose S16x4096x32 [1, 0, 2] (kQ1 a1) transposes_S4096x16x32_S16x4096x32_1_0_2)
        shapeCasts_S16x4096x32_S4x4x4096x1x32)) kZero) shapeCasts_S4x4x4096x4x32_S16x4096x128

/-- The queries the call reads. -/
noncomputable def kQ : FVec Ideal S16x4096x256 .bf16 :=
  truncf .bf16 (concatenate S16x4096x256 2
    [⟨S16x4096x128, transpose S16x4096x128 [1, 0, 2] (kQ0 a0) transposes_S4096x16x128_S16x4096x128_1_0_2⟩,
      ⟨S16x4096x128, kQ4 a1⟩] concatenates_S16x4096x128_S16x4096x128_S16x4096x256_d2) bitsLt_bf16_f32

/-- The keys the call reads. -/
noncomputable def kK : FVec Ideal S4096x256 .bf16 :=
  truncf .bf16 (concatenate S4096x256 1
    [⟨S4096x128, a2⟩,
      ⟨S4096x128, shapeCast S4096x128 (broadcastInDim S4096x4x32 ![0, 1, 2] bcast_S4096x1x32_S4096x4x32_0_1_2
        (shapeCast S4096x1x32 a3 shapeCasts_S4096x32_S4096x1x32)) shapeCasts_S4096x4x32_S4096x128⟩]
    concatenates_S4096x128_S4096x128_S4096x256_d1) bitsLt_bf16_f32

/-- The keys transposed. -/
noncomputable def kKT : FVec Ideal S256x4096 .bf16 := transpose S256x4096 [1, 0] (kK a2 a3) transposes_S4096x256_S256x4096_1_0

/-- The cotangents the call reads. -/
noncomputable def kGO : FVec Ideal S4096x2048 .bf16 :=
  truncf .bf16 (shapeCast S4096x2048 a4 shapeCasts_S4096x16x128_S4096x2048) bitsLt_bf16_f32

/-- The logarithms the call reads. -/
noncomputable def kL : FVec Ideal S16x1x4096 .f32 := shapeCast S16x1x4096 (kLse a0 a1 a2 a3) shapeCasts_S16x4096x1_S16x1x4096

/-- The inner products the call reads. -/
noncomputable def kD : FVec Ideal S16x1x4096 .f32 := shapeCast S16x1x4096 (kDelta a0 a1 a2 a3 a4) shapeCasts_S16x4096_S16x1x4096

/-! ## The stages at an index -/

variable {a0 a1 a2 a3 a4} {A : Args}

theorem kQ0_at (H : Holds a0 a1 a2 a3 a4 A) (q : Fin 4096) (h : Fin 16) (c : Fin 128) :
    kQ0 a0 (ix3 q h c) = ((A.A0 q h c * kap : ℝ) : EReal) := by
  pointwise [kQ0]
  rw [H.h0, EReal.coe_mul, ← kap_eq]

theorem kQ1_at (H : Holds a0 a1 a2 a3 a4 A) (q : Fin 4096) (h : Fin 16) (r : Fin 32) :
    kQ1 a1 (ix3 q h r) = ((A.A1 q h r * kap : ℝ) : EReal) := by
  pointwise [kQ1]
  rw [H.h1, EReal.coe_mul, ← kap_eq]

theorem kS_at (H : Holds a0 a1 a2 a3 a4 A) (h : Fin 16) (q k : Fin 4096) :
    kS a0 a1 a2 a3 (ix3 h q k) = ((score kap A.A0 A.A1 A.A2 A.A3 h q k : ℝ) : EReal) := by
  pointwise [kS]
  simp only [kQ0_at H, kQ1_at H, H.h2, H.h3, score, EReal.coe_add, coe_sum, EReal.coe_mul]

theorem kTop_at (H : Holds a0 a1 a2 a3 a4 A) (h : Fin 16) (q : Fin 4096) (z : Fin 1) :
    kTop a0 a1 a2 a3 (ix3 h q z) = ((top kap A.A0 A.A1 A.A2 A.A3 h q : ℝ) : EReal) := by
  have e : ∀ y : FVec Ideal S16x4096 .f32,
      broadcastInDim S16x4096x1 ![0, 1] bcast_S16x4096_S16x4096x1_0_1 y (ix3 h q z) = y (ix2 h q) := fun y => by pointwise
  unfold kTop
  rw [e]
  refine (row_max _ _ h q).trans ?_
  have e : constant (F := Ideal) S_ .f32 0xFF800000#32 (Shape.Idx.first Gen.h_S_) = (⊥ : EReal) := neg_inf
  rw [e]
  simp only [kS_at H]
  exact fold_max_coe 4096 _

theorem kW_at (H : Holds a0 a1 a2 a3 a4 A) (h : Fin 16) (q k : Fin 4096) :
    kW a0 a1 a2 a3 (ix3 h q k) = ((weight kap A.A0 A.A1 A.A2 A.A3 h q k : ℝ) : EReal) := by
  pointwise [kW]
  rw [kS_at H, kTop_at H, ← EReal.coe_sub, Ideal.exp_coe]
  rfl

theorem kMass_at (H : Holds a0 a1 a2 a3 a4 A) (h : Fin 16) (q : Fin 4096) (z : Fin 1) :
    kMass a0 a1 a2 a3 (ix3 h q z) = ((mass kap A.A0 A.A1 A.A2 A.A3 h q : ℝ) : EReal) := by
  pointwise [kMass]
  simp only [kW_at H, mass, coe_sum]

theorem kL_at (H : Holds a0 a1 a2 a3 a4 A) (h : Fin 16) (q : Fin 4096) :
    kL a0 a1 a2 a3 (ix3 h 0 q) = ((lse kap A.A0 A.A1 A.A2 A.A3 h q : ℝ) : EReal) := by
  have hl := mass_pos kap A.A0 A.A1 A.A2 A.A3 h q
  have e1 : ∀ y : FVec Ideal S16x4096x1 .f32,
      shapeCast S16x1x4096 y shapeCasts_S16x4096x1_S16x1x4096 (ix3 h 0 q) = y (ix3 h q 0) := fun y => by pointwise
  have e2 : ∀ x y : FVec Ideal S16x4096x1 .f32, addf x (Host.log y) (ix3 h q 0) = x (ix3 h q 0) + Ideal.log (y (ix3 h q 0)) :=
    fun x y => by pointwise
  unfold kL kLse
  rw [e1, e2, kTop_at H, kMass_at H, Ideal.log_coe, if_neg (not_le.mpr hl), ← EReal.coe_add]
  rfl

theorem kO_at (H : Holds a0 a1 a2 a3 a4 A) (h : Fin 16) (q : Fin 4096) (v : Fin 128) :
    kO a0 a1 a2 a3 (ix3 h q v) = ((outp kap A.A0 A.A1 A.A2 A.A3 h q v : ℝ) : EReal) := by
  have hl := (mass_pos kap A.A0 A.A1 A.A2 A.A3 h q).ne'
  pointwise [kO]
  simp only [kW_at H, kMass_at H, Ideal.div_coe hl, H.h2, outp, prb, coe_sum, EReal.coe_mul, ← mul_one_div (weight _ _ _ _ _ _ _ _)]

theorem kD_at (H : Holds a0 a1 a2 a3 a4 A) (h : Fin 16) (q : Fin 4096) :
    kD a0 a1 a2 a3 a4 (ix3 h 0 q) = ((delta kap A.A0 A.A1 A.A2 A.A3 A.A4 h q : ℝ) : EReal) := by
  pointwise [kD, kDelta]
  simp only [kO_at H, H.h4, delta, coe_sum, EReal.coe_mul]

theorem kGO_at (H : Holds a0 a1 a2 a3 a4 A) (h : Fin 16) (q : Fin 4096) (v : Fin 128) :
    kGO a4 (ix2 q ⟨h.val * 128 + v.val, by omega⟩) = ((A.A4 q h v : ℝ) : EReal) := by
  pointwise [kGO]
  exact H.h4 q h v

/-- The lanes of a query: the latent part, then four slots of which the head's own holds the rotary part. -/
noncomputable def qLane (A : Args) (h : Fin 16) (q : Fin 4096) (l : Fin 256) : ℝ :=
  if hl : l.val < 128 then A.A0 q h ⟨l.val, hl⟩ * kap
  else if (l.val - 128) / 32 = h.val % 4 then A.A1 q h ⟨(l.val - 128) % 32, Nat.mod_lt _ (by decide)⟩ * kap else 0

/-- The lanes of a key: the latent part, then the rotary part in each of four slots. -/
def kLane (A : Args) (k : Fin 4096) (l : Fin 256) : ℝ :=
  if hl : l.val < 128 then A.A2 k ⟨l.val, hl⟩ else A.A3 k ⟨(l.val - 128) % 32, Nat.mod_lt _ (by decide)⟩

/-- A choice by whether two small words are the same. -/
theorem select_own (x y : ℕ) (u v : EReal) (hx : x < 2 ^ 32) (hy : y < 2 ^ 32) :
    Scalar.select (IntOp.cmpi CmpIPredicate.eq (BitVec.ofNat 32 x) (BitVec.ofNat 32 y)) u v = if x = y then u else v := by
  have h : BitVec.ofNat 32 x = BitVec.ofNat 32 y ↔ x = y := by
    constructor
    · intro e
      have := congrArg BitVec.toNat e
      rwa [BitVec.toNat_ofNat, BitVec.toNat_ofNat, Nat.mod_eq_of_lt hx, Nat.mod_eq_of_lt hy] at this
    · rintro rfl; rfl
  by_cases e : x = y
  · subst e; simp [Scalar.select, IntOp.cmpi]
  · have e' := fun c => e (h.mp c)
    have e2 : (BitVec.ofNat 32 x == BitVec.ofNat 32 y) = false := beq_eq_false_iff_ne.mpr e'
    simp [Scalar.select, IntOp.cmpi, e, e2]

theorem kQ_at (H : Holds a0 a1 a2 a3 a4 A) (h : Fin 16) (q : Fin 4096) (l : Fin 256) :
    kQ a0 a1 (ix3 h q l) = ((qLane A h q l : ℝ) : EReal) := by
  pointwise [kQ, kQ4, kOwn, kZero]
  unfold qLane
  by_cases h1 : l.val < 128
  · rw [dif_pos h1, dif_pos h1]
    exact kQ0_at H _ _ _
  · rw [dif_neg h1, dif_neg h1]
    refine (select_own _ _ _ _ (by omega) (by omega)).trans ?_
    by_cases h2 : (l.val - 128) / 32 = h.val % 4
    · refine (if_pos h2.symm).trans ((kQ1_at H _ _ _).trans ?_)
      rw [if_pos h2]
    · refine (if_neg fun e => h2 e.symm).trans ?_
      rw [if_neg h2, EReal.coe_zero]

theorem kK_at (H : Holds a0 a1 a2 a3 a4 A) (k : Fin 4096) (l : Fin 256) :
    kK a2 a3 (ix2 k l) = ((kLane A k l : ℝ) : EReal) := by
  pointwise [kK]
  unfold kLane
  by_cases h1 : l.val < 128
  · rw [dif_pos h1, dif_pos h1]
    exact H.h2 _ _
  · rw [dif_neg h1, dif_neg h1]
    exact H.h3 _ _

theorem kKT_at (H : Holds a0 a1 a2 a3 a4 A) (k : Fin 4096) (l : Fin 256) :
    kKT a2 a3 (ix2 l k) = ((kLane A k l : ℝ) : EReal) := by
  pointwise [kKT]
  exact kK_at H k l

end Cert.KernelIdeal.Hand
-- ==== Proof.Prelude.lean ====
module
public import proofs.«01_k».proof.Proof.Gen.KernelIdeal.Frame
public import Idealize.ShloMosaic.Lib.Pipeline.ValueKit
public import Idealize.ShloMosaic.Lib.StableHlo.ReadAt
public import proofs.«01_k».proof.Proof.Stages

/-! # What the call reads

Each array the call reads, as a stage of the arguments. -/

@[expose] public section
set_option maxRecDepth 16384

namespace Cert.KernelIdeal.Hand
open Idealize.ShloMosaic
open Cert.KernelIdeal Cert.KernelIdeal.Gen

variable (m : (ℓ : Loc nD τ sig) → Buf (Elt Ideal) ℓ) (c : Dev nD)

/-- The arguments. -/
abbrev arg0 : FVec Ideal S4096x16x128 .f32 := m ((c.tc : Thread nD τ).loc main_arg0)
abbrev arg1 : FVec Ideal S4096x16x32 .f32 := m ((c.tc : Thread nD τ).loc main_arg1)
abbrev arg2 : FVec Ideal S4096x128 .f32 := m ((c.tc : Thread nD τ).loc main_arg2)
abbrev arg3 : FVec Ideal S4096x32 .f32 := m ((c.tc : Thread nD τ).loc main_arg3)
abbrev arg4 : FVec Ideal S4096x16x128 .f32 := m ((c.tc : Thread nD τ).loc main_arg4)

theorem V_v42 : V m c main_v42 = kL (arg0 m c) (arg1 m c) (arg2 m c) (arg3 m c) := by
  unfold V
  unfold_abbrev_sides
  after_reads_simp
  rfl

theorem V_v43 : V m c main_v43 = kD (arg0 m c) (arg1 m c) (arg2 m c) (arg3 m c) (arg4 m c) := by
  unfold V
  unfold_abbrev_sides
  after_reads_simp
  rfl

theorem V_v41 : V m c main_v41 = kGO (arg4 m c) := by
  unfold V
  unfold_abbrev_sides
  after_reads_simp
  rfl

theorem V_v38 : V m c main_v38 = kK (arg2 m c) (arg3 m c) := by
  unfold V
  unfold_abbrev_sides
  after_reads_simp
  refine congrArg₂ (fun x y => truncf .bf16 (concatenate S4096x256 1 [⟨S4096x128, x⟩, ⟨S4096x128, y⟩]
    concatenates_S4096x128_S4096x128_S4096x256_d1 : FVec Ideal S4096x256 .f32) bitsLt_bf16_f32) ?_ ?_
  · after_reads_simp
  · after_reads_simp
    rfl

theorem V_v33 : V m c main_v33 = kQ (arg0 m c) (arg1 m c) := by
  unfold V
  unfold_abbrev_sides
  after_reads_simp
  refine congrArg₂ (fun x y => truncf .bf16 (concatenate S16x4096x256 2 [⟨S16x4096x128, x⟩, ⟨S16x4096x128, y⟩]
    concatenates_S16x4096x128_S16x4096x128_S16x4096x256_d2 : FVec Ideal S16x4096x256 .f32) bitsLt_bf16_f32) ?_ ?_
  · after_reads_simp
    rfl
  · after_reads_simp
    rfl

theorem V_v39 : V m c main_v39 = kKT (arg2 m c) (arg3 m c) := by
  have e : V m c main_v39 = transpose S256x4096 [1, 0] (V m c main_v38) transposes_S4096x256_S256x4096_1_0 := by
    unfold V
    unfold_abbrev_sides
    after_reads_simp
  rw [e, V_v38]
  rfl

end Cert.KernelIdeal.Hand
-- ==== Proof.Block.lean ====
/- What one grid point of the backward kernel computes, read element by element over the extended reals: from its
   blocks of queries, keys, output gradients and row statistics, the tile of transposed probabilities, the tile of
   score gradients, and what it adds to the gradients of the keys and of the values and stores for the queries. -/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

namespace Cert.KernelIdeal.Hand

open Idealize.ShloMosaic
open Cert.KernelIdeal Cert.KernelIdeal.Gen

noncomputable section

variable (q : Vec Ideal S1x2048x256 .bf16) (kk : Vec Ideal S4096x256 .bf16) (kt : Vec Ideal S256x4096 .bf16)
  (go : Vec Ideal S2048x128 .bf16) (lse dl : Vec Ideal S1x1x2048 .f32)

/-- The probability that query `x` of the block gives key `k`: the exponential of the score less the row's
    log-sum-exp. -/
def prob (k : Fin 4096) (x : Fin 2048) : EReal :=
  Ideal.exp ((∑ c : Fin 256, kk (ix2 k c) * q (ix3 0 x c)) - lse (ix3 0 0 x))

/-- The score gradient at key `k` and query `x`: probability times (gradient of the probability less `delta`). -/
def dscore (k : Fin 4096) (x : Fin 2048) : EReal :=
  prob q kk lse k x *
    ((∑ v : Fin 128, kk (ix2 k ⟨v.val, by omega⟩) * go (ix2 x v)) - dl (ix3 0 0 x))

/-- What the point adds to the gradient of value `k` on lane `v`. -/
def dvAdd (k : Fin 4096) (v : Fin 128) : EReal := ∑ x : Fin 2048, prob q kk lse k x * go (ix2 x v)

/-- What the point adds to the gradient of key `k` on lane `l`. -/
def dkAdd (k : Fin 4096) (l : Fin 256) : EReal := ∑ x : Fin 2048, dscore q kk go lse dl k x * q (ix3 0 x l)

variable (off : Nat) (inb : ∀ a : Fin S4096x256.rank, ![off, 0] a + ![1024, 256] a ≤ S4096x256.size a)
  (inb' : ∀ a : Fin S4096x256.rank, ![off, 0] a + ![1024, 128] a ≤ S4096x256.size a)
  (inv : ∀ a : Fin S4096x128.rank, ![off, 0] a + ![1024, 128] a ≤ S4096x128.size a)
  (int : ∀ a : Fin S256x4096.rank, ![0, off] a + ![256, 1024] a ≤ S256x4096.size a)

/-! ## The tile of probabilities, chunk by chunk of the keys -/

theorem prob_0 (a : Fin 1024) (k : Fin 4096) (hk : k.val = off + a.val) (x : Fin 2048) :
    k0_pay8 q lse (View.ld kk (Rect.unit ![off, 0] ![1024, 256] inb)) (ix2 a x) = prob q kk lse k x := by
  obtain ⟨k, hlt⟩ := k
  obtain rfl : k = off + a.val := hk
  pointwise [k0_pay8, k0_pay3, k0_pay5, prob]

theorem prob_1 (a : Fin 1024) (k : Fin 4096) (hk : k.val = off + a.val) (x : Fin 2048) :
    k0_pay13 (k0_pay3 q) (k0_pay5 lse) (View.ld kk (Rect.unit ![off, 0] ![1024, 256] inb)) (ix2 a x) = prob q kk lse k x := by
  obtain ⟨k, hlt⟩ := k
  obtain rfl : k = off + a.val := hk
  pointwise [k0_pay13, k0_pay3, k0_pay5, prob]

theorem prob_2 (a : Fin 1024) (k : Fin 4096) (hk : k.val = off + a.val) (x : Fin 2048) :
    k0_pay17 (k0_pay3 q) (k0_pay5 lse) (View.ld kk (Rect.unit ![off, 0] ![1024, 256] inb)) (ix2 a x) = prob q kk lse k x := by
  obtain ⟨k, hlt⟩ := k
  obtain rfl : k = off + a.val := hk
  pointwise [k0_pay17, k0_pay3, k0_pay5, prob]

theorem prob_3 (a : Fin 1024) (k : Fin 4096) (hk : k.val = off + a.val) (x : Fin 2048) :
    k0_pay22 (k0_pay3 q) (k0_pay5 lse) (View.ld kk (Rect.unit ![off, 0] ![1024, 256] inb)) (ix2 a x) = prob q kk lse k x := by
  obtain ⟨k, hlt⟩ := k
  obtain rfl : k = off + a.val := hk
  pointwise [k0_pay22, k0_pay3, k0_pay5, prob]

/-! ## The tile of score gradients -/

theorem dscore_0 (a : Fin 1024) (k : Fin 4096) (hk : k.val = off + a.val) (x : Fin 2048) :
    k0_pay9 q go lse dl (View.ld kk (Rect.unit ![off, 0] ![1024, 256] inb))
      (View.ld kk (Rect.unit ![off, 0] ![1024, 128] inb')) (ix2 a x) = dscore q kk go lse dl k x := by
  have e := prob_0 q kk lse off inb a k hk x
  obtain ⟨k, hlt⟩ := k
  obtain rfl : k = off + a.val := hk
  unfold k0_pay9 dscore
  rw [← e]
  pointwise [k0_pay4, k0_pay6]

theorem dscore_1 (a : Fin 1024) (k : Fin 4096) (hk : k.val = off + a.val) (x : Fin 2048) :
    k0_pay14 (k0_pay3 q) (k0_pay4 go) (k0_pay5 lse) (k0_pay6 dl) (View.ld kk (Rect.unit ![off, 0] ![1024, 256] inb))
      (View.ld kk (Rect.unit ![off, 0] ![1024, 128] inb')) (ix2 a x) = dscore q kk go lse dl k x := by
  have e := prob_1 q kk lse off inb a k hk x
  obtain ⟨k, hlt⟩ := k
  obtain rfl : k = off + a.val := hk
  unfold k0_pay14 dscore
  rw [← e]
  pointwise [k0_pay4, k0_pay6]

theorem dscore_2 (a : Fin 1024) (k : Fin 4096) (hk : k.val = off + a.val) (x : Fin 2048) :
    k0_pay18 (k0_pay3 q) (k0_pay4 go) (k0_pay5 lse) (k0_pay6 dl) (View.ld kk (Rect.unit ![off, 0] ![1024, 256] inb))
      (View.ld kk (Rect.unit ![off, 0] ![1024, 128] inb')) (ix2 a x) = dscore q kk go lse dl k x := by
  have e := prob_2 q kk lse off inb a k hk x
  obtain ⟨k, hlt⟩ := k
  obtain rfl : k = off + a.val := hk
  unfold k0_pay18 dscore
  rw [← e]
  pointwise [k0_pay4, k0_pay6]

theorem dscore_3 (a : Fin 1024) (k : Fin 4096) (hk : k.val = off + a.val) (x : Fin 2048) :
    k0_pay23 (k0_pay3 q) (k0_pay4 go) (k0_pay5 lse) (k0_pay6 dl) (View.ld kk (Rect.unit ![off, 0] ![1024, 256] inb))
      (View.ld kk (Rect.unit ![off, 0] ![1024, 128] inb')) (ix2 a x) = dscore q kk go lse dl k x := by
  have e := prob_3 q kk lse off inb a k hk x
  obtain ⟨k, hlt⟩ := k
  obtain rfl : k = off + a.val := hk
  unfold k0_pay23 dscore
  rw [← e]
  pointwise [k0_pay4, k0_pay6]

/-! ## What is added to the gradient of the values -/

theorem dv_0 (acc : Vec Ideal S4096x128 .f32) (a : Fin 1024) (k : Fin 4096) (hk : k.val = off + a.val) (v : Fin 128) :
    k0_pay10 q go lse (View.ld kk (Rect.unit ![off, 0] ![1024, 256] inb))
      (View.ld acc (Rect.unit ![off, 0] ![1024, 128] inv)) (ix2 a v) = acc (ix2 k v) + dvAdd q kk go lse k v := by
  unfold dvAdd
  simp only [← prob_0 q kk lse off inb a k hk]
  obtain ⟨k, hlt⟩ := k
  obtain rfl : k = off + a.val := hk
  unfold k0_pay10
  pointwise [k0_pay4]

theorem dv_1 (acc : Vec Ideal S4096x128 .f32) (a : Fin 1024) (k : Fin 4096) (hk : k.val = off + a.val) (v : Fin 128) :
    k0_pay15 (k0_pay3 q) (k0_pay4 go) (k0_pay5 lse) (View.ld kk (Rect.unit ![off, 0] ![1024, 256] inb))
      (View.ld acc (Rect.unit ![off, 0] ![1024, 128] inv)) (ix2 a v) = acc (ix2 k v) + dvAdd q kk go lse k v := by
  unfold dvAdd
  simp only [← prob_1 q kk lse off inb a k hk]
  obtain ⟨k, hlt⟩ := k
  obtain rfl : k = off + a.val := hk
  unfold k0_pay15
  pointwise [k0_pay4]

theorem dv_2 (acc : Vec Ideal S4096x128 .f32) (a : Fin 1024) (k : Fin 4096) (hk : k.val = off + a.val) (v : Fin 128) :
    k0_pay19 (k0_pay3 q) (k0_pay4 go) (k0_pay5 lse) (View.ld kk (Rect.unit ![off, 0] ![1024, 256] inb))
      (View.ld acc (Rect.unit ![off, 0] ![1024, 128] inv)) (ix2 a v) = acc (ix2 k v) + dvAdd q kk go lse k v := by
  unfold dvAdd
  simp only [← prob_2 q kk lse off inb a k hk]
  obtain ⟨k, hlt⟩ := k
  obtain rfl : k = off + a.val := hk
  unfold k0_pay19
  pointwise [k0_pay4]

theorem dv_3 (acc : Vec Ideal S4096x128 .f32) (a : Fin 1024) (k : Fin 4096) (hk : k.val = off + a.val) (v : Fin 128) :
    k0_pay24 (k0_pay3 q) (k0_pay4 go) (k0_pay5 lse) (View.ld kk (Rect.unit ![off, 0] ![1024, 256] inb))
      (View.ld acc (Rect.unit ![off, 0] ![1024, 128] inv)) (ix2 a v) = acc (ix2 k v) + dvAdd q kk go lse k v := by
  unfold dvAdd
  simp only [← prob_3 q kk lse off inb a k hk]
  obtain ⟨k, hlt⟩ := k
  obtain rfl : k = off + a.val := hk
  unfold k0_pay24
  pointwise [k0_pay4]

/-! ## What is added to the gradient of the keys -/

theorem dk_0 (acc : Vec Ideal S4096x256 .f32) (a : Fin 1024) (k : Fin 4096) (hk : k.val = off + a.val) (l : Fin 256) :
    k0_pay11 (k0_pay3 q) (k0_pay9 q go lse dl (View.ld kk (Rect.unit ![off, 0] ![1024, 256] inb)) (View.ld kk (Rect.unit ![off, 0] ![1024, 128] inb')))
      (View.ld acc (Rect.unit ![off, 0] ![1024, 256] inb)) (ix2 a l) = acc (ix2 k l) + dkAdd q kk go lse dl k l := by
  unfold dkAdd
  simp only [← dscore_0 q kk go lse dl off inb inb' a k hk]
  obtain ⟨k, hlt⟩ := k
  obtain rfl : k = off + a.val := hk
  unfold k0_pay11
  pointwise [k0_pay3]

theorem dk_1 (acc : Vec Ideal S4096x256 .f32) (a : Fin 1024) (k : Fin 4096) (hk : k.val = off + a.val) (l : Fin 256) :
    k0_pay16 (k0_pay3 q) (k0_pay4 go) (k0_pay5 lse) (k0_pay6 dl) (View.ld kk (Rect.unit ![off, 0] ![1024, 256] inb))
      (View.ld kk (Rect.unit ![off, 0] ![1024, 128] inb'))
      (View.ld acc (Rect.unit ![off, 0] ![1024, 256] inb)) (ix2 a l) = acc (ix2 k l) + dkAdd q kk go lse dl k l := by
  unfold dkAdd
  simp only [← dscore_1 q kk go lse dl off inb inb' a k hk]
  obtain ⟨k, hlt⟩ := k
  obtain rfl : k = off + a.val := hk
  unfold k0_pay16
  pointwise [k0_pay3]

theorem dk_2 (acc : Vec Ideal S4096x256 .f32) (a : Fin 1024) (k : Fin 4096) (hk : k.val = off + a.val) (l : Fin 256) :
    k0_pay20 (k0_pay3 q) (k0_pay4 go) (k0_pay5 lse) (k0_pay6 dl) (View.ld kk (Rect.unit ![off, 0] ![1024, 256] inb))
      (View.ld kk (Rect.unit ![off, 0] ![1024, 128] inb'))
      (View.ld acc (Rect.unit ![off, 0] ![1024, 256] inb)) (ix2 a l) = acc (ix2 k l) + dkAdd q kk go lse dl k l := by
  unfold dkAdd
  simp only [← dscore_2 q kk go lse dl off inb inb' a k hk]
  obtain ⟨k, hlt⟩ := k
  obtain rfl : k = off + a.val := hk
  unfold k0_pay20
  pointwise [k0_pay3]

theorem dk_3 (acc : Vec Ideal S4096x256 .f32) (a : Fin 1024) (k : Fin 4096) (hk : k.val = off + a.val) (l : Fin 256) :
    k0_pay25 (k0_pay3 q) (k0_pay4 go) (k0_pay5 lse) (k0_pay6 dl) (View.ld kk (Rect.unit ![off, 0] ![1024, 256] inb))
      (View.ld kk (Rect.unit ![off, 0] ![1024, 128] inb'))
      (View.ld acc (Rect.unit ![off, 0] ![1024, 256] inb)) (ix2 a l) = acc (ix2 k l) + dkAdd q kk go lse dl k l := by
  unfold dkAdd
  simp only [← dscore_3 q kk go lse dl off inb inb' a k hk]
  obtain ⟨k, hlt⟩ := k
  obtain rfl : k = off + a.val := hk
  unfold k0_pay25
  pointwise [k0_pay3]

/-! ## What the point stores for the queries -/

/-- The factor `96 ^ (-1/2)` of the scores, as its binary32 word. -/
def scale : EReal := Ideal.ofBits .f32 0x3DD105EC#32

/-- The gradient of query `x` on lane `l`. -/
def dqAt (x : Fin 2048) (l : Fin 256) : EReal :=
  (∑ k : Fin 4096, kt (ix2 l k) * dscore q kk go lse dl k x) * scale

/-- A sum over the keys, chunk by chunk. -/
theorem sum_chunks (f : Fin 4096 → EReal) :
    ∑ k : Fin 4096, f k = (∑ a : Fin 1024, f ⟨0 + a.val, by omega⟩) + (∑ a : Fin 1024, f ⟨1024 + a.val, by omega⟩)
      + (∑ a : Fin 1024, f ⟨2048 + a.val, by omega⟩) + (∑ a : Fin 1024, f ⟨3072 + a.val, by omega⟩) := by
  rw [Fin.sum_univ_add (a := 3072) (b := 1024) f, Fin.sum_univ_add (a := 2048) (b := 1024),
    Fin.sum_univ_add (a := 1024) (b := 1024)]
  simp only [Nat.zero_add]
  rfl

theorem dq_all (inb0 inb1 inb2 inb3 inb0' inb1' inb2' inb3' int0 int1 int2 int3) (x : Fin 2048) (l : Fin 256) :
    k0_pay26 (k0_pay3 q) (k0_pay4 go) (k0_pay5 lse) (k0_pay6 dl)
      (k0_pay21 (k0_pay3 q) (k0_pay4 go) (k0_pay5 lse) (k0_pay6 dl)
        (k0_pay12 (k0_pay7 (F := Ideal))
          (k0_pay9 q go lse dl (View.ld kk (Rect.unit ![0, 0] ![1024, 256] inb0))
            (View.ld kk (Rect.unit ![0, 0] ![1024, 128] inb0')))
          (View.ld kt (Rect.unit ![0, 0] ![256, 1024] int0)))
        (k0_pay14 (k0_pay3 q) (k0_pay4 go) (k0_pay5 lse) (k0_pay6 dl)
          (View.ld kk (Rect.unit ![1024, 0] ![1024, 256] inb1))
          (View.ld kk (Rect.unit ![1024, 0] ![1024, 128] inb1')))
        (View.ld kt (Rect.unit ![0, 1024] ![256, 1024] int1))
        (View.ld kk (Rect.unit ![2048, 0] ![1024, 256] inb2))
        (View.ld kk (Rect.unit ![2048, 0] ![1024, 128] inb2'))
        (View.ld kt (Rect.unit ![0, 2048] ![256, 1024] int2)))
      (View.ld kk (Rect.unit ![3072, 0] ![1024, 256] inb3))
      (View.ld kk (Rect.unit ![3072, 0] ![1024, 128] inb3'))
      (View.ld kt (Rect.unit ![0, 3072] ![256, 1024] int3)) (ix3 0 x l)
      = dqAt q kk kt go lse dl x l := by
  unfold dqAt
  rw [sum_chunks]
  simp only [← dscore_0 q kk go lse dl 0 inb0 inb0' _ ⟨0 + _, _⟩ rfl,
    ← dscore_1 q kk go lse dl 1024 inb1 inb1' _ ⟨1024 + _, _⟩ rfl,
    ← dscore_2 q kk go lse dl 2048 inb2 inb2' _ ⟨2048 + _, _⟩ rfl,
    ← dscore_3 q kk go lse dl 3072 inb3 inb3' _ ⟨3072 + _, _⟩ rfl]
  generalize h0 : k0_pay9 (F := Ideal) _ _ _ _ _ _ = d0
  generalize h1 : k0_pay14 (F := Ideal) _ _ _ _ _ _ = d1
  unfold k0_pay26 k0_pay21 k0_pay12 k0_pay7
  generalize h2 : k0_pay18 (F := Ideal) _ _ _ _ _ _ = d2
  generalize h3 : k0_pay23 (F := Ideal) _ _ _ _ _ _ = d3
  pointwise [scale]

/-- A block of rows of an array, element by element. -/
theorem emb_rows {N W : Nat} (off : Nat) (inb : ∀ a : Fin (⟨2, ![N, W]⟩ : Shape).rank, ![off, 0] a + ![1024, W] a ≤ (⟨2, ![N, W]⟩ : Shape).size a)
    (a : Fin 1024) (b : Fin W) (h : off + a.val < N) :
    (Rect.unit (s := ⟨2, ![N, W]⟩) ![off, 0] ![1024, W] inb).emb (ix2 a b) = ix2 ⟨off + a.val, h⟩ b := by
  funext i
  refine Fin.ext ?_
  match i with
  | ⟨0, _⟩ => exact congrArg (off + ·) (Nat.one_mul _)
  | ⟨1, _⟩ => exact (Nat.zero_add _).trans (Nat.one_mul _)

/-- An array with this point's part added, as an array. -/
def dvStart (acc : Vec Ideal S4096x128 .f32) (y : S4096x128.Idx) : Elt Ideal .f32 :=
  acc y + dvAdd q kk go lse (y 0) (y 1)

theorem dvStart_zero (k : Fin 4096) (l : Fin 128) :
    dvStart q kk go lse (k0_pay2 (F := Ideal)) (ix2 k l) = 0 + dvAdd q kk go lse k l := by
  refine congrArg (· + _) ?_
  pointwise [k0_pay2]

/-- Four blocks of rows stored over a fill of the whole array. -/
theorem dv_pieces (acc : Vec Ideal S4096x128 .f32) (y : S4096x128.Idx) :
    View.canon (Val := Elt Ideal) (s := S4096x128) (e := .f32)
      [⟨Rect.unit ![3072, 0] ![1024, 128] inb_S4096x128_S1024x128_3072_0,
        k0_pay24 (k0_pay3 q) (k0_pay4 go) (k0_pay5 lse) (View.ld kk (Rect.unit ![3072, 0] ![1024, 256] inb_S4096x256_S1024x256_3072_0))
          (View.ld acc (Rect.unit ![3072, 0] ![1024, 128] inb_S4096x128_S1024x128_3072_0))⟩,
       ⟨Rect.unit ![2048, 0] ![1024, 128] inb_S4096x128_S1024x128_2048_0,
        k0_pay19 (k0_pay3 q) (k0_pay4 go) (k0_pay5 lse) (View.ld kk (Rect.unit ![2048, 0] ![1024, 256] inb_S4096x256_S1024x256_2048_0))
          (View.ld acc (Rect.unit ![2048, 0] ![1024, 128] inb_S4096x128_S1024x128_2048_0))⟩,
       ⟨Rect.unit ![1024, 0] ![1024, 128] inb_S4096x128_S1024x128_1024_0,
        k0_pay15 (k0_pay3 q) (k0_pay4 go) (k0_pay5 lse) (View.ld kk (Rect.unit ![1024, 0] ![1024, 256] inb_S4096x256_S1024x256_1024_0))
          (View.ld acc (Rect.unit ![1024, 0] ![1024, 128] inb_S4096x128_S1024x128_1024_0))⟩,
       ⟨Rect.unit ![0, 0] ![1024, 128] inb_S4096x128_S1024x128_0_0,
        k0_pay10 q go lse (View.ld kk (Rect.unit ![0, 0] ![1024, 256] inb_S4096x256_S1024x256_0_0))
          (View.ld acc (Rect.unit ![0, 0] ![1024, 128] inb_S4096x128_S1024x128_0_0))⟩,
       ⟨Rect.unit ![0, 0] ![4096, 128] inb_S4096x128_S4096x128_0_0, acc⟩] y = dvStart q kk go lse acc y := by
  refine View.canon_append_of_piecesOf (s := S4096x128) (dvStart q kk go lse acc) [_] [_, _, _, _] ⟨?_, ?_, ?_, ?_, trivial⟩ _
    (View.cover_of_tiledL (s := S4096x128) _ S1024x128.size (by sl_kernel_rfl) _)
  all_goals
    intro y
    obtain ⟨a, b, rfl⟩ : ∃ (a : Fin 1024) (b : Fin 128), y = ix2 a b := ⟨y 0, y 1, eq_ix2 y⟩
    dsimp only
  · rw [emb_rows 3072 inb_S4096x128_S1024x128_3072_0 a b (by omega)]
    exact dv_3 q kk go lse 3072 inb_S4096x256_S1024x256_3072_0 inb_S4096x128_S1024x128_3072_0 acc a ⟨3072 + a.val, by omega⟩ rfl b
  · rw [emb_rows 2048 inb_S4096x128_S1024x128_2048_0 a b (by omega)]
    exact dv_2 q kk go lse 2048 inb_S4096x256_S1024x256_2048_0 inb_S4096x128_S1024x128_2048_0 acc a ⟨2048 + a.val, by omega⟩ rfl b
  · rw [emb_rows 1024 inb_S4096x128_S1024x128_1024_0 a b (by omega)]
    exact dv_1 q kk go lse 1024 inb_S4096x256_S1024x256_1024_0 inb_S4096x128_S1024x128_1024_0 acc a ⟨1024 + a.val, by omega⟩ rfl b
  · rw [emb_rows 0 inb_S4096x128_S1024x128_0_0 a b (by omega)]
    exact dv_0 q kk go lse 0 inb_S4096x256_S1024x256_0_0 inb_S4096x128_S1024x128_0_0 acc a ⟨0 + a.val, by omega⟩ rfl b

/-- An array with this point's part added, as an array. -/
def dkStart (acc : Vec Ideal S4096x256 .f32) (y : S4096x256.Idx) : Elt Ideal .f32 :=
  acc y + dkAdd q kk go lse dl (y 0) (y 1)

theorem dkStart_zero (k : Fin 4096) (l : Fin 256) :
    dkStart q kk go lse dl (k0_pay1 (F := Ideal)) (ix2 k l) = 0 + dkAdd q kk go lse dl k l := by
  refine congrArg (· + _) ?_
  pointwise [k0_pay1]

/-- Four blocks of rows stored over a fill of the whole array. -/
theorem dk_pieces (acc : Vec Ideal S4096x256 .f32) (y : S4096x256.Idx) :
    View.canon (Val := Elt Ideal) (s := S4096x256) (e := .f32)
      [⟨Rect.unit ![3072, 0] ![1024, 256] inb_S4096x256_S1024x256_3072_0,
        k0_pay25 (k0_pay3 q) (k0_pay4 go) (k0_pay5 lse) (k0_pay6 dl)
          (View.ld kk (Rect.unit ![3072, 0] ![1024, 256] inb_S4096x256_S1024x256_3072_0))
          (View.ld kk (Rect.unit ![3072, 0] ![1024, 128] inb_S4096x256_S1024x128_3072_0))
          (View.ld acc (Rect.unit ![3072, 0] ![1024, 256] inb_S4096x256_S1024x256_3072_0))⟩,
       ⟨Rect.unit ![2048, 0] ![1024, 256] inb_S4096x256_S1024x256_2048_0,
        k0_pay20 (k0_pay3 q) (k0_pay4 go) (k0_pay5 lse) (k0_pay6 dl)
          (View.ld kk (Rect.unit ![2048, 0] ![1024, 256] inb_S4096x256_S1024x256_2048_0))
          (View.ld kk (Rect.unit ![2048, 0] ![1024, 128] inb_S4096x256_S1024x128_2048_0))
          (View.ld acc (Rect.unit ![2048, 0] ![1024, 256] inb_S4096x256_S1024x256_2048_0))⟩,
       ⟨Rect.unit ![1024, 0] ![1024, 256] inb_S4096x256_S1024x256_1024_0,
        k0_pay16 (k0_pay3 q) (k0_pay4 go) (k0_pay5 lse) (k0_pay6 dl)
          (View.ld kk (Rect.unit ![1024, 0] ![1024, 256] inb_S4096x256_S1024x256_1024_0))
          (View.ld kk (Rect.unit ![1024, 0] ![1024, 128] inb_S4096x256_S1024x128_1024_0))
          (View.ld acc (Rect.unit ![1024, 0] ![1024, 256] inb_S4096x256_S1024x256_1024_0))⟩,
       ⟨Rect.unit ![0, 0] ![1024, 256] inb_S4096x256_S1024x256_0_0,
        k0_pay11 (k0_pay3 q)
          (k0_pay9 q go lse dl (View.ld kk (Rect.unit ![0, 0] ![1024, 256] inb_S4096x256_S1024x256_0_0))
            (View.ld kk (Rect.unit ![0, 0] ![1024, 128] inb_S4096x256_S1024x128_0_0)))
          (View.ld acc (Rect.unit ![0, 0] ![1024, 256] inb_S4096x256_S1024x256_0_0))⟩,
       ⟨Rect.unit ![0, 0] ![4096, 256] inb_S4096x256_S4096x256_0_0, acc⟩] y = dkStart q kk go lse dl acc y := by
  refine View.canon_append_of_piecesOf (s := S4096x256) (dkStart q kk go lse dl acc) [_] [_, _, _, _] ⟨?_, ?_, ?_, ?_, trivial⟩ _
    (View.cover_of_tiledL (s := S4096x256) _ S1024x256.size (by sl_kernel_rfl) _)
  all_goals
    intro y
    obtain ⟨a, b, rfl⟩ : ∃ (a : Fin 1024) (b : Fin 256), y = ix2 a b := ⟨y 0, y 1, eq_ix2 y⟩
    dsimp only
  · rw [emb_rows 3072 inb_S4096x256_S1024x256_3072_0 a b (by omega)]
    exact dk_3 q kk go lse dl 3072 inb_S4096x256_S1024x256_3072_0 inb_S4096x256_S1024x128_3072_0 acc a ⟨3072 + a.val, by omega⟩ rfl b
  · rw [emb_rows 2048 inb_S4096x256_S1024x256_2048_0 a b (by omega)]
    exact dk_2 q kk go lse dl 2048 inb_S4096x256_S1024x256_2048_0 inb_S4096x256_S1024x128_2048_0 acc a ⟨2048 + a.val, by omega⟩ rfl b
  · rw [emb_rows 1024 inb_S4096x256_S1024x256_1024_0 a b (by omega)]
    exact dk_1 q kk go lse dl 1024 inb_S4096x256_S1024x256_1024_0 inb_S4096x256_S1024x128_1024_0 acc a ⟨1024 + a.val, by omega⟩ rfl b
  · rw [emb_rows 0 inb_S4096x256_S1024x256_0_0 a b (by omega)]
    exact dk_0 q kk go lse dl 0 inb_S4096x256_S1024x256_0_0 inb_S4096x256_S1024x128_0_0 acc a ⟨0 + a.val, by omega⟩ rfl b

/-! ## The three outputs after a point -/

variable (m : (ℓ : Loc nD τ sig) → Buf (Elt Ideal) ℓ)

theorem dv_step (c : Dev nD) (t : Fin cfg0.N) (h0 : ¬t.val % 32 = 0) (k : Fin 4096) (v : Fin 128) :
    (outsAt0 m c t.val t.isLt).2.2 (ix2 k v)
      = (outsAt0 m c (t.val - 1) (Nat.lt_of_le_of_lt (Nat.sub_le _ _) t.isLt)).2.2 (ix2 k v)
        + dvAdd (iblk m c 0 t) (iblk m c 1 t) (iblk m c 3 t) (iblk m c 4 t) k v := by
  rw [outsAt0_B m c t h0]
  dsimp only
  frame_out
  canon_tiles x h
  all_goals
    obtain ⟨a, b, rfl⟩ : ∃ (a : Fin 1024) (b : Fin 128), x = ix2 a b := ⟨x 0, x 1, eq_ix2 x⟩
    obtain rfl : v = b := Fin.ext (by assumption)
  · exact dv_3 _ _ _ _ 3072 _ _ _ a k (by assumption) v
  · exact dv_2 _ _ _ _ 2048 _ _ _ a k (by assumption) v
  · exact dv_1 _ _ _ _ 1024 _ _ _ a k (by assumption) v
  · exact dv_0 _ _ _ _ 0 _ _ _ a k (by rw [Nat.zero_add]; assumption) v

theorem dk_step (c : Dev nD) (t : Fin cfg0.N) (h0 : ¬t.val % 32 = 0) (k : Fin 4096) (l : Fin 256) :
    (outsAt0 m c t.val t.isLt).2.1 (ix2 k l)
      = (outsAt0 m c (t.val - 1) (Nat.lt_of_le_of_lt (Nat.sub_le _ _) t.isLt)).2.1 (ix2 k l)
        + dkAdd (iblk m c 0 t) (iblk m c 1 t) (iblk m c 3 t) (iblk m c 4 t) (iblk m c 5 t) k l := by
  rw [outsAt0_B m c t h0]
  dsimp only
  frame_out
  canon_tiles x h
  all_goals
    obtain ⟨a, b, rfl⟩ : ∃ (a : Fin 1024) (b : Fin 256), x = ix2 a b := ⟨x 0, x 1, eq_ix2 x⟩
    obtain rfl : l = b := Fin.ext (by assumption)
  · exact dk_3 _ _ _ _ _ 3072 _ _ _ a k (by assumption) l
  · exact dk_2 _ _ _ _ _ 2048 _ _ _ a k (by assumption) l
  · exact dk_1 _ _ _ _ _ 1024 _ _ _ a k (by assumption) l
  · exact dk_0 _ _ _ _ _ 0 _ _ _ a k (by rw [Nat.zero_add]; assumption) l

theorem dq_point (c : Dev nD) (t : Fin cfg0.N) (x : Fin 2048) (l : Fin 256) :
    (outsAt0 m c t.val t.isLt).1 (ix3 0 x l)
      = dqAt (iblk m c 0 t) (iblk m c 1 t) (iblk m c 2 t) (iblk m c 3 t) (iblk m c 4 t) (iblk m c 5 t) x l := by
  by_cases h0 : t.val % 32 = 0
  · rw [outsAt0_A m c t h0]
    dsimp only
    frame_out
    exact dq_all _ _ _ _ _ _ _ _ _ _ _ _ _ _ _ _ _ _ x l
  · rw [outsAt0_B m c t h0]
    dsimp only
    frame_out
    exact dq_all _ _ _ _ _ _ _ _ _ _ _ _ _ _ _ _ _ _ x l

theorem dv_first (c : Dev nD) (t : Fin cfg0.N) (h0 : t.val % 32 = 0) (k : Fin 4096) (l : Fin 128) :
    (outsAt0 m c t.val t.isLt).2.2 (ix2 k l)
      = 0 + dvAdd (iblk m c 0 t) (iblk m c 1 t) (iblk m c 3 t) (iblk m c 4 t) k l := by
  rw [outsAt0_A m c t h0, ← dvStart_zero]
  dsimp only
  frame_open
  simp (disch := decide) only [↓ View.readCov_skip, ↓ View.readCov_cons_toLoadRect, ↓ View.readCov_fill]
  frame_out
  exact dv_pieces (iblk m c 0 t) (iblk m c 1 t) (iblk m c 3 t) (iblk m c 4 t) _ (ix2 k l)

theorem dk_first (c : Dev nD) (t : Fin cfg0.N) (h0 : t.val % 32 = 0) (k : Fin 4096) (l : Fin 256) :
    (outsAt0 m c t.val t.isLt).2.1 (ix2 k l)
      = 0 + dkAdd (iblk m c 0 t) (iblk m c 1 t) (iblk m c 3 t) (iblk m c 4 t) (iblk m c 5 t) k l := by
  rw [outsAt0_A m c t h0, ← dkStart_zero]
  dsimp only
  frame_open
  simp (disch := decide) only [↓ View.readCov_skip, ↓ View.readCov_cons_toLoadRect, ↓ View.readCov_fill]
  frame_out
  exact dk_pieces (iblk m c 0 t) (iblk m c 1 t) (iblk m c 3 t) (iblk m c 4 t) (iblk m c 5 t) _ (ix2 k l)

end
end Cert.KernelIdeal.Hand
-- ==== Proof.Region.lean ====
/- What the three output arrays of the backward kernel hold after its grid has run, element by element, in terms of
   the six arrays that enter it: every query, key and head, with the sums over all queries and heads. -/
module

public import proofs.«01_k».proof.Proof.Block

@[expose] public section

set_option maxRecDepth 16384

namespace Cert.KernelIdeal.Hand

open Idealize.ShloMosaic
open Cert.KernelIdeal Cert.KernelIdeal.Gen
open Idealize.ShloMosaic.Pipeline (Dat Cfg Window)

noncomputable section

/-! ## The closed forms over whole arrays -/

variable (Q : Vec Ideal S16x4096x256 .bf16) (K : Vec Ideal S4096x256 .bf16) (KT : Vec Ideal S256x4096 .bf16)
  (GO : Vec Ideal S4096x2048 .bf16) (L D : Vec Ideal S16x1x4096 .f32)

/-- The probability that head `h`'s query `q` gives key `k`. -/
def probR (h : Fin 16) (k q : Fin 4096) : EReal :=
  Ideal.exp ((∑ c : Fin 256, K (ix2 k c) * Q (ix3 h q c)) - L (ix3 h 0 q))

/-- The gradient of that score. -/
def dscoreR (h : Fin 16) (k q : Fin 4096) : EReal :=
  probR Q K L h k q *
    ((∑ v : Fin 128, K (ix2 k ⟨v.val, by omega⟩) * GO (ix2 q ⟨h.val * 128 + v.val, by omega⟩)) - D (ix3 h 0 q))

/-- The gradient of query `q` of head `h` on lane `l`. -/
def dqR (h : Fin 16) (q : Fin 4096) (l : Fin 256) : EReal :=
  (∑ k : Fin 4096, KT (ix2 l k) * dscoreR Q K GO L D h k q) * scale

/-- The gradient of key `k` on lane `l`, through the scores. -/
def dkR (k : Fin 4096) (l : Fin 256) : EReal :=
  ∑ h : Fin 16, ∑ q : Fin 4096, dscoreR Q K GO L D h k q * Q (ix3 h q l)

/-- The gradient of value `k` on lane `v`. -/
def dvR (k : Fin 4096) (v : Fin 128) : EReal :=
  ∑ h : Fin 16, ∑ q : Fin 4096, probR Q K L h k q * GO (ix2 q ⟨h.val * 128 + v.val, by omega⟩)

/-! ## The blocks of a point -/

/-- The head of a grid point. -/
def headOf (t : Fin cfg0.N) : Fin 16 := ⟨t.val / 2, by have := t.isLt; have : cfg0.N = 32 := rfl; omega⟩

/-- The query in row `x` of a grid point's block. -/
def rowOf (t : Fin cfg0.N) (x : Fin 2048) : Fin 4096 := ⟨t.val % 2 * 2048 + x.val, by omega⟩

theorem idx0 : ∀ t : Fin cfg0.N, (cfg0.win 0).index t 0 = t.val / 2 ∧ (cfg0.win 0).index t 1 = t.val % 2 ∧ (cfg0.win 0).index t 2 = 0 := by
  decide +kernel
theorem idx1 : ∀ t : Fin cfg0.N, (cfg0.win 1).index t 0 = 0 ∧ (cfg0.win 1).index t 1 = 0 := by decide +kernel
theorem idx2 : ∀ t : Fin cfg0.N, (cfg0.win 2).index t 0 = 0 ∧ (cfg0.win 2).index t 1 = 0 := by decide +kernel
theorem idx3 : ∀ t : Fin cfg0.N, (cfg0.win 3).index t 0 = t.val % 2 ∧ (cfg0.win 3).index t 1 = t.val / 2 := by decide +kernel
theorem idx4 : ∀ t : Fin cfg0.N, (cfg0.win 4).index t 0 = t.val / 2 ∧ (cfg0.win 4).index t 1 = 0 ∧ (cfg0.win 4).index t 2 = t.val % 2 := by
  decide +kernel
theorem idx5 : ∀ t : Fin cfg0.N, (cfg0.win 5).index t 0 = t.val / 2 ∧ (cfg0.win 5).index t 1 = 0 ∧ (cfg0.win 5).index t 2 = t.val % 2 := by
  decide +kernel
theorem idx6 : ∀ t : Fin cfg0.N, (cfg0.win 6).index t 0 = t.val / 2 ∧ (cfg0.win 6).index t 1 = t.val % 2 ∧ (cfg0.win 6).index t 2 = 0 := by
  decide +kernel

variable (m : (ℓ : Loc nD τ sig) → Buf (Elt Ideal) ℓ)

theorem blk0 (c : Dev nD) (t : Fin cfg0.N) (x : Fin 2048) (l : Fin 256) :
    iblk m c 0 t (ix3 0 x l) = V m c main_v33 (ix3 (headOf t) (rowOf t x) l) := by
  obtain ⟨e0, e1, e2⟩ := idx0 t
  blk_ext [iblk, e0, e1, e2, headOf, rowOf]

theorem blk1 (c : Dev nD) (t : Fin cfg0.N) (k : Fin 4096) (l : Fin 256) :
    iblk m c 1 t (ix2 k l) = V m c main_v38 (ix2 k l) := by
  obtain ⟨e0, e1⟩ := idx1 t
  blk_ext [iblk, e0, e1]

theorem blk2 (c : Dev nD) (t : Fin cfg0.N) (l : Fin 256) (k : Fin 4096) :
    iblk m c 2 t (ix2 l k) = V m c main_v39 (ix2 l k) := by
  obtain ⟨e0, e1⟩ := idx2 t
  blk_ext [iblk, e0, e1]

theorem blk3 (c : Dev nD) (t : Fin cfg0.N) (x : Fin 2048) (v : Fin 128) :
    iblk m c 3 t (ix2 x v) = V m c main_v41 (ix2 (rowOf t x) ⟨(headOf t).val * 128 + v.val, by omega⟩) := by
  obtain ⟨e0, e1⟩ := idx3 t
  have h0 : (win0_3.blk t).view.emb (ix2 x v) 0 = rowOf t x := Fin.ext (by blk_simp [e0]; rfl)
  have h1 : (win0_3.blk t).view.emb (ix2 x v) 1 = (⟨(headOf t).val * 128 + v.val, by omega⟩ : Fin 2048) :=
    Fin.ext (by blk_simp [e1]; rfl)
  have h : (win0_3.blk t).view.emb (ix2 x v) = ix2 (rowOf t x) ⟨(headOf t).val * 128 + v.val, by omega⟩ :=
    (eq_ix2 _).trans (congrArg₂ ix2 h0 h1)
  blk_simp [iblk]
  rw [h]

theorem read4 (c : Dev nD) (A : (b : Ref sig .tc) → Buf (Elt Ideal) ((c.tc : Thread nD τ).loc b)) (t : Fin cfg0.N) (x : Fin 2048) :
    ((cfg0.win 4).blk t).view.read (Elt Ideal) (A (Pipeline.arrRef spec0 4)) (ix3 0 0 x) = A main_v42 (ix3 (headOf t) 0 (rowOf t x)) := by
  obtain ⟨e0, e1, e2⟩ := idx4 t
  have h0 : (win0_4.blk t).view.emb (ix3 0 0 x) 0 = headOf t := Fin.ext (by blk_simp [e0]; rfl)
  have h1 : (win0_4.blk t).view.emb (ix3 0 0 x) 1 = (0 : Fin 1) := Fin.ext (by blk_simp [e1])
  have h2 : (win0_4.blk t).view.emb (ix3 0 0 x) 2 = rowOf t x := Fin.ext (by blk_simp [e2]; rfl)
  have h : (win0_4.blk t).view.emb (ix3 0 0 x) = ix3 (headOf t) 0 (rowOf t x) := by
    refine (eq_ix3 _).trans ?_
    rw [h0, h1, h2]
  blk_simp
  rw [h]

theorem blk4 (c : Dev nD) (t : Fin cfg0.N) (x : Fin 2048) :
    iblk m c 4 t (ix3 0 0 x) = V m c main_v42 (ix3 (headOf t) 0 (rowOf t x)) :=
  read4 c (V m c) t x

theorem read5 (c : Dev nD) (A : (b : Ref sig .tc) → Buf (Elt Ideal) ((c.tc : Thread nD τ).loc b)) (t : Fin cfg0.N) (x : Fin 2048) :
    ((cfg0.win 5).blk t).view.read (Elt Ideal) (A (Pipeline.arrRef spec0 5)) (ix3 0 0 x) = A main_v43 (ix3 (headOf t) 0 (rowOf t x)) := by
  obtain ⟨e0, e1, e2⟩ := idx5 t
  have h0 : (win0_5.blk t).view.emb (ix3 0 0 x) 0 = headOf t := Fin.ext (by blk_simp [e0]; rfl)
  have h1 : (win0_5.blk t).view.emb (ix3 0 0 x) 1 = (0 : Fin 1) := Fin.ext (by blk_simp [e1])
  have h2 : (win0_5.blk t).view.emb (ix3 0 0 x) 2 = rowOf t x := Fin.ext (by blk_simp [e2]; rfl)
  have h : (win0_5.blk t).view.emb (ix3 0 0 x) = ix3 (headOf t) 0 (rowOf t x) := by
    refine (eq_ix3 _).trans ?_
    rw [h0, h1, h2]
  blk_simp
  rw [h]

theorem blk5 (c : Dev nD) (t : Fin cfg0.N) (x : Fin 2048) :
    iblk m c 5 t (ix3 0 0 x) = V m c main_v43 (ix3 (headOf t) 0 (rowOf t x)) :=
  read5 c (V m c) t x

/-! ## A point's tiles are parts of the whole arrays' -/

theorem prob_point (c : Dev nD) (t : Fin cfg0.N) (k : Fin 4096) (x : Fin 2048) :
    prob (iblk m c 0 t) (iblk m c 1 t) (iblk m c 4 t) k x
      = probR (V m c main_v33) (V m c main_v38) (V m c main_v42) (headOf t) k (rowOf t x) := by
  unfold prob probR
  simp only [blk0, blk1, blk4]

theorem dscore_point (c : Dev nD) (t : Fin cfg0.N) (k : Fin 4096) (x : Fin 2048) :
    dscore (iblk m c 0 t) (iblk m c 1 t) (iblk m c 3 t) (iblk m c 4 t) (iblk m c 5 t) k x
      = dscoreR (V m c main_v33) (V m c main_v38) (V m c main_v41) (V m c main_v42) (V m c main_v43) (headOf t) k (rowOf t x) := by
  unfold dscore dscoreR
  simp only [prob_point, blk1, blk3, blk5]

theorem dqAt_point (c : Dev nD) (t : Fin cfg0.N) (x : Fin 2048) (l : Fin 256) :
    dqAt (iblk m c 0 t) (iblk m c 1 t) (iblk m c 2 t) (iblk m c 3 t) (iblk m c 4 t) (iblk m c 5 t) x l
      = dqR (V m c main_v33) (V m c main_v38) (V m c main_v39) (V m c main_v41) (V m c main_v42) (V m c main_v43)
          (headOf t) (rowOf t x) l := by
  unfold dqAt dqR
  simp only [dscore_point, blk2]

/-! ## The arrays after the run -/

/-- The last point of the grid. -/
def tLast : Fin cfg0.N := ⟨31, by decide⟩

theorem dv_last (c : Dev nD) (k : Fin 4096) (v : Fin 128) :
    (outsAt0 m c tLast.val tLast.isLt).2.2 (ix2 k v)
      = dvR (V m c main_v33) (V m c main_v38) (V m c main_v41) (V m c main_v42) k v := by
  have e := Pipeline.eq_sum_fin_of_reset_step_apply_last
    (fun n hn (_ : Unit) => (outsAt0 m c n hn).2.2 (ix2 k v)) 32 (fun _ => (0 : EReal))
    (fun t _ => dvAdd (iblk m c 0 t) (iblk m c 1 t) (iblk m c 3 t) (iblk m c 4 t) k v)
    (fun t h _ => dv_first m c t h k v) (fun t h _ => dv_step m c t h k v) (by decide) tLast (by decide) ()
  refine e.trans ?_
  rw [zero_add]
  unfold dvR dvAdd
  refine Fin.sum_points_lanes_congr 2 fun t x ha hl => ?_
  rw [prob_point, blk3]
  rfl

theorem dk_last (c : Dev nD) (k : Fin 4096) (l : Fin 256) :
    (outsAt0 m c tLast.val tLast.isLt).2.1 (ix2 k l)
      = dkR (V m c main_v33) (V m c main_v38) (V m c main_v41) (V m c main_v42) (V m c main_v43) k l := by
  have e := Pipeline.eq_sum_fin_of_reset_step_apply_last
    (fun n hn (_ : Unit) => (outsAt0 m c n hn).2.1 (ix2 k l)) 32 (fun _ => (0 : EReal))
    (fun t _ => dkAdd (iblk m c 0 t) (iblk m c 1 t) (iblk m c 3 t) (iblk m c 4 t) (iblk m c 5 t) k l)
    (fun t h _ => dk_first m c t h k l) (fun t h _ => dk_step m c t h k l) (by decide) tLast (by decide) ()
  refine e.trans ?_
  rw [zero_add]
  unfold dkR dkAdd
  refine Fin.sum_points_lanes_congr 2 fun t x ha hl => ?_
  rw [dscore_point, blk0]
  rfl

theorem arr6 (c : Dev nD) :
    (dats m 0 c).arrAt 6 cfg0.N = fun i => dqR (V m c main_v33) (V m c main_v38) (V m c main_v39) (V m c main_v41)
      (V m c main_v42) (V m c main_v43) (i 0) (i 1) (i 2) := by
  refine (dats m 0 c).arrAt_eq_of_covers 6 _ (by decide +kernel) fun t hf y => ?_
  blk_simp
  rw [after0_6]
  obtain ⟨u, x, l, rfl⟩ : ∃ (u : Fin 1) (x : Fin 2048) (l : Fin 256), y = ix3 u x l := ⟨y 0, y 1, y 2, eq_ix3 y⟩
  obtain rfl : u = 0 := Subsingleton.elim _ _
  obtain ⟨e0, e1, e2⟩ := idx6 t
  have h0 : (win0_6.blk t).view.emb (ix3 0 x l) 0 = headOf t := Fin.ext (by blk_simp [e0]; rfl)
  have h1 : (win0_6.blk t).view.emb (ix3 0 x l) 1 = rowOf t x := Fin.ext (by blk_simp [e1]; rfl)
  have h2 : (win0_6.blk t).view.emb (ix3 0 x l) 2 = l := Fin.ext (by blk_simp [e2])
  rw [h0, h1, h2]
  exact (dq_point m c t x l).trans (dqAt_point m c t x l)

theorem arr7 (c : Dev nD) :
    (dats m 0 c).arrAt 7 cfg0.N = fun i => dkR (V m c main_v33) (V m c main_v38) (V m c main_v41)
      (V m c main_v42) (V m c main_v43) (i 0) (i 1) := by
  refine (dats m 0 c).arrAt_eq_of_after_last 7 tLast (by decide +kernel) _ fun j => ?_
  blk_simp
  rw [after0_7]
  obtain ⟨k, l, rfl⟩ : ∃ (k : Fin 4096) (l : Fin 256), j = ix2 k l := ⟨j 0, j 1, eq_ix2 j⟩
  exact dk_last m c k l

theorem arr8 (c : Dev nD) :
    (dats m 0 c).arrAt 8 cfg0.N = fun i => dvR (V m c main_v33) (V m c main_v38) (V m c main_v41)
      (V m c main_v42) (i 0) (i 1) := by
  refine (dats m 0 c).arrAt_eq_of_after_last 8 tLast (by decide +kernel) _ fun j => ?_
  blk_simp
  rw [after0_8]
  obtain ⟨k, v, rfl⟩ : ∃ (k : Fin 4096) (v : Fin 128), j = ix2 k v := ⟨j 0, j 1, eq_ix2 j⟩
  exact dv_last m c k v

end
end Cert.KernelIdeal.Hand
-- ==== Proof.Lanes.lean ====
module
public import proofs.«01_k».proof.Proof.Stages

/-! # Sums over the 256 lanes

A query's lanes hold its latent part and then four slots, of which only its head's own is not zero. A key's lanes
hold its latent part and its rotary part four times. Their inner product is the score, and the slots of a gradient
sum to the gradient of the rotary part. -/

@[expose] public section
set_option maxRecDepth 16384

namespace Cert.KernelIdeal.Hand
open Idealize.ShloMosaic
open Cert.Hand

/-- The lane of a slot. -/
def slotLane (b : Fin 4) (r : Fin 32) : Fin 256 := ⟨128 + (b.val * 32 + r.val), by omega⟩

/-- A latent lane. -/
def latLane (c : Fin 128) : Fin 256 := ⟨c.val, by omega⟩

/-- The lanes are the latent lanes and the slots' lanes. -/
theorem sum_lanes (f : Fin 256 → ℝ) : ∑ l, f l = ∑ c, f (latLane c) + ∑ b, ∑ r, f (slotLane b r) := by
  have e := Fin.sum_univ_add (a := 128) (b := 128) f
  rw [e]
  congr 1
  rw [← Finset.sum_product', Finset.univ_product_univ]
  symm
  refine Fintype.sum_equiv (finProdFinEquiv (m := 4) (n := 32)) _ _ fun x => ?_
  refine congrArg f (Fin.ext ?_)
  show 128 + (x.1.val * 32 + x.2.val) = 128 + (x.2.val + 32 * x.1.val)
  ring

theorem qLane_lat (A : Args) (h : Fin 16) (q : Fin 4096) (c : Fin 128) : qLane A h q (latLane c) = A.A0 q h c * kap := by
  unfold qLane latLane
  rw [dif_pos c.isLt]

theorem qLane_slot (A : Args) (h : Fin 16) (q : Fin 4096) (b : Fin 4) (r : Fin 32) :
    qLane A h q (slotLane b r) = if b.val = h.val % 4 then A.A1 q h r * kap else 0 := by
  unfold qLane slotLane
  rw [dif_neg (by simp)]
  have e1 : (128 + (b.val * 32 + r.val) - 128) / 32 = b.val := by omega
  have e2 : (128 + (b.val * 32 + r.val) - 128) % 32 = r.val := by omega
  simp only [e1, e2]

theorem kLane_lat (A : Args) (k : Fin 4096) (c : Fin 128) : kLane A k (latLane c) = A.A2 k c := by
  unfold kLane latLane
  rw [dif_pos c.isLt]

theorem kLane_slot (A : Args) (k : Fin 4096) (b : Fin 4) (r : Fin 32) : kLane A k (slotLane b r) = A.A3 k r := by
  unfold kLane slotLane
  rw [dif_neg (by simp)]
  have e2 : (128 + (b.val * 32 + r.val) - 128) % 32 = r.val := by omega
  simp only [e2]

/-- One slot of four is a head's own. -/
theorem sum_own (h : Fin 16) (x : ℝ) : ∑ b : Fin 4, (if b.val = h.val % 4 then x else 0) = x := by
  have e : ∀ b : Fin 4, (b.val = h.val % 4) ↔ (⟨h.val % 4, Nat.mod_lt _ (by decide)⟩ : Fin 4) = b := fun b => by
    rw [Fin.ext_iff]; exact eq_comm
  simp only [e, Finset.sum_ite_eq, Finset.mem_univ, if_true]

/-- The inner product over the lanes is the score. -/
theorem lanes_score (A : Args) (h : Fin 16) (q k : Fin 4096) :
    ∑ l, kLane A k l * qLane A h q l = score kap A.A0 A.A1 A.A2 A.A3 h q k := by
  rw [sum_lanes]
  simp only [qLane_lat, kLane_lat, qLane_slot, kLane_slot, score]
  congr 1
  rw [Finset.sum_comm]
  refine Finset.sum_congr rfl fun r _ => ?_
  simp only [mul_ite, mul_zero]
  exact sum_own h _

end Cert.KernelIdeal.Hand
-- ==== Proof.Tail.lean ====
module
public import proofs.«01_k».proof.Proof.Gen.KernelIdeal.Frame
public import Idealize.ShloMosaic.Lib.Pipeline.ValueKit
public import Idealize.ShloMosaic.Lib.StableHlo.ReadAt
public import proofs.«01_k».proof.Proof.Lanes

/-! # What the kernel's program makes of the call's results

The four gradients, as functions of the arrays the call writes. -/

@[expose] public section
set_option maxRecDepth 16384

namespace Cert.KernelIdeal.Hand
open Idealize.ShloMosaic
open Cert.KernelIdeal Cert.KernelIdeal.Gen

variable (dq : FVec Ideal S16x4096x256 .bf16) (dk : FVec Ideal S4096x256 .f32) (dv : FVec Ideal S4096x128 .f32)

/-- The gradient of the latent queries. -/
noncomputable def tQ0 : FVec Ideal S4096x16x128 .f32 :=
  transpose S4096x16x128 [1, 0, 2] (extractStridedSlice S16x4096x128 ![0, 0, 0] (extf .f32 dq bitsLt_bf16_f32)
    slices_S16x4096x256_S16x4096x128_0_0_0) transposes_S16x4096x128_S4096x16x128_1_0_2

/-- The gradient of the rotary queries: the slots summed, of which a head keeps its own. -/
noncomputable def tQ1 : FVec Ideal S4096x16x32 .f32 :=
  transpose S4096x16x32 [1, 0, 2] (shapeCast S16x4096x32
    (Host.reduceAdd (select kOwn (shapeCast S4x4x4096x4x32 (extractStridedSlice S16x4096x128 ![0, 0, 128] (extf .f32 dq bitsLt_bf16_f32)
      slices_S16x4096x256_S16x4096x128_0_0_128) shapeCasts_S16x4096x128_S4x4x4096x4x32) kZero : FVec Ideal S4x4x4096x4x32 .f32)
      (constant (F := Ideal) S_ .f32 0x00000000#32) reducesTo_S4x4x4096x4x32_S4x4x4096x32_d3 h_S_)
    shapeCasts_S4x4x4096x32_S16x4096x32) transposes_S16x4096x32_S4096x16x32_1_0_2

/-- The gradient of the latent keys. -/
noncomputable def tK0 : FVec Ideal S4096x128 .f32 :=
  addf (extractStridedSlice S4096x128 ![0, 0] dk slices_S4096x256_S4096x128_0_0) dv

/-- The gradient of the rotary keys: the slots summed. -/
noncomputable def tK1 : FVec Ideal S4096x32 .f32 :=
  Host.reduceAdd (shapeCast S4096x4x32 (extractStridedSlice S4096x128 ![0, 128] dk slices_S4096x256_S4096x128_0_128)
    shapeCasts_S4096x128_S4096x4x32) (constant (F := Ideal) S_ .f32 0x00000000#32) reducesTo_S4096x4x32_S4096x32_d1 h_S_

theorem tQ0_at (q : Fin 4096) (h : Fin 16) (c : Fin 128) : tQ0 dq (ix3 q h c) = dq (ix3 h q (latLane c)) := by
  pointwise [tQ0]
  rfl

theorem tQ1_at (q : Fin 4096) (h : Fin 16) (r : Fin 32) :
    tQ1 dq (ix3 q h r) = ∑ b : Fin 4, if b.val = h.val % 4 then dq (ix3 h q (slotLane b r)) else 0 := by
  pointwise [tQ1, kOwn, kZero]
  exact Finset.sum_congr rfl fun b _ => (select_own _ _ _ _ (by omega) (by omega)).trans (if_congr eq_comm rfl rfl)

theorem tK0_at (k : Fin 4096) (c : Fin 128) : tK0 dk dv (ix2 k c) = dk (ix2 k (latLane c)) + dv (ix2 k c) := by
  pointwise [tK0]
  rfl

theorem tK1_at (k : Fin 4096) (r : Fin 32) : tK1 dk (ix2 k r) = ∑ b : Fin 4, dk (ix2 k (slotLane b r)) := by
  pointwise [tK1]
  rfl

/-! ## The results of the program -/

variable (W : Valuation τ sig (Elt Ideal))

theorem tail_v47 : StableHlo.after (List.flatten [hostOps1, hostOps1_1, hostOps1_2]) W (Proc.devRef .tc main_v47)
    = tQ0 (W (Proc.devRef .tc main_v44_0)) := by
  after_reads_simp
  rfl

theorem tail_v56 : StableHlo.after (List.flatten [hostOps1, hostOps1_1, hostOps1_2]) W (Proc.devRef .tc main_v56)
    = tQ1 (W (Proc.devRef .tc main_v44_0)) := by
  after_reads_simp
  rfl

theorem tail_v58 : StableHlo.after (List.flatten [hostOps1, hostOps1_1, hostOps1_2]) W (Proc.devRef .tc main_v58)
    = tK0 (W (Proc.devRef .tc main_v44_1)) (W (Proc.devRef .tc main_v44_2)) := by
  after_reads_simp
  rfl

theorem tail_v61 : StableHlo.after (List.flatten [hostOps1, hostOps1_1, hostOps1_2]) W (Proc.devRef .tc main_v61)
    = tK1 (W (Proc.devRef .tc main_v44_1)) := by
  after_reads_simp
  rfl

end Cert.KernelIdeal.Hand
-- ==== Proof.Gradients.lean ====
module
public import proofs.«01_k».proof.Proof.Region
public import proofs.«01_k».proof.Proof.Tail

/-! # The call's arrays and the four gradients over real arguments -/

@[expose] public section
set_option maxRecDepth 16384

namespace Cert.KernelIdeal.Hand
open Idealize.ShloMosaic
open Cert.KernelIdeal Cert.KernelIdeal.Gen
open Cert.Hand (Args Holds kap kap_eq coe_sum score prb dsc dprb delta lse exp_sub_lse gA0 gA1 gA2 gA3)

variable {a0 : FVec Ideal S4096x16x128 .f32} {a1 : FVec Ideal S4096x16x32 .f32} {a2 : FVec Ideal S4096x128 .f32}
  {a3 : FVec Ideal S4096x32 .f32} {a4 : FVec Ideal S4096x16x128 .f32} {A : Args}

/-- The probability the call recomputes. -/
theorem probR_at (H : Holds a0 a1 a2 a3 a4 A) (h : Fin 16) (q k : Fin 4096) :
    probR (kQ a0 a1) (kK a2 a3) (kL a0 a1 a2 a3) h k q = ((prb kap A.A0 A.A1 A.A2 A.A3 h q k : ℝ) : EReal) := by
  unfold probR
  have e : ∑ l : Fin 256, kK a2 a3 (ix2 k l) * kQ a0 a1 (ix3 h q l)
      = ((score kap A.A0 A.A1 A.A2 A.A3 h q k : ℝ) : EReal) := by
    rw [← lanes_score, coe_sum]
    exact Finset.sum_congr rfl fun l _ => by rw [kK_at H, kQ_at H, EReal.coe_mul]
  rw [e, kL_at H, ← EReal.coe_sub, Ideal.exp_coe, exp_sub_lse]

/-- The cotangent of a score. -/
theorem dscoreR_at (H : Holds a0 a1 a2 a3 a4 A) (h : Fin 16) (q k : Fin 4096) :
    dscoreR (kQ a0 a1) (kK a2 a3) (kGO a4) (kL a0 a1 a2 a3) (kD a0 a1 a2 a3 a4) h k q
      = ((dsc kap A.A0 A.A1 A.A2 A.A3 A.A4 h q k : ℝ) : EReal) := by
  unfold dscoreR
  have e : ∑ v : Fin 128, kK a2 a3 (ix2 k ⟨v.val, by omega⟩) * kGO a4 (ix2 q ⟨h.val * 128 + v.val, by omega⟩)
      = ((dprb A.A2 A.A4 h q k : ℝ) : EReal) := by
    unfold dprb
    rw [coe_sum]
    refine Finset.sum_congr rfl fun v _ => ?_
    rw [kGO_at H, EReal.coe_mul]
    refine congrArg (· * _) ?_
    exact (kK_at H k (latLane v)).trans (congrArg _ (kLane_lat A k v))
  rw [probR_at H, e, kD_at H, ← EReal.coe_sub, ← EReal.coe_mul]
  rfl

/-- The call's gradient of the queries on a lane. -/
theorem dqR_at (H : Holds a0 a1 a2 a3 a4 A) (h : Fin 16) (q : Fin 4096) (l : Fin 256) :
    dqR (kQ a0 a1) (kK a2 a3) (kKT a2 a3) (kGO a4) (kL a0 a1 a2 a3) (kD a0 a1 a2 a3 a4) h q l
      = (((∑ k, dsc kap A.A0 A.A1 A.A2 A.A3 A.A4 h q k * kLane A k l) * kap : ℝ) : EReal) := by
  unfold dqR scale
  rw [kap_eq, EReal.coe_mul, coe_sum]
  refine congrArg (· * _) (Finset.sum_congr rfl fun k _ => ?_)
  rw [kKT_at H, dscoreR_at H, EReal.coe_mul, mul_comm]

/-- The call's gradient of the keys on a lane. -/
theorem dkR_at (H : Holds a0 a1 a2 a3 a4 A) (k : Fin 4096) (l : Fin 256) :
    dkR (kQ a0 a1) (kK a2 a3) (kGO a4) (kL a0 a1 a2 a3) (kD a0 a1 a2 a3 a4) k l
      = ((∑ h, ∑ q, dsc kap A.A0 A.A1 A.A2 A.A3 A.A4 h q k * qLane A h q l : ℝ) : EReal) := by
  unfold dkR
  rw [coe_sum]
  refine Finset.sum_congr rfl fun h _ => ?_
  rw [coe_sum]
  refine Finset.sum_congr rfl fun q _ => ?_
  rw [dscoreR_at H, kQ_at H, EReal.coe_mul]

/-- The call's gradient of the values. -/
theorem dvR_at (H : Holds a0 a1 a2 a3 a4 A) (k : Fin 4096) (v : Fin 128) :
    dvR (kQ a0 a1) (kK a2 a3) (kGO a4) (kL a0 a1 a2 a3) k v
      = ((∑ h, ∑ q, prb kap A.A0 A.A1 A.A2 A.A3 h q k * A.A4 q h v : ℝ) : EReal) := by
  unfold dvR
  rw [coe_sum]
  refine Finset.sum_congr rfl fun h _ => ?_
  rw [coe_sum]
  refine Finset.sum_congr rfl fun q _ => ?_
  rw [probR_at H, kGO_at H, EReal.coe_mul]

/-! ## The four gradients -/

/-- A sum over the slots of which one is a head's own. -/
theorem sum_own_coe (h : Fin 16) (x : ℝ) : ∑ b : Fin 4, (if b.val = h.val % 4 then (x : EReal) else 0) = (x : EReal) := by
  conv_rhs => rw [← sum_own h x, coe_sum]
  exact Finset.sum_congr rfl fun b _ => by split_ifs <;> rfl

variable {dq : FVec Ideal S16x4096x256 .bf16} {dk : FVec Ideal S4096x256 .f32} {dv : FVec Ideal S4096x128 .f32}

theorem tQ0_real (H : Holds a0 a1 a2 a3 a4 A)
    (e : dq = fun i => dqR (kQ a0 a1) (kK a2 a3) (kKT a2 a3) (kGO a4) (kL a0 a1 a2 a3) (kD a0 a1 a2 a3 a4) (i 0) (i 1) (i 2))
    (q : Fin 4096) (h : Fin 16) (c : Fin 128) :
    tQ0 dq (ix3 q h c) = ((gA0 kap A.A0 A.A1 A.A2 A.A3 A.A4 q h c : ℝ) : EReal) := by
  rw [tQ0_at, e]
  refine (dqR_at H h q (latLane c)).trans ?_
  simp only [kLane_lat, gA0]

theorem tQ1_real (H : Holds a0 a1 a2 a3 a4 A)
    (e : dq = fun i => dqR (kQ a0 a1) (kK a2 a3) (kKT a2 a3) (kGO a4) (kL a0 a1 a2 a3) (kD a0 a1 a2 a3 a4) (i 0) (i 1) (i 2))
    (q : Fin 4096) (h : Fin 16) (r : Fin 32) :
    tQ1 dq (ix3 q h r) = ((gA1 kap A.A0 A.A1 A.A2 A.A3 A.A4 q h r : ℝ) : EReal) := by
  rw [tQ1_at, e]
  refine Eq.trans (Finset.sum_congr rfl fun b _ => ?_) (sum_own_coe h _)
  refine if_congr Iff.rfl ((dqR_at H h q (slotLane b r)).trans ?_) rfl
  simp only [kLane_slot, gA1]

theorem tK0_real (H : Holds a0 a1 a2 a3 a4 A)
    (e : dk = fun i => dkR (kQ a0 a1) (kK a2 a3) (kGO a4) (kL a0 a1 a2 a3) (kD a0 a1 a2 a3 a4) (i 0) (i 1))
    (e' : dv = fun i => dvR (kQ a0 a1) (kK a2 a3) (kGO a4) (kL a0 a1 a2 a3) (i 0) (i 1)) (k : Fin 4096) (c : Fin 128) :
    tK0 dk dv (ix2 k c) = ((gA2 kap A.A0 A.A1 A.A2 A.A3 A.A4 k c : ℝ) : EReal) := by
  rw [tK0_at, e, e']
  refine (congrArg₂ (· + ·) (dkR_at H k (latLane c)) (dvR_at H k c)).trans ?_
  rw [← EReal.coe_add]
  simp only [qLane_lat, gA2, add_comm]

theorem tK1_real (H : Holds a0 a1 a2 a3 a4 A)
    (e : dk = fun i => dkR (kQ a0 a1) (kK a2 a3) (kGO a4) (kL a0 a1 a2 a3) (kD a0 a1 a2 a3 a4) (i 0) (i 1))
    (k : Fin 4096) (r : Fin 32) :
    tK1 dk (ix2 k r) = ((gA3 kap A.A0 A.A1 A.A2 A.A3 A.A4 k r : ℝ) : EReal) := by
  rw [tK1_at, e]
  refine (Finset.sum_congr rfl fun b _ => dkR_at H k (slotLane b r)).trans ?_
  rw [← coe_sum]
  refine congrArg _ ?_
  simp only [qLane_slot, gA3]
  rw [Finset.sum_comm]
  refine Finset.sum_congr rfl fun h _ => ?_
  rw [Finset.sum_comm]
  refine Finset.sum_congr rfl fun q _ => ?_
  simp only [mul_ite, mul_zero]
  exact sum_own h _

end Cert.KernelIdeal.Hand
-- ==== Proof.Finite.lean ====
module
public import proofs.«01_k».proof.Proof.Gen.Pre_finite
public import proofs.«01_k».proof.Proof.Reference
public import Idealize.ShloMosaic.Lib.ReduceAll

/-! # The precondition

Where it holds, every argument is a real number at every index. -/

@[expose] public section
set_option maxRecDepth 16384

namespace Cert.Hand
open Idealize.ShloMosaic
open Cert.Pre_finite

theorem pos_inf : Ideal.ofBits .f32 0x7F800000#32 = (⊤ : EReal) := by
  simp [Ideal.ofBits, Ideal.ieee]

/-- One comparison of an absolute value with infinity. -/
theorem real_of_cmp {s : Shape} (x y : FVec Ideal s .f32) (i : s.Idx) (hy : y i = (⊤ : EReal))
    (e : cmpf .olt (Host.absf x) y i = 1#1) : x i = (((x i).toReal : ℝ) : EReal) := by
  refine eq_coe_of_abs_lt ?_
  have e' : BitVec.ofBool (decide (max (x i) (-(x i)) < y i)) = 1#1 := e
  rw [hy] at e'
  by_contra h
  rw [decide_eq_false h] at e'
  exact absurd e' (by decide)

theorem and_one {x y : BitVec 1} (h : x &&& y = 1#1) : x = 1#1 ∧ y = 1#1 := by
  revert h; revert x y; decide

instance : Subsingleton S_.Idx := ⟨fun a b => funext fun i => i.elim0⟩

variable (a0 : FVec Ideal S4096x16x128 .f32) (a1 : FVec Ideal S4096x16x32 .f32) (a2 : FVec Ideal S4096x128 .f32)
  (a3 : FVec Ideal S4096x32 .f32) (a4 : FVec Ideal S4096x16x128 .f32)

/-- The real arrays of five arguments. -/
noncomputable def argsOf : Args where
  A0 q h c := (a0 (ix3 q h c)).toReal
  A1 q h r := (a1 (ix3 q h r)).toReal
  A2 k c := (a2 (ix2 k c)).toReal
  A3 k r := (a3 (ix2 k r)).toReal
  A4 q h c := (a4 (ix3 q h c)).toReal

theorem holds_of_pre [Cert.Pre_finite.Facts] (h : Cert.Pre_finite.fn (F := Ideal) a0 a1 a2 a3 a4 = fun _ => 1#1) :
    Holds a0 a1 a2 a3 a4 (argsOf a0 a1 a2 a3 a4) := by
  have e := congrFun h ix0
  obtain ⟨e, e4⟩ := and_one e
  obtain ⟨e, e3⟩ := and_one e
  obtain ⟨e, e2⟩ := and_one e
  obtain ⟨e0, e1⟩ := and_one e
  exact
    { h0 := fun q h c => real_of_cmp a0 _ _ pos_inf (Host.reduce_andi_all _ _ _ _ _ e0 (ix3 q h c))
      h1 := fun q h c => real_of_cmp a1 _ _ pos_inf (Host.reduce_andi_all _ _ _ _ _ e1 (ix3 q h c))
      h2 := fun k c => real_of_cmp a2 _ _ pos_inf (Host.reduce_andi_all _ _ _ _ _ e2 (ix2 k c))
      h3 := fun k c => real_of_cmp a3 _ _ pos_inf (Host.reduce_andi_all _ _ _ _ _ e3 (ix2 k c))
      h4 := fun q h c => real_of_cmp a4 _ _ pos_inf (Host.reduce_andi_all _ _ _ _ _ e4 (ix3 q h c)) }

end Cert.Hand
-- ==== Proof.Equation.lean ====
module
public import proofs.«01_k».proof.Defs
public import proofs.«01_k».proof.Proof.Gen.ReferenceIdeal.Run
public import proofs.«01_k».proof.Proof.Prelude
public import proofs.«01_k».proof.Proof.Gradients
public import proofs.«01_k».proof.Proof.Finite

/-! # The kernel's program against the reference

Both end with the four gradients, index by index. -/

@[expose] public section
set_option maxRecDepth 16384

namespace Cert.KernelIdeal.Hand
open Idealize.ShloMosaic Idealize.SL.Sem
open Cert.KernelIdeal Cert.KernelIdeal.Gen
open Cert.Hand (Args Holds)

variable (m : (ℓ : Loc nD τ sig) → Buf (Elt Ideal) ℓ) (c : Dev nD)

/-- The call's arrays, as the lines after it read them. -/
noncomputable abbrev outs : Valuation τ sig (Elt Ideal) :=
  Pipeline.withArrays cfg0.spec c (V0 m c) fun w => (dats m 0 c).arrAt w cfg0.N

theorem outs_dq : outs m c (Proc.devRef .tc main_v44_0) = fun i => dqR (kQ (arg0 m c) (arg1 m c)) (kK (arg2 m c) (arg3 m c))
    (kKT (arg2 m c) (arg3 m c)) (kGO (arg4 m c)) (kL (arg0 m c) (arg1 m c) (arg2 m c) (arg3 m c))
    (kD (arg0 m c) (arg1 m c) (arg2 m c) (arg3 m c) (arg4 m c)) (i 0) (i 1) (i 2) := by
  rw [← V_v33 m c, ← V_v38 m c, ← V_v39 m c, ← V_v41 m c, ← V_v42 m c, ← V_v43 m c, ← arr6 m c]
  exact Pipeline.withArrays_arr cfg0.spec (by decide) c (V0 m c) (fun w => (dats m 0 c).arrAt w cfg0.N) 6

theorem outs_dk : outs m c (Proc.devRef .tc main_v44_1) = fun i => dkR (kQ (arg0 m c) (arg1 m c)) (kK (arg2 m c) (arg3 m c))
    (kGO (arg4 m c)) (kL (arg0 m c) (arg1 m c) (arg2 m c) (arg3 m c))
    (kD (arg0 m c) (arg1 m c) (arg2 m c) (arg3 m c) (arg4 m c)) (i 0) (i 1) := by
  rw [← V_v33 m c, ← V_v38 m c, ← V_v41 m c, ← V_v42 m c, ← V_v43 m c, ← arr7 m c]
  exact Pipeline.withArrays_arr cfg0.spec (by decide) c (V0 m c) (fun w => (dats m 0 c).arrAt w cfg0.N) 7

theorem outs_dv : outs m c (Proc.devRef .tc main_v44_2) = fun i => dvR (kQ (arg0 m c) (arg1 m c)) (kK (arg2 m c) (arg3 m c))
    (kGO (arg4 m c)) (kL (arg0 m c) (arg1 m c) (arg2 m c) (arg3 m c)) (i 0) (i 1) := by
  rw [← V_v33 m c, ← V_v38 m c, ← V_v41 m c, ← V_v42 m c, ← arr8 m c]
  exact Pipeline.withArrays_arr cfg0.spec (by decide) c (V0 m c) (fun w => (dats m 0 c).arrAt w cfg0.N) 8

/-- The four results of the kernel's program are the reference's four. -/
theorem results [Cert.Pre_finite.Facts] (hpre : Cert.Pre_KernelIdeal_finite m) :
    Pipeline.afterTail₀ cfgs (dats m) 0 (V0 m) [hostOps1, hostOps1_1, hostOps1_2] c main_v47
        = Cert.ReferenceIdeal.Read.val_main_v65 (F := Ideal) (arg0 m c) (arg1 m c) (arg2 m c) (arg3 m c) (arg4 m c)
    ∧ Pipeline.afterTail₀ cfgs (dats m) 0 (V0 m) [hostOps1, hostOps1_1, hostOps1_2] c main_v56
        = Cert.ReferenceIdeal.Read.val_main_v63 (F := Ideal) (arg0 m c) (arg1 m c) (arg2 m c) (arg3 m c) (arg4 m c)
    ∧ Pipeline.afterTail₀ cfgs (dats m) 0 (V0 m) [hostOps1, hostOps1_1, hostOps1_2] c main_v58
        = Cert.ReferenceIdeal.Read.val_main_v61 (F := Ideal) (arg0 m c) (arg1 m c) (arg2 m c) (arg3 m c) (arg4 m c)
    ∧ Pipeline.afterTail₀ cfgs (dats m) 0 (V0 m) [hostOps1, hostOps1_1, hostOps1_2] c main_v61
        = Cert.ReferenceIdeal.Read.val_main_v57 (F := Ideal) (arg0 m c) (arg1 m c) (arg2 m c) (arg3 m c) (arg4 m c) := by
  have H := Cert.Hand.holds_of_pre _ _ _ _ _ (hpre c)
  refine ⟨(tail_v47 (outs m c)).trans ?_, (tail_v56 (outs m c)).trans ?_, (tail_v58 (outs m c)).trans ?_,
    (tail_v61 (outs m c)).trans ?_⟩
  · funext i
    rw [eq_ix3 i]
    exact (tQ0_real H (outs_dq m c) _ _ _).trans (Cert.Hand.v65_at H _ _ _).symm
  · funext i
    rw [eq_ix3 i]
    exact (tQ1_real H (outs_dq m c) _ _ _).trans (Cert.Hand.v63_at H _ _ _).symm
  · funext i
    rw [eq_ix2 i]
    exact (tK0_real H (outs_dk m c) (outs_dv m c) _ _).trans (Cert.Hand.v61_at H _ _).symm
  · funext i
    rw [eq_ix2 i]
    exact (tK1_real H (outs_dk m c) _ _).trans (Cert.Hand.v57_at H _ _).symm

end Cert.KernelIdeal.Hand

namespace Cert.Hand
open Idealize.ShloMosaic Idealize.SL.Sem
open Cert.KernelIdeal.Hand (results arg0 arg1 arg2 arg3 arg4)

/-- The reference's program keeps its arguments, and it has no semaphore. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The same under the precondition. -/
theorem frame_reference_finite [Cert.Pre_finite.Facts] : Cert.quiescent_ReferenceIdeal_pre_finite := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The attention's backward call: both programs end with the same four gradients. -/
theorem algebraic_attention [Cert.Pre_finite.Facts] : Cert.algebraic_KernelIdeal_ReferenceIdeal_pre_finite := by
  intro m ρ m' ρ' hpre hargs
  refine ⟨fun c => Cert.ReferenceIdeal.Read.val_main_v65 (F := Ideal) (arg0 m c) (arg1 m c) (arg2 m c) (arg3 m c) (arg4 m c),
    fun c => Cert.ReferenceIdeal.Read.val_main_v63 (F := Ideal) (arg0 m c) (arg1 m c) (arg2 m c) (arg3 m c) (arg4 m c),
    fun c => Cert.ReferenceIdeal.Read.val_main_v61 (F := Ideal) (arg0 m c) (arg1 m c) (arg2 m c) (arg3 m c) (arg4 m c),
    fun c => Cert.ReferenceIdeal.Read.val_main_v57 (F := Ideal) (arg0 m c) (arg1 m c) (arg2 m c) (arg3 m c) (arg4 m c), ?_, ?_⟩
  · refine (θ_run Cert.KernelIdeal.defs _ _).mono ?_
      (θ_run_and (Cert.KernelIdeal.Gen.run_main (F := Ideal) m ρ) (Cert.KernelIdeal.Gen.unchanged (F := Ideal) m ρ))
    intro r h c
    obtain ⟨e0, e1, e2, e3⟩ := results m c hpre
    refine ⟨?_, ?_, ?_, ?_, h.2 c⟩
    · exact ((h.1 c).2 Cert.KernelIdeal.main_v47 (Pipeline.mem_restRefs_of _ (by decide) (by decide))).trans e0
    · exact ((h.1 c).2 Cert.KernelIdeal.main_v56 (Pipeline.mem_restRefs_of _ (by decide) (by decide))).trans e1
    · exact ((h.1 c).2 Cert.KernelIdeal.main_v58 (Pipeline.mem_restRefs_of _ (by decide) (by decide))).trans e2
    · exact ((h.1 c).2 Cert.KernelIdeal.main_v61 (Pipeline.mem_restRefs_of _ (by decide) (by decide))).trans e3
  · refine (θ_run Cert.ReferenceIdeal.defs _ _).mono ?_ (Cert.ReferenceIdeal.Value.run (F := Ideal) m' ρ')
    intro r h c
    obtain ⟨h0, h1, h2, h3, h4⟩ := h c
    obtain ⟨g0, g1, g2, g3, g4⟩ := hargs c
    refine ⟨?_, ?_, ?_, ?_, h4⟩
    · rw [h0, Cert.ReferenceIdeal.Read.val_main_v65_eq m' c, g0, g1, g2, g3, g4]
    · rw [h1, Cert.ReferenceIdeal.Read.val_main_v63_eq m' c, g0, g1, g2, g3, g4]
    · rw [h2, Cert.ReferenceIdeal.Read.val_main_v61_eq m' c, g0, g1, g2, g3, g4]
    · rw [h3, Cert.ReferenceIdeal.Read.val_main_v57_eq m' c, g0, g1, g2, g3, g4]

end Cert.Hand
-- ==== Proof.FwdReal.lean ====
module
public import proofs.«01_k».proof.Proof.Real

/-! # A running softmax over the real numbers

The keys are met in eight chunks of 512, and a row's sums are kept less an offset that changes from chunk to chunk. In
the end the offset drops out. -/

@[expose] public section

namespace Cert.Fwd
open Idealize.ShloMosaic
open Cert.Hand

/-- Key `a` of chunk `c`. -/
def key (c : ℕ) (a : Fin 512) : Fin 4096 := ⟨(512 * c + a.val) % 4096, Nat.mod_lt _ (by decide)⟩

/-- Summing the chunks is summing the keys. -/
theorem sum_chunks (f : Fin 4096 → ℝ) : ∑ c ∈ Finset.range 8, ∑ a, f (key c a) = ∑ k, f k := by
  rw [Finset.sum_range fun c => ∑ a, f (key c a), ← Finset.sum_product', Finset.univ_product_univ]
  refine Fintype.sum_equiv (finProdFinEquiv (m := 8) (n := 512)) _ _ fun x => ?_
  refine congrArg f (Fin.ext ?_)
  show (512 * x.1.val + x.2.val) % 4096 = x.2.val + 512 * x.1.val
  have h1 := x.1.isLt
  have h2 := x.2.isLt
  omega

/-- The sums of the first `n` chunks less the offset `M`. -/
noncomputable def acc (n : ℕ) (s : Fin 4096 → ℝ) (v : Fin 4096 → ℝ) (M : ℝ) : ℝ :=
  ∑ c ∈ Finset.range n, ∑ a, Real.exp (s (key c a) - M) * v (key c a)

/-- Moving the offset and meeting the next chunk. -/
theorem acc_succ (n : ℕ) (s v : Fin 4096 → ℝ) (M M' : ℝ) :
    acc n s v M * Real.exp (M - M') + ∑ a, Real.exp (s (key n a) - M') * v (key n a) = acc (n + 1) s v M' := by
  unfold acc
  rw [Finset.sum_range_succ, Finset.sum_mul]
  congr 1
  refine Finset.sum_congr rfl fun c _ => ?_
  rw [Finset.sum_mul]
  refine Finset.sum_congr rfl fun a _ => ?_
  have e : Real.exp (s (key c a) - M') = Real.exp (s (key c a) - M) * Real.exp (M - M') := by
    rw [← Real.exp_add]
    congr 1
    ring
  rw [e]
  ring

/-- The first chunk. -/
theorem acc_one (s v : Fin 4096 → ℝ) (M : ℝ) : ∑ a, Real.exp (s (key 0 a) - M) * v (key 0 a) = acc 1 s v M := by
  unfold acc
  rw [Finset.sum_range_one]

/-- All the keys. -/
theorem acc_all (s v : Fin 4096 → ℝ) (M : ℝ) : acc 8 s v M = ∑ k, Real.exp (s k - M) * v k :=
  sum_chunks fun k => Real.exp (s k - M) * v k

/-- A row's sum of exponentials. -/
noncomputable def tot (s : Fin 4096 → ℝ) : ℝ := ∑ k, Real.exp (s k)

theorem tot_pos (s : Fin 4096 → ℝ) : 0 < tot s :=
  Finset.sum_pos (fun _ _ => Real.exp_pos _) ⟨(0 : Fin 4096), Finset.mem_univ _⟩

theorem shift (s v : Fin 4096 → ℝ) (M : ℝ) : ∑ k, Real.exp (s k - M) * v k = (∑ k, Real.exp (s k) * v k) * (Real.exp M)⁻¹ := by
  rw [Finset.sum_mul]
  refine Finset.sum_congr rfl fun k _ => ?_
  rw [Real.exp_sub]
  field_simp

/-- The row of ones sums to a positive number. -/
theorem acc_ones (s v : Fin 4096 → ℝ) (hv : ∀ k, v k = 1) (M : ℝ) : acc 8 s v M = tot s * (Real.exp M)⁻¹ := by
  rw [acc_all, shift]
  simp only [hv, mul_one, tot]

theorem acc_ones_pos (s v : Fin 4096 → ℝ) (hv : ∀ k, v k = 1) (M : ℝ) : 0 < acc 8 s v M := by
  rw [acc_ones s v hv]
  exact mul_pos (tot_pos s) (inv_pos.mpr (Real.exp_pos M))

/-- The mean of the values under the softmax of a row. -/
noncomputable def mean (s v : Fin 4096 → ℝ) : ℝ := ∑ k, Real.exp (s k) / tot s * v k

/-- The quotient of two running sums is free of the offset. -/
theorem quotient (s v w : Fin 4096 → ℝ) (hw : ∀ k, w k = 1) (M : ℝ) : acc 8 s v M * (1 / acc 8 s w M) = mean s v := by
  rw [acc_ones s w hw, acc_all, shift]
  have h1 := (tot_pos s).ne'
  have h2 := (Real.exp_pos M).ne'
  unfold mean
  have e : ∑ k, Real.exp (s k) / tot s * v k = (∑ k, Real.exp (s k) * v k) / tot s := by
    rw [Finset.sum_div]
    exact Finset.sum_congr rfl fun k _ => by ring
  rw [e]
  field_simp

/-- So is the offset and the logarithm of the running sum. -/
theorem logarithm (s w : Fin 4096 → ℝ) (hw : ∀ k, w k = 1) (M : ℝ) : M + Real.log (acc 8 s w M) = Real.log (tot s) := by
  rw [acc_ones s w hw, Real.log_mul (tot_pos s).ne' (inv_pos.mpr (Real.exp_pos M)).ne', Real.log_inv, Real.log_exp]
  ring

end Cert.Fwd
-- ==== Proof.FwdBlock.lean ====
module
public import proofs.«01_k».proof.Proof.Gen.Kernel3Ideal.Frame
public import Idealize.ShloMosaic.Lib.Pipeline.ValueKit
public import Idealize.ShloMosaic.Lib.Pipeline.ReadBack
public import Idealize.ShloMosaic.Lib.Pointwise
public import proofs.«01_k».proof.Proof.Reference
public import proofs.«01_k».proof.Proof.FwdReal

/-! # What a step of the attention's forward grid computes

A step holds a block of queries and meets the keys chunk by chunk. After each chunk a row has an offset, a real number,
and on each lane the sum of the exponentials of its scores less the offset times the values. -/

@[expose] public section
set_option maxRecDepth 16384

namespace Cert.Kernel3Ideal.Hand
open Idealize.ShloMosaic
open Cert.Kernel3Ideal Cert.Kernel3Ideal.Gen
open Cert.Fwd
open Cert.Hand (coe_sum fold_max_coe neg_inf)

/-- The scores of a chunk. -/
noncomputable abbrev scores (q : FVec Ideal S1024x256 .bf16) (k : Vec Ideal S512x256 .bf16) : FVec Ideal S1024x512 .f32 := k0_pay15 q k

/-- The offsets after a chunk. -/
noncomputable abbrev offs (q : FVec Ideal S1024x256 .bf16) (m : FVec Ideal S1024x1 .f32) (k : Vec Ideal S512x256 .bf16) :
    FVec Ideal S1024x1 .f32 := k0_pay16 q m k

/-- The exponentials of a chunk. -/
noncomputable def exps (q : FVec Ideal S1024x256 .bf16) (m : FVec Ideal S1024x1 .f32) (k : Vec Ideal S512x256 .bf16) :
    FVec Ideal S1024x512 .bf16 :=
  truncf .bf16 (exp (subf (scores q k) (broadcastTo S1024x512 (offs q m k) broadcasts_S1024x1_S1024x512))) bitsLt_bf16_f32

/-- The sums so far, moved to the new offsets. -/
noncomputable def moved (q : FVec Ideal S1024x256 .bf16) (m : FVec Ideal S1024x1 .f32) (o : FVec Ideal S1024x256 .f32)
    (k : Vec Ideal S512x256 .bf16) : FVec Ideal S1024x256 .f32 :=
  mulf o (broadcastTo S1024x256 (exp (subf m (offs q m k))) broadcasts_S1024x1_S1024x256)

/-- A chunk's own sums. -/
noncomputable def own (p : FVec Ideal S1024x512 .bf16) (v : Vec Ideal S512x256 .bf16) : FVec Ideal S1024x256 .f32 :=
  matmul dot_S1024x512_S512x256_S1024x256_1_0_0_1_n_n none p
    (shapeCast S512x256 v shapeCasts_S512x256_S512x256 : FVec Ideal S512x256 .bf16) (constant S1024x256 .f32 0x00000000#32)

/-- The sums after a chunk. -/
noncomputable def step (q : FVec Ideal S1024x256 .bf16) (m : FVec Ideal S1024x1 .f32) (o : FVec Ideal S1024x256 .f32)
    (k v : Vec Ideal S512x256 .bf16) : FVec Ideal S1024x256 .f32 :=
  addf (moved q m o k) (own (exps q m k) v)

/-! ## A chunk at an index -/

theorem scores_at (q : FVec Ideal S1024x256 .bf16) (k : Vec Ideal S512x256 .bf16) (x : Fin 1024) (a : Fin 512) :
    scores q k (ix2 x a) = ∑ l : Fin 256, q (ix2 x l) * k (ix2 a l) := by
  pointwise [scores, k0_pay15]

theorem offs_at (q : FVec Ideal S1024x256 .bf16) (m : FVec Ideal S1024x1 .f32) (k : Vec Ideal S512x256 .bf16) (x : Fin 1024) :
    offs q m k (ix2 x 0) = max (m (ix2 x 0)) (Finset.univ.fold max (⊥ : EReal) fun a : Fin 512 => scores q k (ix2 x a)) := by
  pointwise [offs, k0_pay16]
  rw [neg_inf]

theorem exps_at (q : FVec Ideal S1024x256 .bf16) (m : FVec Ideal S1024x1 .f32) (k : Vec Ideal S512x256 .bf16) (x : Fin 1024) (a : Fin 512) :
    exps q m k (ix2 x a) = Ideal.exp (scores q k (ix2 x a) - offs q m k (ix2 x 0)) := by
  unfold exps
  generalize scores q k = s
  generalize offs q m k = w
  pointwise

theorem moved_at (q : FVec Ideal S1024x256 .bf16) (m : FVec Ideal S1024x1 .f32) (o : FVec Ideal S1024x256 .f32)
    (k : Vec Ideal S512x256 .bf16) (x : Fin 1024) (l : Fin 256) :
    moved q m o k (ix2 x l) = o (ix2 x l) * Ideal.exp (m (ix2 x 0) - offs q m k (ix2 x 0)) := by
  unfold moved
  generalize offs q m k = w
  pointwise

theorem own_at (p : FVec Ideal S1024x512 .bf16) (v : Vec Ideal S512x256 .bf16) (x : Fin 1024) (l : Fin 256) :
    own p v (ix2 x l) = ∑ a : Fin 512, p (ix2 x a) * v (ix2 a l) := by
  pointwise [own]

theorem step_at (q : FVec Ideal S1024x256 .bf16) (m : FVec Ideal S1024x1 .f32) (o : FVec Ideal S1024x256 .f32)
    (k v : Vec Ideal S512x256 .bf16) (x : Fin 1024) (l : Fin 256) :
    step q m o k v (ix2 x l) = moved q m o k (ix2 x l) + own (exps q m k) v (ix2 x l) := rfl

/-! ## What holds after each chunk -/

variable (Q : Fin 1024 → Fin 256 → ℝ) (K W : Fin 4096 → Fin 256 → ℝ)

/-- The scores of a row. -/
noncomputable def sc (x : Fin 1024) (k : Fin 4096) : ℝ := ∑ l, Q x l * K k l

/-- After `n` chunks a row has a real offset and its sums are those of the chunks met. -/
def After (n : ℕ) (m : FVec Ideal S1024x1 .f32) (o : FVec Ideal S1024x256 .f32) : Prop :=
  ∃ M : Fin 1024 → ℝ, (∀ x, m (ix2 x 0) = ((M x : ℝ) : EReal)) ∧
    ∀ x l, o (ix2 x l) = ((acc n (sc Q K x) (fun k => W k l) (M x) : ℝ) : EReal)

variable {Q K W} {n : ℕ} {q : FVec Ideal S1024x256 .bf16} {m : FVec Ideal S1024x1 .f32} {o : FVec Ideal S1024x256 .f32}
  {k v : Vec Ideal S512x256 .bf16}

theorem scores_real (hq : ∀ x l, q (ix2 x l) = ((Q x l : ℝ) : EReal)) (hk : ∀ a l, k (ix2 a l) = ((K (key n a) l : ℝ) : EReal))
    (x : Fin 1024) (a : Fin 512) : scores q k (ix2 x a) = ((sc Q K x (key n a) : ℝ) : EReal) := by
  rw [scores_at]
  simp only [hq, hk, ← EReal.coe_mul, ← coe_sum]
  rfl

theorem own_real (hq : ∀ x l, q (ix2 x l) = ((Q x l : ℝ) : EReal)) (hk : ∀ a l, k (ix2 a l) = ((K (key n a) l : ℝ) : EReal))
    (hv : ∀ a l, v (ix2 a l) = ((W (key n a) l : ℝ) : EReal)) (M : Fin 1024 → ℝ) (hM : ∀ x, offs q m k (ix2 x 0) = ((M x : ℝ) : EReal))
    (x : Fin 1024) (l : Fin 256) :
    own (exps q m k) v (ix2 x l) = ((∑ a, Real.exp (sc Q K x (key n a) - M x) * W (key n a) l : ℝ) : EReal) := by
  rw [own_at]
  simp only [exps_at, scores_real hq hk, hM, hv, ← EReal.coe_sub, Ideal.exp_coe, ← EReal.coe_mul, ← coe_sum]

/-- The first chunk. -/
theorem after_one (hq : ∀ x l, q (ix2 x l) = ((Q x l : ℝ) : EReal)) (hk : ∀ a l, k (ix2 a l) = ((K (key 0 a) l : ℝ) : EReal))
    (hv : ∀ a l, v (ix2 a l) = ((W (key 0 a) l : ℝ) : EReal)) (hm : ∀ x, m (ix2 x 0) = (⊥ : EReal))
    (ho : ∀ x l, o (ix2 x l) = (0 : EReal)) : After Q K W 1 (offs q m k) (step q m o k v) := by
  have hM : ∀ x, offs q m k (ix2 x 0)
      = ((Finset.univ.sup' ⟨(0 : Fin 512), Finset.mem_univ _⟩ fun a => sc Q K x (key 0 a) : ℝ) : EReal) := fun x => by
    rw [offs_at, hm]
    simp only [scores_real hq hk]
    rw [fold_max_coe 512]
    exact max_eq_right bot_le
  refine ⟨_, hM, fun x l => ?_⟩
  rw [step_at, moved_at, ho, zero_mul, zero_add, own_real hq hk hv _ hM]
  exact congrArg _ (acc_one _ (fun k => W k l) _)

/-- A further chunk. -/
theorem after_succ (hq : ∀ x l, q (ix2 x l) = ((Q x l : ℝ) : EReal)) (hk : ∀ a l, k (ix2 a l) = ((K (key n a) l : ℝ) : EReal))
    (hv : ∀ a l, v (ix2 a l) = ((W (key n a) l : ℝ) : EReal)) (h : After Q K W n m o) :
    After Q K W (n + 1) (offs q m k) (step q m o k v) := by
  obtain ⟨M, hm, ho⟩ := h
  have hM : ∀ x, offs q m k (ix2 x 0)
      = ((max (M x) (Finset.univ.sup' ⟨(0 : Fin 512), Finset.mem_univ _⟩ fun a => sc Q K x (key n a)) : ℝ) : EReal) := fun x => by
    rw [offs_at, hm]
    simp only [scores_real hq hk]
    rw [fold_max_coe 512]
    exact (EReal.coe_strictMono.monotone.map_max).symm
  refine ⟨_, hM, fun x l => ?_⟩
  rw [step_at, moved_at, ho, hm, hM, own_real hq hk hv _ hM, ← EReal.coe_sub, Ideal.exp_coe, ← EReal.coe_mul, ← EReal.coe_add]
  exact congrArg _ (acc_succ n _ (fun k => W k l) _ _)

end Cert.Kernel3Ideal.Hand
-- ==== Proof.FwdTile.lean ====
module
public import proofs.«01_k».proof.Proof.FwdBlock

/-! # The two blocks a step of the attention's forward grid leaves

The step's values are eight chunks in a row, then the quotient of the sums by the lane of ones, and the offset with the
logarithm of that lane. -/

@[expose] public section
set_option maxRecDepth 16384

namespace Cert.Kernel3Ideal.Hand
open Idealize.ShloMosaic
open Cert.Kernel3Ideal Cert.Kernel3Ideal.Gen
open Cert.Fwd
open Cert.Hand (coe_sum fold_max_coe neg_inf)

variable (x0 : Vec Ideal S1x1024x256 .bf16) (x1 x2 : Vec Ideal S4096x256 .bf16)

/-- The queries of the block. -/
noncomputable def qry : FVec Ideal S1024x256 .bf16 := k0_pay7 (View.ld x0 r0_0)

/-- The sums before the first chunk. -/
noncomputable def zeros : FVec Ideal S1024x256 .f32 := broadcast S1024x256 (Scalar.ofBits (F := Ideal) .f32 0x00000000#32)

/-- The offsets after each chunk. -/
noncomputable def m1 : FVec Ideal S1024x1 .f32 := offs (qry x0) k0_pay8 (View.ld x1 r0_1)
noncomputable def m2 : FVec Ideal S1024x1 .f32 := offs (qry x0) (m1 x0 x1) (View.ld x1 r0_2)
noncomputable def m3 : FVec Ideal S1024x1 .f32 := offs (qry x0) (m2 x0 x1) (View.ld x1 r0_3)
noncomputable def m4 : FVec Ideal S1024x1 .f32 := offs (qry x0) (m3 x0 x1) (View.ld x1 r0_4)
noncomputable def m5 : FVec Ideal S1024x1 .f32 := offs (qry x0) (m4 x0 x1) (View.ld x1 r0_5)
noncomputable def m6 : FVec Ideal S1024x1 .f32 := offs (qry x0) (m5 x0 x1) (View.ld x1 r0_6)
noncomputable def m7 : FVec Ideal S1024x1 .f32 := offs (qry x0) (m6 x0 x1) (View.ld x1 r0_7)
noncomputable def m8 : FVec Ideal S1024x1 .f32 := offs (qry x0) (m7 x0 x1) (View.ld x1 r0_8)

/-- The sums after each chunk. -/
noncomputable def o1 : FVec Ideal S1024x256 .f32 := step (qry x0) k0_pay8 zeros (View.ld x1 r0_1) (View.ld x2 r0_1)
noncomputable def o2 : FVec Ideal S1024x256 .f32 := step (qry x0) (m1 x0 x1) (o1 x0 x1 x2) (View.ld x1 r0_2) (View.ld x2 r0_2)
noncomputable def o3 : FVec Ideal S1024x256 .f32 := step (qry x0) (m2 x0 x1) (o2 x0 x1 x2) (View.ld x1 r0_3) (View.ld x2 r0_3)
noncomputable def o4 : FVec Ideal S1024x256 .f32 := step (qry x0) (m3 x0 x1) (o3 x0 x1 x2) (View.ld x1 r0_4) (View.ld x2 r0_4)
noncomputable def o5 : FVec Ideal S1024x256 .f32 := step (qry x0) (m4 x0 x1) (o4 x0 x1 x2) (View.ld x1 r0_5) (View.ld x2 r0_5)
noncomputable def o6 : FVec Ideal S1024x256 .f32 := step (qry x0) (m5 x0 x1) (o5 x0 x1 x2) (View.ld x1 r0_6) (View.ld x2 r0_6)
noncomputable def o7 : FVec Ideal S1024x256 .f32 := step (qry x0) (m6 x0 x1) (o6 x0 x1 x2) (View.ld x1 r0_7) (View.ld x2 r0_7)
noncomputable def o8 : FVec Ideal S1024x256 .f32 := step (qry x0) (m7 x0 x1) (o7 x0 x1 x2) (View.ld x1 r0_8) (View.ld x2 r0_8)

/-! ## The step's values are these -/

theorem pay30_eq : k0_pay30 x0 x1 x2 = m2 x0 x1 := rfl
theorem pay31_eq : k0_pay31 x0 x1 x2 = m4 x0 x1 := rfl
theorem pay22_eq : k0_pay22 (k0_pay31 x0 x1 x2) (k0_pay32 x0 x1 x2) = m5 x0 x1 := rfl
theorem pay33_eq : k0_pay33 x0 x1 x2 = m7 x0 x1 := rfl

theorem sums2 : addf (k0_pay13 (View.ld x0 r0_0) (View.ld x1 r0_1) (View.ld x2 r0_1) (View.ld x1 r0_2))
    (k0_pay14 (View.ld x0 r0_0) (View.ld x1 r0_1) (View.ld x1 r0_2) (View.ld x2 r0_2)) = o2 x0 x1 x2 := rfl

theorem sums4 : k0_pay19 (k0_pay29 x0 x1 x2) (k0_pay30 x0 x1 x2)
    (k0_pay13 (View.ld x0 r0_0) (View.ld x1 r0_1) (View.ld x2 r0_1) (View.ld x1 r0_2))
    (k0_pay14 (View.ld x0 r0_0) (View.ld x1 r0_1) (View.ld x1 r0_2) (View.ld x2 r0_2)) (View.ld x1 r0_3) (View.ld x2 r0_3)
    (View.ld x1 r0_4) (View.ld x2 r0_4) = o4 x0 x1 x2 := rfl

theorem sums6 : k0_pay35 x0 x1 x2 = moved (qry x0) (m6 x0 x1) (o6 x0 x1 x2) (View.ld x1 r0_7) := by
  unfold k0_pay35
  rw [sums4]
  rfl

theorem exps7 : k0_pay34 x0 x1 x2 = exps (qry x0) (m6 x0 x1) (View.ld x1 r0_7) := rfl

theorem sums8 : k0_pay3 (k0_pay29 x0 x1 x2) (k0_pay33 x0 x1 x2) (k0_pay34 x0 x1 x2) (k0_pay35 x0 x1 x2) (View.ld x2 r0_7)
    (View.ld x1 r0_8) (View.ld x2 r0_8) = o8 x0 x1 x2 := by
  rw [sums6, exps7, pay33_eq]
  rfl

theorem offs8 : k0_pay2 (k0_pay29 x0 x1 x2) (k0_pay33 x0 x1 x2) (View.ld x1 r0_8) = m8 x0 x1 := rfl

/-! ## Over real blocks -/

variable {Q : Fin 1024 → Fin 256 → ℝ} {K W : Fin 4096 → Fin 256 → ℝ}

theorem qry_real (hq : ∀ x l, x0 (ix3 0 x l) = ((Q x l : ℝ) : EReal)) (x : Fin 1024) (l : Fin 256) :
    qry x0 (ix2 x l) = ((Q x l : ℝ) : EReal) := by
  have e : View.ld x0 r0_0 = x0 := View.ld_unit_lit' _ _ (by decide)
  unfold qry
  rw [e]
  pointwise [k0_pay7]
  exact hq x l

theorem chunk (y : Vec Ideal S4096x256 .bf16) (hy : ∀ k l, y (ix2 k l) = ((K k l : ℝ) : EReal)) (n : ℕ) (hn : n < 8) (off : ℕ)
    (ho : off = 512 * n) (inb : ∀ a : Fin S4096x256.rank, ![off, 0] a + ![512, 256] a ≤ S4096x256.size a) (a : Fin 512) (l : Fin 256) :
    View.ld y (Rect.unit ![off, 0] ![512, 256] inb) (ix2 a l) = ((K (key n a) l : ℝ) : EReal) := by
  subst ho
  have h : (⟨512 * n + a.val, by omega⟩ : Fin 4096) = key n a := Fin.ext (by simp only [key]; omega)
  rw [← hy, ← h]
  pointwise

section
variable (hq : ∀ x l, x0 (ix3 0 x l) = ((Q x l : ℝ) : EReal)) (hk : ∀ k l, x1 (ix2 k l) = ((K k l : ℝ) : EReal))
  (hv : ∀ k l, x2 (ix2 k l) = ((W k l : ℝ) : EReal))
include hq hk hv

theorem after8 : After Q K W 8 (m8 x0 x1) (o8 x0 x1 x2) := by
  have h0 := qry_real x0 hq
  have k1 : After Q K W 1 (m1 x0 x1) (o1 x0 x1 x2) := after_one (m := k0_pay8) (o := zeros) h0 (chunk x1 hk 0 (by decide) 0 rfl inb_S4096x256_S512x256_0_0) (chunk x2 hv 0 (by decide) 0 rfl inb_S4096x256_S512x256_0_0)
    (fun x => neg_inf) (fun x l => Ideal.ofBits_zero_f32)
  have k2 : After Q K W 2 (m2 x0 x1) (o2 x0 x1 x2) := after_succ h0 (chunk x1 hk 1 (by decide) 512 rfl inb_S4096x256_S512x256_512_0) (chunk x2 hv 1 (by decide) 512 rfl inb_S4096x256_S512x256_512_0) k1
  have k3 : After Q K W 3 (m3 x0 x1) (o3 x0 x1 x2) := after_succ h0 (chunk x1 hk 2 (by decide) 1024 rfl inb_S4096x256_S512x256_1024_0) (chunk x2 hv 2 (by decide) 1024 rfl inb_S4096x256_S512x256_1024_0) k2
  have k4 : After Q K W 4 (m4 x0 x1) (o4 x0 x1 x2) := after_succ h0 (chunk x1 hk 3 (by decide) 1536 rfl inb_S4096x256_S512x256_1536_0) (chunk x2 hv 3 (by decide) 1536 rfl inb_S4096x256_S512x256_1536_0) k3
  have k5 : After Q K W 5 (m5 x0 x1) (o5 x0 x1 x2) := after_succ h0 (chunk x1 hk 4 (by decide) 2048 rfl inb_S4096x256_S512x256_2048_0) (chunk x2 hv 4 (by decide) 2048 rfl inb_S4096x256_S512x256_2048_0) k4
  have k6 : After Q K W 6 (m6 x0 x1) (o6 x0 x1 x2) := after_succ h0 (chunk x1 hk 5 (by decide) 2560 rfl inb_S4096x256_S512x256_2560_0) (chunk x2 hv 5 (by decide) 2560 rfl inb_S4096x256_S512x256_2560_0) k5
  have k7 : After Q K W 7 (m7 x0 x1) (o7 x0 x1 x2) := after_succ h0 (chunk x1 hk 6 (by decide) 3072 rfl inb_S4096x256_S512x256_3072_0) (chunk x2 hv 6 (by decide) 3072 rfl inb_S4096x256_S512x256_3072_0) k6
  exact after_succ h0 (chunk x1 hk 7 (by decide) 3584 rfl inb_S4096x256_S512x256_3584_0) (chunk x2 hv 7 (by decide) 3584 rfl inb_S4096x256_S512x256_3584_0) k7

/-- The output's block: each row's mean of the values under its softmax. -/
theorem block3 (hw : ∀ k, W k 128 = 1) (x : Fin 1024) (v : Fin 128) :
    out0_3 x0 x1 x2 (ix2 x v) = ((mean (sc Q K x) (fun k => W k ⟨v.val, by omega⟩) : ℝ) : EReal) := by
  obtain ⟨M, hM, ho⟩ := after8 x0 x1 x2 hq hk hv
  unfold out0_3
  frame_out
  pointwise [k0_pay5, k0_pay4]
  rw [sums8]
  simp only [ho]
  have hp := acc_ones_pos (sc Q K x) (fun k => W k 128) hw (M x)
  rw [Ideal.div_coe hp.ne', one_mul, ← EReal.coe_mul]
  exact congrArg _ (quotient _ (fun k => W k ⟨v.val, by omega⟩) _ hw (M x))

/-- The logarithms' block. -/
theorem block4 (hw : ∀ k, W k 128 = 1) (x : Fin 1024) :
    out0_4 x0 x1 x2 (ix3 0 0 x) = ((Real.log (tot (sc Q K x)) : ℝ) : EReal) := by
  obtain ⟨M, hM, ho⟩ := after8 x0 x1 x2 hq hk hv
  unfold out0_4
  frame_out
  pointwise [k0_pay6, k0_pay4]
  rw [sums8, offs8]
  simp only [ho, hM]
  have hp := acc_ones_pos (sc Q K x) (fun k => W k 128) hw (M x)
  rw [Ideal.log_coe, if_neg (not_le.mpr hp), ← EReal.coe_add]
  exact congrArg _ (logarithm _ _ hw (M x))
end

end Cert.Kernel3Ideal.Hand
-- ==== Proof.FwdPrelude.lean ====
module
public import proofs.«01_k».proof.Proof.Gen.Kernel3Ideal.Frame
public import Idealize.ShloMosaic.Lib.Pipeline.ValueKit
public import Idealize.ShloMosaic.Lib.StableHlo.ReadAt
public import proofs.«01_k».proof.Proof.Stages

/-! # What the attention's forward call reads

Its queries and keys are the backward call's. Its values are the latent keys beside a lane of ones. -/

@[expose] public section
set_option maxRecDepth 16384

namespace Cert.Kernel3Ideal.Hand
open Idealize.ShloMosaic
open Cert.Kernel3Ideal Cert.Kernel3Ideal.Gen
open Cert.Hand (Args Holds)
open Cert.KernelIdeal.Hand (kQ kK select_own)

section
variable (a2 : FVec Ideal S4096x128 .f32)

/-- Ones in the first lane, zeros in the others. -/
noncomputable def kOne : FVec Ideal S4096x128 .f32 :=
  select (cmpi .eq (iotaInDim S4096x128 32 1) (broadcastInDim S4096x128 ![] bcast_S_S4096x128 (constantI S_ 32 0#32)))
    (broadcastInDim S4096x128 ![] bcast_S_S4096x128 (constant (F := Ideal) S_ .f32 0x3F800000#32))
    (broadcastInDim S4096x128 ![] bcast_S_S4096x128 (constant (F := Ideal) S_ .f32 0x00000000#32))

/-- The values the call reads. -/
noncomputable def kV : FVec Ideal S4096x256 .bf16 :=
  truncf .bf16 (concatenate S4096x256 1 [⟨S4096x128, a2⟩, ⟨S4096x128, kOne⟩] concatenates_S4096x128_S4096x128_S4096x256_d1 :
    FVec Ideal S4096x256 .f32) bitsLt_bf16_f32
end

/-- The lanes of a value: the latent key, then a one, then zeros. -/
noncomputable def vLane (A : Args) (k : Fin 4096) (l : Fin 256) : ℝ :=
  if hl : l.val < 128 then A.A2 k ⟨l.val, hl⟩ else if l.val - 128 = 0 then 1 else 0

theorem vLane_lat (A : Args) (k : Fin 4096) (v : Fin 128) : vLane A k ⟨v.val, by omega⟩ = A.A2 k v := by
  unfold vLane
  rw [dif_pos v.isLt]

theorem vLane_one (A : Args) (k : Fin 4096) : vLane A k 128 = 1 := by
  unfold vLane
  rw [dif_neg (by decide), if_pos (by decide)]

theorem kV_at {a0 : FVec Ideal S4096x16x128 .f32} {a1 : FVec Ideal S4096x16x32 .f32} {a2 : FVec Ideal S4096x128 .f32}
    {a3 : FVec Ideal S4096x32 .f32} {a4 : FVec Ideal S4096x16x128 .f32} {A : Args} (H : Holds a0 a1 a2 a3 a4 A)
    (k : Fin 4096) (l : Fin 256) : kV a2 (ix2 k l) = ((vLane A k l : ℝ) : EReal) := by
  pointwise [kV, kOne]
  unfold vLane
  by_cases h1 : l.val < 128
  · rw [dif_pos h1, dif_pos h1]
    exact H.h2 _ _
  · rw [dif_neg h1, dif_neg h1]
    refine (select_own _ 0 _ _ (by omega) (by omega)).trans ?_
    by_cases h2 : l.val - 128 = 0
    · rw [if_pos h2, if_pos h2, EReal.coe_one]
    · rw [if_neg h2, if_neg h2, EReal.coe_zero]

variable (m : (ℓ : Loc nD τ sig) → Buf (Elt Ideal) ℓ) (c : Dev nD)

/-- The arguments. -/
abbrev arg0 : FVec Ideal S4096x16x128 .f32 := m ((c.tc : Thread nD τ).loc main_arg0)
abbrev arg1 : FVec Ideal S4096x16x32 .f32 := m ((c.tc : Thread nD τ).loc main_arg1)
abbrev arg2 : FVec Ideal S4096x128 .f32 := m ((c.tc : Thread nD τ).loc main_arg2)
abbrev arg3 : FVec Ideal S4096x32 .f32 := m ((c.tc : Thread nD τ).loc main_arg3)

theorem V_v25 : V m c main_v25 = kV (arg2 m c) := by
  unfold V
  unfold_abbrev_sides
  after_reads_simp
  refine congrArg₂ (fun x y => truncf .bf16 (concatenate S4096x256 1 [⟨S4096x128, x⟩, ⟨S4096x128, y⟩]
    concatenates_S4096x128_S4096x128_S4096x256_d1 : FVec Ideal S4096x256 .f32) bitsLt_bf16_f32) ?_ ?_
  · after_reads_simp
  · after_reads_simp
    rfl

theorem V_v18 : V m c main_v18 = kK (arg2 m c) (arg3 m c) := by
  unfold V
  unfold_abbrev_sides
  after_reads_simp
  refine congrArg₂ (fun x y => truncf .bf16 (concatenate S4096x256 1 [⟨S4096x128, x⟩, ⟨S4096x128, y⟩]
    concatenates_S4096x128_S4096x128_S4096x256_d1 : FVec Ideal S4096x256 .f32) bitsLt_bf16_f32) ?_ ?_
  · after_reads_simp
  · after_reads_simp
    rfl

theorem V_v13 : V m c main_v13 = kQ (arg0 m c) (arg1 m c) := by
  unfold V
  unfold_abbrev_sides
  after_reads_simp
  refine congrArg₂ (fun x y => truncf .bf16 (concatenate S16x4096x256 2 [⟨S16x4096x128, x⟩, ⟨S16x4096x128, y⟩]
    concatenates_S16x4096x128_S16x4096x128_S16x4096x256_d2 : FVec Ideal S16x4096x256 .f32) bitsLt_bf16_f32) ?_ ?_
  · after_reads_simp
    rfl
  · after_reads_simp
    rfl

end Cert.Kernel3Ideal.Hand
-- ==== Proof.FwdRegion.lean ====
module
public import proofs.«01_k».proof.Proof.FwdTile
public import proofs.«01_k».proof.Proof.FwdPrelude
public import proofs.«01_k».proof.Proof.Lanes

/-! # The two arrays the attention's forward call leaves

Every head and query, over real arguments. -/

@[expose] public section
set_option maxRecDepth 16384

namespace Cert.Kernel3Ideal.Hand
open Idealize.ShloMosaic
open Cert.Kernel3Ideal Cert.Kernel3Ideal.Gen
open Idealize.ShloMosaic.Pipeline (Dat Cfg Window)
open Cert.Hand (Args Holds kap score)
open Cert.KernelIdeal.Hand (kQ kK qLane kLane kQ_at kK_at lanes_score)
open Cert.Fwd

/-- The head of a grid point. -/
def headOf (t : Fin cfg0.N) : Fin 16 := ⟨t.val / 4, by have := t.isLt; have : cfg0.N = 64 := rfl; omega⟩

/-- The query in row `x` of a grid point's block. -/
def rowOf (t : Fin cfg0.N) (x : Fin 1024) : Fin 4096 := ⟨t.val % 4 * 1024 + x.val, by omega⟩

theorem idx0 : ∀ t : Fin cfg0.N, (cfg0.win 0).index t 0 = t.val / 4 ∧ (cfg0.win 0).index t 1 = t.val % 4 ∧ (cfg0.win 0).index t 2 = 0 := by
  decide +kernel
theorem idx1 : ∀ t : Fin cfg0.N, (cfg0.win 1).index t 0 = 0 ∧ (cfg0.win 1).index t 1 = 0 := by decide +kernel
theorem idx2 : ∀ t : Fin cfg0.N, (cfg0.win 2).index t 0 = 0 ∧ (cfg0.win 2).index t 1 = 0 := by decide +kernel
theorem idx3 : ∀ t : Fin cfg0.N, (cfg0.win 3).index t 0 = t.val % 4 ∧ (cfg0.win 3).index t 1 = t.val / 4 := by decide +kernel
theorem idx4 : ∀ t : Fin cfg0.N, (cfg0.win 4).index t 0 = t.val / 4 ∧ (cfg0.win 4).index t 1 = 0 ∧ (cfg0.win 4).index t 2 = t.val % 4 := by
  decide +kernel

variable (m : (ℓ : Loc nD τ sig) → Buf (Elt Ideal) ℓ)

theorem blk0 (c : Dev nD) (t : Fin cfg0.N) (x : Fin 1024) (l : Fin 256) :
    iblk m c 0 t (ix3 0 x l) = V m c main_v13 (ix3 (headOf t) (rowOf t x) l) := by
  obtain ⟨e0, e1, e2⟩ := idx0 t
  blk_ext [iblk, e0, e1, e2, headOf, rowOf]

theorem blk1 (c : Dev nD) (t : Fin cfg0.N) (k : Fin 4096) (l : Fin 256) :
    iblk m c 1 t (ix2 k l) = V m c main_v18 (ix2 k l) := by
  obtain ⟨e0, e1⟩ := idx1 t
  blk_ext [iblk, e0, e1]

theorem blk2 (c : Dev nD) (t : Fin cfg0.N) (k : Fin 4096) (l : Fin 256) :
    iblk m c 2 t (ix2 k l) = V m c main_v25 (ix2 k l) := by
  obtain ⟨e0, e1⟩ := idx2 t
  blk_ext [iblk, e0, e1]

/-- A point's scores are its head's and queries' scores. -/
theorem sc_score (A : Args) (h : Fin 16) (q : Fin 1024 → Fin 4096) (x : Fin 1024) :
    sc (fun x l => qLane A h (q x) l) (kLane A) x = score kap A.A0 A.A1 A.A2 A.A3 h (q x) := by
  funext k
  rw [← lanes_score]
  unfold sc
  exact Finset.sum_congr rfl fun l _ => mul_comm _ _

/-- The output of a query in a column, head by head. -/
noncomputable def outF (A : Args) (q : Fin 4096) (j : Fin 2048) : EReal :=
  ((mean (score kap A.A0 A.A1 A.A2 A.A3 ⟨j.val / 128, by omega⟩ q) (fun k => A.A2 k ⟨j.val % 128, Nat.mod_lt _ (by decide)⟩) : ℝ) : EReal)

theorem outF_at (A : Args) (h : Fin 16) (q : Fin 4096) (v : Fin 128) :
    outF A q ⟨h.val * 128 + v.val, by omega⟩
      = ((mean (score kap A.A0 A.A1 A.A2 A.A3 h q) (fun k => A.A2 k v) : ℝ) : EReal) := by
  have g1 : (⟨(h.val * 128 + v.val) / 128, by omega⟩ : Fin 16) = h := Fin.ext (by simp only; omega)
  have g2 : (⟨(h.val * 128 + v.val) % 128, Nat.mod_lt _ (by decide)⟩ : Fin 128) = v := Fin.ext (by simp only; omega)
  unfold outF
  simp only [g1, g2]

section
variable (c : Dev nD) {a4 : FVec Ideal S4096x16x128 .f32} {A : Args}
  (H : Holds (arg0 m c) (arg1 m c) (arg2 m c) (arg3 m c) a4 A)
include H

theorem q_real (t : Fin cfg0.N) (x : Fin 1024) (l : Fin 256) :
    iblk m c 0 t (ix3 0 x l) = ((qLane A (headOf t) (rowOf t x) l : ℝ) : EReal) := by
  rw [blk0, V_v13]
  exact kQ_at H _ _ _

theorem k_real (t : Fin cfg0.N) (k : Fin 4096) (l : Fin 256) : iblk m c 1 t (ix2 k l) = ((kLane A k l : ℝ) : EReal) := by
  rw [blk1, V_v18]
  exact kK_at H _ _

theorem v_real (t : Fin cfg0.N) (k : Fin 4096) (l : Fin 256) : iblk m c 2 t (ix2 k l) = ((vLane A k l : ℝ) : EReal) := by
  rw [blk2, V_v25]
  exact kV_at H _ _

theorem out_real (t : Fin cfg0.N) (x : Fin 1024) (v : Fin 128) :
    out0_3 (iblk m c 0 t) (iblk m c 1 t) (iblk m c 2 t) (ix2 x v)
      = ((mean (score kap A.A0 A.A1 A.A2 A.A3 (headOf t) (rowOf t x)) (fun k => A.A2 k v) : ℝ) : EReal) := by
  refine (block3 (Q := fun x l => qLane A (headOf t) (rowOf t x) l) (K := kLane A) (W := vLane A) _ _ _
    (q_real m c H t) (k_real m c H t) (v_real m c H t) (vLane_one A) x v).trans ?_
  rw [sc_score]
  simp only [vLane_lat]

theorem log_real (t : Fin cfg0.N) (x : Fin 1024) :
    out0_4 (iblk m c 0 t) (iblk m c 1 t) (iblk m c 2 t) (ix3 0 0 x)
      = ((Real.log (tot (score kap A.A0 A.A1 A.A2 A.A3 (headOf t) (rowOf t x))) : ℝ) : EReal) := by
  refine (block4 (Q := fun x l => qLane A (headOf t) (rowOf t x) l) (K := kLane A) (W := vLane A) _ _ _
    (q_real m c H t) (k_real m c H t) (v_real m c H t) (vLane_one A) x).trans ?_
  rw [sc_score]

theorem arr3 : (dats m 0 c).arrAt 3 cfg0.N = fun i => outF A (i 0) (i 1) := by
  refine (dats m 0 c).arrAt_eq_of_covers 3 _ (by decide +kernel) fun t hf y => ?_
  blk_simp
  rw [after0_3]
  obtain ⟨x, v, rfl⟩ : ∃ (x : Fin 1024) (v : Fin 128), y = ix2 x v := ⟨y 0, y 1, eq_ix2 y⟩
  obtain ⟨e0, e1⟩ := idx3 t
  have h0 : (win0_3.blk t).view.emb (ix2 x v) 0 = rowOf t x := Fin.ext (by blk_simp [e0]; rfl)
  have h1 : (win0_3.blk t).view.emb (ix2 x v) 1 = (⟨(headOf t).val * 128 + v.val, by omega⟩ : Fin 2048) :=
    Fin.ext (by blk_simp [e1]; rfl)
  rw [h0, h1, outF_at]
  exact out_real m c H t x v

theorem arr4 : (dats m 0 c).arrAt 4 cfg0.N
    = fun i => ((Real.log (tot (score kap A.A0 A.A1 A.A2 A.A3 (i 0) (i 2))) : ℝ) : EReal) := by
  refine (dats m 0 c).arrAt_eq_of_covers 4 _ (by decide +kernel) fun t hf y => ?_
  blk_simp
  rw [after0_4]
  obtain ⟨u, w, x, rfl⟩ : ∃ (u w : Fin 1) (x : Fin 1024), y = ix3 u w x := ⟨y 0, y 1, y 2, eq_ix3 y⟩
  obtain rfl : u = 0 := Subsingleton.elim _ _
  obtain rfl : w = 0 := Subsingleton.elim _ _
  obtain ⟨e0, e1, e2⟩ := idx4 t
  have h0 : (win0_4.blk t).view.emb (ix3 0 0 x) 0 = headOf t := Fin.ext (by blk_simp [e0]; rfl)
  have h2 : (win0_4.blk t).view.emb (ix3 0 0 x) 2 = rowOf t x := Fin.ext (by blk_simp [e2]; rfl)
  rw [h0, h2]
  exact log_real m c H t x
end

end Cert.Kernel3Ideal.Hand
-- ==== Proof.FwdReference.lean ====
module
public import proofs.«01_k».proof.Proof.Gen.Reference3Ideal.Read
public import proofs.«01_k».proof.Proof.Reference
public import proofs.«01_k».proof.Proof.FwdReal
public import Idealize.ShloMosaic.Lib.Pointwise

/-! # The forward reference's stages at an index, over real arguments

The output is each row's mean of the values under its softmax, and the second result is the logarithm of each row's sum
of exponentials. -/

@[expose] public section
set_option maxRecDepth 16384

namespace Cert.Fwd
open Idealize.ShloMosaic
open Cert.Reference3Ideal Cert.Reference3Ideal.Read
open Cert.Hand (Args Holds kap kap_eq neg_inf row_max coe_sum fold_max_coe score top weight mass mass_pos prb)

/-- The softmax is free of the offset. -/
theorem prb_mean (A : Args) (h : Fin 16) (q k : Fin 4096) :
    prb kap A.A0 A.A1 A.A2 A.A3 h q k
      = Real.exp (score kap A.A0 A.A1 A.A2 A.A3 h q k) / tot (score kap A.A0 A.A1 A.A2 A.A3 h q) := by
  have e := shift (score kap A.A0 A.A1 A.A2 A.A3 h q) (fun _ => 1) (top kap A.A0 A.A1 A.A2 A.A3 h q)
  simp only [mul_one] at e
  unfold prb mass weight
  rw [e, Real.exp_sub]
  have h1 := (tot_pos (score kap A.A0 A.A1 A.A2 A.A3 h q)).ne'
  have h2 := (Real.exp_pos (top kap A.A0 A.A1 A.A2 A.A3 h q)).ne'
  unfold tot at h1 ⊢
  field_simp

variable {a0 : (⟨S4096x16x128, .f32⟩ : BufTy).Contents (Elt Ideal)} {a1 : (⟨S4096x16x32, .f32⟩ : BufTy).Contents (Elt Ideal)}
  {a2 : (⟨S4096x128, .f32⟩ : BufTy).Contents (Elt Ideal)} {a3 : (⟨S4096x32, .f32⟩ : BufTy).Contents (Elt Ideal)}
  {a4 : (⟨S4096x16x128, .f32⟩ : BufTy).Contents (Elt Ideal)} {A : Args}

theorem v1_at (H : Holds a0 a1 a2 a3 a4 A) (q : Fin 4096) (h : Fin 16) (c : Fin 128) :
    val_main_v1 (F := Ideal) a0 (ix3 q h c) = ((A.A0 q h c * kap : ℝ) : EReal) := by
  pointwise [val_main_v1, val_main_v0, val_main_cst]
  rw [H.h0, EReal.coe_mul, ← kap_eq]

theorem v3_at (H : Holds a0 a1 a2 a3 a4 A) (q : Fin 4096) (h : Fin 16) (r : Fin 32) :
    val_main_v3 (F := Ideal) a1 (ix3 q h r) = ((A.A1 q h r * kap : ℝ) : EReal) := by
  pointwise [val_main_v3, val_main_v2, val_main_cst_0]
  rw [H.h1, EReal.coe_mul, ← kap_eq]

/-- The scores. -/
theorem v8_at (H : Holds a0 a1 a2 a3 a4 A) (h : Fin 16) (q k : Fin 4096) :
    val_main_v8 (F := Ideal) a0 a1 a2 a3 (ix3 h q k) = ((score kap A.A0 A.A1 A.A2 A.A3 h q k : ℝ) : EReal) := by
  pointwise [val_main_v8, val_main_v5, val_main_v4, val_main_v7, val_main_v6]
  simp only [v1_at H, v3_at H, H.h2, H.h3, score, EReal.coe_add, coe_sum, EReal.coe_mul]

/-- The greatest score of a row. -/
theorem v9_at (H : Holds a0 a1 a2 a3 a4 A) (h : Fin 16) (q : Fin 4096) :
    val_main_v9 (F := Ideal) a0 a1 a2 a3 (ix2 h q) = ((top kap A.A0 A.A1 A.A2 A.A3 h q : ℝ) : EReal) := by
  unfold val_main_v9
  refine (row_max _ _ h q).trans ?_
  have e : (val_main_cst_1 (F := Ideal)) (Shape.Idx.first Cert.ReferenceIdeal.Gen.h_S_) = (⊥ : EReal) := neg_inf
  rw [e]
  simp only [v8_at H]
  exact fold_max_coe 4096 _

theorem v11_at (H : Holds a0 a1 a2 a3 a4 A) (h : Fin 16) (q : Fin 4096) :
    val_main_v11 (F := Ideal) a0 a1 a2 a3 (ix2 h q) = ((top kap A.A0 A.A1 A.A2 A.A3 h q : ℝ) : EReal) := by
  rw [val_main_v11_apply, v9_at H]
  have e : val_main_v10 (F := Ideal) (ix2 h q) = (⊥ : EReal) := by
    rw [val_main_v10_apply, val_main_cst_2_apply]; exact neg_inf
  rw [e]
  exact max_eq_right bot_le

/-- The weights. -/
theorem v15_at (H : Holds a0 a1 a2 a3 a4 A) (h : Fin 16) (q k : Fin 4096) :
    val_main_v15 (F := Ideal) a0 a1 a2 a3 (ix3 h q k) = ((weight kap A.A0 A.A1 A.A2 A.A3 h q k : ℝ) : EReal) := by
  pointwise [val_main_v15, val_main_v14, val_main_v13, val_main_v12]
  rw [v8_at H, v11_at H, ← EReal.coe_sub, Ideal.exp_coe]
  rfl

/-- The sum of a row's weights. -/
theorem v17_at (H : Holds a0 a1 a2 a3 a4 A) (h : Fin 16) (q : Fin 4096) (z : Fin 1) :
    val_main_v17 (F := Ideal) a0 a1 a2 a3 (ix3 h q z) = ((mass kap A.A0 A.A1 A.A2 A.A3 h q : ℝ) : EReal) := by
  pointwise [val_main_v17, val_main_v16]
  have e : (val_main_cst_3 (F := Ideal)) (Shape.Idx.first Gen.h_S_) = (0 : EReal) := Ideal.ofBits_zero_f32
  rw [e, zero_add]
  simp only [v15_at H, mass, coe_sum]

/-- The probabilities. -/
theorem v19_at (H : Holds a0 a1 a2 a3 a4 A) (h : Fin 16) (q k : Fin 4096) :
    val_main_v19 (F := Ideal) a0 a1 a2 a3 (ix3 h q k) = ((prb kap A.A0 A.A1 A.A2 A.A3 h q k : ℝ) : EReal) := by
  pointwise [val_main_v19, val_main_v18]
  rw [v15_at H, v17_at H, Ideal.div_coe (mass_pos kap A.A0 A.A1 A.A2 A.A3 h q).ne', ← EReal.coe_mul, prb, mul_one_div]

/-- The output. -/
theorem v21_at (H : Holds a0 a1 a2 a3 a4 A) (q : Fin 4096) (h : Fin 16) (v : Fin 128) :
    val_main_v21 (F := Ideal) a0 a1 a2 a3 (ix3 q h v)
      = ((mean (score kap A.A0 A.A1 A.A2 A.A3 h q) (fun k => A.A2 k v) : ℝ) : EReal) := by
  pointwise [val_main_v21, val_main_v20]
  simp only [v19_at H, H.h2, prb_mean, mean, coe_sum, ← EReal.coe_mul]
  exact Finset.sum_congr rfl fun k _ => congrArg _ (mul_comm _ _)

/-- The logarithms. -/
theorem v24_at (H : Holds a0 a1 a2 a3 a4 A) (h : Fin 16) (q : Fin 4096) :
    val_main_v24 (F := Ideal) a0 a1 a2 a3 (ix2 h q)
      = ((Real.log (tot (score kap A.A0 A.A1 A.A2 A.A3 h q)) : ℝ) : EReal) := by
  have e : (val_main_v23 (F := Ideal) a0 a1 a2 a3) (ix2 h q) = ((tot (score kap A.A0 A.A1 A.A2 A.A3 h q) : ℝ) : EReal) := by
    pointwise [val_main_v23, val_main_v22]
    have e : (val_main_cst_4 (F := Ideal)) (Shape.Idx.first Gen.h_S_) = (0 : EReal) := Ideal.ofBits_zero_f32
    rw [e, zero_add]
    simp only [v8_at H, Ideal.exp_coe, tot, coe_sum]
  have e1 : ∀ y : FVec Ideal S16x4096 .f32, Host.log y (ix2 h q) = Ideal.log (y (ix2 h q)) := fun y => by pointwise
  unfold val_main_v24
  rw [e1, e, Ideal.log_coe, if_neg (not_le.mpr (tot_pos _))]

end Cert.Fwd
-- ==== Proof.FwdFinite.lean ====
module
public import proofs.«01_k».proof.Proof.Gen.Pre_finite3
public import proofs.«01_k».proof.Proof.Finite

/-! # The forward call's precondition

Where it holds, every argument is a real number at every index. -/

@[expose] public section
set_option maxRecDepth 16384

namespace Cert.Fwd
open Idealize.ShloMosaic
open Cert.Pre_finite3
open Cert.Hand (Args Holds argsOf and_one real_of_cmp pos_inf)

instance : Subsingleton S_.Idx := ⟨fun a b => funext fun i => i.elim0⟩

variable (a0 : FVec Ideal S4096x16x128 .f32) (a1 : FVec Ideal S4096x16x32 .f32) (a2 : FVec Ideal S4096x128 .f32)
  (a3 : FVec Ideal S4096x32 .f32)

theorem holds_of_pre [Cert.Pre_finite3.Facts] (h : Cert.Pre_finite3.fn (F := Ideal) a0 a1 a2 a3 = fun _ => 1#1) :
    Holds a0 a1 a2 a3 (fun _ => (0 : EReal)) (argsOf a0 a1 a2 a3 (fun _ => (0 : EReal))) := by
  have e := congrFun h ix0
  obtain ⟨e, e3⟩ := and_one e
  obtain ⟨e, e2⟩ := and_one e
  obtain ⟨e0, e1⟩ := and_one e
  exact
    { h0 := fun q h c => real_of_cmp a0 _ _ pos_inf (Host.reduce_andi_all _ _ _ _ _ e0 (ix3 q h c))
      h1 := fun q h c => real_of_cmp a1 _ _ pos_inf (Host.reduce_andi_all _ _ _ _ _ e1 (ix3 q h c))
      h2 := fun k c => real_of_cmp a2 _ _ pos_inf (Host.reduce_andi_all _ _ _ _ _ e2 (ix2 k c))
      h3 := fun k c => real_of_cmp a3 _ _ pos_inf (Host.reduce_andi_all _ _ _ _ _ e3 (ix2 k c))
      h4 := fun q h c => by
        show (0 : EReal) = (((0 : EReal).toReal : ℝ) : EReal)
        rw [EReal.toReal_zero, EReal.coe_zero] }

end Cert.Fwd
-- ==== Proof.FwdEquation.lean ====
module
public import proofs.«01_k».proof.Defs
public import proofs.«01_k».proof.Proof.Gen.Reference3Ideal.Run
public import proofs.«01_k».proof.Proof.FwdRegion
public import proofs.«01_k».proof.Proof.FwdReference
public import proofs.«01_k».proof.Proof.FwdFinite

/-! # The attention's forward call against its reference

Both programs end with the same output and the same logarithms, index by index. -/

@[expose] public section
set_option maxRecDepth 16384

namespace Cert.Kernel3Ideal.Hand
open Idealize.ShloMosaic Idealize.SL.Sem
open Cert.Kernel3Ideal Cert.Kernel3Ideal.Gen
open Cert.Hand (Args Holds kap score)
open Cert.Fwd

/-! ## What the program makes of the call's results -/

section
variable (o : FVec Ideal S4096x2048 .bf16) (g : FVec Ideal S16x1x4096 .f32)

/-- The output, head by head. -/
noncomputable def tO : FVec Ideal S4096x16x128 .f32 :=
  shapeCast S4096x16x128 (extf .f32 o bitsLt_bf16_f32) shapeCasts_S4096x2048_S4096x16x128

/-- The logarithms. -/
noncomputable def tL : FVec Ideal S16x4096 .f32 := shapeCast S16x4096 g shapeCasts_S16x1x4096_S16x4096

theorem tO_at (q : Fin 4096) (h : Fin 16) (v : Fin 128) :
    tO o (ix3 q h v) = o (ix2 q ⟨h.val * 128 + v.val, by omega⟩) := by
  pointwise [tO]

theorem tL_at (h : Fin 16) (q : Fin 4096) : tL g (ix2 h q) = g (ix3 h 0 q) := by
  pointwise [tL]
end

theorem tail_v28 (W : Valuation τ sig (Elt Ideal)) :
    StableHlo.after (List.flatten [hostOps1]) W (Proc.devRef .tc main_v28) = tO (W (Proc.devRef .tc main_v26_0)) := by
  after_reads_simp
  rfl

theorem tail_v29 (W : Valuation τ sig (Elt Ideal)) :
    StableHlo.after (List.flatten [hostOps1]) W (Proc.devRef .tc main_v29) = tL (W (Proc.devRef .tc main_v26_1)) := by
  after_reads_simp
  rfl

/-! ## The results of the program -/

variable (m : (ℓ : Loc nD τ sig) → Buf (Elt Ideal) ℓ) (c : Dev nD)

/-- The call's arrays, as the lines after it read them. -/
noncomputable abbrev outs : Valuation τ sig (Elt Ideal) :=
  Pipeline.withArrays cfg0.spec c (V0 m c) fun w => (dats m 0 c).arrAt w cfg0.N

theorem outs_o : outs m c (Proc.devRef .tc main_v26_0) = (dats m 0 c).arrAt 3 cfg0.N :=
  Pipeline.withArrays_arr cfg0.spec (by decide) c (V0 m c) (fun w => (dats m 0 c).arrAt w cfg0.N) 3

theorem outs_g : outs m c (Proc.devRef .tc main_v26_1) = (dats m 0 c).arrAt 4 cfg0.N :=
  Pipeline.withArrays_arr cfg0.spec (by decide) c (V0 m c) (fun w => (dats m 0 c).arrAt w cfg0.N) 4

section
variable {a4 : FVec Ideal S4096x16x128 .f32} {A : Args}

/-- The output at an index. -/
theorem tO_real (H : Holds (arg0 m c) (arg1 m c) (arg2 m c) (arg3 m c) a4 A) (q : Fin 4096) (h : Fin 16) (v : Fin 128) :
    tO (outs m c (Proc.devRef .tc main_v26_0)) (ix3 q h v)
      = ((mean (score kap A.A0 A.A1 A.A2 A.A3 h q) (fun k => A.A2 k v) : ℝ) : EReal) := by
  rw [outs_o, arr3 m c H, tO_at]
  exact outF_at A h q v

/-- The logarithm at an index. -/
theorem tL_real (H : Holds (arg0 m c) (arg1 m c) (arg2 m c) (arg3 m c) a4 A) (h : Fin 16) (q : Fin 4096) :
    tL (outs m c (Proc.devRef .tc main_v26_1)) (ix2 h q)
      = ((Real.log (tot (score kap A.A0 A.A1 A.A2 A.A3 h q)) : ℝ) : EReal) := by
  rw [outs_g, arr4 m c H, tL_at]
  rfl
end

/-- The two results of the kernel's program are the reference's two. -/
theorem results [Cert.Pre_finite3.Facts] (hpre : Cert.Pre_Kernel3Ideal_finite3 m) :
    Pipeline.afterTail₀ cfgs (dats m) 0 (V0 m) [hostOps1] c main_v28
        = Cert.Reference3Ideal.Read.val_main_v21 (F := Ideal) (arg0 m c) (arg1 m c) (arg2 m c) (arg3 m c)
    ∧ Pipeline.afterTail₀ cfgs (dats m) 0 (V0 m) [hostOps1] c main_v29
        = Cert.Reference3Ideal.Read.val_main_v24 (F := Ideal) (arg0 m c) (arg1 m c) (arg2 m c) (arg3 m c) := by
  have H := Cert.Fwd.holds_of_pre _ _ _ _ (hpre c)
  refine ⟨(tail_v28 (outs m c)).trans ?_, (tail_v29 (outs m c)).trans ?_⟩
  · funext i
    rw [eq_ix3 i]
    exact (tO_real m c H _ _ _).trans (Cert.Fwd.v21_at H _ _ _).symm
  · funext i
    rw [eq_ix2 i]
    exact (tL_real m c H _ _).trans (Cert.Fwd.v24_at H _ _).symm

end Cert.Kernel3Ideal.Hand

namespace Cert.Hand
open Idealize.ShloMosaic Idealize.SL.Sem
open Cert.Kernel3Ideal.Hand (results arg0 arg1 arg2 arg3)

/-- The forward reference's program keeps its arguments, and it has no semaphore. -/
theorem frame_reference3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The same under the precondition. -/
theorem frame_reference3_finite3 [Cert.Pre_finite3.Facts] : Cert.quiescent_Reference3Ideal_pre_finite3 := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- The attention's forward call: both programs end with the same output and the same logarithms. -/
theorem algebraic_attention_forward [Cert.Pre_finite3.Facts] : Cert.algebraic_Kernel3Ideal_Reference3Ideal_pre_finite3 := by
  intro m ρ m' ρ' hpre hargs
  refine ⟨fun c => Cert.Reference3Ideal.Read.val_main_v21 (F := Ideal) (arg0 m c) (arg1 m c) (arg2 m c) (arg3 m c),
    fun c => Cert.Reference3Ideal.Read.val_main_v24 (F := Ideal) (arg0 m c) (arg1 m c) (arg2 m c) (arg3 m c), ?_, ?_⟩
  · refine (θ_run Cert.Kernel3Ideal.defs _ _).mono ?_
      (θ_run_and (Cert.Kernel3Ideal.Gen.run_main (F := Ideal) m ρ) (Cert.Kernel3Ideal.Gen.unchanged (F := Ideal) m ρ))
    intro r h c
    obtain ⟨e0, e1⟩ := results m c hpre
    refine ⟨?_, ?_, h.2 c⟩
    · exact ((h.1 c).2 Cert.Kernel3Ideal.main_v28 (Pipeline.mem_restRefs_of _ (by decide) (by decide))).trans e0
    · exact ((h.1 c).2 Cert.Kernel3Ideal.main_v29 (Pipeline.mem_restRefs_of _ (by decide) (by decide))).trans e1
  · refine (θ_run Cert.Reference3Ideal.defs _ _).mono ?_ (Cert.Reference3Ideal.Value.run (F := Ideal) m' ρ')
    intro r h c
    obtain ⟨h0, h1, h2⟩ := h c
    obtain ⟨g0, g1, g2, g3⟩ := hargs c
    refine ⟨?_, ?_, h2⟩
    · rw [h0, Cert.Reference3Ideal.Read.val_main_v21_eq, g0, g1, g2, g3]
    · rw [h1, Cert.Reference3Ideal.Read.val_main_v24_eq, g0, g1, g2, g3]

end Cert.Hand
-- ==== Proof.FfnReal.lean ====
module
public import proofs.«01_k».proof.Proof.Real

/-! # The feed-forward layer and its gradients over the real numbers

A row of 1024 reals is scaled to mean square one, modulated, multiplied into 5632 lanes, gated, multiplied back, scaled
to mean square one again and added to the row. Everything here is a real number: the two programs are read against
these formulas. -/

@[expose] public section

namespace Cert.Ffn
open Idealize.ShloMosaic
open Cert.Hand (coe_sum)

noncomputable section

/-- The small number under the root: the binary32 word the programs carry, as a real. -/
def eps : ℝ := 8796093 * (2 ^ 43)⁻¹

/-- One over the root mean square of a row. -/
def rinv (v : Fin 1024 → ℝ) : ℝ := (Real.sqrt ((∑ k, v k * v k) / 1024 + eps))⁻¹

/-- A row over its root mean square. -/
def nrm (v : Fin 1024 → ℝ) (d : Fin 1024) : ℝ := v d * rinv v

/-- The gradient of a row from the gradient of the row over its root mean square. -/
def back (v dv : Fin 1024 → ℝ) (d : Fin 1024) : ℝ := rinv v * (dv d - nrm v d * ((∑ k, dv k * nrm v k) / 1024))

/-- The logistic function. -/
def sg (z : ℝ) : ℝ := (1 + Real.exp (-z))⁻¹

/-- The nine arguments. -/
structure Args where
  X : Fin 4096 → Fin 1024 → ℝ
  Sh : Fin 1024 → ℝ
  Sc : Fin 1024 → ℝ
  Ga : Fin 1024 → ℝ
  Gp : Fin 1024 → ℝ
  Gq : Fin 1024 → ℝ
  Wi : Fin 1024 → Fin 5632 → ℝ
  Wo : Fin 2816 → Fin 1024 → ℝ
  Ct : Fin 4096 → Fin 1024 → ℝ

namespace Args
variable (P : Args)

/-- The lane of a gate. -/
def gl (f : Fin 2816) : Fin 5632 := ⟨f.val, by omega⟩
/-- The lane it gates. -/
def ul (f : Fin 2816) : Fin 5632 := ⟨2816 + f.val, by omega⟩

/-! ## Forward -/

def H (t : Fin 4096) (d : Fin 1024) : ℝ := nrm (P.X t) d * P.Gp d * (1 + P.Sc d) + P.Sh d
def Z (t : Fin 4096) (j : Fin 5632) : ℝ := ∑ d, P.H t d * P.Wi d j
def G (t : Fin 4096) (f : Fin 2816) : ℝ := P.Z t (gl f)
def Up (t : Fin 4096) (f : Fin 2816) : ℝ := P.Z t (ul f)
def Act (t : Fin 4096) (f : Fin 2816) : ℝ := P.G t f * sg (P.G t f) * P.Up t f
def U (t : Fin 4096) (d : Fin 1024) : ℝ := ∑ f, P.Act t f * P.Wo f d
def Y (t : Fin 4096) (d : Fin 1024) : ℝ := P.X t d + 1 / 2 * (1 + P.Ga d) * (nrm (P.U t) d * P.Gq d)

/-! ## Backward -/

def dY (t : Fin 4096) (d : Fin 1024) : ℝ := P.Ct t d * (1 / 2 * (1 + P.Ga d))
def dU (t : Fin 4096) (d : Fin 1024) : ℝ := back (P.U t) (fun d => P.dY t d * P.Gq d) d
def dAct (t : Fin 4096) (f : Fin 2816) : ℝ := ∑ d, P.dU t d * P.Wo f d
def dG (t : Fin 4096) (f : Fin 2816) : ℝ :=
  P.dAct t f * P.Up t f * (sg (P.G t f) * (1 + P.G t f * (1 - sg (P.G t f))))
def dUp (t : Fin 4096) (f : Fin 2816) : ℝ := P.dAct t f * (P.G t f * sg (P.G t f))
def dH (t : Fin 4096) (d : Fin 1024) : ℝ :=
  (∑ f, P.dG t f * P.Wi d (gl f)) + ∑ f, P.dUp t f * P.Wi d (ul f)
def dX (t : Fin 4096) (d : Fin 1024) : ℝ :=
  P.Ct t d + back (P.X t) (fun d => P.dH t d * P.Gp d * (1 + P.Sc d)) d

def dSh (d : Fin 1024) : ℝ := ∑ t, P.dH t d
def dSc (d : Fin 1024) : ℝ := ∑ t, P.dH t d * (nrm (P.X t) d * P.Gp d)
def dGa (d : Fin 1024) : ℝ := ∑ t, 1 / 2 * P.Ct t d * (nrm (P.U t) d * P.Gq d)
def dGp (d : Fin 1024) : ℝ := ∑ t, P.dH t d * (1 + P.Sc d) * nrm (P.X t) d
def dGq (d : Fin 1024) : ℝ := ∑ t, P.dY t d * nrm (P.U t) d

/-- The gradient of the 5632 lanes. -/
def dZ (t : Fin 4096) (j : Fin 5632) : ℝ :=
  if h : j.val < 2816 then P.dG t ⟨j.val, h⟩ else P.dUp t ⟨j.val - 2816, by omega⟩
def dWi (d : Fin 1024) (j : Fin 5632) : ℝ := ∑ t, P.H t d * P.dZ t j
def dWo (f : Fin 2816) (d : Fin 1024) : ℝ := ∑ t, P.Act t f * P.dU t d

/-! ## The 2816 lanes in two halves -/

/-- Lane `f` of half `h`. -/
def lane (h : Fin 2) (f : Fin 1408) : Fin 2816 := ⟨1408 * h.val + f.val, by omega⟩

/-- The part of a token's row that one half of the lanes makes. -/
def Uh (h : Fin 2) (t : Fin 4096) (d : Fin 1024) : ℝ := ∑ f, P.Act t (lane h f) * P.Wo (lane h f) d

/-- The part of the gradient of `H` that one half of the lanes makes. -/
def dHh (h : Fin 2) (t : Fin 4096) (d : Fin 1024) : ℝ :=
  (∑ f, P.dG t (lane h f) * P.Wi d (gl (lane h f))) + ∑ f, P.dUp t (lane h f) * P.Wi d (ul (lane h f))

theorem sum_halves (g : Fin 2816 → ℝ) : ∑ f, g f = (∑ f, g (lane 0 f)) + ∑ f, g (lane 1 f) := by
  rw [Fin.sum_univ_add (a := 1408) (b := 1408) g]
  refine congrArg₂ _ (Finset.sum_congr rfl fun f _ => congrArg g (Fin.ext ?_)) (Finset.sum_congr rfl fun f _ => congrArg g (Fin.ext ?_))
  · simp [lane]
  · simp [lane, Nat.add_comm]

theorem U_halves (t : Fin 4096) (d : Fin 1024) : P.U t d = P.Uh 0 t d + P.Uh 1 t d := sum_halves _

theorem dH_halves (t : Fin 4096) (d : Fin 1024) : P.dH t d = P.dHh 0 t d + P.dHh 1 t d := by
  unfold dH dHh
  rw [sum_halves fun f => P.dG t f * P.Wi d (gl f), sum_halves fun f => P.dUp t f * P.Wi d (ul f)]
  ring

end Args

/-! ## The extended reals at reals -/

theorem word_eps : Ideal.ofBits .f32 0x358637BD#32 = ((eps : ℝ) : EReal) := by
  simp [Ideal.ofBits, Ideal.ieee, eps]

theorem eps_pos : 0 < eps := by
  unfold eps
  positivity

theorem word_1024 : Ideal.ofBits .f32 0x44800000#32 = ((1024 : ℝ) : EReal) := by
  simp [Ideal.ofBits, Ideal.ieee]; rw [← EReal.coe_mul]; norm_num

theorem word_one : Ideal.ofBits .f32 0x3F800000#32 = ((1 : ℝ) : EReal) := by
  simp [Ideal.ofBits, Ideal.ieee]; rw [← EReal.coe_mul]; norm_num

theorem word_half : Ideal.ofBits .f32 0x3F000000#32 = ((1 / 2 : ℝ) : EReal) := by
  simp [Ideal.ofBits, Ideal.ieee]; rw [← EReal.coe_mul]; norm_num

theorem word_minus_half : Ideal.ofBits .f32 0xBF000000#32 = ((-(1 / 2) : ℝ) : EReal) := by
  simp [Ideal.ofBits, Ideal.ieee]; rw [← EReal.coe_mul]; norm_num

theorem word_zero : Ideal.ofBits .f32 0x00000000#32 = (0 : EReal) := by
  simp [Ideal.ofBits, Ideal.ieee]

theorem div_1024 (x : ℝ) : Ideal.div (x : EReal) ((1024 : ℝ) : EReal) = ((x / 1024 : ℝ) : EReal) := by
  rw [Ideal.div_coe (by norm_num), ← EReal.coe_mul]
  congr 1; ring

theorem under_root_pos (v : Fin 1024 → ℝ) : 0 < (∑ k, v k * v k) / 1024 + eps := by
  have h : 0 ≤ (∑ k, v k * v k) / 1024 := div_nonneg (Finset.sum_nonneg fun k _ => mul_self_nonneg _) (by norm_num)
  linarith [eps_pos]

theorem rsqrt_row (v : Fin 1024 → ℝ) : Ideal.rsqrt (((∑ k, v k * v k) / 1024 + eps : ℝ) : EReal) = ((rinv v : ℝ) : EReal) := by
  have h := under_root_pos v
  rw [Ideal.rsqrt_coe, if_neg (not_lt.mpr h.le), if_neg h.ne']
  rfl

theorem logistic_real (z : ℝ) : Ideal.logistic (z : EReal) = ((sg z : ℝ) : EReal) := Ideal.logistic_coe z

end
end Cert.Ffn
-- ==== Proof.FfnBlock0.lean ====
module
public import proofs.«01_k».proof.Proof.Gen.Kernel2Ideal.Frame.Region0
public import Idealize.ShloMosaic.Lib.Pipeline.ValueKit
public import Idealize.ShloMosaic.Lib.Pipeline.ReadBack
public import Idealize.ShloMosaic.Lib.Pointwise
public import proofs.«01_k».proof.Proof.FfnReal

/-! # What a step of the forward pass's first grid computes

Its three outputs at an index, over real operands. -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

/-- The five rows of the table of vectors. -/
structure Rows (P : Args) (x : Vec Ideal S8x1024 .f32) : Prop where
  r0 : ∀ d, x (ix2 0 d) = ((P.Gp d : ℝ) : EReal)
  r1 : ∀ d, x (ix2 1 d) = ((P.Gq d : ℝ) : EReal)
  r2 : ∀ d, x (ix2 2 d) = ((P.Sh d : ℝ) : EReal)
  r3 : ∀ d, x (ix2 3 d) = ((P.Sc d : ℝ) : EReal)
  r4 : ∀ d, x (ix2 4 d) = ((P.Ga d : ℝ) : EReal)

variable (P : Args) (T : Fin 512 → Fin 4096) (h : Fin 2)
  (x0 : Vec Ideal S512x1024 .f32) (x1 : Vec Ideal S8x1024 .f32) (x2 x3 : Vec Ideal S1x1024x1408 .bf16)
  (x4 : Vec Ideal S1x1408x1024 .bf16)

theorem hidden_row (b c e : Vec Ideal S1x1024 .f32) (hx : ∀ a d, x0 (ix2 a d) = ((P.X (T a) d : ℝ) : EReal))
    (hb : ∀ d, b (ix2 0 d) = ((P.Gp d : ℝ) : EReal)) (hc : ∀ d, c (ix2 0 d) = ((P.Sc d : ℝ) : EReal))
    (he : ∀ d, e (ix2 0 d) = ((P.Sh d : ℝ) : EReal)) (a : Fin 512) (d : Fin 1024) :
    k0_pay4 x0 b c e (ix2 a d) = ((P.H (T a) d : ℝ) : EReal) := by
  pointwise [k0_pay4]
  simp only [hx, hb, hc, he]
  simp only [word_eps, word_1024, ← EReal.coe_one, ← EReal.coe_mul, ← coe_sum, div_1024, ← EReal.coe_add, rsqrt_row]
  rfl

theorem gate_row (b c e : Vec Ideal S1x1024 .f32)
    (hH : ∀ a d, k0_pay4 x0 b c e (ix2 a d) = ((P.H (T a) d : ℝ) : EReal))
    (hw : ∀ d f, x2 (ix3 0 d f) = ((P.Wi d (gl (lane h f)) : ℝ) : EReal)) (a : Fin 512) (f : Fin 1408) :
    k0_pay5 x0 b c e x2 (ix2 a f) = ((P.G (T a) (lane h f) : ℝ) : EReal) := by
  pointwise [k0_pay5]
  simp only [hH, hw, ← EReal.coe_mul, ← coe_sum]
  rfl

theorem up_row (b c e : Vec Ideal S1x1024 .f32)
    (hH : ∀ a d, k0_pay4 x0 b c e (ix2 a d) = ((P.H (T a) d : ℝ) : EReal))
    (hw : ∀ d f, x3 (ix3 0 d f) = ((P.Wi d (ul (lane h f)) : ℝ) : EReal)) (a : Fin 512) (f : Fin 1408) :
    k0_pay6 x0 b c e x3 (ix2 a f) = ((P.Up (T a) (lane h f) : ℝ) : EReal) := by
  pointwise [k0_pay6]
  simp only [hH, hw, ← EReal.coe_mul, ← coe_sum]
  rfl

theorem part_row (g u : Vec Ideal S512x1408 .f32) (hg : ∀ a f, g (ix2 a f) = ((P.G (T a) (lane h f) : ℝ) : EReal))
    (hu : ∀ a f, u (ix2 a f) = ((P.Up (T a) (lane h f) : ℝ) : EReal))
    (hw : ∀ f d, x4 (ix3 0 f d) = ((P.Wo (lane h f) d : ℝ) : EReal)) (a : Fin 512) (d : Fin 1024) :
    k0_pay3 g u x4 (ix2 a d) = ((P.Uh h (T a) d : ℝ) : EReal) := by
  pointwise [k0_pay3]
  simp only [hg, hu, hw, logistic_real, ← EReal.coe_mul, ← coe_sum]
  rfl

theorem row0 (d : Fin 1024) : View.ld x1 r0_1 (ix2 0 d) = x1 (ix2 0 d) := by pointwise []
theorem row3 (d : Fin 1024) : View.ld x1 r0_2 (ix2 0 d) = x1 (ix2 3 d) := by pointwise []
theorem row2 (d : Fin 1024) : View.ld x1 r0_3 (ix2 0 d) = x1 (ix2 2 d) := by pointwise []

theorem hidden_ld (hx : ∀ a d, x0 (ix2 a d) = ((P.X (T a) d : ℝ) : EReal)) (hv : Rows P x1) (a : Fin 512) (d : Fin 1024) :
    k0_pay4 x0 (View.ld x1 r0_1) (View.ld x1 r0_2) (View.ld x1 r0_3) (ix2 a d) = ((P.H (T a) d : ℝ) : EReal) :=
  hidden_row P T x0 _ _ _ hx (fun d => (row0 x1 d).trans (hv.r0 d)) (fun d => (row3 x1 d).trans (hv.r3 d))
    (fun d => (row2 x1 d).trans (hv.r2 d)) a d

/-- The first output block. -/
theorem block0_5 (hx : ∀ a d, x0 (ix2 a d) = ((P.X (T a) d : ℝ) : EReal)) (hv : Rows P x1) (a : Fin 512) (d : Fin 1024) :
    out0_5 x0 x1 x2 x3 x4 (ix2 a d) = ((P.H (T a) d : ℝ) : EReal) := by
  unfold out0_5
  frame_out
  exact hidden_ld P T x0 x1 hx hv a d

theorem whole_rows : View.ld x0 r0_0 = x0 := View.ld_unit_lit' _ _ (by decide)
theorem whole_in : View.ld x2 r0_4 = x2 := View.ld_unit_lit' _ _ (by decide)

theorem eq_ix3_of {n m l : ℕ} (x : (⟨3, ![n, m, l]⟩ : Shape).Idx) (a : Fin n) (b : Fin m) (c : Fin l) (ha : a.val = (x 0).val)
    (hb : b.val = (x 1).val) (hc : c.val = (x 2).val) : x = ix3 a b c := by
  rw [Fin.ext (a := a) (b := x 0) ha, Fin.ext (a := b) (b := x 1) hb, Fin.ext (a := c) (b := x 2) hc]
  exact eq_ix3 x

theorem cast_gate (b c e : Vec Ideal S1x1024 .f32) (a : Fin 512) (f : Fin 1408) :
    (k0_pay1 (k0_pay7 x0 b c e x2) (ix3 0 a f) : EReal) = k0_pay5 x0 b c e x2 (ix2 a f) := by
  pointwise [k0_pay1, k0_pay7]

theorem cast_up (v : Vec Ideal S512x1408 .f32) (a : Fin 512) (f : Fin 1408) : (k0_pay2 (F := Ideal) v (ix3 0 a f) : EReal) = v (ix2 a f) := by
  pointwise [k0_pay2]

theorem up_ld (hx : ∀ a d, x0 (ix2 a d) = ((P.X (T a) d : ℝ) : EReal)) (hv : Rows P x1)
    (hw' : ∀ d f, x3 (ix3 0 d f) = ((P.Wi d (ul (lane h f)) : ℝ) : EReal)) (a : Fin 512) (f : Fin 1408) :
    k0_pay8 x0 x1 x2 x3 x4 (ix2 a f) = ((P.Up (T a) (lane h f) : ℝ) : EReal) := by
  unfold k0_pay8
  simp (disch := decide) only [View.ld_unit_lit']
  exact up_row P T h x0 x3 _ _ _ (hidden_ld P T x0 x1 hx hv) hw' a f

/-- The gates' block. -/
theorem block0_6_0 (hx : ∀ a d, x0 (ix2 a d) = ((P.X (T a) d : ℝ) : EReal)) (hv : Rows P x1)
    (hw : ∀ d f, x2 (ix3 0 d f) = ((P.Wi d (gl (lane h f)) : ℝ) : EReal)) (a : Fin 512) (f : Fin 1408) :
    out0_6 x0 x1 x2 x3 x4 (ix3 0 a f) = ((P.G (T a) (lane h f) : ℝ) : EReal) := by
  unfold out0_6
  canon_tiles x hh
  · exact absurd hh0 (by simp)
  · rw [eq_ix3_of x 0 a f hh0 hh1 hh2, whole_rows, whole_in, cast_gate]
    exact gate_row P T h x0 x2 _ _ _ (hidden_ld P T x0 x1 hx hv) hw a f

/-- The gated lanes' block. -/
theorem block0_6_1 (hx : ∀ a d, x0 (ix2 a d) = ((P.X (T a) d : ℝ) : EReal)) (hv : Rows P x1)
    (hw' : ∀ d f, x3 (ix3 0 d f) = ((P.Wi d (ul (lane h f)) : ℝ) : EReal)) (a : Fin 512) (f : Fin 1408) :
    out0_6 x0 x1 x2 x3 x4 (ix3 1 a f) = ((P.Up (T a) (lane h f) : ℝ) : EReal) := by
  unfold out0_6
  canon_tiles x hh
  · rw [eq_ix3_of x 0 a f (by simp) hh1 hh2, cast_up]
    exact up_ld P T h x0 x1 x2 x3 x4 hx hv hw' a f
  · exact absurd hh0 (by simp)

/-- The half row's block. -/
theorem block0_7 (hx : ∀ a d, x0 (ix2 a d) = ((P.X (T a) d : ℝ) : EReal)) (hv : Rows P x1)
    (hw : ∀ d f, x2 (ix3 0 d f) = ((P.Wi d (gl (lane h f)) : ℝ) : EReal))
    (hw' : ∀ d f, x3 (ix3 0 d f) = ((P.Wi d (ul (lane h f)) : ℝ) : EReal))
    (ho : ∀ f d, x4 (ix3 0 f d) = ((P.Wo (lane h f) d : ℝ) : EReal)) (a : Fin 512) (d : Fin 1024) :
    out0_7 x0 x1 x2 x3 x4 (ix2 a d) = ((P.Uh h (T a) d : ℝ) : EReal) := by
  have H := hidden_ld P T x0 x1 hx hv
  unfold out0_7
  frame_out
  exact part_row P T h x4 _ _ (gate_row P T h x0 x2 _ _ _ H hw) (up_ld P T h x0 x1 x2 x3 x4 hx hv hw') ho a d

end Cert.Kernel2Ideal.Hand
-- ==== Proof.FfnBase.lean ====
module
public import proofs.«01_k».proof.Proof.FfnBlock0
public import Idealize.ShloMosaic.Lib.WritesUnit

/-! # The arrays every part of the feed-forward layer reads

The layer runs as six grids one after another. All of them read the table of vectors and the two weights, cut into
halves of their lanes; what those hold is stated here once, together with the token of a row of a block. -/

@[expose] public section
set_option maxRecDepth 16384

namespace Cert.Kernel2Ideal.Hand
open Idealize.ShloMosaic
open Cert.Kernel2Ideal Cert.Kernel2Ideal.Gen
open Cert.Ffn Cert.Ffn.Args

/-- The contents of every array of a core, as a grid finds them. -/
abbrev Arrays := (c : Dev nD) → (b : Ref sig .tc) → Buf (Elt Ideal) ((c.tc : Thread nD τ).loc b)

/-- The block of the first weight that holds the gates of a half. -/
def gIdx (h : Fin 2) : Fin 4 := ⟨h.val, by omega⟩
/-- The block of the first weight that holds the gated lanes of a half. -/
def uIdx (h : Fin 2) : Fin 4 := ⟨h.val + 2, by omega⟩

/-- The arrays that no grid changes hold the arguments. -/
structure Base (P : Args) (V : Arrays) (c : Dev nD) : Prop where
  x : ∀ t d, V c main_arg0 (ix2 t d) = ((P.X t d : ℝ) : EReal)
  ct : ∀ t d, V c main_arg8 (ix2 t d) = ((P.Ct t d : ℝ) : EReal)
  rows : Rows P (V c main_v7)
  wg : ∀ h d f, V c main_v10 (ix3 (gIdx h) d f) = ((P.Wi d (gl (lane h f)) : ℝ) : EReal)
  wu : ∀ h d f, V c main_v10 (ix3 (uIdx h) d f) = ((P.Wi d (ul (lane h f)) : ℝ) : EReal)
  wo : ∀ h f d, V c main_v12 (ix3 h f d) = ((P.Wo (lane h f) d : ℝ) : EReal)

/-- The token in row `a` of the block of point `n`. -/
def tok (n : ℕ) (hn : n < 8) (a : Fin 512) : Fin 4096 := ⟨n * 512 + a.val, by omega⟩

/-- The two parts that the layer keeps of a token: its gates and the lanes they gate. -/
noncomputable def keep (P : Args) (j : Fin 2) (t : Fin 4096) (f : Fin 2816) : ℝ := if j = 0 then P.G t f else P.Up t f

/-- The gradients of the two parts. -/
noncomputable def dkeep (P : Args) (j : Fin 2) (t : Fin 4096) (f : Fin 2816) : ℝ := if j = 0 then P.dG t f else P.dUp t f

theorem exists_ix2 {n m : ℕ} (y : (⟨2, ![n, m]⟩ : Shape).Idx) : ∃ (a : Fin n) (b : Fin m), y = ix2 a b := ⟨y 0, y 1, eq_ix2 y⟩

theorem exists_ix3 {n m l : ℕ} (y : (⟨3, ![n, m, l]⟩ : Shape).Idx) : ∃ (a : Fin n) (b : Fin m) (d : Fin l), y = ix3 a b d :=
  ⟨y 0, y 1, y 2, eq_ix3 y⟩

theorem eq_ix2_of {n m : ℕ} (x : (⟨2, ![n, m]⟩ : Shape).Idx) (a : Fin n) (b : Fin m) (ha : (x 0).val = a.val)
    (hb : (x 1).val = b.val) : x = ix2 a b := by
  rw [← Fin.ext (a := x 0) (b := a) ha, ← Fin.ext (a := x 1) (b := b) hb]
  exact eq_ix2 x

theorem eq_ix3_of' {n m l : ℕ} (x : (⟨3, ![n, m, l]⟩ : Shape).Idx) (a : Fin n) (b : Fin m) (d : Fin l) (ha : (x 0).val = a.val)
    (hb : (x 1).val = b.val) (hd : (x 2).val = d.val) : x = ix3 a b d := by
  rw [← Fin.ext (a := x 0) (b := a) ha, ← Fin.ext (a := x 1) (b := b) hb, ← Fin.ext (a := x 2) (b := d) hd]
  exact eq_ix3 x

/-! ## The rows of the table as the programs read them -/

section
variable (x : Vec Ideal S8x1024 .f32) (d : Fin 1024)
theorem ld_row0 : View.ld x (Rect.unit ![0, 0] ![1, 1024] inb_S8x1024_S1x1024_0_0) (ix2 0 d) = x (ix2 0 d) := by pointwise []
theorem ld_row1 : View.ld x (Rect.unit ![1, 0] ![1, 1024] inb_S8x1024_S1x1024_1_0) (ix2 0 d) = x (ix2 1 d) := by pointwise []
theorem ld_row2 : View.ld x (Rect.unit ![2, 0] ![1, 1024] inb_S8x1024_S1x1024_2_0) (ix2 0 d) = x (ix2 2 d) := by pointwise []
theorem ld_row3 : View.ld x (Rect.unit ![3, 0] ![1, 1024] inb_S8x1024_S1x1024_3_0) (ix2 0 d) = x (ix2 3 d) := by pointwise []
theorem ld_row4 : View.ld x (Rect.unit ![4, 0] ![1, 1024] inb_S8x1024_S1x1024_4_0) (ix2 0 d) = x (ix2 4 d) := by pointwise []
end

/-! ## The two parts of what is kept, as the programs read them -/

section
variable (x : Vec Ideal S2x512x1408 .bf16) (a : Fin 512) (f : Fin 1408)
theorem ld_part0 : View.ld x (Rect.unit ![0, 0, 0] ![1, 512, 1408] inb_S2x512x1408_S1x512x1408_0_0_0) (ix3 0 a f) = x (ix3 0 a f) := by
  pointwise []
theorem ld_part1 : View.ld x (Rect.unit ![1, 0, 0] ![1, 512, 1408] inb_S2x512x1408_S1x512x1408_1_0_0) (ix3 0 a f) = x (ix3 1 a f) := by
  pointwise []
end

/-! ## A table written row by row -/

section
variable (o : ℕ) (ho : o < 8) (inb : ∀ a, (![o, 0] : Fin 2 → ℕ) a + (![1, 1024] : Fin 2 → ℕ) a ≤ S8x1024.size a)
  (w : (Rect.unit (s := S8x1024) ![o, 0] ![1, 1024] inb).shape.Idx → Elt Ideal .f32) (L : List (View.Piece (Elt Ideal) S8x1024 .f32))
  (r : Fin 8) (d : Fin 1024)

theorem canon_hit (hr : r.val = o) : View.canon (⟨Rect.unit (s := S8x1024) ![o, 0] ![1, 1024] inb, w⟩ :: L) (ix2 r d) = w (ix2 0 d) := by
  have e : (ix2 r d : S8x1024.Idx) = (Rect.unit (s := S8x1024) ![o, 0] ![1, 1024] inb).emb (ix2 0 d) :=
    (eq_ix2_of _ _ _ (by simp [hr]) (by simp)).symm
  rw [e]
  exact View.canon_cons_emb _ w L _

theorem canon_miss (hr : r.val ≠ o) :
    View.canon (⟨Rect.unit (s := S8x1024) ![o, 0] ![1, 1024] inb, w⟩ :: L) (ix2 r d) = View.canon L (ix2 r d) := by
  refine View.canon_cons_of_not_mem _ _ ?_
  rw [Rect.mem_set_unit]
  intro h
  have h0 := h 0
  simp at h0
  omega

variable {sig' : RefSig} {κ : Kind} {sp : Space} (v : View sig' κ sp S8x1024 .f32) (b : v.ty.Contents (Elt Ideal))

theorem writes_hit (hr : r.val = o) :
    v.read (Elt Ideal) (v.writes (Elt Ideal) b (⟨Rect.unit (s := S8x1024) ![o, 0] ![1, 1024] inb, w⟩ :: L)) (ix2 r d) = w (ix2 0 d) :=
  View.read_writes_cons_rows_of_mem v b inb w L (ix2 r d) (ix2 0 d) rfl hr rfl

theorem writes_miss (hr : r.val ≠ o) :
    v.read (Elt Ideal) (v.writes (Elt Ideal) b (⟨Rect.unit (s := S8x1024) ![o, 0] ![1, 1024] inb, w⟩ :: L)) (ix2 r d)
      = v.read (Elt Ideal) (v.writes (Elt Ideal) b L) (ix2 r d) :=
  View.read_writes_cons_rows_of_not_mem v b inb w L (ix2 r d) rfl rfl (by show r.val < o ∨ o + 1 ≤ r.val; omega)
end

/-- A sum over the points and the rows of their blocks is a sum over the tokens. -/
theorem sum_tok (g : Fin 4096 → ℝ) : ∑ n : Fin 8, ∑ a : Fin 512, g (tok n.val n.isLt a) = ∑ t, g t := by
  rw [← Fintype.sum_prod_type', ← Equiv.sum_comp (finProdFinEquiv (m := 8) (n := 512)) g]
  refine Finset.sum_congr rfl fun x _ => congrArg g (Fin.ext ?_)
  show x.1.val * 512 + x.2.val = x.2.val + 512 * x.1.val
  ring

end Cert.Kernel2Ideal.Hand
-- ==== Proof.FfnPrelude.lean ====
module
public import proofs.«01_k».proof.Proof.Gen.Kernel2Ideal.Frame.Fold0
public import Idealize.ShloMosaic.Lib.StableHlo.ReadAt
public import proofs.«01_k».proof.Proof.FfnBase

/-! # What the grids of the feed-forward layer read

The table of vectors and the two weights in halves, as functions of the arguments, and what they hold when the
arguments are real numbers. -/

@[expose] public section
set_option maxRecDepth 16384

namespace Cert.Ffn
open Idealize.ShloMosaic
open Cert.Kernel2Ideal

/-- The arguments are real numbers. -/
structure Holds (P : Args) (x : FVec Ideal S4096x1024 .f32) (sh sc ga gp gq : FVec Ideal S1024 .f32)
    (wi : FVec Ideal S1024x5632 .f32) (wo : FVec Ideal S2816x1024 .f32) (ct : FVec Ideal S4096x1024 .f32) : Prop where
  x : ∀ t d, x (ix2 t d) = ((P.X t d : ℝ) : EReal)
  sh : ∀ d, sh (ix1 d) = ((P.Sh d : ℝ) : EReal)
  sc : ∀ d, sc (ix1 d) = ((P.Sc d : ℝ) : EReal)
  ga : ∀ d, ga (ix1 d) = ((P.Ga d : ℝ) : EReal)
  gp : ∀ d, gp (ix1 d) = ((P.Gp d : ℝ) : EReal)
  gq : ∀ d, gq (ix1 d) = ((P.Gq d : ℝ) : EReal)
  wi : ∀ d j, wi (ix2 d j) = ((P.Wi d j : ℝ) : EReal)
  wo : ∀ f d, wo (ix2 f d) = ((P.Wo f d : ℝ) : EReal)
  ct : ∀ t d, ct (ix2 t d) = ((P.Ct t d : ℝ) : EReal)

end Cert.Ffn

namespace Cert.Kernel2Ideal.Hand
open Idealize.ShloMosaic
open Cert.Kernel2Ideal Cert.Kernel2Ideal.Gen
open Cert.Ffn Cert.Ffn.Args

/-- A vector as a row. -/
noncomputable def kRow (v : FVec Ideal S1024 .f32) : FVec Ideal S1x1024 .f32 :=
  broadcastInDim S1x1024 ![1] bcast_S1024_S1x1024_1 v

/-- The five vectors, one above the other. -/
noncomputable def kFive (r0 r1 r2 r3 r4 : FVec Ideal S1x1024 .f32) : FVec Ideal S5x1024 .f32 :=
  concatenate S5x1024 0 [⟨S1x1024, r0⟩, ⟨S1x1024, r1⟩, ⟨S1x1024, r2⟩, ⟨S1x1024, r3⟩, ⟨S1x1024, r4⟩]
    concatenates_S1x1024_S1x1024_S1x1024_S1x1024_S1x1024_S5x1024_d0

/-- The table: the five vectors and three rows of zeros. -/
noncomputable def kTab (r : FVec Ideal S5x1024 .f32) : FVec Ideal S8x1024 .f32 :=
  concatenate S8x1024 0 [⟨S5x1024, r⟩, ⟨S3x1024, broadcastInDim S3x1024 ![] bcast_S_S3x1024 (constant (F := Ideal) S_ .f32 0x00000000#32)⟩]
    concatenates_S5x1024_S3x1024_S8x1024_d0

/-- The first weight in four blocks of lanes. -/
noncomputable def kWi (w : FVec Ideal S1024x5632 .f32) : FVec Ideal S4x1024x1408 .bf16 :=
  truncf .bf16 (transpose S4x1024x1408 [1, 0, 2] (shapeCast S1024x4x1408 w shapeCasts_S1024x5632_S1024x4x1408)
    transposes_S1024x4x1408_S4x1024x1408_1_0_2) bitsLt_bf16_f32

/-- The second weight in two blocks of lanes. -/
noncomputable def kWo (w : FVec Ideal S2816x1024 .f32) : FVec Ideal S2x1408x1024 .bf16 :=
  truncf .bf16 (shapeCast S2x1408x1024 w shapeCasts_S2816x1024_S2x1408x1024) bitsLt_bf16_f32

section
variable (r0 r1 r2 r3 r4 : FVec Ideal S1x1024 .f32) (d : Fin 1024)
theorem five0 : kTab (kFive r0 r1 r2 r3 r4) (ix2 0 d) = r0 (ix2 0 d) := by pointwise [kTab, kFive]
theorem five1 : kTab (kFive r0 r1 r2 r3 r4) (ix2 1 d) = r1 (ix2 0 d) := by pointwise [kTab, kFive]
theorem five2 : kTab (kFive r0 r1 r2 r3 r4) (ix2 2 d) = r2 (ix2 0 d) := by pointwise [kTab, kFive]
theorem five3 : kTab (kFive r0 r1 r2 r3 r4) (ix2 3 d) = r3 (ix2 0 d) := by pointwise [kTab, kFive]
theorem five4 : kTab (kFive r0 r1 r2 r3 r4) (ix2 4 d) = r4 (ix2 0 d) := by pointwise [kTab, kFive]
theorem row_at (v : FVec Ideal S1024 .f32) : kRow v (ix2 0 d) = v (ix1 d) := by pointwise [kRow]
end

theorem kWi_at (w : FVec Ideal S1024x5632 .f32) (n : Fin 4) (d : Fin 1024) (f : Fin 1408) :
    (kWi w (ix3 n d f) : EReal) = w (ix2 d ⟨n.val * 1408 + f.val, by omega⟩) := by
  pointwise [kWi]

theorem kWo_at (w : FVec Ideal S2816x1024 .f32) (h : Fin 2) (f : Fin 1408) (d : Fin 1024) :
    (kWo w (ix3 h f d) : EReal) = w (ix2 (lane h f) d) := by
  pointwise [kWo]
  exact congrArg (fun k => w (ix2 k d)) (Fin.ext (by simp [lane, Nat.mul_comm]))

variable (m : (ℓ : Loc nD τ sig) → Buf (Elt Ideal) ℓ) (ρ : Dev nD → PrngReg) (c : Dev nD)

/-- The arguments. -/
abbrev arg0 : FVec Ideal S4096x1024 .f32 := m ((c.tc : Thread nD τ).loc main_arg0)
abbrev arg1 : FVec Ideal S1024 .f32 := m ((c.tc : Thread nD τ).loc main_arg1)
abbrev arg2 : FVec Ideal S1024 .f32 := m ((c.tc : Thread nD τ).loc main_arg2)
abbrev arg3 : FVec Ideal S1024 .f32 := m ((c.tc : Thread nD τ).loc main_arg3)
abbrev arg4 : FVec Ideal S1024 .f32 := m ((c.tc : Thread nD τ).loc main_arg4)
abbrev arg5 : FVec Ideal S1024 .f32 := m ((c.tc : Thread nD τ).loc main_arg5)
abbrev arg6 : FVec Ideal S1024x5632 .f32 := m ((c.tc : Thread nD τ).loc main_arg6)
abbrev arg7 : FVec Ideal S2816x1024 .f32 := m ((c.tc : Thread nD τ).loc main_arg7)
abbrev arg8 : FVec Ideal S4096x1024 .f32 := m ((c.tc : Thread nD τ).loc main_arg8)

theorem V1_v10 : V1 m ρ c main_v10 = kWi (arg6 m c) := by
  unfold V1 W1
  after_reads_simp
  rfl

theorem V1_v12 : V1 m ρ c main_v12 = kWo (arg7 m c) := by
  unfold V1 W1
  after_reads_simp
  rfl

theorem five_congr {r0 r1 r2 r3 r4 s0 s1 s2 s3 s4 : FVec Ideal S1x1024 .f32} (h0 : r0 = s0) (h1 : r1 = s1) (h2 : r2 = s2)
    (h3 : r3 = s3) (h4 : r4 = s4) : kFive r0 r1 r2 r3 r4 = kFive s0 s1 s2 s3 s4 := by
  rw [h0, h1, h2, h3, h4]

theorem V1_v7 : V1 m ρ c main_v7 = kTab (kFive (kRow (arg4 m c)) (kRow (arg5 m c)) (kRow (arg1 m c)) (kRow (arg2 m c)) (kRow (arg3 m c))) := by
  unfold V1 W1
  after_reads_simp
  refine congrArg₂ (fun (x : FVec Ideal S5x1024 .f32) (y : FVec Ideal S3x1024 .f32) => (concatenate S8x1024 0 [⟨S5x1024, x⟩, ⟨S3x1024, y⟩]
    concatenates_S5x1024_S3x1024_S8x1024_d0 : FVec Ideal S8x1024 .f32)) ?_ ?_
  · after_reads_simp
    refine five_congr ?_ ?_ ?_ ?_ ?_ <;> (after_reads_simp; rfl)
  · after_reads_simp

/-- What the first grid finds. -/
theorem base1 {P : Args} (H : Holds P (arg0 m c) (arg1 m c) (arg2 m c) (arg3 m c) (arg4 m c) (arg5 m c) (arg6 m c) (arg7 m c) (arg8 m c)) :
    Base P (V1 m ρ) c where
  x t d := (congrFun (W1_args m ρ c main_arg0 (by decide)) _).trans (H.x t d)
  ct t d := (congrFun (W1_args m ρ c main_arg8 (by decide)) _).trans (H.ct t d)
  rows := by
    rw [V1_v7]
    exact ⟨fun d => (five0 _ _ _ _ _ d).trans ((row_at d _).trans (H.gp d)), fun d => (five1 _ _ _ _ _ d).trans ((row_at d _).trans (H.gq d)),
      fun d => (five2 _ _ _ _ _ d).trans ((row_at d _).trans (H.sh d)), fun d => (five3 _ _ _ _ _ d).trans ((row_at d _).trans (H.sc d)),
      fun d => (five4 _ _ _ _ _ d).trans ((row_at d _).trans (H.ga d))⟩
  wg h d f := by
    rw [V1_v10]
    refine (kWi_at _ _ d f).trans ((congrArg (arg6 m c) ?_).trans (H.wi _ _))
    exact congrArg (ix2 d) (Fin.ext (by simp [gIdx, gl, lane, Nat.mul_comm]))
  wu h d f := by
    rw [V1_v10]
    refine (kWi_at _ _ d f).trans ((congrArg (arg6 m c) ?_).trans (H.wi _ _))
    exact congrArg (ix2 d) (Fin.ext (by simp [uIdx, ul, lane]; omega))
  wo h f d := by
    rw [V1_v12]
    exact (kWo_at _ _ f d).trans (H.wo _ _)

/-- The same after a grid or a stretch of lines that leaves those arrays as they are. -/
theorem Base.of {P : Args} {V V' : Arrays} {c : Dev nD} (B : Base P V c) (h0 : V' c main_arg0 = V c main_arg0)
    (h8 : V' c main_arg8 = V c main_arg8) (h7 : V' c main_v7 = V c main_v7) (h10 : V' c main_v10 = V c main_v10)
    (h12 : V' c main_v12 = V c main_v12) : Base P V' c where
  x t d := (congrFun h0 _).trans (B.x t d)
  ct t d := (congrFun h8 _).trans (B.ct t d)
  rows := by
    rw [h7]
    exact B.rows
  wg h d f := (congrFun h10 _).trans (B.wg h d f)
  wu h d f := (congrFun h10 _).trans (B.wu h d f)
  wo h f d := (congrFun h12 _).trans (B.wo h f d)

end Cert.Kernel2Ideal.Hand
-- ==== Proof.FfnReference.lean ====
module
public import proofs.«01_k».proof.Proof.Gen.Reference2Ideal.Read
public import proofs.«01_k».proof.Proof.FfnPrelude
public import Idealize.ShloMosaic.Lib.Pointwise

/-! # The reference's forward stages at an index, over real arguments

Each stage that carries a value of its own is read at an index as the extended real of a formula of the real layer. -/

@[expose] public section
set_option maxRecDepth 16384

namespace Cert.Ffn
open Idealize.ShloMosaic
open Cert.Reference2Ideal Cert.Reference2Ideal.Read
open Cert.Hand (coe_sum)
open Args

/-- What stands under the root of a row. -/
noncomputable def under (v : Fin 1024 → ℝ) : ℝ := (∑ k, v k * v k) / 1024 + eps

theorem div_real (x : ℝ) {y : ℝ} (h : y ≠ 0) : Ideal.div (x : EReal) (y : EReal) = ((x / y : ℝ) : EReal) := by
  rw [Ideal.div_coe h, ← EReal.coe_mul]
  congr 1; ring

theorem rsqrt_under (v : Fin 1024 → ℝ) : Ideal.rsqrt ((under v : ℝ) : EReal) = ((rinv v : ℝ) : EReal) := rsqrt_row v

theorem under_ne (v : Fin 1024 → ℝ) : under v ≠ 0 := (under_root_pos v).ne'

variable {P : Args} {x0 : FVec Ideal S4096x1024 .f32} {x1 x2 x3 x4 x5 : FVec Ideal S1024 .f32} {x6 : FVec Ideal S1024x5632 .f32}
  {x7 : FVec Ideal S2816x1024 .f32} {x8 : FVec Ideal S4096x1024 .f32} (H : Holds P x0 x1 x2 x3 x4 x5 x6 x7 x8)
include H

theorem v6_at (t : Fin 4096) : (val_main_v6 (F := Ideal) x0 (ix2 t 0) : EReal) = ((under (P.X t) : ℝ) : EReal) := by
  pointwise [val_main_v6, val_main_v5, val_main_cst_1, val_main_v4, val_main_v3, val_main_cst_0, val_main_v2, val_main_v1, val_main_cst, val_main_v0]
  simp only [H.x]
  simp only [word_1024, word_one, word_half, word_minus_half, word_zero, zero_add, ← EReal.coe_one, ← EReal.coe_mul, ← coe_sum, div_1024, ← EReal.coe_add, ← EReal.coe_sub]
  simp only [word_eps, ← EReal.coe_add]
  rfl

theorem v7_at (t : Fin 4096) : (val_main_v7 (F := Ideal) x0 (ix2 t 0) : EReal) = ((rinv (P.X t) : ℝ) : EReal) := by
  pointwise [val_main_v7]
  simp only [v6_at H]
  exact rsqrt_under _

theorem v10_at (t : Fin 4096) : (val_main_v10 (F := Ideal) x0 (ix2 t 0) : EReal) = ((-(1 / 2) * (rinv (P.X t) / under (P.X t)) : ℝ) : EReal) := by
  pointwise [val_main_v10, val_main_v9, val_main_cst_2, val_main_v8]
  simp only [v6_at H, v7_at H, div_real _ (under_ne _)]
  simp only [word_1024, word_one, word_half, word_minus_half, word_zero, zero_add, ← EReal.coe_one, ← EReal.coe_mul, ← coe_sum, div_1024, ← EReal.coe_add, ← EReal.coe_sub]

theorem v12_at (t : Fin 4096) (d : Fin 1024) : (val_main_v12 (F := Ideal) x0 (ix2 t d) : EReal) = ((nrm (P.X t) d : ℝ) : EReal) := by
  pointwise [val_main_v12, val_main_v11]
  simp only [H.x, v7_at H]
  simp only [word_1024, word_one, word_half, word_minus_half, word_zero, zero_add, ← EReal.coe_one, ← EReal.coe_mul, ← coe_sum, div_1024, ← EReal.coe_add, ← EReal.coe_sub]
  rfl

theorem v15_at (t : Fin 4096) (d : Fin 1024) : (val_main_v15 (F := Ideal) x0 x4 (ix2 t d) : EReal) = ((nrm (P.X t) d * P.Gp d : ℝ) : EReal) := by
  pointwise [val_main_v15, val_main_v14, val_main_v13]
  simp only [H.gp, v12_at H]
  simp only [word_1024, word_one, word_half, word_minus_half, word_zero, zero_add, ← EReal.coe_one, ← EReal.coe_mul, ← coe_sum, div_1024, ← EReal.coe_add, ← EReal.coe_sub]

theorem v18_at (d : Fin 1024) : (val_main_v18 (F := Ideal) x2 (ix2 0 d) : EReal) = ((1 + P.Sc d : ℝ) : EReal) := by
  pointwise [val_main_v18, val_main_v17, val_main_v16, val_main_cst_3]
  simp only [H.sc]
  simp only [word_1024, word_one, word_half, word_minus_half, word_zero, zero_add, ← EReal.coe_one, ← EReal.coe_mul, ← coe_sum, div_1024, ← EReal.coe_add, ← EReal.coe_sub]

theorem v23_at (t : Fin 4096) (d : Fin 1024) : (val_main_v23 (F := Ideal) x0 x1 x2 x4 (ix2 t d) : EReal) = ((P.H t d : ℝ) : EReal) := by
  pointwise [val_main_v23, val_main_v22, val_main_v21, val_main_v20, val_main_v19]
  simp only [H.sh, v15_at H, v18_at H]
  simp only [word_1024, word_one, word_half, word_minus_half, word_zero, zero_add, ← EReal.coe_one, ← EReal.coe_mul, ← coe_sum, div_1024, ← EReal.coe_add, ← EReal.coe_sub]
  rfl

theorem v24_at (t : Fin 4096) (j : Fin 5632) : (val_main_v24 (F := Ideal) x0 x1 x2 x4 x6 (ix2 t j) : EReal) = ((P.Z t j : ℝ) : EReal) := by
  pointwise [val_main_v24]
  simp only [v23_at H, H.wi]
  simp only [word_1024, word_one, word_half, word_minus_half, word_zero, zero_add, ← EReal.coe_one, ← EReal.coe_mul, ← coe_sum, div_1024, ← EReal.coe_add, ← EReal.coe_sub]
  rfl

theorem v25_at (t : Fin 4096) (f : Fin 2816) : (val_main_v25 (F := Ideal) x0 x1 x2 x4 x6 (ix2 t f) : EReal) = ((P.G t f : ℝ) : EReal) := by
  pointwise [val_main_v25]
  exact v24_at H t (gl f)

theorem v26_at (t : Fin 4096) (f : Fin 2816) : (val_main_v26 (F := Ideal) x0 x1 x2 x4 x6 (ix2 t f) : EReal) = ((P.Up t f : ℝ) : EReal) := by
  pointwise [val_main_v26]
  exact v24_at H t (ul f)

theorem v27_2_at (t : Fin 4096) (f : Fin 2816) : (val_main_v27_2 (F := Ideal) x0 x1 x2 x4 x6 (ix2 t f) : EReal) = ((sg (P.G t f) : ℝ) : EReal) := by
  pointwise [val_main_v27_2, val_main_call0_v4, val_main_call0_cst_0, val_main_call0_v3, val_main_call0_v2, val_main_call0_cst, val_main_call0_v1, val_main_call0_v0]
  simp only [v25_at H, ← EReal.coe_neg, Ideal.exp_coe]
  simp only [word_1024, word_one, word_half, word_minus_half, word_zero, zero_add, ← EReal.coe_one, ← EReal.coe_mul, ← coe_sum, div_1024, ← EReal.coe_add, ← EReal.coe_sub]
  have h : (1 + Real.exp (-P.G t f)) ≠ 0 := by positivity
  rw [div_real _ h, one_div]
  rfl

theorem v27_1_at (t : Fin 4096) (f : Fin 2816) : (val_main_v27_1 (F := Ideal) x0 x1 x2 x4 x6 (ix2 t f) : EReal) = ((sg (P.G t f) * (1 - sg (P.G t f)) : ℝ) : EReal) := by
  pointwise [val_main_v27_1, val_main_call0_v7, val_main_call0_v6, val_main_call0_cst_1]
  simp only [v27_2_at H]
  simp only [word_1024, word_one, word_half, word_minus_half, word_zero, zero_add, ← EReal.coe_one, ← EReal.coe_mul, ← coe_sum, div_1024, ← EReal.coe_add, ← EReal.coe_sub]

theorem v27_0_at (t : Fin 4096) (f : Fin 2816) : (val_main_v27_0 (F := Ideal) x0 x1 x2 x4 x6 (ix2 t f) : EReal) = ((P.G t f * sg (P.G t f) : ℝ) : EReal) := by
  pointwise [val_main_v27_0]
  simp only [v27_2_at H, v25_at H]
  simp only [word_1024, word_one, word_half, word_minus_half, word_zero, zero_add, ← EReal.coe_one, ← EReal.coe_mul, ← coe_sum, div_1024, ← EReal.coe_add, ← EReal.coe_sub]

theorem v28_at (t : Fin 4096) (f : Fin 2816) : (val_main_v28 (F := Ideal) x0 x1 x2 x4 x6 (ix2 t f) : EReal) = ((P.Act t f : ℝ) : EReal) := by
  pointwise [val_main_v28]
  simp only [v27_0_at H, v26_at H]
  simp only [word_1024, word_one, word_half, word_minus_half, word_zero, zero_add, ← EReal.coe_one, ← EReal.coe_mul, ← coe_sum, div_1024, ← EReal.coe_add, ← EReal.coe_sub]
  rfl

theorem v29_at (t : Fin 4096) (d : Fin 1024) : (val_main_v29 (F := Ideal) x0 x1 x2 x4 x6 x7 (ix2 t d) : EReal) = ((P.U t d : ℝ) : EReal) := by
  pointwise [val_main_v29]
  simp only [v28_at H, H.wo]
  simp only [word_1024, word_one, word_half, word_minus_half, word_zero, zero_add, ← EReal.coe_one, ← EReal.coe_mul, ← coe_sum, div_1024, ← EReal.coe_add, ← EReal.coe_sub]
  rfl

theorem v40_at (t : Fin 4096) : (val_main_v40 (F := Ideal) x0 x1 x2 x4 x6 x7 (ix2 t 0) : EReal) = ((under (P.U t) : ℝ) : EReal) := by
  pointwise [val_main_v40, val_main_v39, val_main_cst_8, val_main_v38, val_main_v37, val_main_cst_7, val_main_v36, val_main_v35, val_main_cst_6, val_main_v34]
  simp only [v29_at H]
  simp only [word_1024, word_one, word_half, word_minus_half, word_zero, zero_add, ← EReal.coe_one, ← EReal.coe_mul, ← coe_sum, div_1024, ← EReal.coe_add, ← EReal.coe_sub]
  simp only [word_eps, ← EReal.coe_add]
  rfl

theorem v41_at (t : Fin 4096) : (val_main_v41 (F := Ideal) x0 x1 x2 x4 x6 x7 (ix2 t 0) : EReal) = ((rinv (P.U t) : ℝ) : EReal) := by
  pointwise [val_main_v41]
  simp only [v40_at H]
  exact rsqrt_under _

theorem v44_at (t : Fin 4096) : (val_main_v44 (F := Ideal) x0 x1 x2 x4 x6 x7 (ix2 t 0) : EReal) = ((-(1 / 2) * (rinv (P.U t) / under (P.U t)) : ℝ) : EReal) := by
  pointwise [val_main_v44, val_main_v43, val_main_cst_9, val_main_v42]
  simp only [v40_at H, v41_at H, div_real _ (under_ne _)]
  simp only [word_1024, word_one, word_half, word_minus_half, word_zero, zero_add, ← EReal.coe_one, ← EReal.coe_mul, ← coe_sum, div_1024, ← EReal.coe_add, ← EReal.coe_sub]

theorem v46_at (t : Fin 4096) (d : Fin 1024) : (val_main_v46 (F := Ideal) x0 x1 x2 x4 x6 x7 (ix2 t d) : EReal) = ((nrm (P.U t) d : ℝ) : EReal) := by
  pointwise [val_main_v46, val_main_v45]
  simp only [v29_at H, v41_at H]
  simp only [word_1024, word_one, word_half, word_minus_half, word_zero, zero_add, ← EReal.coe_one, ← EReal.coe_mul, ← coe_sum, div_1024, ← EReal.coe_add, ← EReal.coe_sub]
  rfl

theorem v49_at (t : Fin 4096) (d : Fin 1024) : (val_main_v49 (F := Ideal) x0 x1 x2 x4 x5 x6 x7 (ix2 t d) : EReal) = ((nrm (P.U t) d * P.Gq d : ℝ) : EReal) := by
  pointwise [val_main_v49, val_main_v48, val_main_v47]
  simp only [H.gq, v46_at H]
  simp only [word_1024, word_one, word_half, word_minus_half, word_zero, zero_add, ← EReal.coe_one, ← EReal.coe_mul, ← coe_sum, div_1024, ← EReal.coe_add, ← EReal.coe_sub]

theorem v50_at (d : Fin 1024) : (val_main_v50 (F := Ideal) x3 (ix2 0 d) : EReal) = ((1 / 2 * (1 + P.Ga d) : ℝ) : EReal) := by
  pointwise [val_main_v50, val_main_v33, val_main_v32, val_main_cst_5, val_main_v31, val_main_v30, val_main_cst_4]
  simp only [H.ga]
  simp only [word_1024, word_one, word_half, word_minus_half, word_zero, zero_add, ← EReal.coe_one, ← EReal.coe_mul, ← coe_sum, div_1024, ← EReal.coe_add, ← EReal.coe_sub]

theorem v53_at (t : Fin 4096) (d : Fin 1024) : (val_main_v53 (F := Ideal) x0 x1 x2 x3 x4 x5 x6 x7 (ix2 t d) : EReal) = ((P.Y t d : ℝ) : EReal) := by
  pointwise [val_main_v53, val_main_v52, val_main_v51]
  simp only [H.x, v50_at H, v49_at H]
  simp only [word_1024, word_one, word_half, word_minus_half, word_zero, zero_add, ← EReal.coe_one, ← EReal.coe_mul, ← coe_sum, div_1024, ← EReal.coe_add, ← EReal.coe_sub]
  rfl

end Cert.Ffn
-- ==== Proof.FfnGradients.lean ====
module
public import proofs.«01_k».proof.Proof.FfnReference

/-! # The reference's backward stages at an index, over real arguments

The gradients that the reference's transposed program makes, each as the real layer's formula. -/

@[expose] public section
set_option maxRecDepth 16384

namespace Cert.Ffn
open Idealize.ShloMosaic
open Cert.Reference2Ideal Cert.Reference2Ideal.Read
open Cert.Hand (coe_sum)
open Args

/-- The gradient of a scaled row, with the root's own term taken apart as the reference takes it. -/
theorem back_eq (v g : Fin 1024 → ℝ) (d : Fin 1024) (s : ℝ) (hs : s = ∑ k, v k * g k) :
    g d * rinv v + v d * (s * (-(1 / 2) * (rinv v / under v)) / 1024) + s * (-(1 / 2) * (rinv v / under v)) / 1024 * v d
      = back v g d := by
  have h : rinv v / under v = rinv v * rinv v * rinv v := by
    have hp := under_root_pos v
    have h2 : rinv v * rinv v = (under v)⁻¹ := by
      unfold rinv under
      rw [← mul_inv, Real.mul_self_sqrt hp.le]
    rw [mul_comm (rinv v * rinv v), h2]
    rfl
  have e : ∑ k, g k * nrm v k = rinv v * ∑ k, v k * g k := by
    rw [Finset.mul_sum]
    refine Finset.sum_congr rfl fun k _ => ?_
    unfold nrm
    ring
  rw [h, hs]
  unfold back
  rw [e]
  unfold nrm
  ring

/-- A sum over the 5632 lanes is a sum over the gates and one over the lanes they gate. -/
theorem sum_gates (g : Fin 5632 → ℝ) : ∑ j, g j = (∑ f, g (gl f)) + ∑ f, g (ul f) := by
  rw [Fin.sum_univ_add (a := 2816) (b := 2816) g]
  rfl

theorem dZ_gl (P : Args) (t : Fin 4096) (f : Fin 2816) : P.dZ t (gl f) = P.dG t f := by
  simp [dZ, gl]

theorem dZ_ul (P : Args) (t : Fin 4096) (f : Fin 2816) : P.dZ t (ul f) = P.dUp t f := by
  simp [dZ, ul]

variable {P : Args} {x0 : FVec Ideal S4096x1024 .f32} {x1 x2 x3 x4 x5 : FVec Ideal S1024 .f32} {x6 : FVec Ideal S1024x5632 .f32}
  {x7 : FVec Ideal S2816x1024 .f32} {x8 : FVec Ideal S4096x1024 .f32} (H : Holds P x0 x1 x2 x3 x4 x5 x6 x7 x8)
include H

theorem v54_at (t : Fin 4096) (d : Fin 1024) : (val_main_v54 (F := Ideal) x8 (ix2 t d) : EReal) = ((P.Ct t d : ℝ) : EReal) := by
  pointwise [val_main_v54]
  simp only [H.ct]

theorem v56_at (t : Fin 4096) (d : Fin 1024) : (val_main_v56 (F := Ideal) x3 x8 (ix2 t d) : EReal) = ((P.dY t d : ℝ) : EReal) := by
  pointwise [val_main_v56, val_main_v55]
  simp only [v54_at H, v50_at H]
  simp only [word_1024, word_one, word_half, word_minus_half, word_zero, zero_add, ← EReal.coe_one, ← EReal.coe_mul, ← coe_sum, div_1024, ← EReal.coe_add, ← EReal.coe_sub]
  exact congrArg _ (by simp only [dY]; ring)

theorem v82_at (d : Fin 1024) : (val_main_v82 (F := Ideal) x0 x1 x2 x4 x5 x6 x7 x8 (ix1 d) : EReal) = ((P.dGa d : ℝ) : EReal) := by
  pointwise [val_main_v82, val_main_v81, val_main_cst_17, val_main_v60, val_main_cst_11, val_main_v59, val_main_v58, val_main_cst_10, val_main_v57]
  simp only [v54_at H, v49_at H]
  simp only [word_1024, word_one, word_half, word_minus_half, word_zero, zero_add, ← EReal.coe_one, ← EReal.coe_mul, ← coe_sum, div_1024, ← EReal.coe_add, ← EReal.coe_sub]
  exact congrArg _ ((congrArg (1 / 2 * ·) (Fin.sum_univ_one _)).trans (by simp only [dGa, Finset.mul_sum, mul_assoc]))

theorem v66_at (d : Fin 1024) : (val_main_v66 (F := Ideal) x0 x1 x2 x3 x4 x6 x7 x8 (ix1 d) : EReal) = ((P.dGq d : ℝ) : EReal) := by
  pointwise [val_main_v66, val_main_cst_13, val_main_v63, val_main_v62, val_main_cst_12, val_main_v61]
  simp only [v46_at H, v56_at H]
  simp only [word_1024, word_one, word_half, word_minus_half, word_zero, zero_add, ← EReal.coe_one, ← EReal.coe_mul, ← coe_sum, div_1024, ← EReal.coe_add, ← EReal.coe_sub]
  exact congrArg _ ((Fin.sum_univ_one _).trans (Finset.sum_congr rfl fun t _ => by ring))

theorem v65_at (t : Fin 4096) (d : Fin 1024) : (val_main_v65 (F := Ideal) x3 x5 x8 (ix2 t d) : EReal) = ((P.dY t d * P.Gq d : ℝ) : EReal) := by
  pointwise [val_main_v65, val_main_v64, val_main_v47]
  simp only [v56_at H, H.gq]
  simp only [word_1024, word_one, word_half, word_minus_half, word_zero, zero_add, ← EReal.coe_one, ← EReal.coe_mul, ← coe_sum, div_1024, ← EReal.coe_add, ← EReal.coe_sub]

theorem v74_at (t : Fin 4096) : (val_main_v74 (F := Ideal) x0 x1 x2 x3 x4 x5 x6 x7 x8 (ix2 t 0) : EReal) = (((∑ k, P.U t k * (P.dY t k * P.Gq k)) * (-(1 / 2) * (rinv (P.U t) / under (P.U t))) / 1024 : ℝ) : EReal) := by
  pointwise [val_main_v74, val_main_v73, val_main_cst_15, val_main_v72, val_main_v69, val_main_v68, val_main_cst_14, val_main_v67]
  simp only [v29_at H, v65_at H, v44_at H]
  simp only [word_1024, word_one, word_half, word_minus_half, word_zero, zero_add, ← EReal.coe_one, ← EReal.coe_mul, ← coe_sum, div_1024, ← EReal.coe_add, ← EReal.coe_sub]

theorem v75_at (t : Fin 4096) : (val_main_v75 (F := Ideal) x0 x1 x2 x3 x4 x5 x6 x7 x8 (ix1 t) : EReal) = (((∑ k, P.U t k * (P.dY t k * P.Gq k)) * (-(1 / 2) * (rinv (P.U t) / under (P.U t))) / 1024 : ℝ) : EReal) := by
  pointwise [val_main_v75, val_main_cst_16]
  exact (Fin.sum_univ_one _).trans (v74_at H t)

theorem v80_at (t : Fin 4096) (d : Fin 1024) : (val_main_v80 (F := Ideal) x0 x1 x2 x3 x4 x5 x6 x7 x8 (ix2 t d) : EReal) = ((P.dU t d : ℝ) : EReal) := by
  pointwise [val_main_v80, val_main_v79, val_main_v78, val_main_v77, val_main_v76, val_main_v71, val_main_v70]
  simp only [v29_at H, v65_at H, v41_at H, v75_at H]
  simp only [word_1024, word_one, word_half, word_minus_half, word_zero, zero_add, ← EReal.coe_one, ← EReal.coe_mul, ← coe_sum, div_1024, ← EReal.coe_add, ← EReal.coe_sub]
  exact congrArg _ (back_eq (P.U t) (fun k => P.dY t k * P.Gq k) d _ rfl)

theorem v84_at (f : Fin 2816) (d : Fin 1024) : (val_main_v84 (F := Ideal) x0 x1 x2 x3 x4 x5 x6 x7 x8 (ix2 f d) : EReal) = ((P.dWo f d : ℝ) : EReal) := by
  pointwise [val_main_v84, val_main_v83]
  simp only [v80_at H, v28_at H]
  simp only [word_1024, word_one, word_half, word_minus_half, word_zero, zero_add, ← EReal.coe_one, ← EReal.coe_mul, ← coe_sum, div_1024, ← EReal.coe_add, ← EReal.coe_sub]
  exact congrArg _ (Finset.sum_congr rfl fun t _ => by ring)

theorem v85_at (t : Fin 4096) (f : Fin 2816) : (val_main_v85 (F := Ideal) x0 x1 x2 x3 x4 x5 x6 x7 x8 (ix2 t f) : EReal) = ((P.dAct t f : ℝ) : EReal) := by
  pointwise [val_main_v85]
  simp only [v80_at H, H.wo]
  simp only [word_1024, word_one, word_half, word_minus_half, word_zero, zero_add, ← EReal.coe_one, ← EReal.coe_mul, ← coe_sum, div_1024, ← EReal.coe_add, ← EReal.coe_sub]
  rfl

theorem v86_at (t : Fin 4096) (f : Fin 2816) : (val_main_v86 (F := Ideal) x0 x1 x2 x3 x4 x5 x6 x7 x8 (ix2 t f) : EReal) = ((P.dUp t f : ℝ) : EReal) := by
  pointwise [val_main_v86]
  simp only [v27_0_at H, v85_at H]
  simp only [word_1024, word_one, word_half, word_minus_half, word_zero, zero_add, ← EReal.coe_one, ← EReal.coe_mul, ← coe_sum, div_1024, ← EReal.coe_add, ← EReal.coe_sub]
  exact congrArg _ (by simp only [dUp]; ring)

theorem v88_at (t : Fin 4096) (f : Fin 2816) : (val_main_v88 (F := Ideal) x0 x1 x2 x3 x4 x5 x6 x7 x8 (ix2 t f) : EReal) = ((P.dG t f : ℝ) : EReal) := by
  pointwise [val_main_v88, val_main_call1_v1, val_main_call1_v2, val_main_call1_v0, val_main_v87]
  simp only [v27_1_at H, v27_2_at H, v85_at H, v25_at H, v26_at H]
  simp only [word_1024, word_one, word_half, word_minus_half, word_zero, zero_add, ← EReal.coe_one, ← EReal.coe_mul, ← coe_sum, div_1024, ← EReal.coe_add, ← EReal.coe_sub]
  exact congrArg _ (by simp only [dG]; ring)

theorem v89_gl (t : Fin 4096) (f : Fin 2816) :
    (val_main_v89 (F := Ideal) x0 x1 x2 x3 x4 x5 x6 x7 x8 (ix2 t (gl f)) : EReal) = ((P.dG t f : ℝ) : EReal) := by
  pointwise [val_main_v89, gl]
  exact v88_at H t f

theorem v89_ul (t : Fin 4096) (f : Fin 2816) :
    (val_main_v89 (F := Ideal) x0 x1 x2 x3 x4 x5 x6 x7 x8 (ix2 t (ul f)) : EReal) = ((P.dUp t f : ℝ) : EReal) := by
  pointwise [val_main_v89, ul]
  exact v86_at H t f

theorem v89_at (t : Fin 4096) (j : Fin 5632) :
    (val_main_v89 (F := Ideal) x0 x1 x2 x3 x4 x5 x6 x7 x8 (ix2 t j) : EReal) = ((P.dZ t j : ℝ) : EReal) := by
  by_cases h : j.val < 2816
  · obtain ⟨f, rfl⟩ : ∃ f, j = gl f := ⟨⟨j.val, h⟩, rfl⟩
    rw [dZ_gl]
    exact v89_gl H t _
  · obtain ⟨f, rfl⟩ : ∃ f, j = ul f := ⟨⟨j.val - 2816, by omega⟩, Fin.ext (by simp [ul]; omega)⟩
    rw [dZ_ul]
    exact v89_ul H t _

theorem v91_at (d : Fin 1024) (j : Fin 5632) : (val_main_v91 (F := Ideal) x0 x1 x2 x3 x4 x5 x6 x7 x8 (ix2 d j) : EReal) = ((P.dWi d j : ℝ) : EReal) := by
  pointwise [val_main_v91, val_main_v90]
  simp only [v89_at H, v23_at H]
  simp only [word_1024, word_one, word_half, word_minus_half, word_zero, zero_add, ← EReal.coe_one, ← EReal.coe_mul, ← coe_sum, div_1024, ← EReal.coe_add, ← EReal.coe_sub]
  exact congrArg _ (Finset.sum_congr rfl fun t _ => by ring)

theorem v92_at (t : Fin 4096) (d : Fin 1024) : (val_main_v92 (F := Ideal) x0 x1 x2 x3 x4 x5 x6 x7 x8 (ix2 t d) : EReal) = ((P.dH t d : ℝ) : EReal) := by
  pointwise [val_main_v92]
  simp only [v89_at H, H.wi]
  simp only [word_1024, word_one, word_half, word_minus_half, word_zero, zero_add, ← EReal.coe_one, ← EReal.coe_mul, ← coe_sum, div_1024, ← EReal.coe_add, ← EReal.coe_sub]
  exact congrArg _ (by rw [sum_gates]; simp only [dZ_gl, dZ_ul]; rfl)

theorem v95_at (d : Fin 1024) : (val_main_v95 (F := Ideal) x0 x1 x2 x3 x4 x5 x6 x7 x8 (ix1 d) : EReal) = ((P.dSh d : ℝ) : EReal) := by
  pointwise [val_main_v95, val_main_cst_19, val_main_v94, val_main_v93, val_main_cst_18]
  simp only [v92_at H]
  simp only [word_1024, word_one, word_half, word_minus_half, word_zero, zero_add, ← EReal.coe_one, ← EReal.coe_mul, ← coe_sum, div_1024, ← EReal.coe_add, ← EReal.coe_sub]
  exact congrArg _ (Fin.sum_univ_one _)

theorem v101_at (d : Fin 1024) : (val_main_v101 (F := Ideal) x0 x1 x2 x3 x4 x5 x6 x7 x8 (ix1 d) : EReal) = ((P.dSc d : ℝ) : EReal) := by
  pointwise [val_main_v101, val_main_cst_21, val_main_v98, val_main_v97, val_main_cst_20, val_main_v96]
  simp only [v15_at H, v92_at H]
  simp only [word_1024, word_one, word_half, word_minus_half, word_zero, zero_add, ← EReal.coe_one, ← EReal.coe_mul, ← coe_sum, div_1024, ← EReal.coe_add, ← EReal.coe_sub]
  exact congrArg _ ((Fin.sum_univ_one _).trans (Finset.sum_congr rfl fun t _ => by ring))

theorem v100_at (t : Fin 4096) (d : Fin 1024) : (val_main_v100 (F := Ideal) x0 x1 x2 x3 x4 x5 x6 x7 x8 (ix2 t d) : EReal) = ((P.dH t d * (1 + P.Sc d) : ℝ) : EReal) := by
  pointwise [val_main_v100, val_main_v99]
  simp only [v92_at H, v18_at H]
  simp only [word_1024, word_one, word_half, word_minus_half, word_zero, zero_add, ← EReal.coe_one, ← EReal.coe_mul, ← coe_sum, div_1024, ← EReal.coe_add, ← EReal.coe_sub]

theorem v107_at (d : Fin 1024) : (val_main_v107 (F := Ideal) x0 x1 x2 x3 x4 x5 x6 x7 x8 (ix1 d) : EReal) = ((P.dGp d : ℝ) : EReal) := by
  pointwise [val_main_v107, val_main_cst_23, val_main_v104, val_main_v103, val_main_cst_22, val_main_v102]
  simp only [v12_at H, v100_at H]
  simp only [word_1024, word_one, word_half, word_minus_half, word_zero, zero_add, ← EReal.coe_one, ← EReal.coe_mul, ← coe_sum, div_1024, ← EReal.coe_add, ← EReal.coe_sub]
  exact congrArg _ ((Fin.sum_univ_one _).trans (Finset.sum_congr rfl fun t _ => by ring))

theorem v106_at (t : Fin 4096) (d : Fin 1024) : (val_main_v106 (F := Ideal) x0 x1 x2 x3 x4 x5 x6 x7 x8 (ix2 t d) : EReal) = ((P.dH t d * P.Gp d * (1 + P.Sc d) : ℝ) : EReal) := by
  pointwise [val_main_v106, val_main_v105, val_main_v13]
  simp only [v100_at H, H.gp]
  simp only [word_1024, word_one, word_half, word_minus_half, word_zero, zero_add, ← EReal.coe_one, ← EReal.coe_mul, ← coe_sum, div_1024, ← EReal.coe_add, ← EReal.coe_sub]
  exact congrArg _ (by ring)

theorem v116_at (t : Fin 4096) : (val_main_v116 (F := Ideal) x0 x1 x2 x3 x4 x5 x6 x7 x8 (ix2 t 0) : EReal) = (((∑ k, P.X t k * (P.dH t k * P.Gp k * (1 + P.Sc k))) * (-(1 / 2) * (rinv (P.X t) / under (P.X t))) / 1024 : ℝ) : EReal) := by
  pointwise [val_main_v116, val_main_v115, val_main_cst_25, val_main_v114, val_main_v110, val_main_v109, val_main_cst_24, val_main_v108]
  simp only [H.x, v106_at H, v10_at H]
  simp only [word_1024, word_one, word_half, word_minus_half, word_zero, zero_add, ← EReal.coe_one, ← EReal.coe_mul, ← coe_sum, div_1024, ← EReal.coe_add, ← EReal.coe_sub]

theorem v117_at (t : Fin 4096) : (val_main_v117 (F := Ideal) x0 x1 x2 x3 x4 x5 x6 x7 x8 (ix1 t) : EReal) = (((∑ k, P.X t k * (P.dH t k * P.Gp k * (1 + P.Sc k))) * (-(1 / 2) * (rinv (P.X t) / under (P.X t))) / 1024 : ℝ) : EReal) := by
  pointwise [val_main_v117, val_main_cst_26]
  exact (Fin.sum_univ_one _).trans (v116_at H t)

theorem v122_at (t : Fin 4096) (d : Fin 1024) : (val_main_v122 (F := Ideal) x0 x1 x2 x3 x4 x5 x6 x7 x8 (ix2 t d) : EReal) = ((P.dX t d : ℝ) : EReal) := by
  pointwise [val_main_v122, val_main_v121, val_main_v120, val_main_v119, val_main_v118, val_main_v113, val_main_v112, val_main_v111]
  simp only [H.x, H.ct, v106_at H, v7_at H, v117_at H]
  simp only [word_1024, word_one, word_half, word_minus_half, word_zero, zero_add, ← EReal.coe_one, ← EReal.coe_mul, ← coe_sum, div_1024, ← EReal.coe_add, ← EReal.coe_sub]
  refine congrArg _ ?_
  unfold dX
  rw [← back_eq (P.X t) (fun k => P.dH t k * P.Gp k * (1 + P.Sc k)) d _ rfl]
  ring

end Cert.Ffn
-- ==== Proof.FfnRegion0.lean ====
module
public import proofs.«01_k».proof.Proof.FfnBase

/-! # What the first grid of the forward pass leaves -/

@[expose] public section
set_option maxRecDepth 16384

namespace Cert.Kernel2Ideal.Hand
open Idealize.ShloMosaic
open Cert.Kernel2Ideal Cert.Kernel2Ideal.Gen
open Cert.Ffn Cert.Ffn.Args

namespace R0

theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 := by decide +kernel
theorem idx2 : ∀ t : Fin cfg0.N, (cfg0.win 2).index t 0 = 0 ∧ (cfg0.win 2).index t 1 = 0 ∧ (cfg0.win 2).index t 2 = 0 := by decide +kernel
theorem idx3 : ∀ t : Fin cfg0.N, (cfg0.win 3).index t 0 = 2 ∧ (cfg0.win 3).index t 1 = 0 ∧ (cfg0.win 3).index t 2 = 0 := by decide +kernel
theorem idx4 : ∀ t : Fin cfg0.N, (cfg0.win 4).index t 0 = 0 ∧ (cfg0.win 4).index t 1 = 0 ∧ (cfg0.win 4).index t 2 = 0 := by decide +kernel
theorem idx5 : ∀ t : Fin cfg0.N, (cfg0.win 5).index t 0 = t.val ∧ (cfg0.win 5).index t 1 = 0 := by decide +kernel
theorem idx6 : ∀ t : Fin cfg0.N, (cfg0.win 6).index t 0 = 0 ∧ (cfg0.win 6).index t 1 = t.val ∧ (cfg0.win 6).index t 2 = 0 := by decide +kernel
theorem idx7 : ∀ t : Fin cfg0.N, (cfg0.win 7).index t 0 = t.val ∧ (cfg0.win 7).index t 1 = 0 := by decide +kernel

variable (P : Args) (V : Arrays) (c : Dev nD)

/-- The token of a row at a point. -/
abbrev tk (t : Fin cfg0.N) (a : Fin 512) : Fin 4096 := tok t.val t.isLt a

theorem in0 (B : Base P V c) (t : Fin cfg0.N) (a : Fin 512) (d : Fin 1024) :
    iblk0 V c 0 t (ix2 a d) = ((P.X (tk t a) d : ℝ) : EReal) := by
  obtain ⟨e0, e1⟩ := idx0 t
  have h : (win0_0.blk t).view.emb (ix2 a d) = ix2 (tk t a) d := eq_ix2_of _ _ _ (by blk_simp [e0]; rfl) (by blk_simp [e1])
  blk_simp [iblk0]
  rw [h]
  exact B.x _ _

theorem blk1 (t : Fin cfg0.N) (a : Fin 8) (d : Fin 1024) : iblk0 V c 1 t (ix2 a d) = V c main_v7 (ix2 a d) := by
  obtain ⟨e0, e1⟩ := idx1 t
  blk_ext [iblk0, e0, e1]

theorem in1 (B : Base P V c) (t : Fin cfg0.N) : Rows P (iblk0 V c 1 t) :=
  ⟨fun d => (blk1 V c t 0 d).trans (B.rows.r0 d), fun d => (blk1 V c t 1 d).trans (B.rows.r1 d),
    fun d => (blk1 V c t 2 d).trans (B.rows.r2 d), fun d => (blk1 V c t 3 d).trans (B.rows.r3 d),
    fun d => (blk1 V c t 4 d).trans (B.rows.r4 d)⟩

theorem in2 (B : Base P V c) (t : Fin cfg0.N) (d : Fin 1024) (f : Fin 1408) :
    iblk0 V c 2 t (ix3 0 d f) = ((P.Wi d (gl (lane 0 f)) : ℝ) : EReal) := by
  obtain ⟨e0, e1, e2⟩ := idx2 t
  have h : (win0_2.blk t).view.emb (ix3 0 d f) = ix3 (gIdx 0) d f :=
    eq_ix3_of' _ _ _ _ (by blk_simp [e0]; rfl) (by blk_simp [e1]) (by blk_simp [e2])
  blk_simp [iblk0]
  rw [h]
  exact B.wg _ _ _

theorem in3 (B : Base P V c) (t : Fin cfg0.N) (d : Fin 1024) (f : Fin 1408) :
    iblk0 V c 3 t (ix3 0 d f) = ((P.Wi d (ul (lane 0 f)) : ℝ) : EReal) := by
  obtain ⟨e0, e1, e2⟩ := idx3 t
  have h : (win0_3.blk t).view.emb (ix3 0 d f) = ix3 (uIdx 0) d f :=
    eq_ix3_of' _ _ _ _ (by blk_simp [e0]; rfl) (by blk_simp [e1]) (by blk_simp [e2])
  blk_simp [iblk0]
  rw [h]
  exact B.wu _ _ _

theorem in4 (B : Base P V c) (t : Fin cfg0.N) (f : Fin 1408) (d : Fin 1024) :
    iblk0 V c 4 t (ix3 0 f d) = ((P.Wo (lane 0 f) d : ℝ) : EReal) := by
  obtain ⟨e0, e1, e2⟩ := idx4 t
  have h : (win0_4.blk t).view.emb (ix3 0 f d) = ix3 (0 : Fin 2) f d :=
    eq_ix3_of' _ _ _ _ (by blk_simp [e0]; rfl) (by blk_simp [e1]) (by blk_simp [e2])
  blk_simp [iblk0]
  rw [h]
  exact B.wo _ _ _

/-- The scaled and modulated rows. -/
theorem hidden (B : Base P V c) : (dat0 V c).arrAt 5 cfg0.N = fun i => ((P.H (i 0) (i 1) : ℝ) : EReal) := by
  refine (dat0 V c).arrAt_eq_of_covers 5 _ (by decide +kernel) fun t hf y => ?_
  blk_simp
  rw [after0_5]
  obtain ⟨a, d, rfl⟩ := exists_ix2 y
  obtain ⟨e0, e1⟩ := idx5 t
  have h : (win0_5.blk t).view.emb (ix2 a d) = ix2 (tk t a) d := eq_ix2_of _ _ _ (by blk_simp [e0]; rfl) (by blk_simp [e1])
  rw [h]
  exact block0_5 P (tk t) _ _ _ _ _ (in0 P V c B t) (in1 P V c B t) a d

/-- The first half's part of the rows that come out. -/
theorem part (B : Base P V c) : (dat0 V c).arrAt 7 cfg0.N = fun i => ((P.Uh 0 (i 0) (i 1) : ℝ) : EReal) := by
  refine (dat0 V c).arrAt_eq_of_covers 7 _ (by decide +kernel) fun t hf y => ?_
  blk_simp
  rw [after0_7]
  obtain ⟨a, d, rfl⟩ := exists_ix2 y
  obtain ⟨e0, e1⟩ := idx7 t
  have h : (win0_7.blk t).view.emb (ix2 a d) = ix2 (tk t a) d := eq_ix2_of _ _ _ (by blk_simp [e0]; rfl) (by blk_simp [e1])
  rw [h]
  exact block0_7 P (tk t) 0 _ _ _ _ _ (in0 P V c B t) (in1 P V c B t) (in2 P V c B t) (in3 P V c B t) (in4 P V c B t) a d

/-- The first half of what is kept of a token. -/
theorem kept (B : Base P V c) (j : Fin 2) (t : Fin 4096) (f : Fin 1408) :
    (dat0 V c).arrAt 6 cfg0.N (ix3 j t (lane 0 f)) = ((keep P j t (lane 0 f) : ℝ) : EReal) := by
  have e := (dat0 V c).arrAt_apply_of_coversWhere 6 (fun i => ((keep P (i 0) (i 1) (i 2) : ℝ) : EReal))
    (P := fun i => (i 2).val / 1408 = 0) (fun β => β (2 : Fin 3) = 0) (by decide +kernel) (fun t hf y => ?_)
    (fun j => Iff.rfl) (ix3 j t (lane 0 f))
  · refine e.trans (if_pos ?_)
    exact Nat.div_eq_of_lt (by show 1408 * 0 + f.val < 1408; omega)
  blk_simp
  rw [after0_6]
  obtain ⟨j, a, f, rfl⟩ := exists_ix3 y
  obtain ⟨e0, e1, e2⟩ := idx6 t
  have h : (win0_6.blk t).view.emb (ix3 j a f) = ix3 j (tk t a) (lane 0 f) :=
    eq_ix3_of' _ _ _ _ (by blk_simp [e0]) (by blk_simp [e1]; rfl) (by blk_simp [e2]; simp [lane])
  rw [h]
  match j with
  | ⟨0, _⟩ => exact block0_6_0 P (tk t) 0 _ _ _ _ _ (in0 P V c B t) (in1 P V c B t) (in2 P V c B t) a f
  | ⟨1, _⟩ => exact block0_6_1 P (tk t) 0 _ _ _ _ _ (in0 P V c B t) (in1 P V c B t) (in3 P V c B t) a f

end R0
end Cert.Kernel2Ideal.Hand
-- ==== Proof.FfnBlock1.lean ====
module
public import proofs.«01_k».proof.Proof.FfnBase
public import proofs.«01_k».proof.Proof.Gen.Kernel2Ideal.Frame.Region1

/-! # The second grid of the forward pass, point by point

The other half of the lanes is added, the row is scaled to mean square one, gated and added to the row that came in. -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R1

variable (P : Args) (T : Fin 512 → Fin 4096) (h : Fin 2)
  (x0 : Vec Ideal S512x1024 .f32) (x1 : Vec Ideal S512x1024 .bf16) (x2 : Vec Ideal S512x1024 .f32) (x3 : Vec Ideal S8x1024 .f32)
  (x4 x5 : Vec Ideal S1x1024x1408 .bf16) (x6 : Vec Ideal S1x1408x1024 .bf16)

theorem gate_row (hh : ∀ a d, x1 (ix2 a d) = ((P.H (T a) d : ℝ) : EReal))
    (hw : ∀ d f, x4 (ix3 0 d f) = ((P.Wi d (gl (lane 1 f)) : ℝ) : EReal)) (a : Fin 512) (f : Fin 1408) :
    k1_pay3 x1 x4 (ix2 a f) = ((P.G (T a) (lane 1 f) : ℝ) : EReal) := by
  pointwise [k1_pay3, k1_pay2]
  simp only [hh, hw, ← EReal.coe_mul, ← coe_sum]
  rfl

theorem up_row (hh : ∀ a d, x1 (ix2 a d) = ((P.H (T a) d : ℝ) : EReal))
    (hw : ∀ d f, x5 (ix3 0 d f) = ((P.Wi d (ul (lane 1 f)) : ℝ) : EReal)) (a : Fin 512) (f : Fin 1408) :
    k1_pay4 x1 x5 (ix2 a f) = ((P.Up (T a) (lane 1 f) : ℝ) : EReal) := by
  pointwise [k1_pay4, k1_pay2]
  simp only [hh, hw, ← EReal.coe_mul, ← coe_sum]
  rfl

theorem cast_gate (a : Fin 512) (f : Fin 1408) : (k1_pay5 x1 x4 (ix3 0 a f) : EReal) = k1_pay3 x1 x4 (ix2 a f) := by
  pointwise [k1_pay5]

theorem cast_up (a : Fin 512) (f : Fin 1408) : (k1_pay6 x1 x5 (ix3 0 a f) : EReal) = k1_pay4 x1 x5 (ix2 a f) := by
  pointwise [k1_pay6]

theorem row_out (hu : ∀ a d, x2 (ix2 a d) = ((P.Uh 0 (T a) d : ℝ) : EReal))
    (hg : ∀ a f, k1_pay3 x1 x4 (ix2 a f) = ((P.G (T a) (lane 1 f) : ℝ) : EReal))
    (hp : ∀ a f, k1_pay4 x1 x5 (ix2 a f) = ((P.Up (T a) (lane 1 f) : ℝ) : EReal))
    (ho : ∀ f d, x6 (ix3 0 f d) = ((P.Wo (lane 1 f) d : ℝ) : EReal)) (a : Fin 512) (d : Fin 1024) :
    k1_pay7 x2 x1 x4 x5 x6 (ix2 a d) = ((P.U (T a) d : ℝ) : EReal) := by
  rw [U_halves]
  pointwise [k1_pay7]
  simp only [hu, hg, hp, ho, logistic_real, ← EReal.coe_mul, ← coe_sum, ← EReal.coe_add]
  rfl

theorem square_out (hU : ∀ a d, k1_pay7 x2 x1 x4 x5 x6 (ix2 a d) = ((P.U (T a) d : ℝ) : EReal)) (a : Fin 512) :
    k1_pay8 x2 x1 x4 x5 x6 (ix2 a 0) = ((∑ k, P.U (T a) k * P.U (T a) k : ℝ) : EReal) := by
  pointwise [k1_pay8]
  simp only [hU, ← EReal.coe_mul, ← coe_sum]

theorem y_row (u : Vec Ideal S512x1024 .f32) (w : Vec Ideal S512x1 .f32) (b e : Vec Ideal S1x1024 .f32)
    (hU : ∀ a d, u (ix2 a d) = ((P.U (T a) d : ℝ) : EReal))
    (hw : ∀ a, w (ix2 a 0) = ((∑ k, P.U (T a) k * P.U (T a) k : ℝ) : EReal))
    (hx : ∀ a d, x0 (ix2 a d) = ((P.X (T a) d : ℝ) : EReal))
    (hb : ∀ d, b (ix2 0 d) = ((P.Ga d : ℝ) : EReal)) (he : ∀ d, e (ix2 0 d) = ((P.Gq d : ℝ) : EReal))
    (a : Fin 512) (d : Fin 1024) :
    k1_pay1 u w (Scalar.ofBits .f32 0x44800000#32) x0 b e (ix2 a d) = ((P.Y (T a) d : ℝ) : EReal) := by
  pointwise [k1_pay1]
  simp only [hU, hw, hx, hb, he]
  simp only [word_eps, word_1024, word_half, ← EReal.coe_one, ← EReal.coe_mul, div_1024, ← EReal.coe_add, rsqrt_row]
  rfl

end R1
end Cert.Kernel2Ideal.Hand
-- ==== Proof.FfnRegion1.lean ====
module
public import proofs.«01_k».proof.Proof.FfnBlock1

/-! # What the second grid of the forward pass leaves -/

@[expose] public section
set_option maxRecDepth 16384

namespace Cert.Kernel2Ideal.Hand
open Idealize.ShloMosaic
open Cert.Kernel2Ideal Cert.Kernel2Ideal.Gen
open Cert.Ffn Cert.Ffn.Args

namespace R1

theorem idx0 : ∀ t : Fin cfg1.N, (cfg1.win 0).index t 0 = t.val ∧ (cfg1.win 0).index t 1 = 0 := by decide +kernel
theorem idx1 : ∀ t : Fin cfg1.N, (cfg1.win 1).index t 0 = t.val ∧ (cfg1.win 1).index t 1 = 0 := by decide +kernel
theorem idx2 : ∀ t : Fin cfg1.N, (cfg1.win 2).index t 0 = t.val ∧ (cfg1.win 2).index t 1 = 0 := by decide +kernel
theorem idx3 : ∀ t : Fin cfg1.N, (cfg1.win 3).index t 0 = 0 ∧ (cfg1.win 3).index t 1 = 0 := by decide +kernel
theorem idx4 : ∀ t : Fin cfg1.N, (cfg1.win 4).index t 0 = 1 ∧ (cfg1.win 4).index t 1 = 0 ∧ (cfg1.win 4).index t 2 = 0 := by decide +kernel
theorem idx5 : ∀ t : Fin cfg1.N, (cfg1.win 5).index t 0 = 3 ∧ (cfg1.win 5).index t 1 = 0 ∧ (cfg1.win 5).index t 2 = 0 := by decide +kernel
theorem idx6 : ∀ t : Fin cfg1.N, (cfg1.win 6).index t 0 = 1 ∧ (cfg1.win 6).index t 1 = 0 ∧ (cfg1.win 6).index t 2 = 0 := by decide +kernel
theorem idx7 : ∀ t : Fin cfg1.N, (cfg1.win 7).index t 0 = t.val ∧ (cfg1.win 7).index t 1 = 0 := by decide +kernel
theorem idx8 : ∀ t : Fin cfg1.N, (cfg1.win 8).index t 0 = 0 ∧ (cfg1.win 8).index t 1 = t.val ∧ (cfg1.win 8).index t 2 = 1 := by decide +kernel
theorem idx9 : ∀ t : Fin cfg1.N, (cfg1.win 9).index t 0 = t.val ∧ (cfg1.win 9).index t 1 = 0 := by decide +kernel

variable (P : Args) (V : Arrays) (c : Dev nD)

/-- The token of a row at a point. -/
abbrev tk (t : Fin cfg1.N) (a : Fin 512) : Fin 4096 := tok t.val t.isLt a

/-- What the first grid leaves for this one. -/
structure Given (P : Args) (V : Arrays) (c : Dev nD) : Prop extends Base P V c where
  hid : ∀ t d, V c main_v13_0 (ix2 t d) = ((P.H t d : ℝ) : EReal)
  part : ∀ t d, V c main_v13_2 (ix2 t d) = ((P.Uh 0 t d : ℝ) : EReal)
  kept : ∀ j t f, V c main_v14_1 (ix3 j t (lane 0 f)) = ((keep P j t (lane 0 f) : ℝ) : EReal)

theorem in0 (B : Base P V c) (t : Fin cfg1.N) (a : Fin 512) (d : Fin 1024) :
    iblk1 V c 0 t (ix2 a d) = ((P.X (tk t a) d : ℝ) : EReal) := by
  obtain ⟨e0, e1⟩ := idx0 t
  have h : (win1_0.blk t).view.emb (ix2 a d) = ix2 (tk t a) d := eq_ix2_of _ _ _ (by blk_simp [e0]; rfl) (by blk_simp [e1])
  blk_simp [iblk1]
  rw [h]
  exact B.x _ _

theorem in1 (B : Given P V c) (t : Fin cfg1.N) (a : Fin 512) (d : Fin 1024) :
    iblk1 V c 1 t (ix2 a d) = ((P.H (tk t a) d : ℝ) : EReal) := by
  obtain ⟨e0, e1⟩ := idx1 t
  have h : (win1_1.blk t).view.emb (ix2 a d) = ix2 (tk t a) d := eq_ix2_of _ _ _ (by blk_simp [e0]; rfl) (by blk_simp [e1])
  blk_simp [iblk1]
  rw [h]
  exact B.hid _ _

theorem in2 (B : Given P V c) (t : Fin cfg1.N) (a : Fin 512) (d : Fin 1024) :
    iblk1 V c 2 t (ix2 a d) = ((P.Uh 0 (tk t a) d : ℝ) : EReal) := by
  obtain ⟨e0, e1⟩ := idx2 t
  have h : (win1_2.blk t).view.emb (ix2 a d) = ix2 (tk t a) d := eq_ix2_of _ _ _ (by blk_simp [e0]; rfl) (by blk_simp [e1])
  blk_simp [iblk1]
  rw [h]
  exact B.part _ _

theorem blk3 (t : Fin cfg1.N) (a : Fin 8) (d : Fin 1024) : iblk1 V c 3 t (ix2 a d) = V c main_v7 (ix2 a d) := by
  obtain ⟨e0, e1⟩ := idx3 t
  blk_ext [iblk1, e0, e1]

theorem in3 (B : Base P V c) (t : Fin cfg1.N) : Rows P (iblk1 V c 3 t) :=
  ⟨fun d => (blk3 V c t 0 d).trans (B.rows.r0 d), fun d => (blk3 V c t 1 d).trans (B.rows.r1 d),
    fun d => (blk3 V c t 2 d).trans (B.rows.r2 d), fun d => (blk3 V c t 3 d).trans (B.rows.r3 d),
    fun d => (blk3 V c t 4 d).trans (B.rows.r4 d)⟩

theorem in4 (B : Base P V c) (t : Fin cfg1.N) (d : Fin 1024) (f : Fin 1408) :
    iblk1 V c 4 t (ix3 0 d f) = ((P.Wi d (gl (lane 1 f)) : ℝ) : EReal) := by
  obtain ⟨e0, e1, e2⟩ := idx4 t
  have h : (win1_4.blk t).view.emb (ix3 0 d f) = ix3 (gIdx 1) d f :=
    eq_ix3_of' _ _ _ _ (by blk_simp [e0]; rfl) (by blk_simp [e1]) (by blk_simp [e2])
  blk_simp [iblk1]
  rw [h]
  exact B.wg _ _ _

theorem in5 (B : Base P V c) (t : Fin cfg1.N) (d : Fin 1024) (f : Fin 1408) :
    iblk1 V c 5 t (ix3 0 d f) = ((P.Wi d (ul (lane 1 f)) : ℝ) : EReal) := by
  obtain ⟨e0, e1, e2⟩ := idx5 t
  have h : (win1_5.blk t).view.emb (ix3 0 d f) = ix3 (uIdx 1) d f :=
    eq_ix3_of' _ _ _ _ (by blk_simp [e0]; rfl) (by blk_simp [e1]) (by blk_simp [e2])
  blk_simp [iblk1]
  rw [h]
  exact B.wu _ _ _

theorem in6 (B : Base P V c) (t : Fin cfg1.N) (f : Fin 1408) (d : Fin 1024) :
    iblk1 V c 6 t (ix3 0 f d) = ((P.Wo (lane 1 f) d : ℝ) : EReal) := by
  obtain ⟨e0, e1, e2⟩ := idx6 t
  have h : (win1_6.blk t).view.emb (ix3 0 f d) = ix3 (1 : Fin 2) f d :=
    eq_ix3_of' _ _ _ _ (by blk_simp [e0]; rfl) (by blk_simp [e1]) (by blk_simp [e2])
  blk_simp [iblk1]
  rw [h]
  exact B.wo _ _ _

theorem gate (B : Given P V c) (t : Fin cfg1.N) (a : Fin 512) (f : Fin 1408) :
    k1_pay3 (iblk1 V c 1 t) (iblk1 V c 4 t) (ix2 a f) = ((P.G (tk t a) (lane 1 f) : ℝ) : EReal) :=
  gate_row P (tk t) _ _ (in1 P V c B t) (in4 P V c B.toBase t) a f

theorem up (B : Given P V c) (t : Fin cfg1.N) (a : Fin 512) (f : Fin 1408) :
    k1_pay4 (iblk1 V c 1 t) (iblk1 V c 5 t) (ix2 a f) = ((P.Up (tk t a) (lane 1 f) : ℝ) : EReal) :=
  up_row P (tk t) _ _ (in1 P V c B t) (in5 P V c B.toBase t) a f

theorem u_at (B : Given P V c) (t : Fin cfg1.N) (a : Fin 512) (d : Fin 1024) :
    k1_pay7 (iblk1 V c 2 t) (iblk1 V c 1 t) (iblk1 V c 4 t) (iblk1 V c 5 t) (iblk1 V c 6 t) (ix2 a d)
      = ((P.U (tk t a) d : ℝ) : EReal) :=
  row_out P (tk t) _ _ _ _ _ (in2 P V c B t) (gate P V c B t) (up P V c B t) (in6 P V c B.toBase t) a d

theorem u_point (B : Given P V c) (t : Fin cfg1.N) (a : Fin 512) (d : Fin 1024) :
    (outsAt1 V c t).2.2 (ix2 a d) = ((P.U (tk t a) d : ℝ) : EReal) := by
  unfold outsAt1
  dsimp only
  frame_out
  exact u_at P V c B t a d

theorem y_point (B : Given P V c) (t : Fin cfg1.N) (a : Fin 512) (d : Fin 1024) :
    (outsAt1 V c t).1 (ix2 a d) = ((P.Y (tk t a) d : ℝ) : EReal) := by
  unfold outsAt1
  dsimp only
  frame_out
  exact y_row P (tk t) _ _ _ _ _ (u_at P V c B t) (square_out P (tk t) _ _ _ _ _ (u_at P V c B t)) (in0 P V c B.toBase t)
    (fun d => (ld_row4 _ d).trans ((in3 P V c B.toBase t).r4 d)) (fun d => (ld_row1 _ d).trans ((in3 P V c B.toBase t).r1 d)) a d

theorem kept_point (B : Given P V c) (t : Fin cfg1.N) (j : Fin 2) (a : Fin 512) (f : Fin 1408) :
    (outsAt1 V c t).2.1 (ix3 j a f) = ((keep P j (tk t a) (lane 1 f) : ℝ) : EReal) := by
  unfold outsAt1
  dsimp only
  frame_out
  canon_tiles x h
  · have h0' : j.val = 1 + (x 0).val := h0
    have hj : j = 1 := Fin.ext (by show j.val = 1; omega)
    subst hj
    rw [eq_ix3_of x 0 a f (by simp) h1 h2, cast_up]
    exact up P V c B t a f
  · have h0' : j.val = (x 0).val := h0
    have hj : j = 0 := Fin.ext (by show j.val = 0; omega)
    subst hj
    rw [eq_ix3_of x 0 a f (by simp) h1 h2, cast_gate]
    exact gate P V c B t a f

/-- The rows that come out of the layer. -/
theorem result (B : Given P V c) : (dat1 V c).arrAt 7 cfg1.N = fun i => ((P.Y (i 0) (i 1) : ℝ) : EReal) := by
  refine (dat1 V c).arrAt_eq_of_covers 7 _ (by decide +kernel) fun t hf y => ?_
  blk_simp
  rw [after1_7]
  obtain ⟨a, d, rfl⟩ := exists_ix2 y
  obtain ⟨e0, e1⟩ := idx7 t
  have h : (win1_7.blk t).view.emb (ix2 a d) = ix2 (tk t a) d := eq_ix2_of _ _ _ (by blk_simp [e0]; rfl) (by blk_simp [e1])
  rw [h]
  exact y_point P V c B t a d

/-- The rows that come out of the lanes. -/
theorem mixed (B : Given P V c) : (dat1 V c).arrAt 9 cfg1.N = fun i => ((P.U (i 0) (i 1) : ℝ) : EReal) := by
  refine (dat1 V c).arrAt_eq_of_covers 9 _ (by decide +kernel) fun t hf y => ?_
  blk_simp
  rw [after1_9]
  obtain ⟨a, d, rfl⟩ := exists_ix2 y
  obtain ⟨e0, e1⟩ := idx9 t
  have h : (win1_9.blk t).view.emb (ix2 a d) = ix2 (tk t a) d := eq_ix2_of _ _ _ (by blk_simp [e0]; rfl) (by blk_simp [e1])
  rw [h]
  exact u_point P V c B t a d

/-- What is kept of a token, both halves. -/
theorem kept (B : Given P V c) : (dat1 V c).arrAt 8 cfg1.N = fun i => ((keep P (i 0) (i 1) (i 2) : ℝ) : EReal) := by
  refine (dat1 V c).arrAt_eq_of_coversWhere_of_agree 8 _ (fun β => β (2 : Fin 3) = 1) (by decide +kernel) (fun t hf y => ?_) (fun i hi => ?_)
  · blk_simp
    rw [after1_8]
    obtain ⟨j, a, f, rfl⟩ := exists_ix3 y
    obtain ⟨e0, e1, e2⟩ := idx8 t
    have h : (win1_8.blk t).view.emb (ix3 j a f) = ix3 j (tk t a) (lane 1 f) :=
      eq_ix3_of' _ _ _ _ (by blk_simp [e0]) (by blk_simp [e1]; rfl) (by blk_simp [e2]; simp [lane])
    rw [h]
    exact kept_point P V c B t j a f
  · obtain ⟨j, t, f, rfl⟩ := exists_ix3 i
    blk_simp [Pipeline.Window.cell_apply] at hi
    have hf : f = lane 0 ⟨f.val, by have := f.isLt; omega⟩ := Fin.ext (by simp [lane])
    show V c main_v14_1 (ix3 j t f) = ((keep P j t f : ℝ) : EReal)
    rw [hf]
    exact B.kept _ _ _

end R1
end Cert.Kernel2Ideal.Hand
-- ==== Proof.FfnBlock2.lean ====
module
public import proofs.«01_k».proof.Proof.FfnBase
public import proofs.«01_k».proof.Proof.Gen.Kernel2Ideal.Frame.Region2

/-! # The first grid of the backward pass, point by point

The gradient of the layer's result goes back through the gated addition and the scaling, then through one half of the
lanes. -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R2

variable (P : Args) (T : Fin 512 → Fin 4096) (h : Fin 2)
  (ct u : Vec Ideal S512x1024 .f32) (ga gq e : Vec Ideal S1x1024 .f32)
  (ag au : Vec Ideal S1x512x1408 .bf16)
  (wg wu : Vec Ideal S1x1024x1408 .bf16) (wo : Vec Ideal S1x1408x1024 .bf16)
  (hct : ∀ a d, ct (ix2 a d) = ((P.Ct (T a) d : ℝ) : EReal))
  (hu : ∀ a d, u (ix2 a d) = ((P.U (T a) d : ℝ) : EReal))
  (hga : ∀ d, ga (ix2 0 d) = ((P.Ga d : ℝ) : EReal)) (hgq : ∀ d, gq (ix2 0 d) = ((P.Gq d : ℝ) : EReal))
  (hag : ∀ a f, ag (ix3 0 a f) = ((P.G (T a) (lane h f) : ℝ) : EReal))
  (hau : ∀ a f, au (ix3 0 a f) = ((P.Up (T a) (lane h f) : ℝ) : EReal))
  (hwg : ∀ d f, wg (ix3 0 d f) = ((P.Wi d (gl (lane h f)) : ℝ) : EReal))
  (hwu : ∀ d f, wu (ix3 0 d f) = ((P.Wi d (ul (lane h f)) : ℝ) : EReal))
  (hwo : ∀ f d, wo (ix3 0 f d) = ((P.Wo (lane h f) d : ℝ) : EReal))

include hu in
theorem rinv_row (a : Fin 512) : k2_pay8 u (ix2 a 0) = ((rinv (P.U (T a)) : ℝ) : EReal) := by
  pointwise [k2_pay8, k2_pay7]
  simp only [hu]
  simp only [word_eps, word_1024, ← EReal.coe_mul, ← coe_sum, div_1024, ← EReal.coe_add, rsqrt_row]

include hu in
theorem nrm_row (a : Fin 512) (d : Fin 1024) : k2_pay9 u (ix2 a d) = ((nrm (P.U (T a)) d : ℝ) : EReal) := by
  pointwise [k2_pay9, k2_pay7]
  simp only [hu, rinv_row P T u hu, ← EReal.coe_mul]
  rfl

include hct hga in
theorem dY_row (a : Fin 512) (d : Fin 1024) : k2_pay10 ct ga (ix2 a d) = ((P.dY (T a) d : ℝ) : EReal) := by
  pointwise [k2_pay10]
  simp only [hct, hga]
  simp only [word_half, ← EReal.coe_one, ← EReal.coe_mul, ← EReal.coe_add]
  rfl

include hct hu hgq in
theorem gate_term (a : Fin 512) (d : Fin 1024) :
    k2_pay11 ct u gq (ix2 a d) = ((1 / 2 * P.Ct (T a) d * (nrm (P.U (T a)) d * P.Gq d) : ℝ) : EReal) := by
  pointwise [k2_pay11]
  simp only [hct, nrm_row P T u hu, hgq]
  simp only [word_half, ← EReal.coe_mul]

include hct hu hga in
theorem scale_term (a : Fin 512) (d : Fin 1024) :
    k2_pay12 ct u ga (ix2 a d) = ((P.dY (T a) d * nrm (P.U (T a)) d : ℝ) : EReal) := by
  pointwise [k2_pay12]
  simp only [dY_row P T ct ga hct hga, nrm_row P T u hu, ← EReal.coe_mul]

include hct hga hgq in
theorem dnrm_row (a : Fin 512) (d : Fin 1024) :
    k2_pay13 ct ga gq (ix2 a d) = ((P.dY (T a) d * P.Gq d : ℝ) : EReal) := by
  pointwise [k2_pay13]
  simp only [dY_row P T ct ga hct hga, hgq, ← EReal.coe_mul]

include hct hu hga hgq in
theorem along_row (a : Fin 512) :
    k2_pay14 ct u ga gq (ix2 a 0) = ((∑ k, P.dY (T a) k * P.Gq k * nrm (P.U (T a)) k : ℝ) : EReal) := by
  pointwise [k2_pay14]
  simp only [dnrm_row P T ct ga gq hct hga hgq, nrm_row P T u hu, ← EReal.coe_mul, ← coe_sum]

include hct hu hga hgq in
theorem dU_row (a : Fin 512) (d : Fin 1024) :
    k2_pay17 (k2_pay8 u) (k2_pay9 u) (k2_pay13 ct ga gq) (k2_pay14 ct u ga gq) (ix2 a d) = ((P.dU (T a) d : ℝ) : EReal) := by
  pointwise [k2_pay17]
  simp only [dnrm_row P T ct ga gq hct hga hgq, nrm_row P T u hu, rinv_row P T u hu, along_row P T ct u ga gq hct hu hga hgq,
    word_1024, div_1024, ← EReal.coe_mul, ← EReal.coe_sub]
  rfl

include hct hu hga hgq hwo in
theorem dAct_row (a : Fin 512) (f : Fin 1408) :
    k2_pay18 (k2_pay8 u) (k2_pay9 u) (k2_pay13 ct ga gq) (k2_pay14 ct u ga gq) wo (ix2 a f) = ((P.dAct (T a) (lane h f) : ℝ) : EReal) := by
  pointwise [k2_pay18]
  simp only [dU_row P T ct u ga gq hct hu hga hgq, hwo, ← EReal.coe_mul, ← coe_sum]
  rfl

include hag in
theorem keep_gate (a : Fin 512) (f : Fin 1408) : k2_pay19 ag (ix2 a f) = ((P.G (T a) (lane h f) : ℝ) : EReal) := by
  pointwise [k2_pay19]
  simp only [hag]

include hau in
theorem keep_up (a : Fin 512) (f : Fin 1408) : k2_pay20 au (ix2 a f) = ((P.Up (T a) (lane h f) : ℝ) : EReal) := by
  pointwise [k2_pay20]
  simp only [hau]

include hag in
theorem keep_sg (a : Fin 512) (f : Fin 1408) : k2_pay21 ag (ix2 a f) = ((sg (P.G (T a) (lane h f)) : ℝ) : EReal) := by
  pointwise [k2_pay21]
  simp only [keep_gate P T h ag hag, logistic_real]

include hag in
theorem keep_silu (a : Fin 512) (f : Fin 1408) :
    k2_pay22 ag (ix2 a f) = ((P.G (T a) (lane h f) * sg (P.G (T a) (lane h f)) : ℝ) : EReal) := by
  pointwise [k2_pay22]
  simp only [keep_gate P T h ag hag, keep_sg P T h ag hag, ← EReal.coe_mul]

include hag hau in
theorem act_row (a : Fin 512) (f : Fin 1408) : k2_pay23 ag au (ix2 a f) = ((P.Act (T a) (lane h f) : ℝ) : EReal) := by
  pointwise [k2_pay23]
  simp only [keep_silu P T h ag hag, keep_up P T h au hau, ← EReal.coe_mul]
  rfl

section
variable (da g up s gs : Vec Ideal S512x1408 .f32)
  (hda : ∀ a f, da (ix2 a f) = ((P.dAct (T a) (lane h f) : ℝ) : EReal))
  (hg : ∀ a f, g (ix2 a f) = ((P.G (T a) (lane h f) : ℝ) : EReal))
  (hup : ∀ a f, up (ix2 a f) = ((P.Up (T a) (lane h f) : ℝ) : EReal))
  (hs : ∀ a f, s (ix2 a f) = ((sg (P.G (T a) (lane h f)) : ℝ) : EReal))
  (hgs : ∀ a f, gs (ix2 a f) = ((P.G (T a) (lane h f) * sg (P.G (T a) (lane h f)) : ℝ) : EReal))

include hda hg hup hs in
theorem dG_row (a : Fin 512) (f : Fin 1408) : k2_pay1 (F := Ideal) da g up s (ix2 a f) = ((P.dG (T a) (lane h f) : ℝ) : EReal) := by
  pointwise [k2_pay1]
  simp only [hda, hg, hup, hs, ← EReal.coe_one, ← EReal.coe_mul, ← EReal.coe_add, ← EReal.coe_sub]
  rfl

include hda hgs in
theorem dUp_row (a : Fin 512) (f : Fin 1408) : k2_pay2 (F := Ideal) da gs (ix2 a f) = ((P.dUp (T a) (lane h f) : ℝ) : EReal) := by
  pointwise [k2_pay2]
  simp only [hda, hgs, ← EReal.coe_mul]
  rfl

theorem cast_dG (a : Fin 512) (f : Fin 1408) : (k2_pay3 (F := Ideal) da g up s (ix3 0 a f) : EReal) = k2_pay1 (F := Ideal) da g up s (ix2 a f) := by
  pointwise [k2_pay3]

theorem cast_dUp (a : Fin 512) (f : Fin 1408) : (k2_pay4 (F := Ideal) da gs (ix3 0 a f) : EReal) = k2_pay2 (F := Ideal) da gs (ix2 a f) := by
  pointwise [k2_pay4]

include hda hg hup hs hgs hwg hwu in
theorem dH_row (a : Fin 512) (d : Fin 1024) : k2_pay5 da g up s gs wg wu (ix2 a d) = ((P.dHh h (T a) d : ℝ) : EReal) := by
  pointwise [k2_pay5]
  simp only [dG_row P T h da g up s hda hg hup hs, dUp_row P T h da gs hda hgs, hwg, hwu, ← EReal.coe_mul, ← coe_sum, ← EReal.coe_add]
  rfl
end

theorem zero_table (r : Fin 8) (d : Fin 1024) : (k2_pay6 (F := Ideal) (ix2 r d) : EReal) = 0 := by
  pointwise [k2_pay6]

theorem add_gate (v : Vec Ideal S512x1024 .f32) (d : Fin 1024) :
    k2_pay15 v e (ix2 0 d) = e (ix2 0 d) + ∑ a, v (ix2 a d) := by
  pointwise [k2_pay15]

theorem add_scale (v : Vec Ideal S512x1024 .f32) (d : Fin 1024) :
    k2_pay16 v e (ix2 0 d) = e (ix2 0 d) + ∑ a, v (ix2 a d) := by
  pointwise [k2_pay16]

end R2
end Cert.Kernel2Ideal.Hand
-- ==== Proof.FfnRegion2.lean ====
module
public import proofs.«01_k».proof.Proof.FfnBlock2

/-! # What the first grid of the backward pass leaves -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R2

theorem idx0 : ∀ t : Fin cfg2.N, (cfg2.win 0).index t 0 = t.val ∧ (cfg2.win 0).index t 1 = 0 := by decide +kernel
theorem idx1 : ∀ t : Fin cfg2.N, (cfg2.win 1).index t 0 = t.val ∧ (cfg2.win 1).index t 1 = 0 := by decide +kernel
theorem idx2 : ∀ t : Fin cfg2.N, (cfg2.win 2).index t 0 = 0 ∧ (cfg2.win 2).index t 1 = t.val ∧ (cfg2.win 2).index t 2 = 0 := by decide +kernel
theorem idx3 : ∀ t : Fin cfg2.N, (cfg2.win 3).index t 0 = 0 ∧ (cfg2.win 3).index t 1 = 0 := by decide +kernel
theorem idx4 : ∀ t : Fin cfg2.N, (cfg2.win 4).index t 0 = 0 ∧ (cfg2.win 4).index t 1 = 0 ∧ (cfg2.win 4).index t 2 = 0 := by decide +kernel
theorem idx5 : ∀ t : Fin cfg2.N, (cfg2.win 5).index t 0 = 2 ∧ (cfg2.win 5).index t 1 = 0 ∧ (cfg2.win 5).index t 2 = 0 := by decide +kernel
theorem idx6 : ∀ t : Fin cfg2.N, (cfg2.win 6).index t 0 = 0 ∧ (cfg2.win 6).index t 1 = 0 ∧ (cfg2.win 6).index t 2 = 0 := by decide +kernel
theorem idx7 : ∀ t : Fin cfg2.N, (cfg2.win 7).index t 0 = t.val ∧ (cfg2.win 7).index t 1 = 0 := by decide +kernel
theorem idx8 : ∀ t : Fin cfg2.N, (cfg2.win 8).index t 0 = t.val ∧ (cfg2.win 8).index t 1 = 0 := by decide +kernel
theorem idx9 : ∀ t : Fin cfg2.N, (cfg2.win 9).index t 0 = t.val ∧ (cfg2.win 9).index t 1 = 0 := by decide +kernel
theorem idx10 : ∀ t : Fin cfg2.N, (cfg2.win 10).index t 0 = 0 ∧ (cfg2.win 10).index t 1 = t.val ∧ (cfg2.win 10).index t 2 = 0 := by decide +kernel

variable (P : Args) (V : Arrays) (c : Dev nD)

/-- The token of a row at a point. -/
abbrev tk (t : Fin cfg2.N) (a : Fin 512) : Fin 4096 := tok t.val t.isLt a

/-- What the forward pass leaves for this grid. -/
structure Given (P : Args) (V : Arrays) (c : Dev nD) : Prop extends Base P V c where
  mixed : ∀ t d, V c main_v14_2 (ix2 t d) = ((P.U t d : ℝ) : EReal)
  kept : ∀ j t f, V c main_v14_1 (ix3 j t f) = ((keep P j t f : ℝ) : EReal)

theorem in0 (B : Base P V c) (t : Fin cfg2.N) (a : Fin 512) (d : Fin 1024) :
    iblk2 V c 0 t (ix2 a d) = ((P.Ct (tk t a) d : ℝ) : EReal) := by
  obtain ⟨e0, e1⟩ := idx0 t
  have h : (win2_0.blk t).view.emb (ix2 a d) = ix2 (tk t a) d := eq_ix2_of _ _ _ (by blk_simp [e0]; rfl) (by blk_simp [e1])
  blk_simp [iblk2]
  rw [h]
  exact B.ct _ _

theorem in1 (B : Given P V c) (t : Fin cfg2.N) (a : Fin 512) (d : Fin 1024) :
    iblk2 V c 1 t (ix2 a d) = ((P.U (tk t a) d : ℝ) : EReal) := by
  obtain ⟨e0, e1⟩ := idx1 t
  have h : (win2_1.blk t).view.emb (ix2 a d) = ix2 (tk t a) d := eq_ix2_of _ _ _ (by blk_simp [e0]; rfl) (by blk_simp [e1])
  blk_simp [iblk2]
  rw [h]
  exact B.mixed _ _

theorem in2 (B : Given P V c) (t : Fin cfg2.N) (j : Fin 2) (a : Fin 512) (f : Fin 1408) :
    iblk2 V c 2 t (ix3 j a f) = ((keep P j (tk t a) (lane 0 f) : ℝ) : EReal) := by
  obtain ⟨e0, e1, e2⟩ := idx2 t
  have h : (win2_2.blk t).view.emb (ix3 j a f) = ix3 j (tk t a) (lane 0 f) :=
    eq_ix3_of' _ _ _ _ (by blk_simp [e0]) (by blk_simp [e1]; rfl) (by blk_simp [e2]; simp [lane])
  blk_simp [iblk2]
  rw [h]
  exact B.kept _ _ _

theorem blk3 (t : Fin cfg2.N) (a : Fin 8) (d : Fin 1024) : iblk2 V c 3 t (ix2 a d) = V c main_v7 (ix2 a d) := by
  obtain ⟨e0, e1⟩ := idx3 t
  blk_ext [iblk2, e0, e1]

theorem in3 (B : Base P V c) (t : Fin cfg2.N) : Rows P (iblk2 V c 3 t) :=
  ⟨fun d => (blk3 V c t 0 d).trans (B.rows.r0 d), fun d => (blk3 V c t 1 d).trans (B.rows.r1 d),
    fun d => (blk3 V c t 2 d).trans (B.rows.r2 d), fun d => (blk3 V c t 3 d).trans (B.rows.r3 d),
    fun d => (blk3 V c t 4 d).trans (B.rows.r4 d)⟩

theorem in4 (B : Base P V c) (t : Fin cfg2.N) (d : Fin 1024) (f : Fin 1408) :
    iblk2 V c 4 t (ix3 0 d f) = ((P.Wi d (gl (lane 0 f)) : ℝ) : EReal) := by
  obtain ⟨e0, e1, e2⟩ := idx4 t
  have h : (win2_4.blk t).view.emb (ix3 0 d f) = ix3 (gIdx 0) d f :=
    eq_ix3_of' _ _ _ _ (by blk_simp [e0]; rfl) (by blk_simp [e1]) (by blk_simp [e2])
  blk_simp [iblk2]
  rw [h]
  exact B.wg _ _ _

theorem in5 (B : Base P V c) (t : Fin cfg2.N) (d : Fin 1024) (f : Fin 1408) :
    iblk2 V c 5 t (ix3 0 d f) = ((P.Wi d (ul (lane 0 f)) : ℝ) : EReal) := by
  obtain ⟨e0, e1, e2⟩ := idx5 t
  have h : (win2_5.blk t).view.emb (ix3 0 d f) = ix3 (uIdx 0) d f :=
    eq_ix3_of' _ _ _ _ (by blk_simp [e0]; rfl) (by blk_simp [e1]) (by blk_simp [e2])
  blk_simp [iblk2]
  rw [h]
  exact B.wu _ _ _

theorem in6 (B : Base P V c) (t : Fin cfg2.N) (f : Fin 1408) (d : Fin 1024) :
    iblk2 V c 6 t (ix3 0 f d) = ((P.Wo (lane 0 f) d : ℝ) : EReal) := by
  obtain ⟨e0, e1, e2⟩ := idx6 t
  have h : (win2_6.blk t).view.emb (ix3 0 f d) = ix3 (0 : Fin 2) f d :=
    eq_ix3_of' _ _ _ _ (by blk_simp [e0]; rfl) (by blk_simp [e1]) (by blk_simp [e2])
  blk_simp [iblk2]
  rw [h]
  exact B.wo _ _ _

section
variable (B : Given P V c) (t : Fin cfg2.N)
include B

theorem ga_at (d : Fin 1024) :
    View.ld (iblk2 V c 3 t) (Rect.unit ![4, 0] ![1, 1024] inb_S8x1024_S1x1024_4_0) (ix2 0 d) = ((P.Ga d : ℝ) : EReal) :=
  (ld_row4 _ d).trans ((in3 P V c B.toBase t).r4 d)

theorem gq_at (d : Fin 1024) :
    View.ld (iblk2 V c 3 t) (Rect.unit ![1, 0] ![1, 1024] inb_S8x1024_S1x1024_1_0) (ix2 0 d) = ((P.Gq d : ℝ) : EReal) :=
  (ld_row1 _ d).trans ((in3 P V c B.toBase t).r1 d)

theorem ag_at (a : Fin 512) (f : Fin 1408) :
    View.ld (iblk2 V c 2 t) (Rect.unit ![0, 0, 0] ![1, 512, 1408] inb_S2x512x1408_S1x512x1408_0_0_0) (ix3 0 a f)
      = ((P.G (tk t a) (lane 0 f) : ℝ) : EReal) :=
  (ld_part0 _ a f).trans (in2 P V c B t 0 a f)

theorem au_at (a : Fin 512) (f : Fin 1408) :
    View.ld (iblk2 V c 2 t) (Rect.unit ![1, 0, 0] ![1, 512, 1408] inb_S2x512x1408_S1x512x1408_1_0_0) (ix3 0 a f)
      = ((P.Up (tk t a) (lane 0 f) : ℝ) : EReal) :=
  (ld_part1 _ a f).trans (in2 P V c B t 1 a f)

theorem dU_point (a : Fin 512) (d : Fin 1024) : (outsAt2 V c t.val t.isLt).1 (ix2 a d) = ((P.dU (tk t a) d : ℝ) : EReal) := by
  rcases Decidable.em (t.val % 8 = 0) with h0 | h0
  on_goal 1 => rw [outsAt2_A V c t h0]
  on_goal 2 => rw [outsAt2_B V c t h0]
  all_goals
    dsimp only
    frame_out
    exact dU_row P (tk t) _ _ _ _ (in0 P V c B.toBase t) (in1 P V c B t) (ga_at P V c B t) (gq_at P V c B t) a d

theorem dAct_at (a : Fin 512) (f : Fin 1408) :
    k2_pay18 (k2_pay8 (iblk2 V c 1 t)) (k2_pay9 (iblk2 V c 1 t))
        (k2_pay13 (iblk2 V c 0 t) (View.ld (iblk2 V c 3 t) (Rect.unit ![4, 0] ![1, 1024] inb_S8x1024_S1x1024_4_0))
          (View.ld (iblk2 V c 3 t) (Rect.unit ![1, 0] ![1, 1024] inb_S8x1024_S1x1024_1_0)))
        (k2_pay14 (iblk2 V c 0 t) (iblk2 V c 1 t)
          (View.ld (iblk2 V c 3 t) (Rect.unit ![4, 0] ![1, 1024] inb_S8x1024_S1x1024_4_0))
          (View.ld (iblk2 V c 3 t) (Rect.unit ![1, 0] ![1, 1024] inb_S8x1024_S1x1024_1_0)))
        (iblk2 V c 6 t) (ix2 a f) = ((P.dAct (tk t a) (lane 0 f) : ℝ) : EReal) :=
  dAct_row P (tk t) 0 _ _ _ _ _ (in0 P V c B.toBase t) (in1 P V c B t) (ga_at P V c B t) (gq_at P V c B t) (in6 P V c B.toBase t) a f

theorem dH_point (a : Fin 512) (d : Fin 1024) : (outsAt2 V c t.val t.isLt).2.1 (ix2 a d) = ((P.dHh 0 (tk t a) d : ℝ) : EReal) := by
  rcases Decidable.em (t.val % 8 = 0) with h0 | h0
  on_goal 1 => rw [outsAt2_A V c t h0]
  on_goal 2 => rw [outsAt2_B V c t h0]
  all_goals
    dsimp only
    frame_out
    exact dH_row P (tk t) 0 _ _ (in4 P V c B.toBase t) (in5 P V c B.toBase t) _ _ _ _ _ (dAct_at P V c B t)
      (keep_gate P (tk t) 0 _ (ag_at P V c B t)) (keep_up P (tk t) 0 _ (au_at P V c B t))
      (keep_sg P (tk t) 0 _ (ag_at P V c B t)) (keep_silu P (tk t) 0 _ (ag_at P V c B t)) a d

theorem act_point (a : Fin 512) (f : Fin 1408) : (outsAt2 V c t.val t.isLt).2.2.1 (ix2 a f) = ((P.Act (tk t a) (lane 0 f) : ℝ) : EReal) := by
  rcases Decidable.em (t.val % 8 = 0) with h0 | h0
  on_goal 1 => rw [outsAt2_A V c t h0]
  on_goal 2 => rw [outsAt2_B V c t h0]
  all_goals
    dsimp only
    frame_out
    exact act_row P (tk t) 0 _ _ (ag_at P V c B t) (au_at P V c B t) a f

theorem dkeep_point (j : Fin 2) (a : Fin 512) (f : Fin 1408) :
    (outsAt2 V c t.val t.isLt).2.2.2.1 (ix3 j a f) = ((dkeep P j (tk t a) (lane 0 f) : ℝ) : EReal) := by
  rcases Decidable.em (t.val % 8 = 0) with h0 | h0
  on_goal 1 => rw [outsAt2_A V c t h0]
  on_goal 2 => rw [outsAt2_B V c t h0]
  all_goals
    dsimp only
    frame_out
    canon_tiles x h
    · have h0' : j.val = 1 + (x 0).val := h0
      have hj : j = 1 := Fin.ext (by show j.val = 1; omega)
      subst hj
      rw [eq_ix3_of x 0 a f (by simp) h1 h2, cast_dUp]
      exact dUp_row P (tk t) 0 _ _ (dAct_at P V c B t) (keep_silu P (tk t) 0 _ (ag_at P V c B t)) a f
    · have h0' : j.val = (x 0).val := h0
      have hj : j = 0 := Fin.ext (by show j.val = 0; omega)
      subst hj
      rw [eq_ix3_of x 0 a f (by simp) h1 h2, cast_dG]
      exact dG_row P (tk t) 0 _ _ _ _ (dAct_at P V c B t)
        (keep_gate P (tk t) 0 _ (ag_at P V c B t)) (keep_up P (tk t) 0 _ (au_at P V c B t))
        (keep_sg P (tk t) 0 _ (ag_at P V c B t)) a f
end

/-- The gradient of the rows that come out of the lanes. -/
theorem dmixed (B : Given P V c) : (dat2 V c).arrAt 7 cfg2.N = fun i => ((P.dU (i 0) (i 1) : ℝ) : EReal) := by
  refine (dat2 V c).arrAt_eq_of_covers 7 _ (by decide +kernel) fun t hf y => ?_
  blk_simp
  rw [after2_7]
  obtain ⟨a, d, rfl⟩ := exists_ix2 y
  obtain ⟨e0, e1⟩ := idx7 t
  have h : (win2_7.blk t).view.emb (ix2 a d) = ix2 (tk t a) d := eq_ix2_of _ _ _ (by blk_simp [e0]; rfl) (by blk_simp [e1])
  rw [h]
  exact dU_point P V c B t a d

/-- The first half of the gradient of the scaled and modulated rows. -/
theorem dhidden (B : Given P V c) : (dat2 V c).arrAt 8 cfg2.N = fun i => ((P.dHh 0 (i 0) (i 1) : ℝ) : EReal) := by
  refine (dat2 V c).arrAt_eq_of_covers 8 _ (by decide +kernel) fun t hf y => ?_
  blk_simp
  rw [after2_8]
  obtain ⟨a, d, rfl⟩ := exists_ix2 y
  obtain ⟨e0, e1⟩ := idx8 t
  have h : (win2_8.blk t).view.emb (ix2 a d) = ix2 (tk t a) d := eq_ix2_of _ _ _ (by blk_simp [e0]; rfl) (by blk_simp [e1])
  rw [h]
  exact dH_point P V c B t a d

/-- The first half of the lanes' products. -/
theorem act (B : Given P V c) (t : Fin 4096) (f : Fin 1408) :
    (dat2 V c).arrAt 9 cfg2.N (ix2 t (lane 0 f)) = ((P.Act t (lane 0 f) : ℝ) : EReal) := by
  have e := (dat2 V c).arrAt_apply_of_coversWhere 9 (fun i => ((P.Act (i 0) (i 1) : ℝ) : EReal))
    (P := fun i => (i 1).val / 1408 = 0) (fun β => β (1 : Fin 2) = 0) (by decide +kernel) (fun t hf y => ?_)
    (fun j => Iff.rfl) (ix2 t (lane 0 f))
  · refine e.trans (if_pos ?_)
    exact Nat.div_eq_of_lt (by show 1408 * 0 + f.val < 1408; omega)
  blk_simp
  rw [after2_9]
  obtain ⟨a, f, rfl⟩ := exists_ix2 y
  obtain ⟨e0, e1⟩ := idx9 t
  have h : (win2_9.blk t).view.emb (ix2 a f) = ix2 (tk t a) (lane 0 f) :=
    eq_ix2_of _ _ _ (by blk_simp [e0]; rfl) (by blk_simp [e1]; simp [lane])
  rw [h]
  exact act_point P V c B t a f

/-- The first half of the gradients of what is kept of a token. -/
theorem dkept (B : Given P V c) (j : Fin 2) (t : Fin 4096) (f : Fin 1408) :
    (dat2 V c).arrAt 10 cfg2.N (ix3 j t (lane 0 f)) = ((dkeep P j t (lane 0 f) : ℝ) : EReal) := by
  have e := (dat2 V c).arrAt_apply_of_coversWhere 10 (fun i => ((dkeep P (i 0) (i 1) (i 2) : ℝ) : EReal))
    (P := fun i => (i 2).val / 1408 = 0) (fun β => β (2 : Fin 3) = 0) (by decide +kernel) (fun t hf y => ?_)
    (fun j => Iff.rfl) (ix3 j t (lane 0 f))
  · refine e.trans (if_pos ?_)
    exact Nat.div_eq_of_lt (by show 1408 * 0 + f.val < 1408; omega)
  blk_simp
  rw [after2_10]
  obtain ⟨j, a, f, rfl⟩ := exists_ix3 y
  obtain ⟨e0, e1, e2⟩ := idx10 t
  have h : (win2_10.blk t).view.emb (ix3 j a f) = ix3 j (tk t a) (lane 0 f) :=
    eq_ix3_of' _ _ _ _ (by blk_simp [e0]) (by blk_simp [e1]; rfl) (by blk_simp [e2]; simp [lane])
  rw [h]
  exact dkeep_point P V c B t j a f

end R2
end Cert.Kernel2Ideal.Hand
-- ==== Proof.FfnTable2.lean ====
module
public import proofs.«01_k».proof.Proof.FfnRegion2

/-! # The table of gradients that the first grid of the backward pass adds up -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R2

/-- What a token adds to a row of the table. -/
noncomputable def term (P : Args) (r : Fin 8) (d : Fin 1024) (t : Fin 4096) : ℝ :=
  if r.val = 2 then 1 / 2 * P.Ct t d * (nrm (P.U t) d * P.Gq d) else if r.val = 4 then P.dY t d * nrm (P.U t) d else 0

variable (P : Args) (V : Arrays) (c : Dev nD)

section
variable (B : Given P V c) (t : Fin cfg2.N)
include B

theorem gate_at (a : Fin 512) (d : Fin 1024) :
    k2_pay11 (iblk2 V c 0 t) (iblk2 V c 1 t) (View.ld (iblk2 V c 3 t) (Rect.unit ![1, 0] ![1, 1024] inb_S8x1024_S1x1024_1_0)) (ix2 a d)
      = ((1 / 2 * P.Ct (tk t a) d * (nrm (P.U (tk t a)) d * P.Gq d) : ℝ) : EReal) :=
  gate_term P (tk t) _ _ _ (in0 P V c B.toBase t) (in1 P V c B t) (gq_at P V c B t) a d

theorem scale_at (a : Fin 512) (d : Fin 1024) :
    k2_pay12 (iblk2 V c 0 t) (iblk2 V c 1 t) (View.ld (iblk2 V c 3 t) (Rect.unit ![4, 0] ![1, 1024] inb_S8x1024_S1x1024_4_0)) (ix2 a d)
      = ((P.dY (tk t a) d * nrm (P.U (tk t a)) d : ℝ) : EReal) :=
  scale_term P (tk t) _ _ _ (in0 P V c B.toBase t) (in1 P V c B t) (ga_at P V c B t) a d

/-- A later point adds its tokens' terms. -/
theorem table_step (h0 : ¬ t.val % 8 = 0) (r : Fin 8) (d : Fin 1024) :
    (outsAt2 V c t.val t.isLt).2.2.2.2 (ix2 r d)
      = (outsAt2 V c (t.val - 1) (by have := t.isLt; omega)).2.2.2.2 (ix2 r d) + ((∑ a, term P r d (tk t a) : ℝ) : EReal) := by
  rw [outsAt2_B V c t h0]
  dsimp only
  frame_out
  rcases Decidable.em (r.val = 4) with h4 | h4
  · rw [writes_hit 4 _ _ _ r d _ _ h4, add_scale, ld_row4]
    obtain rfl : r = 4 := Fin.ext h4
    exact congrArg₂ (· + ·) rfl ((Finset.sum_congr rfl fun a _ => scale_at P V c B t a d).trans (coe_sum _ _).symm)
  rw [writes_miss 4 _ _ _ r d _ _ h4]
  rcases Decidable.em (r.val = 2) with h2 | h2
  · rw [writes_hit 2 _ _ _ r d _ _ h2, add_gate, ld_row2]
    obtain rfl : r = 2 := Fin.ext h2
    exact congrArg₂ (· + ·) rfl ((Finset.sum_congr rfl fun a _ => gate_at P V c B t a d).trans (coe_sum _ _).symm)
  rw [writes_miss 2 _ _ _ r d _ _ h2]
  simp only [term, h2, h4, if_false, Finset.sum_const_zero, EReal.coe_zero, add_zero]
  exact congrFun (Memref.IsWhole.read_unread _ _) _

/-- The first point adds its tokens' terms to zero. -/
theorem table_first (h0 : t.val % 8 = 0) (r : Fin 8) (d : Fin 1024) :
    (outsAt2 V c t.val t.isLt).2.2.2.2 (ix2 r d) = 0 + ((∑ a, term P r d (tk t a) : ℝ) : EReal) := by
  rw [outsAt2_A V c t h0]
  dsimp only
  frame_open
  simp (disch := decide) only [↓ View.readCov_skip, ↓ View.readCov_cons_toLoadRect, ↓ View.readCov_fill]
  frame_out
  rcases Decidable.em (r.val = 4) with h4 | h4
  · rw [canon_hit 4 _ _ _ r d h4, add_scale, ld_row4, zero_table]
    obtain rfl : r = 4 := Fin.ext h4
    exact congrArg₂ (· + ·) rfl ((Finset.sum_congr rfl fun a _ => scale_at P V c B t a d).trans (coe_sum _ _).symm)
  rw [canon_miss 4 _ _ _ r d h4]
  rcases Decidable.em (r.val = 2) with h2 | h2
  · rw [canon_hit 2 _ _ _ r d h2, add_gate, ld_row2, zero_table]
    obtain rfl : r = 2 := Fin.ext h2
    exact congrArg₂ (· + ·) rfl ((Finset.sum_congr rfl fun a _ => gate_at P V c B t a d).trans (coe_sum _ _).symm)
  rw [canon_miss 2 _ _ _ r d h2]
  simp only [term, h2, h4, if_false, Finset.sum_const_zero, EReal.coe_zero, add_zero]
  exact (congrFun (View.canon_cons_unit_zero (by decide) _ _ _) _).trans (zero_table r d)
end

/-- The last point of the grid. -/
def tLast : Fin cfg2.N := ⟨7, by decide⟩

/-- The table after the last point. -/
theorem table_last (B : Given P V c) (r : Fin 8) (d : Fin 1024) :
    (outsAt2 V c tLast.val tLast.isLt).2.2.2.2 (ix2 r d) = ((∑ t, term P r d t : ℝ) : EReal) := by
  have e := Pipeline.eq_sum_fin_of_reset_step_apply_last
    (fun n hn (_ : Unit) => (outsAt2 V c n hn).2.2.2.2 (ix2 r d)) 8 (fun _ => (0 : EReal))
    (fun t _ => ((∑ a, term P r d (tk t a) : ℝ) : EReal))
    (fun t h _ => table_first P V c B t h r d) (fun t h _ => table_step P V c B t h r d) (by decide) tLast (by decide) ()
  refine e.trans ?_
  rw [zero_add, ← coe_sum]
  exact congrArg _ (sum_tok (term P r d))

/-- The table the grid leaves. -/
theorem table (B : Given P V c) : (dat2 V c).arrAt 11 cfg2.N = fun i => ((∑ t, term P (i 0) (i 1) t : ℝ) : EReal) := by
  refine (dat2 V c).arrAt_eq_of_after_last 11 tLast (by decide +kernel) _ fun j => ?_
  blk_simp
  rw [after2_11]
  obtain ⟨r, d, rfl⟩ := exists_ix2 j
  exact table_last P V c B r d

end R2
end Cert.Kernel2Ideal.Hand
-- ==== Proof.FfnBlock3.lean ====
module
public import proofs.«01_k».proof.Proof.FfnBase
public import proofs.«01_k».proof.Proof.Gen.Kernel2Ideal.Frame.Region3

/-! # The second grid of the backward pass, point by point

The other half of the lanes is added to the gradient of the scaled and modulated rows, which goes back through the
modulation and the scaling. -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R3

variable (P : Args) (T : Fin 512 → Fin 4096) (h : Fin 2)
  (ct x : Vec Ideal S512x1024 .f32) (du : Vec Ideal S512x1024 .bf16) (dh : Vec Ideal S512x1024 .f32)
  (gp sc e : Vec Ideal S1x1024 .f32)
  (ag au : Vec Ideal S1x512x1408 .bf16)
  (wg wu : Vec Ideal S1x1024x1408 .bf16) (wo : Vec Ideal S1x1408x1024 .bf16)
  (hct : ∀ a d, ct (ix2 a d) = ((P.Ct (T a) d : ℝ) : EReal))
  (hx : ∀ a d, x (ix2 a d) = ((P.X (T a) d : ℝ) : EReal))
  (hdu : ∀ a d, du (ix2 a d) = ((P.dU (T a) d : ℝ) : EReal))
  (hdh : ∀ a d, dh (ix2 a d) = ((P.dHh 0 (T a) d : ℝ) : EReal))
  (hgp : ∀ d, gp (ix2 0 d) = ((P.Gp d : ℝ) : EReal)) (hsc : ∀ d, sc (ix2 0 d) = ((P.Sc d : ℝ) : EReal))
  (hag : ∀ a f, ag (ix3 0 a f) = ((P.G (T a) (lane h f) : ℝ) : EReal))
  (hau : ∀ a f, au (ix3 0 a f) = ((P.Up (T a) (lane h f) : ℝ) : EReal))
  (hwg : ∀ d f, wg (ix3 0 d f) = ((P.Wi d (gl (lane h f)) : ℝ) : EReal))
  (hwu : ∀ d f, wu (ix3 0 d f) = ((P.Wi d (ul (lane h f)) : ℝ) : EReal))
  (hwo : ∀ f d, wo (ix3 0 f d) = ((P.Wo (lane h f) d : ℝ) : EReal))

include hdu hwo in
theorem dAct_row (a : Fin 512) (f : Fin 1408) : k3_pay3 du wo (ix2 a f) = ((P.dAct (T a) (lane h f) : ℝ) : EReal) := by
  pointwise [k3_pay3]
  simp only [hdu, hwo, ← EReal.coe_mul, ← coe_sum]
  rfl

include hag in
theorem keep_gate (a : Fin 512) (f : Fin 1408) : k3_pay4 ag (ix2 a f) = ((P.G (T a) (lane h f) : ℝ) : EReal) := by
  pointwise [k3_pay4]
  simp only [hag]

include hau in
theorem keep_up (a : Fin 512) (f : Fin 1408) : k3_pay5 au (ix2 a f) = ((P.Up (T a) (lane h f) : ℝ) : EReal) := by
  pointwise [k3_pay5]
  simp only [hau]

include hag in
theorem keep_sg (a : Fin 512) (f : Fin 1408) : k3_pay6 ag (ix2 a f) = ((sg (P.G (T a) (lane h f)) : ℝ) : EReal) := by
  pointwise [k3_pay6]
  simp only [keep_gate P T h ag hag, logistic_real]

include hag in
theorem keep_silu (a : Fin 512) (f : Fin 1408) :
    k3_pay7 ag (ix2 a f) = ((P.G (T a) (lane h f) * sg (P.G (T a) (lane h f)) : ℝ) : EReal) := by
  pointwise [k3_pay7]
  simp only [keep_gate P T h ag hag, keep_sg P T h ag hag, ← EReal.coe_mul]

include hag hau in
theorem act_row (a : Fin 512) (f : Fin 1408) : k3_pay8 ag au (ix2 a f) = ((P.Act (T a) (lane h f) : ℝ) : EReal) := by
  pointwise [k3_pay8]
  simp only [keep_silu P T h ag hag, keep_up P T h au hau, ← EReal.coe_mul]
  rfl

include hdu hwo hag hau in
theorem dG_row (a : Fin 512) (f : Fin 1408) : k3_pay9 du wo ag au (ix2 a f) = ((P.dG (T a) (lane h f) : ℝ) : EReal) := by
  pointwise [k3_pay9]
  simp only [dAct_row P T h du wo hdu hwo, keep_gate P T h ag hag, keep_up P T h au hau, keep_sg P T h ag hag,
    ← EReal.coe_one, ← EReal.coe_mul, ← EReal.coe_add, ← EReal.coe_sub]
  rfl

include hdu hwo hag in
theorem dUp_row (a : Fin 512) (f : Fin 1408) : k3_pay10 du wo ag (ix2 a f) = ((P.dUp (T a) (lane h f) : ℝ) : EReal) := by
  pointwise [k3_pay10]
  simp only [dAct_row P T h du wo hdu hwo, keep_silu P T h ag hag, ← EReal.coe_mul]
  rfl

theorem cast_dG (v : Vec Ideal S512x1408 .bf16) (a : Fin 512) (f : Fin 1408) : (k3_pay11 (F := Ideal) v (ix3 0 a f) : EReal) = v (ix2 a f) := by
  pointwise [k3_pay11]

theorem cast_dUp (v : Vec Ideal S512x1408 .bf16) (a : Fin 512) (f : Fin 1408) : (k3_pay12 (F := Ideal) v (ix3 0 a f) : EReal) = v (ix2 a f) := by
  pointwise [k3_pay12]

section
variable (dg dup : Vec Ideal S512x1408 .bf16)
  (hdg : ∀ a f, dg (ix2 a f) = ((P.dG (T a) (lane 1 f) : ℝ) : EReal))
  (hdup : ∀ a f, dup (ix2 a f) = ((P.dUp (T a) (lane 1 f) : ℝ) : EReal))
  (hwg1 : ∀ d f, wg (ix3 0 d f) = ((P.Wi d (gl (lane 1 f)) : ℝ) : EReal))
  (hwu1 : ∀ d f, wu (ix3 0 d f) = ((P.Wi d (ul (lane 1 f)) : ℝ) : EReal))

include hdh hdg hdup hwg1 hwu1 in
theorem dH_row (a : Fin 512) (d : Fin 1024) : k3_pay13 (k3_pay2 dh) dg dup wg wu (ix2 a d) = ((P.dH (T a) d : ℝ) : EReal) := by
  rw [dH_halves]
  pointwise [k3_pay13, k3_pay2]
  simp only [hdh, hdg, hdup, hwg1, hwu1, ← EReal.coe_mul, ← coe_sum, ← EReal.coe_add]
  rfl
end

include hx in
theorem rinv_row (a : Fin 512) : k3_pay14 x (ix2 a 0) = ((rinv (P.X (T a)) : ℝ) : EReal) := by
  pointwise [k3_pay14]
  simp only [hx]
  simp only [word_eps, word_1024, ← EReal.coe_mul, ← coe_sum, div_1024, ← EReal.coe_add, rsqrt_row]

include hx in
theorem nrm_row (a : Fin 512) (d : Fin 1024) : k3_pay15 x (ix2 a d) = ((nrm (P.X (T a)) d : ℝ) : EReal) := by
  pointwise [k3_pay15]
  simp only [hx, rinv_row P T x hx, ← EReal.coe_mul]
  rfl

include hsc in
theorem scale_row (d : Fin 1024) : k3_pay16 sc (ix2 0 d) = ((1 + P.Sc d : ℝ) : EReal) := by
  pointwise [k3_pay16]
  simp only [hsc, ← EReal.coe_one, ← EReal.coe_add]

include hgp in
theorem gp_row (d : Fin 1024) : k3_pay17 gp (ix2 0 d) = ((P.Gp d : ℝ) : EReal) := by
  pointwise [k3_pay17]
  simp only [hgp]

section
variable (dH nx : Vec Ideal S512x1024 .f32) (r : Vec Ideal S512x1 .f32) (s g : Vec Ideal S1x1024 .f32)
  (hdH : ∀ a d, dH (ix2 a d) = ((P.dH (T a) d : ℝ) : EReal))
  (hnx : ∀ a d, nx (ix2 a d) = ((nrm (P.X (T a)) d : ℝ) : EReal))
  (hr : ∀ a, r (ix2 a 0) = ((rinv (P.X (T a)) : ℝ) : EReal))
  (hs : ∀ d, s (ix2 0 d) = ((1 + P.Sc d : ℝ) : EReal))
  (hg : ∀ d, g (ix2 0 d) = ((P.Gp d : ℝ) : EReal))

include hdH in
theorem add_shift (d : Fin 1024) : (k3_pay19 (F := Ideal) dH e (ix2 0 d) : EReal) = e (ix2 0 d) + ((∑ a, P.dH (T a) d : ℝ) : EReal) := by
  pointwise [k3_pay19]
  simp only [hdH, ← coe_sum]

include hdH hnx hg in
theorem add_scale (d : Fin 1024) :
    k3_pay20 dH nx g e (ix2 0 d) = e (ix2 0 d) + ((∑ a, P.dH (T a) d * (nrm (P.X (T a)) d * P.Gp d) : ℝ) : EReal) := by
  pointwise [k3_pay20]
  simp only [hdH, hnx, hg, ← EReal.coe_mul, ← coe_sum]

include hdH hnx hs in
theorem add_gain (d : Fin 1024) :
    k3_pay21 dH nx s e (ix2 0 d) = e (ix2 0 d) + ((∑ a, P.dH (T a) d * (1 + P.Sc d) * nrm (P.X (T a)) d : ℝ) : EReal) := by
  pointwise [k3_pay21]
  simp only [hdH, hnx, hs, ← EReal.coe_mul, ← coe_sum]

include hct hdH hnx hr hs hg in
theorem dX_row (a : Fin 512) (d : Fin 1024) : k3_pay22 dH ct r nx s g (ix2 a d) = ((P.dX (T a) d : ℝ) : EReal) := by
  pointwise [k3_pay22]
  simp only [hct, hdH, hnx, hr, hs, hg]
  simp only [word_1024, ← EReal.coe_mul, ← coe_sum, div_1024, ← EReal.coe_sub, ← EReal.coe_add]
  rfl
end

theorem copy_row (d : Fin 1024) : (k3_pay18 (F := Ideal) e (ix2 0 d) : EReal) = e (ix2 0 d) := by
  pointwise [k3_pay18]

theorem zero_table (r : Fin 8) (d : Fin 1024) : (k3_pay1 (F := Ideal) (ix2 r d) : EReal) = 0 := by
  pointwise [k3_pay1]

end R3
end Cert.Kernel2Ideal.Hand
-- ==== Proof.FfnRegion3.lean ====
module
public import proofs.«01_k».proof.Proof.FfnBlock3

/-! # What the second grid of the backward pass leaves -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R3

theorem idx0 : ∀ t : Fin cfg3.N, (cfg3.win 0).index t 0 = t.val ∧ (cfg3.win 0).index t 1 = 0 := by decide +kernel
theorem idx1 : ∀ t : Fin cfg3.N, (cfg3.win 1).index t 0 = t.val ∧ (cfg3.win 1).index t 1 = 0 := by decide +kernel
theorem idx2 : ∀ t : Fin cfg3.N, (cfg3.win 2).index t 0 = t.val ∧ (cfg3.win 2).index t 1 = 0 := by decide +kernel
theorem idx3 : ∀ t : Fin cfg3.N, (cfg3.win 3).index t 0 = t.val ∧ (cfg3.win 3).index t 1 = 0 := by decide +kernel
theorem idx4 : ∀ t : Fin cfg3.N, (cfg3.win 4).index t 0 = 0 ∧ (cfg3.win 4).index t 1 = t.val ∧ (cfg3.win 4).index t 2 = 1 := by decide +kernel
theorem idx5 : ∀ t : Fin cfg3.N, (cfg3.win 5).index t 0 = 0 ∧ (cfg3.win 5).index t 1 = 0 := by decide +kernel
theorem idx6 : ∀ t : Fin cfg3.N, (cfg3.win 6).index t 0 = 1 ∧ (cfg3.win 6).index t 1 = 0 ∧ (cfg3.win 6).index t 2 = 0 := by decide +kernel
theorem idx7 : ∀ t : Fin cfg3.N, (cfg3.win 7).index t 0 = 3 ∧ (cfg3.win 7).index t 1 = 0 ∧ (cfg3.win 7).index t 2 = 0 := by decide +kernel
theorem idx8 : ∀ t : Fin cfg3.N, (cfg3.win 8).index t 0 = 1 ∧ (cfg3.win 8).index t 1 = 0 ∧ (cfg3.win 8).index t 2 = 0 := by decide +kernel
theorem idx9 : ∀ t : Fin cfg3.N, (cfg3.win 9).index t 0 = t.val ∧ (cfg3.win 9).index t 1 = 0 := by decide +kernel
theorem idx10 : ∀ t : Fin cfg3.N, (cfg3.win 10).index t 0 = t.val ∧ (cfg3.win 10).index t 1 = 1 := by decide +kernel
theorem idx11 : ∀ t : Fin cfg3.N, (cfg3.win 11).index t 0 = 0 ∧ (cfg3.win 11).index t 1 = t.val ∧ (cfg3.win 11).index t 2 = 1 := by decide +kernel

variable (P : Args) (V : Arrays) (c : Dev nD)

/-- The token of a row at a point. -/
abbrev tk (t : Fin cfg3.N) (a : Fin 512) : Fin 4096 := tok t.val t.isLt a

/-- What the grids before leave for this one. -/
structure Given (P : Args) (V : Arrays) (c : Dev nD) : Prop extends Base P V c where
  dmixed : ∀ t d, V c main_v15_0 (ix2 t d) = ((P.dU t d : ℝ) : EReal)
  dhid : ∀ t d, V c main_v15_1 (ix2 t d) = ((P.dHh 0 t d : ℝ) : EReal)
  kept : ∀ j t f, V c main_v14_1 (ix3 j t f) = ((keep P j t f : ℝ) : EReal)
  act : ∀ t f, V c main_v16_1 (ix2 t (lane 0 f)) = ((P.Act t (lane 0 f) : ℝ) : EReal)
  dkept : ∀ j t f, V c main_v16_2 (ix3 j t (lane 0 f)) = ((dkeep P j t (lane 0 f) : ℝ) : EReal)

theorem in0 (B : Base P V c) (t : Fin cfg3.N) (a : Fin 512) (d : Fin 1024) :
    iblk3 V c 0 t (ix2 a d) = ((P.Ct (tk t a) d : ℝ) : EReal) := by
  obtain ⟨e0, e1⟩ := idx0 t
  have h : (win3_0.blk t).view.emb (ix2 a d) = ix2 (tk t a) d := eq_ix2_of _ _ _ (by blk_simp [e0]; rfl) (by blk_simp [e1])
  blk_simp [iblk3]
  rw [h]
  exact B.ct _ _

theorem in1 (B : Base P V c) (t : Fin cfg3.N) (a : Fin 512) (d : Fin 1024) :
    iblk3 V c 1 t (ix2 a d) = ((P.X (tk t a) d : ℝ) : EReal) := by
  obtain ⟨e0, e1⟩ := idx1 t
  have h : (win3_1.blk t).view.emb (ix2 a d) = ix2 (tk t a) d := eq_ix2_of _ _ _ (by blk_simp [e0]; rfl) (by blk_simp [e1])
  blk_simp [iblk3]
  rw [h]
  exact B.x _ _

theorem in2 (B : Given P V c) (t : Fin cfg3.N) (a : Fin 512) (d : Fin 1024) :
    iblk3 V c 2 t (ix2 a d) = ((P.dU (tk t a) d : ℝ) : EReal) := by
  obtain ⟨e0, e1⟩ := idx2 t
  have h : (win3_2.blk t).view.emb (ix2 a d) = ix2 (tk t a) d := eq_ix2_of _ _ _ (by blk_simp [e0]; rfl) (by blk_simp [e1])
  blk_simp [iblk3]
  rw [h]
  exact B.dmixed _ _

theorem in3 (B : Given P V c) (t : Fin cfg3.N) (a : Fin 512) (d : Fin 1024) :
    iblk3 V c 3 t (ix2 a d) = ((P.dHh 0 (tk t a) d : ℝ) : EReal) := by
  obtain ⟨e0, e1⟩ := idx3 t
  have h : (win3_3.blk t).view.emb (ix2 a d) = ix2 (tk t a) d := eq_ix2_of _ _ _ (by blk_simp [e0]; rfl) (by blk_simp [e1])
  blk_simp [iblk3]
  rw [h]
  exact B.dhid _ _

theorem in4 (B : Given P V c) (t : Fin cfg3.N) (j : Fin 2) (a : Fin 512) (f : Fin 1408) :
    iblk3 V c 4 t (ix3 j a f) = ((keep P j (tk t a) (lane 1 f) : ℝ) : EReal) := by
  obtain ⟨e0, e1, e2⟩ := idx4 t
  have h : (win3_4.blk t).view.emb (ix3 j a f) = ix3 j (tk t a) (lane 1 f) :=
    eq_ix3_of' _ _ _ _ (by blk_simp [e0]) (by blk_simp [e1]; rfl) (by blk_simp [e2]; simp [lane])
  blk_simp [iblk3]
  rw [h]
  exact B.kept _ _ _

theorem blk5 (t : Fin cfg3.N) (a : Fin 8) (d : Fin 1024) : iblk3 V c 5 t (ix2 a d) = V c main_v7 (ix2 a d) := by
  obtain ⟨e0, e1⟩ := idx5 t
  blk_ext [iblk3, e0, e1]

theorem in5 (B : Base P V c) (t : Fin cfg3.N) : Rows P (iblk3 V c 5 t) :=
  ⟨fun d => (blk5 V c t 0 d).trans (B.rows.r0 d), fun d => (blk5 V c t 1 d).trans (B.rows.r1 d),
    fun d => (blk5 V c t 2 d).trans (B.rows.r2 d), fun d => (blk5 V c t 3 d).trans (B.rows.r3 d),
    fun d => (blk5 V c t 4 d).trans (B.rows.r4 d)⟩

theorem in6 (B : Base P V c) (t : Fin cfg3.N) (d : Fin 1024) (f : Fin 1408) :
    iblk3 V c 6 t (ix3 0 d f) = ((P.Wi d (gl (lane 1 f)) : ℝ) : EReal) := by
  obtain ⟨e0, e1, e2⟩ := idx6 t
  have h : (win3_6.blk t).view.emb (ix3 0 d f) = ix3 (gIdx 1) d f :=
    eq_ix3_of' _ _ _ _ (by blk_simp [e0]; rfl) (by blk_simp [e1]) (by blk_simp [e2])
  blk_simp [iblk3]
  rw [h]
  exact B.wg _ _ _

theorem in7 (B : Base P V c) (t : Fin cfg3.N) (d : Fin 1024) (f : Fin 1408) :
    iblk3 V c 7 t (ix3 0 d f) = ((P.Wi d (ul (lane 1 f)) : ℝ) : EReal) := by
  obtain ⟨e0, e1, e2⟩ := idx7 t
  have h : (win3_7.blk t).view.emb (ix3 0 d f) = ix3 (uIdx 1) d f :=
    eq_ix3_of' _ _ _ _ (by blk_simp [e0]; rfl) (by blk_simp [e1]) (by blk_simp [e2])
  blk_simp [iblk3]
  rw [h]
  exact B.wu _ _ _

theorem in8 (B : Base P V c) (t : Fin cfg3.N) (f : Fin 1408) (d : Fin 1024) :
    iblk3 V c 8 t (ix3 0 f d) = ((P.Wo (lane 1 f) d : ℝ) : EReal) := by
  obtain ⟨e0, e1, e2⟩ := idx8 t
  have h : (win3_8.blk t).view.emb (ix3 0 f d) = ix3 (1 : Fin 2) f d :=
    eq_ix3_of' _ _ _ _ (by blk_simp [e0]; rfl) (by blk_simp [e1]) (by blk_simp [e2])
  blk_simp [iblk3]
  rw [h]
  exact B.wo _ _ _

section
variable (B : Given P V c) (t : Fin cfg3.N)
include B

theorem gp_at (d : Fin 1024) :
    k3_pay17 (View.ld (iblk3 V c 5 t) (Rect.unit ![0, 0] ![1, 1024] inb_S8x1024_S1x1024_0_0)) (ix2 0 d) = ((P.Gp d : ℝ) : EReal) :=
  gp_row P _ (fun d => (ld_row0 _ d).trans ((in5 P V c B.toBase t).r0 d)) d

theorem sc_at (d : Fin 1024) :
    k3_pay16 (View.ld (iblk3 V c 5 t) (Rect.unit ![3, 0] ![1, 1024] inb_S8x1024_S1x1024_3_0)) (ix2 0 d) = ((1 + P.Sc d : ℝ) : EReal) :=
  scale_row P _ (fun d => (ld_row3 _ d).trans ((in5 P V c B.toBase t).r3 d)) d

theorem ag_at (a : Fin 512) (f : Fin 1408) :
    View.ld (iblk3 V c 4 t) (Rect.unit ![0, 0, 0] ![1, 512, 1408] inb_S2x512x1408_S1x512x1408_0_0_0) (ix3 0 a f)
      = ((P.G (tk t a) (lane 1 f) : ℝ) : EReal) :=
  (ld_part0 _ a f).trans (in4 P V c B t 0 a f)

theorem au_at (a : Fin 512) (f : Fin 1408) :
    View.ld (iblk3 V c 4 t) (Rect.unit ![1, 0, 0] ![1, 512, 1408] inb_S2x512x1408_S1x512x1408_1_0_0) (ix3 0 a f)
      = ((P.Up (tk t a) (lane 1 f) : ℝ) : EReal) :=
  (ld_part1 _ a f).trans (in4 P V c B t 1 a f)

theorem dG_at (a : Fin 512) (f : Fin 1408) :
    k3_pay9 (iblk3 V c 2 t) (iblk3 V c 8 t)
        (View.ld (iblk3 V c 4 t) (Rect.unit ![0, 0, 0] ![1, 512, 1408] inb_S2x512x1408_S1x512x1408_0_0_0))
        (View.ld (iblk3 V c 4 t) (Rect.unit ![1, 0, 0] ![1, 512, 1408] inb_S2x512x1408_S1x512x1408_1_0_0)) (ix2 a f)
      = ((P.dG (tk t a) (lane 1 f) : ℝ) : EReal) :=
  dG_row P (tk t) 1 _ _ _ _ (in2 P V c B t) (ag_at P V c B t) (au_at P V c B t) (in8 P V c B.toBase t) a f

theorem dUp_at (a : Fin 512) (f : Fin 1408) :
    k3_pay10 (iblk3 V c 2 t) (iblk3 V c 8 t)
        (View.ld (iblk3 V c 4 t) (Rect.unit ![0, 0, 0] ![1, 512, 1408] inb_S2x512x1408_S1x512x1408_0_0_0)) (ix2 a f)
      = ((P.dUp (tk t a) (lane 1 f) : ℝ) : EReal) :=
  dUp_row P (tk t) 1 _ _ _ (in2 P V c B t) (ag_at P V c B t) (in8 P V c B.toBase t) a f

theorem dH_at (a : Fin 512) (d : Fin 1024) :
    k3_pay13 (k3_pay2 (iblk3 V c 3 t))
        (k3_pay9 (iblk3 V c 2 t) (iblk3 V c 8 t)
          (View.ld (iblk3 V c 4 t) (Rect.unit ![0, 0, 0] ![1, 512, 1408] inb_S2x512x1408_S1x512x1408_0_0_0))
          (View.ld (iblk3 V c 4 t) (Rect.unit ![1, 0, 0] ![1, 512, 1408] inb_S2x512x1408_S1x512x1408_1_0_0)))
        (k3_pay10 (iblk3 V c 2 t) (iblk3 V c 8 t)
          (View.ld (iblk3 V c 4 t) (Rect.unit ![0, 0, 0] ![1, 512, 1408] inb_S2x512x1408_S1x512x1408_0_0_0)))
        (iblk3 V c 6 t) (iblk3 V c 7 t) (ix2 a d)
      = ((P.dH (tk t a) d : ℝ) : EReal) :=
  dH_row P (tk t) _ _ _ (in3 P V c B t) _ _ (dG_at P V c B t) (dUp_at P V c B t) (in6 P V c B.toBase t) (in7 P V c B.toBase t) a d

theorem dX_point (a : Fin 512) (d : Fin 1024) : (outsAt3 V c t.val t.isLt).1 (ix2 a d) = ((P.dX (tk t a) d : ℝ) : EReal) := by
  rcases Decidable.em (t.val % 8 = 0) with h0 | h0
  on_goal 1 => rw [outsAt3_A V c t h0]
  on_goal 2 => rw [outsAt3_B V c t h0]
  all_goals
    dsimp only
    frame_out
    exact dX_row P (tk t) _ (in0 P V c B.toBase t) _ _ _ _ _ (dH_at P V c B t) (nrm_row P (tk t) _ (in1 P V c B.toBase t))
      (rinv_row P (tk t) _ (in1 P V c B.toBase t)) (sc_at P V c B t) (gp_at P V c B t) a d

theorem act_point (a : Fin 512) (f : Fin 1408) : (outsAt3 V c t.val t.isLt).2.1 (ix2 a f) = ((P.Act (tk t a) (lane 1 f) : ℝ) : EReal) := by
  rcases Decidable.em (t.val % 8 = 0) with h0 | h0
  on_goal 1 => rw [outsAt3_A V c t h0]
  on_goal 2 => rw [outsAt3_B V c t h0]
  all_goals
    dsimp only
    frame_out
    exact act_row P (tk t) 1 _ _ (ag_at P V c B t) (au_at P V c B t) a f

theorem dkeep_point (j : Fin 2) (a : Fin 512) (f : Fin 1408) :
    (outsAt3 V c t.val t.isLt).2.2.1 (ix3 j a f) = ((dkeep P j (tk t a) (lane 1 f) : ℝ) : EReal) := by
  rcases Decidable.em (t.val % 8 = 0) with h0 | h0
  on_goal 1 => rw [outsAt3_A V c t h0]
  on_goal 2 => rw [outsAt3_B V c t h0]
  all_goals
    dsimp only
    frame_out
    canon_tiles x h
    · have h0' : j.val = 1 + (x 0).val := h0
      have hj : j = 1 := Fin.ext (by show j.val = 1; omega)
      subst hj
      rw [eq_ix3_of x 0 a f (by simp) h1 h2, cast_dUp]
      exact dUp_at P V c B t a f
    · have h0' : j.val = (x 0).val := h0
      have hj : j = 0 := Fin.ext (by show j.val = 0; omega)
      subst hj
      rw [eq_ix3_of x 0 a f (by simp) h1 h2, cast_dG]
      exact dG_at P V c B t a f
end

/-- The gradient of the rows that came in. -/
theorem dinput (B : Given P V c) : (dat3 V c).arrAt 9 cfg3.N = fun i => ((P.dX (i 0) (i 1) : ℝ) : EReal) := by
  refine (dat3 V c).arrAt_eq_of_covers 9 _ (by decide +kernel) fun t hf y => ?_
  blk_simp
  rw [after3_9]
  obtain ⟨a, d, rfl⟩ := exists_ix2 y
  obtain ⟨e0, e1⟩ := idx9 t
  have h : (win3_9.blk t).view.emb (ix2 a d) = ix2 (tk t a) d := eq_ix2_of _ _ _ (by blk_simp [e0]; rfl) (by blk_simp [e1])
  rw [h]
  exact dX_point P V c B t a d

/-- The lanes' products, both halves. -/
theorem act (B : Given P V c) : (dat3 V c).arrAt 10 cfg3.N = fun i => ((P.Act (i 0) (i 1) : ℝ) : EReal) := by
  refine (dat3 V c).arrAt_eq_of_coversWhere_of_agree 10 _ (fun β => β (1 : Fin 2) = 1) (by decide +kernel) (fun t hf y => ?_) (fun i hi => ?_)
  · blk_simp
    rw [after3_10]
    obtain ⟨a, f, rfl⟩ := exists_ix2 y
    obtain ⟨e0, e1⟩ := idx10 t
    have h : (win3_10.blk t).view.emb (ix2 a f) = ix2 (tk t a) (lane 1 f) :=
      eq_ix2_of _ _ _ (by blk_simp [e0]; rfl) (by blk_simp [e1]; simp [lane])
    rw [h]
    exact act_point P V c B t a f
  · obtain ⟨t, f, rfl⟩ := exists_ix2 i
    blk_simp [Pipeline.Window.cell_apply] at hi
    have hf : f = lane 0 ⟨f.val, by have := f.isLt; omega⟩ := Fin.ext (by simp [lane])
    show V c main_v16_1 (ix2 t f) = ((P.Act t f : ℝ) : EReal)
    rw [hf]
    exact B.act _ _

/-- The gradients of what is kept of a token, both halves. -/
theorem dkept (B : Given P V c) : (dat3 V c).arrAt 11 cfg3.N = fun i => ((dkeep P (i 0) (i 1) (i 2) : ℝ) : EReal) := by
  refine (dat3 V c).arrAt_eq_of_coversWhere_of_agree 11 _ (fun β => β (2 : Fin 3) = 1) (by decide +kernel) (fun t hf y => ?_) (fun i hi => ?_)
  · blk_simp
    rw [after3_11]
    obtain ⟨j, a, f, rfl⟩ := exists_ix3 y
    obtain ⟨e0, e1, e2⟩ := idx11 t
    have h : (win3_11.blk t).view.emb (ix3 j a f) = ix3 j (tk t a) (lane 1 f) :=
      eq_ix3_of' _ _ _ _ (by blk_simp [e0]) (by blk_simp [e1]; rfl) (by blk_simp [e2]; simp [lane])
    rw [h]
    exact dkeep_point P V c B t j a f
  · obtain ⟨j, t, f, rfl⟩ := exists_ix3 i
    blk_simp [Pipeline.Window.cell_apply] at hi
    have hf : f = lane 0 ⟨f.val, by have := f.isLt; omega⟩ := Fin.ext (by simp [lane])
    show V c main_v16_2 (ix3 j t f) = ((dkeep P j t f : ℝ) : EReal)
    rw [hf]
    exact B.dkept _ _ _

end R3
end Cert.Kernel2Ideal.Hand
-- ==== Proof.FfnTable3.lean ====
module
public import proofs.«01_k».proof.Proof.FfnRegion3

/-! # The table of gradients that the second grid of the backward pass adds up -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R3

/-- What a token adds to a row of the table. -/
noncomputable def term (P : Args) (r : Fin 8) (d : Fin 1024) (t : Fin 4096) : ℝ :=
  if r.val = 0 then P.dH t d else if r.val = 1 then P.dH t d * (nrm (P.X t) d * P.Gp d)
  else if r.val = 3 then P.dH t d * (1 + P.Sc d) * nrm (P.X t) d else 0

variable (P : Args) (V : Arrays) (c : Dev nD)

section
variable (B : Given P V c) (t : Fin cfg3.N)
include B

/-- A later point adds its tokens' terms. -/
theorem table_step (h0' : ¬ t.val % 8 = 0) (r : Fin 8) (d : Fin 1024) :
    (outsAt3 V c t.val t.isLt).2.2.2 (ix2 r d)
      = (outsAt3 V c (t.val - 1) (by have := t.isLt; omega)).2.2.2 (ix2 r d) + ((∑ a, term P r d (tk t a) : ℝ) : EReal) := by
  rw [outsAt3_B V c t h0']
  dsimp only
  frame_out
  rcases Decidable.em (r.val = 3) with h3 | h3
  · rw [writes_hit 3 _ _ _ r d _ _ h3]
    refine (add_gain P (tk t) _ _ _ _ (dH_at P V c B t) (nrm_row P (tk t) _ (in1 P V c B.toBase t)) (sc_at P V c B t) d).trans ?_
    rw [ld_row3]
    obtain rfl : r = 3 := Fin.ext h3
    rfl
  rw [writes_miss 3 _ _ _ r d _ _ h3]
  rcases Decidable.em (r.val = 1) with h1 | h1
  · rw [writes_hit 1 _ _ _ r d _ _ h1]
    refine (add_scale P (tk t) _ _ _ _ (dH_at P V c B t) (nrm_row P (tk t) _ (in1 P V c B.toBase t)) (gp_at P V c B t) d).trans ?_
    rw [ld_row1]
    obtain rfl : r = 1 := Fin.ext h1
    rfl
  rw [writes_miss 1 _ _ _ r d _ _ h1]
  rcases Decidable.em (r.val = 0) with h0 | h0
  · rw [writes_hit 0 _ _ _ r d _ _ h0]
    refine (add_shift P (tk t) _ _ (dH_at P V c B t)  d).trans ?_
    rw [copy_row, ld_row0]
    obtain rfl : r = 0 := Fin.ext h0
    rfl
  rw [writes_miss 0 _ _ _ r d _ _ h0]
  simp only [term, h0, h1, h3, if_false, Finset.sum_const_zero, EReal.coe_zero, add_zero]
  exact congrFun (Memref.IsWhole.read_unread _ _) _

/-- The first point adds its tokens' terms to zero. -/
theorem table_first (h0' : t.val % 8 = 0) (r : Fin 8) (d : Fin 1024) :
    (outsAt3 V c t.val t.isLt).2.2.2 (ix2 r d) = 0 + ((∑ a, term P r d (tk t a) : ℝ) : EReal) := by
  rw [outsAt3_A V c t h0']
  dsimp only
  frame_open
  simp (disch := decide) only [↓ View.readCov_skip, ↓ View.readCov_cons_toLoadRect, ↓ View.readCov_fill]
  frame_out
  rcases Decidable.em (r.val = 3) with h3 | h3
  · rw [canon_hit 3 _ _ _ r d h3]
    refine (add_gain P (tk t) _ _ _ _ (dH_at P V c B t) (nrm_row P (tk t) _ (in1 P V c B.toBase t)) (sc_at P V c B t) d).trans ?_
    rw [ld_row3, zero_table]
    obtain rfl : r = 3 := Fin.ext h3
    rfl
  rw [canon_miss 3 _ _ _ r d h3]
  rcases Decidable.em (r.val = 1) with h1 | h1
  · rw [canon_hit 1 _ _ _ r d h1]
    refine (add_scale P (tk t) _ _ _ _ (dH_at P V c B t) (nrm_row P (tk t) _ (in1 P V c B.toBase t)) (gp_at P V c B t) d).trans ?_
    rw [ld_row1, zero_table]
    obtain rfl : r = 1 := Fin.ext h1
    rfl
  rw [canon_miss 1 _ _ _ r d h1]
  rcases Decidable.em (r.val = 0) with h0 | h0
  · rw [canon_hit 0 _ _ _ r d h0]
    refine (add_shift P (tk t) _ _ (dH_at P V c B t)  d).trans ?_
    rw [copy_row, ld_row0, zero_table]
    obtain rfl : r = 0 := Fin.ext h0
    rfl
  rw [canon_miss 0 _ _ _ r d h0]
  simp only [term, h0, h1, h3, if_false, Finset.sum_const_zero, EReal.coe_zero, add_zero]
  exact (congrFun (View.canon_cons_unit_zero (by decide) _ _ _) _).trans (zero_table r d)
end

/-- The last point of the grid. -/
def tLast : Fin cfg3.N := ⟨7, by decide⟩

/-- The table after the last point. -/
theorem table_last (B : Given P V c) (r : Fin 8) (d : Fin 1024) :
    (outsAt3 V c tLast.val tLast.isLt).2.2.2 (ix2 r d) = ((∑ t, term P r d t : ℝ) : EReal) := by
  have e := Pipeline.eq_sum_fin_of_reset_step_apply_last
    (fun n hn (_ : Unit) => (outsAt3 V c n hn).2.2.2 (ix2 r d)) 8 (fun _ => (0 : EReal))
    (fun t _ => ((∑ a, term P r d (tk t a) : ℝ) : EReal))
    (fun t h _ => table_first P V c B t h r d) (fun t h _ => table_step P V c B t h r d) (by decide) tLast (by decide) ()
  refine e.trans ?_
  rw [zero_add, ← coe_sum]
  exact congrArg _ (sum_tok (term P r d))

/-- The table the grid leaves. -/
theorem table (B : Given P V c) : (dat3 V c).arrAt 12 cfg3.N = fun i => ((∑ t, term P (i 0) (i 1) t : ℝ) : EReal) := by
  refine (dat3 V c).arrAt_eq_of_after_last 12 tLast (by decide +kernel) _ fun j => ?_
  blk_simp
  rw [after3_12]
  obtain ⟨r, d, rfl⟩ := exists_ix2 j
  exact table_last P V c B r d

end R3
end Cert.Kernel2Ideal.Hand
-- ==== Proof.FfnLong.lean ====
module
public import proofs.«01_k».proof.Proof.FfnBase

/-! # The long blocks of tokens of the two weights' gradients -/

@[expose] public section

namespace Cert.Kernel2Ideal.Hand

/-- The token in row `a` of half `k` of the tokens. -/
def half (k : Fin 2) (a : Fin 2048) : Fin 4096 := ⟨k.val * 2048 + a.val, by omega⟩

/-- A sum over the two halves is a sum over the tokens. -/
theorem sum_half (g : Fin 4096 → ℝ) : ∑ k : Fin 2, ∑ a : Fin 2048, g (half k a) = ∑ t, g t := by
  rw [← Fintype.sum_prod_type', ← Equiv.sum_comp (finProdFinEquiv (m := 2) (n := 2048)) g]
  refine Finset.sum_congr rfl fun x _ => congrArg g (Fin.ext ?_)
  show x.1.val * 2048 + x.2.val = x.2.val + 2048 * x.1.val
  ring

end Cert.Kernel2Ideal.Hand
-- ==== Proof.FfnRegion4.lean ====
module
public import proofs.«01_k».proof.Proof.FfnLong
public import proofs.«01_k».proof.Proof.Gen.Kernel2Ideal.Frame.Region4

/-! # The gradient of the first weight -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R4

theorem idx0 : ∀ t : Fin cfg4.N, (cfg4.win 0).index t 0 = t.val % 2 ∧ (cfg4.win 0).index t 1 = 0 := by decide +kernel
theorem idx1 : ∀ t : Fin cfg4.N, (cfg4.win 1).index t 0 = t.val / 4 ∧ (cfg4.win 1).index t 1 = t.val % 2 ∧ (cfg4.win 1).index t 2 = t.val / 2 % 2 := by decide +kernel
theorem idx2 : ∀ t : Fin cfg4.N, (cfg4.win 2).index t 0 = t.val / 2 ∧ (cfg4.win 2).index t 1 = 0 ∧ (cfg4.win 2).index t 2 = 0 := by decide +kernel

/-- The half of the tokens of a point. -/
def pk (t : Fin cfg4.N) : Fin 2 := ⟨t.val % 2, Nat.mod_lt _ (by decide)⟩
/-- The block of lanes of a point. -/
def pn (t : Fin cfg4.N) : Fin 4 := ⟨t.val / 2, by have h : t.val < 8 := t.isLt; omega⟩
/-- Whether a block's lanes are gates or the lanes they gate. -/
def bj (n : Fin 4) : Fin 2 := ⟨n.val / 2, by omega⟩
/-- The half of the lanes of a block. -/
def bh (n : Fin 4) : Fin 2 := ⟨n.val % 2, by omega⟩

theorem zero_row (d : Fin 1024) (f : Fin 1408) : (k4_pay1 (F := Ideal) (ix3 0 d f) : EReal) = 0 := by
  pointwise [k4_pay1]

theorem add_row (p : Vec Ideal S1x1024x1408 .f32) (x : Vec Ideal S2048x1024 .bf16) (w : Vec Ideal S1x2048x1408 .bf16)
    (X : Fin 2048 → Fin 1024 → ℝ) (W : Fin 2048 → Fin 1408 → ℝ) (hx : ∀ a d, x (ix2 a d) = ((X a d : ℝ) : EReal))
    (hw : ∀ a f, w (ix3 0 a f) = ((W a f : ℝ) : EReal)) (d : Fin 1024) (f : Fin 1408) :
    (k4_pay2 p x w (ix3 0 d f) : EReal) = p (ix3 0 d f) + ((∑ a, X a d * W a f : ℝ) : EReal) := by
  pointwise [k4_pay2]
  simp only [hx, hw, ← EReal.coe_mul, ← coe_sum]

variable (P : Args) (V : Arrays) (c : Dev nD)

/-- What the grids before leave for this one. -/
structure Given (P : Args) (V : Arrays) (c : Dev nD) : Prop where
  hid : ∀ t d, V c main_v13_0 (ix2 t d) = ((P.H t d : ℝ) : EReal)
  dkept : ∀ j t f, V c main_v16_2 (ix3 j t f) = ((dkeep P j t f : ℝ) : EReal)

section
variable (B : Given P V c) (t : Fin cfg4.N)
include B

theorem in0 (a : Fin 2048) (d : Fin 1024) : iblk4 V c 0 t (ix2 a d) = ((P.H (half (pk t) a) d : ℝ) : EReal) := by
  obtain ⟨e0, e1⟩ := idx0 t
  have h : (win4_0.blk t).view.emb (ix2 a d) = ix2 (half (pk t) a) d := eq_ix2_of _ _ _ (by blk_simp [e0]; rfl) (by blk_simp [e1])
  blk_simp [iblk4]
  rw [h]
  exact B.hid _ _

theorem in1 (a : Fin 2048) (f : Fin 1408) :
    iblk4 V c 1 t (ix3 0 a f) = ((dkeep P (bj (pn t)) (half (pk t) a) (lane (bh (pn t)) f) : ℝ) : EReal) := by
  obtain ⟨e0, e1, e2⟩ := idx1 t
  have h : (win4_1.blk t).view.emb (ix3 0 a f) = ix3 (bj (pn t)) (half (pk t) a) (lane (bh (pn t)) f) :=
    eq_ix3_of' _ _ _ _ (by blk_simp [e0]; simp [bj, pn]; omega) (by blk_simp [e1]; rfl)
      (by blk_simp [e2]; simp [lane, bh, pn]; omega)
  blk_simp [iblk4]
  rw [h]
  exact B.dkept _ _ _

theorem step (h0 : ¬ t.val % 2 = 0) (d : Fin 1024) (f : Fin 1408) :
    outsAt4 V c t.val t.isLt (ix3 0 d f)
      = outsAt4 V c (t.val - 1) (by have := t.isLt; omega) (ix3 0 d f)
        + ((∑ a, P.H (half (pk t) a) d * dkeep P (bj (pn t)) (half (pk t) a) (lane (bh (pn t)) f) : ℝ) : EReal) := by
  rw [outsAt4_B V c t h0]
  frame_out
  exact add_row _ _ _ _ _ (in0 P V c B t) (in1 P V c B t) d f

theorem first (h0 : t.val % 2 = 0) (d : Fin 1024) (f : Fin 1408) :
    outsAt4 V c t.val t.isLt (ix3 0 d f)
      = 0 + ((∑ a, P.H (half (pk t) a) d * dkeep P (bj (pn t)) (half (pk t) a) (lane (bh (pn t)) f) : ℝ) : EReal) := by
  rw [outsAt4_A V c t h0]
  frame_out
  refine (add_row _ _ _ _ _ (in0 P V c B t) (in1 P V c B t) d f).trans ?_
  rw [zero_row]

theorem last (h1 : t.val % 2 = 1) (d : Fin 1024) (f : Fin 1408) :
    outsAt4 V c t.val t.isLt (ix3 0 d f)
      = ((∑ s, P.H s d * dkeep P (bj (pn t)) s (lane (bh (pn t)) f) : ℝ) : EReal) := by
  have e := Pipeline.eq_sum_fin_of_reset_step_apply_of_flush
    (fun n hn (_ : Unit) => outsAt4 V c n hn (ix3 0 d f)) 2 (fun _ => (0 : EReal))
    (fun t _ => ((∑ a, P.H (half (pk t) a) d * dkeep P (bj (pn t)) (half (pk t) a) (lane (bh (pn t)) f) : ℝ) : EReal))
    (fun t h _ => first P V c B t h d f) (fun t h _ => step P V c B t h d f) t h1 ()
  refine e.trans ?_
  rw [zero_add, ← coe_sum, ← sum_half]
  refine congrArg _ (Finset.sum_congr rfl fun s _ => ?_)
  have hk : pk ⟨2 * (t.val / 2) + s.val, Pipeline.run_point_lt_of_flush t h1 s⟩ = s := Fin.ext (by simp [pk]; omega)
  have hn : pn ⟨2 * (t.val / 2) + s.val, Pipeline.run_point_lt_of_flush t h1 s⟩ = pn t := Fin.ext (by simp [pn]; omega)
  rw [hk, hn]
end

/-- The gradient of the first weight, block by block. -/
theorem dweight (B : Given P V c) : (dat4 V c).arrAt 2 cfg4.N
    = fun i => ((∑ s, P.H s (i 1) * dkeep P (bj (i 0)) s (lane (bh (i 0)) (i 2)) : ℝ) : EReal) := by
  refine (dat4 V c).arrAt_eq_of_covers 2 _ (by decide +kernel) fun t hf y => ?_
  blk_simp
  rw [after4_2]
  obtain ⟨z, d, f, rfl⟩ := exists_ix3 y
  obtain rfl : z = 0 := Subsingleton.elim _ _
  obtain ⟨e0, e1, e2⟩ := idx2 t
  have h : (win4_2.blk t).view.emb (ix3 0 d f) = ix3 (pn t) d f :=
    eq_ix3_of' _ _ _ _ (by blk_simp [e0]; rfl) (by blk_simp [e1]) (by blk_simp [e2])
  rw [h]
  exact last P V c B t ((flush4_2 t).mp hf) d f

end R4
end Cert.Kernel2Ideal.Hand
-- ==== Proof.FfnRegion5.lean ====
module
public import proofs.«01_k».proof.Proof.FfnLong
public import proofs.«01_k».proof.Proof.Gen.Kernel2Ideal.Frame.Region5

/-! # The gradient of the second weight -/

@[expose] public section
set_option maxRecDepth 16384

namespace Cert.Kernel2Ideal.Hand
open Idealize.ShloMosaic
open Cert.Kernel2Ideal Cert.Kernel2Ideal.Gen
open Cert.Ffn Cert.Ffn.Args
open Cert.Hand (coe_sum)

namespace R5

theorem idx0 : ∀ t : Fin cfg5.N, (cfg5.win 0).index t 0 = t.val % 2 ∧ (cfg5.win 0).index t 1 = t.val / 2 := by decide +kernel
theorem idx1 : ∀ t : Fin cfg5.N, (cfg5.win 1).index t 0 = t.val % 2 ∧ (cfg5.win 1).index t 1 = 0 := by decide +kernel
theorem idx2 : ∀ t : Fin cfg5.N, (cfg5.win 2).index t 0 = t.val / 2 ∧ (cfg5.win 2).index t 1 = 0 := by decide +kernel

/-- The half of the tokens of a point. -/
def pk (t : Fin cfg5.N) : Fin 2 := ⟨t.val % 2, Nat.mod_lt _ (by decide)⟩
/-- The half of the lanes of a point. -/
def pn (t : Fin cfg5.N) : Fin 2 := ⟨t.val / 2, by have h : t.val < 4 := t.isLt; omega⟩

theorem zero_row (f : Fin 1408) (d : Fin 1024) : (k5_pay1 (F := Ideal) (ix2 f d) : EReal) = 0 := by
  pointwise [k5_pay1]

theorem add_row (p : Vec Ideal S1408x1024 .f32) (x : Vec Ideal S2048x1408 .bf16) (w : Vec Ideal S2048x1024 .bf16)
    (X : Fin 2048 → Fin 1408 → ℝ) (W : Fin 2048 → Fin 1024 → ℝ) (hx : ∀ a f, x (ix2 a f) = ((X a f : ℝ) : EReal))
    (hw : ∀ a d, w (ix2 a d) = ((W a d : ℝ) : EReal)) (f : Fin 1408) (d : Fin 1024) :
    (k5_pay2 p x w (ix2 f d) : EReal) = p (ix2 f d) + ((∑ a, X a f * W a d : ℝ) : EReal) := by
  pointwise [k5_pay2]
  simp only [hx, hw, ← EReal.coe_mul, ← coe_sum]

variable (P : Args) (V : Arrays) (c : Dev nD)

/-- What the grids before leave for this one. -/
structure Given (P : Args) (V : Arrays) (c : Dev nD) : Prop where
  act : ∀ t f, V c main_v16_1 (ix2 t f) = ((P.Act t f : ℝ) : EReal)
  dmixed : ∀ t d, V c main_v15_0 (ix2 t d) = ((P.dU t d : ℝ) : EReal)

section
variable (B : Given P V c) (t : Fin cfg5.N)
include B

theorem in0 (a : Fin 2048) (f : Fin 1408) :
    iblk5 V c 0 t (ix2 a f) = ((P.Act (half (pk t) a) (lane (pn t) f) : ℝ) : EReal) := by
  obtain ⟨e0, e1⟩ := idx0 t
  have h : (win5_0.blk t).view.emb (ix2 a f) = ix2 (half (pk t) a) (lane (pn t) f) :=
    eq_ix2_of _ _ _ (by blk_simp [e0]; rfl) (by blk_simp [e1]; simp [lane, pn]; omega)
  blk_simp [iblk5]
  rw [h]
  exact B.act _ _

theorem in1 (a : Fin 2048) (d : Fin 1024) : iblk5 V c 1 t (ix2 a d) = ((P.dU (half (pk t) a) d : ℝ) : EReal) := by
  obtain ⟨e0, e1⟩ := idx1 t
  have h : (win5_1.blk t).view.emb (ix2 a d) = ix2 (half (pk t) a) d := eq_ix2_of _ _ _ (by blk_simp [e0]; rfl) (by blk_simp [e1])
  blk_simp [iblk5]
  rw [h]
  exact B.dmixed _ _

theorem step (h0 : ¬ t.val % 2 = 0) (f : Fin 1408) (d : Fin 1024) :
    outsAt5 V c t.val t.isLt (ix2 f d)
      = outsAt5 V c (t.val - 1) (by have := t.isLt; omega) (ix2 f d)
        + ((∑ a, P.Act (half (pk t) a) (lane (pn t) f) * P.dU (half (pk t) a) d : ℝ) : EReal) := by
  rw [outsAt5_B V c t h0]
  frame_out
  exact add_row _ _ _ _ _ (in0 P V c B t) (in1 P V c B t) f d

theorem first (h0 : t.val % 2 = 0) (f : Fin 1408) (d : Fin 1024) :
    outsAt5 V c t.val t.isLt (ix2 f d)
      = 0 + ((∑ a, P.Act (half (pk t) a) (lane (pn t) f) * P.dU (half (pk t) a) d : ℝ) : EReal) := by
  rw [outsAt5_A V c t h0]
  frame_out
  refine (add_row _ _ _ _ _ (in0 P V c B t) (in1 P V c B t) f d).trans ?_
  rw [zero_row]

theorem last (h1 : t.val % 2 = 1) (f : Fin 1408) (d : Fin 1024) :
    outsAt5 V c t.val t.isLt (ix2 f d) = ((∑ s, P.Act s (lane (pn t) f) * P.dU s d : ℝ) : EReal) := by
  have e := Pipeline.eq_sum_fin_of_reset_step_apply_of_flush
    (fun n hn (_ : Unit) => outsAt5 V c n hn (ix2 f d)) 2 (fun _ => (0 : EReal))
    (fun t _ => ((∑ a, P.Act (half (pk t) a) (lane (pn t) f) * P.dU (half (pk t) a) d : ℝ) : EReal))
    (fun t h _ => first P V c B t h f d) (fun t h _ => step P V c B t h f d) t h1 ()
  refine e.trans ?_
  rw [zero_add, ← coe_sum, ← sum_half]
  refine congrArg _ (Finset.sum_congr rfl fun s _ => ?_)
  have hk : pk ⟨2 * (t.val / 2) + s.val, Pipeline.run_point_lt_of_flush t h1 s⟩ = s := Fin.ext (by simp [pk]; omega)
  have hn : pn ⟨2 * (t.val / 2) + s.val, Pipeline.run_point_lt_of_flush t h1 s⟩ = pn t := Fin.ext (by simp [pn]; omega)
  rw [hk, hn]
end

/-- The gradient of the second weight. -/
theorem dweight (B : Given P V c) : (dat5 V c).arrAt 2 cfg5.N = fun i => ((P.dWo (i 0) (i 1) : ℝ) : EReal) := by
  refine (dat5 V c).arrAt_eq_of_covers 2 _ (by decide +kernel) fun t hf y => ?_
  blk_simp
  rw [after5_2]
  obtain ⟨f, d, rfl⟩ := exists_ix2 y
  obtain ⟨e0, e1⟩ := idx2 t
  have h : (win5_2.blk t).view.emb (ix2 f d) = ix2 (lane (pn t) f) d :=
    eq_ix2_of _ _ _ (by blk_simp [e0]; simp [lane, pn]; omega) (by blk_simp [e1])
  rw [h]
  exact last P V c B t ((flush5_2 t).mp hf) f d

end R5
end Cert.Kernel2Ideal.Hand
-- ==== Proof.FfnFold.lean ====
module
public import proofs.«01_k».proof.Proof.FfnPrelude
public import proofs.«01_k».proof.Proof.FfnRegion0
public import proofs.«01_k».proof.Proof.FfnRegion1
public import proofs.«01_k».proof.Proof.FfnTable2
public import proofs.«01_k».proof.Proof.FfnTable3
public import proofs.«01_k».proof.Proof.FfnRegion4
public import proofs.«01_k».proof.Proof.FfnRegion5

/-! # From the arguments to the arrays the last grid leaves

Each grid finds what the grids before it left, and the lines between them move whole arrays. -/

@[expose] public section
set_option maxRecDepth 16384

namespace Cert.Kernel2Ideal.Hand
open Idealize.ShloMosaic
open Cert.Kernel2Ideal Cert.Kernel2Ideal.Gen
open Cert.Ffn Cert.Ffn.Args

variable {P : Args} (m : (ℓ : Loc nD τ sig) → Buf (Elt Ideal) ℓ) (ρ : Dev nD → PrngReg) (c : Dev nD)
  (H : Holds P (arg0 m c) (arg1 m c) (arg2 m c) (arg3 m c) (arg4 m c) (arg5 m c) (arg6 m c) (arg7 m c) (arg8 m c))

include H in
theorem base3 : Base P (V3 m ρ) c :=
  (base1 m ρ c H).of ((W3_of m ρ c main_arg0 (by decide)).trans (W2_of m ρ c main_arg0 (by decide))) ((W3_of m ρ c main_arg8 (by decide)).trans (W2_of m ρ c main_arg8 (by decide))) ((W3_of m ρ c main_v7 (by decide)).trans (W2_of m ρ c main_v7 (by decide)))
    ((W3_of m ρ c main_v10 (by decide)).trans (W2_of m ρ c main_v10 (by decide))) ((W3_of m ρ c main_v12 (by decide)).trans (W2_of m ρ c main_v12 (by decide)))

theorem moved3 : V3 m ρ c main_v14_1 = W2 m ρ c (Proc.devRef .tc main_v13_1) := by
  unfold V3 W3
  after_reads_simp
  rfl

include H in
theorem given1 : R1.Given P (V3 m ρ) c where
  toBase := base3 m ρ c H
  hid t d := (congrFun ((W3_of m ρ c main_v13_0 (by decide)).trans ((W2_arr m ρ c 5).trans (R0.hidden P (V1 m ρ) c (base1 m ρ c H)))) _)
  part t d := (congrFun ((W3_of m ρ c main_v13_2 (by decide)).trans ((W2_arr m ρ c 7).trans (R0.part P (V1 m ρ) c (base1 m ρ c H)))) _)
  kept j t f := (congrFun ((moved3 m ρ c).trans (W2_arr m ρ c 6)) _).trans (R0.kept P (V1 m ρ) c (base1 m ρ c H) j t f)

include H in
theorem base4 : Base P (V4 m ρ) c :=
  (base3 m ρ c H).of (W4_of m ρ c main_arg0 (by decide)) (W4_of m ρ c main_arg8 (by decide)) (W4_of m ρ c main_v7 (by decide))
    (W4_of m ρ c main_v10 (by decide)) (W4_of m ρ c main_v12 (by decide))

include H in
theorem given2 : R2.Given P (V4 m ρ) c where
  toBase := base4 m ρ c H
  mixed t d := congrFun ((W4_arr m ρ c 9).trans (R1.mixed P (V3 m ρ) c (given1 m ρ c H))) _
  kept j t f := congrFun ((W4_arr m ρ c 8).trans (R1.kept P (V3 m ρ) c (given1 m ρ c H))) _

include H in
theorem base6 : Base P (V6 m ρ) c :=
  (base4 m ρ c H).of ((W6_of m ρ c main_arg0 (by decide)).trans (W5_of m ρ c main_arg0 (by decide))) ((W6_of m ρ c main_arg8 (by decide)).trans (W5_of m ρ c main_arg8 (by decide))) ((W6_of m ρ c main_v7 (by decide)).trans (W5_of m ρ c main_v7 (by decide)))
    ((W6_of m ρ c main_v10 (by decide)).trans (W5_of m ρ c main_v10 (by decide))) ((W6_of m ρ c main_v12 (by decide)).trans (W5_of m ρ c main_v12 (by decide)))

theorem moved6_1 : V6 m ρ c main_v16_1 = W5 m ρ c (Proc.devRef .tc main_v15_2) := by
  unfold V6 W6
  after_reads_simp
  rfl

theorem moved6_2 : V6 m ρ c main_v16_2 = W5 m ρ c (Proc.devRef .tc main_v15_3) := by
  unfold V6 W6
  after_reads_simp
  rfl

include H in
theorem given3 : R3.Given P (V6 m ρ) c where
  toBase := base6 m ρ c H
  dmixed t d := congrFun ((W6_of m ρ c main_v15_0 (by decide)).trans ((W5_arr m ρ c 7).trans (R2.dmixed P (V4 m ρ) c (given2 m ρ c H)))) _
  dhid t d := congrFun ((W6_of m ρ c main_v15_1 (by decide)).trans ((W5_arr m ρ c 8).trans (R2.dhidden P (V4 m ρ) c (given2 m ρ c H)))) _
  kept j t f := (congrFun ((W6_of m ρ c main_v14_1 (by decide)).trans (W5_of m ρ c main_v14_1 (by decide))) _).trans ((given2 m ρ c H).kept j t f)
  act t f := (congrFun ((moved6_1 m ρ c).trans (W5_arr m ρ c 9)) _).trans (R2.act P (V4 m ρ) c (given2 m ρ c H) t f)
  dkept j t f := (congrFun ((moved6_2 m ρ c).trans (W5_arr m ρ c 10)) _).trans (R2.dkept P (V4 m ρ) c (given2 m ρ c H) j t f)

include H in
theorem given4 : R4.Given P (V8 m ρ) c where
  hid t d := (congrFun (((((W8_of m ρ c main_v13_0 (by decide)).trans (W7_of m ρ c main_v13_0 (by decide))).trans (W6_of m ρ c main_v13_0 (by decide))).trans (W5_of m ρ c main_v13_0 (by decide))).trans (W4_of m ρ c main_v13_0 (by decide))) _).trans ((given1 m ρ c H).hid t d)
  dkept j t f := congrFun ((W8_of m ρ c main_v16_2 (by decide)).trans ((W7_arr m ρ c 11).trans (R3.dkept P (V6 m ρ) c (given3 m ρ c H)))) _

include H in
theorem given5 : R5.Given P (V9 m ρ) c where
  act t f := congrFun (((W9_of m ρ c main_v16_1 (by decide)).trans (W8_of m ρ c main_v16_1 (by decide))).trans ((W7_arr m ρ c 10).trans (R3.act P (V6 m ρ) c (given3 m ρ c H)))) _
  dmixed t d := (congrFun (((W9_of m ρ c main_v15_0 (by decide)).trans (W8_of m ρ c main_v15_0 (by decide))).trans (W7_of m ρ c main_v15_0 (by decide))) _).trans ((given3 m ρ c H).dmixed t d)

/-! ## What the lines at the end read -/

include H in
theorem end_y : W11 m ρ c (Proc.devRef .tc main_v14_0) = fun i => ((P.Y (i 0) (i 1) : ℝ) : EReal) :=
  (((((((W11_of m ρ c main_v14_0 (by decide)).trans (W10_of m ρ c main_v14_0 (by decide))).trans (W9_of m ρ c main_v14_0 (by decide))).trans (W8_of m ρ c main_v14_0 (by decide))).trans (W7_of m ρ c main_v14_0 (by decide))).trans (W6_of m ρ c main_v14_0 (by decide))).trans (W5_of m ρ c main_v14_0 (by decide))).trans ((W4_arr m ρ c 7).trans (R1.result P (V3 m ρ) c (given1 m ρ c H)))

include H in
theorem end_dx : W11 m ρ c (Proc.devRef .tc main_v16_0) = fun i => ((P.dX (i 0) (i 1) : ℝ) : EReal) :=
  ((((W11_of m ρ c main_v16_0 (by decide)).trans (W10_of m ρ c main_v16_0 (by decide))).trans (W9_of m ρ c main_v16_0 (by decide))).trans (W8_of m ρ c main_v16_0 (by decide))).trans ((W7_arr m ρ c 9).trans (R3.dinput P (V6 m ρ) c (given3 m ρ c H)))

include H in
theorem end_dwo : W11 m ρ c (Proc.devRef .tc main_v19) = fun i => ((P.dWo (i 0) (i 1) : ℝ) : EReal) :=
  (W11_of m ρ c main_v19 (by decide)).trans ((W10_arr m ρ c 2).trans (R5.dweight P (V9 m ρ) c (given5 m ρ c H)))

include H in
theorem end_dwi : W10 m ρ c (Proc.devRef .tc main_v18)
    = fun i => ((∑ s, P.H s (i 1) * dkeep P (R4.bj (i 0)) s (lane (R4.bh (i 0)) (i 2)) : ℝ) : EReal) :=
  (W10_of m ρ c main_v18 (by decide)).trans ((W9_arr m ρ c 2).trans (R4.dweight P (V8 m ρ) c (given4 m ρ c H)))

theorem moved8 : W8 m ρ c (Proc.devRef .tc main_v17)
    = (addf (W7 m ρ c (Proc.devRef .tc main_v15_4) : FVec Ideal S8x1024 .f32) (W7 m ρ c (Proc.devRef .tc main_v16_3)) : FVec Ideal S8x1024 .f32) := by
  unfold W8
  after_reads_simp

include H in
theorem end_table (r : Fin 8) (d : Fin 1024) : W10 m ρ c (Proc.devRef .tc main_v17) (ix2 r d)
    = (((∑ t, R2.term P r d t) + (∑ t, R3.term P r d t) : ℝ) : EReal) := by
  refine (congrFun (((W10_of m ρ c main_v17 (by decide)).trans (W9_of m ρ c main_v17 (by decide))).trans (moved8 m ρ c)) _).trans ?_
  refine (congrArg₂ (fun a b : EReal => a + b) (congrFun (((W7_of m ρ c main_v15_4 (by decide)).trans (W6_of m ρ c main_v15_4 (by decide))).trans ((W5_arr m ρ c 11).trans (R2.table P (V4 m ρ) c (given2 m ρ c H)))) _)
    (congrFun ((W7_arr m ρ c 12).trans (R3.table P (V6 m ρ) c (given3 m ρ c H))) (ix2 r d))).trans ?_
  exact (EReal.coe_add _ _).symm

end Cert.Kernel2Ideal.Hand
-- ==== Proof.FfnTail.lean ====
module
public import proofs.«01_k».proof.Proof.FfnFold

/-! # What the program's last lines read

Five rows of the table of sums, and the input weight's gradient with its lane blocks side by side again. -/

@[expose] public section
set_option maxRecDepth 16384

namespace Cert.Kernel2Ideal.Hand
open Idealize.ShloMosaic
open Cert.Kernel2Ideal Cert.Kernel2Ideal.Gen
open Cert.Ffn
open Cert.Ffn.Args

/-- The blocks of the input weight's gradient, side by side. -/
noncomputable def tWi (w : FVec Ideal S4x1024x1408 .f32) : FVec Ideal S1024x5632 .f32 :=
  shapeCast S1024x5632 (transpose S1024x4x1408 [1, 0, 2] w transposes_S4x1024x1408_S1024x4x1408_1_0_2) shapeCasts_S1024x4x1408_S1024x5632

theorem tWi_at (w : FVec Ideal S4x1024x1408 .f32) (d : Fin 1024) (n : Fin 4) (f : Fin 1408) :
    tWi w (ix2 d ⟨1408 * n.val + f.val, by omega⟩) = w (ix3 n d f) := by
  pointwise [tWi]

/-- Row 0 of the table. -/
noncomputable def tRow0 (w : FVec Ideal S8x1024 .f32) : FVec Ideal S1024 .f32 :=
  shapeCast S1024 (extractStridedSlice S1x1024 ![0, 0] w slices_S8x1024_S1x1024_0_0) shapeCasts_S1x1024_S1024

theorem tRow0_at (w : FVec Ideal S8x1024 .f32) (d : Fin 1024) : tRow0 w (ix1 d) = w (ix2 0 d) := by
  pointwise [tRow0]

/-- Row 1 of the table. -/
noncomputable def tRow1 (w : FVec Ideal S8x1024 .f32) : FVec Ideal S1024 .f32 :=
  shapeCast S1024 (extractStridedSlice S1x1024 ![1, 0] w slices_S8x1024_S1x1024_1_0) shapeCasts_S1x1024_S1024

theorem tRow1_at (w : FVec Ideal S8x1024 .f32) (d : Fin 1024) : tRow1 w (ix1 d) = w (ix2 1 d) := by
  pointwise [tRow1]

/-- Row 2 of the table. -/
noncomputable def tRow2 (w : FVec Ideal S8x1024 .f32) : FVec Ideal S1024 .f32 :=
  shapeCast S1024 (extractStridedSlice S1x1024 ![2, 0] w slices_S8x1024_S1x1024_2_0) shapeCasts_S1x1024_S1024

theorem tRow2_at (w : FVec Ideal S8x1024 .f32) (d : Fin 1024) : tRow2 w (ix1 d) = w (ix2 2 d) := by
  pointwise [tRow2]

/-- Row 3 of the table. -/
noncomputable def tRow3 (w : FVec Ideal S8x1024 .f32) : FVec Ideal S1024 .f32 :=
  shapeCast S1024 (extractStridedSlice S1x1024 ![3, 0] w slices_S8x1024_S1x1024_3_0) shapeCasts_S1x1024_S1024

theorem tRow3_at (w : FVec Ideal S8x1024 .f32) (d : Fin 1024) : tRow3 w (ix1 d) = w (ix2 3 d) := by
  pointwise [tRow3]

/-- Row 4 of the table. -/
noncomputable def tRow4 (w : FVec Ideal S8x1024 .f32) : FVec Ideal S1024 .f32 :=
  shapeCast S1024 (extractStridedSlice S1x1024 ![4, 0] w slices_S8x1024_S1x1024_4_0) shapeCasts_S1x1024_S1024

theorem tRow4_at (w : FVec Ideal S8x1024 .f32) (d : Fin 1024) : tRow4 w (ix1 d) = w (ix2 4 d) := by
  pointwise [tRow4]

variable {P : Args} (m : (ℓ : Loc nD τ sig) → Buf (Elt Ideal) ℓ) (ρ : Dev nD → PrngReg) (c : Dev nD)
  (H : Holds P (arg0 m c) (arg1 m c) (arg2 m c) (arg3 m c) (arg4 m c) (arg5 m c) (arg6 m c) (arg7 m c) (arg8 m c))

theorem read_v21 : W11 m ρ c (Proc.devRef .tc main_v21) = tRow0 (W10 m ρ c (Proc.devRef .tc main_v17)) := by
  unfold W11
  after_reads_simp
  rfl

include H in
theorem end_v21 (d : Fin 1024) : W11 m ρ c (Proc.devRef .tc main_v21) (ix1 d) = ((P.dSh d : ℝ) : EReal) := by
  refine (congrFun (read_v21 m ρ c) _).trans ((tRow0_at _ d).trans ((end_table m ρ c H 0 d).trans (congrArg _ ?_)))
  simp [R2.term, R3.term, dSh]

theorem read_v23 : W11 m ρ c (Proc.devRef .tc main_v23) = tRow1 (W10 m ρ c (Proc.devRef .tc main_v17)) := by
  unfold W11
  after_reads_simp
  rfl

include H in
theorem end_v23 (d : Fin 1024) : W11 m ρ c (Proc.devRef .tc main_v23) (ix1 d) = ((P.dSc d : ℝ) : EReal) := by
  refine (congrFun (read_v23 m ρ c) _).trans ((tRow1_at _ d).trans ((end_table m ρ c H 1 d).trans (congrArg _ ?_)))
  simp [R2.term, R3.term, dSc]

theorem read_v25 : W11 m ρ c (Proc.devRef .tc main_v25) = tRow2 (W10 m ρ c (Proc.devRef .tc main_v17)) := by
  unfold W11
  after_reads_simp
  rfl

include H in
theorem end_v25 (d : Fin 1024) : W11 m ρ c (Proc.devRef .tc main_v25) (ix1 d) = ((P.dGa d : ℝ) : EReal) := by
  refine (congrFun (read_v25 m ρ c) _).trans ((tRow2_at _ d).trans ((end_table m ρ c H 2 d).trans (congrArg _ ?_)))
  simp [R2.term, R3.term, dGa]

theorem read_v27 : W11 m ρ c (Proc.devRef .tc main_v27) = tRow3 (W10 m ρ c (Proc.devRef .tc main_v17)) := by
  unfold W11
  after_reads_simp
  rfl

include H in
theorem end_v27 (d : Fin 1024) : W11 m ρ c (Proc.devRef .tc main_v27) (ix1 d) = ((P.dGp d : ℝ) : EReal) := by
  refine (congrFun (read_v27 m ρ c) _).trans ((tRow3_at _ d).trans ((end_table m ρ c H 3 d).trans (congrArg _ ?_)))
  simp [R2.term, R3.term, dGp]

theorem read_v29 : W11 m ρ c (Proc.devRef .tc main_v29) = tRow4 (W10 m ρ c (Proc.devRef .tc main_v17)) := by
  unfold W11
  after_reads_simp
  rfl

include H in
theorem end_v29 (d : Fin 1024) : W11 m ρ c (Proc.devRef .tc main_v29) (ix1 d) = ((P.dGq d : ℝ) : EReal) := by
  refine (congrFun (read_v29 m ρ c) _).trans ((tRow4_at _ d).trans ((end_table m ρ c H 4 d).trans (congrArg _ ?_)))
  simp [R2.term, R3.term, dGq]

theorem read_v31 : W11 m ρ c (Proc.devRef .tc main_v31) = tWi (W10 m ρ c (Proc.devRef .tc main_v18)) := by
  unfold W11
  after_reads_simp
  rfl

/-- A lane of the input weight is a block's lane. -/
theorem dkeep_lane (n : Fin 4) (f : Fin 1408) (t : Fin 4096) :
    dkeep P (R4.bj n) t (lane (R4.bh n) f) = P.dZ t ⟨1408 * n.val + f.val, by omega⟩ := by
  match n with
  | 0 => simp [dkeep, R4.bj, R4.bh, lane, dZ, show f.val < 2816 by omega]
  | 1 => simp [dkeep, R4.bj, R4.bh, lane, dZ, show 1408 + f.val < 2816 by omega]
  | 2 =>
    have h : ¬ 1408 * 2 + f.val < 2816 := by omega
    simp [dkeep, R4.bj, R4.bh, lane, dZ]
  | 3 =>
    have h : ¬ 1408 * 3 + f.val < 2816 := by omega
    have e : 1408 * 3 + f.val - 2816 = 1408 + f.val := by omega
    simp [dkeep, R4.bj, R4.bh, lane, dZ, e]
    intro h'
    omega

include H in
theorem end_v31 (d : Fin 1024) (j : Fin 5632) : W11 m ρ c (Proc.devRef .tc main_v31) (ix2 d j) = ((P.dWi d j : ℝ) : EReal) := by
  obtain ⟨n, f, rfl⟩ : ∃ (n : Fin 4) (f : Fin 1408), j = ⟨1408 * n.val + f.val, by omega⟩ :=
    ⟨⟨j.val / 1408, by omega⟩, ⟨j.val % 1408, by omega⟩, Fin.ext (by simp; omega)⟩
  refine (congrFun (read_v31 m ρ c) _).trans ((tWi_at _ d n f).trans ((congrFun (end_dwi m ρ c H) _).trans (congrArg _ ?_)))
  exact Finset.sum_congr rfl fun t _ => congrArg (P.H t d * ·) (dkeep_lane n f t)

end Cert.Kernel2Ideal.Hand
-- ==== Proof.FfnRun.lean ====
module
public import proofs.«01_k».proof.Proof.Gen.Kernel2Ideal.Frame

/-! # The run of the program, with what it leaves in every array

At the end every array holds what the fold of the program's segments gives it. -/

@[expose] public section
set_option maxRecDepth 16384

noncomputable section

namespace Cert.Kernel2Ideal.Hand
open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the arrays at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.Kernel2Ideal.Hand
end
-- ==== Proof.FfnFinite.lean ====
module
public import proofs.«01_k».proof.Proof.Gen.Pre_finite2
public import proofs.«01_k».proof.Proof.FfnPrelude
public import proofs.«01_k».proof.Proof.Finite

/-! # The sublayer's precondition

Where it holds, every argument is a real number at every index. -/

@[expose] public section
set_option maxRecDepth 16384

namespace Cert.Ffn
open Idealize.ShloMosaic
open Cert.Pre_finite2
open Cert.Hand (and_one real_of_cmp pos_inf)

local instance : Subsingleton S_.Idx := ⟨fun a b => funext fun i => i.elim0⟩

variable (a0 : FVec Ideal S4096x1024 .f32) (a1 a2 a3 a4 a5 : FVec Ideal S1024 .f32) (a6 : FVec Ideal S1024x5632 .f32)
  (a7 : FVec Ideal S2816x1024 .f32) (a8 : FVec Ideal S4096x1024 .f32)

/-- The real arrays of nine arguments. -/
noncomputable def argsOf : Args where
  X t d := (a0 (ix2 t d)).toReal
  Sh d := (a1 (ix1 d)).toReal
  Sc d := (a2 (ix1 d)).toReal
  Ga d := (a3 (ix1 d)).toReal
  Gp d := (a4 (ix1 d)).toReal
  Gq d := (a5 (ix1 d)).toReal
  Wi d j := (a6 (ix2 d j)).toReal
  Wo f d := (a7 (ix2 f d)).toReal
  Ct t d := (a8 (ix2 t d)).toReal

theorem holds_of_pre [Cert.Pre_finite2.Facts] (h : Cert.Pre_finite2.fn (F := Ideal) a0 a1 a2 a3 a4 a5 a6 a7 a8 = fun _ => 1#1) :
    Holds (argsOf a0 a1 a2 a3 a4 a5 a6 a7 a8) a0 a1 a2 a3 a4 a5 a6 a7 a8 := by
  have e := congrFun h ix0
  obtain ⟨e, e8⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨e0, e1⟩ := and_one e
  exact
    { x := fun t d => real_of_cmp a0 _ _ pos_inf (Host.reduce_andi_all _ _ _ _ _ e0 (ix2 t d))
      sh := fun d => real_of_cmp a1 _ _ pos_inf (Host.reduce_andi_all _ _ _ _ _ e1 (ix1 d))
      sc := fun d => real_of_cmp a2 _ _ pos_inf (Host.reduce_andi_all _ _ _ _ _ e2 (ix1 d))
      ga := fun d => real_of_cmp a3 _ _ pos_inf (Host.reduce_andi_all _ _ _ _ _ e3 (ix1 d))
      gp := fun d => real_of_cmp a4 _ _ pos_inf (Host.reduce_andi_all _ _ _ _ _ e4 (ix1 d))
      gq := fun d => real_of_cmp a5 _ _ pos_inf (Host.reduce_andi_all _ _ _ _ _ e5 (ix1 d))
      wi := fun d j => real_of_cmp a6 _ _ pos_inf (Host.reduce_andi_all _ _ _ _ _ e6 (ix2 d j))
      wo := fun f d => real_of_cmp a7 _ _ pos_inf (Host.reduce_andi_all _ _ _ _ _ e7 (ix2 f d))
      ct := fun t d => real_of_cmp a8 _ _ pos_inf (Host.reduce_andi_all _ _ _ _ _ e8 (ix2 t d)) }

end Cert.Ffn
-- ==== Proof.FfnEquation.lean ====
module
public import proofs.«01_k».proof.Defs
public import proofs.«01_k».proof.Proof.Gen.Reference2Ideal.Run
public import proofs.«01_k».proof.Proof.FfnGradients
public import proofs.«01_k».proof.Proof.FfnTail
public import proofs.«01_k».proof.Proof.FfnRun
public import proofs.«01_k».proof.Proof.FfnFinite

/-! # The feed-forward sublayer's program against the reference

Both end with the sublayer's output and its eight gradients, index by index. -/

@[expose] public section
set_option maxRecDepth 16384

namespace Cert.Kernel2Ideal.Hand
open Idealize.ShloMosaic Idealize.SL.Sem
open Cert.Kernel2Ideal Cert.Kernel2Ideal.Gen
open Cert.Ffn

variable {P : Args} (m : (ℓ : Loc nD τ sig) → Buf (Elt Ideal) ℓ) (ρ : Dev nD → PrngReg) (c : Dev nD)
  (H : Holds P (arg0 m c) (arg1 m c) (arg2 m c) (arg3 m c) (arg4 m c) (arg5 m c) (arg6 m c) (arg7 m c) (arg8 m c))

include H in
theorem eq_v14_0 : W11 m ρ c (Proc.devRef .tc main_v14_0) = Cert.Reference2Ideal.Read.val_main_v53 (F := Ideal) (arg0 m c) (arg1 m c) (arg2 m c) (arg3 m c) (arg4 m c) (arg5 m c) (arg6 m c) (arg7 m c) := by
  funext i
  obtain ⟨a, b, rfl⟩ := exists_ix2 i
  exact (congrFun (end_y m ρ c H) _).trans (Cert.Ffn.v53_at H a b).symm

include H in
theorem eq_v16_0 : W11 m ρ c (Proc.devRef .tc main_v16_0) = Cert.Reference2Ideal.Read.val_main_v122 (F := Ideal) (arg0 m c) (arg1 m c) (arg2 m c) (arg3 m c) (arg4 m c) (arg5 m c) (arg6 m c) (arg7 m c) (arg8 m c) := by
  funext i
  obtain ⟨a, b, rfl⟩ := exists_ix2 i
  exact (congrFun (end_dx m ρ c H) _).trans (Cert.Ffn.v122_at H a b).symm

include H in
theorem eq_v21 : W11 m ρ c (Proc.devRef .tc main_v21) = Cert.Reference2Ideal.Read.val_main_v95 (F := Ideal) (arg0 m c) (arg1 m c) (arg2 m c) (arg3 m c) (arg4 m c) (arg5 m c) (arg6 m c) (arg7 m c) (arg8 m c) := by
  funext i
  obtain ⟨a, rfl⟩ := (⟨i 0, eq_ix1 i⟩ : ∃ a, i = ix1 a)
  exact (end_v21 m ρ c H a).trans (Cert.Ffn.v95_at H a).symm

include H in
theorem eq_v23 : W11 m ρ c (Proc.devRef .tc main_v23) = Cert.Reference2Ideal.Read.val_main_v101 (F := Ideal) (arg0 m c) (arg1 m c) (arg2 m c) (arg3 m c) (arg4 m c) (arg5 m c) (arg6 m c) (arg7 m c) (arg8 m c) := by
  funext i
  obtain ⟨a, rfl⟩ := (⟨i 0, eq_ix1 i⟩ : ∃ a, i = ix1 a)
  exact (end_v23 m ρ c H a).trans (Cert.Ffn.v101_at H a).symm

include H in
theorem eq_v25 : W11 m ρ c (Proc.devRef .tc main_v25) = Cert.Reference2Ideal.Read.val_main_v82 (F := Ideal) (arg0 m c) (arg1 m c) (arg2 m c) (arg4 m c) (arg5 m c) (arg6 m c) (arg7 m c) (arg8 m c) := by
  funext i
  obtain ⟨a, rfl⟩ := (⟨i 0, eq_ix1 i⟩ : ∃ a, i = ix1 a)
  exact (end_v25 m ρ c H a).trans (Cert.Ffn.v82_at H a).symm

include H in
theorem eq_v27 : W11 m ρ c (Proc.devRef .tc main_v27) = Cert.Reference2Ideal.Read.val_main_v107 (F := Ideal) (arg0 m c) (arg1 m c) (arg2 m c) (arg3 m c) (arg4 m c) (arg5 m c) (arg6 m c) (arg7 m c) (arg8 m c) := by
  funext i
  obtain ⟨a, rfl⟩ := (⟨i 0, eq_ix1 i⟩ : ∃ a, i = ix1 a)
  exact (end_v27 m ρ c H a).trans (Cert.Ffn.v107_at H a).symm

include H in
theorem eq_v29 : W11 m ρ c (Proc.devRef .tc main_v29) = Cert.Reference2Ideal.Read.val_main_v66 (F := Ideal) (arg0 m c) (arg1 m c) (arg2 m c) (arg3 m c) (arg4 m c) (arg6 m c) (arg7 m c) (arg8 m c) := by
  funext i
  obtain ⟨a, rfl⟩ := (⟨i 0, eq_ix1 i⟩ : ∃ a, i = ix1 a)
  exact (end_v29 m ρ c H a).trans (Cert.Ffn.v66_at H a).symm

include H in
theorem eq_v31 : W11 m ρ c (Proc.devRef .tc main_v31) = Cert.Reference2Ideal.Read.val_main_v91 (F := Ideal) (arg0 m c) (arg1 m c) (arg2 m c) (arg3 m c) (arg4 m c) (arg5 m c) (arg6 m c) (arg7 m c) (arg8 m c) := by
  funext i
  obtain ⟨a, b, rfl⟩ := exists_ix2 i
  exact (end_v31 m ρ c H a b).trans (Cert.Ffn.v91_at H a b).symm

include H in
theorem eq_v19 : W11 m ρ c (Proc.devRef .tc main_v19) = Cert.Reference2Ideal.Read.val_main_v84 (F := Ideal) (arg0 m c) (arg1 m c) (arg2 m c) (arg3 m c) (arg4 m c) (arg5 m c) (arg6 m c) (arg7 m c) (arg8 m c) := by
  funext i
  obtain ⟨a, b, rfl⟩ := exists_ix2 i
  exact (congrFun (end_dwo m ρ c H) _).trans (Cert.Ffn.v84_at H a b).symm

end Cert.Kernel2Ideal.Hand

namespace Cert.Hand
open Idealize.ShloMosaic Idealize.SL.Sem
open Cert.Kernel2Ideal.Hand (arg0 arg1 arg2 arg3 arg4 arg5 arg6 arg7 arg8)

/-- The reference's program keeps its arguments, and it has no semaphore. -/
theorem frame_reference2 : Cert.quiescent_Reference2Ideal := fun m ρ _ =>
  (θ_run Cert.Reference2Ideal.defs _ _).mono (fun r h => ⟨fun c => (h c).2.2.2.2.2.2.2.2.2,
      Idealize.ShloMosaic.sem_eq_zero_of_no_sems (by decide) r.2⟩)
    (Cert.Reference2Ideal.Value.run (F := Ideal) m ρ)

/-- The same under the precondition. -/
theorem frame_reference2_finite2 [Cert.Pre_finite2.Facts] : Cert.quiescent_Reference2Ideal_pre_finite2 := fun m ρ _ =>
  (θ_run Cert.Reference2Ideal.defs _ _).mono (fun r h => ⟨fun c => (h c).2.2.2.2.2.2.2.2.2,
      Idealize.ShloMosaic.sem_eq_zero_of_no_sems (by decide) r.2⟩)
    (Cert.Reference2Ideal.Value.run (F := Ideal) m ρ)

/-- The feed-forward sublayer's calls: both programs end with the same output and the same eight gradients. -/
theorem algebraic_ffn [Cert.Pre_finite2.Facts] : Cert.algebraic_Kernel2Ideal_Reference2Ideal_pre_finite2 := by
  intro m ρ m' ρ' hpre hargs
  refine ⟨fun c => Cert.Reference2Ideal.Read.val_main_v53 (F := Ideal) (arg0 m c) (arg1 m c) (arg2 m c) (arg3 m c) (arg4 m c) (arg5 m c) (arg6 m c) (arg7 m c),
    fun c => Cert.Reference2Ideal.Read.val_main_v122 (F := Ideal) (arg0 m c) (arg1 m c) (arg2 m c) (arg3 m c) (arg4 m c) (arg5 m c) (arg6 m c) (arg7 m c) (arg8 m c),
    fun c => Cert.Reference2Ideal.Read.val_main_v95 (F := Ideal) (arg0 m c) (arg1 m c) (arg2 m c) (arg3 m c) (arg4 m c) (arg5 m c) (arg6 m c) (arg7 m c) (arg8 m c),
    fun c => Cert.Reference2Ideal.Read.val_main_v101 (F := Ideal) (arg0 m c) (arg1 m c) (arg2 m c) (arg3 m c) (arg4 m c) (arg5 m c) (arg6 m c) (arg7 m c) (arg8 m c),
    fun c => Cert.Reference2Ideal.Read.val_main_v82 (F := Ideal) (arg0 m c) (arg1 m c) (arg2 m c) (arg4 m c) (arg5 m c) (arg6 m c) (arg7 m c) (arg8 m c),
    fun c => Cert.Reference2Ideal.Read.val_main_v107 (F := Ideal) (arg0 m c) (arg1 m c) (arg2 m c) (arg3 m c) (arg4 m c) (arg5 m c) (arg6 m c) (arg7 m c) (arg8 m c),
    fun c => Cert.Reference2Ideal.Read.val_main_v66 (F := Ideal) (arg0 m c) (arg1 m c) (arg2 m c) (arg3 m c) (arg4 m c) (arg6 m c) (arg7 m c) (arg8 m c),
    fun c => Cert.Reference2Ideal.Read.val_main_v91 (F := Ideal) (arg0 m c) (arg1 m c) (arg2 m c) (arg3 m c) (arg4 m c) (arg5 m c) (arg6 m c) (arg7 m c) (arg8 m c),
    fun c => Cert.Reference2Ideal.Read.val_main_v84 (F := Ideal) (arg0 m c) (arg1 m c) (arg2 m c) (arg3 m c) (arg4 m c) (arg5 m c) (arg6 m c) (arg7 m c) (arg8 m c), ?_, ?_⟩
  · refine (θ_run Cert.Kernel2Ideal.defs _ _).mono ?_
      (θ_run_and (Cert.Kernel2Ideal.Hand.run_main (F := Ideal) m ρ) (Cert.Kernel2Ideal.Gen.unchanged (F := Ideal) m ρ))
    intro r h c
    have H := Cert.Ffn.holds_of_pre _ _ _ _ _ _ _ _ _ (hpre c)
    refine ⟨?_, ?_, ?_, ?_, ?_, ?_, ?_, ?_, ?_, h.2 c⟩
    · exact (h.1 c _ (Cert.Kernel2Ideal.Gen.mem_uc Cert.Kernel2Ideal.main_v14_0 (by decide))).trans (Cert.Kernel2Ideal.Hand.eq_v14_0 m ρ c H)
    · exact (h.1 c _ (Cert.Kernel2Ideal.Gen.mem_uc Cert.Kernel2Ideal.main_v16_0 (by decide))).trans (Cert.Kernel2Ideal.Hand.eq_v16_0 m ρ c H)
    · exact (h.1 c _ (Cert.Kernel2Ideal.Gen.mem_uc Cert.Kernel2Ideal.main_v21 (by decide))).trans (Cert.Kernel2Ideal.Hand.eq_v21 m ρ c H)
    · exact (h.1 c _ (Cert.Kernel2Ideal.Gen.mem_uc Cert.Kernel2Ideal.main_v23 (by decide))).trans (Cert.Kernel2Ideal.Hand.eq_v23 m ρ c H)
    · exact (h.1 c _ (Cert.Kernel2Ideal.Gen.mem_uc Cert.Kernel2Ideal.main_v25 (by decide))).trans (Cert.Kernel2Ideal.Hand.eq_v25 m ρ c H)
    · exact (h.1 c _ (Cert.Kernel2Ideal.Gen.mem_uc Cert.Kernel2Ideal.main_v27 (by decide))).trans (Cert.Kernel2Ideal.Hand.eq_v27 m ρ c H)
    · exact (h.1 c _ (Cert.Kernel2Ideal.Gen.mem_uc Cert.Kernel2Ideal.main_v29 (by decide))).trans (Cert.Kernel2Ideal.Hand.eq_v29 m ρ c H)
    · exact (h.1 c _ (Cert.Kernel2Ideal.Gen.mem_uc Cert.Kernel2Ideal.main_v31 (by decide))).trans (Cert.Kernel2Ideal.Hand.eq_v31 m ρ c H)
    · exact (h.1 c _ (Cert.Kernel2Ideal.Gen.mem_uc Cert.Kernel2Ideal.main_v19 (by decide))).trans (Cert.Kernel2Ideal.Hand.eq_v19 m ρ c H)
  · refine (θ_run Cert.Reference2Ideal.defs _ _).mono ?_ (Cert.Reference2Ideal.Value.run (F := Ideal) m' ρ')
    intro r h c
    obtain ⟨h0, h1, h2, h3, h4, h5, h6, h7, h8, hk⟩ := h c
    obtain ⟨g0, g1, g2, g3, g4, g5, g6, g7, g8⟩ := hargs c
    have g0 : StableHlo.launchContents m' c (Proc.devRef .tc Cert.Reference2Ideal.main_arg0) = arg0 m c := g0
    have g1 : StableHlo.launchContents m' c (Proc.devRef .tc Cert.Reference2Ideal.main_arg1) = arg1 m c := g1
    have g2 : StableHlo.launchContents m' c (Proc.devRef .tc Cert.Reference2Ideal.main_arg2) = arg2 m c := g2
    have g3 : StableHlo.launchContents m' c (Proc.devRef .tc Cert.Reference2Ideal.main_arg3) = arg3 m c := g3
    have g4 : StableHlo.launchContents m' c (Proc.devRef .tc Cert.Reference2Ideal.main_arg4) = arg4 m c := g4
    have g5 : StableHlo.launchContents m' c (Proc.devRef .tc Cert.Reference2Ideal.main_arg5) = arg5 m c := g5
    have g6 : StableHlo.launchContents m' c (Proc.devRef .tc Cert.Reference2Ideal.main_arg6) = arg6 m c := g6
    have g7 : StableHlo.launchContents m' c (Proc.devRef .tc Cert.Reference2Ideal.main_arg7) = arg7 m c := g7
    have g8 : StableHlo.launchContents m' c (Proc.devRef .tc Cert.Reference2Ideal.main_arg8) = arg8 m c := g8
    refine ⟨?_, ?_, ?_, ?_, ?_, ?_, ?_, ?_, ?_, hk⟩
    · exact (h0.trans (Cert.Reference2Ideal.Read.val_main_v53_eq (StableHlo.launchContents m' c))).trans (by rw [g0, g1, g2, g3, g4, g5, g6, g7])
    · exact (h1.trans (Cert.Reference2Ideal.Read.val_main_v122_eq (StableHlo.launchContents m' c))).trans (by rw [g0, g1, g2, g3, g4, g5, g6, g7, g8])
    · exact (h2.trans (Cert.Reference2Ideal.Read.val_main_v95_eq (StableHlo.launchContents m' c))).trans (by rw [g0, g1, g2, g3, g4, g5, g6, g7, g8])
    · exact (h3.trans (Cert.Reference2Ideal.Read.val_main_v101_eq (StableHlo.launchContents m' c))).trans (by rw [g0, g1, g2, g3, g4, g5, g6, g7, g8])
    · exact (h4.trans (Cert.Reference2Ideal.Read.val_main_v82_eq (StableHlo.launchContents m' c))).trans (by rw [g0, g1, g2, g4, g5, g6, g7, g8])
    · exact (h5.trans (Cert.Reference2Ideal.Read.val_main_v107_eq (StableHlo.launchContents m' c))).trans (by rw [g0, g1, g2, g3, g4, g5, g6, g7, g8])
    · exact (h6.trans (Cert.Reference2Ideal.Read.val_main_v66_eq (StableHlo.launchContents m' c))).trans (by rw [g0, g1, g2, g3, g4, g6, g7, g8])
    · exact (h7.trans (Cert.Reference2Ideal.Read.val_main_v91_eq (StableHlo.launchContents m' c))).trans (by rw [g0, g1, g2, g3, g4, g5, g6, g7, g8])
    · exact (h8.trans (Cert.Reference2Ideal.Read.val_main_v84_eq (StableHlo.launchContents m' c))).trans (by rw [g0, g1, g2, g3, g4, g5, g6, g7, g8])

end Cert.Hand
-- ==== Proof.LastFormula.lean ====
module
public import proofs.«01_k».proof.Proof.FfnReal

/-! # The last feed-forward sublayer and its loss over the extended reals

The sublayer's output, the loss of that output against a target and the loss's gradient, as formulas of extended reals.
The two programs do the same operations on every number apart from sums cut in parts and a factor drawn into a sum, so
nothing here needs the arguments to be real numbers. -/

@[expose] public section

namespace Cert.Last
open Idealize.ShloMosaic
open Cert.Ffn.Args (gl ul lane)

noncomputable section

/-- One half, as the programs carry it. -/
abbrev half : EReal := Ideal.ofBits .f32 0x3F000000#32
/-- The width of a row, as the programs carry it. -/
abbrev width : EReal := Ideal.ofBits .f32 0x44800000#32

/-- One over the root mean square of a row. -/
def rinv (v : Fin 1024 → EReal) : EReal :=
  Ideal.rsqrt (Ideal.div (∑ k, v k * v k) width + Ideal.ofBits .f32 0x358637BD#32)

/-- The nine arguments. -/
structure Args where
  X : Fin 4096 → Fin 1024 → EReal
  Sh : Fin 1024 → EReal
  Sc : Fin 1024 → EReal
  Ga : Fin 1024 → EReal
  Gp : Fin 1024 → EReal
  Gq : Fin 1024 → EReal
  Wi : Fin 1024 → Fin 5632 → EReal
  Wo : Fin 2816 → Fin 1024 → EReal
  Ct : Fin 4096 → Fin 1024 → EReal

namespace Args
variable (P : Args)

def H (t : Fin 4096) (d : Fin 1024) : EReal := P.X t d * rinv (P.X t) * P.Gp d * (1 + P.Sc d) + P.Sh d
def Z (t : Fin 4096) (j : Fin 5632) : EReal := ∑ d, P.H t d * P.Wi d j
def G (t : Fin 4096) (f : Fin 2816) : EReal := P.Z t (gl f)
def Up (t : Fin 4096) (f : Fin 2816) : EReal := P.Z t (ul f)
def Act (t : Fin 4096) (f : Fin 2816) : EReal := P.G t f * Ideal.logistic (P.G t f) * P.Up t f
def U (t : Fin 4096) (d : Fin 1024) : EReal := ∑ f, P.Act t f * P.Wo f d
/-- The part of a token's row that one half of the lanes makes. -/
def Uh (h : Fin 2) (t : Fin 4096) (d : Fin 1024) : EReal := ∑ f, P.Act t (lane h f) * P.Wo (lane h f) d
/-- The sublayer's output. -/
def Y (t : Fin 4096) (d : Fin 1024) : EReal := P.X t d + half * (1 + P.Ga d) * (P.U t d * rinv (P.U t) * P.Gq d)
/-- The output less the target. -/
def Er (t : Fin 4096) (d : Fin 1024) : EReal := P.Y t d - P.Ct t d
/-- The mean square error of a token. -/
def Row (t : Fin 4096) : EReal := Ideal.div (∑ d, P.Er t d * P.Er t d) width
/-- The loss. -/
def Loss : EReal := half * ∑ t, P.Row t
/-- The loss's gradient at the output. -/
def dY (t : Fin 4096) (d : Fin 1024) : EReal := P.Er t d * Ideal.ofBits .f32 0x3A800000#32

end Args

theorem sum_halves (g : Fin 2816 → EReal) : ∑ f, g f = (∑ f, g (lane 0 f)) + ∑ f, g (lane 1 f) := by
  rw [Fin.sum_univ_add (a := 1408) (b := 1408) g]
  refine congrArg₂ _ (Finset.sum_congr rfl fun f _ => congrArg g (Fin.ext ?_)) (Finset.sum_congr rfl fun f _ => congrArg g (Fin.ext ?_))
  · simp [lane]
  · simp [lane, Nat.add_comm]

theorem Args.U_halves (P : Args) (t : Fin 4096) (d : Fin 1024) : P.U t d = P.Uh 0 t d + P.Uh 1 t d := sum_halves _

/-- The token in row `a` of the block of point `n`. -/
def tok (n : ℕ) (hn : n < 8) (a : Fin 512) : Fin 4096 := ⟨n * 512 + a.val, by omega⟩

/-- A sum over the points and the rows of their blocks is a sum over the tokens. -/
theorem sum_tok (g : Fin 4096 → EReal) : ∑ n : Fin 8, ∑ a : Fin 512, g (tok n.val n.isLt a) = ∑ t, g t := by
  rw [← Fintype.sum_prod_type', ← Equiv.sum_comp (finProdFinEquiv (m := 8) (n := 512)) g]
  refine Finset.sum_congr rfl fun x _ => congrArg g (Fin.ext ?_)
  show x.1.val * 512 + x.2.val = x.2.val + 512 * x.1.val
  ring

theorem half_nonneg : 0 ≤ half := by
  show (0 : EReal) ≤ Ideal.ofBits .f32 0x3F000000#32
  rw [Cert.Ffn.word_half]
  exact EReal.coe_nonneg.mpr (by norm_num)

theorem half_ne_top : half ≠ ⊤ := by
  show Ideal.ofBits .f32 0x3F000000#32 ≠ ⊤
  rw [Cert.Ffn.word_half]
  exact EReal.coe_ne_top _

/-- Half of a sum is the sum of the halves. -/
theorem half_sum {ι : Type*} (s : Finset ι) (f : ι → EReal) : half * ∑ i ∈ s, f i = ∑ i ∈ s, half * f i := by
  classical
  induction s using Finset.induction_on with
  | empty => simp
  | insert a s ha ih => rw [Finset.sum_insert ha, Finset.sum_insert ha, EReal.left_distrib_of_nonneg_of_ne_top half_nonneg half_ne_top, ih]

/-- The loss, added up block by block. -/
theorem Args.Loss_blocks (P : Args) : ∑ n : Fin 8, half * ∑ a : Fin 512, P.Row (tok n.val n.isLt a) = P.Loss := by
  rw [← half_sum, sum_tok]
  rfl

theorem word_inv_width : Ideal.ofBits .f32 0x3A800000#32 = ((1 / 1024 : ℝ) : EReal) := by
  simp [Ideal.ofBits, Ideal.ieee]; rw [← EReal.coe_mul]; norm_num

theorem word_two : Ideal.ofBits .f32 0x40000000#32 = ((2 : ℝ) : EReal) := by
  simp [Ideal.ofBits, Ideal.ieee]; rw [← EReal.coe_mul]; norm_num

/-- The gradient of a mean of squares, as the chain of its operations makes it. -/
theorem grad_eq (e : EReal) :
    Ideal.div (half * 1) width * (Ideal.ofBits .f32 0x40000000#32 * e) = e * Ideal.ofBits .f32 0x3A800000#32 := by
  rw [mul_one]
  show Ideal.div (Ideal.ofBits .f32 0x3F000000#32) (Ideal.ofBits .f32 0x44800000#32) * (Ideal.ofBits .f32 0x40000000#32 * e) = _
  rw [Cert.Ffn.word_half, Cert.Ffn.word_1024, Cert.Ffn.div_1024, word_two, word_inv_width, ← mul_assoc, ← EReal.coe_mul, mul_comm]
  norm_num

end
end Cert.Last
-- ==== Proof.LastBlock0.lean ====
module
public import proofs.«01_k».proof.Proof.Gen.Kernel4Ideal.Frame
public import Idealize.ShloMosaic.Lib.Pipeline.ValueKit
public import Idealize.ShloMosaic.Lib.Pipeline.ReadBack
public import Idealize.ShloMosaic.Lib.Pointwise
public import proofs.«01_k».proof.Proof.LastFormula

/-! # What a step of the forward pass's first grid computes

Its three outputs at an index, over real operands. -/

@[expose] public section
set_option maxRecDepth 16384

namespace Cert.Kernel4Ideal.Hand
open Idealize.ShloMosaic
open Cert.Kernel4Ideal Cert.Kernel4Ideal.Gen
open Cert.Last Cert.Last.Args
open Cert.Ffn.Args (gl ul lane)

/-- The five rows of the table of vectors. -/
structure Rows (P : Args) (x : Vec Ideal S8x1024 .f32) : Prop where
  r0 : ∀ d, x (ix2 0 d) = (P.Gp d)
  r1 : ∀ d, x (ix2 1 d) = (P.Gq d)
  r2 : ∀ d, x (ix2 2 d) = (P.Sh d)
  r3 : ∀ d, x (ix2 3 d) = (P.Sc d)
  r4 : ∀ d, x (ix2 4 d) = (P.Ga d)

variable (P : Args) (T : Fin 512 → Fin 4096) (h : Fin 2)
  (x0 : Vec Ideal S512x1024 .f32) (x1 : Vec Ideal S8x1024 .f32) (x2 x3 : Vec Ideal S1x1024x1408 .bf16)
  (x4 : Vec Ideal S1x1408x1024 .bf16)

theorem hidden_row (b c e : Vec Ideal S1x1024 .f32) (hx : ∀ a d, x0 (ix2 a d) = (P.X (T a) d))
    (hb : ∀ d, b (ix2 0 d) = (P.Gp d)) (hc : ∀ d, c (ix2 0 d) = (P.Sc d))
    (he : ∀ d, e (ix2 0 d) = (P.Sh d)) (a : Fin 512) (d : Fin 1024) :
    k0_pay4 x0 b c e (ix2 a d) = (P.H (T a) d) := by
  pointwise [k0_pay4]
  simp only [hx, hb, hc, he]
  rfl

theorem gate_row (b c e : Vec Ideal S1x1024 .f32)
    (hH : ∀ a d, k0_pay4 x0 b c e (ix2 a d) = (P.H (T a) d))
    (hw : ∀ d f, x2 (ix3 0 d f) = (P.Wi d (gl (lane h f)))) (a : Fin 512) (f : Fin 1408) :
    k0_pay5 x0 b c e x2 (ix2 a f) = (P.G (T a) (lane h f)) := by
  pointwise [k0_pay5]
  simp only [hH, hw]
  rfl

theorem up_row (b c e : Vec Ideal S1x1024 .f32)
    (hH : ∀ a d, k0_pay4 x0 b c e (ix2 a d) = (P.H (T a) d))
    (hw : ∀ d f, x3 (ix3 0 d f) = (P.Wi d (ul (lane h f)))) (a : Fin 512) (f : Fin 1408) :
    k0_pay6 x0 b c e x3 (ix2 a f) = (P.Up (T a) (lane h f)) := by
  pointwise [k0_pay6]
  simp only [hH, hw]
  rfl

theorem part_row (g u : Vec Ideal S512x1408 .f32) (hg : ∀ a f, g (ix2 a f) = (P.G (T a) (lane h f)))
    (hu : ∀ a f, u (ix2 a f) = (P.Up (T a) (lane h f)))
    (hw : ∀ f d, x4 (ix3 0 f d) = (P.Wo (lane h f) d)) (a : Fin 512) (d : Fin 1024) :
    k0_pay3 g u x4 (ix2 a d) = (P.Uh h (T a) d) := by
  pointwise [k0_pay3]
  simp only [hg, hu, hw]
  rfl

theorem row0 (d : Fin 1024) : View.ld x1 r0_1 (ix2 0 d) = x1 (ix2 0 d) := by pointwise []
theorem row3 (d : Fin 1024) : View.ld x1 r0_2 (ix2 0 d) = x1 (ix2 3 d) := by pointwise []
theorem row2 (d : Fin 1024) : View.ld x1 r0_3 (ix2 0 d) = x1 (ix2 2 d) := by pointwise []

theorem hidden_ld (hx : ∀ a d, x0 (ix2 a d) = (P.X (T a) d)) (hv : Rows P x1) (a : Fin 512) (d : Fin 1024) :
    k0_pay4 x0 (View.ld x1 r0_1) (View.ld x1 r0_2) (View.ld x1 r0_3) (ix2 a d) = (P.H (T a) d) :=
  hidden_row P T x0 _ _ _ hx (fun d => (row0 x1 d).trans (hv.r0 d)) (fun d => (row3 x1 d).trans (hv.r3 d))
    (fun d => (row2 x1 d).trans (hv.r2 d)) a d

/-- The first output block. -/
theorem block0_5 (hx : ∀ a d, x0 (ix2 a d) = (P.X (T a) d)) (hv : Rows P x1) (a : Fin 512) (d : Fin 1024) :
    out0_5 x0 x1 x2 x3 x4 (ix2 a d) = (P.H (T a) d) := by
  unfold out0_5
  frame_out
  exact hidden_ld P T x0 x1 hx hv a d

theorem whole_rows : View.ld x0 r0_0 = x0 := View.ld_unit_lit' _ _ (by decide)
theorem whole_in : View.ld x2 r0_4 = x2 := View.ld_unit_lit' _ _ (by decide)

theorem eq_ix3_of {n m l : ℕ} (x : (⟨3, ![n, m, l]⟩ : Shape).Idx) (a : Fin n) (b : Fin m) (c : Fin l) (ha : a.val = (x 0).val)
    (hb : b.val = (x 1).val) (hc : c.val = (x 2).val) : x = ix3 a b c := by
  rw [Fin.ext (a := a) (b := x 0) ha, Fin.ext (a := b) (b := x 1) hb, Fin.ext (a := c) (b := x 2) hc]
  exact eq_ix3 x

theorem up_ld (hx : ∀ a d, x0 (ix2 a d) = (P.X (T a) d)) (hv : Rows P x1)
    (hw' : ∀ d f, x3 (ix3 0 d f) = (P.Wi d (ul (lane h f)))) (a : Fin 512) (f : Fin 1408) :
    k0_pay8 x0 x1 x2 x3 x4 (ix2 a f) = (P.Up (T a) (lane h f)) := by
  unfold k0_pay8
  simp (disch := decide) only [View.ld_unit_lit']
  exact up_row P T h x0 x3 _ _ _ (hidden_ld P T x0 x1 hx hv) hw' a f

/-- The half row's block. -/
theorem block0_7 (hx : ∀ a d, x0 (ix2 a d) = (P.X (T a) d)) (hv : Rows P x1)
    (hw : ∀ d f, x2 (ix3 0 d f) = (P.Wi d (gl (lane h f))))
    (hw' : ∀ d f, x3 (ix3 0 d f) = (P.Wi d (ul (lane h f))))
    (ho : ∀ f d, x4 (ix3 0 f d) = (P.Wo (lane h f) d)) (a : Fin 512) (d : Fin 1024) :
    out0_7 x0 x1 x2 x3 x4 (ix2 a d) = (P.Uh h (T a) d) := by
  have H := hidden_ld P T x0 x1 hx hv
  unfold out0_7
  frame_out
  exact part_row P T h x4 _ _ (gate_row P T h x0 x2 _ _ _ H hw) (up_ld P T h x0 x1 x2 x3 x4 hx hv hw') ho a d

end Cert.Kernel4Ideal.Hand
-- ==== Proof.LastBase.lean ====
module
public import proofs.«01_k».proof.Proof.LastBlock0

/-! # The arrays every part of the feed-forward layer reads

The sublayer runs as two grids one after the other. Both of them read the table of vectors and the two weights, cut into
halves of their lanes; what those hold is stated here once, together with the token of a row of a block. -/

@[expose] public section
set_option maxRecDepth 16384

namespace Cert.Kernel4Ideal.Hand
open Idealize.ShloMosaic
open Cert.Kernel4Ideal Cert.Kernel4Ideal.Gen
open Cert.Last Cert.Last.Args
open Cert.Ffn.Args (gl ul lane)

/-- The contents of every array of a core, as a grid finds them. -/
abbrev Arrays := (c : Dev nD) → (b : Ref sig .tc) → Buf (Elt Ideal) ((c.tc : Thread nD τ).loc b)

/-- The block of the first weight that holds the gates of a half. -/
def gIdx (h : Fin 2) : Fin 4 := ⟨h.val, by omega⟩
/-- The block of the first weight that holds the gated lanes of a half. -/
def uIdx (h : Fin 2) : Fin 4 := ⟨h.val + 2, by omega⟩

/-- The arrays that no grid changes hold the arguments. -/
structure Base (P : Args) (V : Arrays) (c : Dev nD) : Prop where
  x : ∀ t d, V c main_arg0 (ix2 t d) = (P.X t d)
  ct : ∀ t d, V c main_arg8 (ix2 t d) = (P.Ct t d)
  rows : Rows P (V c main_v7)
  wg : ∀ h d f, V c main_v10 (ix3 (gIdx h) d f) = (P.Wi d (gl (lane h f)))
  wu : ∀ h d f, V c main_v10 (ix3 (uIdx h) d f) = (P.Wi d (ul (lane h f)))
  wo : ∀ h f d, V c main_v12 (ix3 h f d) = (P.Wo (lane h f) d)

theorem exists_ix2 {n m : ℕ} (y : (⟨2, ![n, m]⟩ : Shape).Idx) : ∃ (a : Fin n) (b : Fin m), y = ix2 a b := ⟨y 0, y 1, eq_ix2 y⟩

theorem exists_ix3 {n m l : ℕ} (y : (⟨3, ![n, m, l]⟩ : Shape).Idx) : ∃ (a : Fin n) (b : Fin m) (d : Fin l), y = ix3 a b d :=
  ⟨y 0, y 1, y 2, eq_ix3 y⟩

theorem eq_ix2_of {n m : ℕ} (x : (⟨2, ![n, m]⟩ : Shape).Idx) (a : Fin n) (b : Fin m) (ha : (x 0).val = a.val)
    (hb : (x 1).val = b.val) : x = ix2 a b := by
  rw [← Fin.ext (a := x 0) (b := a) ha, ← Fin.ext (a := x 1) (b := b) hb]
  exact eq_ix2 x

theorem eq_ix3_of' {n m l : ℕ} (x : (⟨3, ![n, m, l]⟩ : Shape).Idx) (a : Fin n) (b : Fin m) (d : Fin l) (ha : (x 0).val = a.val)
    (hb : (x 1).val = b.val) (hd : (x 2).val = d.val) : x = ix3 a b d := by
  rw [← Fin.ext (a := x 0) (b := a) ha, ← Fin.ext (a := x 1) (b := b) hb, ← Fin.ext (a := x 2) (b := d) hd]
  exact eq_ix3 x

/-! ## The rows of the table as the programs read them -/

section
variable (x : Vec Ideal S8x1024 .f32) (d : Fin 1024)
theorem ld_row0 : View.ld x (Rect.unit ![0, 0] ![1, 1024] inb_S8x1024_S1x1024_0_0) (ix2 0 d) = x (ix2 0 d) := by pointwise []
theorem ld_row1 : View.ld x (Rect.unit ![1, 0] ![1, 1024] inb_S8x1024_S1x1024_1_0) (ix2 0 d) = x (ix2 1 d) := by pointwise []
theorem ld_row2 : View.ld x (Rect.unit ![2, 0] ![1, 1024] inb_S8x1024_S1x1024_2_0) (ix2 0 d) = x (ix2 2 d) := by pointwise []
theorem ld_row3 : View.ld x (Rect.unit ![3, 0] ![1, 1024] inb_S8x1024_S1x1024_3_0) (ix2 0 d) = x (ix2 3 d) := by pointwise []
theorem ld_row4 : View.ld x (Rect.unit ![4, 0] ![1, 1024] inb_S8x1024_S1x1024_4_0) (ix2 0 d) = x (ix2 4 d) := by pointwise []
end

end Cert.Kernel4Ideal.Hand
-- ==== Proof.LastPrelude.lean ====
module
public import proofs.«01_k».proof.Proof.Gen.Kernel4Ideal.Frame
public import Idealize.ShloMosaic.Lib.StableHlo.ReadAt
public import proofs.«01_k».proof.Proof.LastBase

/-! # What the grids of the feed-forward layer read

The table of vectors and the two weights in halves, as functions of the arguments, and what they hold. -/

@[expose] public section
set_option maxRecDepth 16384

namespace Cert.Last
open Idealize.ShloMosaic
open Cert.Kernel4Ideal
open Args

/-- The arguments hold the numbers of `P`. -/
structure Holds (P : Args) (x : FVec Ideal S4096x1024 .f32) (sh sc ga gp gq : FVec Ideal S1024 .f32)
    (wi : FVec Ideal S1024x5632 .f32) (wo : FVec Ideal S2816x1024 .f32) (ct : FVec Ideal S4096x1024 .f32) : Prop where
  x : ∀ t d, x (ix2 t d) = (P.X t d)
  sh : ∀ d, sh (ix1 d) = (P.Sh d)
  sc : ∀ d, sc (ix1 d) = (P.Sc d)
  ga : ∀ d, ga (ix1 d) = (P.Ga d)
  gp : ∀ d, gp (ix1 d) = (P.Gp d)
  gq : ∀ d, gq (ix1 d) = (P.Gq d)
  wi : ∀ d j, wi (ix2 d j) = (P.Wi d j)
  wo : ∀ f d, wo (ix2 f d) = (P.Wo f d)
  ct : ∀ t d, ct (ix2 t d) = (P.Ct t d)

end Cert.Last

namespace Cert.Kernel4Ideal.Hand
open Idealize.ShloMosaic
open Cert.Kernel4Ideal Cert.Kernel4Ideal.Gen
open Cert.Last Cert.Last.Args
open Cert.Ffn.Args (gl ul lane)

/-- A vector as a row. -/
noncomputable def kRow (v : FVec Ideal S1024 .f32) : FVec Ideal S1x1024 .f32 :=
  broadcastInDim S1x1024 ![1] bcast_S1024_S1x1024_1 v

/-- The five vectors, one above the other. -/
noncomputable def kFive (r0 r1 r2 r3 r4 : FVec Ideal S1x1024 .f32) : FVec Ideal S5x1024 .f32 :=
  concatenate S5x1024 0 [⟨S1x1024, r0⟩, ⟨S1x1024, r1⟩, ⟨S1x1024, r2⟩, ⟨S1x1024, r3⟩, ⟨S1x1024, r4⟩]
    concatenates_S1x1024_S1x1024_S1x1024_S1x1024_S1x1024_S5x1024_d0

/-- The table: the five vectors and three rows of zeros. -/
noncomputable def kTab (r : FVec Ideal S5x1024 .f32) : FVec Ideal S8x1024 .f32 :=
  concatenate S8x1024 0 [⟨S5x1024, r⟩, ⟨S3x1024, broadcastInDim S3x1024 ![] bcast_S_S3x1024 (constant (F := Ideal) S_ .f32 0x00000000#32)⟩]
    concatenates_S5x1024_S3x1024_S8x1024_d0

/-- The first weight in four blocks of lanes. -/
noncomputable def kWi (w : FVec Ideal S1024x5632 .f32) : FVec Ideal S4x1024x1408 .bf16 :=
  truncf .bf16 (transpose S4x1024x1408 [1, 0, 2] (shapeCast S1024x4x1408 w shapeCasts_S1024x5632_S1024x4x1408)
    transposes_S1024x4x1408_S4x1024x1408_1_0_2) bitsLt_bf16_f32

/-- The second weight in two blocks of lanes. -/
noncomputable def kWo (w : FVec Ideal S2816x1024 .f32) : FVec Ideal S2x1408x1024 .bf16 :=
  truncf .bf16 (shapeCast S2x1408x1024 w shapeCasts_S2816x1024_S2x1408x1024) bitsLt_bf16_f32

section
variable (r0 r1 r2 r3 r4 : FVec Ideal S1x1024 .f32) (d : Fin 1024)
theorem five0 : kTab (kFive r0 r1 r2 r3 r4) (ix2 0 d) = r0 (ix2 0 d) := by pointwise [kTab, kFive]
theorem five1 : kTab (kFive r0 r1 r2 r3 r4) (ix2 1 d) = r1 (ix2 0 d) := by pointwise [kTab, kFive]
theorem five2 : kTab (kFive r0 r1 r2 r3 r4) (ix2 2 d) = r2 (ix2 0 d) := by pointwise [kTab, kFive]
theorem five3 : kTab (kFive r0 r1 r2 r3 r4) (ix2 3 d) = r3 (ix2 0 d) := by pointwise [kTab, kFive]
theorem five4 : kTab (kFive r0 r1 r2 r3 r4) (ix2 4 d) = r4 (ix2 0 d) := by pointwise [kTab, kFive]
theorem row_at (v : FVec Ideal S1024 .f32) : kRow v (ix2 0 d) = v (ix1 d) := by pointwise [kRow]
end

theorem kWi_at (w : FVec Ideal S1024x5632 .f32) (n : Fin 4) (d : Fin 1024) (f : Fin 1408) :
    (kWi w (ix3 n d f) : EReal) = w (ix2 d ⟨n.val * 1408 + f.val, by omega⟩) := by
  pointwise [kWi]

theorem kWo_at (w : FVec Ideal S2816x1024 .f32) (h : Fin 2) (f : Fin 1408) (d : Fin 1024) :
    (kWo w (ix3 h f d) : EReal) = w (ix2 (lane h f) d) := by
  pointwise [kWo]
  exact congrArg (fun k => w (ix2 k d)) (Fin.ext (by simp [lane, Nat.mul_comm]))

variable (m : (ℓ : Loc nD τ sig) → Buf (Elt Ideal) ℓ) (ρ : Dev nD → PrngReg) (c : Dev nD)

/-- The arguments. -/
abbrev arg0 : FVec Ideal S4096x1024 .f32 := m ((c.tc : Thread nD τ).loc main_arg0)
abbrev arg1 : FVec Ideal S1024 .f32 := m ((c.tc : Thread nD τ).loc main_arg1)
abbrev arg2 : FVec Ideal S1024 .f32 := m ((c.tc : Thread nD τ).loc main_arg2)
abbrev arg3 : FVec Ideal S1024 .f32 := m ((c.tc : Thread nD τ).loc main_arg3)
abbrev arg4 : FVec Ideal S1024 .f32 := m ((c.tc : Thread nD τ).loc main_arg4)
abbrev arg5 : FVec Ideal S1024 .f32 := m ((c.tc : Thread nD τ).loc main_arg5)
abbrev arg6 : FVec Ideal S1024x5632 .f32 := m ((c.tc : Thread nD τ).loc main_arg6)
abbrev arg7 : FVec Ideal S2816x1024 .f32 := m ((c.tc : Thread nD τ).loc main_arg7)
abbrev arg8 : FVec Ideal S4096x1024 .f32 := m ((c.tc : Thread nD τ).loc main_arg8)

theorem V1_v10 : V1 m ρ c main_v10 = kWi (arg6 m c) := by
  unfold V1 W1
  after_reads_simp
  rfl

theorem V1_v12 : V1 m ρ c main_v12 = kWo (arg7 m c) := by
  unfold V1 W1
  after_reads_simp
  rfl

theorem five_congr {r0 r1 r2 r3 r4 s0 s1 s2 s3 s4 : FVec Ideal S1x1024 .f32} (h0 : r0 = s0) (h1 : r1 = s1) (h2 : r2 = s2)
    (h3 : r3 = s3) (h4 : r4 = s4) : kFive r0 r1 r2 r3 r4 = kFive s0 s1 s2 s3 s4 := by
  rw [h0, h1, h2, h3, h4]

theorem V1_v7 : V1 m ρ c main_v7 = kTab (kFive (kRow (arg4 m c)) (kRow (arg5 m c)) (kRow (arg1 m c)) (kRow (arg2 m c)) (kRow (arg3 m c))) := by
  unfold V1 W1
  after_reads_simp
  refine congrArg₂ (fun (x : FVec Ideal S5x1024 .f32) (y : FVec Ideal S3x1024 .f32) => (concatenate S8x1024 0 [⟨S5x1024, x⟩, ⟨S3x1024, y⟩]
    concatenates_S5x1024_S3x1024_S8x1024_d0 : FVec Ideal S8x1024 .f32)) ?_ ?_
  · after_reads_simp
    refine five_congr ?_ ?_ ?_ ?_ ?_ <;> (after_reads_simp; rfl)
  · after_reads_simp

/-- What the first grid finds. -/
theorem base1 {P : Args} (H : Holds P (arg0 m c) (arg1 m c) (arg2 m c) (arg3 m c) (arg4 m c) (arg5 m c) (arg6 m c) (arg7 m c) (arg8 m c)) :
    Base P (V1 m ρ) c where
  x t d := (congrFun (W1_args m ρ c main_arg0 (by decide)) _).trans (H.x t d)
  ct t d := (congrFun (W1_args m ρ c main_arg8 (by decide)) _).trans (H.ct t d)
  rows := by
    rw [V1_v7]
    exact ⟨fun d => (five0 _ _ _ _ _ d).trans ((row_at d _).trans (H.gp d)), fun d => (five1 _ _ _ _ _ d).trans ((row_at d _).trans (H.gq d)),
      fun d => (five2 _ _ _ _ _ d).trans ((row_at d _).trans (H.sh d)), fun d => (five3 _ _ _ _ _ d).trans ((row_at d _).trans (H.sc d)),
      fun d => (five4 _ _ _ _ _ d).trans ((row_at d _).trans (H.ga d))⟩
  wg h d f := by
    rw [V1_v10]
    refine (kWi_at _ _ d f).trans ((congrArg (arg6 m c) ?_).trans (H.wi _ _))
    exact congrArg (ix2 d) (Fin.ext (by simp [gIdx, gl, lane, Nat.mul_comm]))
  wu h d f := by
    rw [V1_v10]
    refine (kWi_at _ _ d f).trans ((congrArg (arg6 m c) ?_).trans (H.wi _ _))
    exact congrArg (ix2 d) (Fin.ext (by simp [uIdx, ul, lane]; omega))
  wo h f d := by
    rw [V1_v12]
    exact (kWo_at _ _ f d).trans (H.wo _ _)

/-- The same after a grid or a stretch of lines that leaves those arrays as they are. -/
theorem Base.of {P : Args} {V V' : Arrays} {c : Dev nD} (B : Base P V c) (h0 : V' c main_arg0 = V c main_arg0)
    (h8 : V' c main_arg8 = V c main_arg8) (h7 : V' c main_v7 = V c main_v7) (h10 : V' c main_v10 = V c main_v10)
    (h12 : V' c main_v12 = V c main_v12) : Base P V' c where
  x t d := (congrFun h0 _).trans (B.x t d)
  ct t d := (congrFun h8 _).trans (B.ct t d)
  rows := by
    rw [h7]
    exact B.rows
  wg h d f := (congrFun h10 _).trans (B.wg h d f)
  wu h d f := (congrFun h10 _).trans (B.wu h d f)
  wo h f d := (congrFun h12 _).trans (B.wo h f d)

end Cert.Kernel4Ideal.Hand
-- ==== Proof.LastReference.lean ====
module
public import proofs.«01_k».proof.Proof.Gen.Reference4Ideal.Read
public import proofs.«01_k».proof.Proof.LastPrelude
public import Idealize.ShloMosaic.Lib.Pointwise

/-! # The reference's stages for the last sublayer and its loss, at an index

Each stage that carries a value of its own is read at an index as a formula of extended reals. -/

@[expose] public section
set_option maxRecDepth 16384

namespace Cert.Last
open Idealize.ShloMosaic
open Cert.Reference4Ideal Cert.Reference4Ideal.Read
open Cert.Ffn.Args (gl ul lane)
open Cert.Ffn (word_zero)
open Args

variable {P : Args} {x0 : FVec Ideal S4096x1024 .f32} {x1 x2 x3 x4 x5 : FVec Ideal S1024 .f32} {x6 : FVec Ideal S1024x5632 .f32}
  {x7 : FVec Ideal S2816x1024 .f32} {x8 : FVec Ideal S4096x1024 .f32} (H : Holds P x0 x1 x2 x3 x4 x5 x6 x7 x8)
include H

theorem v7_at (t : Fin 4096) : (val_main_v7 (F := Ideal) x0 (ix2 t 0) : EReal) = rinv (P.X t) := by
  pointwise [val_main_v7, val_main_v6, val_main_v5, val_main_cst_1, val_main_v4, val_main_v3, val_main_cst_0, val_main_v2, val_main_v1, val_main_cst, val_main_v0]
  simp only [H.x, word_zero, zero_add]
  rfl

theorem v12_at (t : Fin 4096) (d : Fin 1024) : (val_main_v12 (F := Ideal) x0 x4 (ix2 t d) : EReal) = P.X t d * rinv (P.X t) * P.Gp d := by
  pointwise [val_main_v12, val_main_v11, val_main_v10, val_main_v9, val_main_v8]
  simp only [H.x, H.gp, v7_at H]

theorem v20_at (t : Fin 4096) (d : Fin 1024) : (val_main_v20 (F := Ideal) x0 x1 x2 x4 (ix2 t d) : EReal) = P.H t d := by
  pointwise [val_main_v20, val_main_v19, val_main_v18, val_main_v17, val_main_v16, val_main_v15, val_main_v14, val_main_v13, val_main_cst_2]
  simp only [H.sh, H.sc, v12_at H]
  rfl

theorem v21_at (t : Fin 4096) (j : Fin 5632) : (val_main_v21 (F := Ideal) x0 x1 x2 x4 x6 (ix2 t j) : EReal) = P.Z t j := by
  pointwise [val_main_v21]
  simp only [v20_at H, H.wi]
  rfl

theorem v22_at (t : Fin 4096) (f : Fin 2816) : (val_main_v22 (F := Ideal) x0 x1 x2 x4 x6 (ix2 t f) : EReal) = P.G t f := by
  pointwise [val_main_v22]
  exact v21_at H t (gl f)

theorem v23_at (t : Fin 4096) (f : Fin 2816) : (val_main_v23 (F := Ideal) x0 x1 x2 x4 x6 (ix2 t f) : EReal) = P.Up t f := by
  pointwise [val_main_v23]
  exact v21_at H t (ul f)

theorem v25_at (t : Fin 4096) (f : Fin 2816) : (val_main_v25 (F := Ideal) x0 x1 x2 x4 x6 (ix2 t f) : EReal) = P.Act t f := by
  pointwise [val_main_v25, val_main_v24, val_main_call0_v5, val_main_call0_v4, val_main_call0_cst_0, val_main_call0_v3, val_main_call0_v2, val_main_call0_cst, val_main_call0_v1, val_main_call0_v0]
  simp only [v22_at H, v23_at H]
  rfl

theorem v26_at (t : Fin 4096) (d : Fin 1024) : (val_main_v26 (F := Ideal) x0 x1 x2 x4 x6 x7 (ix2 t d) : EReal) = P.U t d := by
  pointwise [val_main_v26]
  simp only [v25_at H, H.wo]
  rfl

theorem v38_at (t : Fin 4096) : (val_main_v38 (F := Ideal) x0 x1 x2 x4 x6 x7 (ix2 t 0) : EReal) = rinv (P.U t) := by
  pointwise [val_main_v38, val_main_v37, val_main_v36, val_main_cst_7, val_main_v35, val_main_v34, val_main_cst_6, val_main_v33, val_main_v32, val_main_cst_5, val_main_v31]
  simp only [v26_at H, word_zero, zero_add]
  rfl

theorem v45_at (t : Fin 4096) (d : Fin 1024) : (val_main_v45 (F := Ideal) x3 (ix2 t d) : EReal) = half * (1 + P.Ga d) := by
  pointwise [val_main_v45, val_main_v44, val_main_v30, val_main_v29, val_main_cst_4, val_main_v28, val_main_v27, val_main_cst_3]
  simp only [H.ga]

theorem v47_at (t : Fin 4096) (d : Fin 1024) : (val_main_v47 (F := Ideal) x0 x1 x2 x3 x4 x5 x6 x7 (ix2 t d) : EReal) = P.Y t d := by
  pointwise [val_main_v47, val_main_v46, val_main_v43, val_main_v42, val_main_v41, val_main_v40, val_main_v39]
  simp only [H.x, H.gq, v26_at H, v38_at H, v45_at H]
  rfl

theorem v48_at (t : Fin 4096) (d : Fin 1024) : (val_main_v48 (F := Ideal) x0 x1 x2 x3 x4 x5 x6 x7 x8 (ix2 t d) : EReal) = P.Er t d := by
  pointwise [val_main_v48]
  simp only [v47_at H, H.ct]
  rfl

theorem v54_at (t : Fin 4096) : (val_main_v54 (F := Ideal) x0 x1 x2 x3 x4 x5 x6 x7 x8 (ix1 t) : EReal) = P.Row t := by
  pointwise [val_main_v54, val_main_v53, val_main_cst_10, val_main_v52, val_main_cst_9, val_main_v49]
  simp only [v48_at H, word_zero, zero_add]
  rfl

/-- The loss. -/
theorem v56_at (i : S_.Idx) : (val_main_v56 (F := Ideal) x0 x1 x2 x3 x4 x5 x6 x7 x8 i : EReal) = P.Loss := by
  have e : (val_main_v55 (F := Ideal) x0 x1 x2 x3 x4 x5 x6 x7 x8 i : EReal) = ∑ t, P.Row t := by
    refine (val_main_v55_apply x0 x1 x2 x3 x4 x5 x6 x7 x8 i).trans ?_
    refine (congrArg₂ (fun a b : EReal => a + b) word_zero rfl).trans ?_
    rw [zero_add]
    let e1 : Fin 4096 ≃ S4096.Idx := ⟨fun t => ix1 t, fun i => i 0, fun _ => rfl, fun i => (eq_ix1 i).symm⟩
    rw [← Equiv.sum_comp e1]
    exact Finset.sum_congr rfl fun t _ => v54_at H t
  refine (val_main_v56_apply (F := Ideal) x0 x1 x2 x3 x4 x5 x6 x7 x8 i).trans ?_
  exact congrArg (half * ·) e

/-- The loss's gradient. -/
theorem v62_at (t : Fin 4096) (d : Fin 1024) : (val_main_v62 (F := Ideal) x0 x1 x2 x3 x4 x5 x6 x7 x8 (ix2 t d) : EReal) = P.dY t d := by
  pointwise [val_main_v62, val_main_v61, val_main_v60, val_main_v59, val_main_cst_15, val_main_v58, val_main_v57, val_main_cst_13, val_main_cst_14, val_main_v51, val_main_v50, val_main_cst_8]
  simp only [v48_at H]
  exact (show _ = Ideal.div (half * 1) width * (Ideal.ofBits .f32 0x40000000#32 * P.Er t d) by simp).trans (grad_eq _)

end Cert.Last
-- ==== Proof.LastRegion0.lean ====
module
public import proofs.«01_k».proof.Proof.LastBase

/-! # What the first grid of the forward pass leaves -/

@[expose] public section
set_option maxRecDepth 16384

namespace Cert.Kernel4Ideal.Hand
open Idealize.ShloMosaic
open Cert.Kernel4Ideal Cert.Kernel4Ideal.Gen
open Cert.Last Cert.Last.Args
open Cert.Ffn.Args (gl ul lane)

namespace R0

theorem idx0 : ∀ t : Fin cfg0.N, (cfg0.win 0).index t 0 = t.val ∧ (cfg0.win 0).index t 1 = 0 := by decide +kernel
theorem idx1 : ∀ t : Fin cfg0.N, (cfg0.win 1).index t 0 = 0 ∧ (cfg0.win 1).index t 1 = 0 := by decide +kernel
theorem idx2 : ∀ t : Fin cfg0.N, (cfg0.win 2).index t 0 = 0 ∧ (cfg0.win 2).index t 1 = 0 ∧ (cfg0.win 2).index t 2 = 0 := by decide +kernel
theorem idx3 : ∀ t : Fin cfg0.N, (cfg0.win 3).index t 0 = 2 ∧ (cfg0.win 3).index t 1 = 0 ∧ (cfg0.win 3).index t 2 = 0 := by decide +kernel
theorem idx4 : ∀ t : Fin cfg0.N, (cfg0.win 4).index t 0 = 0 ∧ (cfg0.win 4).index t 1 = 0 ∧ (cfg0.win 4).index t 2 = 0 := by decide +kernel
theorem idx5 : ∀ t : Fin cfg0.N, (cfg0.win 5).index t 0 = t.val ∧ (cfg0.win 5).index t 1 = 0 := by decide +kernel
theorem idx7 : ∀ t : Fin cfg0.N, (cfg0.win 7).index t 0 = t.val ∧ (cfg0.win 7).index t 1 = 0 := by decide +kernel

variable (P : Args) (V : Arrays) (c : Dev nD)

/-- The token of a row at a point. -/
abbrev tk (t : Fin cfg0.N) (a : Fin 512) : Fin 4096 := tok t.val t.isLt a

theorem in0 (B : Base P V c) (t : Fin cfg0.N) (a : Fin 512) (d : Fin 1024) :
    iblk0 V c 0 t (ix2 a d) = (P.X (tk t a) d) := by
  obtain ⟨e0, e1⟩ := idx0 t
  have h : (win0_0.blk t).view.emb (ix2 a d) = ix2 (tk t a) d := eq_ix2_of _ _ _ (by blk_simp [e0]; rfl) (by blk_simp [e1])
  blk_simp [iblk0]
  rw [h]
  exact B.x _ _

theorem blk1 (t : Fin cfg0.N) (a : Fin 8) (d : Fin 1024) : iblk0 V c 1 t (ix2 a d) = V c main_v7 (ix2 a d) := by
  obtain ⟨e0, e1⟩ := idx1 t
  blk_ext [iblk0, e0, e1]

theorem in1 (B : Base P V c) (t : Fin cfg0.N) : Rows P (iblk0 V c 1 t) :=
  ⟨fun d => (blk1 V c t 0 d).trans (B.rows.r0 d), fun d => (blk1 V c t 1 d).trans (B.rows.r1 d),
    fun d => (blk1 V c t 2 d).trans (B.rows.r2 d), fun d => (blk1 V c t 3 d).trans (B.rows.r3 d),
    fun d => (blk1 V c t 4 d).trans (B.rows.r4 d)⟩

theorem in2 (B : Base P V c) (t : Fin cfg0.N) (d : Fin 1024) (f : Fin 1408) :
    iblk0 V c 2 t (ix3 0 d f) = (P.Wi d (gl (lane 0 f))) := by
  obtain ⟨e0, e1, e2⟩ := idx2 t
  have h : (win0_2.blk t).view.emb (ix3 0 d f) = ix3 (gIdx 0) d f :=
    eq_ix3_of' _ _ _ _ (by blk_simp [e0]; rfl) (by blk_simp [e1]) (by blk_simp [e2])
  blk_simp [iblk0]
  rw [h]
  exact B.wg _ _ _

theorem in3 (B : Base P V c) (t : Fin cfg0.N) (d : Fin 1024) (f : Fin 1408) :
    iblk0 V c 3 t (ix3 0 d f) = (P.Wi d (ul (lane 0 f))) := by
  obtain ⟨e0, e1, e2⟩ := idx3 t
  have h : (win0_3.blk t).view.emb (ix3 0 d f) = ix3 (uIdx 0) d f :=
    eq_ix3_of' _ _ _ _ (by blk_simp [e0]; rfl) (by blk_simp [e1]) (by blk_simp [e2])
  blk_simp [iblk0]
  rw [h]
  exact B.wu _ _ _

theorem in4 (B : Base P V c) (t : Fin cfg0.N) (f : Fin 1408) (d : Fin 1024) :
    iblk0 V c 4 t (ix3 0 f d) = (P.Wo (lane 0 f) d) := by
  obtain ⟨e0, e1, e2⟩ := idx4 t
  have h : (win0_4.blk t).view.emb (ix3 0 f d) = ix3 (0 : Fin 2) f d :=
    eq_ix3_of' _ _ _ _ (by blk_simp [e0]; rfl) (by blk_simp [e1]) (by blk_simp [e2])
  blk_simp [iblk0]
  rw [h]
  exact B.wo _ _ _

/-- The scaled and modulated rows. -/
theorem hidden (B : Base P V c) : (dat0 V c).arrAt 5 cfg0.N = fun i => (P.H (i 0) (i 1)) := by
  refine (dat0 V c).arrAt_eq_of_covers 5 _ (by decide +kernel) fun t hf y => ?_
  blk_simp
  rw [after0_5]
  obtain ⟨a, d, rfl⟩ := exists_ix2 y
  obtain ⟨e0, e1⟩ := idx5 t
  have h : (win0_5.blk t).view.emb (ix2 a d) = ix2 (tk t a) d := eq_ix2_of _ _ _ (by blk_simp [e0]; rfl) (by blk_simp [e1])
  rw [h]
  exact block0_5 P (tk t) _ _ _ _ _ (in0 P V c B t) (in1 P V c B t) a d

/-- The first half's part of the rows that come out. -/
theorem part (B : Base P V c) : (dat0 V c).arrAt 7 cfg0.N = fun i => (P.Uh 0 (i 0) (i 1)) := by
  refine (dat0 V c).arrAt_eq_of_covers 7 _ (by decide +kernel) fun t hf y => ?_
  blk_simp
  rw [after0_7]
  obtain ⟨a, d, rfl⟩ := exists_ix2 y
  obtain ⟨e0, e1⟩ := idx7 t
  have h : (win0_7.blk t).view.emb (ix2 a d) = ix2 (tk t a) d := eq_ix2_of _ _ _ (by blk_simp [e0]; rfl) (by blk_simp [e1])
  rw [h]
  exact block0_7 P (tk t) 0 _ _ _ _ _ (in0 P V c B t) (in1 P V c B t) (in2 P V c B t) (in3 P V c B t) (in4 P V c B t) a d

end R0
end Cert.Kernel4Ideal.Hand
-- ==== Proof.LastBlock1.lean ====
module
public import proofs.«01_k».proof.Proof.LastBase

/-! # The second grid of the last sublayer, point by point

The other half of the lanes is added, the row is scaled to mean square one, gated and added to the row that came in. Then
the target is taken away, and the squares of what is left are added up. -/

@[expose] public section
set_option maxRecDepth 16384

namespace Cert.Kernel4Ideal.Hand
open Idealize.ShloMosaic
open Cert.Kernel4Ideal Cert.Kernel4Ideal.Gen
open Cert.Last Cert.Last.Args
open Cert.Ffn.Args (gl ul lane)

namespace R1

variable (P : Args) (T : Fin 512 → Fin 4096)
  (x0 : Vec Ideal S512x1024 .f32) (x1 : Vec Ideal S512x1024 .bf16) (x2 : Vec Ideal S512x1024 .f32) (x3 : Vec Ideal S8x1024 .f32)
  (x4 x5 : Vec Ideal S1x1024x1408 .bf16) (x6 : Vec Ideal S1x1408x1024 .bf16)

theorem gate_row (hh : ∀ a d, x1 (ix2 a d) = P.H (T a) d)
    (hw : ∀ d f, x4 (ix3 0 d f) = P.Wi d (gl (lane 1 f))) (a : Fin 512) (f : Fin 1408) :
    k1_pay4 x1 x4 (ix2 a f) = P.G (T a) (lane 1 f) := by
  pointwise [k1_pay4, k1_pay3]
  simp only [hh, hw]
  rfl

theorem up_row (hh : ∀ a d, x1 (ix2 a d) = P.H (T a) d)
    (hw : ∀ d f, x5 (ix3 0 d f) = P.Wi d (ul (lane 1 f))) (a : Fin 512) (f : Fin 1408) :
    k1_pay5 x1 x5 (ix2 a f) = P.Up (T a) (lane 1 f) := by
  pointwise [k1_pay5, k1_pay3]
  simp only [hh, hw]
  rfl

theorem row_out (hu : ∀ a d, x2 (ix2 a d) = P.Uh 0 (T a) d)
    (hg : ∀ a f, k1_pay4 x1 x4 (ix2 a f) = P.G (T a) (lane 1 f))
    (hp : ∀ a f, k1_pay5 x1 x5 (ix2 a f) = P.Up (T a) (lane 1 f))
    (ho : ∀ f d, x6 (ix3 0 f d) = P.Wo (lane 1 f) d) (a : Fin 512) (d : Fin 1024) :
    k1_pay8 x2 x1 x4 x5 x6 (ix2 a d) = P.U (T a) d := by
  rw [U_halves]
  pointwise [k1_pay8]
  simp only [hu, hg, hp, ho]
  rfl

theorem y_row (u : FVec Ideal S512x1024 .f32) (b e : Vec Ideal S1x1024 .f32)
    (hU : ∀ a d, u (ix2 a d) = P.U (T a) d) (hx : ∀ a d, x0 (ix2 a d) = P.X (T a) d)
    (hb : ∀ d, b (ix2 0 d) = P.Ga d) (he : ∀ d, e (ix2 0 d) = P.Gq d) (a : Fin 512) (d : Fin 1024) :
    k1_pay9 u x0 b e (ix2 a d) = P.Y (T a) d := by
  pointwise [k1_pay9]
  simp only [hU, hx, hb, he]
  rfl

variable (y z : Vec Ideal S512x1024 .f32)

theorem grad_row (hy : ∀ a d, y (ix2 a d) = P.Y (T a) d) (hz : ∀ a d, z (ix2 a d) = P.Ct (T a) d) (a : Fin 512) (d : Fin 1024) :
    k1_pay11 y z (ix2 a d) = P.dY (T a) d := by
  pointwise [k1_pay11, k1_pay10]
  simp only [hy, hz]
  rfl

theorem loss_row (l : Vec Ideal S1x1 .f32) (hy : ∀ a d, y (ix2 a d) = P.Y (T a) d) (hz : ∀ a d, z (ix2 a d) = P.Ct (T a) d) :
    (k1_pay1 (k1_pay12 l) (k1_pay13 y z) (ix2 0 0) : EReal) = l (ix2 0 0) + half * ∑ a, P.Row (T a) := by
  pointwise [k1_pay1, k1_pay12, k1_pay13, k1_pay10]
  simp only [hy, hz]
  rfl

theorem zero_loss : (k1_pay2 (F := Ideal) (ix2 0 0) : EReal) = 0 := by
  pointwise [k1_pay2]

end R1
end Cert.Kernel4Ideal.Hand
-- ==== Proof.LastRegion1.lean ====
module
public import proofs.«01_k».proof.Proof.LastBlock1

/-! # What the second grid of the last sublayer leaves -/

@[expose] public section
set_option maxRecDepth 16384

namespace Cert.Kernel4Ideal.Hand
open Idealize.ShloMosaic
open Cert.Kernel4Ideal Cert.Kernel4Ideal.Gen
open Cert.Last Cert.Last.Args
open Cert.Ffn.Args (gl ul lane)

namespace R1

theorem idx0 : ∀ t : Fin cfg1.N, (cfg1.win 0).index t 0 = t.val ∧ (cfg1.win 0).index t 1 = 0 := by decide +kernel
theorem idx1 : ∀ t : Fin cfg1.N, (cfg1.win 1).index t 0 = t.val ∧ (cfg1.win 1).index t 1 = 0 := by decide +kernel
theorem idx2 : ∀ t : Fin cfg1.N, (cfg1.win 2).index t 0 = t.val ∧ (cfg1.win 2).index t 1 = 0 := by decide +kernel
theorem idx3 : ∀ t : Fin cfg1.N, (cfg1.win 3).index t 0 = 0 ∧ (cfg1.win 3).index t 1 = 0 := by decide +kernel
theorem idx4 : ∀ t : Fin cfg1.N, (cfg1.win 4).index t 0 = 1 ∧ (cfg1.win 4).index t 1 = 0 ∧ (cfg1.win 4).index t 2 = 0 := by decide +kernel
theorem idx5 : ∀ t : Fin cfg1.N, (cfg1.win 5).index t 0 = 3 ∧ (cfg1.win 5).index t 1 = 0 ∧ (cfg1.win 5).index t 2 = 0 := by decide +kernel
theorem idx6 : ∀ t : Fin cfg1.N, (cfg1.win 6).index t 0 = 1 ∧ (cfg1.win 6).index t 1 = 0 ∧ (cfg1.win 6).index t 2 = 0 := by decide +kernel
theorem idx7 : ∀ t : Fin cfg1.N, (cfg1.win 7).index t 0 = t.val ∧ (cfg1.win 7).index t 1 = 0 := by decide +kernel
theorem idx8 : ∀ t : Fin cfg1.N, (cfg1.win 8).index t 0 = t.val ∧ (cfg1.win 8).index t 1 = 0 := by decide +kernel

variable (P : Args) (V : Arrays) (c : Dev nD)

/-- The token of a row at a point. -/
abbrev tk (t : Fin cfg1.N) (a : Fin 512) : Fin 4096 := tok t.val t.isLt a

/-- What the first grid leaves for this one. -/
structure Given (P : Args) (V : Arrays) (c : Dev nD) : Prop extends Base P V c where
  hid : ∀ t d, V c main_v13_0 (ix2 t d) = (P.H t d)
  part : ∀ t d, V c main_v13_2 (ix2 t d) = (P.Uh 0 t d)

theorem in0 (B : Base P V c) (t : Fin cfg1.N) (a : Fin 512) (d : Fin 1024) :
    iblk1 V c 0 t (ix2 a d) = (P.X (tk t a) d) := by
  obtain ⟨e0, e1⟩ := idx0 t
  have h : (win1_0.blk t).view.emb (ix2 a d) = ix2 (tk t a) d := eq_ix2_of _ _ _ (by blk_simp [e0]; rfl) (by blk_simp [e1])
  blk_simp [iblk1]
  rw [h]
  exact B.x _ _

theorem in1 (B : Given P V c) (t : Fin cfg1.N) (a : Fin 512) (d : Fin 1024) :
    iblk1 V c 1 t (ix2 a d) = (P.H (tk t a) d) := by
  obtain ⟨e0, e1⟩ := idx1 t
  have h : (win1_1.blk t).view.emb (ix2 a d) = ix2 (tk t a) d := eq_ix2_of _ _ _ (by blk_simp [e0]; rfl) (by blk_simp [e1])
  blk_simp [iblk1]
  rw [h]
  exact B.hid _ _

theorem in2 (B : Given P V c) (t : Fin cfg1.N) (a : Fin 512) (d : Fin 1024) :
    iblk1 V c 2 t (ix2 a d) = (P.Uh 0 (tk t a) d) := by
  obtain ⟨e0, e1⟩ := idx2 t
  have h : (win1_2.blk t).view.emb (ix2 a d) = ix2 (tk t a) d := eq_ix2_of _ _ _ (by blk_simp [e0]; rfl) (by blk_simp [e1])
  blk_simp [iblk1]
  rw [h]
  exact B.part _ _

theorem blk3 (t : Fin cfg1.N) (a : Fin 8) (d : Fin 1024) : iblk1 V c 3 t (ix2 a d) = V c main_v7 (ix2 a d) := by
  obtain ⟨e0, e1⟩ := idx3 t
  blk_ext [iblk1, e0, e1]

theorem in3 (B : Base P V c) (t : Fin cfg1.N) : Rows P (iblk1 V c 3 t) :=
  ⟨fun d => (blk3 V c t 0 d).trans (B.rows.r0 d), fun d => (blk3 V c t 1 d).trans (B.rows.r1 d),
    fun d => (blk3 V c t 2 d).trans (B.rows.r2 d), fun d => (blk3 V c t 3 d).trans (B.rows.r3 d),
    fun d => (blk3 V c t 4 d).trans (B.rows.r4 d)⟩

theorem in4 (B : Base P V c) (t : Fin cfg1.N) (d : Fin 1024) (f : Fin 1408) :
    iblk1 V c 4 t (ix3 0 d f) = (P.Wi d (gl (lane 1 f))) := by
  obtain ⟨e0, e1, e2⟩ := idx4 t
  have h : (win1_4.blk t).view.emb (ix3 0 d f) = ix3 (gIdx 1) d f :=
    eq_ix3_of' _ _ _ _ (by blk_simp [e0]; rfl) (by blk_simp [e1]) (by blk_simp [e2])
  blk_simp [iblk1]
  rw [h]
  exact B.wg _ _ _

theorem in5 (B : Base P V c) (t : Fin cfg1.N) (d : Fin 1024) (f : Fin 1408) :
    iblk1 V c 5 t (ix3 0 d f) = (P.Wi d (ul (lane 1 f))) := by
  obtain ⟨e0, e1, e2⟩ := idx5 t
  have h : (win1_5.blk t).view.emb (ix3 0 d f) = ix3 (uIdx 1) d f :=
    eq_ix3_of' _ _ _ _ (by blk_simp [e0]; rfl) (by blk_simp [e1]) (by blk_simp [e2])
  blk_simp [iblk1]
  rw [h]
  exact B.wu _ _ _

theorem in6 (B : Base P V c) (t : Fin cfg1.N) (f : Fin 1408) (d : Fin 1024) :
    iblk1 V c 6 t (ix3 0 f d) = (P.Wo (lane 1 f) d) := by
  obtain ⟨e0, e1, e2⟩ := idx6 t
  have h : (win1_6.blk t).view.emb (ix3 0 f d) = ix3 (1 : Fin 2) f d :=
    eq_ix3_of' _ _ _ _ (by blk_simp [e0]; rfl) (by blk_simp [e1]) (by blk_simp [e2])
  blk_simp [iblk1]
  rw [h]
  exact B.wo _ _ _

theorem gate (B : Given P V c) (t : Fin cfg1.N) (a : Fin 512) (f : Fin 1408) :
    k1_pay4 (iblk1 V c 1 t) (iblk1 V c 4 t) (ix2 a f) = (P.G (tk t a) (lane 1 f)) :=
  gate_row P (tk t) _ _ (in1 P V c B t) (in4 P V c B.toBase t) a f

theorem up (B : Given P V c) (t : Fin cfg1.N) (a : Fin 512) (f : Fin 1408) :
    k1_pay5 (iblk1 V c 1 t) (iblk1 V c 5 t) (ix2 a f) = (P.Up (tk t a) (lane 1 f)) :=
  up_row P (tk t) _ _ (in1 P V c B t) (in5 P V c B.toBase t) a f

theorem u_at (B : Given P V c) (t : Fin cfg1.N) (a : Fin 512) (d : Fin 1024) :
    k1_pay8 (iblk1 V c 2 t) (iblk1 V c 1 t) (iblk1 V c 4 t) (iblk1 V c 5 t) (iblk1 V c 6 t) (ix2 a d)
      = (P.U (tk t a) d) :=
  row_out P (tk t) _ _ _ _ _ (in2 P V c B t) (gate P V c B t) (up P V c B t) (in6 P V c B.toBase t) a d

theorem in7 (B : Base P V c) (t : Fin cfg1.N) (a : Fin 512) (d : Fin 1024) :
    iblk1 V c 7 t (ix2 a d) = P.Ct (tk t a) d := by
  obtain ⟨e0, e1⟩ := idx7 t
  have h : (win1_7.blk t).view.emb (ix2 a d) = ix2 (tk t a) d := eq_ix2_of _ _ _ (by blk_simp [e0]; rfl) (by blk_simp [e1])
  blk_simp [iblk1]
  rw [h]
  exact B.ct _ _

/-- The sublayer's output at a point. -/
noncomputable def yOf (V : Arrays) (c : Dev nD) (t : Fin cfg1.N) : Vec Ideal S512x1024 .f32 :=
  k1_pay9 (k1_pay8 (iblk1 V c 2 t) (iblk1 V c 1 t) (iblk1 V c 4 t) (iblk1 V c 5 t) (iblk1 V c 6 t)) (iblk1 V c 0 t)
    (View.ld (iblk1 V c 3 t) (Rect.unit ![4, 0] ![1, 1024] inb_S8x1024_S1x1024_4_0))
    (View.ld (iblk1 V c 3 t) (Rect.unit ![1, 0] ![1, 1024] inb_S8x1024_S1x1024_1_0))

theorem y_at (B : Given P V c) (t : Fin cfg1.N) (a : Fin 512) (d : Fin 1024) : yOf V c t (ix2 a d) = P.Y (tk t a) d :=
  y_row P (tk t) _ _ _ _ (u_at P V c B t) (in0 P V c B.toBase t)
    (fun d => (ld_row4 _ d).trans ((in3 P V c B.toBase t).r4 d)) (fun d => (ld_row1 _ d).trans ((in3 P V c B.toBase t).r1 d)) a d

theorem grad_point (B : Given P V c) (t : Fin cfg1.N) (a : Fin 512) (d : Fin 1024) :
    (outsAt1 V c t.val t.isLt).1 (ix2 a d) = P.dY (tk t a) d := by
  rcases Decidable.em (t.val % 8 = 0) with h0 | h0
  · rw [outsAt1_A V c t h0]
    dsimp only
    frame_open
    simp (disch := decide) only [↓ View.readCov_skip, ↓ View.readCov_cons_toLoadRect, ↓ View.readCov_fill]
    frame_out
    exact grad_row P (tk t) (yOf V c t) _ (y_at P V c B t) (in7 P V c B.toBase t) a d
  · rw [outsAt1_B V c t h0]
    dsimp only
    frame_open
    simp (disch := decide) only [↓ View.readCov_skip, ↓ View.readCov_cons_toLoadRect, ↓ View.readCov_fill]
    frame_out
    exact grad_row P (tk t) (yOf V c t) _ (y_at P V c B t) (in7 P V c B.toBase t) a d

theorem loss_step (B : Given P V c) (t : Fin cfg1.N) (h0 : ¬ t.val % 8 = 0) :
    ((outsAt1 V c t.val t.isLt).2.2.2 (ix2 0 0) : EReal)
      = (outsAt1 V c (t.val - 1) (by have := t.isLt; omega)).2.2.2 (ix2 0 0) + half * ∑ a, P.Row (tk t a) := by
  rw [outsAt1_B V c t h0]
  dsimp only
  frame_open
  simp (disch := decide) only [↓ View.readCov_skip, ↓ View.readCov_cons_toLoadRect, ↓ View.readCov_fill]
  frame_out
  exact loss_row P (tk t) (yOf V c t) _ _ (y_at P V c B t) (in7 P V c B.toBase t)

theorem loss_first (B : Given P V c) (t : Fin cfg1.N) (h0 : t.val % 8 = 0) :
    ((outsAt1 V c t.val t.isLt).2.2.2 (ix2 0 0) : EReal) = 0 + half * ∑ a, P.Row (tk t a) := by
  rw [outsAt1_A V c t h0]
  dsimp only
  frame_open
  simp (disch := decide) only [↓ View.readCov_skip, ↓ View.readCov_cons_toLoadRect, ↓ View.readCov_fill]
  frame_out
  exact (loss_row P (tk t) (yOf V c t) _ _ (y_at P V c B t) (in7 P V c B.toBase t)).trans (congrArg (· + _) zero_loss)

/-- The last point of the grid. -/
def tLast : Fin cfg1.N := ⟨7, by decide⟩

/-- The loss after the last point. -/
theorem loss_last (B : Given P V c) : ((outsAt1 V c tLast.val tLast.isLt).2.2.2 (ix2 0 0) : EReal) = P.Loss := by
  have e := Pipeline.eq_sum_fin_of_reset_step_apply_last
    (fun n hn (_ : Unit) => ((outsAt1 V c n hn).2.2.2 (ix2 0 0) : EReal)) 8 (fun _ => (0 : EReal))
    (fun t _ => half * ∑ a, P.Row (tk t a))
    (fun t h _ => loss_first P V c B t h) (fun t h _ => loss_step P V c B t h) (by decide) tLast (by decide) ()
  refine e.trans ?_
  rw [zero_add]
  exact P.Loss_blocks

/-- The loss the grid leaves. -/
theorem loss (B : Given P V c) : (dat1 V c).arrAt 11 cfg1.N = fun _ => P.Loss := by
  refine (dat1 V c).arrAt_eq_of_after_last 11 tLast (by decide +kernel) _ fun j => ?_
  blk_simp
  rw [after1_11]
  obtain ⟨r, d, rfl⟩ := exists_ix2 j
  obtain rfl : r = 0 := Subsingleton.elim _ _
  obtain rfl : d = 0 := Subsingleton.elim _ _
  exact loss_last P V c B

/-- The loss's gradient that the grid leaves. -/
theorem grad (B : Given P V c) : (dat1 V c).arrAt 8 cfg1.N = fun i => (P.dY (i 0) (i 1) : EReal) := by
  refine (dat1 V c).arrAt_eq_of_covers 8 _ (by decide +kernel) fun t hf y => ?_
  blk_simp
  rw [after1_8]
  obtain ⟨a, d, rfl⟩ := exists_ix2 y
  obtain ⟨e0, e1⟩ := idx8 t
  have h : (win1_8.blk t).view.emb (ix2 a d) = ix2 (tk t a) d := eq_ix2_of _ _ _ (by blk_simp [e0]; rfl) (by blk_simp [e1])
  rw [h]
  exact grad_point P V c B t a d

end R1
end Cert.Kernel4Ideal.Hand
-- ==== Proof.LastRun.lean ====
module
public import proofs.«01_k».proof.Proof.Gen.Kernel4Ideal.Frame

/-! # The run of the program, with what it leaves in every array

At the end every array holds what the fold of the program's segments gives it. -/

@[expose] public section
set_option maxRecDepth 16384

noncomputable section

namespace Cert.Kernel4Ideal.Hand
open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the arrays at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => h)

end Cert.Kernel4Ideal.Hand
end
-- ==== Proof.LastEquation.lean ====
module
public import proofs.«01_k».proof.Defs
public import proofs.«01_k».proof.Proof.Gen.Reference4Ideal.Run
public import proofs.«01_k».proof.Proof.LastReference
public import proofs.«01_k».proof.Proof.LastRegion0
public import proofs.«01_k».proof.Proof.LastRegion1
public import proofs.«01_k».proof.Proof.LastRun

/-! # The last sublayer's program with the loss against the reference

Both end with the same loss and the same gradient of the loss at the sublayer's output, whatever the arguments hold. -/

@[expose] public section
set_option maxRecDepth 16384

namespace Cert.Kernel4Ideal.Hand
open Idealize.ShloMosaic Idealize.SL.Sem
open Cert.Kernel4Ideal Cert.Kernel4Ideal.Gen
open Cert.Last

variable (m : (ℓ : Loc nD τ sig) → Buf (Elt Ideal) ℓ) (ρ : Dev nD → PrngReg) (c : Dev nD)

/-- The numbers the arguments hold. -/
noncomputable def argsOf : Args where
  X t d := arg0 m c (ix2 t d)
  Sh d := arg1 m c (ix1 d)
  Sc d := arg2 m c (ix1 d)
  Ga d := arg3 m c (ix1 d)
  Gp d := arg4 m c (ix1 d)
  Gq d := arg5 m c (ix1 d)
  Wi d j := arg6 m c (ix2 d j)
  Wo f d := arg7 m c (ix2 f d)
  Ct t d := arg8 m c (ix2 t d)

theorem holds : Holds (argsOf m c) (arg0 m c) (arg1 m c) (arg2 m c) (arg3 m c) (arg4 m c) (arg5 m c) (arg6 m c) (arg7 m c) (arg8 m c) :=
  ⟨fun _ _ => rfl, fun _ => rfl, fun _ => rfl, fun _ => rfl, fun _ => rfl, fun _ => rfl, fun _ _ => rfl, fun _ _ => rfl, fun _ _ => rfl⟩

/-- What the second grid finds. -/
theorem given1 : R1.Given (argsOf m c) (V3 m ρ) c where
  toBase := (base1 m ρ c (holds m c)).of ((W3_of m ρ c main_arg0 (by decide)).trans (W2_of m ρ c main_arg0 (by decide)))
    ((W3_of m ρ c main_arg8 (by decide)).trans (W2_of m ρ c main_arg8 (by decide)))
    ((W3_of m ρ c main_v7 (by decide)).trans (W2_of m ρ c main_v7 (by decide)))
    ((W3_of m ρ c main_v10 (by decide)).trans (W2_of m ρ c main_v10 (by decide)))
    ((W3_of m ρ c main_v12 (by decide)).trans (W2_of m ρ c main_v12 (by decide)))
  hid t d := congrFun ((W3_of m ρ c main_v13_0 (by decide)).trans ((W2_arr m ρ c 5).trans (R0.hidden _ (V1 m ρ) c (base1 m ρ c (holds m c))))) _
  part t d := congrFun ((W3_of m ρ c main_v13_2 (by decide)).trans ((W2_arr m ρ c 7).trans (R0.part _ (V1 m ρ) c (base1 m ρ c (holds m c))))) _

theorem end_grad : W5 m ρ c (Proc.devRef .tc main_v14_0) = fun i => ((argsOf m c).dY (i 0) (i 1) : EReal) :=
  (W5_of m ρ c main_v14_0 (by decide)).trans ((W4_arr m ρ c 8).trans (R1.grad _ (V3 m ρ) c (given1 m ρ c)))

theorem end_loss : W5 m ρ c (Proc.devRef .tc main_v15) = fun _ => ((argsOf m c).Loss : EReal) := by
  have e : W4 m ρ c (Proc.devRef .tc main_v14_3) = fun _ => ((argsOf m c).Loss : EReal) := (W4_arr m ρ c 11).trans (R1.loss _ (V3 m ρ) c (given1 m ρ c))
  unfold W5
  after_reads_simp
  rw [e]
  rfl

theorem eq_loss : W5 m ρ c (Proc.devRef .tc main_v15) = Cert.Reference4Ideal.Read.val_main_v56 (F := Ideal) (arg0 m c) (arg1 m c) (arg2 m c) (arg3 m c) (arg4 m c) (arg5 m c) (arg6 m c) (arg7 m c) (arg8 m c) := by
  funext i
  exact (congrFun (end_loss m ρ c) _).trans (Cert.Last.v56_at (holds m c) i).symm

theorem eq_grad : W5 m ρ c (Proc.devRef .tc main_v14_0) = Cert.Reference4Ideal.Read.val_main_v62 (F := Ideal) (arg0 m c) (arg1 m c) (arg2 m c) (arg3 m c) (arg4 m c) (arg5 m c) (arg6 m c) (arg7 m c) (arg8 m c) := by
  funext i
  obtain ⟨a, b, rfl⟩ := exists_ix2 i
  exact (congrFun (end_grad m ρ c) _).trans (Cert.Last.v62_at (holds m c) a b).symm

end Cert.Kernel4Ideal.Hand

namespace Cert.Hand
open Idealize.ShloMosaic Idealize.SL.Sem
open Cert.Kernel4Ideal.Hand (arg0 arg1 arg2 arg3 arg4 arg5 arg6 arg7 arg8)

/-- The reference's program keeps its arguments, and it has no semaphore. -/
theorem frame_reference4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The last sublayer's calls with the loss: both programs end with the same loss and the same gradient. -/
theorem algebraic_last : Cert.algebraic_Kernel4Ideal_Reference4Ideal := by
  intro m ρ m' ρ' _ hargs
  refine ⟨fun c => Cert.Reference4Ideal.Read.val_main_v56 (F := Ideal) (arg0 m c) (arg1 m c) (arg2 m c) (arg3 m c) (arg4 m c) (arg5 m c) (arg6 m c) (arg7 m c) (arg8 m c),
    fun c => Cert.Reference4Ideal.Read.val_main_v62 (F := Ideal) (arg0 m c) (arg1 m c) (arg2 m c) (arg3 m c) (arg4 m c) (arg5 m c) (arg6 m c) (arg7 m c) (arg8 m c), ?_, ?_⟩
  · refine (θ_run Cert.Kernel4Ideal.defs _ _).mono ?_
      (θ_run_and (Cert.Kernel4Ideal.Hand.run_main (F := Ideal) m ρ) (Cert.Kernel4Ideal.Gen.unchanged (F := Ideal) m ρ))
    intro r h c
    refine ⟨?_, ?_, h.2 c⟩
    · exact (h.1 c _ (Cert.Kernel4Ideal.Gen.mem_uc Cert.Kernel4Ideal.main_v15 (by decide))).trans (Cert.Kernel4Ideal.Hand.eq_loss m ρ c)
    · exact (h.1 c _ (Cert.Kernel4Ideal.Gen.mem_uc Cert.Kernel4Ideal.main_v14_0 (by decide))).trans (Cert.Kernel4Ideal.Hand.eq_grad m ρ c)
  · refine (θ_run Cert.Reference4Ideal.defs _ _).mono ?_ (Cert.Reference4Ideal.Value.run (F := Ideal) m' ρ')
    intro r h c
    obtain ⟨h0, h1, hk⟩ := h c
    obtain ⟨g0, g1, g2, g3, g4, g5, g6, g7, g8⟩ := hargs c
    refine ⟨?_, ?_, hk⟩
    · exact (h0.trans (Cert.Reference4Ideal.Read.val_main_v56_eq m' c)).trans (by rw [g0, g1, g2, g3, g4, g5, g6, g7, g8])
    · exact (h1.trans (Cert.Reference4Ideal.Read.val_main_v62_eq m' c)).trans (by rw [g0, g1, g2, g3, g4, g5, g6, g7, g8])

end Cert.Hand
-- ==== Proof.StepFormula.lean ====
module
public import proofs.«01_k».proof.Proof.FfnReal

/-! # The optimiser's step on one entry, and the gradient of the modulation's weight

The numbers that turn a weight, its gradient and its two running averages into the new averages and the step, and the
gradient of a weight that multiplies the rows of the conditioning after their activation. -/

@[expose] public section

namespace Cert.Step
open Idealize.ShloMosaic

/-- The next running average of the gradient. -/
noncomputable def avg (m g : EReal) : EReal := Ideal.ofBits .f32 0x3F666666#32 * m + Ideal.ofBits .f32 0x3DCCCCCD#32 * g

/-- The next running average of the gradient's square. -/
noncomputable def sq (v g : EReal) : EReal := Ideal.ofBits .f32 0x3F7FBE77#32 * v + Ideal.ofBits .f32 0x3A83126F#32 * (g * g)

/-- The step of a weight. -/
noncomputable def delta (w g m v : EReal) : EReal :=
  Ideal.ofBits .f32 0xBA83126F#32 * (Ideal.div (Ideal.div (avg m g) (Ideal.ofBits .f32 0x3F26BD02#32))
      (Ideal.sqrt (Ideal.div (sq v g) (Ideal.ofBits .f32 0x3C231ACC#32)) + Ideal.ofBits .f32 0x322BCC77#32)
    + Ideal.ofBits .f32 0x3C23D70A#32 * w)

/-- The activation. -/
noncomputable def act (x : EReal) : EReal := x * Ideal.logistic x

/-- The gradient of the modulation's weight from the conditioning's rows and the gradient of the modulation. -/
noncomputable def grad (C : Fin 8 → Fin 1024 → EReal) (D : Fin 2 → Fin 8 → Fin 2304 → EReal) (l : Fin 2) (k : Fin 1024)
    (j : Fin 2304) : EReal := ∑ b, act (C b k) * D l b j

/-- Eight rows of zeros below the eight rows. -/
def padded {α : Type} [Zero α] (f : Fin 8 → α) (b : Fin 16) : α := if h : b.val < 8 then f ⟨b.val, h⟩ else 0

/-- The rows of zeros add nothing. -/
theorem sum_padded (C D : Fin 8 → EReal) : ∑ b, act (padded C b) * padded D b = ∑ b, act (C b) * D b := by
  rw [Fin.sum_univ_add (a := 8) (b := 8) (fun b : Fin (8 + 8) => act (padded C b) * padded D b)]
  have e : ∑ i : Fin 8, act (padded C (Fin.natAdd 8 i)) * padded D (Fin.natAdd 8 i) = 0 :=
    Finset.sum_eq_zero fun i _ => by
      have h : padded D (Fin.natAdd 8 i) = 0 := dif_neg (by simp [Fin.natAdd])
      rw [h, mul_zero]
  rw [e, add_zero]
  refine Finset.sum_congr rfl fun i _ => ?_
  have h (f : Fin 8 → EReal) : padded f (Fin.castAdd 8 i) = f i := dif_pos i.isLt
  rw [h, h]

end Cert.Step
-- ==== Proof.AdaReference.lean ====
module
public import proofs.«01_k».proof.Proof.Gen.Reference5Ideal.Read
public import Idealize.ShloMosaic.Lib.Pointwise
public import proofs.«01_k».proof.Proof.StepFormula

/-! # The reference's update of the modulation's weight, at an index -/

@[expose] public section
set_option maxRecDepth 16384

namespace Cert.Ada
open Idealize.ShloMosaic
open Cert.Reference5Ideal Cert.Reference5Ideal.Read
open Cert.Step

variable (x0 : FVec Ideal S8x1024 .f32) (x1 x2 x3 : FVec Ideal S2x1024x2304 .f32) (x4 : FVec Ideal S2x8x2304 .f32)
  (l : Fin 2) (k : Fin 1024) (j : Fin 2304)

/-- The reference's gradient. -/
noncomputable abbrev G : EReal := grad (fun b k => x0 (ix2 b k)) (fun l b j => x4 (ix3 l b j)) l k j

theorem v0_at (b : Fin 8) : (val_main_v0 (F := Ideal) x0 (ix2 b k) : EReal) = act (x0 (ix2 b k)) := by
  pointwise [val_main_v0, val_main_call0_v5, val_main_call0_v4, val_main_call0_cst_0, val_main_call0_v3, val_main_call0_v2, val_main_call0_cst, val_main_call0_v1, val_main_call0_v0]
  rfl

theorem v5_at : (val_main_v5 (F := Ideal) x0 x4 (ix3 l k j) : EReal) = G x0 x4 l k j := by
  pointwise [val_main_v5, val_main_v4, val_main_v3]
  simp only [v0_at]
  exact Finset.sum_congr rfl fun b _ => mul_comm _ _

theorem v10_at : (val_main_v10 (F := Ideal) x0 x2 x4 (ix3 l k j) : EReal) = avg (x2 (ix3 l k j)) (G x0 x4 l k j) := by
  rw [← v5_at]
  rfl

theorem v16_at : (val_main_v16 (F := Ideal) x0 x3 x4 (ix3 l k j) : EReal) = sq (x3 (ix3 l k j)) (G x0 x4 l k j) := by
  rw [← v5_at]
  rfl

theorem v29_at : (val_main_v29 (F := Ideal) x0 x1 x2 x3 x4 (ix3 l k j) : EReal)
    = delta (x1 (ix3 l k j)) (G x0 x4 l k j) (x2 (ix3 l k j)) (x3 (ix3 l k j)) := by
  unfold delta
  rw [← v10_at, ← v16_at]
  rfl

end Cert.Ada
-- ==== Proof.AdaBlock.lean ====
module
public import proofs.«01_k».proof.Proof.Gen.Kernel5Ideal.Frame
public import Idealize.ShloMosaic.Lib.Pipeline.ValueKit
public import Idealize.ShloMosaic.Lib.Pipeline.ReadBack
public import Idealize.ShloMosaic.Lib.Pointwise
public import proofs.«01_k».proof.Proof.StepFormula

/-! # What a step of the modulation's update leaves

The gradient of a block of rows of the weight, the two new averages and the step, from the block's columns of the
conditioning, the gradient of the modulation and the block of the weight and of its averages. -/

@[expose] public section
set_option maxRecDepth 16384

namespace Cert.Kernel5Ideal.Hand
open Idealize.ShloMosaic
open Cert.Kernel5Ideal Cert.Kernel5Ideal.Gen
open Cert.Step
open Cert.Ffn (word_zero)

section
variable (v0 : Vec Ideal S16x256 .f32) (v5 : Vec Ideal S1x16x2304 .f32) (v12 v14 v16 : Vec Ideal S1x256x2304 .f32)
  (a : Fin 256) (j : Fin 2304)

/-- The gradient in a block. -/
noncomputable def gr : EReal := ∑ b : Fin 16, act (v0 (ix2 b a)) * v5 (ix3 0 b j)

theorem pay4_at : k0_pay4 (F := Ideal) v0 v5 (ix2 a j) = gr v0 v5 a j := by
  pointwise [k0_pay4]
  rfl

theorem pay7_at : k0_pay7 (F := Ideal) v0 v5 v14 (ix2 a j) = avg (v14 (ix3 0 a j)) (gr v0 v5 a j) := by
  rw [← pay4_at]
  unfold k0_pay7
  generalize k0_pay4 (F := Ideal) v0 v5 = g
  pointwise
  rfl

theorem pay8_at : k0_pay8 (F := Ideal) v0 v5 v16 (ix2 a j) = sq (v16 (ix3 0 a j)) (gr v0 v5 a j) := by
  rw [← pay4_at]
  unfold k0_pay8
  generalize k0_pay4 (F := Ideal) v0 v5 = g
  pointwise
  rfl

theorem block5 : out0_5 (F := Ideal) v0 v5 v12 v14 v16 (ix3 0 a j) = gr v0 v5 a j := by
  rw [← pay4_at]
  unfold out0_5
  frame_out
  unfold k0_pay5
  generalize k0_pay4 (F := Ideal) v0 v5 = g
  pointwise

theorem block7 : out0_7 (F := Ideal) v0 v5 v12 v14 v16 (ix3 0 a j) = avg (v14 (ix3 0 a j)) (gr v0 v5 a j) := by
  rw [← pay7_at]
  unfold out0_7
  frame_out
  generalize k0_pay7 (F := Ideal) v0 v5 v14 = g
  pointwise [k0_pay2]

theorem block8 : out0_8 (F := Ideal) v0 v5 v12 v14 v16 (ix3 0 a j) = sq (v16 (ix3 0 a j)) (gr v0 v5 a j) := by
  rw [← pay8_at]
  unfold out0_8
  frame_out
  generalize k0_pay8 (F := Ideal) v0 v5 v16 = g
  pointwise [k0_pay3]

theorem block6 : out0_6 (F := Ideal) v0 v5 v12 v14 v16 (ix3 0 a j)
    = delta (v12 (ix3 0 a j)) (gr v0 v5 a j) (v14 (ix3 0 a j)) (v16 (ix3 0 a j)) := by
  unfold delta
  rw [← pay7_at, ← pay8_at]
  unfold out0_6
  frame_out
  unfold k0_pay9 k0_pay10
  generalize k0_pay7 (F := Ideal) v0 v5 v14 = g
  generalize k0_pay8 (F := Ideal) v0 v5 v16 = h
  pointwise [k0_pay1, k0_pay6]
end

end Cert.Kernel5Ideal.Hand
-- ==== Proof.AdaPrelude.lean ====
module
public import proofs.«01_k».proof.Proof.Gen.Kernel5Ideal.Frame
public import Idealize.ShloMosaic.Lib.Pipeline.Value
public import Idealize.ShloMosaic.Lib.Pointwise
public import Idealize.ShloMosaic.Lib.StableHlo.ReadAt
public import proofs.«01_k».proof.Proof.StepFormula

/-! # The padded rows the modulation's update reads

The conditioning and the gradient of the modulation, each with eight rows of zeros below its own. -/

@[expose] public section
set_option maxRecDepth 16384

namespace Cert.Kernel5Ideal.Hand
open Idealize.ShloMosaic
open Cert.Kernel5Ideal Cert.Kernel5Ideal.Gen
open Cert.Step
open Cert.Ffn (word_zero)

/-- The conditioning, padded. -/
noncomputable def kC (x : FVec Ideal S8x1024 .f32) : FVec Ideal S16x1024 .f32 :=
  concatenate S16x1024 0 [⟨S8x1024, x⟩, ⟨S8x1024, broadcastInDim S8x1024 ![] bcast_S_S8x1024 (constant (F := Ideal) S_ .f32 0x00000000#32)⟩]
    concatenates_S8x1024_S8x1024_S16x1024_d0

/-- The gradient of the modulation, padded. -/
noncomputable def kD (x : FVec Ideal S2x8x2304 .f32) : FVec Ideal S2x16x2304 .f32 :=
  concatenate S2x16x2304 1 [⟨S2x8x2304, x⟩, ⟨S2x8x2304, broadcastInDim S2x8x2304 ![] bcast_S_S2x8x2304 (constant (F := Ideal) S_ .f32 0x00000000#32)⟩]
    concatenates_S2x8x2304_S2x8x2304_S2x16x2304_d1

theorem kC_at (x : FVec Ideal S8x1024 .f32) (b : Fin 16) (k : Fin 1024) : kC x (ix2 b k) = padded (fun b => x (ix2 b k)) b := by
  pointwise [kC]
  unfold padded
  by_cases h : b.val < 8
  · rw [dif_pos h]
  · rw [dif_neg h]

theorem kD_at (x : FVec Ideal S2x8x2304 .f32) (l : Fin 2) (b : Fin 16) (j : Fin 2304) :
    kD x (ix3 l b j) = padded (fun b => x (ix3 l b j)) b := by
  pointwise [kD]
  unfold padded
  by_cases h : b.val < 8
  · rw [dif_pos h]
  · rw [dif_neg h]

variable (m : (ℓ : Loc nD τ sig) → Buf (Elt Ideal) ℓ) (c : Dev nD)

/-- The arguments. -/
abbrev arg0 : FVec Ideal S8x1024 .f32 := m ((c.tc : Thread nD τ).loc main_arg0)
abbrev arg1 : FVec Ideal S2x1024x2304 .f32 := m ((c.tc : Thread nD τ).loc main_arg1)
abbrev arg2 : FVec Ideal S2x1024x2304 .f32 := m ((c.tc : Thread nD τ).loc main_arg2)
abbrev arg3 : FVec Ideal S2x1024x2304 .f32 := m ((c.tc : Thread nD τ).loc main_arg3)
abbrev arg4 : FVec Ideal S2x8x2304 .f32 := m ((c.tc : Thread nD τ).loc main_arg4)

theorem V_v1 : V m c main_v1 = kC (arg0 m c) := by
  unfold V
  unfold_abbrev_sides
  after_reads_simp
  refine congrArg₂ (fun x y => (concatenate S16x1024 0 [⟨S8x1024, x⟩, ⟨S8x1024, y⟩]
    concatenates_S8x1024_S8x1024_S16x1024_d0 : FVec Ideal S16x1024 .f32)) ?_ ?_
  · after_reads_simp
  · after_reads_simp

theorem V_v3 : V m c main_v3 = kD (arg4 m c) := by
  unfold V
  unfold_abbrev_sides
  after_reads_simp
  refine congrArg₂ (fun x y => (concatenate S2x16x2304 1 [⟨S2x8x2304, x⟩, ⟨S2x8x2304, y⟩]
    concatenates_S2x8x2304_S2x8x2304_S2x16x2304_d1 : FVec Ideal S2x16x2304 .f32)) ?_ ?_
  · after_reads_simp
  · after_reads_simp

end Cert.Kernel5Ideal.Hand
-- ==== Proof.AdaRegion.lean ====
module
public import proofs.«01_k».proof.Proof.AdaBlock
public import proofs.«01_k».proof.Proof.AdaPrelude

/-! # The four arrays the modulation's update leaves -/

@[expose] public section
set_option maxRecDepth 16384

namespace Cert.Kernel5Ideal.Hand
open Idealize.ShloMosaic
open Cert.Kernel5Ideal Cert.Kernel5Ideal.Gen
open Idealize.ShloMosaic.Pipeline (Dat Cfg Window)
open Cert.Step

theorem exists_ix3 {n m l : ℕ} (y : (⟨3, ![n, m, l]⟩ : Shape).Idx) : ∃ (a : Fin n) (b : Fin m) (d : Fin l), y = ix3 a b d :=
  ⟨y 0, y 1, y 2, eq_ix3 y⟩

theorem eq_ix2_of {n m : ℕ} (x : (⟨2, ![n, m]⟩ : Shape).Idx) (a : Fin n) (b : Fin m) (ha : (x 0).val = a.val)
    (hb : (x 1).val = b.val) : x = ix2 a b := by
  rw [← Fin.ext (a := x 0) (b := a) ha, ← Fin.ext (a := x 1) (b := b) hb]
  exact eq_ix2 x

theorem eq_ix3_of' {n m l : ℕ} (x : (⟨3, ![n, m, l]⟩ : Shape).Idx) (a : Fin n) (b : Fin m) (d : Fin l) (ha : (x 0).val = a.val)
    (hb : (x 1).val = b.val) (hd : (x 2).val = d.val) : x = ix3 a b d := by
  rw [← Fin.ext (a := x 0) (b := a) ha, ← Fin.ext (a := x 1) (b := b) hb, ← Fin.ext (a := x 2) (b := d) hd]
  exact eq_ix3 x

/-- The layer of a grid point. -/
def layer (t : Fin cfg0.N) : Fin 2 := ⟨t.val / 4, by have := t.isLt; have : cfg0.N = 8 := rfl; omega⟩

/-- The weight's row in row `a` of a grid point's block. -/
def row (t : Fin cfg0.N) (a : Fin 256) : Fin 1024 := ⟨t.val % 4 * 256 + a.val, by omega⟩

theorem idx0 : ∀ t : Fin cfg0.N, (cfg0.win 0).index t 0 = 0 ∧ (cfg0.win 0).index t 1 = t.val % 4 := by decide +kernel
theorem idx1 : ∀ t : Fin cfg0.N, (cfg0.win 1).index t 0 = t.val / 4 ∧ (cfg0.win 1).index t 1 = 0 ∧ (cfg0.win 1).index t 2 = 0 := by
  decide +kernel
theorem idx2 : ∀ t : Fin cfg0.N, (cfg0.win 2).index t 0 = t.val / 4 ∧ (cfg0.win 2).index t 1 = t.val % 4 ∧ (cfg0.win 2).index t 2 = 0 := by
  decide +kernel
theorem idx3 : ∀ t : Fin cfg0.N, (cfg0.win 3).index t 0 = t.val / 4 ∧ (cfg0.win 3).index t 1 = t.val % 4 ∧ (cfg0.win 3).index t 2 = 0 := by
  decide +kernel
theorem idx4 : ∀ t : Fin cfg0.N, (cfg0.win 4).index t 0 = t.val / 4 ∧ (cfg0.win 4).index t 1 = t.val % 4 ∧ (cfg0.win 4).index t 2 = 0 := by
  decide +kernel
theorem idx5 : ∀ t : Fin cfg0.N, (cfg0.win 5).index t 0 = t.val / 4 ∧ (cfg0.win 5).index t 1 = t.val % 4 ∧ (cfg0.win 5).index t 2 = 0 := by
  decide +kernel
theorem idx6 : ∀ t : Fin cfg0.N, (cfg0.win 6).index t 0 = t.val / 4 ∧ (cfg0.win 6).index t 1 = t.val % 4 ∧ (cfg0.win 6).index t 2 = 0 := by
  decide +kernel
theorem idx7 : ∀ t : Fin cfg0.N, (cfg0.win 7).index t 0 = t.val / 4 ∧ (cfg0.win 7).index t 1 = t.val % 4 ∧ (cfg0.win 7).index t 2 = 0 := by
  decide +kernel
theorem idx8 : ∀ t : Fin cfg0.N, (cfg0.win 8).index t 0 = t.val / 4 ∧ (cfg0.win 8).index t 1 = t.val % 4 ∧ (cfg0.win 8).index t 2 = 0 := by
  decide +kernel

variable (m : (ℓ : Loc nD τ sig) → Buf (Elt Ideal) ℓ) (c : Dev nD)

/-- The gradient from the arguments. -/
noncomputable abbrev G (l : Fin 2) (k : Fin 1024) (j : Fin 2304) : EReal :=
  grad (fun b k => arg0 m c (ix2 b k)) (fun l b j => arg4 m c (ix3 l b j)) l k j

noncomputable abbrev A (l : Fin 2) (k : Fin 1024) (j : Fin 2304) : EReal := avg (arg2 m c (ix3 l k j)) (G m c l k j)
noncomputable abbrev Q (l : Fin 2) (k : Fin 1024) (j : Fin 2304) : EReal := sq (arg3 m c (ix3 l k j)) (G m c l k j)
noncomputable abbrev S (l : Fin 2) (k : Fin 1024) (j : Fin 2304) : EReal :=
  delta (arg1 m c (ix3 l k j)) (G m c l k j) (arg2 m c (ix3 l k j)) (arg3 m c (ix3 l k j))

theorem in0 (t : Fin cfg0.N) (b : Fin 16) (a : Fin 256) :
    iblk m c 0 t (ix2 b a) = padded (fun b => arg0 m c (ix2 b (row t a))) b := by
  obtain ⟨e0, e1⟩ := idx0 t
  have h : (win0_0.blk t).view.emb (ix2 b a) = ix2 b (row t a) := eq_ix2_of _ _ _ (by blk_simp [e0]) (by blk_simp [e1]; rfl)
  blk_simp [iblk]
  rw [h]
  exact (congrFun (V_v1 m c) _).trans (kC_at _ _ _)

theorem in1 (t : Fin cfg0.N) (b : Fin 16) (j : Fin 2304) :
    iblk m c 1 t (ix3 0 b j) = padded (fun b => arg4 m c (ix3 (layer t) b j)) b := by
  obtain ⟨e0, e1, e2⟩ := idx1 t
  have h : (win0_1.blk t).view.emb (ix3 0 b j) = ix3 (layer t) b j :=
    eq_ix3_of' _ _ _ _ (by blk_simp [e0]; rfl) (by blk_simp [e1]) (by blk_simp [e2])
  blk_simp [iblk]
  rw [h]
  exact (congrFun (V_v3 m c) _).trans (kD_at _ _ _ _)

theorem in2 (t : Fin cfg0.N) (a : Fin 256) (j : Fin 2304) : iblk m c 2 t (ix3 0 a j) = arg1 m c (ix3 (layer t) (row t a) j) := by
  obtain ⟨e0, e1, e2⟩ := idx2 t
  have h : (win0_2.blk t).view.emb (ix3 0 a j) = ix3 (layer t) (row t a) j :=
    eq_ix3_of' _ _ _ _ (by blk_simp [e0]; rfl) (by blk_simp [e1]; rfl) (by blk_simp [e2])
  blk_simp [iblk]
  rw [h]
  exact congrFun (V_main_arg1 m c) _

theorem in3 (t : Fin cfg0.N) (a : Fin 256) (j : Fin 2304) : iblk m c 3 t (ix3 0 a j) = arg2 m c (ix3 (layer t) (row t a) j) := by
  obtain ⟨e0, e1, e2⟩ := idx3 t
  have h : (win0_3.blk t).view.emb (ix3 0 a j) = ix3 (layer t) (row t a) j :=
    eq_ix3_of' _ _ _ _ (by blk_simp [e0]; rfl) (by blk_simp [e1]; rfl) (by blk_simp [e2])
  blk_simp [iblk]
  rw [h]
  exact congrFun (V_main_arg2 m c) _

theorem in4 (t : Fin cfg0.N) (a : Fin 256) (j : Fin 2304) : iblk m c 4 t (ix3 0 a j) = arg3 m c (ix3 (layer t) (row t a) j) := by
  obtain ⟨e0, e1, e2⟩ := idx4 t
  have h : (win0_4.blk t).view.emb (ix3 0 a j) = ix3 (layer t) (row t a) j :=
    eq_ix3_of' _ _ _ _ (by blk_simp [e0]; rfl) (by blk_simp [e1]; rfl) (by blk_simp [e2])
  blk_simp [iblk]
  rw [h]
  exact congrFun (V_main_arg3 m c) _

/-- A block's gradient is the gradient of its rows. -/
theorem gr_eq (t : Fin cfg0.N) (a : Fin 256) (j : Fin 2304) : gr (iblk m c 0 t) (iblk m c 1 t) a j = G m c (layer t) (row t a) j := by
  unfold gr
  simp only [in0, in1]
  exact sum_padded _ _

theorem arr5 : (dats m 0 c).arrAt 5 cfg0.N = fun i => G m c (i 0) (i 1) (i 2) := by
  refine (dats m 0 c).arrAt_eq_of_covers 5 _ (by decide +kernel) fun t hf y => ?_
  blk_simp
  rw [after0_5]
  obtain ⟨u, a, j, rfl⟩ := exists_ix3 y
  obtain rfl : u = 0 := Subsingleton.elim _ _
  obtain ⟨e0, e1, e2⟩ := idx5 t
  have h : (win0_5.blk t).view.emb (ix3 0 a j) = ix3 (layer t) (row t a) j :=
    eq_ix3_of' _ _ _ _ (by blk_simp [e0]; rfl) (by blk_simp [e1]; rfl) (by blk_simp [e2])
  rw [h]
  refine (block5 _ _ _ _ _ a j).trans ?_
  rw [gr_eq]
  rfl

theorem arr6 : (dats m 0 c).arrAt 6 cfg0.N = fun i => S m c (i 0) (i 1) (i 2) := by
  refine (dats m 0 c).arrAt_eq_of_covers 6 _ (by decide +kernel) fun t hf y => ?_
  blk_simp
  rw [after0_6]
  obtain ⟨u, a, j, rfl⟩ := exists_ix3 y
  obtain rfl : u = 0 := Subsingleton.elim _ _
  obtain ⟨e0, e1, e2⟩ := idx6 t
  have h : (win0_6.blk t).view.emb (ix3 0 a j) = ix3 (layer t) (row t a) j :=
    eq_ix3_of' _ _ _ _ (by blk_simp [e0]; rfl) (by blk_simp [e1]; rfl) (by blk_simp [e2])
  rw [h]
  refine (block6 _ _ _ _ _ a j).trans ?_
  rw [gr_eq, in2, in3, in4]
  rfl

theorem arr7 : (dats m 0 c).arrAt 7 cfg0.N = fun i => A m c (i 0) (i 1) (i 2) := by
  refine (dats m 0 c).arrAt_eq_of_covers 7 _ (by decide +kernel) fun t hf y => ?_
  blk_simp
  rw [after0_7]
  obtain ⟨u, a, j, rfl⟩ := exists_ix3 y
  obtain rfl : u = 0 := Subsingleton.elim _ _
  obtain ⟨e0, e1, e2⟩ := idx7 t
  have h : (win0_7.blk t).view.emb (ix3 0 a j) = ix3 (layer t) (row t a) j :=
    eq_ix3_of' _ _ _ _ (by blk_simp [e0]; rfl) (by blk_simp [e1]; rfl) (by blk_simp [e2])
  rw [h]
  refine (block7 _ _ _ _ _ a j).trans ?_
  rw [gr_eq, in3]
  rfl

theorem arr8 : (dats m 0 c).arrAt 8 cfg0.N = fun i => Q m c (i 0) (i 1) (i 2) := by
  refine (dats m 0 c).arrAt_eq_of_covers 8 _ (by decide +kernel) fun t hf y => ?_
  blk_simp
  rw [after0_8]
  obtain ⟨u, a, j, rfl⟩ := exists_ix3 y
  obtain rfl : u = 0 := Subsingleton.elim _ _
  obtain ⟨e0, e1, e2⟩ := idx8 t
  have h : (win0_8.blk t).view.emb (ix3 0 a j) = ix3 (layer t) (row t a) j :=
    eq_ix3_of' _ _ _ _ (by blk_simp [e0]; rfl) (by blk_simp [e1]; rfl) (by blk_simp [e2])
  rw [h]
  refine (block8 _ _ _ _ _ a j).trans ?_
  rw [gr_eq, in4]
  rfl

end Cert.Kernel5Ideal.Hand
-- ==== Proof.AdaEquation.lean ====
module
public import proofs.«01_k».proof.Defs
public import proofs.«01_k».proof.Proof.Gen.Reference5Ideal.Run
public import proofs.«01_k».proof.Proof.AdaReference
public import proofs.«01_k».proof.Proof.AdaRegion

/-! # The update of the modulation's weight against the reference

Both programs end with the same gradient, step and averages, whatever the arguments hold. -/

@[expose] public section
set_option maxRecDepth 16384

namespace Cert.Kernel5Ideal.Hand
open Idealize.ShloMosaic
open Cert.Kernel5Ideal Cert.Kernel5Ideal.Gen

variable (m : (ℓ : Loc nD τ sig) → Buf (Elt Ideal) ℓ) (c : Dev nD)

theorem eq5 : (dats m 0 c).arrAt 5 cfg0.N = Cert.Reference5Ideal.Read.val_main_v5 (F := Ideal) (arg0 m c) (arg4 m c) := by
  rw [arr5]
  funext i
  obtain ⟨l, k, j, rfl⟩ := exists_ix3 i
  exact (Cert.Ada.v5_at _ _ l k j).symm

theorem eq6 : (dats m 0 c).arrAt 6 cfg0.N = Cert.Reference5Ideal.Read.val_main_v29 (F := Ideal) (arg0 m c) (arg1 m c) (arg2 m c) (arg3 m c) (arg4 m c) := by
  rw [arr6]
  funext i
  obtain ⟨l, k, j, rfl⟩ := exists_ix3 i
  exact (Cert.Ada.v29_at _ _ _ _ _ l k j).symm

theorem eq7 : (dats m 0 c).arrAt 7 cfg0.N = Cert.Reference5Ideal.Read.val_main_v10 (F := Ideal) (arg0 m c) (arg2 m c) (arg4 m c) := by
  rw [arr7]
  funext i
  obtain ⟨l, k, j, rfl⟩ := exists_ix3 i
  exact (Cert.Ada.v10_at _ _ _ l k j).symm

theorem eq8 : (dats m 0 c).arrAt 8 cfg0.N = Cert.Reference5Ideal.Read.val_main_v16 (F := Ideal) (arg0 m c) (arg3 m c) (arg4 m c) := by
  rw [arr8]
  funext i
  obtain ⟨l, k, j, rfl⟩ := exists_ix3 i
  exact (Cert.Ada.v16_at _ _ _ l k j).symm

end Cert.Kernel5Ideal.Hand

namespace Cert.Hand
open Idealize.ShloMosaic Idealize.SL.Sem
open Cert.Kernel5Ideal.Hand (arg0 arg1 arg2 arg3 arg4 eq5 eq6 eq7 eq8)

/-- The reference's program keeps its arguments, and it has no semaphore. -/
theorem frame_reference5 : Cert.quiescent_Reference5Ideal := fun m ρ _ =>
  (θ_run Cert.Reference5Ideal.defs _ _).mono (fun r h => ⟨fun c => (h c).2.2.2.2,
      Idealize.ShloMosaic.sem_eq_zero_of_no_sems (by decide) r.2⟩)
    (Cert.Reference5Ideal.Value.run (F := Ideal) m ρ)

/-- The modulation's weight: both programs end with the same gradient, step and averages. -/
theorem algebraic_ada : Cert.algebraic_Kernel5Ideal_Reference5Ideal := by
  intro m ρ m' ρ' _ hargs
  refine ⟨fun c => Cert.Reference5Ideal.Read.val_main_v5 (F := Ideal) (arg0 m c) (arg4 m c),
    fun c => Cert.Reference5Ideal.Read.val_main_v29 (F := Ideal) (arg0 m c) (arg1 m c) (arg2 m c) (arg3 m c) (arg4 m c),
    fun c => Cert.Reference5Ideal.Read.val_main_v10 (F := Ideal) (arg0 m c) (arg2 m c) (arg4 m c),
    fun c => Cert.Reference5Ideal.Read.val_main_v16 (F := Ideal) (arg0 m c) (arg3 m c) (arg4 m c), ?_, ?_⟩
  · refine (θ_run Cert.Kernel5Ideal.defs _ _).mono ?_
      (θ_run_and (Cert.Kernel5Ideal.Gen.run_main (F := Ideal) m ρ) (Cert.Kernel5Ideal.Gen.unchanged (F := Ideal) m ρ))
    intro r h c
    refine ⟨?_, ?_, ?_, ?_, h.2 c⟩
    · exact ((h.1 c).1 5).trans (eq5 m c)
    · exact ((h.1 c).1 6).trans (eq6 m c)
    · exact ((h.1 c).1 7).trans (eq7 m c)
    · exact ((h.1 c).1 8).trans (eq8 m c)
  · refine (θ_run Cert.Reference5Ideal.defs _ _).mono ?_ (Cert.Reference5Ideal.Value.run (F := Ideal) m' ρ')
    intro r h c
    obtain ⟨h0, h1, h2, h3, hk⟩ := h c
    obtain ⟨g0, g1, g2, g3, g4⟩ := hargs c
    refine ⟨?_, ?_, ?_, ?_, hk⟩
    · exact (h0.trans (Cert.Reference5Ideal.Read.val_main_v5_eq _ _)).trans (by rw [g0, g4])
    · exact (h1.trans (Cert.Reference5Ideal.Read.val_main_v29_eq _ _ _ _ _)).trans (by rw [g0, g1, g2, g3, g4])
    · exact (h2.trans (Cert.Reference5Ideal.Read.val_main_v10_eq _ _ _)).trans (by rw [g0, g2, g4])
    · exact (h3.trans (Cert.Reference5Ideal.Read.val_main_v16_eq _ _ _)).trans (by rw [g0, g3, g4])

end Cert.Hand
-- ==== Proof.UpdReference.lean ====
module
public import proofs.«01_k».proof.Proof.Gen.Reference6Ideal.Read
public import proofs.«01_k».proof.Proof.StepFormula

/-! # The reference's update of the attention's and pooling's weights, entry by entry -/

@[expose] public section
set_option maxRecDepth 16384

namespace Cert.Upd
open Idealize.ShloMosaic
open Cert.Reference6Ideal Cert.Reference6Ideal.Read
open Cert.Step

theorem v23_eq (x0 x1 x2 x3 : FVec Ideal S1x256x416 .f32) :
    (fun i => delta (x0 i) (x1 i) (x2 i) (x3 i)) = val_main_v23 (F := Ideal) x0 x1 x2 x3 := rfl

theorem v4_eq (x1 x2 : FVec Ideal S1x256x416 .f32) :
    (fun i => avg (x2 i) (x1 i)) = val_main_v4 (F := Ideal) x1 x2 := rfl

theorem v10_eq (x1 x3 : FVec Ideal S1x256x416 .f32) :
    (fun i => sq (x3 i) (x1 i)) = val_main_v10 (F := Ideal) x1 x3 := rfl

theorem v47_eq (x4 x5 x6 x7 : FVec Ideal S1x64x16x96 .f32) :
    (fun i => delta (x4 i) (x5 i) (x6 i) (x7 i)) = val_main_v47 (F := Ideal) x4 x5 x6 x7 := rfl

theorem v28_eq (x5 x6 : FVec Ideal S1x64x16x96 .f32) :
    (fun i => avg (x6 i) (x5 i)) = val_main_v28 (F := Ideal) x5 x6 := rfl

theorem v34_eq (x5 x7 : FVec Ideal S1x64x16x96 .f32) :
    (fun i => sq (x7 i) (x5 i)) = val_main_v34 (F := Ideal) x5 x7 := rfl

theorem v71_eq (x8 x9 x10 x11 : FVec Ideal S1x256x1024 .f32) :
    (fun i => delta (x8 i) (x9 i) (x10 i) (x11 i)) = val_main_v71 (F := Ideal) x8 x9 x10 x11 := rfl

theorem v52_eq (x9 x10 : FVec Ideal S1x256x1024 .f32) :
    (fun i => avg (x10 i) (x9 i)) = val_main_v52 (F := Ideal) x9 x10 := rfl

theorem v58_eq (x9 x11 : FVec Ideal S1x256x1024 .f32) :
    (fun i => sq (x11 i) (x9 i)) = val_main_v58 (F := Ideal) x9 x11 := rfl

theorem v95_eq (x12 x13 x14 x15 : FVec Ideal S1x128x16x64 .f32) :
    (fun i => delta (x12 i) (x13 i) (x14 i) (x15 i)) = val_main_v95 (F := Ideal) x12 x13 x14 x15 := rfl

theorem v76_eq (x13 x14 : FVec Ideal S1x128x16x64 .f32) :
    (fun i => avg (x14 i) (x13 i)) = val_main_v76 (F := Ideal) x13 x14 := rfl

theorem v82_eq (x13 x15 : FVec Ideal S1x128x16x64 .f32) :
    (fun i => sq (x15 i) (x13 i)) = val_main_v82 (F := Ideal) x13 x15 := rfl

theorem v119_eq (x16 x17 x18 x19 : FVec Ideal S1x128x16x64 .f32) :
    (fun i => delta (x16 i) (x17 i) (x18 i) (x19 i)) = val_main_v119 (F := Ideal) x16 x17 x18 x19 := rfl

theorem v100_eq (x17 x18 : FVec Ideal S1x128x16x64 .f32) :
    (fun i => avg (x18 i) (x17 i)) = val_main_v100 (F := Ideal) x17 x18 := rfl

theorem v106_eq (x17 x19 : FVec Ideal S1x128x16x64 .f32) :
    (fun i => sq (x19 i) (x17 i)) = val_main_v106 (F := Ideal) x17 x19 := rfl

theorem v143_eq (x20 x21 x22 x23 : FVec Ideal S1x4x64x256 .f32) :
    (fun i => delta (x20 i) (x21 i) (x22 i) (x23 i)) = val_main_v143 (F := Ideal) x20 x21 x22 x23 := rfl

theorem v124_eq (x21 x22 : FVec Ideal S1x4x64x256 .f32) :
    (fun i => avg (x22 i) (x21 i)) = val_main_v124 (F := Ideal) x21 x22 := rfl

theorem v130_eq (x21 x23 : FVec Ideal S1x4x64x256 .f32) :
    (fun i => sq (x23 i) (x21 i)) = val_main_v130 (F := Ideal) x21 x23 := rfl

end Cert.Upd
-- ==== Proof.UpdRegion0.lean ====
module
public import proofs.«01_k».proof.Proof.Gen.Kernel6Ideal.Frame
public import Idealize.ShloMosaic.Lib.Pipeline.ValueKit
public import Idealize.ShloMosaic.Lib.Pipeline.ReadBack
public import Idealize.ShloMosaic.Lib.Pointwise
public import proofs.«01_k».proof.Proof.StepFormula

/-! # The arrays left by the update of the attention's input, query and output projections

The call is a single point that holds every array whole, and each result is read entry by entry. -/

@[expose] public section
set_option maxRecDepth 16384

namespace Cert.Kernel6Ideal.Hand
open Idealize.ShloMosaic
open Cert.Kernel6Ideal Cert.Kernel6Ideal.Gen
open Cert.Step

namespace R0

/-! ## The point's results, entry by entry -/

section
variable (x0 : Vec Ideal S1x256x416 .f32) (x1 : Vec Ideal S1x256x416 .f32) (x2 : Vec Ideal S1x256x416 .f32) (x3 : Vec Ideal S1x256x416 .f32) (x4 : Vec Ideal S1x64x16x96 .f32) (x5 : Vec Ideal S1x64x16x96 .f32) (x6 : Vec Ideal S1x64x16x96 .f32) (x7 : Vec Ideal S1x64x16x96 .f32) (x8 : Vec Ideal S1x256x1024 .f32) (x9 : Vec Ideal S1x256x1024 .f32) (x10 : Vec Ideal S1x256x1024 .f32) (x11 : Vec Ideal S1x256x1024 .f32)

theorem block12 (y : S1x256x416.Idx) : out0_12 x0 x1 x2 x3 x4 x5 x6 x7 x8 x9 x10 x11 y = delta (x0 y) (x1 y) (x2 y) (x3 y) := by
  unfold out0_12
  frame_out
  rfl

theorem block13 (y : S1x256x416.Idx) : out0_13 x0 x1 x2 x3 x4 x5 x6 x7 x8 x9 x10 x11 y = avg (x2 y) (x1 y) := by
  unfold out0_13
  frame_out
  rfl

theorem block14 (y : S1x256x416.Idx) : out0_14 x0 x1 x2 x3 x4 x5 x6 x7 x8 x9 x10 x11 y = sq (x3 y) (x1 y) := by
  unfold out0_14
  frame_out
  rfl

theorem block15 (y : S1x64x16x96.Idx) : out0_15 x0 x1 x2 x3 x4 x5 x6 x7 x8 x9 x10 x11 y = delta (x4 y) (x5 y) (x6 y) (x7 y) := by
  unfold out0_15
  frame_out
  rfl

theorem block16 (y : S1x64x16x96.Idx) : out0_16 x0 x1 x2 x3 x4 x5 x6 x7 x8 x9 x10 x11 y = avg (x6 y) (x5 y) := by
  unfold out0_16
  frame_out
  rfl

theorem block17 (y : S1x64x16x96.Idx) : out0_17 x0 x1 x2 x3 x4 x5 x6 x7 x8 x9 x10 x11 y = sq (x7 y) (x5 y) := by
  unfold out0_17
  frame_out
  rfl

theorem block18 (y : S1x256x1024.Idx) : out0_18 x0 x1 x2 x3 x4 x5 x6 x7 x8 x9 x10 x11 y = delta (x8 y) (x9 y) (x10 y) (x11 y) := by
  unfold out0_18
  frame_out
  rfl

theorem block19 (y : S1x256x1024.Idx) : out0_19 x0 x1 x2 x3 x4 x5 x6 x7 x8 x9 x10 x11 y = avg (x10 y) (x9 y) := by
  unfold out0_19
  frame_out
  rfl

theorem block20 (y : S1x256x1024.Idx) : out0_20 x0 x1 x2 x3 x4 x5 x6 x7 x8 x9 x10 x11 y = sq (x11 y) (x9 y) := by
  unfold out0_20
  frame_out
  rfl
end

/-! ## A block is its array -/

theorem at0 (t : Fin cfg0.N) (y : S1x256x416.Idx) : (win0_0.blk t).view.emb y = y := by
  have e : ∀ t : Fin cfg0.N, (cfg0.win 0).index t 0 = 0 ∧ (cfg0.win 0).index t 1 = 0 ∧ (cfg0.win 0).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at1 (t : Fin cfg0.N) (y : S1x256x416.Idx) : (win0_1.blk t).view.emb y = y := by
  have e : ∀ t : Fin cfg0.N, (cfg0.win 1).index t 0 = 0 ∧ (cfg0.win 1).index t 1 = 0 ∧ (cfg0.win 1).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at2 (t : Fin cfg0.N) (y : S1x256x416.Idx) : (win0_2.blk t).view.emb y = y := by
  have e : ∀ t : Fin cfg0.N, (cfg0.win 2).index t 0 = 0 ∧ (cfg0.win 2).index t 1 = 0 ∧ (cfg0.win 2).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at3 (t : Fin cfg0.N) (y : S1x256x416.Idx) : (win0_3.blk t).view.emb y = y := by
  have e : ∀ t : Fin cfg0.N, (cfg0.win 3).index t 0 = 0 ∧ (cfg0.win 3).index t 1 = 0 ∧ (cfg0.win 3).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at4 (t : Fin cfg0.N) (y : S1x64x16x96.Idx) : (win0_4.blk t).view.emb y = y := by
  have e : ∀ t : Fin cfg0.N, (cfg0.win 4).index t 0 = 0 ∧ (cfg0.win 4).index t 1 = 0 ∧ (cfg0.win 4).index t 2 = 0 ∧ (cfg0.win 4).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at5 (t : Fin cfg0.N) (y : S1x64x16x96.Idx) : (win0_5.blk t).view.emb y = y := by
  have e : ∀ t : Fin cfg0.N, (cfg0.win 5).index t 0 = 0 ∧ (cfg0.win 5).index t 1 = 0 ∧ (cfg0.win 5).index t 2 = 0 ∧ (cfg0.win 5).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at6 (t : Fin cfg0.N) (y : S1x64x16x96.Idx) : (win0_6.blk t).view.emb y = y := by
  have e : ∀ t : Fin cfg0.N, (cfg0.win 6).index t 0 = 0 ∧ (cfg0.win 6).index t 1 = 0 ∧ (cfg0.win 6).index t 2 = 0 ∧ (cfg0.win 6).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at7 (t : Fin cfg0.N) (y : S1x64x16x96.Idx) : (win0_7.blk t).view.emb y = y := by
  have e : ∀ t : Fin cfg0.N, (cfg0.win 7).index t 0 = 0 ∧ (cfg0.win 7).index t 1 = 0 ∧ (cfg0.win 7).index t 2 = 0 ∧ (cfg0.win 7).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at8 (t : Fin cfg0.N) (y : S1x256x1024.Idx) : (win0_8.blk t).view.emb y = y := by
  have e : ∀ t : Fin cfg0.N, (cfg0.win 8).index t 0 = 0 ∧ (cfg0.win 8).index t 1 = 0 ∧ (cfg0.win 8).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at9 (t : Fin cfg0.N) (y : S1x256x1024.Idx) : (win0_9.blk t).view.emb y = y := by
  have e : ∀ t : Fin cfg0.N, (cfg0.win 9).index t 0 = 0 ∧ (cfg0.win 9).index t 1 = 0 ∧ (cfg0.win 9).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at10 (t : Fin cfg0.N) (y : S1x256x1024.Idx) : (win0_10.blk t).view.emb y = y := by
  have e : ∀ t : Fin cfg0.N, (cfg0.win 10).index t 0 = 0 ∧ (cfg0.win 10).index t 1 = 0 ∧ (cfg0.win 10).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at11 (t : Fin cfg0.N) (y : S1x256x1024.Idx) : (win0_11.blk t).view.emb y = y := by
  have e : ∀ t : Fin cfg0.N, (cfg0.win 11).index t 0 = 0 ∧ (cfg0.win 11).index t 1 = 0 ∧ (cfg0.win 11).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at12 (t : Fin cfg0.N) (y : S1x256x416.Idx) : (win0_12.blk t).view.emb y = y := by
  have e : ∀ t : Fin cfg0.N, (cfg0.win 12).index t 0 = 0 ∧ (cfg0.win 12).index t 1 = 0 ∧ (cfg0.win 12).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at13 (t : Fin cfg0.N) (y : S1x256x416.Idx) : (win0_13.blk t).view.emb y = y := by
  have e : ∀ t : Fin cfg0.N, (cfg0.win 13).index t 0 = 0 ∧ (cfg0.win 13).index t 1 = 0 ∧ (cfg0.win 13).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at14 (t : Fin cfg0.N) (y : S1x256x416.Idx) : (win0_14.blk t).view.emb y = y := by
  have e : ∀ t : Fin cfg0.N, (cfg0.win 14).index t 0 = 0 ∧ (cfg0.win 14).index t 1 = 0 ∧ (cfg0.win 14).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at15 (t : Fin cfg0.N) (y : S1x64x16x96.Idx) : (win0_15.blk t).view.emb y = y := by
  have e : ∀ t : Fin cfg0.N, (cfg0.win 15).index t 0 = 0 ∧ (cfg0.win 15).index t 1 = 0 ∧ (cfg0.win 15).index t 2 = 0 ∧ (cfg0.win 15).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at16 (t : Fin cfg0.N) (y : S1x64x16x96.Idx) : (win0_16.blk t).view.emb y = y := by
  have e : ∀ t : Fin cfg0.N, (cfg0.win 16).index t 0 = 0 ∧ (cfg0.win 16).index t 1 = 0 ∧ (cfg0.win 16).index t 2 = 0 ∧ (cfg0.win 16).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at17 (t : Fin cfg0.N) (y : S1x64x16x96.Idx) : (win0_17.blk t).view.emb y = y := by
  have e : ∀ t : Fin cfg0.N, (cfg0.win 17).index t 0 = 0 ∧ (cfg0.win 17).index t 1 = 0 ∧ (cfg0.win 17).index t 2 = 0 ∧ (cfg0.win 17).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at18 (t : Fin cfg0.N) (y : S1x256x1024.Idx) : (win0_18.blk t).view.emb y = y := by
  have e : ∀ t : Fin cfg0.N, (cfg0.win 18).index t 0 = 0 ∧ (cfg0.win 18).index t 1 = 0 ∧ (cfg0.win 18).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at19 (t : Fin cfg0.N) (y : S1x256x1024.Idx) : (win0_19.blk t).view.emb y = y := by
  have e : ∀ t : Fin cfg0.N, (cfg0.win 19).index t 0 = 0 ∧ (cfg0.win 19).index t 1 = 0 ∧ (cfg0.win 19).index t 2 = 0 := by
    decide +kernel
  obtain ⟨e0, e1, e2⟩ := e t
  funext a
  fin_cases a
  · exact Fin.ext (by blk_simp [e0])
  · exact Fin.ext (by blk_simp [e1])
  · exact Fin.ext (by blk_simp [e2])

theorem at20 (t : Fin cfg0.N) (y : S1x256x1024.Idx) : (win0_20.blk t).view.emb y = y := by
  have e : ∀ t : Fin cfg0.N, (cfg0.win 20).index t 0 = 0 ∧ (cfg0.win 20).index t 1 = 0 ∧ (cfg0.win 20).index t 2 = 0 := by
    decide +kernel
  obtain ⟨e0, e1, e2⟩ := e t
  funext a
  fin_cases a
  · exact Fin.ext (by blk_simp [e0])
  · exact Fin.ext (by blk_simp [e1])
  · exact Fin.ext (by blk_simp [e2])

variable (V : (c : Dev nD) → (b : Ref sig .tc) → Buf (Elt Ideal) ((c.tc : Thread nD τ).loc b)) (c : Dev nD)

theorem in0 (t : Fin cfg0.N) : iblk0 V c 0 t = V c main_arg0 :=
  funext fun y => congrArg (V c main_arg0) (at0 t y)

theorem in1 (t : Fin cfg0.N) : iblk0 V c 1 t = V c main_arg1 :=
  funext fun y => congrArg (V c main_arg1) (at1 t y)

theorem in2 (t : Fin cfg0.N) : iblk0 V c 2 t = V c main_arg2 :=
  funext fun y => congrArg (V c main_arg2) (at2 t y)

theorem in3 (t : Fin cfg0.N) : iblk0 V c 3 t = V c main_arg3 :=
  funext fun y => congrArg (V c main_arg3) (at3 t y)

theorem in4 (t : Fin cfg0.N) : iblk0 V c 4 t = V c main_arg4 :=
  funext fun y => congrArg (V c main_arg4) (at4 t y)

theorem in5 (t : Fin cfg0.N) : iblk0 V c 5 t = V c main_arg5 :=
  funext fun y => congrArg (V c main_arg5) (at5 t y)

theorem in6 (t : Fin cfg0.N) : iblk0 V c 6 t = V c main_arg6 :=
  funext fun y => congrArg (V c main_arg6) (at6 t y)

theorem in7 (t : Fin cfg0.N) : iblk0 V c 7 t = V c main_arg7 :=
  funext fun y => congrArg (V c main_arg7) (at7 t y)

theorem in8 (t : Fin cfg0.N) : iblk0 V c 8 t = V c main_arg8 :=
  funext fun y => congrArg (V c main_arg8) (at8 t y)

theorem in9 (t : Fin cfg0.N) : iblk0 V c 9 t = V c main_arg9 :=
  funext fun y => congrArg (V c main_arg9) (at9 t y)

theorem in10 (t : Fin cfg0.N) : iblk0 V c 10 t = V c main_arg10 :=
  funext fun y => congrArg (V c main_arg10) (at10 t y)

theorem in11 (t : Fin cfg0.N) : iblk0 V c 11 t = V c main_arg11 :=
  funext fun y => congrArg (V c main_arg11) (at11 t y)

/-! ## The results -/

theorem arr12 : (dat0 V c).arrAt 12 cfg0.N = fun i => delta (V c main_arg0 i) (V c main_arg1 i) (V c main_arg2 i) (V c main_arg3 i) := by
  refine (dat0 V c).arrAt_eq_of_covers 12 _ (by decide +kernel) fun t hf y => ?_
  refine (congrFun (after0_12 V c t) y).trans ((block12 _ _ _ _ _ _ _ _ _ _ _ _ y).trans ?_)
  rw [in0, in1, in2, in3]
  exact (congrArg (fun i => delta (V c main_arg0 i) (V c main_arg1 i) (V c main_arg2 i) (V c main_arg3 i)) (at12 t y)).symm

theorem arr13 : (dat0 V c).arrAt 13 cfg0.N = fun i => avg (V c main_arg2 i) (V c main_arg1 i) := by
  refine (dat0 V c).arrAt_eq_of_covers 13 _ (by decide +kernel) fun t hf y => ?_
  refine (congrFun (after0_13 V c t) y).trans ((block13 _ _ _ _ _ _ _ _ _ _ _ _ y).trans ?_)
  rw [in1, in2]
  exact (congrArg (fun i => avg (V c main_arg2 i) (V c main_arg1 i)) (at13 t y)).symm

theorem arr14 : (dat0 V c).arrAt 14 cfg0.N = fun i => sq (V c main_arg3 i) (V c main_arg1 i) := by
  refine (dat0 V c).arrAt_eq_of_covers 14 _ (by decide +kernel) fun t hf y => ?_
  refine (congrFun (after0_14 V c t) y).trans ((block14 _ _ _ _ _ _ _ _ _ _ _ _ y).trans ?_)
  rw [in1, in3]
  exact (congrArg (fun i => sq (V c main_arg3 i) (V c main_arg1 i)) (at14 t y)).symm

theorem arr15 : (dat0 V c).arrAt 15 cfg0.N = fun i => delta (V c main_arg4 i) (V c main_arg5 i) (V c main_arg6 i) (V c main_arg7 i) := by
  refine (dat0 V c).arrAt_eq_of_covers 15 _ (by decide +kernel) fun t hf y => ?_
  refine (congrFun (after0_15 V c t) y).trans ((block15 _ _ _ _ _ _ _ _ _ _ _ _ y).trans ?_)
  rw [in4, in5, in6, in7]
  exact (congrArg (fun i => delta (V c main_arg4 i) (V c main_arg5 i) (V c main_arg6 i) (V c main_arg7 i)) (at15 t y)).symm

theorem arr16 : (dat0 V c).arrAt 16 cfg0.N = fun i => avg (V c main_arg6 i) (V c main_arg5 i) := by
  refine (dat0 V c).arrAt_eq_of_covers 16 _ (by decide +kernel) fun t hf y => ?_
  refine (congrFun (after0_16 V c t) y).trans ((block16 _ _ _ _ _ _ _ _ _ _ _ _ y).trans ?_)
  rw [in5, in6]
  exact (congrArg (fun i => avg (V c main_arg6 i) (V c main_arg5 i)) (at16 t y)).symm

theorem arr17 : (dat0 V c).arrAt 17 cfg0.N = fun i => sq (V c main_arg7 i) (V c main_arg5 i) := by
  refine (dat0 V c).arrAt_eq_of_covers 17 _ (by decide +kernel) fun t hf y => ?_
  refine (congrFun (after0_17 V c t) y).trans ((block17 _ _ _ _ _ _ _ _ _ _ _ _ y).trans ?_)
  rw [in5, in7]
  exact (congrArg (fun i => sq (V c main_arg7 i) (V c main_arg5 i)) (at17 t y)).symm

theorem arr18 : (dat0 V c).arrAt 18 cfg0.N = fun i => delta (V c main_arg8 i) (V c main_arg9 i) (V c main_arg10 i) (V c main_arg11 i) := by
  refine (dat0 V c).arrAt_eq_of_covers 18 _ (by decide +kernel) fun t hf y => ?_
  refine (congrFun (after0_18 V c t) y).trans ((block18 _ _ _ _ _ _ _ _ _ _ _ _ y).trans ?_)
  rw [in8, in9, in10, in11]
  exact (congrArg (fun i => delta (V c main_arg8 i) (V c main_arg9 i) (V c main_arg10 i) (V c main_arg11 i)) (at18 t y)).symm

theorem arr19 : (dat0 V c).arrAt 19 cfg0.N = fun i => avg (V c main_arg10 i) (V c main_arg9 i) := by
  refine (dat0 V c).arrAt_eq_of_covers 19 _ (by decide +kernel) fun t hf y => ?_
  refine (congrFun (after0_19 V c t) y).trans ((block19 _ _ _ _ _ _ _ _ _ _ _ _ y).trans ?_)
  rw [in9, in10]
  exact (congrArg (fun i => avg (V c main_arg10 i) (V c main_arg9 i)) (at19 t y)).symm

theorem arr20 : (dat0 V c).arrAt 20 cfg0.N = fun i => sq (V c main_arg11 i) (V c main_arg9 i) := by
  refine (dat0 V c).arrAt_eq_of_covers 20 _ (by decide +kernel) fun t hf y => ?_
  refine (congrFun (after0_20 V c t) y).trans ((block20 _ _ _ _ _ _ _ _ _ _ _ _ y).trans ?_)
  rw [in9, in11]
  exact (congrArg (fun i => sq (V c main_arg11 i) (V c main_arg9 i)) (at20 t y)).symm

end R0
end Cert.Kernel6Ideal.Hand
-- ==== Proof.UpdRegion1.lean ====
module
public import proofs.«01_k».proof.Proof.Gen.Kernel6Ideal.Frame
public import Idealize.ShloMosaic.Lib.Pipeline.ValueKit
public import Idealize.ShloMosaic.Lib.Pipeline.ReadBack
public import Idealize.ShloMosaic.Lib.Pointwise
public import proofs.«01_k».proof.Proof.StepFormula

/-! # The arrays left by the update of the attention's key and value projections

The call is a single point that holds every array whole, and each result is read entry by entry. -/

@[expose] public section
set_option maxRecDepth 16384

namespace Cert.Kernel6Ideal.Hand
open Idealize.ShloMosaic
open Cert.Kernel6Ideal Cert.Kernel6Ideal.Gen
open Cert.Step

namespace R1

/-! ## The point's results, entry by entry -/

section
variable (x0 : Vec Ideal S1x128x16x64 .f32) (x1 : Vec Ideal S1x128x16x64 .f32) (x2 : Vec Ideal S1x128x16x64 .f32) (x3 : Vec Ideal S1x128x16x64 .f32) (x4 : Vec Ideal S1x128x16x64 .f32) (x5 : Vec Ideal S1x128x16x64 .f32) (x6 : Vec Ideal S1x128x16x64 .f32) (x7 : Vec Ideal S1x128x16x64 .f32)

theorem block8 (y : S1x128x16x64.Idx) : out1_8 x0 x1 x2 x3 x4 x5 x6 x7 y = delta (x0 y) (x1 y) (x2 y) (x3 y) := by
  unfold out1_8
  frame_out
  rfl

theorem block9 (y : S1x128x16x64.Idx) : out1_9 x0 x1 x2 x3 x4 x5 x6 x7 y = avg (x2 y) (x1 y) := by
  unfold out1_9
  frame_out
  rfl

theorem block10 (y : S1x128x16x64.Idx) : out1_10 x0 x1 x2 x3 x4 x5 x6 x7 y = sq (x3 y) (x1 y) := by
  unfold out1_10
  frame_out
  rfl

theorem block11 (y : S1x128x16x64.Idx) : out1_11 x0 x1 x2 x3 x4 x5 x6 x7 y = delta (x4 y) (x5 y) (x6 y) (x7 y) := by
  unfold out1_11
  frame_out
  rfl

theorem block12 (y : S1x128x16x64.Idx) : out1_12 x0 x1 x2 x3 x4 x5 x6 x7 y = avg (x6 y) (x5 y) := by
  unfold out1_12
  frame_out
  rfl

theorem block13 (y : S1x128x16x64.Idx) : out1_13 x0 x1 x2 x3 x4 x5 x6 x7 y = sq (x7 y) (x5 y) := by
  unfold out1_13
  frame_out
  rfl
end

/-! ## A block is its array -/

theorem at0 (t : Fin cfg1.N) (y : S1x128x16x64.Idx) : (win1_0.blk t).view.emb y = y := by
  have e : ∀ t : Fin cfg1.N, (cfg1.win 0).index t 0 = 0 ∧ (cfg1.win 0).index t 1 = 0 ∧ (cfg1.win 0).index t 2 = 0 ∧ (cfg1.win 0).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at1 (t : Fin cfg1.N) (y : S1x128x16x64.Idx) : (win1_1.blk t).view.emb y = y := by
  have e : ∀ t : Fin cfg1.N, (cfg1.win 1).index t 0 = 0 ∧ (cfg1.win 1).index t 1 = 0 ∧ (cfg1.win 1).index t 2 = 0 ∧ (cfg1.win 1).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at2 (t : Fin cfg1.N) (y : S1x128x16x64.Idx) : (win1_2.blk t).view.emb y = y := by
  have e : ∀ t : Fin cfg1.N, (cfg1.win 2).index t 0 = 0 ∧ (cfg1.win 2).index t 1 = 0 ∧ (cfg1.win 2).index t 2 = 0 ∧ (cfg1.win 2).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at3 (t : Fin cfg1.N) (y : S1x128x16x64.Idx) : (win1_3.blk t).view.emb y = y := by
  have e : ∀ t : Fin cfg1.N, (cfg1.win 3).index t 0 = 0 ∧ (cfg1.win 3).index t 1 = 0 ∧ (cfg1.win 3).index t 2 = 0 ∧ (cfg1.win 3).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at4 (t : Fin cfg1.N) (y : S1x128x16x64.Idx) : (win1_4.blk t).view.emb y = y := by
  have e : ∀ t : Fin cfg1.N, (cfg1.win 4).index t 0 = 0 ∧ (cfg1.win 4).index t 1 = 0 ∧ (cfg1.win 4).index t 2 = 0 ∧ (cfg1.win 4).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at5 (t : Fin cfg1.N) (y : S1x128x16x64.Idx) : (win1_5.blk t).view.emb y = y := by
  have e : ∀ t : Fin cfg1.N, (cfg1.win 5).index t 0 = 0 ∧ (cfg1.win 5).index t 1 = 0 ∧ (cfg1.win 5).index t 2 = 0 ∧ (cfg1.win 5).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at6 (t : Fin cfg1.N) (y : S1x128x16x64.Idx) : (win1_6.blk t).view.emb y = y := by
  have e : ∀ t : Fin cfg1.N, (cfg1.win 6).index t 0 = 0 ∧ (cfg1.win 6).index t 1 = 0 ∧ (cfg1.win 6).index t 2 = 0 ∧ (cfg1.win 6).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at7 (t : Fin cfg1.N) (y : S1x128x16x64.Idx) : (win1_7.blk t).view.emb y = y := by
  have e : ∀ t : Fin cfg1.N, (cfg1.win 7).index t 0 = 0 ∧ (cfg1.win 7).index t 1 = 0 ∧ (cfg1.win 7).index t 2 = 0 ∧ (cfg1.win 7).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at8 (t : Fin cfg1.N) (y : S1x128x16x64.Idx) : (win1_8.blk t).view.emb y = y := by
  have e : ∀ t : Fin cfg1.N, (cfg1.win 8).index t 0 = 0 ∧ (cfg1.win 8).index t 1 = 0 ∧ (cfg1.win 8).index t 2 = 0 ∧ (cfg1.win 8).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at9 (t : Fin cfg1.N) (y : S1x128x16x64.Idx) : (win1_9.blk t).view.emb y = y := by
  have e : ∀ t : Fin cfg1.N, (cfg1.win 9).index t 0 = 0 ∧ (cfg1.win 9).index t 1 = 0 ∧ (cfg1.win 9).index t 2 = 0 ∧ (cfg1.win 9).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at10 (t : Fin cfg1.N) (y : S1x128x16x64.Idx) : (win1_10.blk t).view.emb y = y := by
  have e : ∀ t : Fin cfg1.N, (cfg1.win 10).index t 0 = 0 ∧ (cfg1.win 10).index t 1 = 0 ∧ (cfg1.win 10).index t 2 = 0 ∧ (cfg1.win 10).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at11 (t : Fin cfg1.N) (y : S1x128x16x64.Idx) : (win1_11.blk t).view.emb y = y := by
  have e : ∀ t : Fin cfg1.N, (cfg1.win 11).index t 0 = 0 ∧ (cfg1.win 11).index t 1 = 0 ∧ (cfg1.win 11).index t 2 = 0 ∧ (cfg1.win 11).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at12 (t : Fin cfg1.N) (y : S1x128x16x64.Idx) : (win1_12.blk t).view.emb y = y := by
  have e : ∀ t : Fin cfg1.N, (cfg1.win 12).index t 0 = 0 ∧ (cfg1.win 12).index t 1 = 0 ∧ (cfg1.win 12).index t 2 = 0 ∧ (cfg1.win 12).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at13 (t : Fin cfg1.N) (y : S1x128x16x64.Idx) : (win1_13.blk t).view.emb y = y := by
  have e : ∀ t : Fin cfg1.N, (cfg1.win 13).index t 0 = 0 ∧ (cfg1.win 13).index t 1 = 0 ∧ (cfg1.win 13).index t 2 = 0 ∧ (cfg1.win 13).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

variable (V : (c : Dev nD) → (b : Ref sig .tc) → Buf (Elt Ideal) ((c.tc : Thread nD τ).loc b)) (c : Dev nD)

theorem in0 (t : Fin cfg1.N) : iblk1 V c 0 t = V c main_arg12 :=
  funext fun y => congrArg (V c main_arg12) (at0 t y)

theorem in1 (t : Fin cfg1.N) : iblk1 V c 1 t = V c main_arg13 :=
  funext fun y => congrArg (V c main_arg13) (at1 t y)

theorem in2 (t : Fin cfg1.N) : iblk1 V c 2 t = V c main_arg14 :=
  funext fun y => congrArg (V c main_arg14) (at2 t y)

theorem in3 (t : Fin cfg1.N) : iblk1 V c 3 t = V c main_arg15 :=
  funext fun y => congrArg (V c main_arg15) (at3 t y)

theorem in4 (t : Fin cfg1.N) : iblk1 V c 4 t = V c main_arg16 :=
  funext fun y => congrArg (V c main_arg16) (at4 t y)

theorem in5 (t : Fin cfg1.N) : iblk1 V c 5 t = V c main_arg17 :=
  funext fun y => congrArg (V c main_arg17) (at5 t y)

theorem in6 (t : Fin cfg1.N) : iblk1 V c 6 t = V c main_arg18 :=
  funext fun y => congrArg (V c main_arg18) (at6 t y)

theorem in7 (t : Fin cfg1.N) : iblk1 V c 7 t = V c main_arg19 :=
  funext fun y => congrArg (V c main_arg19) (at7 t y)

/-! ## The results -/

theorem arr8 : (dat1 V c).arrAt 8 cfg1.N = fun i => delta (V c main_arg12 i) (V c main_arg13 i) (V c main_arg14 i) (V c main_arg15 i) := by
  refine (dat1 V c).arrAt_eq_of_covers 8 _ (by decide +kernel) fun t hf y => ?_
  refine (congrFun (after1_8 V c t) y).trans ((block8 _ _ _ _ _ _ _ _ y).trans ?_)
  rw [in0, in1, in2, in3]
  exact (congrArg (fun i => delta (V c main_arg12 i) (V c main_arg13 i) (V c main_arg14 i) (V c main_arg15 i)) (at8 t y)).symm

theorem arr9 : (dat1 V c).arrAt 9 cfg1.N = fun i => avg (V c main_arg14 i) (V c main_arg13 i) := by
  refine (dat1 V c).arrAt_eq_of_covers 9 _ (by decide +kernel) fun t hf y => ?_
  refine (congrFun (after1_9 V c t) y).trans ((block9 _ _ _ _ _ _ _ _ y).trans ?_)
  rw [in1, in2]
  exact (congrArg (fun i => avg (V c main_arg14 i) (V c main_arg13 i)) (at9 t y)).symm

theorem arr10 : (dat1 V c).arrAt 10 cfg1.N = fun i => sq (V c main_arg15 i) (V c main_arg13 i) := by
  refine (dat1 V c).arrAt_eq_of_covers 10 _ (by decide +kernel) fun t hf y => ?_
  refine (congrFun (after1_10 V c t) y).trans ((block10 _ _ _ _ _ _ _ _ y).trans ?_)
  rw [in1, in3]
  exact (congrArg (fun i => sq (V c main_arg15 i) (V c main_arg13 i)) (at10 t y)).symm

theorem arr11 : (dat1 V c).arrAt 11 cfg1.N = fun i => delta (V c main_arg16 i) (V c main_arg17 i) (V c main_arg18 i) (V c main_arg19 i) := by
  refine (dat1 V c).arrAt_eq_of_covers 11 _ (by decide +kernel) fun t hf y => ?_
  refine (congrFun (after1_11 V c t) y).trans ((block11 _ _ _ _ _ _ _ _ y).trans ?_)
  rw [in4, in5, in6, in7]
  exact (congrArg (fun i => delta (V c main_arg16 i) (V c main_arg17 i) (V c main_arg18 i) (V c main_arg19 i)) (at11 t y)).symm

theorem arr12 : (dat1 V c).arrAt 12 cfg1.N = fun i => avg (V c main_arg18 i) (V c main_arg17 i) := by
  refine (dat1 V c).arrAt_eq_of_covers 12 _ (by decide +kernel) fun t hf y => ?_
  refine (congrFun (after1_12 V c t) y).trans ((block12 _ _ _ _ _ _ _ _ y).trans ?_)
  rw [in5, in6]
  exact (congrArg (fun i => avg (V c main_arg18 i) (V c main_arg17 i)) (at12 t y)).symm

theorem arr13 : (dat1 V c).arrAt 13 cfg1.N = fun i => sq (V c main_arg19 i) (V c main_arg17 i) := by
  refine (dat1 V c).arrAt_eq_of_covers 13 _ (by decide +kernel) fun t hf y => ?_
  refine (congrFun (after1_13 V c t) y).trans ((block13 _ _ _ _ _ _ _ _ y).trans ?_)
  rw [in5, in7]
  exact (congrArg (fun i => sq (V c main_arg19 i) (V c main_arg17 i)) (at13 t y)).symm

end R1
end Cert.Kernel6Ideal.Hand
-- ==== Proof.UpdRegion2.lean ====
module
public import proofs.«01_k».proof.Proof.Gen.Kernel6Ideal.Frame
public import Idealize.ShloMosaic.Lib.Pipeline.ValueKit
public import Idealize.ShloMosaic.Lib.Pipeline.ReadBack
public import Idealize.ShloMosaic.Lib.Pointwise
public import proofs.«01_k».proof.Proof.StepFormula

/-! # The arrays left by the update of the pooling weight

The call is a single point that holds every array whole, and each result is read entry by entry. -/

@[expose] public section
set_option maxRecDepth 16384

namespace Cert.Kernel6Ideal.Hand
open Idealize.ShloMosaic
open Cert.Kernel6Ideal Cert.Kernel6Ideal.Gen
open Cert.Step

namespace R2

/-! ## The point's results, entry by entry -/

section
variable (x0 : Vec Ideal S1x4x64x256 .f32) (x1 : Vec Ideal S1x4x64x256 .f32) (x2 : Vec Ideal S1x4x64x256 .f32) (x3 : Vec Ideal S1x4x64x256 .f32)

theorem block4 (y : S1x4x64x256.Idx) : out2_4 x0 x1 x2 x3 y = delta (x0 y) (x1 y) (x2 y) (x3 y) := by
  unfold out2_4
  frame_out
  rfl

theorem block5 (y : S1x4x64x256.Idx) : out2_5 x0 x1 x2 x3 y = avg (x2 y) (x1 y) := by
  unfold out2_5
  frame_out
  rfl

theorem block6 (y : S1x4x64x256.Idx) : out2_6 x0 x1 x2 x3 y = sq (x3 y) (x1 y) := by
  unfold out2_6
  frame_out
  rfl
end

/-! ## A block is its array -/

theorem at0 (t : Fin cfg2.N) (y : S1x4x64x256.Idx) : (win2_0.blk t).view.emb y = y := by
  have e : ∀ t : Fin cfg2.N, (cfg2.win 0).index t 0 = 0 ∧ (cfg2.win 0).index t 1 = 0 ∧ (cfg2.win 0).index t 2 = 0 ∧ (cfg2.win 0).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at1 (t : Fin cfg2.N) (y : S1x4x64x256.Idx) : (win2_1.blk t).view.emb y = y := by
  have e : ∀ t : Fin cfg2.N, (cfg2.win 1).index t 0 = 0 ∧ (cfg2.win 1).index t 1 = 0 ∧ (cfg2.win 1).index t 2 = 0 ∧ (cfg2.win 1).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at2 (t : Fin cfg2.N) (y : S1x4x64x256.Idx) : (win2_2.blk t).view.emb y = y := by
  have e : ∀ t : Fin cfg2.N, (cfg2.win 2).index t 0 = 0 ∧ (cfg2.win 2).index t 1 = 0 ∧ (cfg2.win 2).index t 2 = 0 ∧ (cfg2.win 2).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at3 (t : Fin cfg2.N) (y : S1x4x64x256.Idx) : (win2_3.blk t).view.emb y = y := by
  have e : ∀ t : Fin cfg2.N, (cfg2.win 3).index t 0 = 0 ∧ (cfg2.win 3).index t 1 = 0 ∧ (cfg2.win 3).index t 2 = 0 ∧ (cfg2.win 3).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at4 (t : Fin cfg2.N) (y : S1x4x64x256.Idx) : (win2_4.blk t).view.emb y = y := by
  have e : ∀ t : Fin cfg2.N, (cfg2.win 4).index t 0 = 0 ∧ (cfg2.win 4).index t 1 = 0 ∧ (cfg2.win 4).index t 2 = 0 ∧ (cfg2.win 4).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at5 (t : Fin cfg2.N) (y : S1x4x64x256.Idx) : (win2_5.blk t).view.emb y = y := by
  have e : ∀ t : Fin cfg2.N, (cfg2.win 5).index t 0 = 0 ∧ (cfg2.win 5).index t 1 = 0 ∧ (cfg2.win 5).index t 2 = 0 ∧ (cfg2.win 5).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

theorem at6 (t : Fin cfg2.N) (y : S1x4x64x256.Idx) : (win2_6.blk t).view.emb y = y := by
  have e : ∀ t : Fin cfg2.N, (cfg2.win 6).index t 0 = 0 ∧ (cfg2.win 6).index t 1 = 0 ∧ (cfg2.win 6).index t 2 = 0 ∧ (cfg2.win 6).index t 3 = 0 := by
    decide +kernel
  obtain ⟨e0, e1, e2, e3⟩ := e t
  funext a
  fin_cases a
  · exact Fin.ext (by blk_simp [e0])
  · exact Fin.ext (by blk_simp [e1])
  · exact Fin.ext (by blk_simp [e2])
  · exact Fin.ext (by blk_simp [e3])

variable (V : (c : Dev nD) → (b : Ref sig .tc) → Buf (Elt Ideal) ((c.tc : Thread nD τ).loc b)) (c : Dev nD)

theorem in0 (t : Fin cfg2.N) : iblk2 V c 0 t = V c main_arg20 :=
  funext fun y => congrArg (V c main_arg20) (at0 t y)

theorem in1 (t : Fin cfg2.N) : iblk2 V c 1 t = V c main_arg21 :=
  funext fun y => congrArg (V c main_arg21) (at1 t y)

theorem in2 (t : Fin cfg2.N) : iblk2 V c 2 t = V c main_arg22 :=
  funext fun y => congrArg (V c main_arg22) (at2 t y)

theorem in3 (t : Fin cfg2.N) : iblk2 V c 3 t = V c main_arg23 :=
  funext fun y => congrArg (V c main_arg23) (at3 t y)

/-! ## The results -/

theorem arr4 : (dat2 V c).arrAt 4 cfg2.N = fun i => delta (V c main_arg20 i) (V c main_arg21 i) (V c main_arg22 i) (V c main_arg23 i) := by
  refine (dat2 V c).arrAt_eq_of_covers 4 _ (by decide +kernel) fun t hf y => ?_
  refine (congrFun (after2_4 V c t) y).trans ((block4 _ _ _ _ y).trans ?_)
  rw [in0, in1, in2, in3]
  exact (congrArg (fun i => delta (V c main_arg20 i) (V c main_arg21 i) (V c main_arg22 i) (V c main_arg23 i)) (at4 t y)).symm

theorem arr5 : (dat2 V c).arrAt 5 cfg2.N = fun i => avg (V c main_arg22 i) (V c main_arg21 i) := by
  refine (dat2 V c).arrAt_eq_of_covers 5 _ (by decide +kernel) fun t hf y => ?_
  refine (congrFun (after2_5 V c t) y).trans ((block5 _ _ _ _ y).trans ?_)
  rw [in1, in2]
  exact (congrArg (fun i => avg (V c main_arg22 i) (V c main_arg21 i)) (at5 t y)).symm

theorem arr6 : (dat2 V c).arrAt 6 cfg2.N = fun i => sq (V c main_arg23 i) (V c main_arg21 i) := by
  refine (dat2 V c).arrAt_eq_of_covers 6 _ (by decide +kernel) fun t hf y => ?_
  refine (congrFun (after2_6 V c t) y).trans ((block6 _ _ _ _ y).trans ?_)
  rw [in1, in3]
  exact (congrArg (fun i => sq (V c main_arg23 i) (V c main_arg21 i)) (at6 t y)).symm

end R2
end Cert.Kernel6Ideal.Hand
-- ==== Proof.UpdRun.lean ====
module
public import proofs.«01_k».proof.Proof.Gen.Kernel6Ideal.Frame

/-! # The run of the program, with what it leaves in every array

At the end every array holds what the fold of the program's segments gives it. -/

@[expose] public section
set_option maxRecDepth 16384

noncomputable section

namespace Cert.Kernel6Ideal.Hand
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run ends with the arrays at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

end Cert.Kernel6Ideal.Hand
end
-- ==== Proof.UpdEquation.lean ====
module
public import proofs.«01_k».proof.Defs
public import proofs.«01_k».proof.Proof.Gen.Reference6Ideal.Run
public import proofs.«01_k».proof.Proof.UpdReference
public import proofs.«01_k».proof.Proof.UpdRegion0
public import proofs.«01_k».proof.Proof.UpdRegion1
public import proofs.«01_k».proof.Proof.UpdRegion2
public import proofs.«01_k».proof.Proof.UpdRun

/-! # The update of the attention's and pooling's weights against the reference

Both programs end with the same steps and averages, whatever the arguments hold. -/

@[expose] public section
set_option maxRecDepth 16384

namespace Cert.Kernel6Ideal.Hand
open Idealize.ShloMosaic Idealize.SL.Sem
open Cert.Kernel6Ideal Cert.Kernel6Ideal.Gen
open Cert.Step

variable (m : (ℓ : Loc nD τ sig) → Buf (Elt Ideal) ℓ) (ρ : Dev nD → PrngReg) (c : Dev nD)

/-- The arguments. -/
abbrev arg0 : FVec Ideal S1x256x416 .f32 := m ((c.tc : Thread nD τ).loc main_arg0)
abbrev arg1 : FVec Ideal S1x256x416 .f32 := m ((c.tc : Thread nD τ).loc main_arg1)
abbrev arg2 : FVec Ideal S1x256x416 .f32 := m ((c.tc : Thread nD τ).loc main_arg2)
abbrev arg3 : FVec Ideal S1x256x416 .f32 := m ((c.tc : Thread nD τ).loc main_arg3)
abbrev arg4 : FVec Ideal S1x64x16x96 .f32 := m ((c.tc : Thread nD τ).loc main_arg4)
abbrev arg5 : FVec Ideal S1x64x16x96 .f32 := m ((c.tc : Thread nD τ).loc main_arg5)
abbrev arg6 : FVec Ideal S1x64x16x96 .f32 := m ((c.tc : Thread nD τ).loc main_arg6)
abbrev arg7 : FVec Ideal S1x64x16x96 .f32 := m ((c.tc : Thread nD τ).loc main_arg7)
abbrev arg8 : FVec Ideal S1x256x1024 .f32 := m ((c.tc : Thread nD τ).loc main_arg8)
abbrev arg9 : FVec Ideal S1x256x1024 .f32 := m ((c.tc : Thread nD τ).loc main_arg9)
abbrev arg10 : FVec Ideal S1x256x1024 .f32 := m ((c.tc : Thread nD τ).loc main_arg10)
abbrev arg11 : FVec Ideal S1x256x1024 .f32 := m ((c.tc : Thread nD τ).loc main_arg11)
abbrev arg12 : FVec Ideal S1x128x16x64 .f32 := m ((c.tc : Thread nD τ).loc main_arg12)
abbrev arg13 : FVec Ideal S1x128x16x64 .f32 := m ((c.tc : Thread nD τ).loc main_arg13)
abbrev arg14 : FVec Ideal S1x128x16x64 .f32 := m ((c.tc : Thread nD τ).loc main_arg14)
abbrev arg15 : FVec Ideal S1x128x16x64 .f32 := m ((c.tc : Thread nD τ).loc main_arg15)
abbrev arg16 : FVec Ideal S1x128x16x64 .f32 := m ((c.tc : Thread nD τ).loc main_arg16)
abbrev arg17 : FVec Ideal S1x128x16x64 .f32 := m ((c.tc : Thread nD τ).loc main_arg17)
abbrev arg18 : FVec Ideal S1x128x16x64 .f32 := m ((c.tc : Thread nD τ).loc main_arg18)
abbrev arg19 : FVec Ideal S1x128x16x64 .f32 := m ((c.tc : Thread nD τ).loc main_arg19)
abbrev arg20 : FVec Ideal S1x4x64x256 .f32 := m ((c.tc : Thread nD τ).loc main_arg20)
abbrev arg21 : FVec Ideal S1x4x64x256 .f32 := m ((c.tc : Thread nD τ).loc main_arg21)
abbrev arg22 : FVec Ideal S1x4x64x256 .f32 := m ((c.tc : Thread nD τ).loc main_arg22)
abbrev arg23 : FVec Ideal S1x4x64x256 .f32 := m ((c.tc : Thread nD τ).loc main_arg23)

theorem eq23 : W3 m ρ c (Proc.devRef .tc main_v0_0) = Cert.Reference6Ideal.Read.val_main_v23 (F := Ideal) (arg0 m c) (arg1 m c) (arg2 m c) (arg3 m c) := by
  refine (W3_of m ρ c main_v0_0 (by decide +kernel)).trans ((W2_of m ρ c main_v0_0 (by decide +kernel)).trans ((W1_arr m ρ c 12).trans ((R0.arr12 (V0 m ρ) c).trans ?_)))
  rw [show V0 m ρ c main_arg0 = arg0 m c from W0_args m ρ c main_arg0 (by decide), show V0 m ρ c main_arg1 = arg1 m c from W0_args m ρ c main_arg1 (by decide), show V0 m ρ c main_arg2 = arg2 m c from W0_args m ρ c main_arg2 (by decide), show V0 m ρ c main_arg3 = arg3 m c from W0_args m ρ c main_arg3 (by decide)]
  exact Cert.Upd.v23_eq (arg0 m c) (arg1 m c) (arg2 m c) (arg3 m c)

theorem eq4 : W3 m ρ c (Proc.devRef .tc main_v0_1) = Cert.Reference6Ideal.Read.val_main_v4 (F := Ideal) (arg1 m c) (arg2 m c) := by
  refine (W3_of m ρ c main_v0_1 (by decide +kernel)).trans ((W2_of m ρ c main_v0_1 (by decide +kernel)).trans ((W1_arr m ρ c 13).trans ((R0.arr13 (V0 m ρ) c).trans ?_)))
  rw [show V0 m ρ c main_arg1 = arg1 m c from W0_args m ρ c main_arg1 (by decide), show V0 m ρ c main_arg2 = arg2 m c from W0_args m ρ c main_arg2 (by decide)]
  exact Cert.Upd.v4_eq (arg1 m c) (arg2 m c)

theorem eq10 : W3 m ρ c (Proc.devRef .tc main_v0_2) = Cert.Reference6Ideal.Read.val_main_v10 (F := Ideal) (arg1 m c) (arg3 m c) := by
  refine (W3_of m ρ c main_v0_2 (by decide +kernel)).trans ((W2_of m ρ c main_v0_2 (by decide +kernel)).trans ((W1_arr m ρ c 14).trans ((R0.arr14 (V0 m ρ) c).trans ?_)))
  rw [show V0 m ρ c main_arg1 = arg1 m c from W0_args m ρ c main_arg1 (by decide), show V0 m ρ c main_arg3 = arg3 m c from W0_args m ρ c main_arg3 (by decide)]
  exact Cert.Upd.v10_eq (arg1 m c) (arg3 m c)

theorem eq47 : W3 m ρ c (Proc.devRef .tc main_v0_3) = Cert.Reference6Ideal.Read.val_main_v47 (F := Ideal) (arg4 m c) (arg5 m c) (arg6 m c) (arg7 m c) := by
  refine (W3_of m ρ c main_v0_3 (by decide +kernel)).trans ((W2_of m ρ c main_v0_3 (by decide +kernel)).trans ((W1_arr m ρ c 15).trans ((R0.arr15 (V0 m ρ) c).trans ?_)))
  rw [show V0 m ρ c main_arg4 = arg4 m c from W0_args m ρ c main_arg4 (by decide), show V0 m ρ c main_arg5 = arg5 m c from W0_args m ρ c main_arg5 (by decide), show V0 m ρ c main_arg6 = arg6 m c from W0_args m ρ c main_arg6 (by decide), show V0 m ρ c main_arg7 = arg7 m c from W0_args m ρ c main_arg7 (by decide)]
  exact Cert.Upd.v47_eq (arg4 m c) (arg5 m c) (arg6 m c) (arg7 m c)

theorem eq28 : W3 m ρ c (Proc.devRef .tc main_v0_4) = Cert.Reference6Ideal.Read.val_main_v28 (F := Ideal) (arg5 m c) (arg6 m c) := by
  refine (W3_of m ρ c main_v0_4 (by decide +kernel)).trans ((W2_of m ρ c main_v0_4 (by decide +kernel)).trans ((W1_arr m ρ c 16).trans ((R0.arr16 (V0 m ρ) c).trans ?_)))
  rw [show V0 m ρ c main_arg5 = arg5 m c from W0_args m ρ c main_arg5 (by decide), show V0 m ρ c main_arg6 = arg6 m c from W0_args m ρ c main_arg6 (by decide)]
  exact Cert.Upd.v28_eq (arg5 m c) (arg6 m c)

theorem eq34 : W3 m ρ c (Proc.devRef .tc main_v0_5) = Cert.Reference6Ideal.Read.val_main_v34 (F := Ideal) (arg5 m c) (arg7 m c) := by
  refine (W3_of m ρ c main_v0_5 (by decide +kernel)).trans ((W2_of m ρ c main_v0_5 (by decide +kernel)).trans ((W1_arr m ρ c 17).trans ((R0.arr17 (V0 m ρ) c).trans ?_)))
  rw [show V0 m ρ c main_arg5 = arg5 m c from W0_args m ρ c main_arg5 (by decide), show V0 m ρ c main_arg7 = arg7 m c from W0_args m ρ c main_arg7 (by decide)]
  exact Cert.Upd.v34_eq (arg5 m c) (arg7 m c)

theorem eq71 : W3 m ρ c (Proc.devRef .tc main_v0_6) = Cert.Reference6Ideal.Read.val_main_v71 (F := Ideal) (arg8 m c) (arg9 m c) (arg10 m c) (arg11 m c) := by
  refine (W3_of m ρ c main_v0_6 (by decide +kernel)).trans ((W2_of m ρ c main_v0_6 (by decide +kernel)).trans ((W1_arr m ρ c 18).trans ((R0.arr18 (V0 m ρ) c).trans ?_)))
  rw [show V0 m ρ c main_arg8 = arg8 m c from W0_args m ρ c main_arg8 (by decide), show V0 m ρ c main_arg9 = arg9 m c from W0_args m ρ c main_arg9 (by decide), show V0 m ρ c main_arg10 = arg10 m c from W0_args m ρ c main_arg10 (by decide), show V0 m ρ c main_arg11 = arg11 m c from W0_args m ρ c main_arg11 (by decide)]
  exact Cert.Upd.v71_eq (arg8 m c) (arg9 m c) (arg10 m c) (arg11 m c)

theorem eq52 : W3 m ρ c (Proc.devRef .tc main_v0_7) = Cert.Reference6Ideal.Read.val_main_v52 (F := Ideal) (arg9 m c) (arg10 m c) := by
  refine (W3_of m ρ c main_v0_7 (by decide +kernel)).trans ((W2_of m ρ c main_v0_7 (by decide +kernel)).trans ((W1_arr m ρ c 19).trans ((R0.arr19 (V0 m ρ) c).trans ?_)))
  rw [show V0 m ρ c main_arg9 = arg9 m c from W0_args m ρ c main_arg9 (by decide), show V0 m ρ c main_arg10 = arg10 m c from W0_args m ρ c main_arg10 (by decide)]
  exact Cert.Upd.v52_eq (arg9 m c) (arg10 m c)

theorem eq58 : W3 m ρ c (Proc.devRef .tc main_v0_8) = Cert.Reference6Ideal.Read.val_main_v58 (F := Ideal) (arg9 m c) (arg11 m c) := by
  refine (W3_of m ρ c main_v0_8 (by decide +kernel)).trans ((W2_of m ρ c main_v0_8 (by decide +kernel)).trans ((W1_arr m ρ c 20).trans ((R0.arr20 (V0 m ρ) c).trans ?_)))
  rw [show V0 m ρ c main_arg9 = arg9 m c from W0_args m ρ c main_arg9 (by decide), show V0 m ρ c main_arg11 = arg11 m c from W0_args m ρ c main_arg11 (by decide)]
  exact Cert.Upd.v58_eq (arg9 m c) (arg11 m c)

theorem eq95 : W3 m ρ c (Proc.devRef .tc main_v1_0) = Cert.Reference6Ideal.Read.val_main_v95 (F := Ideal) (arg12 m c) (arg13 m c) (arg14 m c) (arg15 m c) := by
  refine (W3_of m ρ c main_v1_0 (by decide +kernel)).trans ((W2_arr m ρ c 8).trans ((R1.arr8 (V1 m ρ) c).trans ?_))
  rw [show V1 m ρ c main_arg12 = arg12 m c from W1_args m ρ c main_arg12 (by decide), show V1 m ρ c main_arg13 = arg13 m c from W1_args m ρ c main_arg13 (by decide), show V1 m ρ c main_arg14 = arg14 m c from W1_args m ρ c main_arg14 (by decide), show V1 m ρ c main_arg15 = arg15 m c from W1_args m ρ c main_arg15 (by decide)]
  exact Cert.Upd.v95_eq (arg12 m c) (arg13 m c) (arg14 m c) (arg15 m c)

theorem eq76 : W3 m ρ c (Proc.devRef .tc main_v1_1) = Cert.Reference6Ideal.Read.val_main_v76 (F := Ideal) (arg13 m c) (arg14 m c) := by
  refine (W3_of m ρ c main_v1_1 (by decide +kernel)).trans ((W2_arr m ρ c 9).trans ((R1.arr9 (V1 m ρ) c).trans ?_))
  rw [show V1 m ρ c main_arg13 = arg13 m c from W1_args m ρ c main_arg13 (by decide), show V1 m ρ c main_arg14 = arg14 m c from W1_args m ρ c main_arg14 (by decide)]
  exact Cert.Upd.v76_eq (arg13 m c) (arg14 m c)

theorem eq82 : W3 m ρ c (Proc.devRef .tc main_v1_2) = Cert.Reference6Ideal.Read.val_main_v82 (F := Ideal) (arg13 m c) (arg15 m c) := by
  refine (W3_of m ρ c main_v1_2 (by decide +kernel)).trans ((W2_arr m ρ c 10).trans ((R1.arr10 (V1 m ρ) c).trans ?_))
  rw [show V1 m ρ c main_arg13 = arg13 m c from W1_args m ρ c main_arg13 (by decide), show V1 m ρ c main_arg15 = arg15 m c from W1_args m ρ c main_arg15 (by decide)]
  exact Cert.Upd.v82_eq (arg13 m c) (arg15 m c)

theorem eq119 : W3 m ρ c (Proc.devRef .tc main_v1_3) = Cert.Reference6Ideal.Read.val_main_v119 (F := Ideal) (arg16 m c) (arg17 m c) (arg18 m c) (arg19 m c) := by
  refine (W3_of m ρ c main_v1_3 (by decide +kernel)).trans ((W2_arr m ρ c 11).trans ((R1.arr11 (V1 m ρ) c).trans ?_))
  rw [show V1 m ρ c main_arg16 = arg16 m c from W1_args m ρ c main_arg16 (by decide), show V1 m ρ c main_arg17 = arg17 m c from W1_args m ρ c main_arg17 (by decide), show V1 m ρ c main_arg18 = arg18 m c from W1_args m ρ c main_arg18 (by decide), show V1 m ρ c main_arg19 = arg19 m c from W1_args m ρ c main_arg19 (by decide)]
  exact Cert.Upd.v119_eq (arg16 m c) (arg17 m c) (arg18 m c) (arg19 m c)

theorem eq100 : W3 m ρ c (Proc.devRef .tc main_v1_4) = Cert.Reference6Ideal.Read.val_main_v100 (F := Ideal) (arg17 m c) (arg18 m c) := by
  refine (W3_of m ρ c main_v1_4 (by decide +kernel)).trans ((W2_arr m ρ c 12).trans ((R1.arr12 (V1 m ρ) c).trans ?_))
  rw [show V1 m ρ c main_arg17 = arg17 m c from W1_args m ρ c main_arg17 (by decide), show V1 m ρ c main_arg18 = arg18 m c from W1_args m ρ c main_arg18 (by decide)]
  exact Cert.Upd.v100_eq (arg17 m c) (arg18 m c)

theorem eq106 : W3 m ρ c (Proc.devRef .tc main_v1_5) = Cert.Reference6Ideal.Read.val_main_v106 (F := Ideal) (arg17 m c) (arg19 m c) := by
  refine (W3_of m ρ c main_v1_5 (by decide +kernel)).trans ((W2_arr m ρ c 13).trans ((R1.arr13 (V1 m ρ) c).trans ?_))
  rw [show V1 m ρ c main_arg17 = arg17 m c from W1_args m ρ c main_arg17 (by decide), show V1 m ρ c main_arg19 = arg19 m c from W1_args m ρ c main_arg19 (by decide)]
  exact Cert.Upd.v106_eq (arg17 m c) (arg19 m c)

theorem eq143 : W3 m ρ c (Proc.devRef .tc main_v2_0) = Cert.Reference6Ideal.Read.val_main_v143 (F := Ideal) (arg20 m c) (arg21 m c) (arg22 m c) (arg23 m c) := by
  refine (W3_arr m ρ c 4).trans ((R2.arr4 (V2 m ρ) c).trans ?_)
  rw [show V2 m ρ c main_arg20 = arg20 m c from W2_args m ρ c main_arg20 (by decide), show V2 m ρ c main_arg21 = arg21 m c from W2_args m ρ c main_arg21 (by decide), show V2 m ρ c main_arg22 = arg22 m c from W2_args m ρ c main_arg22 (by decide), show V2 m ρ c main_arg23 = arg23 m c from W2_args m ρ c main_arg23 (by decide)]
  exact Cert.Upd.v143_eq (arg20 m c) (arg21 m c) (arg22 m c) (arg23 m c)

theorem eq124 : W3 m ρ c (Proc.devRef .tc main_v2_1) = Cert.Reference6Ideal.Read.val_main_v124 (F := Ideal) (arg21 m c) (arg22 m c) := by
  refine (W3_arr m ρ c 5).trans ((R2.arr5 (V2 m ρ) c).trans ?_)
  rw [show V2 m ρ c main_arg21 = arg21 m c from W2_args m ρ c main_arg21 (by decide), show V2 m ρ c main_arg22 = arg22 m c from W2_args m ρ c main_arg22 (by decide)]
  exact Cert.Upd.v124_eq (arg21 m c) (arg22 m c)

theorem eq130 : W3 m ρ c (Proc.devRef .tc main_v2_2) = Cert.Reference6Ideal.Read.val_main_v130 (F := Ideal) (arg21 m c) (arg23 m c) := by
  refine (W3_arr m ρ c 6).trans ((R2.arr6 (V2 m ρ) c).trans ?_)
  rw [show V2 m ρ c main_arg21 = arg21 m c from W2_args m ρ c main_arg21 (by decide), show V2 m ρ c main_arg23 = arg23 m c from W2_args m ρ c main_arg23 (by decide)]
  exact Cert.Upd.v130_eq (arg21 m c) (arg23 m c)

end Cert.Kernel6Ideal.Hand

namespace Cert.Hand
open Idealize.ShloMosaic Idealize.SL.Sem
open Cert.Kernel6Ideal.Hand (arg0 arg1 arg2 arg3 arg4 arg5 arg6 arg7 arg8 arg9 arg10 arg11 arg12 arg13 arg14 arg15 arg16 arg17 arg18 arg19 arg20 arg21 arg22 arg23)

/-- The reference's program keeps its arguments, and it has no semaphore. -/
theorem frame_reference6 : Cert.quiescent_Reference6Ideal := fun m ρ _ =>
  (θ_run Cert.Reference6Ideal.defs _ _).mono (fun r h => ⟨fun c => (h c).2.2.2.2.2.2.2.2.2.2.2.2.2.2.2.2.2.2,
      Idealize.ShloMosaic.sem_eq_zero_of_no_sems (by decide) r.2⟩)
    (Cert.Reference6Ideal.Value.run (F := Ideal) m ρ)

/-- The attention's and pooling's weights: both programs end with the same steps and averages. -/
theorem algebraic_update : Cert.algebraic_Kernel6Ideal_Reference6Ideal := by
  intro m ρ m' ρ' _ hargs
  refine ⟨fun c => Cert.Reference6Ideal.Read.val_main_v23 (F := Ideal) (arg0 m c) (arg1 m c) (arg2 m c) (arg3 m c),
    fun c => Cert.Reference6Ideal.Read.val_main_v4 (F := Ideal) (arg1 m c) (arg2 m c),
    fun c => Cert.Reference6Ideal.Read.val_main_v10 (F := Ideal) (arg1 m c) (arg3 m c),
    fun c => Cert.Reference6Ideal.Read.val_main_v47 (F := Ideal) (arg4 m c) (arg5 m c) (arg6 m c) (arg7 m c),
    fun c => Cert.Reference6Ideal.Read.val_main_v28 (F := Ideal) (arg5 m c) (arg6 m c),
    fun c => Cert.Reference6Ideal.Read.val_main_v34 (F := Ideal) (arg5 m c) (arg7 m c),
    fun c => Cert.Reference6Ideal.Read.val_main_v71 (F := Ideal) (arg8 m c) (arg9 m c) (arg10 m c) (arg11 m c),
    fun c => Cert.Reference6Ideal.Read.val_main_v52 (F := Ideal) (arg9 m c) (arg10 m c),
    fun c => Cert.Reference6Ideal.Read.val_main_v58 (F := Ideal) (arg9 m c) (arg11 m c),
    fun c => Cert.Reference6Ideal.Read.val_main_v95 (F := Ideal) (arg12 m c) (arg13 m c) (arg14 m c) (arg15 m c),
    fun c => Cert.Reference6Ideal.Read.val_main_v76 (F := Ideal) (arg13 m c) (arg14 m c),
    fun c => Cert.Reference6Ideal.Read.val_main_v82 (F := Ideal) (arg13 m c) (arg15 m c),
    fun c => Cert.Reference6Ideal.Read.val_main_v119 (F := Ideal) (arg16 m c) (arg17 m c) (arg18 m c) (arg19 m c),
    fun c => Cert.Reference6Ideal.Read.val_main_v100 (F := Ideal) (arg17 m c) (arg18 m c),
    fun c => Cert.Reference6Ideal.Read.val_main_v106 (F := Ideal) (arg17 m c) (arg19 m c),
    fun c => Cert.Reference6Ideal.Read.val_main_v143 (F := Ideal) (arg20 m c) (arg21 m c) (arg22 m c) (arg23 m c),
    fun c => Cert.Reference6Ideal.Read.val_main_v124 (F := Ideal) (arg21 m c) (arg22 m c),
    fun c => Cert.Reference6Ideal.Read.val_main_v130 (F := Ideal) (arg21 m c) (arg23 m c), ?_, ?_⟩
  · refine (θ_run Cert.Kernel6Ideal.defs _ _).mono ?_
      (θ_run_and (Cert.Kernel6Ideal.Hand.run_main (F := Ideal) m ρ) (Cert.Kernel6Ideal.Gen.unchanged (F := Ideal) m ρ))
    intro r h c
    refine ⟨?_, ?_, ?_, ?_, ?_, ?_, ?_, ?_, ?_, ?_, ?_, ?_, ?_, ?_, ?_, ?_, ?_, ?_, h.2 c⟩
    · exact (h.1 c _ (Cert.Kernel6Ideal.Gen.mem_uc Cert.Kernel6Ideal.main_v0_0 (by decide))).trans (Cert.Kernel6Ideal.Hand.eq23 m ρ c)
    · exact (h.1 c _ (Cert.Kernel6Ideal.Gen.mem_uc Cert.Kernel6Ideal.main_v0_1 (by decide))).trans (Cert.Kernel6Ideal.Hand.eq4 m ρ c)
    · exact (h.1 c _ (Cert.Kernel6Ideal.Gen.mem_uc Cert.Kernel6Ideal.main_v0_2 (by decide))).trans (Cert.Kernel6Ideal.Hand.eq10 m ρ c)
    · exact (h.1 c _ (Cert.Kernel6Ideal.Gen.mem_uc Cert.Kernel6Ideal.main_v0_3 (by decide))).trans (Cert.Kernel6Ideal.Hand.eq47 m ρ c)
    · exact (h.1 c _ (Cert.Kernel6Ideal.Gen.mem_uc Cert.Kernel6Ideal.main_v0_4 (by decide))).trans (Cert.Kernel6Ideal.Hand.eq28 m ρ c)
    · exact (h.1 c _ (Cert.Kernel6Ideal.Gen.mem_uc Cert.Kernel6Ideal.main_v0_5 (by decide))).trans (Cert.Kernel6Ideal.Hand.eq34 m ρ c)
    · exact (h.1 c _ (Cert.Kernel6Ideal.Gen.mem_uc Cert.Kernel6Ideal.main_v0_6 (by decide))).trans (Cert.Kernel6Ideal.Hand.eq71 m ρ c)
    · exact (h.1 c _ (Cert.Kernel6Ideal.Gen.mem_uc Cert.Kernel6Ideal.main_v0_7 (by decide))).trans (Cert.Kernel6Ideal.Hand.eq52 m ρ c)
    · exact (h.1 c _ (Cert.Kernel6Ideal.Gen.mem_uc Cert.Kernel6Ideal.main_v0_8 (by decide))).trans (Cert.Kernel6Ideal.Hand.eq58 m ρ c)
    · exact (h.1 c _ (Cert.Kernel6Ideal.Gen.mem_uc Cert.Kernel6Ideal.main_v1_0 (by decide))).trans (Cert.Kernel6Ideal.Hand.eq95 m ρ c)
    · exact (h.1 c _ (Cert.Kernel6Ideal.Gen.mem_uc Cert.Kernel6Ideal.main_v1_1 (by decide))).trans (Cert.Kernel6Ideal.Hand.eq76 m ρ c)
    · exact (h.1 c _ (Cert.Kernel6Ideal.Gen.mem_uc Cert.Kernel6Ideal.main_v1_2 (by decide))).trans (Cert.Kernel6Ideal.Hand.eq82 m ρ c)
    · exact (h.1 c _ (Cert.Kernel6Ideal.Gen.mem_uc Cert.Kernel6Ideal.main_v1_3 (by decide))).trans (Cert.Kernel6Ideal.Hand.eq119 m ρ c)
    · exact (h.1 c _ (Cert.Kernel6Ideal.Gen.mem_uc Cert.Kernel6Ideal.main_v1_4 (by decide))).trans (Cert.Kernel6Ideal.Hand.eq100 m ρ c)
    · exact (h.1 c _ (Cert.Kernel6Ideal.Gen.mem_uc Cert.Kernel6Ideal.main_v1_5 (by decide))).trans (Cert.Kernel6Ideal.Hand.eq106 m ρ c)
    · exact (h.1 c _ (Cert.Kernel6Ideal.Gen.mem_uc Cert.Kernel6Ideal.main_v2_0 (by decide))).trans (Cert.Kernel6Ideal.Hand.eq143 m ρ c)
    · exact (h.1 c _ (Cert.Kernel6Ideal.Gen.mem_uc Cert.Kernel6Ideal.main_v2_1 (by decide))).trans (Cert.Kernel6Ideal.Hand.eq124 m ρ c)
    · exact (h.1 c _ (Cert.Kernel6Ideal.Gen.mem_uc Cert.Kernel6Ideal.main_v2_2 (by decide))).trans (Cert.Kernel6Ideal.Hand.eq130 m ρ c)
  · refine (θ_run Cert.Reference6Ideal.defs _ _).mono ?_ (Cert.Reference6Ideal.Value.run (F := Ideal) m' ρ')
    intro r h c
    obtain ⟨h0, h1, h2, h3, h4, h5, h6, h7, h8, h9, h10, h11, h12, h13, h14, h15, h16, h17, hk⟩ := h c
    obtain ⟨g0, g1, g2, g3, g4, g5, g6, g7, g8, g9, g10, g11, g12, g13, g14, g15, g16, g17, g18, g19, g20, g21, g22, g23⟩ := hargs c
    refine ⟨?_, ?_, ?_, ?_, ?_, ?_, ?_, ?_, ?_, ?_, ?_, ?_, ?_, ?_, ?_, ?_, ?_, ?_, hk⟩
    · refine (h0.trans (Cert.Reference6Ideal.Read.val_main_v23_eq (fun b => m' (c, b)))).trans ?_
      show Cert.Reference6Ideal.Read.val_main_v23 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) = _
      rw [g0, g1, g2, g3]
    · refine (h1.trans (Cert.Reference6Ideal.Read.val_main_v4_eq (fun b => m' (c, b)))).trans ?_
      show Cert.Reference6Ideal.Read.val_main_v4 (F := Ideal) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
      rw [g1, g2]
    · refine (h2.trans (Cert.Reference6Ideal.Read.val_main_v10_eq (fun b => m' (c, b)))).trans ?_
      show Cert.Reference6Ideal.Read.val_main_v10 (F := Ideal) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg3)) = _
      rw [g1, g3]
    · refine (h3.trans (Cert.Reference6Ideal.Read.val_main_v47_eq (fun b => m' (c, b)))).trans ?_
      show Cert.Reference6Ideal.Read.val_main_v47 (F := Ideal) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) = _
      rw [g4, g5, g6, g7]
    · refine (h4.trans (Cert.Reference6Ideal.Read.val_main_v28_eq (fun b => m' (c, b)))).trans ?_
      show Cert.Reference6Ideal.Read.val_main_v28 (F := Ideal) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) = _
      rw [g5, g6]
    · refine (h5.trans (Cert.Reference6Ideal.Read.val_main_v34_eq (fun b => m' (c, b)))).trans ?_
      show Cert.Reference6Ideal.Read.val_main_v34 (F := Ideal) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg7)) = _
      rw [g5, g7]
    · refine (h6.trans (Cert.Reference6Ideal.Read.val_main_v71_eq (fun b => m' (c, b)))).trans ?_
      show Cert.Reference6Ideal.Read.val_main_v71 (F := Ideal) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg9)) (m' ((c.tc : Thread Cert.Reference6Ideal.nD Cert.Reference6Ideal.τ).loc Cert.Reference6Ideal.main_arg10)) (m' ((c.tc : Thread Cert.Reference6Ideal.nD Cert.Reference6Ideal.τ).loc Cert.Reference6Ideal.main_arg11)) = _
      rw [g8, g9, g10, g11]
    · refine (h7.trans (Cert.Reference6Ideal.Read.val_main_v52_eq (fun b => m' (c, b)))).trans ?_
      show Cert.Reference6Ideal.Read.val_main_v52 (F := Ideal) (m' ((c.tc : Thread Cert.Reference6Ideal.nD Cert.Reference6Ideal.τ).loc Cert.Reference6Ideal.main_arg9)) (m' ((c.tc : Thread Cert.Reference6Ideal.nD Cert.Reference6Ideal.τ).loc Cert.Reference6Ideal.main_arg10)) = _
      rw [g9, g10]
    · refine (h8.trans (Cert.Reference6Ideal.Read.val_main_v58_eq (fun b => m' (c, b)))).trans ?_
      show Cert.Reference6Ideal.Read.val_main_v58 (F := Ideal) (m' ((c.tc : Thread Cert.Reference6Ideal.nD Cert.Reference6Ideal.τ).loc Cert.Reference6Ideal.main_arg9)) (m' ((c.tc : Thread Cert.Reference6Ideal.nD Cert.Reference6Ideal.τ).loc Cert.Reference6Ideal.main_arg11)) = _
      rw [g9, g11]
    · refine (h9.trans (Cert.Reference6Ideal.Read.val_main_v95_eq (fun b => m' (c, b)))).trans ?_
      show Cert.Reference6Ideal.Read.val_main_v95 (F := Ideal) (m' ((c.tc : Thread Cert.Reference6Ideal.nD Cert.Reference6Ideal.τ).loc Cert.Reference6Ideal.main_arg12)) (m' ((c.tc : Thread Cert.Reference6Ideal.nD Cert.Reference6Ideal.τ).loc Cert.Reference6Ideal.main_arg13)) (m' ((c.tc : Thread Cert.Reference6Ideal.nD Cert.Reference6Ideal.τ).loc Cert.Reference6Ideal.main_arg14)) (m' ((c.tc : Thread Cert.Reference6Ideal.nD Cert.Reference6Ideal.τ).loc Cert.Reference6Ideal.main_arg15)) = _
      rw [g12, g13, g14, g15]
    · refine (h10.trans (Cert.Reference6Ideal.Read.val_main_v76_eq (fun b => m' (c, b)))).trans ?_
      show Cert.Reference6Ideal.Read.val_main_v76 (F := Ideal) (m' ((c.tc : Thread Cert.Reference6Ideal.nD Cert.Reference6Ideal.τ).loc Cert.Reference6Ideal.main_arg13)) (m' ((c.tc : Thread Cert.Reference6Ideal.nD Cert.Reference6Ideal.τ).loc Cert.Reference6Ideal.main_arg14)) = _
      rw [g13, g14]
    · refine (h11.trans (Cert.Reference6Ideal.Read.val_main_v82_eq (fun b => m' (c, b)))).trans ?_
      show Cert.Reference6Ideal.Read.val_main_v82 (F := Ideal) (m' ((c.tc : Thread Cert.Reference6Ideal.nD Cert.Reference6Ideal.τ).loc Cert.Reference6Ideal.main_arg13)) (m' ((c.tc : Thread Cert.Reference6Ideal.nD Cert.Reference6Ideal.τ).loc Cert.Reference6Ideal.main_arg15)) = _
      rw [g13, g15]
    · refine (h12.trans (Cert.Reference6Ideal.Read.val_main_v119_eq (fun b => m' (c, b)))).trans ?_
      show Cert.Reference6Ideal.Read.val_main_v119 (F := Ideal) (m' ((c.tc : Thread Cert.Reference6Ideal.nD Cert.Reference6Ideal.τ).loc Cert.Reference6Ideal.main_arg16)) (m' ((c.tc : Thread Cert.Reference6Ideal.nD Cert.Reference6Ideal.τ).loc Cert.Reference6Ideal.main_arg17)) (m' ((c.tc : Thread Cert.Reference6Ideal.nD Cert.Reference6Ideal.τ).loc Cert.Reference6Ideal.main_arg18)) (m' ((c.tc : Thread Cert.Reference6Ideal.nD Cert.Reference6Ideal.τ).loc Cert.Reference6Ideal.main_arg19)) = _
      rw [g16, g17, g18, g19]
    · refine (h13.trans (Cert.Reference6Ideal.Read.val_main_v100_eq (fun b => m' (c, b)))).trans ?_
      show Cert.Reference6Ideal.Read.val_main_v100 (F := Ideal) (m' ((c.tc : Thread Cert.Reference6Ideal.nD Cert.Reference6Ideal.τ).loc Cert.Reference6Ideal.main_arg17)) (m' ((c.tc : Thread Cert.Reference6Ideal.nD Cert.Reference6Ideal.τ).loc Cert.Reference6Ideal.main_arg18)) = _
      rw [g17, g18]
    · refine (h14.trans (Cert.Reference6Ideal.Read.val_main_v106_eq (fun b => m' (c, b)))).trans ?_
      show Cert.Reference6Ideal.Read.val_main_v106 (F := Ideal) (m' ((c.tc : Thread Cert.Reference6Ideal.nD Cert.Reference6Ideal.τ).loc Cert.Reference6Ideal.main_arg17)) (m' ((c.tc : Thread Cert.Reference6Ideal.nD Cert.Reference6Ideal.τ).loc Cert.Reference6Ideal.main_arg19)) = _
      rw [g17, g19]
    · refine (h15.trans (Cert.Reference6Ideal.Read.val_main_v143_eq (fun b => m' (c, b)))).trans ?_
      show Cert.Reference6Ideal.Read.val_main_v143 (F := Ideal) (m' ((c.tc : Thread Cert.Reference6Ideal.nD Cert.Reference6Ideal.τ).loc Cert.Reference6Ideal.main_arg20)) (m' ((c.tc : Thread Cert.Reference6Ideal.nD Cert.Reference6Ideal.τ).loc Cert.Reference6Ideal.main_arg21)) (m' ((c.tc : Thread Cert.Reference6Ideal.nD Cert.Reference6Ideal.τ).loc Cert.Reference6Ideal.main_arg22)) (m' ((c.tc : Thread Cert.Reference6Ideal.nD Cert.Reference6Ideal.τ).loc Cert.Reference6Ideal.main_arg23)) = _
      rw [g20, g21, g22, g23]
    · refine (h16.trans (Cert.Reference6Ideal.Read.val_main_v124_eq (fun b => m' (c, b)))).trans ?_
      show Cert.Reference6Ideal.Read.val_main_v124 (F := Ideal) (m' ((c.tc : Thread Cert.Reference6Ideal.nD Cert.Reference6Ideal.τ).loc Cert.Reference6Ideal.main_arg21)) (m' ((c.tc : Thread Cert.Reference6Ideal.nD Cert.Reference6Ideal.τ).loc Cert.Reference6Ideal.main_arg22)) = _
      rw [g21, g22]
    · refine (h17.trans (Cert.Reference6Ideal.Read.val_main_v130_eq (fun b => m' (c, b)))).trans ?_
      show Cert.Reference6Ideal.Read.val_main_v130 (F := Ideal) (m' ((c.tc : Thread Cert.Reference6Ideal.nD Cert.Reference6Ideal.τ).loc Cert.Reference6Ideal.main_arg21)) (m' ((c.tc : Thread Cert.Reference6Ideal.nD Cert.Reference6Ideal.τ).loc Cert.Reference6Ideal.main_arg23)) = _
      rw [g21, g23]

end Cert.Hand
-- ==== Proof.PostFormula.lean ====
module
public import proofs.«01_k».proof.Proof.LastFormula

/-! # The end of the attention's sublayer over the extended reals

The heads' outputs are brought up to their values, multiplied by the output weight, scaled to mean square one, gated and
added to the rows that came in. One program takes the heads in pairs, with weights that are zero off the diagonal; a sum
with zeros in it is the sum without them, whatever the other factors are. -/

@[expose] public section

namespace Cert.Post
open Idealize.ShloMosaic
open Cert.Last (rinv)

noncomputable section

/-- The six arguments. -/
structure Args where
  O : Fin 4096 → Fin 16 → Fin 128 → EReal
  X : Fin 4096 → Fin 1024 → EReal
  Ga : Fin 1024 → EReal
  Gq : Fin 1024 → EReal
  Wv : Fin 128 → Fin 16 → Fin 64 → EReal
  Wo : Fin 1024 → Fin 1024 → EReal

/-- The head of a column of the values. -/
def hd (f : Fin 1024) : Fin 16 := ⟨f.val / 64, by omega⟩
/-- The place of a column in its head. -/
def pl (f : Fin 1024) : Fin 64 := ⟨f.val % 64, by omega⟩

namespace Args
variable (P : Args)

/-- The values. -/
def Val (t : Fin 4096) (f : Fin 1024) : EReal := ∑ c, P.O t (hd f) c * P.Wv c (hd f) (pl f)
/-- The product with the output weight. -/
def U (t : Fin 4096) (d : Fin 1024) : EReal := ∑ f, P.Val t f * P.Wo f d
/-- The sublayer's output. -/
def Y (t : Fin 4096) (d : Fin 1024) : EReal := P.X t d + (1 + P.Ga d) * (P.U t d * rinv (P.U t) * P.Gq d)
end Args

/-! ## The heads in pairs -/

/-- One of the two heads of a pair. -/
def two (j : Fin 8) (a : Fin 2) : Fin 16 := ⟨2 * j.val + a.val, by omega⟩
/-- A lane of a pair's two heads. -/
def pairLane (a : Fin 2) (c : Fin 128) : Fin 256 := ⟨a.val * 128 + c.val, by omega⟩
/-- The head in its pair, of a lane. -/
def la (k : Fin 256) : Fin 2 := ⟨k.val / 128, by omega⟩
/-- The place in its head, of a lane. -/
def lc (k : Fin 256) : Fin 128 := ⟨k.val % 128, by omega⟩
/-- The head in its pair, of a column. -/
def ca (b : Fin 128) : Fin 2 := ⟨b.val / 64, by omega⟩
/-- The place in its head, of a column. -/
def cv (b : Fin 128) : Fin 64 := ⟨b.val % 64, by omega⟩
/-- The column of a pair's block. -/
def col (j : Fin 8) (b : Fin 128) : Fin 1024 := ⟨j.val * 128 + b.val, by omega⟩

theorem hd_col (j : Fin 8) (b : Fin 128) : hd (col j b) = two j (ca b) := Fin.ext (by simp only [hd, col, two, ca]; omega)
theorem pl_col (j : Fin 8) (b : Fin 128) : pl (col j b) = cv b := Fin.ext (by simp only [pl, col, cv]; omega)
theorem la_pair (a : Fin 2) (c : Fin 128) : la (pairLane a c) = a := Fin.ext (by simp only [la, pairLane]; omega)
theorem lc_pair (a : Fin 2) (c : Fin 128) : lc (pairLane a c) = c := Fin.ext (by simp only [lc, pairLane]; omega)

/-- A sum over a pair's lanes is the sum over its two heads' lanes. -/
theorem sum_pair (f : Fin 256 → EReal) : ∑ k, f k = ∑ c, f (pairLane 0 c) + ∑ c, f (pairLane 1 c) := by
  refine (Fin.sum_univ_add (a := 128) (b := 128) f).trans ?_
  refine congrArg₂ (· + ·) (Finset.sum_congr rfl fun c _ => congrArg f (Fin.ext ?_)) (Finset.sum_congr rfl fun c _ => congrArg f (Fin.ext ?_))
  · simp [pairLane]
  · simp [pairLane, Nat.add_comm]

/-- One, on the diagonal, and zero off it. -/
def unit2 (a b : Fin 2) : EReal := if a = b then 1 else 0

/-- A column of a pair's product holds the value of its own head. -/
theorem pair_product (P : Args) (t : Fin 4096) (j : Fin 8) (b : Fin 128) :
    ∑ k, P.O t (two j (la k)) (lc k) * (P.Wv (lc k) (two j (la k)) (cv b) * unit2 (la k) (ca b)) = P.Val t (col j b) := by
  unfold Args.Val
  rw [hd_col, pl_col, sum_pair]
  simp only [la_pair, lc_pair, unit2]
  generalize ca b = e
  fin_cases e
  · simp
  · simp

end
end Cert.Post
-- ==== Proof.PostPrelude.lean ====
module
public import proofs.«01_k».proof.Proof.Gen.Kernel7Ideal.Frame
public import Idealize.ShloMosaic.Lib.Pipeline.Value
public import Idealize.ShloMosaic.Lib.Pointwise
public import Idealize.ShloMosaic.Lib.StableHlo.ReadAt
public import proofs.«01_k».proof.Proof.PostFormula

/-! # What the end of the attention's sublayer reads

The heads' outputs side by side, the table of vectors, the value weights of every pair of heads with zeros off the
diagonal, and the output weight. -/

@[expose] public section
set_option maxRecDepth 16384

namespace Cert.Kernel7Ideal.Hand
open Idealize.ShloMosaic
open Cert.Kernel7Ideal Cert.Kernel7Ideal.Gen
open Cert.Post

/-- The heads' outputs side by side. -/
noncomputable def kO (o : FVec Ideal S4096x16x128 .f32) : FVec Ideal S4096x2048 .bf16 :=
  truncf .bf16 (shapeCast S4096x2048 o shapeCasts_S4096x16x128_S4096x2048) bitsLt_bf16_f32

/-- Nothing but zeros. -/
noncomputable def kZero : FVec Ideal S1024 .f32 := broadcastInDim S1024 ![] bcast_S_S1024 (constant (F := Ideal) S_ .f32 0x00000000#32)

/-- A vector as a row. -/
noncomputable def kRow (v : FVec Ideal S1024 .f32) : FVec Ideal S1x1024 .f32 :=
  broadcastInDim S1x1024 ![1] bcast_S1024_S1x1024_1 v

/-- Five rows, one above the other. -/
noncomputable def kFive (r0 r1 r2 r3 r4 : FVec Ideal S1x1024 .f32) : FVec Ideal S5x1024 .f32 :=
  concatenate S5x1024 0 [⟨S1x1024, r0⟩, ⟨S1x1024, r1⟩, ⟨S1x1024, r2⟩, ⟨S1x1024, r3⟩, ⟨S1x1024, r4⟩]
    concatenates_S1x1024_S1x1024_S1x1024_S1x1024_S1x1024_S5x1024_d0

/-- The table: the five rows and three rows of zeros. -/
noncomputable def kTab (r : FVec Ideal S5x1024 .f32) : FVec Ideal S8x1024 .f32 :=
  concatenate S8x1024 0 [⟨S5x1024, r⟩, ⟨S3x1024, broadcastInDim S3x1024 ![] bcast_S_S3x1024 (constant (F := Ideal) S_ .f32 0x00000000#32)⟩]
    concatenates_S5x1024_S3x1024_S8x1024_d0

/-- The two-by-two identity. -/
noncomputable def kEye : FVec Ideal S2x2 .bf16 :=
  uitofp .bf16 (cmpi .eq (addi (iotaInDim S2x2 32 0) (broadcastInDim S2x2 ![] bcast_S_S2x2 (constantI S_ 32 0#32))) (iotaInDim S2x2 32 1))

/-- The value weights of the heads in pairs. -/
noncomputable def kPair (w : FVec Ideal S128x16x64 .f32) : FVec Ideal S8x2x128x64 .bf16 :=
  shapeCast S8x2x128x64 (transpose S16x128x64 [1, 0, 2] (truncf .bf16 w bitsLt_bf16_f32 : FVec Ideal S128x16x64 .bf16)
    transposes_S128x16x64_S16x128x64_1_0_2) shapeCasts_S16x128x64_S8x2x128x64

/-- Every pair's weights with zeros off the diagonal, lane by lane. -/
noncomputable def kWide (w : FVec Ideal S128x16x64 .f32) : FVec Ideal S8x2x128x2x64 .bf16 :=
  mulf (broadcastInDim S8x2x128x2x64 ![0, 1, 2, 3, 4] bcast_S8x2x128x1x64_S8x2x128x2x64_0_1_2_3_4
      (broadcastInDim S8x2x128x1x64 ![0, 1, 2, 4] bcast_S8x2x128x64_S8x2x128x1x64_0_1_2_4 (kPair w)))
    (broadcastInDim S8x2x128x2x64 ![0, 1, 2, 3, 4] bcast_S1x2x1x2x1_S8x2x128x2x64_0_1_2_3_4
      (broadcastInDim S1x2x1x2x1 ![1, 3] bcast_S2x2_S1x2x1x2x1_1_3 kEye))

/-- Every pair's weights as a matrix. -/
noncomputable def kB (w : FVec Ideal S128x16x64 .f32) : FVec Ideal S8x256x128 .bf16 :=
  shapeCast S8x256x128 (kWide w) shapeCasts_S8x2x128x2x64_S8x256x128

/-- The output weight. -/
noncomputable def kW (w : FVec Ideal S1024x1024 .f32) : FVec Ideal S1024x1024 .bf16 := truncf .bf16 w bitsLt_bf16_f32

theorem kO_at (o : FVec Ideal S4096x16x128 .f32) (t : Fin 4096) (h : Fin 16) (c : Fin 128) :
    (kO o (ix2 t ⟨h.val * 128 + c.val, by omega⟩) : EReal) = o (ix3 t h c) := by
  pointwise [kO]

theorem kW_at (w : FVec Ideal S1024x1024 .f32) (f d : Fin 1024) : (kW w (ix2 f d) : EReal) = w (ix2 f d) := by
  pointwise [kW]

section
variable (r0 r1 r2 r3 r4 : FVec Ideal S1x1024 .f32) (d : Fin 1024)
theorem five1 : kTab (kFive r0 r1 r2 r3 r4) (ix2 1 d) = r1 (ix2 0 d) := by pointwise [kTab, kFive]
theorem five4 : kTab (kFive r0 r1 r2 r3 r4) (ix2 4 d) = r4 (ix2 0 d) := by pointwise [kTab, kFive]
theorem row_at (v : FVec Ideal S1024 .f32) : kRow v (ix2 0 d) = v (ix1 d) := by pointwise [kRow]
end

theorem bit_one : (FloatOps.uitofp (F := Ideal) FTy.bf16 1#1 : EReal) = 1 := by
  show (((1#1 : BitVec 1).toNat : ℝ) : EReal) = 1
  simp

theorem bit_zero : (FloatOps.uitofp (F := Ideal) FTy.bf16 0#1 : EReal) = 0 := by
  show (((0#1 : BitVec 1).toNat : ℝ) : EReal) = 0
  simp

theorem kEye_at (a b : Fin 2) : (kEye (ix2 a b) : EReal) = unit2 a b := by
  pointwise [kEye]
  fin_cases a <;> fin_cases b <;> simp [unit2, IntOp.cmpi, IntOp.addi, bit_one, bit_zero]

theorem kPair_at (w : FVec Ideal S128x16x64 .f32) (j : Fin 8) (a : Fin 2) (c : Fin 128) (v : Fin 64) :
    (kPair w (ix4 j a c v) : EReal) = w (ix3 c (two j a) v) := by
  pointwise [kPair]
  exact congrArg (fun h => w (ix3 c h v)) (Fin.ext (by simp only [two]; omega))

theorem kWide_at (w : FVec Ideal S128x16x64 .f32) (j : Fin 8) (a : Fin 2) (c : Fin 128) (e : Fin 2) (v : Fin 64) :
    (kWide w (ix5 j a c e v) : EReal) = w (ix3 c (two j a) v) * unit2 a e := by
  have h1 : ∀ p : FVec Ideal S8x2x128x64 .bf16, ∀ y : FVec Ideal S2x2 .bf16,
      (mulf (broadcastInDim S8x2x128x2x64 ![0, 1, 2, 3, 4] bcast_S8x2x128x1x64_S8x2x128x2x64_0_1_2_3_4
          (broadcastInDim S8x2x128x1x64 ![0, 1, 2, 4] bcast_S8x2x128x64_S8x2x128x1x64_0_1_2_4 p))
        (broadcastInDim S8x2x128x2x64 ![0, 1, 2, 3, 4] bcast_S1x2x1x2x1_S8x2x128x2x64_0_1_2_3_4
          (broadcastInDim S1x2x1x2x1 ![1, 3] bcast_S2x2_S1x2x1x2x1_1_3 y)) (ix5 j a c e v) : EReal)
        = p (ix4 j a c v) * y (ix2 a e) := fun p y => by pointwise []
  unfold kWide
  exact (h1 _ _).trans (congrArg₂ (· * ·) (kPair_at w j a c v) (kEye_at a e))

theorem kB_at (w : FVec Ideal S128x16x64 .f32) (j : Fin 8) (k : Fin 256) (b : Fin 128) :
    (kB w (ix3 j k b) : EReal) = w (ix3 (lc k) (two j (la k)) (cv b)) * unit2 (la k) (ca b) := by
  pointwise [kB]
  exact kWide_at w j (la k) (lc k) (ca b) (cv b)

variable (m : (ℓ : Loc nD τ sig) → Buf (Elt Ideal) ℓ) (c : Dev nD)

/-- The arguments. -/
abbrev arg0 : FVec Ideal S4096x16x128 .f32 := m ((c.tc : Thread nD τ).loc main_arg0)
abbrev arg1 : FVec Ideal S4096x1024 .f32 := m ((c.tc : Thread nD τ).loc main_arg1)
abbrev arg2 : FVec Ideal S1024 .f32 := m ((c.tc : Thread nD τ).loc main_arg2)
abbrev arg3 : FVec Ideal S1024 .f32 := m ((c.tc : Thread nD τ).loc main_arg3)
abbrev arg4 : FVec Ideal S128x16x64 .f32 := m ((c.tc : Thread nD τ).loc main_arg4)
abbrev arg5 : FVec Ideal S1024x1024 .f32 := m ((c.tc : Thread nD τ).loc main_arg5)

theorem V_v1 : V m c main_v1 = kO (arg0 m c) := by
  unfold V
  unfold_abbrev_sides
  after_reads_simp
  rfl

theorem V_v26 : V m c main_v26 = kW (arg5 m c) := by
  unfold V
  unfold_abbrev_sides
  after_reads_simp
  rfl

theorem V_v25 : V m c main_v25 = kB (arg4 m c) := by
  unfold V
  unfold_abbrev_sides
  after_reads_simp
  rfl

theorem five_congr {r0 r1 r2 r3 r4 s0 s1 s2 s3 s4 : FVec Ideal S1x1024 .f32} (h0 : r0 = s0) (h1 : r1 = s1) (h2 : r2 = s2)
    (h3 : r3 = s3) (h4 : r4 = s4) : kFive r0 r1 r2 r3 r4 = kFive s0 s1 s2 s3 s4 := by
  rw [h0, h1, h2, h3, h4]

theorem V_v10 : V m c main_v10 = kTab (kFive (kRow kZero) (kRow (arg3 m c)) (kRow kZero) (kRow kZero) (kRow (arg2 m c))) := by
  unfold V
  unfold_abbrev_sides
  after_reads_simp
  refine congrArg₂ (fun (x : FVec Ideal S5x1024 .f32) (y : FVec Ideal S3x1024 .f32) => (concatenate S8x1024 0 [⟨S5x1024, x⟩, ⟨S3x1024, y⟩]
    concatenates_S5x1024_S3x1024_S8x1024_d0 : FVec Ideal S8x1024 .f32)) ?_ ?_
  · after_reads_simp
    refine five_congr ?_ ?_ ?_ ?_ ?_ <;> (after_reads_simp; rfl)
  · after_reads_simp

end Cert.Kernel7Ideal.Hand
-- ==== Proof.PostBlock.lean ====
module
public import proofs.«01_k».proof.Proof.PostPrelude

/-! # A block of rows at the end of the attention's sublayer

Eight products bring the pairs of heads to their values, and the values' product with the output weight is scaled to mean
square one, gated and added to the rows that came in. -/

@[expose] public section
set_option maxRecDepth 16384

namespace Cert.Kernel7Ideal.Hand
open Idealize.ShloMosaic
open Cert.Kernel7Ideal Cert.Kernel7Ideal.Gen
open Cert.Post Cert.Post.Args
open Cert.Last (rinv)

theorem exists_ix2 {n m : ℕ} (y : (⟨2, ![n, m]⟩ : Shape).Idx) : ∃ (a : Fin n) (b : Fin m), y = ix2 a b := ⟨y 0, y 1, eq_ix2 y⟩

theorem eq_ix2_of {n m : ℕ} (x : (⟨2, ![n, m]⟩ : Shape).Idx) (a : Fin n) (b : Fin m) (ha : (x 0).val = a.val)
    (hb : (x 1).val = b.val) : x = ix2 a b := by
  rw [← Fin.ext (a := x 0) (b := a) ha, ← Fin.ext (a := x 1) (b := b) hb]
  exact eq_ix2 x

theorem eq_ix3_of' {n m l : ℕ} (x : (⟨3, ![n, m, l]⟩ : Shape).Idx) (a : Fin n) (b : Fin m) (d : Fin l) (ha : (x 0).val = a.val)
    (hb : (x 1).val = b.val) (hd : (x 2).val = d.val) : x = ix3 a b d := by
  rw [← Fin.ext (a := x 0) (b := a) ha, ← Fin.ext (a := x 1) (b := b) hb, ← Fin.ext (a := x 2) (b := d) hd]
  exact eq_ix3 x

/-! ## The product of a pair -/

section
variable (o : Vec Ideal S512x256 .bf16) (w : Vec Ideal S1x256x128 .bf16) (a : Fin 512) (b : Fin 128)
theorem pair1 : (k0_pay1 o w (ix2 a b) : EReal) = ∑ k, o (ix2 a k) * w (ix3 0 k b) := by pointwise [k0_pay1]
theorem pair2 : (k0_pay2 o w (ix2 a b) : EReal) = ∑ k, o (ix2 a k) * w (ix3 0 k b) := by pointwise [k0_pay2]
theorem pair3 : (k0_pay3 o w (ix2 a b) : EReal) = ∑ k, o (ix2 a k) * w (ix3 0 k b) := by pointwise [k0_pay3]
theorem pair4 : (k0_pay5 (k0_pay4 o w) (ix2 a b) : EReal) = ∑ k, o (ix2 a k) * w (ix3 0 k b) := by pointwise [k0_pay5, k0_pay4]
theorem pair5 : (k0_pay6 o w (ix2 a b) : EReal) = ∑ k, o (ix2 a k) * w (ix3 0 k b) := by pointwise [k0_pay6]
theorem pair6 : (k0_pay7 o w (ix2 a b) : EReal) = ∑ k, o (ix2 a k) * w (ix3 0 k b) := by pointwise [k0_pay7]
theorem pair7 : (k0_pay8 o w (ix2 a b) : EReal) = ∑ k, o (ix2 a k) * w (ix3 0 k b) := by pointwise [k0_pay8]
theorem pair8 : (k0_pay10 (k0_pay9 o) w (ix2 a b) : EReal) = ∑ k, o (ix2 a k) * w (ix3 0 k b) := by pointwise [k0_pay10, k0_pay9]
end

/-! ## The block -/

variable (P : Args) (T : Fin 512 → Fin 4096)

theorem u_row (v : Vec Ideal S512x1024 .bf16) (w : Vec Ideal S1024x1024 .bf16) (hv : ∀ a f, v (ix2 a f) = P.Val (T a) f)
    (hw : ∀ f d, w (ix2 f d) = P.Wo f d) (a : Fin 512) (d : Fin 1024) : (k0_pay11 v w (ix2 a d) : EReal) = P.U (T a) d := by
  pointwise [k0_pay11]
  simp only [hv, hw]
  rfl

theorem y_row (v : Vec Ideal S512x1024 .bf16) (w : Vec Ideal S1024x1024 .bf16) (x : Vec Ideal S512x1024 .f32)
    (b e : Vec Ideal S1x1024 .f32) (hU : ∀ a d, (k0_pay11 v w (ix2 a d) : EReal) = P.U (T a) d) (hx : ∀ a d, x (ix2 a d) = P.X (T a) d)
    (hb : ∀ d, b (ix2 0 d) = P.Ga d) (he : ∀ d, e (ix2 0 d) = P.Gq d) (a : Fin 512) (d : Fin 1024) :
    (k0_pay12 v w x b e (ix2 a d) : EReal) = P.Y (T a) d := by
  pointwise [k0_pay12]
  simp only [hU, hx, hb, he]
  rfl

section
variable (x : Vec Ideal S8x1024 .f32) (d : Fin 1024)
theorem ld_row1 : View.ld x (Rect.unit ![1, 0] ![1, 1024] inb_S8x1024_S1x1024_1_0) (ix2 0 d) = x (ix2 1 d) := by pointwise []
theorem ld_row4 : View.ld x (Rect.unit ![4, 0] ![1, 1024] inb_S8x1024_S1x1024_4_0) (ix2 0 d) = x (ix2 4 d) := by pointwise []
end

/-! ## What a block reads of a pair -/

/-- The lanes of a pair among all heads' lanes. -/
theorem ld_lanes (n : ℕ) (h : ∀ a, ![0, n] a + ![512, 256] a ≤ S512x2048.size a) (o : Vec Ideal S512x2048 .bf16) (a : Fin 512) (k : Fin 256)
    (hn : n + k.val < 2048) : View.ld o (Rect.unit ![0, n] ![512, 256] h) (ix2 a k) = o (ix2 a ⟨n + k.val, hn⟩) := by
  pointwise []

/-- The weights of a pair among all pairs'. -/
theorem ld_pair (n : ℕ) (h : ∀ a, ![n, 0, 0] a + ![1, 256, 128] a ≤ S8x256x128.size a) (w : Vec Ideal S8x256x128 .bf16) (k : Fin 256)
    (b : Fin 128) (hn : n < 8) : View.ld w (Rect.unit ![n, 0, 0] ![1, 256, 128] h) (ix3 0 k b) = w (ix3 ⟨n, hn⟩ k b) := by
  pointwise []

end Cert.Kernel7Ideal.Hand
-- ==== Proof.PostReference.lean ====
module
public import proofs.«01_k».proof.Proof.Gen.Reference7Ideal.Read
public import proofs.«01_k».proof.Proof.PostFormula
public import Idealize.ShloMosaic.Lib.Pointwise

/-! # The reference's stages for the end of the attention's sublayer, at an index -/

@[expose] public section
set_option maxRecDepth 16384

namespace Cert.Post
open Idealize.ShloMosaic
open Cert.Reference7Ideal Cert.Reference7Ideal.Read
open Cert.Last (rinv)
open Cert.Ffn (word_zero)
open Args

/-- The arguments hold the numbers of `P`. -/
structure Holds (P : Args) (o : FVec Ideal S4096x16x128 .f32) (x : FVec Ideal S4096x1024 .f32) (ga gq : FVec Ideal S1024 .f32)
    (wv : FVec Ideal S128x16x64 .f32) (wo : FVec Ideal S1024x1024 .f32) : Prop where
  o : ∀ t h c, o (ix3 t h c) = P.O t h c
  x : ∀ t d, x (ix2 t d) = P.X t d
  ga : ∀ d, ga (ix1 d) = P.Ga d
  gq : ∀ d, gq (ix1 d) = P.Gq d
  wv : ∀ c h v, wv (ix3 c h v) = P.Wv c h v
  wo : ∀ f d, wo (ix2 f d) = P.Wo f d

variable {P : Args} {x0 : FVec Ideal S4096x16x128 .f32} {x1 : FVec Ideal S4096x1024 .f32} {x2 x3 : FVec Ideal S1024 .f32}
  {x4 : FVec Ideal S128x16x64 .f32} {x5 : FVec Ideal S1024x1024 .f32} (H : Holds P x0 x1 x2 x3 x4 x5)
include H

theorem v1_at (t : Fin 4096) (h : Fin 16) (v : Fin 64) :
    (val_main_v1 (F := Ideal) x0 x4 (ix3 t h v) : EReal) = ∑ c, P.O t h c * P.Wv c h v := by
  pointwise [val_main_v1, val_main_v0]
  simp only [H.o, H.wv]
  exact Finset.sum_congr rfl fun c _ => mul_comm _ _

/-- The values. -/
theorem v2_at (t : Fin 4096) (f : Fin 1024) : (val_main_v2 (F := Ideal) x0 x4 (ix2 t f) : EReal) = P.Val t f := by
  rw [val_main_v2_apply]
  refine (congrArg (val_main_v1 (F := Ideal) x0 x4) ?_).trans (v1_at H t (hd f) (pl f))
  refine (eq_ix3 _).trans ?_
  have h0 : idx_main_v2 (ix2 t f) 0 = t := Fin.ext (by show (t.val * 1024 + f.val) / 1024 = t.val; omega)
  have h1 : idx_main_v2 (ix2 t f) 1 = hd f := Fin.ext (by show (t.val * 1024 + f.val) / 64 % 16 = f.val / 64; omega)
  have h2 : idx_main_v2 (ix2 t f) 2 = pl f := Fin.ext (by show (t.val * 1024 + f.val) % 64 = f.val % 64; omega)
  rw [h0, h1, h2]

/-- The product with the output weight. -/
theorem v3_at (t : Fin 4096) (d : Fin 1024) : (val_main_v3 (F := Ideal) x0 x4 x5 (ix2 t d) : EReal) = P.U t d := by
  pointwise [val_main_v3]
  simp only [v2_at H, H.wo]
  rfl

theorem v13_at (t : Fin 4096) : (val_main_v13 (F := Ideal) x0 x4 x5 (ix2 t 0) : EReal) = rinv (P.U t) := by
  pointwise [val_main_v13, val_main_v12, val_main_v11, val_main_cst_2, val_main_v10, val_main_v9, val_main_cst_1, val_main_v8, val_main_v7, val_main_cst_0, val_main_v6]
  simp only [v3_at H, word_zero, zero_add]
  rfl

theorem v20_at (t : Fin 4096) (d : Fin 1024) : (val_main_v20 (F := Ideal) x2 (ix2 t d) : EReal) = 1 + P.Ga d := by
  pointwise [val_main_v20, val_main_v19, val_main_v5, val_main_v4, val_main_cst]
  simp only [H.ga]

/-- The output. -/
theorem v22_at (t : Fin 4096) (d : Fin 1024) : (val_main_v22 (F := Ideal) x0 x1 x2 x3 x4 x5 (ix2 t d) : EReal) = P.Y t d := by
  pointwise [val_main_v22, val_main_v21, val_main_v18, val_main_v17, val_main_v16, val_main_v15, val_main_v14]
  simp only [H.x, H.gq, v3_at H, v13_at H, v20_at H]
  rfl

end Cert.Post
-- ==== Proof.PostRegion.lean ====
module
public import proofs.«01_k».proof.Proof.PostBlock
public import proofs.«01_k».proof.Proof.PostReference
public import Idealize.ShloMosaic.Lib.Pipeline.ValueKit
public import Idealize.ShloMosaic.Lib.Pipeline.ReadBack
public import Idealize.ShloMosaic.Lib.WritesUnit

/-! # The three arrays the end of the attention's sublayer leaves -/

@[expose] public section
set_option maxRecDepth 16384

namespace Cert.Kernel7Ideal.Hand
open Idealize.ShloMosaic
open Cert.Kernel7Ideal Cert.Kernel7Ideal.Gen
open Cert.Post Cert.Post.Args
open Cert.Last (rinv)

theorem idx0 : ∀ t : Fin cfg0.N, (cfg0.win 0).index t 0 = t.val ∧ (cfg0.win 0).index t 1 = 0 := by decide +kernel
theorem idx1 : ∀ t : Fin cfg0.N, (cfg0.win 1).index t 0 = t.val ∧ (cfg0.win 1).index t 1 = 0 := by decide +kernel
theorem idx2 : ∀ t : Fin cfg0.N, (cfg0.win 2).index t 0 = 0 ∧ (cfg0.win 2).index t 1 = 0 := by decide +kernel
theorem idx3 : ∀ t : Fin cfg0.N, (cfg0.win 3).index t 0 = 0 ∧ (cfg0.win 3).index t 1 = 0 ∧ (cfg0.win 3).index t 2 = 0 := by decide +kernel
theorem idx4 : ∀ t : Fin cfg0.N, (cfg0.win 4).index t 0 = 0 ∧ (cfg0.win 4).index t 1 = 0 := by decide +kernel
theorem idx5 : ∀ t : Fin cfg0.N, (cfg0.win 5).index t 0 = t.val ∧ (cfg0.win 5).index t 1 = 0 := by decide +kernel
theorem idx6 : ∀ t : Fin cfg0.N, (cfg0.win 6).index t 0 = t.val ∧ (cfg0.win 6).index t 1 = 0 := by decide +kernel
theorem idx7 : ∀ t : Fin cfg0.N, (cfg0.win 7).index t 0 = t.val ∧ (cfg0.win 7).index t 1 = 0 := by decide +kernel

/-- The token in row `a` of a point's block. -/
def tk (t : Fin cfg0.N) (a : Fin 512) : Fin 4096 := ⟨t.val * 512 + a.val, by have := t.isLt; have : cfg0.N = 8 := rfl; omega⟩

variable (m : (ℓ : Loc nD τ sig) → Buf (Elt Ideal) ℓ) (c : Dev nD) {P : Args}
  (H : Holds P (arg0 m c) (arg1 m c) (arg2 m c) (arg3 m c) (arg4 m c) (arg5 m c))

theorem blk0 (t : Fin cfg0.N) (a : Fin 512) (l : Fin 2048) : iblk m c 0 t (ix2 a l) = V m c main_v1 (ix2 (tk t a) l) := by
  obtain ⟨e0, e1⟩ := idx0 t
  blk_ext [iblk, e0, e1, tk]

theorem blk1 (t : Fin cfg0.N) (a : Fin 512) (d : Fin 1024) : iblk m c 1 t (ix2 a d) = V m c main_arg1 (ix2 (tk t a) d) := by
  obtain ⟨e0, e1⟩ := idx1 t
  blk_ext [iblk, e0, e1, tk]

theorem blk2 (t : Fin cfg0.N) (a : Fin 8) (d : Fin 1024) : iblk m c 2 t (ix2 a d) = V m c main_v10 (ix2 a d) := by
  obtain ⟨e0, e1⟩ := idx2 t
  blk_ext [iblk, e0, e1]

theorem blk3 (t : Fin cfg0.N) (j : Fin 8) (k : Fin 256) (b : Fin 128) : iblk m c 3 t (ix3 j k b) = V m c main_v25 (ix3 j k b) := by
  obtain ⟨e0, e1, e2⟩ := idx3 t
  blk_ext [iblk, e0, e1, e2]

theorem blk4 (t : Fin cfg0.N) (f d : Fin 1024) : iblk m c 4 t (ix2 f d) = V m c main_v26 (ix2 f d) := by
  obtain ⟨e0, e1⟩ := idx4 t
  blk_ext [iblk, e0, e1]

include H

theorem in0 (t : Fin cfg0.N) (a : Fin 512) (j : Fin 8) (k : Fin 256) (l : Fin 2048) (hl : l.val = j.val * 256 + k.val) :
    iblk m c 0 t (ix2 a l) = P.O (tk t a) (two j (la k)) (lc k) := by
  rw [blk0, V_v1]
  refine (congrArg (fun x => kO (arg0 m c) (ix2 (tk t a) x)) (Fin.ext ?_)).trans ((kO_at _ _ (two j (la k)) (lc k)).trans (H.o _ _ _))
  simp only [two, la, lc]
  omega

theorem in1 (t : Fin cfg0.N) (a : Fin 512) (d : Fin 1024) : iblk m c 1 t (ix2 a d) = P.X (tk t a) d := by
  rw [blk1, V_main_arg1]
  exact H.x _ _

theorem in2_gate (t : Fin cfg0.N) (d : Fin 1024) : iblk m c 2 t (ix2 4 d) = P.Ga d := by
  rw [blk2, V_v10]
  exact (five4 _ _ _ _ _ d).trans ((row_at d _).trans (H.ga d))

theorem in2_norm (t : Fin cfg0.N) (d : Fin 1024) : iblk m c 2 t (ix2 1 d) = P.Gq d := by
  rw [blk2, V_v10]
  exact (five1 _ _ _ _ _ d).trans ((row_at d _).trans (H.gq d))

theorem in3 (t : Fin cfg0.N) (j : Fin 8) (k : Fin 256) (b : Fin 128) :
    iblk m c 3 t (ix3 j k b) = P.Wv (lc k) (two j (la k)) (cv b) * unit2 (la k) (ca b) := by
  rw [blk3, V_v25, kB_at, H.wv]

theorem in4 (t : Fin cfg0.N) (f d : Fin 1024) : iblk m c 4 t (ix2 f d) = P.Wo f d := by
  rw [blk4, V_v26]
  exact (kW_at _ f d).trans (H.wo f d)

omit H in
/-- What the body stores of a pair are its columns of the values. -/
theorem pair_of {T : Fin 512 → Fin 4096} (o : Vec Ideal S512x2048 .bf16) (w : Vec Ideal S8x256x128 .bf16)
    (ho : ∀ (a : Fin 512) (j : Fin 8) (k : Fin 256) (l : Fin 2048), l.val = j.val * 256 + k.val → o (ix2 a l) = P.O (T a) (two j (la k)) (lc k))
    (hw : ∀ (j : Fin 8) (k : Fin 256) (b : Fin 128), w (ix3 j k b) = P.Wv (lc k) (two j (la k)) (cv b) * unit2 (la k) (ca b))
    (j : Fin 8) (n p : ℕ) (hn : n = j.val * 256) (hp : p = j.val) (h0 : ∀ a, ![0, n] a + ![512, 256] a ≤ S512x2048.size a)
    (h1 : ∀ a, ![p, 0, 0] a + ![1, 256, 128] a ≤ S8x256x128.size a) (a : Fin 512) (b : Fin 128) (f : Fin 1024) (hf : f.val = j.val * 128 + b.val) :
    ∑ k : Fin 256, (View.ld o (Rect.unit ![0, n] ![512, 256] h0) (ix2 a k) : EReal)
      * (View.ld w (Rect.unit ![p, 0, 0] ![1, 256, 128] h1) (ix3 0 k b) : EReal) = P.Val (T a) f := by
  subst hn hp
  obtain rfl : f = col j b := Fin.ext hf
  rw [← pair_product]
  refine Finset.sum_congr rfl fun k _ => ?_
  rw [ld_lanes _ _ _ a k (by omega), ld_pair _ _ _ k b j.isLt]
  exact congrArg₂ (fun x y : EReal => x * y) (ho a j k _ rfl) (hw j k b)

/-- A row of the values a point leaves. -/
theorem val_point (t : Fin cfg0.N) (a : Fin 512) (f : Fin 1024) : ((outsAt0 m c t).2.2 (ix2 a f) : EReal) = P.Val (tk t a) f := by
  unfold outsAt0
  dsimp only
  frame_out
  canon_tiles x h
  all_goals
    obtain ⟨r, b, rfl⟩ := exists_ix2 x
    obtain rfl : a = r := Fin.ext (by simpa using h0)
  · exact (pair8 _ _ _ _).trans (pair_of (T := tk t) (iblk m c 0 t) (iblk m c 3 t) (in0 m c H t) (in3 m c H t) 7 1792 7 rfl rfl _ _ _ _ f (by simpa using h1))
  · exact (pair7 _ _ _ _).trans (pair_of (T := tk t) (iblk m c 0 t) (iblk m c 3 t) (in0 m c H t) (in3 m c H t) 6 1536 6 rfl rfl _ _ _ _ f (by simpa using h1))
  · exact (pair6 _ _ _ _).trans (pair_of (T := tk t) (iblk m c 0 t) (iblk m c 3 t) (in0 m c H t) (in3 m c H t) 5 1280 5 rfl rfl _ _ _ _ f (by simpa using h1))
  · exact (pair5 _ _ _ _).trans (pair_of (T := tk t) (iblk m c 0 t) (iblk m c 3 t) (in0 m c H t) (in3 m c H t) 4 1024 4 rfl rfl _ _ _ _ f (by simpa using h1))
  · exact (pair4 _ _ _ _).trans (pair_of (T := tk t) (iblk m c 0 t) (iblk m c 3 t) (in0 m c H t) (in3 m c H t) 3 768 3 rfl rfl _ _ _ _ f (by simpa using h1))
  · exact (pair3 _ _ _ _).trans (pair_of (T := tk t) (iblk m c 0 t) (iblk m c 3 t) (in0 m c H t) (in3 m c H t) 2 512 2 rfl rfl _ _ _ _ f (by simpa using h1))
  · exact (pair2 _ _ _ _).trans (pair_of (T := tk t) (iblk m c 0 t) (iblk m c 3 t) (in0 m c H t) (in3 m c H t) 1 256 1 rfl rfl _ _ _ _ f (by simpa using h1))
  · exact (pair1 _ _ _ _).trans (pair_of (T := tk t) (iblk m c 0 t) (iblk m c 3 t) (in0 m c H t) (in3 m c H t) 0 0 0 rfl rfl _ _ _ _ f (by simpa using h1))

omit H in
/-- The whole of a block is read where it lies. -/
theorem whole_idx (h : ∀ b, ![0, 0] b + ![512, 1024] b ≤ S512x1024.size b) (a : Fin 512) (f : Fin 1024) :
    (Rect.unit (s := S512x1024) ![0, 0] ![512, 1024] h).toLoadRect.idx (ix2 a f) = ix2 a f := by
  funext b
  fin_cases b <;> exact Fin.ext ((Rect.idx_unit_val _ _ _ _ _).trans (Nat.zero_add _))

/-- A row of the product a point leaves. -/
theorem u_point (t : Fin cfg0.N) (a : Fin 512) (d : Fin 1024) : ((outsAt0 m c t).2.1 (ix2 a d) : EReal) = P.U (tk t a) d := by
  have hv := fun a f => val_point m c H t a f
  unfold outsAt0 at hv ⊢
  dsimp only at hv ⊢
  frame_out
  refine u_row P (tk t) _ _ (fun a f => ?_) (in4 m c H t) a d
  rw [View.readCov_eq_canon']
  refine (congrArg _ (whole_idx _ a f)).trans (Eq.trans ?_ (hv a f))
  frame_out

/-- A row of the output a point leaves. -/
theorem y_point (t : Fin cfg0.N) (a : Fin 512) (d : Fin 1024) : ((outsAt0 m c t).1 (ix2 a d) : EReal) = P.Y (tk t a) d := by
  have hv := fun a f => val_point m c H t a f
  unfold outsAt0 at hv ⊢
  dsimp only at hv ⊢
  frame_out
  refine y_row P (tk t) _ _ _ _ _ (fun a d => u_row P (tk t) _ _ (fun a f => ?_) (in4 m c H t) a d) (in1 m c H t)
    (fun d => (ld_row4 _ d).trans (in2_gate m c H t d)) (fun d => (ld_row1 _ d).trans (in2_norm m c H t d)) a d
  rw [View.readCov_eq_canon']
  refine (congrArg _ (whole_idx _ a f)).trans (Eq.trans ?_ (hv a f))
  frame_out

/-- The output's array. -/
theorem arr5 : (dats m 0 c).arrAt 5 cfg0.N = fun i => P.Y (i 0) (i 1) := by
  refine (dats m 0 c).arrAt_eq_of_covers 5 _ (by decide +kernel) fun t hf y => ?_
  blk_simp
  rw [after0_5]
  obtain ⟨a, d, rfl⟩ := exists_ix2 y
  obtain ⟨e0, e1⟩ := idx5 t
  have h : (win0_5.blk t).view.emb (ix2 a d) = ix2 (tk t a) d := eq_ix2_of _ _ _ (by blk_simp [e0]; rfl) (by blk_simp [e1])
  rw [h]
  exact y_point m c H t a d

/-- The product's array. -/
theorem arr6 : (dats m 0 c).arrAt 6 cfg0.N = fun i => P.U (i 0) (i 1) := by
  refine (dats m 0 c).arrAt_eq_of_covers 6 _ (by decide +kernel) fun t hf y => ?_
  blk_simp
  rw [after0_6]
  obtain ⟨a, d, rfl⟩ := exists_ix2 y
  obtain ⟨e0, e1⟩ := idx6 t
  have h : (win0_6.blk t).view.emb (ix2 a d) = ix2 (tk t a) d := eq_ix2_of _ _ _ (by blk_simp [e0]; rfl) (by blk_simp [e1])
  rw [h]
  exact u_point m c H t a d

/-- The values' array. -/
theorem arr7 : (dats m 0 c).arrAt 7 cfg0.N = fun i => P.Val (i 0) (i 1) := by
  refine (dats m 0 c).arrAt_eq_of_covers 7 _ (by decide +kernel) fun t hf y => ?_
  blk_simp
  rw [after0_7]
  obtain ⟨a, d, rfl⟩ := exists_ix2 y
  obtain ⟨e0, e1⟩ := idx7 t
  have h : (win0_7.blk t).view.emb (ix2 a d) = ix2 (tk t a) d := eq_ix2_of _ _ _ (by blk_simp [e0]; rfl) (by blk_simp [e1])
  rw [h]
  exact val_point m c H t a d

end Cert.Kernel7Ideal.Hand
-- ==== Proof.PostEquation.lean ====
module
public import proofs.«01_k».proof.Defs
public import proofs.«01_k».proof.Proof.Gen.Reference7Ideal.Run
public import proofs.«01_k».proof.Proof.PostRegion

/-! # The end of the attention's sublayer against its reference

Both programs end with the same output, product and values, whatever the arguments hold. -/

@[expose] public section
set_option maxRecDepth 16384

namespace Cert.Kernel7Ideal.Hand
open Idealize.ShloMosaic Idealize.SL.Sem
open Cert.Kernel7Ideal Cert.Kernel7Ideal.Gen
open Cert.Post

variable (m : (ℓ : Loc nD τ sig) → Buf (Elt Ideal) ℓ) (c : Dev nD)

/-- The numbers the arguments hold. -/
def args : Args where
  O t h k := arg0 m c (ix3 t h k)
  X t d := arg1 m c (ix2 t d)
  Ga d := arg2 m c (ix1 d)
  Gq d := arg3 m c (ix1 d)
  Wv k h v := arg4 m c (ix3 k h v)
  Wo f d := arg5 m c (ix2 f d)

theorem holds : Holds (args m c) (arg0 m c) (arg1 m c) (arg2 m c) (arg3 m c) (arg4 m c) (arg5 m c) where
  o _ _ _ := rfl
  x _ _ := rfl
  ga _ := rfl
  gq _ := rfl
  wv _ _ _ := rfl
  wo _ _ := rfl

theorem eq5 : (dats m 0 c).arrAt 5 cfg0.N
    = Cert.Reference7Ideal.Read.val_main_v22 (F := Ideal) (arg0 m c) (arg1 m c) (arg2 m c) (arg3 m c) (arg4 m c) (arg5 m c) := by
  rw [arr5 m c (holds m c)]
  funext i
  obtain ⟨t, d, rfl⟩ := exists_ix2 i
  exact (Cert.Post.v22_at (holds m c) t d).symm

theorem eq6 : (dats m 0 c).arrAt 6 cfg0.N
    = Cert.Reference7Ideal.Read.val_main_v3 (F := Ideal) (arg0 m c) (arg4 m c) (arg5 m c) := by
  rw [arr6 m c (holds m c)]
  funext i
  obtain ⟨t, d, rfl⟩ := exists_ix2 i
  exact (Cert.Post.v3_at (holds m c) t d).symm

/-- The values, as the program casts them after the call. -/
theorem tail_v28 (W : Valuation τ sig (Elt Ideal)) :
    StableHlo.after (List.flatten [hostOps1]) W (Proc.devRef .tc main_v28)
      = (extf .f32 (W (Proc.devRef .tc main_v27_2) : FVec Ideal S4096x1024 .bf16) bitsLt_bf16_f32 : FVec Ideal S4096x1024 .f32) := by
  after_reads_simp

/-- The call's arrays, as the lines after it read them. -/
noncomputable abbrev outs : Valuation τ sig (Elt Ideal) :=
  Pipeline.withArrays cfg0.spec c (V0 m c) fun w => (dats m 0 c).arrAt w cfg0.N

theorem outs_val : outs m c (Proc.devRef .tc main_v27_2) = (dats m 0 c).arrAt 7 cfg0.N :=
  Pipeline.withArrays_arr cfg0.spec (by decide) c (V0 m c) (fun w => (dats m 0 c).arrAt w cfg0.N) 7

theorem cast_at (v : FVec Ideal S4096x1024 .bf16) (t : Fin 4096) (f : Fin 1024) :
    ((extf .f32 v bitsLt_bf16_f32 : FVec Ideal S4096x1024 .f32) (ix2 t f) : EReal) = v (ix2 t f) := by
  pointwise []

theorem eq7 : Pipeline.afterTail₀ cfgs (dats m) 0 (V0 m) [hostOps1] c main_v28
    = Cert.Reference7Ideal.Read.val_main_v2 (F := Ideal) (arg0 m c) (arg4 m c) := by
  refine (tail_v28 (outs m c)).trans ?_
  rw [outs_val, arr7 m c (holds m c)]
  funext i
  obtain ⟨t, f, rfl⟩ := exists_ix2 i
  exact (cast_at _ t f).trans (Cert.Post.v2_at (holds m c) t f).symm

end Cert.Kernel7Ideal.Hand

namespace Cert.Hand
open Idealize.ShloMosaic Idealize.SL.Sem
open Cert.Kernel7Ideal.Hand (arg0 arg1 arg2 arg3 arg4 arg5 eq5 eq6 eq7)

/-- The reference's program keeps its arguments, and it has no semaphore. -/
theorem frame_reference7 : Cert.quiescent_Reference7Ideal := fun m ρ _ =>
  (θ_run Cert.Reference7Ideal.defs _ _).mono (fun r h => ⟨fun c => (h c).2.2.2,
      Idealize.ShloMosaic.sem_eq_zero_of_no_sems (by decide) r.2⟩)
    (Cert.Reference7Ideal.Value.run (F := Ideal) m ρ)

/-- The end of the attention's sublayer: both programs end with the same output, product and values. -/
theorem algebraic_post : Cert.algebraic_Kernel7Ideal_Reference7Ideal := by
  intro m ρ m' ρ' _ hargs
  refine ⟨fun c => Cert.Reference7Ideal.Read.val_main_v22 (F := Ideal) (arg0 m c) (arg1 m c) (arg2 m c) (arg3 m c) (arg4 m c) (arg5 m c),
    fun c => Cert.Reference7Ideal.Read.val_main_v3 (F := Ideal) (arg0 m c) (arg4 m c) (arg5 m c),
    fun c => Cert.Reference7Ideal.Read.val_main_v2 (F := Ideal) (arg0 m c) (arg4 m c), ?_, ?_⟩
  · refine (θ_run Cert.Kernel7Ideal.defs _ _).mono ?_
      (θ_run_and (Cert.Kernel7Ideal.Gen.run_main (F := Ideal) m ρ) (Cert.Kernel7Ideal.Gen.unchanged (F := Ideal) m ρ))
    intro r h c
    refine ⟨?_, ?_, ?_, h.2 c⟩
    · exact ((h.1 c).1 5).trans (eq5 m c)
    · exact ((h.1 c).1 6).trans (eq6 m c)
    · exact ((h.1 c).2 Cert.Kernel7Ideal.main_v28 (Pipeline.mem_restRefs_of _ (by decide) (by decide))).trans (eq7 m c)
  · refine (θ_run Cert.Reference7Ideal.defs _ _).mono ?_ (Cert.Reference7Ideal.Value.run (F := Ideal) m' ρ')
    intro r h c
    obtain ⟨h0, h1, h2, hk⟩ := h c
    obtain ⟨g0, g1, g2, g3, g4, g5⟩ := hargs c
    refine ⟨?_, ?_, ?_, hk⟩
    · exact (h0.trans (Cert.Reference7Ideal.Read.val_main_v22_eq _ _ _ _ _ _)).trans (by rw [g0, g1, g2, g3, g4, g5])
    · exact (h1.trans (Cert.Reference7Ideal.Read.val_main_v3_eq _ _ _)).trans (by rw [g0, g4, g5])
    · exact (h2.trans (Cert.Reference7Ideal.Read.val_main_v2_eq _ _)).trans (by rw [g0, g4])

end Cert.Hand
-- ==== Proof.SmallReference.lean ====
module
public import proofs.«01_k».proof.Proof.Gen.Reference8Ideal.Read
public import proofs.«01_k».proof.Proof.StepFormula

/-! # The reference's update of the small weights, entry by entry -/

@[expose] public section
set_option maxRecDepth 16384

namespace Cert.Small
open Idealize.ShloMosaic
open Cert.Reference8Ideal Cert.Reference8Ideal.Read
open Cert.Step

theorem v23_eq (x0 x1 x2 x3 : FVec Ideal S2x9216 .f32) :
    (fun i => delta (x0 i) (x1 i) (x2 i) (x3 i)) = val_main_v23 (F := Ideal) x0 x1 x2 x3 := rfl

theorem v4_eq (x1 x2 : FVec Ideal S2x9216 .f32) :
    (fun i => avg (x2 i) (x1 i)) = val_main_v4 (F := Ideal) x1 x2 := rfl

theorem v10_eq (x1 x3 : FVec Ideal S2x9216 .f32) :
    (fun i => sq (x3 i) (x1 i)) = val_main_v10 (F := Ideal) x1 x3 := rfl

theorem v47_eq (x4 x5 x6 x7 : FVec Ideal S2x6x256 .f32) :
    (fun i => delta (x4 i) (x5 i) (x6 i) (x7 i)) = val_main_v47 (F := Ideal) x4 x5 x6 x7 := rfl

theorem v28_eq (x5 x6 : FVec Ideal S2x6x256 .f32) :
    (fun i => avg (x6 i) (x5 i)) = val_main_v28 (F := Ideal) x5 x6 := rfl

theorem v34_eq (x5 x7 : FVec Ideal S2x6x256 .f32) :
    (fun i => sq (x7 i) (x5 i)) = val_main_v34 (F := Ideal) x5 x7 := rfl

theorem v71_eq (x8 x9 x10 x11 : FVec Ideal S1x4x64 .f32) :
    (fun i => delta (x8 i) (x9 i) (x10 i) (x11 i)) = val_main_v71 (F := Ideal) x8 x9 x10 x11 := rfl

theorem v52_eq (x9 x10 : FVec Ideal S1x4x64 .f32) :
    (fun i => avg (x10 i) (x9 i)) = val_main_v52 (F := Ideal) x9 x10 := rfl

theorem v58_eq (x9 x11 : FVec Ideal S1x4x64 .f32) :
    (fun i => sq (x11 i) (x9 i)) = val_main_v58 (F := Ideal) x9 x11 := rfl

theorem v95_eq (x12 x13 x14 x15 : FVec Ideal S1x1024 .f32) :
    (fun i => delta (x12 i) (x13 i) (x14 i) (x15 i)) = val_main_v95 (F := Ideal) x12 x13 x14 x15 := rfl

theorem v76_eq (x13 x14 : FVec Ideal S1x1024 .f32) :
    (fun i => avg (x14 i) (x13 i)) = val_main_v76 (F := Ideal) x13 x14 := rfl

theorem v82_eq (x13 x15 : FVec Ideal S1x1024 .f32) :
    (fun i => sq (x15 i) (x13 i)) = val_main_v82 (F := Ideal) x13 x15 := rfl

theorem v119_eq (x16 x17 x18 x19 : FVec Ideal S1x64 .f32) :
    (fun i => delta (x16 i) (x17 i) (x18 i) (x19 i)) = val_main_v119 (F := Ideal) x16 x17 x18 x19 := rfl

theorem v100_eq (x17 x18 : FVec Ideal S1x64 .f32) :
    (fun i => avg (x18 i) (x17 i)) = val_main_v100 (F := Ideal) x17 x18 := rfl

theorem v106_eq (x17 x19 : FVec Ideal S1x64 .f32) :
    (fun i => sq (x19 i) (x17 i)) = val_main_v106 (F := Ideal) x17 x19 := rfl

theorem v143_eq (x20 x21 x22 x23 : FVec Ideal S1x128 .f32) :
    (fun i => delta (x20 i) (x21 i) (x22 i) (x23 i)) = val_main_v143 (F := Ideal) x20 x21 x22 x23 := rfl

theorem v124_eq (x21 x22 : FVec Ideal S1x128 .f32) :
    (fun i => avg (x22 i) (x21 i)) = val_main_v124 (F := Ideal) x21 x22 := rfl

theorem v130_eq (x21 x23 : FVec Ideal S1x128 .f32) :
    (fun i => sq (x23 i) (x21 i)) = val_main_v130 (F := Ideal) x21 x23 := rfl

end Cert.Small
-- ==== Proof.SmallPrelude.lean ====
module
public import proofs.«01_k».proof.Proof.Gen.Kernel8Ideal.Frame
public import Idealize.ShloMosaic.Lib.Pipeline.Value
public import Idealize.ShloMosaic.Lib.Pointwise
public import Idealize.ShloMosaic.Lib.StableHlo.ReadAt

/-! # The six small weights packed into one array, and cut out again

The arrays stand one behind the other with zeros at the end, in eight rows. What is cut out of the packed array at a
weight's place is that weight. -/

@[expose] public section
set_option maxRecDepth 16384

namespace Cert.Kernel8Ideal.Hand
open Idealize.ShloMosaic
open Cert.Kernel8Ideal Cert.Kernel8Ideal.Gen

/-- The six arrays one behind the other. -/
noncomputable def kFlat (a : FVec Ideal S2x9216 .f32) (b : FVec Ideal S2x6x256 .f32) (d : FVec Ideal S1x4x64 .f32) (e : FVec Ideal S1x1024 .f32)
    (f : FVec Ideal S1x64 .f32) (g : FVec Ideal S1x128 .f32) : FVec Ideal S22976 .f32 :=
  concatenate S22976 0 [⟨S18432, shapeCast S18432 a shapeCasts_S2x9216_S18432⟩, ⟨S3072, shapeCast S3072 b shapeCasts_S2x6x256_S3072⟩, ⟨S256, shapeCast S256 d shapeCasts_S1x4x64_S256⟩, ⟨S1024, shapeCast S1024 e shapeCasts_S1x1024_S1024⟩, ⟨S64, shapeCast S64 f shapeCasts_S1x64_S64⟩, ⟨S128, shapeCast S128 g shapeCasts_S1x128_S128⟩]
    concatenates_S18432_S3072_S256_S1024_S64_S128_S22976_d0

/-- Zeros behind them. -/
noncomputable def kLong (x : FVec Ideal S22976 .f32) : FVec Ideal S23552 .f32 :=
  concatenate S23552 0 [⟨S22976, x⟩, ⟨S576, broadcastInDim S576 ![] bcast_S_S576 (constant (F := Ideal) S_ .f32 0x00000000#32)⟩]
    concatenates_S22976_S576_S23552_d0

/-- All in eight rows. -/
noncomputable def kPack (a : FVec Ideal S2x9216 .f32) (b : FVec Ideal S2x6x256 .f32) (d : FVec Ideal S1x4x64 .f32) (e : FVec Ideal S1x1024 .f32)
    (f : FVec Ideal S1x64 .f32) (g : FVec Ideal S1x128 .f32) : FVec Ideal S8x2944 .f32 :=
  shapeCast S8x2944 (kLong (kFlat a b d e f g)) shapeCasts_S23552_S8x2944

theorem kLong_at (x : FVec Ideal S22976 .f32) (n : ℕ) (h : n < 22976) : kLong x (ix1 ⟨n, by omega⟩) = x (ix1 ⟨n, h⟩) := by
  unfold kLong
  exact concatenate_apply_piece (t := S23552) 0 [⟨S22976, x⟩, ⟨S576, broadcastInDim S576 ![] bcast_S_S576 (constant (F := Ideal) S_ .f32 0x00000000#32)⟩]
    concatenates_S22976_S576_S23552_d0 (ix1 ⟨n, by omega⟩) 0
    (by show 0 < 2; omega) S22976 x rfl rfl 0 rfl (ix1 ⟨n, h⟩)
    (fun b hb => absurd (Subsingleton.elim (α := Fin 1) _ _) hb) (Nat.zero_add _)

/-- What is cut out at the place of weight 1. -/
noncomputable def cutA (x : FVec Ideal S8x2944 .f32) : FVec Ideal S2x9216 .f32 :=
  shapeCast S2x9216 (extractStridedSlice S18432 ![0] (shapeCast S23552 x shapeCasts_S8x2944_S23552) slices_S23552_S18432_0) shapeCasts_S18432_S2x9216

theorem cutA_pack (a : FVec Ideal S2x9216 .f32) (b : FVec Ideal S2x6x256 .f32) (d : FVec Ideal S1x4x64 .f32) (e : FVec Ideal S1x1024 .f32)
    (f : FVec Ideal S1x64 .f32) (g : FVec Ideal S1x128 .f32) : cutA (kPack a b d e f g) = a := by
  unfold cutA kPack
  rw [shapeCast_shapeCast]
  refine Eq.trans (congrArg (fun x => shapeCast S2x9216 x shapeCasts_S18432_S2x9216) (?_ : _ = shapeCast S18432 a shapeCasts_S2x9216_S18432)) (shapeCast_shapeCast _ _ _)
  funext y
  rw [eq_ix1 y]
  have hy : (y 0).val < 18432 := (y 0).isLt
  refine (extractStridedSlice_apply ![0] _ _ (ix1 (y 0)) (ix1 ⟨0 + (y 0).val, by omega⟩) (fun q => by fin_cases q; rfl)).trans ?_
  refine (kLong_at _ (0 + (y 0).val) (by omega)).trans ?_
  unfold kFlat
  exact concatenate_apply_piece (t := S22976) 0 [⟨S18432, shapeCast S18432 a shapeCasts_S2x9216_S18432⟩, ⟨S3072, shapeCast S3072 b shapeCasts_S2x6x256_S3072⟩, ⟨S256, shapeCast S256 d shapeCasts_S1x4x64_S256⟩, ⟨S1024, shapeCast S1024 e shapeCasts_S1x1024_S1024⟩, ⟨S64, shapeCast S64 f shapeCasts_S1x64_S64⟩, ⟨S128, shapeCast S128 g shapeCasts_S1x128_S128⟩]
    concatenates_S18432_S3072_S256_S1024_S64_S128_S22976_d0 (ix1 ⟨0 + (y 0).val, by omega⟩) 0
    (by show 0 < 6; omega) S18432 _ rfl rfl 0 rfl (ix1 (y 0))
    (fun q hq => absurd (Subsingleton.elim (α := Fin 1) _ _) hq) rfl

/-- What is cut out at the place of weight 2. -/
noncomputable def cutB (x : FVec Ideal S8x2944 .f32) : FVec Ideal S2x6x256 .f32 :=
  shapeCast S2x6x256 (extractStridedSlice S3072 ![18432] (shapeCast S23552 x shapeCasts_S8x2944_S23552) slices_S23552_S3072_18432) shapeCasts_S3072_S2x6x256

theorem cutB_pack (a : FVec Ideal S2x9216 .f32) (b : FVec Ideal S2x6x256 .f32) (d : FVec Ideal S1x4x64 .f32) (e : FVec Ideal S1x1024 .f32)
    (f : FVec Ideal S1x64 .f32) (g : FVec Ideal S1x128 .f32) : cutB (kPack a b d e f g) = b := by
  unfold cutB kPack
  rw [shapeCast_shapeCast]
  refine Eq.trans (congrArg (fun x => shapeCast S2x6x256 x shapeCasts_S3072_S2x6x256) (?_ : _ = shapeCast S3072 b shapeCasts_S2x6x256_S3072)) (shapeCast_shapeCast _ _ _)
  funext y
  rw [eq_ix1 y]
  have hy : (y 0).val < 3072 := (y 0).isLt
  refine (extractStridedSlice_apply ![18432] _ _ (ix1 (y 0)) (ix1 ⟨18432 + (y 0).val, by omega⟩) (fun q => by fin_cases q; rfl)).trans ?_
  refine (kLong_at _ (18432 + (y 0).val) (by omega)).trans ?_
  unfold kFlat
  exact concatenate_apply_piece (t := S22976) 0 [⟨S18432, shapeCast S18432 a shapeCasts_S2x9216_S18432⟩, ⟨S3072, shapeCast S3072 b shapeCasts_S2x6x256_S3072⟩, ⟨S256, shapeCast S256 d shapeCasts_S1x4x64_S256⟩, ⟨S1024, shapeCast S1024 e shapeCasts_S1x1024_S1024⟩, ⟨S64, shapeCast S64 f shapeCasts_S1x64_S64⟩, ⟨S128, shapeCast S128 g shapeCasts_S1x128_S128⟩]
    concatenates_S18432_S3072_S256_S1024_S64_S128_S22976_d0 (ix1 ⟨18432 + (y 0).val, by omega⟩) 1
    (by show 1 < 6; omega) S3072 _ rfl rfl 18432 rfl (ix1 (y 0))
    (fun q hq => absurd (Subsingleton.elim (α := Fin 1) _ _) hq) rfl

/-- What is cut out at the place of weight 3. -/
noncomputable def cutC (x : FVec Ideal S8x2944 .f32) : FVec Ideal S1x4x64 .f32 :=
  shapeCast S1x4x64 (extractStridedSlice S256 ![21504] (shapeCast S23552 x shapeCasts_S8x2944_S23552) slices_S23552_S256_21504) shapeCasts_S256_S1x4x64

theorem cutC_pack (a : FVec Ideal S2x9216 .f32) (b : FVec Ideal S2x6x256 .f32) (d : FVec Ideal S1x4x64 .f32) (e : FVec Ideal S1x1024 .f32)
    (f : FVec Ideal S1x64 .f32) (g : FVec Ideal S1x128 .f32) : cutC (kPack a b d e f g) = d := by
  unfold cutC kPack
  rw [shapeCast_shapeCast]
  refine Eq.trans (congrArg (fun x => shapeCast S1x4x64 x shapeCasts_S256_S1x4x64) (?_ : _ = shapeCast S256 d shapeCasts_S1x4x64_S256)) (shapeCast_shapeCast _ _ _)
  funext y
  rw [eq_ix1 y]
  have hy : (y 0).val < 256 := (y 0).isLt
  refine (extractStridedSlice_apply ![21504] _ _ (ix1 (y 0)) (ix1 ⟨21504 + (y 0).val, by omega⟩) (fun q => by fin_cases q; rfl)).trans ?_
  refine (kLong_at _ (21504 + (y 0).val) (by omega)).trans ?_
  unfold kFlat
  exact concatenate_apply_piece (t := S22976) 0 [⟨S18432, shapeCast S18432 a shapeCasts_S2x9216_S18432⟩, ⟨S3072, shapeCast S3072 b shapeCasts_S2x6x256_S3072⟩, ⟨S256, shapeCast S256 d shapeCasts_S1x4x64_S256⟩, ⟨S1024, shapeCast S1024 e shapeCasts_S1x1024_S1024⟩, ⟨S64, shapeCast S64 f shapeCasts_S1x64_S64⟩, ⟨S128, shapeCast S128 g shapeCasts_S1x128_S128⟩]
    concatenates_S18432_S3072_S256_S1024_S64_S128_S22976_d0 (ix1 ⟨21504 + (y 0).val, by omega⟩) 2
    (by show 2 < 6; omega) S256 _ rfl rfl 21504 rfl (ix1 (y 0))
    (fun q hq => absurd (Subsingleton.elim (α := Fin 1) _ _) hq) rfl

/-- What is cut out at the place of weight 4. -/
noncomputable def cutD (x : FVec Ideal S8x2944 .f32) : FVec Ideal S1x1024 .f32 :=
  shapeCast S1x1024 (extractStridedSlice S1024 ![21760] (shapeCast S23552 x shapeCasts_S8x2944_S23552) slices_S23552_S1024_21760) shapeCasts_S1024_S1x1024

theorem cutD_pack (a : FVec Ideal S2x9216 .f32) (b : FVec Ideal S2x6x256 .f32) (d : FVec Ideal S1x4x64 .f32) (e : FVec Ideal S1x1024 .f32)
    (f : FVec Ideal S1x64 .f32) (g : FVec Ideal S1x128 .f32) : cutD (kPack a b d e f g) = e := by
  unfold cutD kPack
  rw [shapeCast_shapeCast]
  refine Eq.trans (congrArg (fun x => shapeCast S1x1024 x shapeCasts_S1024_S1x1024) (?_ : _ = shapeCast S1024 e shapeCasts_S1x1024_S1024)) (shapeCast_shapeCast _ _ _)
  funext y
  rw [eq_ix1 y]
  have hy : (y 0).val < 1024 := (y 0).isLt
  refine (extractStridedSlice_apply ![21760] _ _ (ix1 (y 0)) (ix1 ⟨21760 + (y 0).val, by omega⟩) (fun q => by fin_cases q; rfl)).trans ?_
  refine (kLong_at _ (21760 + (y 0).val) (by omega)).trans ?_
  unfold kFlat
  exact concatenate_apply_piece (t := S22976) 0 [⟨S18432, shapeCast S18432 a shapeCasts_S2x9216_S18432⟩, ⟨S3072, shapeCast S3072 b shapeCasts_S2x6x256_S3072⟩, ⟨S256, shapeCast S256 d shapeCasts_S1x4x64_S256⟩, ⟨S1024, shapeCast S1024 e shapeCasts_S1x1024_S1024⟩, ⟨S64, shapeCast S64 f shapeCasts_S1x64_S64⟩, ⟨S128, shapeCast S128 g shapeCasts_S1x128_S128⟩]
    concatenates_S18432_S3072_S256_S1024_S64_S128_S22976_d0 (ix1 ⟨21760 + (y 0).val, by omega⟩) 3
    (by show 3 < 6; omega) S1024 _ rfl rfl 21760 rfl (ix1 (y 0))
    (fun q hq => absurd (Subsingleton.elim (α := Fin 1) _ _) hq) rfl

/-- What is cut out at the place of weight 5. -/
noncomputable def cutE (x : FVec Ideal S8x2944 .f32) : FVec Ideal S1x64 .f32 :=
  shapeCast S1x64 (extractStridedSlice S64 ![22784] (shapeCast S23552 x shapeCasts_S8x2944_S23552) slices_S23552_S64_22784) shapeCasts_S64_S1x64

theorem cutE_pack (a : FVec Ideal S2x9216 .f32) (b : FVec Ideal S2x6x256 .f32) (d : FVec Ideal S1x4x64 .f32) (e : FVec Ideal S1x1024 .f32)
    (f : FVec Ideal S1x64 .f32) (g : FVec Ideal S1x128 .f32) : cutE (kPack a b d e f g) = f := by
  unfold cutE kPack
  rw [shapeCast_shapeCast]
  refine Eq.trans (congrArg (fun x => shapeCast S1x64 x shapeCasts_S64_S1x64) (?_ : _ = shapeCast S64 f shapeCasts_S1x64_S64)) (shapeCast_shapeCast _ _ _)
  funext y
  rw [eq_ix1 y]
  have hy : (y 0).val < 64 := (y 0).isLt
  refine (extractStridedSlice_apply ![22784] _ _ (ix1 (y 0)) (ix1 ⟨22784 + (y 0).val, by omega⟩) (fun q => by fin_cases q; rfl)).trans ?_
  refine (kLong_at _ (22784 + (y 0).val) (by omega)).trans ?_
  unfold kFlat
  exact concatenate_apply_piece (t := S22976) 0 [⟨S18432, shapeCast S18432 a shapeCasts_S2x9216_S18432⟩, ⟨S3072, shapeCast S3072 b shapeCasts_S2x6x256_S3072⟩, ⟨S256, shapeCast S256 d shapeCasts_S1x4x64_S256⟩, ⟨S1024, shapeCast S1024 e shapeCasts_S1x1024_S1024⟩, ⟨S64, shapeCast S64 f shapeCasts_S1x64_S64⟩, ⟨S128, shapeCast S128 g shapeCasts_S1x128_S128⟩]
    concatenates_S18432_S3072_S256_S1024_S64_S128_S22976_d0 (ix1 ⟨22784 + (y 0).val, by omega⟩) 4
    (by show 4 < 6; omega) S64 _ rfl rfl 22784 rfl (ix1 (y 0))
    (fun q hq => absurd (Subsingleton.elim (α := Fin 1) _ _) hq) rfl

/-- What is cut out at the place of weight 6. -/
noncomputable def cutF (x : FVec Ideal S8x2944 .f32) : FVec Ideal S1x128 .f32 :=
  shapeCast S1x128 (extractStridedSlice S128 ![22848] (shapeCast S23552 x shapeCasts_S8x2944_S23552) slices_S23552_S128_22848) shapeCasts_S128_S1x128

theorem cutF_pack (a : FVec Ideal S2x9216 .f32) (b : FVec Ideal S2x6x256 .f32) (d : FVec Ideal S1x4x64 .f32) (e : FVec Ideal S1x1024 .f32)
    (f : FVec Ideal S1x64 .f32) (g : FVec Ideal S1x128 .f32) : cutF (kPack a b d e f g) = g := by
  unfold cutF kPack
  rw [shapeCast_shapeCast]
  refine Eq.trans (congrArg (fun x => shapeCast S1x128 x shapeCasts_S128_S1x128) (?_ : _ = shapeCast S128 g shapeCasts_S1x128_S128)) (shapeCast_shapeCast _ _ _)
  funext y
  rw [eq_ix1 y]
  have hy : (y 0).val < 128 := (y 0).isLt
  refine (extractStridedSlice_apply ![22848] _ _ (ix1 (y 0)) (ix1 ⟨22848 + (y 0).val, by omega⟩) (fun q => by fin_cases q; rfl)).trans ?_
  refine (kLong_at _ (22848 + (y 0).val) (by omega)).trans ?_
  unfold kFlat
  exact concatenate_apply_piece (t := S22976) 0 [⟨S18432, shapeCast S18432 a shapeCasts_S2x9216_S18432⟩, ⟨S3072, shapeCast S3072 b shapeCasts_S2x6x256_S3072⟩, ⟨S256, shapeCast S256 d shapeCasts_S1x4x64_S256⟩, ⟨S1024, shapeCast S1024 e shapeCasts_S1x1024_S1024⟩, ⟨S64, shapeCast S64 f shapeCasts_S1x64_S64⟩, ⟨S128, shapeCast S128 g shapeCasts_S1x128_S128⟩]
    concatenates_S18432_S3072_S256_S1024_S64_S128_S22976_d0 (ix1 ⟨22848 + (y 0).val, by omega⟩) 5
    (by show 5 < 6; omega) S128 _ rfl rfl 22848 rfl (ix1 (y 0))
    (fun q hq => absurd (Subsingleton.elim (α := Fin 1) _ _) hq) rfl

theorem pack_congr {x0 y0 : FVec Ideal S18432 .f32} {x1 y1 : FVec Ideal S3072 .f32} {x2 y2 : FVec Ideal S256 .f32} {x3 y3 : FVec Ideal S1024 .f32} {x4 y4 : FVec Ideal S64 .f32} {x5 y5 : FVec Ideal S128 .f32}
    (h0 : x0 = y0) (h1 : x1 = y1) (h2 : x2 = y2) (h3 : x3 = y3) (h4 : x4 = y4) (h5 : x5 = y5) :
    concatenate S22976 0 [⟨S18432, x0⟩, ⟨S3072, x1⟩, ⟨S256, x2⟩, ⟨S1024, x3⟩, ⟨S64, x4⟩, ⟨S128, x5⟩] concatenates_S18432_S3072_S256_S1024_S64_S128_S22976_d0
      = concatenate S22976 0 [⟨S18432, y0⟩, ⟨S3072, y1⟩, ⟨S256, y2⟩, ⟨S1024, y3⟩, ⟨S64, y4⟩, ⟨S128, y5⟩] concatenates_S18432_S3072_S256_S1024_S64_S128_S22976_d0 := by
  subst h0 h1 h2 h3 h4 h5
  rfl

variable (m : (ℓ : Loc nD τ sig) → Buf (Elt Ideal) ℓ) (c : Dev nD)

/-- The arguments. -/
abbrev arg0 : FVec Ideal S2x9216 .f32 := m ((c.tc : Thread nD τ).loc main_arg0)
abbrev arg1 : FVec Ideal S2x9216 .f32 := m ((c.tc : Thread nD τ).loc main_arg1)
abbrev arg2 : FVec Ideal S2x9216 .f32 := m ((c.tc : Thread nD τ).loc main_arg2)
abbrev arg3 : FVec Ideal S2x9216 .f32 := m ((c.tc : Thread nD τ).loc main_arg3)
abbrev arg4 : FVec Ideal S2x6x256 .f32 := m ((c.tc : Thread nD τ).loc main_arg4)
abbrev arg5 : FVec Ideal S2x6x256 .f32 := m ((c.tc : Thread nD τ).loc main_arg5)
abbrev arg6 : FVec Ideal S2x6x256 .f32 := m ((c.tc : Thread nD τ).loc main_arg6)
abbrev arg7 : FVec Ideal S2x6x256 .f32 := m ((c.tc : Thread nD τ).loc main_arg7)
abbrev arg8 : FVec Ideal S1x4x64 .f32 := m ((c.tc : Thread nD τ).loc main_arg8)
abbrev arg9 : FVec Ideal S1x4x64 .f32 := m ((c.tc : Thread nD τ).loc main_arg9)
abbrev arg10 : FVec Ideal S1x4x64 .f32 := m ((c.tc : Thread nD τ).loc main_arg10)
abbrev arg11 : FVec Ideal S1x4x64 .f32 := m ((c.tc : Thread nD τ).loc main_arg11)
abbrev arg12 : FVec Ideal S1x1024 .f32 := m ((c.tc : Thread nD τ).loc main_arg12)
abbrev arg13 : FVec Ideal S1x1024 .f32 := m ((c.tc : Thread nD τ).loc main_arg13)
abbrev arg14 : FVec Ideal S1x1024 .f32 := m ((c.tc : Thread nD τ).loc main_arg14)
abbrev arg15 : FVec Ideal S1x1024 .f32 := m ((c.tc : Thread nD τ).loc main_arg15)
abbrev arg16 : FVec Ideal S1x64 .f32 := m ((c.tc : Thread nD τ).loc main_arg16)
abbrev arg17 : FVec Ideal S1x64 .f32 := m ((c.tc : Thread nD τ).loc main_arg17)
abbrev arg18 : FVec Ideal S1x64 .f32 := m ((c.tc : Thread nD τ).loc main_arg18)
abbrev arg19 : FVec Ideal S1x64 .f32 := m ((c.tc : Thread nD τ).loc main_arg19)
abbrev arg20 : FVec Ideal S1x128 .f32 := m ((c.tc : Thread nD τ).loc main_arg20)
abbrev arg21 : FVec Ideal S1x128 .f32 := m ((c.tc : Thread nD τ).loc main_arg21)
abbrev arg22 : FVec Ideal S1x128 .f32 := m ((c.tc : Thread nD τ).loc main_arg22)
abbrev arg23 : FVec Ideal S1x128 .f32 := m ((c.tc : Thread nD τ).loc main_arg23)

/-- The packed weights. -/
theorem V_v9 : V m c main_v9 = kPack (arg0 m c) (arg4 m c) (arg8 m c) (arg12 m c) (arg16 m c) (arg20 m c) := by
  unfold V
  unfold_abbrev_sides
  after_reads_simp
  unfold kPack kLong
  refine congrArg₂ (fun x y => shapeCast S8x2944 (concatenate S23552 0 [⟨S22976, x⟩, ⟨S576, y⟩] concatenates_S22976_S576_S23552_d0)
    shapeCasts_S23552_S8x2944) ?_ ?_
  · after_reads_simp
    refine pack_congr ?_ ?_ ?_ ?_ ?_ ?_ <;> (after_reads_simp; rfl)
  · after_reads_simp

/-- The packed gradients. -/
theorem V_v19 : V m c main_v19 = kPack (arg1 m c) (arg5 m c) (arg9 m c) (arg13 m c) (arg17 m c) (arg21 m c) := by
  unfold V
  unfold_abbrev_sides
  after_reads_simp
  unfold kPack kLong
  refine congrArg₂ (fun x y => shapeCast S8x2944 (concatenate S23552 0 [⟨S22976, x⟩, ⟨S576, y⟩] concatenates_S22976_S576_S23552_d0)
    shapeCasts_S23552_S8x2944) ?_ ?_
  · after_reads_simp
    refine pack_congr ?_ ?_ ?_ ?_ ?_ ?_ <;> (after_reads_simp; rfl)
  · after_reads_simp

/-- The packed first averages. -/
theorem V_v29 : V m c main_v29 = kPack (arg2 m c) (arg6 m c) (arg10 m c) (arg14 m c) (arg18 m c) (arg22 m c) := by
  unfold V
  unfold_abbrev_sides
  after_reads_simp
  unfold kPack kLong
  refine congrArg₂ (fun x y => shapeCast S8x2944 (concatenate S23552 0 [⟨S22976, x⟩, ⟨S576, y⟩] concatenates_S22976_S576_S23552_d0)
    shapeCasts_S23552_S8x2944) ?_ ?_
  · after_reads_simp
    refine pack_congr ?_ ?_ ?_ ?_ ?_ ?_ <;> (after_reads_simp; rfl)
  · after_reads_simp

/-- The packed second averages. -/
theorem V_v39 : V m c main_v39 = kPack (arg3 m c) (arg7 m c) (arg11 m c) (arg15 m c) (arg19 m c) (arg23 m c) := by
  unfold V
  unfold_abbrev_sides
  after_reads_simp
  unfold kPack kLong
  refine congrArg₂ (fun x y => shapeCast S8x2944 (concatenate S23552 0 [⟨S22976, x⟩, ⟨S576, y⟩] concatenates_S22976_S576_S23552_d0)
    shapeCasts_S23552_S8x2944) ?_ ?_
  · after_reads_simp
    refine pack_congr ?_ ?_ ?_ ?_ ?_ ?_ <;> (after_reads_simp; rfl)
  · after_reads_simp

end Cert.Kernel8Ideal.Hand
-- ==== Proof.SmallRegion.lean ====
module
public import proofs.«01_k».proof.Proof.SmallPrelude
public import Idealize.ShloMosaic.Lib.Pipeline.ValueKit
public import Idealize.ShloMosaic.Lib.Pipeline.ReadBack
public import proofs.«01_k».proof.Proof.StepFormula

/-! # The arrays left by the update of the packed small weights

The call is a single point that holds every array whole, and each result is read entry by entry. -/

@[expose] public section
set_option maxRecDepth 16384

namespace Cert.Kernel8Ideal.Hand
open Idealize.ShloMosaic
open Cert.Kernel8Ideal Cert.Kernel8Ideal.Gen
open Cert.Step

/-! ## The point's results, entry by entry -/

section
variable (x0 x1 x2 x3 : Vec Ideal S8x2944 .f32)

theorem block4 (y : S8x2944.Idx) : out0_4 x0 x1 x2 x3 y = delta (x0 y) (x1 y) (x2 y) (x3 y) := by
  unfold out0_4
  frame_out
  simp only [k0_pay1, k0_pay2, k0_pay3, k0_pay4, shapeCast_self]
  rfl

theorem block5 (y : S8x2944.Idx) : out0_5 x0 x1 x2 x3 y = avg (x2 y) (x1 y) := by
  unfold out0_5
  frame_out
  simp only [k0_pay1, k0_pay2, k0_pay3, k0_pay4, shapeCast_self]
  rfl

theorem block6 (y : S8x2944.Idx) : out0_6 x0 x1 x2 x3 y = sq (x3 y) (x1 y) := by
  unfold out0_6
  frame_out
  simp only [k0_pay1, k0_pay2, k0_pay3, k0_pay4, shapeCast_self]
  rfl

end

/-! ## A block is its array -/

theorem at0 (t : Fin cfg0.N) (y : S8x2944.Idx) : (win0_0.blk t).view.emb y = y := by
  have e : ∀ t : Fin cfg0.N, (cfg0.win 0).index t 0 = 0 ∧ (cfg0.win 0).index t 1 = 0 := by
    decide +kernel
  obtain ⟨e0, e1⟩ := e t
  funext a
  fin_cases a
  · exact Fin.ext (by blk_simp [e0])
  · exact Fin.ext (by blk_simp [e1])

theorem at1 (t : Fin cfg0.N) (y : S8x2944.Idx) : (win0_1.blk t).view.emb y = y := by
  have e : ∀ t : Fin cfg0.N, (cfg0.win 1).index t 0 = 0 ∧ (cfg0.win 1).index t 1 = 0 := by
    decide +kernel
  obtain ⟨e0, e1⟩ := e t
  funext a
  fin_cases a
  · exact Fin.ext (by blk_simp [e0])
  · exact Fin.ext (by blk_simp [e1])

theorem at2 (t : Fin cfg0.N) (y : S8x2944.Idx) : (win0_2.blk t).view.emb y = y := by
  have e : ∀ t : Fin cfg0.N, (cfg0.win 2).index t 0 = 0 ∧ (cfg0.win 2).index t 1 = 0 := by
    decide +kernel
  obtain ⟨e0, e1⟩ := e t
  funext a
  fin_cases a
  · exact Fin.ext (by blk_simp [e0])
  · exact Fin.ext (by blk_simp [e1])

theorem at3 (t : Fin cfg0.N) (y : S8x2944.Idx) : (win0_3.blk t).view.emb y = y := by
  have e : ∀ t : Fin cfg0.N, (cfg0.win 3).index t 0 = 0 ∧ (cfg0.win 3).index t 1 = 0 := by
    decide +kernel
  obtain ⟨e0, e1⟩ := e t
  funext a
  fin_cases a
  · exact Fin.ext (by blk_simp [e0])
  · exact Fin.ext (by blk_simp [e1])

theorem at4 (t : Fin cfg0.N) (y : S8x2944.Idx) : (win0_4.blk t).view.emb y = y := by
  have e : ∀ t : Fin cfg0.N, (cfg0.win 4).index t 0 = 0 ∧ (cfg0.win 4).index t 1 = 0 := by
    decide +kernel
  obtain ⟨e0, e1⟩ := e t
  funext a
  fin_cases a
  · exact Fin.ext (by blk_simp [e0])
  · exact Fin.ext (by blk_simp [e1])

theorem at5 (t : Fin cfg0.N) (y : S8x2944.Idx) : (win0_5.blk t).view.emb y = y := by
  have e : ∀ t : Fin cfg0.N, (cfg0.win 5).index t 0 = 0 ∧ (cfg0.win 5).index t 1 = 0 := by
    decide +kernel
  obtain ⟨e0, e1⟩ := e t
  funext a
  fin_cases a
  · exact Fin.ext (by blk_simp [e0])
  · exact Fin.ext (by blk_simp [e1])

theorem at6 (t : Fin cfg0.N) (y : S8x2944.Idx) : (win0_6.blk t).view.emb y = y := by
  have e : ∀ t : Fin cfg0.N, (cfg0.win 6).index t 0 = 0 ∧ (cfg0.win 6).index t 1 = 0 := by
    decide +kernel
  obtain ⟨e0, e1⟩ := e t
  funext a
  fin_cases a
  · exact Fin.ext (by blk_simp [e0])
  · exact Fin.ext (by blk_simp [e1])

variable (m : (ℓ : Loc nD τ sig) → Buf (Elt Ideal) ℓ) (c : Dev nD)

theorem in0 (t : Fin cfg0.N) : iblk m c 0 t = V m c main_v9 :=
  funext fun y => congrArg (V m c main_v9) (at0 t y)

theorem in1 (t : Fin cfg0.N) : iblk m c 1 t = V m c main_v19 :=
  funext fun y => congrArg (V m c main_v19) (at1 t y)

theorem in2 (t : Fin cfg0.N) : iblk m c 2 t = V m c main_v29 :=
  funext fun y => congrArg (V m c main_v29) (at2 t y)

theorem in3 (t : Fin cfg0.N) : iblk m c 3 t = V m c main_v39 :=
  funext fun y => congrArg (V m c main_v39) (at3 t y)

/-! ## The results -/

theorem arr4 : (dats m 0 c).arrAt 4 cfg0.N = fun i => delta (V m c main_v9 i) (V m c main_v19 i) (V m c main_v29 i) (V m c main_v39 i) := by
  refine (dats m 0 c).arrAt_eq_of_covers 4 _ (by decide +kernel) fun t hf y => ?_
  refine (congrFun (after0_4 m c t) y).trans ((block4 _ _ _ _ y).trans ?_)
  rw [in0, in1, in2, in3]
  exact (congrArg (fun i => delta (V m c main_v9 i) (V m c main_v19 i) (V m c main_v29 i) (V m c main_v39 i)) (at4 t y)).symm

theorem arr5 : (dats m 0 c).arrAt 5 cfg0.N = fun i => avg (V m c main_v29 i) (V m c main_v19 i) := by
  refine (dats m 0 c).arrAt_eq_of_covers 5 _ (by decide +kernel) fun t hf y => ?_
  refine (congrFun (after0_5 m c t) y).trans ((block5 _ _ _ _ y).trans ?_)
  rw [in1, in2]
  exact (congrArg (fun i => avg (V m c main_v29 i) (V m c main_v19 i)) (at5 t y)).symm

theorem arr6 : (dats m 0 c).arrAt 6 cfg0.N = fun i => sq (V m c main_v39 i) (V m c main_v19 i) := by
  refine (dats m 0 c).arrAt_eq_of_covers 6 _ (by decide +kernel) fun t hf y => ?_
  refine (congrFun (after0_6 m c t) y).trans ((block6 _ _ _ _ y).trans ?_)
  rw [in1, in3]
  exact (congrArg (fun i => sq (V m c main_v39 i) (V m c main_v19 i)) (at6 t y)).symm

end Cert.Kernel8Ideal.Hand
-- ==== Proof.SmallEquation.lean ====
module
public import proofs.«01_k».proof.Defs
public import proofs.«01_k».proof.Proof.Gen.Reference8Ideal.Run
public import proofs.«01_k».proof.Proof.SmallReference
public import proofs.«01_k».proof.Proof.SmallRegion

/-! # The update of the small weights against the reference

The call updates every entry of the packed arrays by itself, so what is cut out of its results is the update of what was
packed. Both programs end with the same steps and averages, whatever the arguments hold. -/

@[expose] public section
set_option maxRecDepth 16384

namespace Cert.Kernel8Ideal.Hand
open Idealize.ShloMosaic Idealize.SL.Sem
open Cert.Kernel8Ideal Cert.Kernel8Ideal.Gen
open Cert.Step

variable (m : (ℓ : Loc nD τ sig) → Buf (Elt Ideal) ℓ) (c : Dev nD)

/-- The call's arrays, as the lines after it read them. -/
noncomputable abbrev outs : Valuation τ sig (Elt Ideal) :=
  Pipeline.withArrays cfg0.spec c (V0 m c) fun w => (dats m 0 c).arrAt w cfg0.N

theorem outs_0 : outs m c (Proc.devRef .tc main_v40_0) = (dats m 0 c).arrAt 4 cfg0.N :=
  Pipeline.withArrays_arr cfg0.spec (by decide) c (V0 m c) (fun w => (dats m 0 c).arrAt w cfg0.N) 4

theorem outs_1 : outs m c (Proc.devRef .tc main_v40_1) = (dats m 0 c).arrAt 5 cfg0.N :=
  Pipeline.withArrays_arr cfg0.spec (by decide) c (V0 m c) (fun w => (dats m 0 c).arrAt w cfg0.N) 5

theorem outs_2 : outs m c (Proc.devRef .tc main_v40_2) = (dats m 0 c).arrAt 6 cfg0.N :=
  Pipeline.withArrays_arr cfg0.spec (by decide) c (V0 m c) (fun w => (dats m 0 c).arrAt w cfg0.N) 6

theorem packed_0 : (dats m 0 c).arrAt 4 cfg0.N
    = fun i => delta (kPack (arg0 m c) (arg4 m c) (arg8 m c) (arg12 m c) (arg16 m c) (arg20 m c) i) (kPack (arg1 m c) (arg5 m c) (arg9 m c) (arg13 m c) (arg17 m c) (arg21 m c) i) (kPack (arg2 m c) (arg6 m c) (arg10 m c) (arg14 m c) (arg18 m c) (arg22 m c) i) (kPack (arg3 m c) (arg7 m c) (arg11 m c) (arg15 m c) (arg19 m c) (arg23 m c) i) := by
  rw [arr4, V_v9, V_v19, V_v29, V_v39]
  rfl

theorem packed_1 : (dats m 0 c).arrAt 5 cfg0.N
    = fun i => avg (kPack (arg2 m c) (arg6 m c) (arg10 m c) (arg14 m c) (arg18 m c) (arg22 m c) i) (kPack (arg1 m c) (arg5 m c) (arg9 m c) (arg13 m c) (arg17 m c) (arg21 m c) i) := by
  rw [arr5, V_v19, V_v29]
  rfl

theorem packed_2 : (dats m 0 c).arrAt 6 cfg0.N
    = fun i => sq (kPack (arg3 m c) (arg7 m c) (arg11 m c) (arg15 m c) (arg19 m c) (arg23 m c) i) (kPack (arg1 m c) (arg5 m c) (arg9 m c) (arg13 m c) (arg17 m c) (arg21 m c) i) := by
  rw [arr6, V_v19, V_v39]
  rfl

theorem tail_v43 (W : Valuation τ sig (Elt Ideal)) :
    StableHlo.after (List.flatten [hostOps1]) W (Proc.devRef .tc main_v43) = cutA (W (Proc.devRef .tc main_v40_0)) := by
  after_reads_simp
  rfl

theorem eq23 : Pipeline.afterTail₀ cfgs (dats m) 0 (V0 m) [hostOps1] c main_v43 = Cert.Reference8Ideal.Read.val_main_v23 (F := Ideal) (arg0 m c) (arg1 m c) (arg2 m c) (arg3 m c) := by
  refine (tail_v43 (outs m c)).trans ?_
  rw [outs_0, packed_0]
  refine Eq.trans (?_ : _ = fun i => delta (cutA (kPack (arg0 m c) (arg4 m c) (arg8 m c) (arg12 m c) (arg16 m c) (arg20 m c)) i) (cutA (kPack (arg1 m c) (arg5 m c) (arg9 m c) (arg13 m c) (arg17 m c) (arg21 m c)) i) (cutA (kPack (arg2 m c) (arg6 m c) (arg10 m c) (arg14 m c) (arg18 m c) (arg22 m c)) i) (cutA (kPack (arg3 m c) (arg7 m c) (arg11 m c) (arg15 m c) (arg19 m c) (arg23 m c)) i)) ?_
  · rfl
  · simp only [cutA_pack]
    exact Cert.Small.v23_eq (arg0 m c) (arg1 m c) (arg2 m c) (arg3 m c)

theorem tail_v46 (W : Valuation τ sig (Elt Ideal)) :
    StableHlo.after (List.flatten [hostOps1]) W (Proc.devRef .tc main_v46) = cutA (W (Proc.devRef .tc main_v40_1)) := by
  after_reads_simp
  rfl

theorem eq4 : Pipeline.afterTail₀ cfgs (dats m) 0 (V0 m) [hostOps1] c main_v46 = Cert.Reference8Ideal.Read.val_main_v4 (F := Ideal) (arg1 m c) (arg2 m c) := by
  refine (tail_v46 (outs m c)).trans ?_
  rw [outs_1, packed_1]
  refine Eq.trans (?_ : _ = fun i => avg (cutA (kPack (arg2 m c) (arg6 m c) (arg10 m c) (arg14 m c) (arg18 m c) (arg22 m c)) i) (cutA (kPack (arg1 m c) (arg5 m c) (arg9 m c) (arg13 m c) (arg17 m c) (arg21 m c)) i)) ?_
  · rfl
  · simp only [cutA_pack]
    exact Cert.Small.v4_eq (arg1 m c) (arg2 m c)

theorem tail_v49 (W : Valuation τ sig (Elt Ideal)) :
    StableHlo.after (List.flatten [hostOps1]) W (Proc.devRef .tc main_v49) = cutA (W (Proc.devRef .tc main_v40_2)) := by
  after_reads_simp
  rfl

theorem eq10 : Pipeline.afterTail₀ cfgs (dats m) 0 (V0 m) [hostOps1] c main_v49 = Cert.Reference8Ideal.Read.val_main_v10 (F := Ideal) (arg1 m c) (arg3 m c) := by
  refine (tail_v49 (outs m c)).trans ?_
  rw [outs_2, packed_2]
  refine Eq.trans (?_ : _ = fun i => sq (cutA (kPack (arg3 m c) (arg7 m c) (arg11 m c) (arg15 m c) (arg19 m c) (arg23 m c)) i) (cutA (kPack (arg1 m c) (arg5 m c) (arg9 m c) (arg13 m c) (arg17 m c) (arg21 m c)) i)) ?_
  · rfl
  · simp only [cutA_pack]
    exact Cert.Small.v10_eq (arg1 m c) (arg3 m c)

theorem tail_v52 (W : Valuation τ sig (Elt Ideal)) :
    StableHlo.after (List.flatten [hostOps1]) W (Proc.devRef .tc main_v52) = cutB (W (Proc.devRef .tc main_v40_0)) := by
  after_reads_simp
  rfl

theorem eq47 : Pipeline.afterTail₀ cfgs (dats m) 0 (V0 m) [hostOps1] c main_v52 = Cert.Reference8Ideal.Read.val_main_v47 (F := Ideal) (arg4 m c) (arg5 m c) (arg6 m c) (arg7 m c) := by
  refine (tail_v52 (outs m c)).trans ?_
  rw [outs_0, packed_0]
  refine Eq.trans (?_ : _ = fun i => delta (cutB (kPack (arg0 m c) (arg4 m c) (arg8 m c) (arg12 m c) (arg16 m c) (arg20 m c)) i) (cutB (kPack (arg1 m c) (arg5 m c) (arg9 m c) (arg13 m c) (arg17 m c) (arg21 m c)) i) (cutB (kPack (arg2 m c) (arg6 m c) (arg10 m c) (arg14 m c) (arg18 m c) (arg22 m c)) i) (cutB (kPack (arg3 m c) (arg7 m c) (arg11 m c) (arg15 m c) (arg19 m c) (arg23 m c)) i)) ?_
  · rfl
  · simp only [cutB_pack]
    exact Cert.Small.v47_eq (arg4 m c) (arg5 m c) (arg6 m c) (arg7 m c)

theorem tail_v55 (W : Valuation τ sig (Elt Ideal)) :
    StableHlo.after (List.flatten [hostOps1]) W (Proc.devRef .tc main_v55) = cutB (W (Proc.devRef .tc main_v40_1)) := by
  after_reads_simp
  rfl

theorem eq28 : Pipeline.afterTail₀ cfgs (dats m) 0 (V0 m) [hostOps1] c main_v55 = Cert.Reference8Ideal.Read.val_main_v28 (F := Ideal) (arg5 m c) (arg6 m c) := by
  refine (tail_v55 (outs m c)).trans ?_
  rw [outs_1, packed_1]
  refine Eq.trans (?_ : _ = fun i => avg (cutB (kPack (arg2 m c) (arg6 m c) (arg10 m c) (arg14 m c) (arg18 m c) (arg22 m c)) i) (cutB (kPack (arg1 m c) (arg5 m c) (arg9 m c) (arg13 m c) (arg17 m c) (arg21 m c)) i)) ?_
  · rfl
  · simp only [cutB_pack]
    exact Cert.Small.v28_eq (arg5 m c) (arg6 m c)

theorem tail_v58 (W : Valuation τ sig (Elt Ideal)) :
    StableHlo.after (List.flatten [hostOps1]) W (Proc.devRef .tc main_v58) = cutB (W (Proc.devRef .tc main_v40_2)) := by
  after_reads_simp
  rfl

theorem eq34 : Pipeline.afterTail₀ cfgs (dats m) 0 (V0 m) [hostOps1] c main_v58 = Cert.Reference8Ideal.Read.val_main_v34 (F := Ideal) (arg5 m c) (arg7 m c) := by
  refine (tail_v58 (outs m c)).trans ?_
  rw [outs_2, packed_2]
  refine Eq.trans (?_ : _ = fun i => sq (cutB (kPack (arg3 m c) (arg7 m c) (arg11 m c) (arg15 m c) (arg19 m c) (arg23 m c)) i) (cutB (kPack (arg1 m c) (arg5 m c) (arg9 m c) (arg13 m c) (arg17 m c) (arg21 m c)) i)) ?_
  · rfl
  · simp only [cutB_pack]
    exact Cert.Small.v34_eq (arg5 m c) (arg7 m c)

theorem tail_v61 (W : Valuation τ sig (Elt Ideal)) :
    StableHlo.after (List.flatten [hostOps1]) W (Proc.devRef .tc main_v61) = cutC (W (Proc.devRef .tc main_v40_0)) := by
  after_reads_simp
  rfl

theorem eq71 : Pipeline.afterTail₀ cfgs (dats m) 0 (V0 m) [hostOps1] c main_v61 = Cert.Reference8Ideal.Read.val_main_v71 (F := Ideal) (arg8 m c) (arg9 m c) (arg10 m c) (arg11 m c) := by
  refine (tail_v61 (outs m c)).trans ?_
  rw [outs_0, packed_0]
  refine Eq.trans (?_ : _ = fun i => delta (cutC (kPack (arg0 m c) (arg4 m c) (arg8 m c) (arg12 m c) (arg16 m c) (arg20 m c)) i) (cutC (kPack (arg1 m c) (arg5 m c) (arg9 m c) (arg13 m c) (arg17 m c) (arg21 m c)) i) (cutC (kPack (arg2 m c) (arg6 m c) (arg10 m c) (arg14 m c) (arg18 m c) (arg22 m c)) i) (cutC (kPack (arg3 m c) (arg7 m c) (arg11 m c) (arg15 m c) (arg19 m c) (arg23 m c)) i)) ?_
  · rfl
  · simp only [cutC_pack]
    exact Cert.Small.v71_eq (arg8 m c) (arg9 m c) (arg10 m c) (arg11 m c)

theorem tail_v64 (W : Valuation τ sig (Elt Ideal)) :
    StableHlo.after (List.flatten [hostOps1]) W (Proc.devRef .tc main_v64) = cutC (W (Proc.devRef .tc main_v40_1)) := by
  after_reads_simp
  rfl

theorem eq52 : Pipeline.afterTail₀ cfgs (dats m) 0 (V0 m) [hostOps1] c main_v64 = Cert.Reference8Ideal.Read.val_main_v52 (F := Ideal) (arg9 m c) (arg10 m c) := by
  refine (tail_v64 (outs m c)).trans ?_
  rw [outs_1, packed_1]
  refine Eq.trans (?_ : _ = fun i => avg (cutC (kPack (arg2 m c) (arg6 m c) (arg10 m c) (arg14 m c) (arg18 m c) (arg22 m c)) i) (cutC (kPack (arg1 m c) (arg5 m c) (arg9 m c) (arg13 m c) (arg17 m c) (arg21 m c)) i)) ?_
  · rfl
  · simp only [cutC_pack]
    exact Cert.Small.v52_eq (arg9 m c) (arg10 m c)

theorem tail_v67 (W : Valuation τ sig (Elt Ideal)) :
    StableHlo.after (List.flatten [hostOps1]) W (Proc.devRef .tc main_v67) = cutC (W (Proc.devRef .tc main_v40_2)) := by
  after_reads_simp
  rfl

theorem eq58 : Pipeline.afterTail₀ cfgs (dats m) 0 (V0 m) [hostOps1] c main_v67 = Cert.Reference8Ideal.Read.val_main_v58 (F := Ideal) (arg9 m c) (arg11 m c) := by
  refine (tail_v67 (outs m c)).trans ?_
  rw [outs_2, packed_2]
  refine Eq.trans (?_ : _ = fun i => sq (cutC (kPack (arg3 m c) (arg7 m c) (arg11 m c) (arg15 m c) (arg19 m c) (arg23 m c)) i) (cutC (kPack (arg1 m c) (arg5 m c) (arg9 m c) (arg13 m c) (arg17 m c) (arg21 m c)) i)) ?_
  · rfl
  · simp only [cutC_pack]
    exact Cert.Small.v58_eq (arg9 m c) (arg11 m c)

theorem tail_v70 (W : Valuation τ sig (Elt Ideal)) :
    StableHlo.after (List.flatten [hostOps1]) W (Proc.devRef .tc main_v70) = cutD (W (Proc.devRef .tc main_v40_0)) := by
  after_reads_simp
  rfl

theorem eq95 : Pipeline.afterTail₀ cfgs (dats m) 0 (V0 m) [hostOps1] c main_v70 = Cert.Reference8Ideal.Read.val_main_v95 (F := Ideal) (arg12 m c) (arg13 m c) (arg14 m c) (arg15 m c) := by
  refine (tail_v70 (outs m c)).trans ?_
  rw [outs_0, packed_0]
  refine Eq.trans (?_ : _ = fun i => delta (cutD (kPack (arg0 m c) (arg4 m c) (arg8 m c) (arg12 m c) (arg16 m c) (arg20 m c)) i) (cutD (kPack (arg1 m c) (arg5 m c) (arg9 m c) (arg13 m c) (arg17 m c) (arg21 m c)) i) (cutD (kPack (arg2 m c) (arg6 m c) (arg10 m c) (arg14 m c) (arg18 m c) (arg22 m c)) i) (cutD (kPack (arg3 m c) (arg7 m c) (arg11 m c) (arg15 m c) (arg19 m c) (arg23 m c)) i)) ?_
  · rfl
  · simp only [cutD_pack]
    exact Cert.Small.v95_eq (arg12 m c) (arg13 m c) (arg14 m c) (arg15 m c)

theorem tail_v73 (W : Valuation τ sig (Elt Ideal)) :
    StableHlo.after (List.flatten [hostOps1]) W (Proc.devRef .tc main_v73) = cutD (W (Proc.devRef .tc main_v40_1)) := by
  after_reads_simp
  rfl

theorem eq76 : Pipeline.afterTail₀ cfgs (dats m) 0 (V0 m) [hostOps1] c main_v73 = Cert.Reference8Ideal.Read.val_main_v76 (F := Ideal) (arg13 m c) (arg14 m c) := by
  refine (tail_v73 (outs m c)).trans ?_
  rw [outs_1, packed_1]
  refine Eq.trans (?_ : _ = fun i => avg (cutD (kPack (arg2 m c) (arg6 m c) (arg10 m c) (arg14 m c) (arg18 m c) (arg22 m c)) i) (cutD (kPack (arg1 m c) (arg5 m c) (arg9 m c) (arg13 m c) (arg17 m c) (arg21 m c)) i)) ?_
  · rfl
  · simp only [cutD_pack]
    exact Cert.Small.v76_eq (arg13 m c) (arg14 m c)

theorem tail_v76 (W : Valuation τ sig (Elt Ideal)) :
    StableHlo.after (List.flatten [hostOps1]) W (Proc.devRef .tc main_v76) = cutD (W (Proc.devRef .tc main_v40_2)) := by
  after_reads_simp
  rfl

theorem eq82 : Pipeline.afterTail₀ cfgs (dats m) 0 (V0 m) [hostOps1] c main_v76 = Cert.Reference8Ideal.Read.val_main_v82 (F := Ideal) (arg13 m c) (arg15 m c) := by
  refine (tail_v76 (outs m c)).trans ?_
  rw [outs_2, packed_2]
  refine Eq.trans (?_ : _ = fun i => sq (cutD (kPack (arg3 m c) (arg7 m c) (arg11 m c) (arg15 m c) (arg19 m c) (arg23 m c)) i) (cutD (kPack (arg1 m c) (arg5 m c) (arg9 m c) (arg13 m c) (arg17 m c) (arg21 m c)) i)) ?_
  · rfl
  · simp only [cutD_pack]
    exact Cert.Small.v82_eq (arg13 m c) (arg15 m c)

theorem tail_v79 (W : Valuation τ sig (Elt Ideal)) :
    StableHlo.after (List.flatten [hostOps1]) W (Proc.devRef .tc main_v79) = cutE (W (Proc.devRef .tc main_v40_0)) := by
  after_reads_simp
  rfl

theorem eq119 : Pipeline.afterTail₀ cfgs (dats m) 0 (V0 m) [hostOps1] c main_v79 = Cert.Reference8Ideal.Read.val_main_v119 (F := Ideal) (arg16 m c) (arg17 m c) (arg18 m c) (arg19 m c) := by
  refine (tail_v79 (outs m c)).trans ?_
  rw [outs_0, packed_0]
  refine Eq.trans (?_ : _ = fun i => delta (cutE (kPack (arg0 m c) (arg4 m c) (arg8 m c) (arg12 m c) (arg16 m c) (arg20 m c)) i) (cutE (kPack (arg1 m c) (arg5 m c) (arg9 m c) (arg13 m c) (arg17 m c) (arg21 m c)) i) (cutE (kPack (arg2 m c) (arg6 m c) (arg10 m c) (arg14 m c) (arg18 m c) (arg22 m c)) i) (cutE (kPack (arg3 m c) (arg7 m c) (arg11 m c) (arg15 m c) (arg19 m c) (arg23 m c)) i)) ?_
  · rfl
  · simp only [cutE_pack]
    exact Cert.Small.v119_eq (arg16 m c) (arg17 m c) (arg18 m c) (arg19 m c)

theorem tail_v82 (W : Valuation τ sig (Elt Ideal)) :
    StableHlo.after (List.flatten [hostOps1]) W (Proc.devRef .tc main_v82) = cutE (W (Proc.devRef .tc main_v40_1)) := by
  after_reads_simp
  rfl

theorem eq100 : Pipeline.afterTail₀ cfgs (dats m) 0 (V0 m) [hostOps1] c main_v82 = Cert.Reference8Ideal.Read.val_main_v100 (F := Ideal) (arg17 m c) (arg18 m c) := by
  refine (tail_v82 (outs m c)).trans ?_
  rw [outs_1, packed_1]
  refine Eq.trans (?_ : _ = fun i => avg (cutE (kPack (arg2 m c) (arg6 m c) (arg10 m c) (arg14 m c) (arg18 m c) (arg22 m c)) i) (cutE (kPack (arg1 m c) (arg5 m c) (arg9 m c) (arg13 m c) (arg17 m c) (arg21 m c)) i)) ?_
  · rfl
  · simp only [cutE_pack]
    exact Cert.Small.v100_eq (arg17 m c) (arg18 m c)

theorem tail_v85 (W : Valuation τ sig (Elt Ideal)) :
    StableHlo.after (List.flatten [hostOps1]) W (Proc.devRef .tc main_v85) = cutE (W (Proc.devRef .tc main_v40_2)) := by
  after_reads_simp
  rfl

theorem eq106 : Pipeline.afterTail₀ cfgs (dats m) 0 (V0 m) [hostOps1] c main_v85 = Cert.Reference8Ideal.Read.val_main_v106 (F := Ideal) (arg17 m c) (arg19 m c) := by
  refine (tail_v85 (outs m c)).trans ?_
  rw [outs_2, packed_2]
  refine Eq.trans (?_ : _ = fun i => sq (cutE (kPack (arg3 m c) (arg7 m c) (arg11 m c) (arg15 m c) (arg19 m c) (arg23 m c)) i) (cutE (kPack (arg1 m c) (arg5 m c) (arg9 m c) (arg13 m c) (arg17 m c) (arg21 m c)) i)) ?_
  · rfl
  · simp only [cutE_pack]
    exact Cert.Small.v106_eq (arg17 m c) (arg19 m c)

theorem tail_v88 (W : Valuation τ sig (Elt Ideal)) :
    StableHlo.after (List.flatten [hostOps1]) W (Proc.devRef .tc main_v88) = cutF (W (Proc.devRef .tc main_v40_0)) := by
  after_reads_simp
  rfl

theorem eq143 : Pipeline.afterTail₀ cfgs (dats m) 0 (V0 m) [hostOps1] c main_v88 = Cert.Reference8Ideal.Read.val_main_v143 (F := Ideal) (arg20 m c) (arg21 m c) (arg22 m c) (arg23 m c) := by
  refine (tail_v88 (outs m c)).trans ?_
  rw [outs_0, packed_0]
  refine Eq.trans (?_ : _ = fun i => delta (cutF (kPack (arg0 m c) (arg4 m c) (arg8 m c) (arg12 m c) (arg16 m c) (arg20 m c)) i) (cutF (kPack (arg1 m c) (arg5 m c) (arg9 m c) (arg13 m c) (arg17 m c) (arg21 m c)) i) (cutF (kPack (arg2 m c) (arg6 m c) (arg10 m c) (arg14 m c) (arg18 m c) (arg22 m c)) i) (cutF (kPack (arg3 m c) (arg7 m c) (arg11 m c) (arg15 m c) (arg19 m c) (arg23 m c)) i)) ?_
  · rfl
  · simp only [cutF_pack]
    exact Cert.Small.v143_eq (arg20 m c) (arg21 m c) (arg22 m c) (arg23 m c)

theorem tail_v91 (W : Valuation τ sig (Elt Ideal)) :
    StableHlo.after (List.flatten [hostOps1]) W (Proc.devRef .tc main_v91) = cutF (W (Proc.devRef .tc main_v40_1)) := by
  after_reads_simp
  rfl

theorem eq124 : Pipeline.afterTail₀ cfgs (dats m) 0 (V0 m) [hostOps1] c main_v91 = Cert.Reference8Ideal.Read.val_main_v124 (F := Ideal) (arg21 m c) (arg22 m c) := by
  refine (tail_v91 (outs m c)).trans ?_
  rw [outs_1, packed_1]
  refine Eq.trans (?_ : _ = fun i => avg (cutF (kPack (arg2 m c) (arg6 m c) (arg10 m c) (arg14 m c) (arg18 m c) (arg22 m c)) i) (cutF (kPack (arg1 m c) (arg5 m c) (arg9 m c) (arg13 m c) (arg17 m c) (arg21 m c)) i)) ?_
  · rfl
  · simp only [cutF_pack]
    exact Cert.Small.v124_eq (arg21 m c) (arg22 m c)

theorem tail_v94 (W : Valuation τ sig (Elt Ideal)) :
    StableHlo.after (List.flatten [hostOps1]) W (Proc.devRef .tc main_v94) = cutF (W (Proc.devRef .tc main_v40_2)) := by
  after_reads_simp
  rfl

theorem eq130 : Pipeline.afterTail₀ cfgs (dats m) 0 (V0 m) [hostOps1] c main_v94 = Cert.Reference8Ideal.Read.val_main_v130 (F := Ideal) (arg21 m c) (arg23 m c) := by
  refine (tail_v94 (outs m c)).trans ?_
  rw [outs_2, packed_2]
  refine Eq.trans (?_ : _ = fun i => sq (cutF (kPack (arg3 m c) (arg7 m c) (arg11 m c) (arg15 m c) (arg19 m c) (arg23 m c)) i) (cutF (kPack (arg1 m c) (arg5 m c) (arg9 m c) (arg13 m c) (arg17 m c) (arg21 m c)) i)) ?_
  · rfl
  · simp only [cutF_pack]
    exact Cert.Small.v130_eq (arg21 m c) (arg23 m c)

end Cert.Kernel8Ideal.Hand

namespace Cert.Hand
open Idealize.ShloMosaic Idealize.SL.Sem
open Cert.Kernel8Ideal.Hand (arg0 arg1 arg2 arg3 arg4 arg5 arg6 arg7 arg8 arg9 arg10 arg11 arg12 arg13 arg14 arg15 arg16 arg17 arg18 arg19 arg20 arg21 arg22 arg23)

/-- The reference's program keeps its arguments, and it has no semaphore. -/
theorem frame_reference8 : Cert.quiescent_Reference8Ideal := fun m ρ _ =>
  (θ_run Cert.Reference8Ideal.defs _ _).mono (fun r h => ⟨fun c => (h c).2.2.2.2.2.2.2.2.2.2.2.2.2.2.2.2.2.2,
      Idealize.ShloMosaic.sem_eq_zero_of_no_sems (by decide) r.2⟩)
    (Cert.Reference8Ideal.Value.run (F := Ideal) m ρ)

/-- The small weights: both programs end with the same steps and averages. -/
theorem algebraic_small : Cert.algebraic_Kernel8Ideal_Reference8Ideal := by
  intro m ρ m' ρ' _ hargs
  refine ⟨fun c => Cert.Reference8Ideal.Read.val_main_v23 (F := Ideal) (arg0 m c) (arg1 m c) (arg2 m c) (arg3 m c),
    fun c => Cert.Reference8Ideal.Read.val_main_v4 (F := Ideal) (arg1 m c) (arg2 m c),
    fun c => Cert.Reference8Ideal.Read.val_main_v10 (F := Ideal) (arg1 m c) (arg3 m c),
    fun c => Cert.Reference8Ideal.Read.val_main_v47 (F := Ideal) (arg4 m c) (arg5 m c) (arg6 m c) (arg7 m c),
    fun c => Cert.Reference8Ideal.Read.val_main_v28 (F := Ideal) (arg5 m c) (arg6 m c),
    fun c => Cert.Reference8Ideal.Read.val_main_v34 (F := Ideal) (arg5 m c) (arg7 m c),
    fun c => Cert.Reference8Ideal.Read.val_main_v71 (F := Ideal) (arg8 m c) (arg9 m c) (arg10 m c) (arg11 m c),
    fun c => Cert.Reference8Ideal.Read.val_main_v52 (F := Ideal) (arg9 m c) (arg10 m c),
    fun c => Cert.Reference8Ideal.Read.val_main_v58 (F := Ideal) (arg9 m c) (arg11 m c),
    fun c => Cert.Reference8Ideal.Read.val_main_v95 (F := Ideal) (arg12 m c) (arg13 m c) (arg14 m c) (arg15 m c),
    fun c => Cert.Reference8Ideal.Read.val_main_v76 (F := Ideal) (arg13 m c) (arg14 m c),
    fun c => Cert.Reference8Ideal.Read.val_main_v82 (F := Ideal) (arg13 m c) (arg15 m c),
    fun c => Cert.Reference8Ideal.Read.val_main_v119 (F := Ideal) (arg16 m c) (arg17 m c) (arg18 m c) (arg19 m c),
    fun c => Cert.Reference8Ideal.Read.val_main_v100 (F := Ideal) (arg17 m c) (arg18 m c),
    fun c => Cert.Reference8Ideal.Read.val_main_v106 (F := Ideal) (arg17 m c) (arg19 m c),
    fun c => Cert.Reference8Ideal.Read.val_main_v143 (F := Ideal) (arg20 m c) (arg21 m c) (arg22 m c) (arg23 m c),
    fun c => Cert.Reference8Ideal.Read.val_main_v124 (F := Ideal) (arg21 m c) (arg22 m c),
    fun c => Cert.Reference8Ideal.Read.val_main_v130 (F := Ideal) (arg21 m c) (arg23 m c), ?_, ?_⟩
  · refine (θ_run Cert.Kernel8Ideal.defs _ _).mono ?_
      (θ_run_and (Cert.Kernel8Ideal.Gen.run_main (F := Ideal) m ρ) (Cert.Kernel8Ideal.Gen.unchanged (F := Ideal) m ρ))
    intro r h c
    refine ⟨?_, ?_, ?_, ?_, ?_, ?_, ?_, ?_, ?_, ?_, ?_, ?_, ?_, ?_, ?_, ?_, ?_, ?_, h.2 c⟩
    · exact ((h.1 c).2 Cert.Kernel8Ideal.main_v43 (Pipeline.mem_restRefs_of _ (by decide) (by decide))).trans (Cert.Kernel8Ideal.Hand.eq23 m c)
    · exact ((h.1 c).2 Cert.Kernel8Ideal.main_v46 (Pipeline.mem_restRefs_of _ (by decide) (by decide))).trans (Cert.Kernel8Ideal.Hand.eq4 m c)
    · exact ((h.1 c).2 Cert.Kernel8Ideal.main_v49 (Pipeline.mem_restRefs_of _ (by decide) (by decide))).trans (Cert.Kernel8Ideal.Hand.eq10 m c)
    · exact ((h.1 c).2 Cert.Kernel8Ideal.main_v52 (Pipeline.mem_restRefs_of _ (by decide) (by decide))).trans (Cert.Kernel8Ideal.Hand.eq47 m c)
    · exact ((h.1 c).2 Cert.Kernel8Ideal.main_v55 (Pipeline.mem_restRefs_of _ (by decide) (by decide))).trans (Cert.Kernel8Ideal.Hand.eq28 m c)
    · exact ((h.1 c).2 Cert.Kernel8Ideal.main_v58 (Pipeline.mem_restRefs_of _ (by decide) (by decide))).trans (Cert.Kernel8Ideal.Hand.eq34 m c)
    · exact ((h.1 c).2 Cert.Kernel8Ideal.main_v61 (Pipeline.mem_restRefs_of _ (by decide) (by decide))).trans (Cert.Kernel8Ideal.Hand.eq71 m c)
    · exact ((h.1 c).2 Cert.Kernel8Ideal.main_v64 (Pipeline.mem_restRefs_of _ (by decide) (by decide))).trans (Cert.Kernel8Ideal.Hand.eq52 m c)
    · exact ((h.1 c).2 Cert.Kernel8Ideal.main_v67 (Pipeline.mem_restRefs_of _ (by decide) (by decide))).trans (Cert.Kernel8Ideal.Hand.eq58 m c)
    · exact ((h.1 c).2 Cert.Kernel8Ideal.main_v70 (Pipeline.mem_restRefs_of _ (by decide) (by decide))).trans (Cert.Kernel8Ideal.Hand.eq95 m c)
    · exact ((h.1 c).2 Cert.Kernel8Ideal.main_v73 (Pipeline.mem_restRefs_of _ (by decide) (by decide))).trans (Cert.Kernel8Ideal.Hand.eq76 m c)
    · exact ((h.1 c).2 Cert.Kernel8Ideal.main_v76 (Pipeline.mem_restRefs_of _ (by decide) (by decide))).trans (Cert.Kernel8Ideal.Hand.eq82 m c)
    · exact ((h.1 c).2 Cert.Kernel8Ideal.main_v79 (Pipeline.mem_restRefs_of _ (by decide) (by decide))).trans (Cert.Kernel8Ideal.Hand.eq119 m c)
    · exact ((h.1 c).2 Cert.Kernel8Ideal.main_v82 (Pipeline.mem_restRefs_of _ (by decide) (by decide))).trans (Cert.Kernel8Ideal.Hand.eq100 m c)
    · exact ((h.1 c).2 Cert.Kernel8Ideal.main_v85 (Pipeline.mem_restRefs_of _ (by decide) (by decide))).trans (Cert.Kernel8Ideal.Hand.eq106 m c)
    · exact ((h.1 c).2 Cert.Kernel8Ideal.main_v88 (Pipeline.mem_restRefs_of _ (by decide) (by decide))).trans (Cert.Kernel8Ideal.Hand.eq143 m c)
    · exact ((h.1 c).2 Cert.Kernel8Ideal.main_v91 (Pipeline.mem_restRefs_of _ (by decide) (by decide))).trans (Cert.Kernel8Ideal.Hand.eq124 m c)
    · exact ((h.1 c).2 Cert.Kernel8Ideal.main_v94 (Pipeline.mem_restRefs_of _ (by decide) (by decide))).trans (Cert.Kernel8Ideal.Hand.eq130 m c)
  · refine (θ_run Cert.Reference8Ideal.defs _ _).mono ?_ (Cert.Reference8Ideal.Value.run (F := Ideal) m' ρ')
    intro r h c
    obtain ⟨h0, h1, h2, h3, h4, h5, h6, h7, h8, h9, h10, h11, h12, h13, h14, h15, h16, h17, hk⟩ := h c
    obtain ⟨g0, g1, g2, g3, g4, g5, g6, g7, g8, g9, g10, g11, g12, g13, g14, g15, g16, g17, g18, g19, g20, g21, g22, g23⟩ := hargs c
    refine ⟨?_, ?_, ?_, ?_, ?_, ?_, ?_, ?_, ?_, ?_, ?_, ?_, ?_, ?_, ?_, ?_, ?_, ?_, hk⟩
    · refine (h0.trans (Cert.Reference8Ideal.Read.val_main_v23_eq (fun b => m' (c, b)))).trans ?_
      show Cert.Reference8Ideal.Read.val_main_v23 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) = _
      rw [g0, g1, g2, g3]
    · refine (h1.trans (Cert.Reference8Ideal.Read.val_main_v4_eq (fun b => m' (c, b)))).trans ?_
      show Cert.Reference8Ideal.Read.val_main_v4 (F := Ideal) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) = _
      rw [g1, g2]
    · refine (h2.trans (Cert.Reference8Ideal.Read.val_main_v10_eq (fun b => m' (c, b)))).trans ?_
      show Cert.Reference8Ideal.Read.val_main_v10 (F := Ideal) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg3)) = _
      rw [g1, g3]
    · refine (h3.trans (Cert.Reference8Ideal.Read.val_main_v47_eq (fun b => m' (c, b)))).trans ?_
      show Cert.Reference8Ideal.Read.val_main_v47 (F := Ideal) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6)) (m' ((c.tc : Thread Cert.Reference8Ideal.nD Cert.Reference8Ideal.τ).loc Cert.Reference8Ideal.main_arg7)) = _
      rw [g4, g5, g6, g7]
    · refine (h4.trans (Cert.Reference8Ideal.Read.val_main_v28_eq (fun b => m' (c, b)))).trans ?_
      show Cert.Reference8Ideal.Read.val_main_v28 (F := Ideal) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6)) = _
      rw [g5, g6]
    · refine (h5.trans (Cert.Reference8Ideal.Read.val_main_v34_eq (fun b => m' (c, b)))).trans ?_
      show Cert.Reference8Ideal.Read.val_main_v34 (F := Ideal) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg7)) = _
      rw [g5, g7]
    · refine (h6.trans (Cert.Reference8Ideal.Read.val_main_v71_eq (fun b => m' (c, b)))).trans ?_
      show Cert.Reference8Ideal.Read.val_main_v71 (F := Ideal) (m' ((c.tc : Thread Cert.Reference8Ideal.nD Cert.Reference8Ideal.τ).loc Cert.Reference8Ideal.main_arg8)) (m' ((c.tc : Thread Cert.Reference8Ideal.nD Cert.Reference8Ideal.τ).loc Cert.Reference8Ideal.main_arg9)) (m' ((c.tc : Thread Cert.Reference8Ideal.nD Cert.Reference8Ideal.τ).loc Cert.Reference8Ideal.main_arg10)) (m' ((c.tc : Thread Cert.Reference8Ideal.nD Cert.Reference8Ideal.τ).loc Cert.Reference8Ideal.main_arg11)) = _
      rw [g8, g9, g10, g11]
    · refine (h7.trans (Cert.Reference8Ideal.Read.val_main_v52_eq (fun b => m' (c, b)))).trans ?_
      show Cert.Reference8Ideal.Read.val_main_v52 (F := Ideal) (m' ((c.tc : Thread Cert.Reference8Ideal.nD Cert.Reference8Ideal.τ).loc Cert.Reference8Ideal.main_arg9)) (m' ((c.tc : Thread Cert.Reference8Ideal.nD Cert.Reference8Ideal.τ).loc Cert.Reference8Ideal.main_arg10)) = _
      rw [g9, g10]
    · refine (h8.trans (Cert.Reference8Ideal.Read.val_main_v58_eq (fun b => m' (c, b)))).trans ?_
      show Cert.Reference8Ideal.Read.val_main_v58 (F := Ideal) (m' ((c.tc : Thread Cert.Reference8Ideal.nD Cert.Reference8Ideal.τ).loc Cert.Reference8Ideal.main_arg9)) (m' ((c.tc : Thread Cert.Reference8Ideal.nD Cert.Reference8Ideal.τ).loc Cert.Reference8Ideal.main_arg11)) = _
      rw [g9, g11]
    · refine (h9.trans (Cert.Reference8Ideal.Read.val_main_v95_eq (fun b => m' (c, b)))).trans ?_
      show Cert.Reference8Ideal.Read.val_main_v95 (F := Ideal) (m' ((c.tc : Thread Cert.Reference8Ideal.nD Cert.Reference8Ideal.τ).loc Cert.Reference8Ideal.main_arg12)) (m' ((c.tc : Thread Cert.Reference8Ideal.nD Cert.Reference8Ideal.τ).loc Cert.Reference8Ideal.main_arg13)) (m' ((c.tc : Thread Cert.Reference8Ideal.nD Cert.Reference8Ideal.τ).loc Cert.Reference8Ideal.main_arg14)) (m' ((c.tc : Thread Cert.Reference8Ideal.nD Cert.Reference8Ideal.τ).loc Cert.Reference8Ideal.main_arg15)) = _
      rw [g12, g13, g14, g15]
    · refine (h10.trans (Cert.Reference8Ideal.Read.val_main_v76_eq (fun b => m' (c, b)))).trans ?_
      show Cert.Reference8Ideal.Read.val_main_v76 (F := Ideal) (m' ((c.tc : Thread Cert.Reference8Ideal.nD Cert.Reference8Ideal.τ).loc Cert.Reference8Ideal.main_arg13)) (m' ((c.tc : Thread Cert.Reference8Ideal.nD Cert.Reference8Ideal.τ).loc Cert.Reference8Ideal.main_arg14)) = _
      rw [g13, g14]
    · refine (h11.trans (Cert.Reference8Ideal.Read.val_main_v82_eq (fun b => m' (c, b)))).trans ?_
      show Cert.Reference8Ideal.Read.val_main_v82 (F := Ideal) (m' ((c.tc : Thread Cert.Reference8Ideal.nD Cert.Reference8Ideal.τ).loc Cert.Reference8Ideal.main_arg13)) (m' ((c.tc : Thread Cert.Reference8Ideal.nD Cert.Reference8Ideal.τ).loc Cert.Reference8Ideal.main_arg15)) = _
      rw [g13, g15]
    · refine (h12.trans (Cert.Reference8Ideal.Read.val_main_v119_eq (fun b => m' (c, b)))).trans ?_
      show Cert.Reference8Ideal.Read.val_main_v119 (F := Ideal) (m' ((c.tc : Thread Cert.Reference8Ideal.nD Cert.Reference8Ideal.τ).loc Cert.Reference8Ideal.main_arg16)) (m' ((c.tc : Thread Cert.Reference8Ideal.nD Cert.Reference8Ideal.τ).loc Cert.Reference8Ideal.main_arg17)) (m' ((c.tc : Thread Cert.Reference8Ideal.nD Cert.Reference8Ideal.τ).loc Cert.Reference8Ideal.main_arg18)) (m' ((c.tc : Thread Cert.Reference8Ideal.nD Cert.Reference8Ideal.τ).loc Cert.Reference8Ideal.main_arg19)) = _
      rw [g16, g17, g18, g19]
    · refine (h13.trans (Cert.Reference8Ideal.Read.val_main_v100_eq (fun b => m' (c, b)))).trans ?_
      show Cert.Reference8Ideal.Read.val_main_v100 (F := Ideal) (m' ((c.tc : Thread Cert.Reference8Ideal.nD Cert.Reference8Ideal.τ).loc Cert.Reference8Ideal.main_arg17)) (m' ((c.tc : Thread Cert.Reference8Ideal.nD Cert.Reference8Ideal.τ).loc Cert.Reference8Ideal.main_arg18)) = _
      rw [g17, g18]
    · refine (h14.trans (Cert.Reference8Ideal.Read.val_main_v106_eq (fun b => m' (c, b)))).trans ?_
      show Cert.Reference8Ideal.Read.val_main_v106 (F := Ideal) (m' ((c.tc : Thread Cert.Reference8Ideal.nD Cert.Reference8Ideal.τ).loc Cert.Reference8Ideal.main_arg17)) (m' ((c.tc : Thread Cert.Reference8Ideal.nD Cert.Reference8Ideal.τ).loc Cert.Reference8Ideal.main_arg19)) = _
      rw [g17, g19]
    · refine (h15.trans (Cert.Reference8Ideal.Read.val_main_v143_eq (fun b => m' (c, b)))).trans ?_
      show Cert.Reference8Ideal.Read.val_main_v143 (F := Ideal) (m' ((c.tc : Thread Cert.Reference8Ideal.nD Cert.Reference8Ideal.τ).loc Cert.Reference8Ideal.main_arg20)) (m' ((c.tc : Thread Cert.Reference8Ideal.nD Cert.Reference8Ideal.τ).loc Cert.Reference8Ideal.main_arg21)) (m' ((c.tc : Thread Cert.Reference8Ideal.nD Cert.Reference8Ideal.τ).loc Cert.Reference8Ideal.main_arg22)) (m' ((c.tc : Thread Cert.Reference8Ideal.nD Cert.Reference8Ideal.τ).loc Cert.Reference8Ideal.main_arg23)) = _
      rw [g20, g21, g22, g23]
    · refine (h16.trans (Cert.Reference8Ideal.Read.val_main_v124_eq (fun b => m' (c, b)))).trans ?_
      show Cert.Reference8Ideal.Read.val_main_v124 (F := Ideal) (m' ((c.tc : Thread Cert.Reference8Ideal.nD Cert.Reference8Ideal.τ).loc Cert.Reference8Ideal.main_arg21)) (m' ((c.tc : Thread Cert.Reference8Ideal.nD Cert.Reference8Ideal.τ).loc Cert.Reference8Ideal.main_arg22)) = _
      rw [g21, g22]
    · refine (h17.trans (Cert.Reference8Ideal.Read.val_main_v130_eq (fun b => m' (c, b)))).trans ?_
      show Cert.Reference8Ideal.Read.val_main_v130 (F := Ideal) (m' ((c.tc : Thread Cert.Reference8Ideal.nD Cert.Reference8Ideal.τ).loc Cert.Reference8Ideal.main_arg21)) (m' ((c.tc : Thread Cert.Reference8Ideal.nD Cert.Reference8Ideal.τ).loc Cert.Reference8Ideal.main_arg23)) = _
      rw [g21, g23]

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Equation
public import proofs.«01_k».proof.Proof.FwdEquation
public import proofs.«01_k».proof.Proof.FfnEquation
public import proofs.«01_k».proof.Proof.LastEquation
public import proofs.«01_k».proof.Proof.AdaEquation
public import proofs.«01_k».proof.Proof.UpdEquation
public import proofs.«01_k».proof.Proof.PostEquation
public import proofs.«01_k».proof.Proof.SmallEquation
public import Idealize.ShloMosaic.Adequacy
public import Idealize.ShloMosaic.Init

/-! # The claims of this certificate, each with its proof -/

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  Cert.Hand.frame_reference, Cert.Hand.frame_reference_finite,
  fun m ρ _ => Cert.Kernel2.Gen.frame m ρ, fun m ρ _ => Cert.Kernel2Ideal.Gen.frame m ρ, fun m ρ _ => Cert.Kernel2Ideal.Gen.frame m ρ,
  Cert.Hand.frame_reference2, Cert.Hand.frame_reference2_finite2,
  fun m ρ _ => Cert.Kernel3.Gen.frame m ρ, fun m ρ _ => Cert.Kernel3Ideal.Gen.frame m ρ, fun m ρ _ => Cert.Kernel3Ideal.Gen.frame m ρ,
  Cert.Hand.frame_reference3, Cert.Hand.frame_reference3_finite3,
  fun m ρ _ => Cert.Kernel4.Gen.frame m ρ, fun m ρ _ => Cert.Kernel4Ideal.Gen.frame m ρ, Cert.Hand.frame_reference4,
  fun m ρ _ => Cert.Kernel5.Gen.frame m ρ, fun m ρ _ => Cert.Kernel5Ideal.Gen.frame m ρ, Cert.Hand.frame_reference5,
  fun m ρ _ => Cert.Kernel6.Gen.frame m ρ, fun m ρ _ => Cert.Kernel6Ideal.Gen.frame m ρ, Cert.Hand.frame_reference6,
  fun m ρ _ => Cert.Kernel7.Gen.frame m ρ, fun m ρ _ => Cert.Kernel7Ideal.Gen.frame m ρ, Cert.Hand.frame_reference7,
  fun m ρ _ => Cert.Kernel8.Gen.frame m ρ, fun m ρ _ => Cert.Kernel8Ideal.Gen.frame m ρ, Cert.Hand.frame_reference8,
  trivial, Cert.Hand.algebraic_attention, trivial, Cert.Hand.algebraic_ffn, trivial, Cert.Hand.algebraic_attention_forward,
  trivial, Cert.Hand.algebraic_last, trivial, Cert.Hand.algebraic_ada, trivial, Cert.Hand.algebraic_update,
  trivial, Cert.Hand.algebraic_post, trivial, Cert.Hand.algebraic_small⟩

end Cert.Proof

end
